-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_v66) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_v71) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_v113) = v1 c
          ∧ r.2.mem ((c.tc : Thread Cert.Reference4Ideal.nD Cert.Reference4Ideal.τ).loc Cert.Reference4Ideal.main_v114) = v2 c
          ∧ r.2.mem ((c.tc : Thread Cert.Reference4Ideal.nD Cert.Reference4Ideal.τ).loc Cert.Reference4Ideal.main_v115) = v3 c
          ∧ r.2.mem ((c.tc : Thread Cert.Reference4Ideal.nD Cert.Reference4Ideal.τ).loc Cert.Reference4Ideal.main_v116) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v85) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v53) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v16)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v31) = v2 c
          ∧ r.2.mem ((c.tc : Thread Cert.Reference11Ideal.nD Cert.Reference11Ideal.τ).loc Cert.Reference11Ideal.main_v32) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v16_0)) (v1 : (c : Dev Cert.Kernel12Ideal.nD) → Buf (Elt Ideal) ((c.tc : Thread Cert.Kernel12Ideal.nD Cert.Kernel12Ideal.τ).loc Cert.Kernel12Ideal.main_v16_1)) (v2 : (c : Dev Cert.Kernel12Ideal.nD) → Buf (Elt Ideal) ((c.tc : Thread Cert.Kernel12Ideal.nD Cert.Kernel12Ideal.τ).loc Cert.Kernel12Ideal.main_v16_2)) (v3 : (c : Dev Cert.Kernel12Ideal.nD) → Buf (Elt Ideal) ((c.tc : Thread Cert.Kernel12Ideal.nD Cert.Kernel12Ideal.τ).loc Cert.Kernel12Ideal.main_v16_3)) (v4 : (c : Dev Cert.Kernel12Ideal.nD) → Buf (Elt Ideal) ((c.tc : Thread Cert.Kernel12Ideal.nD Cert.Kernel12Ideal.τ).loc Cert.Kernel12Ideal.main_v16_4)) (v5 : (c : Dev Cert.Kernel12Ideal.nD) → Buf (Elt Ideal) ((c.tc : Thread Cert.Kernel12Ideal.nD Cert.Kernel12Ideal.τ).loc Cert.Kernel12Ideal.main_v16_5)) (v6 : (c : Dev Cert.Kernel12Ideal.nD) → Buf (Elt Ideal) ((c.tc : Thread Cert.Kernel12Ideal.nD Cert.Kernel12Ideal.τ).loc Cert.Kernel12Ideal.main_v16_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16_0) = v0 c
          ∧ r.2.mem ((c.tc : Thread Cert.Kernel12Ideal.nD Cert.Kernel12Ideal.τ).loc Cert.Kernel12Ideal.main_v16_1) = v1 c
          ∧ r.2.mem ((c.tc : Thread Cert.Kernel12Ideal.nD Cert.Kernel12Ideal.τ).loc Cert.Kernel12Ideal.main_v16_2) = v2 c
          ∧ r.2.mem ((c.tc : Thread Cert.Kernel12Ideal.nD Cert.Kernel12Ideal.τ).loc Cert.Kernel12Ideal.main_v16_3) = v3 c
          ∧ r.2.mem ((c.tc : Thread Cert.Kernel12Ideal.nD Cert.Kernel12Ideal.τ).loc Cert.Kernel12Ideal.main_v16_4) = v4 c
          ∧ r.2.mem ((c.tc : Thread Cert.Kernel12Ideal.nD Cert.Kernel12Ideal.τ).loc Cert.Kernel12Ideal.main_v16_5) = v5 c
          ∧ r.2.mem ((c.tc : Thread Cert.Kernel12Ideal.nD Cert.Kernel12Ideal.τ).loc Cert.Kernel12Ideal.main_v16_6) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v59) = v0 c
          ∧ r.2.mem ((c.tc : Thread Cert.Reference12Ideal.nD Cert.Reference12Ideal.τ).loc Cert.Reference12Ideal.main_v60) = v1 c
          ∧ r.2.mem ((c.tc : Thread Cert.Reference12Ideal.nD Cert.Reference12Ideal.τ).loc Cert.Reference12Ideal.main_v62) = v2 c
          ∧ r.2.mem ((c.tc : Thread Cert.Reference12Ideal.nD Cert.Reference12Ideal.τ).loc Cert.Reference12Ideal.main_v63) = v3 c
          ∧ r.2.mem ((c.tc : Thread Cert.Reference12Ideal.nD Cert.Reference12Ideal.τ).loc Cert.Reference12Ideal.main_v64) = v4 c
          ∧ r.2.mem ((c.tc : Thread Cert.Reference12Ideal.nD Cert.Reference12Ideal.τ).loc Cert.Reference12Ideal.main_v65) = v5 c
          ∧ r.2.mem ((c.tc : Thread Cert.Reference12Ideal.nD Cert.Reference12Ideal.τ).loc Cert.Reference12Ideal.main_v66) = v6 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v46) = v0 c
          ∧ r.2.mem ((c.tc : Thread Cert.Reference13Ideal.nD Cert.Reference13Ideal.τ).loc Cert.Reference13Ideal.main_v47) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def preserves_Kernel15_Kernel15Ideal : Prop :=
  True

def preserves_Kernel16_Kernel16Ideal : Prop :=
  True

def preserves_Kernel17_Kernel17Ideal : Prop :=
  True

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v19) = v0 c
          ∧ r.2.mem ((c.tc : Thread Cert.Reference18Ideal.nD Cert.Reference18Ideal.τ).loc Cert.Reference18Ideal.main_v21) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v16)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v16) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v33) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v19) = v0 c
          ∧ r.2.mem ((c.tc : Thread Cert.Reference20Ideal.nD Cert.Reference20Ideal.τ).loc Cert.Reference20Ideal.main_v21) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hKernel15 : Cert.Kernel15.Facts) (hKernel15Ideal : Cert.Kernel15Ideal.Facts) (hKernel16 : Cert.Kernel16.Facts) (hKernel16Ideal : Cert.Kernel16Ideal.Facts) (hKernel17 : Cert.Kernel17.Facts) (hKernel17Ideal : Cert.Kernel17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite2 : Cert.Pre_finite2.Facts) (hPre_finite3 : Cert.Pre_finite3.Facts) (hPre_finite4 : Cert.Pre_finite4.Facts) (hPre_finite5 : Cert.Pre_finite5.Facts) (hPre_finite9 : Cert.Pre_finite9.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel15 (hKernel15 := hKernel15)
    ∧ quiescent_Kernel15Ideal (hKernel15Ideal := hKernel15Ideal)
    ∧ quiescent_Kernel16 (hKernel16 := hKernel16)
    ∧ quiescent_Kernel16Ideal (hKernel16Ideal := hKernel16Ideal)
    ∧ quiescent_Kernel17 (hKernel17 := hKernel17)
    ∧ quiescent_Kernel17Ideal (hKernel17Ideal := hKernel17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ preserves_Kernel15_Kernel15Ideal
    ∧ preserves_Kernel16_Kernel16Ideal
    ∧ preserves_Kernel17_Kernel17Ideal
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite13.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x8192x5632 : Shape := ⟨3, ![1, 8192, 5632]⟩
abbrev S_ : Shape := ⟨0, ![]⟩

class Facts : Prop where
  bcast_S_S1x8192x1024 : S_.BroadcastsInDim S1x8192x1024 (![] : Fin 0 → Fin S1x8192x1024.rank)
  bcast_S_S2x1024 : S_.BroadcastsInDim S2x1024 (![] : Fin 0 → Fin S2x1024.rank)
  bcast_S_S2x1024x5632 : S_.BroadcastsInDim S2x1024x5632 (![] : Fin 0 → Fin S2x1024x5632.rank)
  bcast_S_S1x8192x5632 : S_.BroadcastsInDim S1x8192x5632 (![] : Fin 0 → Fin S1x8192x5632.rank)

variable [Facts]

def fn {F : FTy → Type} [FloatOps F] (main_arg0 : FVec F S1x8192x1024 .f32) (main_arg1 : FVec F S2x1024 .f32) (main_arg2 : FVec F S2x1024x5632 .f32) (main_arg3 : FVec F S1x8192x1024 .f32) (main_arg4 : FVec F S1x8192x5632 .f32) : IVec S1x8192x1024 1 × IVec S2x1024 1 × IVec S2x1024x5632 1 × IVec S1x8192x5632 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x5632 .f32 := Host.absf main_arg2
  let main_cst_1 : FVec F S_ .f32 := constant S_ .f32 0x7F800000#32
  let main_v7 : FVec F S2x1024x5632 .f32 := broadcastInDim S2x1024x5632 ![] bcast_S_S2x1024x5632 main_cst_1
  let main_v8 : IVec S2x1024x5632 1 := cmpf .olt main_v6 main_v7
  let main_v9 : FVec F S1x8192x5632 .f32 := Host.absf main_arg4
  let main_cst_2 : FVec F S_ .f32 := constant S_ .f32 0x7F800000#32
  let main_v10 : FVec F S1x8192x5632 .f32 := broadcastInDim S1x8192x5632 ![] bcast_S_S1x8192x5632 main_cst_2
  let main_v11 : IVec S1x8192x5632 1 := cmpf .olt main_v9 main_v10
  (main_v2, main_v5, main_v8, main_v11)
-- ==== Pre_finite2.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x8192x5632 : Shape := ⟨3, ![1, 8192, 5632]⟩
abbrev S_ : Shape := ⟨0, ![]⟩

class Facts : Prop where
  bcast_S_S1x8192x1024 : S_.BroadcastsInDim S1x8192x1024 (![] : Fin 0 → Fin S1x8192x1024.rank)
  bcast_S_S2x1024 : S_.BroadcastsInDim S2x1024 (![] : Fin 0 → Fin S2x1024.rank)
  bcast_S_S2x1024x5632 : S_.BroadcastsInDim S2x1024x5632 (![] : Fin 0 → Fin S2x1024x5632.rank)
  bcast_S_S1x8192x5632 : S_.BroadcastsInDim S1x8192x5632 (![] : Fin 0 → Fin S1x8192x5632.rank)

variable [Facts]

def fn {F : FTy → Type} [FloatOps F] (main_arg0 : FVec F S1x8192x1024 .f32) (main_arg1 : FVec F S2x1024 .f32) (main_arg2 : FVec F S2x1024x5632 .f32) (main_arg3 : FVec F S1x8192x1024 .f32) (main_arg4 : FVec F S1x8192x5632 .f32) : IVec S1x8192x1024 1 × IVec S2x1024 1 × IVec S2x1024x5632 1 × IVec S1x8192x5632 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x5632 .f32 := Host.absf main_arg2
  let main_cst_1 : FVec F S_ .f32 := constant S_ .f32 0x7F800000#32
  let main_v7 : FVec F S2x1024x5632 .f32 := broadcastInDim S2x1024x5632 ![] bcast_S_S2x1024x5632 main_cst_1
  let main_v8 : IVec S2x1024x5632 1 := cmpf .olt main_v6 main_v7
  let main_v9 : FVec F S1x8192x5632 .f32 := Host.absf main_arg4
  let main_cst_2 : FVec F S_ .f32 := constant S_ .f32 0x7F800000#32
  let main_v10 : FVec F S1x8192x5632 .f32 := broadcastInDim S1x8192x5632 ![] bcast_S_S1x8192x5632 main_cst_2
  let main_v11 : IVec S1x8192x5632 1 := cmpf .olt main_v9 main_v10
  (main_v2, main_v5, main_v8, main_v11)
-- ==== Pre_finite3.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x256x1024 : Shape := ⟨3, ![2, 256, 1024]⟩
abbrev S2x1024x1024 : Shape := ⟨3, ![2, 1024, 1024]⟩
abbrev S_ : Shape := ⟨0, ![]⟩

class Facts : Prop where
  bcast_S_S1x8192x1024 : S_.BroadcastsInDim S1x8192x1024 (![] : Fin 0 → Fin S1x8192x1024.rank)
  bcast_S_S2x1x8192x256 : S_.BroadcastsInDim S2x1x8192x256 (![] : Fin 0 → Fin S2x1x8192x256.rank)
  bcast_S_S2x1024 : S_.BroadcastsInDim S2x1024 (![] : Fin 0 → Fin S2x1024.rank)
  bcast_S_S2x256x1024 : S_.BroadcastsInDim S2x256x1024 (![] : Fin 0 → Fin S2x256x1024.rank)
  bcast_S_S2x1024x1024 : S_.BroadcastsInDim S2x1024x1024 (![] : Fin 0 → Fin S2x1024x1024.rank)

variable [Facts]

def fn {F : FTy → Type} [FloatOps F] (main_arg0 : FVec F S1x8192x1024 .f32) (main_arg1 : FVec F S2x1x8192x256 .f32) (main_arg2 : FVec F S2x1024 .f32) (main_arg3 : FVec F S2x256x1024 .f32) (main_arg4 : FVec F S2x1024x1024 .f32) (main_arg5 : FVec F S1x8192x1024 .f32) : IVec S1x8192x1024 1 × IVec S2x1x8192x256 1 × IVec S2x1024 1 × IVec S2x256x1024 1 × IVec S2x1024x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S2x1x8192x256 .f32 := Host.absf main_arg1
  let main_cst_0 : FVec F S_ .f32 := constant S_ .f32 0x7F800000#32
  let main_v4 : FVec F S2x1x8192x256 .f32 := broadcastInDim S2x1x8192x256 ![] bcast_S_S2x1x8192x256 main_cst_0
  let main_v5 : IVec S2x1x8192x256 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x256x1024 .f32 := Host.absf main_arg3
  let main_cst_2 : FVec F S_ .f32 := constant S_ .f32 0x7F800000#32
  let main_v10 : FVec F S2x256x1024 .f32 := broadcastInDim S2x256x1024 ![] bcast_S_S2x256x1024 main_cst_2
  let main_v11 : IVec S2x256x1024 1 := cmpf .olt main_v9 main_v10
  let main_v12 : FVec F S2x1024x1024 .f32 := Host.absf main_arg4
  let main_cst_3 : FVec F S_ .f32 := constant S_ .f32 0x7F800000#32
  let main_v13 : FVec F S2x1024x1024 .f32 := broadcastInDim S2x1024x1024 ![] bcast_S_S2x1024x1024 main_cst_3
  let main_v14 : IVec S2x1024x1024 1 := cmpf .olt main_v12 main_v13
  let main_v15 : FVec F S1x8192x1024 .f32 := Host.absf main_arg5
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_finite4.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x1024x4608 : Shape := ⟨3, ![2, 1024, 4608]⟩
abbrev S2x256x1024 : Shape := ⟨3, ![2, 256, 1024]⟩
abbrev S2x1024x1024 : Shape := ⟨3, ![2, 1024, 1024]⟩
abbrev S1x8192x4608 : Shape := ⟨3, ![1, 8192, 4608]⟩
abbrev S_ : Shape := ⟨0, ![]⟩

class Facts : Prop where
  bcast_S_S1x8192x1024 : S_.BroadcastsInDim S1x8192x1024 (![] : Fin 0 → Fin S1x8192x1024.rank)
  bcast_S_S2x1x8192x256 : S_.BroadcastsInDim S2x1x8192x256 (![] : Fin 0 → Fin S2x1x8192x256.rank)
  bcast_S_S2x1024 : S_.BroadcastsInDim S2x1024 (![] : Fin 0 → Fin S2x1024.rank)
  bcast_S_S2x1024x4608 : S_.BroadcastsInDim S2x1024x4608 (![] : Fin 0 → Fin S2x1024x4608.rank)
  bcast_S_S2x256x1024 : S_.BroadcastsInDim S2x256x1024 (![] : Fin 0 → Fin S2x256x1024.rank)
  bcast_S_S2x1024x1024 : S_.BroadcastsInDim S2x1024x1024 (![] : Fin 0 → Fin S2x1024x1024.rank)
  bcast_S_S1x8192x4608 : S_.BroadcastsInDim S1x8192x4608 (![] : Fin 0 → Fin S1x8192x4608.rank)

variable [Facts]

def fn_part1 {F : FTy → Type} [FloatOps F] (main_arg6 : FVec F S2x1024x1024 .f32) (main_arg7 : FVec F S1x8192x1024 .f32) (main_arg8 : FVec F S1x8192x4608 .f32) (main_v2 : IVec S1x8192x1024 1) (main_v5 : IVec S2x1x8192x256 1) (main_v8 : IVec S2x1024 1) (main_v11 : IVec S2x1024x4608 1) (main_v14 : IVec S2x1024 1) (main_v17 : IVec S2x256x1024 1) : IVec S1x8192x1024 1 × IVec S2x1x8192x256 1 × IVec S2x1024 1 × IVec S2x1024x4608 1 × IVec S2x1024 1 × IVec S2x256x1024 1 × IVec S2x1024x1024 1 × IVec S1x8192x1024 1 × IVec S1x8192x4608 1 :=
  let main_v18 : FVec F S2x1024x1024 .f32 := Host.absf main_arg6
  let main_cst_5 : FVec F S_ .f32 := constant S_ .f32 0x7F800000#32
  let main_v19 : FVec F S2x1024x1024 .f32 := broadcastInDim S2x1024x1024 ![] bcast_S_S2x1024x1024 main_cst_5
  let main_v20 : IVec S2x1024x1024 1 := cmpf .olt main_v18 main_v19
  let main_v21 : FVec F S1x8192x1024 .f32 := Host.absf main_arg7
  let main_cst_6 : FVec F S_ .f32 := constant S_ .f32 0x7F800000#32
  let main_v22 : FVec F S1x8192x1024 .f32 := broadcastInDim S1x8192x1024 ![] bcast_S_S1x8192x1024 main_cst_6
  let main_v23 : IVec S1x8192x1024 1 := cmpf .olt main_v21 main_v22
  let main_v24 : FVec F S1x8192x4608 .f32 := Host.absf main_arg8
  let main_cst_7 : FVec F S_ .f32 := constant S_ .f32 0x7F800000#32
  let main_v25 : FVec F S1x8192x4608 .f32 := broadcastInDim S1x8192x4608 ![] bcast_S_S1x8192x4608 main_cst_7
  let main_v26 : IVec S1x8192x4608 1 := cmpf .olt main_v24 main_v25
  (main_v2, main_v5, main_v8, main_v11, main_v14, main_v17, main_v20, main_v23, main_v26)

def fn {F : FTy → Type} [FloatOps F] (main_arg0 : FVec F S1x8192x1024 .f32) (main_arg1 : FVec F S2x1x8192x256 .f32) (main_arg2 : FVec F S2x1024 .f32) (main_arg3 : FVec F S2x1024x4608 .f32) (main_arg4 : FVec F S2x1024 .f32) (main_arg5 : FVec F S2x256x1024 .f32) (main_arg6 : FVec F S2x1024x1024 .f32) (main_arg7 : FVec F S1x8192x1024 .f32) (main_arg8 : FVec F S1x8192x4608 .f32) : IVec S1x8192x1024 1 × IVec S2x1x8192x256 1 × IVec S2x1024 1 × IVec S2x1024x4608 1 × IVec S2x1024 1 × IVec S2x256x1024 1 × IVec S2x1024x1024 1 × IVec S1x8192x1024 1 × IVec S1x8192x4608 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S2x1x8192x256 .f32 := Host.absf main_arg1
  let main_cst_0 : FVec F S_ .f32 := constant S_ .f32 0x7F800000#32
  let main_v4 : FVec F S2x1x8192x256 .f32 := broadcastInDim S2x1x8192x256 ![] bcast_S_S2x1x8192x256 main_cst_0
  let main_v5 : IVec S2x1x8192x256 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024x4608 .f32 := Host.absf main_arg3
  let main_cst_2 : FVec F S_ .f32 := constant S_ .f32 0x7F800000#32
  let main_v10 : FVec F S2x1024x4608 .f32 := broadcastInDim S2x1024x4608 ![] bcast_S_S2x1024x4608 main_cst_2
  let main_v11 : IVec S2x1024x4608 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S2x256x1024 .f32 := Host.absf main_arg5
  let main_cst_4 : FVec F S_ .f32 := constant S_ .f32 0x7F800000#32
  let main_v16 : FVec F S2x256x1024 .f32 := broadcastInDim S2x256x1024 ![] bcast_S_S2x256x1024 main_cst_4
  let main_v17 : IVec S2x256x1024 1 := cmpf .olt main_v15 main_v16
  fn_part1 (F := F) main_arg6 main_arg7 main_arg8 main_v2 main_v5 main_v8 main_v11 main_v14 main_v17
-- ==== Pre_finite5.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x256x1024 : Shape := ⟨3, ![2, 256, 1024]⟩
abbrev S2x1024x1024 : Shape := ⟨3, ![2, 1024, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S2x1x8192x256 : S_.BroadcastsInDim S2x1x8192x256 (![] : Fin 0 → Fin S2x1x8192x256.rank)
  bcast_S_S2x1024 : S_.BroadcastsInDim S2x1024 (![] : Fin 0 → Fin S2x1024.rank)
  bcast_S_S2x256x1024 : S_.BroadcastsInDim S2x256x1024 (![] : Fin 0 → Fin S2x256x1024.rank)
  bcast_S_S2x1024x1024 : S_.BroadcastsInDim S2x1024x1024 (![] : Fin 0 → Fin S2x1024x1024.rank)
  bcast_S_S1024 : S_.BroadcastsInDim S1024 (![] : Fin 0 → Fin S1024.rank)

variable [Facts]

def fn_part1 {F : FTy → Type} [FloatOps F] (main_arg6 : FVec F S1x8192x1024 .f32) (main_v2 : IVec S1x8192x1024 1) (main_v5 : IVec S2x1x8192x256 1) (main_v8 : IVec S2x1024 1) (main_v11 : IVec S2x256x1024 1) (main_v14 : IVec S2x1024x1024 1) (main_v17 : IVec S1024 1) : IVec S1x8192x1024 1 × IVec S2x1x8192x256 1 × IVec S2x1024 1 × IVec S2x256x1024 1 × IVec S2x1024x1024 1 × IVec S1024 1 × IVec S1x8192x1024 1 :=
  let main_v18 : FVec F S1x8192x1024 .f32 := Host.absf main_arg6
  let main_cst_5 : FVec F S_ .f32 := constant S_ .f32 0x7F800000#32
  let main_v19 : FVec F S1x8192x1024 .f32 := broadcastInDim S1x8192x1024 ![] bcast_S_S1x8192x1024 main_cst_5
  let main_v20 : IVec S1x8192x1024 1 := cmpf .olt main_v18 main_v19
  (main_v2, main_v5, main_v8, main_v11, main_v14, main_v17, main_v20)

def fn {F : FTy → Type} [FloatOps F] (main_arg0 : FVec F S1x8192x1024 .f32) (main_arg1 : FVec F S2x1x8192x256 .f32) (main_arg2 : FVec F S2x1024 .f32) (main_arg3 : FVec F S2x256x1024 .f32) (main_arg4 : FVec F S2x1024x1024 .f32) (main_arg5 : FVec F S1024 .f32) (main_arg6 : FVec F S1x8192x1024 .f32) : IVec S1x8192x1024 1 × IVec S2x1x8192x256 1 × IVec S2x1024 1 × IVec S2x256x1024 1 × IVec S2x1024x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S2x1x8192x256 .f32 := Host.absf main_arg1
  let main_cst_0 : FVec F S_ .f32 := constant S_ .f32 0x7F800000#32
  let main_v4 : FVec F S2x1x8192x256 .f32 := broadcastInDim S2x1x8192x256 ![] bcast_S_S2x1x8192x256 main_cst_0
  let main_v5 : IVec S2x1x8192x256 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x256x1024 .f32 := Host.absf main_arg3
  let main_cst_2 : FVec F S_ .f32 := constant S_ .f32 0x7F800000#32
  let main_v10 : FVec F S2x256x1024 .f32 := broadcastInDim S2x256x1024 ![] bcast_S_S2x256x1024 main_cst_2
  let main_v11 : IVec S2x256x1024 1 := cmpf .olt main_v9 main_v10
  let main_v12 : FVec F S2x1024x1024 .f32 := Host.absf main_arg4
  let main_cst_3 : FVec F S_ .f32 := constant S_ .f32 0x7F800000#32
  let main_v13 : FVec F S2x1024x1024 .f32 := broadcastInDim S2x1024x1024 ![] bcast_S_S2x1024x1024 main_cst_3
  let main_v14 : IVec S2x1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite9.lean ====
abbrev S1x8192x1024 : Shape := ⟨3, ![1, 8192, 1024]⟩
abbrev S2x1024 : Shape := ⟨2, ![2, 1024]⟩
abbrev S2x1024x4608 : Shape := ⟨3, ![2, 1024, 4608]⟩
abbrev S1x8192x4608 : Shape := ⟨3, ![1, 8192, 4608]⟩
abbrev S_ : Shape := ⟨0, ![]⟩

class Facts : Prop where
  bcast_S_S1x8192x1024 : S_.BroadcastsInDim S1x8192x1024 (![] : Fin 0 → Fin S1x8192x1024.rank)
  bcast_S_S2x1024 : S_.BroadcastsInDim S2x1024 (![] : Fin 0 → Fin S2x1024.rank)
  bcast_S_S2x1024x4608 : S_.BroadcastsInDim S2x1024x4608 (![] : Fin 0 → Fin S2x1024x4608.rank)
  bcast_S_S1x8192x4608 : S_.BroadcastsInDim S1x8192x4608 (![] : Fin 0 → Fin S1x8192x4608.rank)

variable [Facts]

def fn {F : FTy → Type} [FloatOps F] (main_arg0 : FVec F S1x8192x1024 .f32) (main_arg1 : FVec F S2x1024 .f32) (main_arg2 : FVec F S2x1024x4608 .f32) (main_arg3 : FVec F S1x8192x1024 .f32) (main_arg4 : FVec F S1x8192x4608 .f32) : IVec S1x8192x1024 1 × IVec S2x1024 1 × IVec S2x1024x4608 1 × IVec S1x8192x4608 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x4608 .f32 := Host.absf main_arg2
  let main_cst_1 : FVec F S_ .f32 := constant S_ .f32 0x7F800000#32
  let main_v7 : FVec F S2x1024x4608 .f32 := broadcastInDim S2x1024x4608 ![] bcast_S_S2x1024x4608 main_cst_1
  let main_v8 : IVec S2x1024x4608 1 := cmpf .olt main_v6 main_v7
  let main_v9 : FVec F S1x8192x4608 .f32 := Host.absf main_arg4
  let main_cst_2 : FVec F S_ .f32 := constant S_ .f32 0x7F800000#32
  let main_v10 : FVec F S1x8192x4608 .f32 := broadcastInDim S1x8192x4608 ![] bcast_S_S1x8192x4608 main_cst_2
  let main_v11 : IVec S1x8192x4608 1 := cmpf .olt main_v9 main_v10
  (main_v2, main_v5, main_v8, main_v11)
-- ==== Kernel.lean ====
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S1x8192x1024 : Shape := ⟨3, ![1, 8192, 1024]⟩
abbrev S8192x1024 : Shape := ⟨2, ![8192, 1024]⟩
abbrev S8192x4608 : Shape := ⟨2, ![8192, 4608]⟩
abbrev S8192x512 : Shape := ⟨2, ![8192, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x2048 : Shape := ⟨2, ![8192, 2048]⟩
abbrev S1x2048 : Shape := ⟨2, ![1, 2048]⟩
abbrev S512x4608 : Shape := ⟨2, ![512, 4608]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 31
  | .vmem => 25
  | .smem => 0
  | _ => 0

abbrev bufTy : (tb : Table) → Fin (tcTables nBuf tb) → BufTy
  | .hbm, ⟨0, _⟩ => ⟨S1x8192x4608, .f32⟩
  | .hbm, ⟨1, _⟩ => ⟨S2x2048, .f32⟩
  | .hbm, ⟨2, _⟩ => ⟨S1x8192x512, .f32⟩
  | .hbm, ⟨3, _⟩ => ⟨S1x8192x512, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S1x8192x1024, .f32⟩
  | .hbm, ⟨8, _⟩ => ⟨S8192x1024, .f32⟩
  | .hbm, ⟨9, _⟩ => ⟨S8192x4608, .f32⟩
  | .hbm, ⟨10, _⟩ => ⟨S8192x4608, .bf16⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1x512x1024, .f32⟩
  | .hbm, ⟨19, _⟩ => ⟨S512x1024, .f32⟩
  | .hbm, ⟨20, _⟩ => ⟨S512x1024, .bf16⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S8192x512, .f32⟩
  | .hbm, ⟨25, _⟩ => ⟨S8192x512, .f32⟩
  | .hbm, ⟨26, _⟩ => ⟨S8192x2048, .bf16⟩
  | .hbm, ⟨27, _⟩ => ⟨S1024x1024, .bf16⟩
  | .hbm, ⟨28, _⟩ => ⟨S512x1024, .bf16⟩
  | .hbm, ⟨29, _⟩ => ⟨S512x1024, .bf16⟩
  | .hbm, ⟨30, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x4608, .bf16⟩
  | .local _ .vmem, ⟨3, _⟩ => ⟨S512x4608, .bf16⟩
  | .local _ .vmem, ⟨4, _⟩ => ⟨S2x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | .local _ .vmem, ⟨17, _⟩ => ⟨S512x2048, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S1x2048, .f32⟩
  | .local _ .vmem, ⟨22, _⟩ => ⟨S1024x1024, .f32⟩
  | .local _ .vmem, ⟨23, _⟩ => ⟨S512x1024, .f32⟩
  | .local _ .vmem, ⟨24, _⟩ => ⟨S512x1024, .f32⟩
  | _, _ => ⟨S1x8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v99 : BitVec 1 := Scalar.cmpi .eq arg0 c15_i32
  let v100 : BitVec 32 := Scalar.extui v99
  let c0_i32_67 : BitVec 32 := 0#32
  let v101 : BitVec 1 := Scalar.cmpi .ne v100 c0_i32_67
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S1x8192x1024 : Shape := ⟨3, ![1, 8192, 1024]⟩
abbrev S1x8192x2048 : Shape := ⟨3, ![1, 8192, 2048]⟩
abbrev S1x2048 : Shape := ⟨2, ![1, 2048]⟩
abbrev S2048 : Shape := ⟨1, ![2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x2048 : Shape := ⟨3, ![1, 1, 2048]⟩
abbrev S_ : Shape := ⟨0, ![]⟩
abbrev S1024x512 : Shape := ⟨2, ![1024, 512]⟩
abbrev S8192x512 : Shape := ⟨2, ![8192, 512]⟩
abbrev S8192x2048 : Shape := ⟨2, ![8192, 2048]⟩

abbrev nBuf : Space → Nat
  | .hbm => 85
  | .vmem => 0
  | .smem => 0
  | _ => 0

abbrev bufTy : (tb : Table) → Fin (tcTables nBuf tb) → BufTy
  | .hbm, ⟨0, _⟩ => ⟨S1x8192x4608, .f32⟩
  | .hbm, ⟨1, _⟩ => ⟨S2x2048, .f32⟩
  | .hbm, ⟨2, _⟩ => ⟨S1x8192x512, .f32⟩
  | .hbm, ⟨3, _⟩ => ⟨S1x8192x512, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S1x8192x1024, .f32⟩
  | .hbm, ⟨8, _⟩ => ⟨S1x8192x2048, .f32⟩
  | .hbm, ⟨9, _⟩ => ⟨S1x2048, .f32⟩
  | .hbm, ⟨10, _⟩ => ⟨S2048, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x1024x1024, .f32⟩
  | .hbm, ⟨16, _⟩ => ⟨S1024x1024, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S_, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S_, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1x8192x1024, .f32⟩
  | .hbm, ⟨41, _⟩ => ⟨S1x8192x1024, .f32⟩
  | .hbm, ⟨42, _⟩ => ⟨S_, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1024x1024, .f32⟩
  | .hbm, ⟨53, _⟩ => ⟨S1024x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1024x512, .f32⟩
  | .hbm, ⟨60, _⟩ => ⟨S512x1024, .f32⟩
  | .hbm, ⟨61, _⟩ => ⟨S1x8192x512, .f32⟩
  | .hbm, ⟨62, _⟩ => ⟨S1024x512, .f32⟩
  | .hbm, ⟨63, _⟩ => ⟨S512x1024, .f32⟩
  | .hbm, ⟨64, _⟩ => ⟨S1x8192x512, .f32⟩
  | .hbm, ⟨65, _⟩ => ⟨S1x8192x1024, .f32⟩
  | .hbm, ⟨66, _⟩ => ⟨S_, .f32⟩
  | .hbm, ⟨67, _⟩ => ⟨S1x8192x2048, .f32⟩
  | .hbm, ⟨68, _⟩ => ⟨S1x8192x1024, .f32⟩
  | .hbm, ⟨69, _⟩ => ⟨S_, .f32⟩
  | .hbm, ⟨70, _⟩ => ⟨S1x8192x2048, .f32⟩
  | .hbm, ⟨71, _⟩ => ⟨S1x8192x2048, .f32⟩
  | .hbm, ⟨72, _⟩ => ⟨S_, .f32⟩
  | .hbm, ⟨73, _⟩ => ⟨S1x2048, .f32⟩
  | .hbm, ⟨74, _⟩ => ⟨S1x1x2048, .f32⟩
  | .hbm, ⟨75, _⟩ => ⟨S_, .f32⟩
  | .hbm, ⟨76, _⟩ => ⟨S2048, .f32⟩
  | .hbm, ⟨77, _⟩ => ⟨S8192x512, .f32⟩
  | .hbm, ⟨78, _⟩ => ⟨S8192x512, .f32⟩
  | .hbm, ⟨79, _⟩ => ⟨S8192x2048, .f32⟩
  | .hbm, ⟨80, _⟩ => ⟨S8192x2048, .bf16⟩
  | .hbm, ⟨81, _⟩ => ⟨S1024x1024, .bf16⟩
  | .hbm, ⟨82, _⟩ => ⟨S512x1024, .bf16⟩
  | .hbm, ⟨83, _⟩ => ⟨S512x1024, .bf16⟩
  | .hbm, ⟨84, _⟩ => ⟨S1x2048, .f32⟩
  | _, _ => ⟨S1x8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel2.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x8192x5632 : Shape := ⟨3, ![1, 8192, 5632]⟩
abbrev S2x5632x1024 : Shape := ⟨3, ![2, 5632, 1024]⟩
abbrev S1x5632x1024 : Shape := ⟨3, ![1, 5632, 1024]⟩
abbrev S5632x1024 : Shape := ⟨2, ![5632, 1024]⟩
abbrev S8192x5632 : Shape := ⟨2, ![8192, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S1x8192x1024, .f32⟩
  | .hbm, ⟨4, _⟩ => ⟨S1x8192x5632, .f32⟩
  | .hbm, ⟨5, _⟩ => ⟨S2x5632x1024, .f32⟩
  | .hbm, ⟨6, _⟩ => ⟨S2x5632x1024, .bf16⟩
  | .hbm, ⟨7, _⟩ => ⟨S1x5632x1024, .bf16⟩
  | .hbm, ⟨8, _⟩ => ⟨S5632x1024, .bf16⟩
  | .hbm, ⟨9, _⟩ => ⟨S8192x5632, .f32⟩
  | .hbm, ⟨10, _⟩ => ⟨S8192x5632, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S2x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x8192x5632 : Shape := ⟨3, ![1, 8192, 5632]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S5632x1024 : Shape := ⟨2, ![5632, 1024]⟩
abbrev S8192 : Shape := ⟨1, ![8192]⟩
abbrev S8192x1024 : Shape := ⟨2, ![8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S1x8192x1024, .f32⟩
  | .hbm, ⟨4, _⟩ => ⟨S1x8192x5632, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S1x8192x1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x8192x5632, .f32⟩
  | .hbm, ⟨30, _⟩ => ⟨S5632x1024, .f32⟩
  | .hbm, ⟨31, _⟩ => ⟨S1024x5632, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S8192x1024, .f32⟩
  | .hbm, ⟨61, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel3.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x256x1024 : Shape := ⟨3, ![2, 256, 1024]⟩
abbrev S2x1024x1024 : Shape := ⟨3, ![2, 1024, 1024]⟩
abbrev S8192x1024 : Shape := ⟨2, ![8192, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024 : Shape := ⟨2, ![1, 1024]⟩
abbrev S512x1024 : Shape := ⟨2, ![512, 1024]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩
abbrev S1024 : Shape := ⟨1, ![1024]⟩

abbrev nBuf : Space → Nat
  | .hbm => 18
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x256x1024, .f32⟩
  | .hbm, ⟨4, _⟩ => ⟨S2x1024x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x256x1024, .f32⟩
  | .hbm, ⟨12, _⟩ => ⟨S256x1024, .f32⟩
  | .hbm, ⟨13, _⟩ => ⟨S256x1024, .bf16⟩
  | .hbm, ⟨14, _⟩ => ⟨S8192x1024, .f32⟩
  | .hbm, ⟨15, _⟩ => ⟨S1024x1024, .bf16⟩
  | .hbm, ⟨16, _⟩ => ⟨S256x1024, .bf16⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S1024x1024, .bf16⟩
  | .local _ .vmem, ⟨6, _⟩ => ⟨S1x1x512x256, .f32⟩
  | .local _ .vmem, ⟨7, _⟩ => ⟨S1x1x512x256, .f32⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1024x1024, .f32⟩
  | .local _ .vmem, ⟨15, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v76 : BitVec 1 := Scalar.cmpi .eq arg0 c15_i32
  let v77 : BitVec 32 := Scalar.extui v76
  let c0_i32_42 : BitVec 32 := 0#32
  let v78 : BitVec 1 := Scalar.cmpi .ne v77 c0_i32_42
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x256x1024 : Shape := ⟨3, ![2, 256, 1024]⟩
abbrev S2x1024x1024 : Shape := ⟨3, ![2, 1024, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1x8192x256 : Shape := ⟨4, ![1, 1, 8192, 256]⟩
abbrev S1x8192x256 : Shape := ⟨3, ![1, 8192, 256]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x256 : Shape := ⟨2, ![1024, 256]⟩
abbrev S8192 : Shape := ⟨1, ![8192]⟩
abbrev S8192x1024 : Shape := ⟨2, ![8192, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x256x1024, .f32⟩
  | .hbm, ⟨4, _⟩ => ⟨S2x1024x1024, .f32⟩
  | .hbm, ⟨5, _⟩ => ⟨S1x8192x1024, .f32⟩
  | .hbm, ⟨6, _⟩ => ⟨S1x1024, .f32⟩
  | .hbm, ⟨7, _⟩ => ⟨S1024, .f32⟩
  | .hbm, ⟨8, _⟩ => ⟨S1x1024x1024, .f32⟩
  | .hbm, ⟨9, _⟩ => ⟨S1024x1024, .f32⟩
  | .hbm, ⟨10, _⟩ => ⟨S1x256x1024, .f32⟩
  | .hbm, ⟨11, _⟩ => ⟨S256x1024, .f32⟩
  | .hbm, ⟨12, _⟩ => ⟨S1x1x8192x256, .f32⟩
  | .hbm, ⟨13, _⟩ => ⟨S1x8192x256, .f32⟩
  | .hbm, ⟨14, _⟩ => ⟨S1x8192x1024, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1024, .f32⟩
  | .hbm, ⟨30, _⟩ => ⟨S1x8192x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S1x8192x1024, .f32⟩
  | .hbm, ⟨37, _⟩ => ⟨S_, .f32⟩
  | .hbm, ⟨38, _⟩ => ⟨S1x8192x1024, .f32⟩
  | .hbm, ⟨39, _⟩ => ⟨S1x8192x1024, .f32⟩
  | .hbm, ⟨40, _⟩ => ⟨S_, .f32⟩
  | .hbm, ⟨41, _⟩ => ⟨S1x8192x1024, .f32⟩
  | .hbm, ⟨42, _⟩ => ⟨S1x8192x1024, .f32⟩
  | .hbm, ⟨43, _⟩ => ⟨S_, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1024x256, .f32⟩
  | .hbm, ⟨54, _⟩ => ⟨S256x1024, .f32⟩
  | .hbm, ⟨55, _⟩ => ⟨S1x8192x1024, .f32⟩
  | .hbm, ⟨56, _⟩ => ⟨S1024x1024, .f32⟩
  | .hbm, ⟨57, _⟩ => ⟨S1024x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x8192x1024, .f32⟩
  | .hbm, ⟨64, _⟩ => ⟨S1x8192x1024, .f32⟩
  | .hbm, ⟨65, _⟩ => ⟨S_, .f32⟩
  | .hbm, ⟨66, _⟩ => ⟨S1024, .f32⟩
  | .hbm, ⟨67, _⟩ => ⟨S1x8192x1024, .f32⟩
  | .hbm, ⟨68, _⟩ => ⟨S_, .f32⟩
  | .hbm, ⟨69, _⟩ => ⟨S1x8192, .f32⟩
  | .hbm, ⟨70, _⟩ => ⟨S1x8192x1, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S8192x1024, .f32⟩
  | .hbm, ⟨87, _⟩ => ⟨S1024x1024, .bf16⟩
  | .hbm, ⟨88, _⟩ => ⟨S256x1024, .bf16⟩
  | .hbm, ⟨89, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Kernel4.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x1024x4608 : Shape := ⟨3, ![2, 1024, 4608]⟩
abbrev S2x256x1024 : Shape := ⟨3, ![2, 256, 1024]⟩
abbrev S2x1024x1024 : Shape := ⟨3, ![2, 1024, 1024]⟩
abbrev S1x8192x4608 : Shape := ⟨3, ![1, 8192, 4608]⟩
abbrev S2x4608x1024 : Shape := ⟨3, ![2, 4608, 1024]⟩
abbrev S1x4608x1024 : Shape := ⟨3, ![1, 4608, 1024]⟩
abbrev S4608x1024 : Shape := ⟨2, ![4608, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1x8192x256 : Shape := ⟨4, ![1, 1, 8192, 256]⟩
abbrev S1x8192x256 : Shape := ⟨3, ![1, 8192, 256]⟩
abbrev S1x256x1024 : Shape := ⟨3, ![1, 256, 1024]⟩
abbrev S256x1024 : Shape := ⟨2, ![256, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S8192x4608 : Shape := ⟨2, ![8192, 4608]⟩
abbrev S512x4608 : Shape := ⟨2, ![512, 4608]⟩
abbrev S512x1024 : Shape := ⟨2, ![512, 1024]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩

abbrev nBuf : Space → Nat
  | .hbm => 65
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x1024x4608, .f32⟩
  | .hbm, ⟨4, _⟩ => ⟨S2x1024, .f32⟩
  | .hbm, ⟨5, _⟩ => ⟨S2x256x1024, .f32⟩
  | .hbm, ⟨6, _⟩ => ⟨S2x1024x1024, .f32⟩
  | .hbm, ⟨7, _⟩ => ⟨S1x8192x1024, .f32⟩
  | .hbm, ⟨8, _⟩ => ⟨S1x8192x4608, .f32⟩
  | .hbm, ⟨9, _⟩ => ⟨S2x4608x1024, .f32⟩
  | .hbm, ⟨10, _⟩ => ⟨S2x4608x1024, .bf16⟩
  | .hbm, ⟨11, _⟩ => ⟨S1x4608x1024, .bf16⟩
  | .hbm, ⟨12, _⟩ => ⟨S4608x1024, .bf16⟩
  | .hbm, ⟨13, _⟩ => ⟨S1x1024, .f32⟩
  | .hbm, ⟨14, _⟩ => ⟨S1024, .f32⟩
  | .hbm, ⟨15, _⟩ => ⟨S1x1024x1024, .f32⟩
  | .hbm, ⟨16, _⟩ => ⟨S1024x1024, .f32⟩
  | .hbm, ⟨17, _⟩ => ⟨S1x1x8192x256, .f32⟩
  | .hbm, ⟨18, _⟩ => ⟨S1x8192x256, .f32⟩
  | .hbm, ⟨19, _⟩ => ⟨S1x256x1024, .f32⟩
  | .hbm, ⟨20, _⟩ => ⟨S256x1024, .f32⟩
  | .hbm, ⟨21, _⟩ => ⟨S1x8192x1024, .f32⟩
  | .hbm, ⟨22, _⟩ => ⟨S_, .f32⟩
  | .hbm, ⟨23, _⟩ => ⟨S1x8192, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S_, .f32⟩
  | .hbm, ⟨29, _⟩ => ⟨S1x8192x1, .f32⟩
  | .hbm, ⟨30, _⟩ => ⟨S1x8192x1, .f32⟩
  | .hbm, ⟨31, _⟩ => ⟨S1x8192x1, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S_, .f32⟩
  | .hbm, ⟨41, _⟩ => ⟨S1x8192x1024, .f32⟩
  | .hbm, ⟨42, _⟩ => ⟨S1x8192x1024, .f32⟩
  | .hbm, ⟨43, _⟩ => ⟨S_, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S8192x1024, .f32⟩
  | .hbm, ⟨50, _⟩ => ⟨S1x1024x1024, .f32⟩
  | .hbm, ⟨51, _⟩ => ⟨S1024x1024, .f32⟩
  | .hbm, ⟨52, _⟩ => ⟨S1024x1024, .bf16⟩
  | .hbm, ⟨53, _⟩ => ⟨S1x256x1024, .f32⟩
  | .hbm, ⟨54, _⟩ => ⟨S256x1024, .f32⟩
  | .hbm, ⟨55, _⟩ => ⟨S256x1024, .bf16⟩
  | .hbm, ⟨56, _⟩ => ⟨S8192x4608, .f32⟩
  | .hbm, ⟨57, _⟩ => ⟨S8192x4608, .bf16⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1024x1024, .bf16⟩
  | .hbm, ⟨62, _⟩ => ⟨S256x1024, .bf16⟩
  | .hbm, ⟨63, _⟩ => ⟨S1x1024, .f32⟩
  | .hbm, ⟨64, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S2x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2x1024, .f32⟩
  | .local _ .vmem, ⟨11, _⟩ => ⟨S1024x1024, .bf16⟩
  | .local _ .vmem, ⟨12, _⟩ => ⟨S1x1x512x256, .f32⟩
  | .local _ .vmem, ⟨13, _⟩ => ⟨S1x1x512x256, .f32⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | .local _ .vmem, ⟨17, _⟩ => ⟨S1024x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | .local _ .vmem, ⟨22, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_v46_3 : Ref sig .tc := ⟨.hbm, 63, rfl⟩
abbrev main_v46_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v114 : BitVec 1 := Scalar.cmpi .eq arg0 c15_i32
  let v115 : BitVec 32 := Scalar.extui v114
  let c0_i32_61 : BitVec 32 := 0#32
  let v116 : BitVec 1 := Scalar.cmpi .ne v115 c0_i32_61
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x1024x4608 : Shape := ⟨3, ![2, 1024, 4608]⟩
abbrev S2x256x1024 : Shape := ⟨3, ![2, 256, 1024]⟩
abbrev S2x1024x1024 : Shape := ⟨3, ![2, 1024, 1024]⟩
abbrev S1x8192x4608 : Shape := ⟨3, ![1, 8192, 4608]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1x8192x256 : Shape := ⟨4, ![1, 1, 8192, 256]⟩
abbrev S1x8192x256 : Shape := ⟨3, ![1, 8192, 256]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024x4608 : Shape := ⟨3, ![1, 1024, 4608]⟩
abbrev S1024x4608 : Shape := ⟨2, ![1024, 4608]⟩
abbrev S8192 : Shape := ⟨1, ![8192]⟩
abbrev S1024x256 : Shape := ⟨2, ![1024, 256]⟩
abbrev S8192x1024 : Shape := ⟨2, ![8192, 1024]⟩

abbrev nBuf : Space → Nat
  | .hbm => 147
  | .vmem => 0
  | .smem => 0
  | _ => 0

abbrev hbmTy0_0 (i : Nat) : BufTy := match i % 128 with
  | 0 => ⟨S1x8192x1024, .f32⟩
  | 1 => ⟨S2x1x8192x256, .f32⟩
  | 2 => ⟨S2x1024, .f32⟩
  | 3 => ⟨S2x1024x4608, .f32⟩
  | 4 => ⟨S2x1024, .f32⟩
  | 5 => ⟨S2x256x1024, .f32⟩
  | 6 => ⟨S2x1024x1024, .f32⟩
  | 7 => ⟨S1x8192x1024, .f32⟩
  | 8 => ⟨S1x8192x4608, .f32⟩
  | 9 => ⟨S1x1024, .f32⟩
  | 10 => ⟨S1024, .f32⟩
  | 11 => ⟨S1x1024x1024, .f32⟩
  | 12 => ⟨S1024x1024, .f32⟩
  | 13 => ⟨S1x256x1024, .f32⟩
  | 14 => ⟨S256x1024, .f32⟩
  | 15 => ⟨S1x1024, .f32⟩
  | 16 => ⟨S1024, .f32⟩
  | 17 => ⟨S1x1x8192x256, .f32⟩
  | 18 => ⟨S1x8192x256, .f32⟩
  | 19 => ⟨S1x8192x1024, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x1024, .f32⟩
  | 35 => ⟨S1x8192x1024, .f32⟩
  | 36 => ⟨S1x1x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x8192x1024, .f32⟩
  | 42 => ⟨S_, .f32⟩
  | 43 => ⟨S1x8192x1024, .f32⟩
  | 44 => ⟨S1x8192x1024, .f32⟩
  | 45 => ⟨S_, .f32⟩
  | 46 => ⟨S1x8192x1024, .f32⟩
  | 47 => ⟨S1x8192x1024, .f32⟩
  | 48 => ⟨S_, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S_, .f32⟩
  | 63 => ⟨S1x8192x1, .f32⟩
  | 64 => ⟨S1x8192x1, .f32⟩
  | 65 => ⟨S1x8192x1, .f32⟩
  | 66 => ⟨S1x8192x1, .f32⟩
  | 67 => ⟨S_, .f32⟩
  | 68 => ⟨S1x8192x1, .f32⟩
  | 69 => ⟨S1x8192x1, .f32⟩
  | 70 => ⟨S1x8192x1024, .f32⟩
  | 71 => ⟨S1x8192x1024, .f32⟩
  | 72 => ⟨S1x1x1024, .f32⟩
  | 73 => ⟨S1x8192x1024, .f32⟩
  | 74 => ⟨S1x8192x1024, .f32⟩
  | 75 => ⟨S1x1024x4608, .f32⟩
  | 76 => ⟨S1024x4608, .f32⟩
  | 77 => ⟨S1x8192x4608, .f32⟩
  | 78 => ⟨S1x8192x1024, .f32⟩
  | 79 => ⟨S1x8192x1024, .f32⟩
  | 80 => ⟨S_, .f32⟩
  | 81 => ⟨S1x1024, .f32⟩
  | 82 => ⟨S1x1x1024, .f32⟩
  | 83 => ⟨S1x8192x1024, .f32⟩
  | 84 => ⟨S1x8192x1024, .f32⟩
  | 85 => ⟨S_, .f32⟩
  | 86 => ⟨S1024, .f32⟩
  | 87 => ⟨S1x8192x1024, .f32⟩
  | 88 => ⟨S_, .f32⟩
  | 89 => ⟨S1x8192, .f32⟩
  | 90 => ⟨S1x8192x1, .f32⟩
  | 91 => ⟨S1x8192x1024, .f32⟩
  | 92 => ⟨S1x8192x1024, .f32⟩
  | 93 => ⟨S1x8192x1024, .f32⟩
  | 94 => ⟨S1x8192x1, .f32⟩
  | 95 => ⟨S_, .f32⟩
  | 96 => ⟨S1x8192x1, .f32⟩
  | 97 => ⟨S1x8192x1, .f32⟩
  | 98 => ⟨S_, .f32⟩
  | 99 => ⟨S8192, .f32⟩
  | 100 => ⟨S1x8192, .f32⟩
  | 101 => ⟨S1x8192x1024, .f32⟩
  | 102 => ⟨S1x8192x1024, .f32⟩
  | 103 => ⟨S1x8192x1024, .f32⟩
  | 104 => ⟨S1x8192x1024, .f32⟩
  | 105 => ⟨S1x8192x1024, .f32⟩
  | 106 => ⟨S1x8192x1024, .f32⟩
  | 107 => ⟨S1x8192x1024, .f32⟩
  | 108 => ⟨S1x8192x1024, .f32⟩
  | 109 => ⟨S1024x256, .f32⟩
  | 110 => ⟨S256x1024, .f32⟩
  | 111 => ⟨S1x8192x1024, .f32⟩
  | 112 => ⟨S1024x1024, .f32⟩
  | 113 => ⟨S1024x1024, .f32⟩
  | 114 => ⟨S1x8192x1024, .f32⟩
  | 115 => ⟨S1x8192x1024, .f32⟩
  | 116 => ⟨S_, .f32⟩
  | 117 => ⟨S1x1024, .f32⟩
  | 118 => ⟨S1x1x1024, .f32⟩
  | 119 => ⟨S1x8192x1024, .f32⟩
  | 120 => ⟨S1x8192x1024, .f32⟩
  | 121 => ⟨S_, .f32⟩
  | 122 => ⟨S1024, .f32⟩
  | 123 => ⟨S1x8192x1024, .f32⟩
  | 124 => ⟨S_, .f32⟩
  | 125 => ⟨S1x8192, .f32⟩
  | 126 => ⟨S1x8192x1, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1, .f32⟩
  | 3 => ⟨S_, .f32⟩
  | 4 => ⟨S1x8192x1, .f32⟩
  | 5 => ⟨S1x8192x1, .f32⟩
  | 6 => ⟨S_, .f32⟩
  | 7 => ⟨S8192, .f32⟩
  | 8 => ⟨S1x8192, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S8192x1024, .f32⟩
  | 15 => ⟨S1024x1024, .bf16⟩
  | 16 => ⟨S256x1024, .bf16⟩
  | 17 => ⟨S1x1024, .f32⟩
  | 18 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_v96 : Ref sig .tc := ⟨.hbm, 123, rfl⟩
abbrev main_cst_17 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_v104 : Ref sig .tc := ⟨.hbm, 133, rfl⟩
abbrev main_cst_19 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩

abbrev nD : Nat := 1
abbrev τ : Topo := Topo.v7x

variable {F : FTy → Type} [FloatOps F]
-- ==== Kernel5.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x256x1024 : Shape := ⟨3, ![2, 256, 1024]⟩
abbrev S2x1024x1024 : Shape := ⟨3, ![2, 1024, 1024]⟩
abbrev S1024 : Shape := ⟨1, ![1024]⟩
abbrev S8192x1024 : Shape := ⟨2, ![8192, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024 : Shape := ⟨2, ![1, 1024]⟩
abbrev S8x128 : Shape := ⟨2, ![8, 128]⟩
abbrev S512x1024 : Shape := ⟨2, ![512, 1024]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩
abbrev S1 : Shape := ⟨1, ![1]⟩
abbrev S1x1 : Shape := ⟨2, ![1, 1]⟩

abbrev nBuf : Space → Nat
  | .hbm => 19
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x256x1024, .f32⟩
  | .hbm, ⟨4, _⟩ => ⟨S2x1024x1024, .f32⟩
  | .hbm, ⟨5, _⟩ => ⟨S1024, .f32⟩
  | .hbm, ⟨6, _⟩ => ⟨S1x8192x1024, .f32⟩
  | .hbm, ⟨7, _⟩ => ⟨S8192x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x256x1024, .f32⟩
  | .hbm, ⟨12, _⟩ => ⟨S256x1024, .f32⟩
  | .hbm, ⟨13, _⟩ => ⟨S256x1024, .bf16⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1024x1024, .bf16⟩
  | .local _ .vmem, ⟨4, _⟩ => ⟨S1x1x512x256, .f32⟩
  | .local _ .vmem, ⟨5, _⟩ => ⟨S1x1x512x256, .f32⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S8x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x256x1024 : Shape := ⟨3, ![2, 256, 1024]⟩
abbrev S2x1024x1024 : Shape := ⟨3, ![2, 1024, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1x1x8192x256 : Shape := ⟨4, ![1, 1, 8192, 256]⟩
abbrev S1x8192x256 : Shape := ⟨3, ![1, 8192, 256]⟩
abbrev S1x256x1024 : Shape := ⟨3, ![1, 256, 1024]⟩
abbrev S256x1024 : Shape := ⟨2, ![256, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x1024 : Shape := ⟨2, ![8192, 1024]⟩
abbrev S8x128 : Shape := ⟨2, ![8, 128]⟩

abbrev nBuf : Space → Nat
  | .hbm => 115
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x256x1024, .f32⟩
  | .hbm, ⟨4, _⟩ => ⟨S2x1024x1024, .f32⟩
  | .hbm, ⟨5, _⟩ => ⟨S1024, .f32⟩
  | .hbm, ⟨6, _⟩ => ⟨S1x8192x1024, .f32⟩
  | .hbm, ⟨7, _⟩ => ⟨S1x1024, .f32⟩
  | .hbm, ⟨8, _⟩ => ⟨S1024, .f32⟩
  | .hbm, ⟨9, _⟩ => ⟨S1x1024x1024, .f32⟩
  | .hbm, ⟨10, _⟩ => ⟨S1024x1024, .f32⟩
  | .hbm, ⟨11, _⟩ => ⟨S1x1x8192x256, .f32⟩
  | .hbm, ⟨12, _⟩ => ⟨S1x8192x256, .f32⟩
  | .hbm, ⟨13, _⟩ => ⟨S1x256x1024, .f32⟩
  | .hbm, ⟨14, _⟩ => ⟨S256x1024, .f32⟩
  | .hbm, ⟨15, _⟩ => ⟨S1x8192x1024, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x8192x1024, .f32⟩
  | .hbm, ⟨36, _⟩ => ⟨S1x8192x1024, .f32⟩
  | .hbm, ⟨37, _⟩ => ⟨S_, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x8192, .f32⟩
  | .hbm, ⟨46, _⟩ => ⟨S1x8192x1, .f32⟩
  | .hbm, ⟨47, _⟩ => ⟨S_, .f32⟩
  | .hbm, ⟨48, _⟩ => ⟨S1x8192x1, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S1x8192x1, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S1x8192x1024, .f32⟩
  | .hbm, ⟨59, _⟩ => ⟨S1x8192x1024, .f32⟩
  | .hbm, ⟨60, _⟩ => ⟨S1x1x1024, .f32⟩
  | .hbm, ⟨61, _⟩ => ⟨S1x8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S_, .f32⟩
  | .hbm, ⟨66, _⟩ => ⟨S1x8192x1024, .f32⟩
  | .hbm, ⟨67, _⟩ => ⟨S1x8192x1024, .f32⟩
  | .hbm, ⟨68, _⟩ => ⟨S_, .f32⟩
  | .hbm, ⟨69, _⟩ => ⟨S1x8192, .f32⟩
  | .hbm, ⟨70, _⟩ => ⟨S_, .f32⟩
  | .hbm, ⟨71, _⟩ => ⟨S1x8192, .f32⟩
  | .hbm, ⟨72, _⟩ => ⟨S1x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x8192, .f32⟩
  | .hbm, ⟨81, _⟩ => ⟨S_, .f32⟩
  | .hbm, ⟨82, _⟩ => ⟨S1x8192, .f32⟩
  | .hbm, ⟨83, _⟩ => ⟨S1x8192, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S_, .f32⟩
  | .hbm, ⟨88, _⟩ => ⟨S1x1024, .f32⟩
  | .hbm, ⟨89, _⟩ => ⟨S1x1x1024, .f32⟩
  | .hbm, ⟨90, _⟩ => ⟨S1x8192x1024, .f32⟩
  | .hbm, ⟨91, _⟩ => ⟨S1x8192x1024, .f32⟩
  | .hbm, ⟨92, _⟩ => ⟨S_, .f32⟩
  | .hbm, ⟨93, _⟩ => ⟨S1024, .f32⟩
  | .hbm, ⟨94, _⟩ => ⟨S1x8192x1024, .f32⟩
  | .hbm, ⟨95, _⟩ => ⟨S_, .f32⟩
  | .hbm, ⟨96, _⟩ => ⟨S1x8192, .f32⟩
  | .hbm, ⟨97, _⟩ => ⟨S1x8192x1, .f32⟩
  | .hbm, ⟨98, _⟩ => ⟨S1x8192x1024, .f32⟩
  | .hbm, ⟨99, _⟩ => ⟨S1x8192x1024, .f32⟩
  | .hbm, ⟨100, _⟩ => ⟨S1x8192x1, .f32⟩
  | .hbm, ⟨101, _⟩ => ⟨S_, .f32⟩
  | .hbm, ⟨102, _⟩ => ⟨S1x8192x1, .f32⟩
  | .hbm, ⟨103, _⟩ => ⟨S1x8192x1, .f32⟩
  | .hbm, ⟨104, _⟩ => ⟨S_, .f32⟩
  | .hbm, ⟨105, _⟩ => ⟨S8192, .f32⟩
  | .hbm, ⟨106, _⟩ => ⟨S1x8192, .f32⟩
  | .hbm, ⟨107, _⟩ => ⟨S1x8192x1024, .f32⟩
  | .hbm, ⟨108, _⟩ => ⟨S1x8192x1024, .f32⟩
  | .hbm, ⟨109, _⟩ => ⟨S1x8192x1024, .f32⟩
  | .hbm, ⟨110, _⟩ => ⟨S1x8192x1024, .f32⟩
  | .hbm, ⟨111, _⟩ => ⟨S1x8192x1024, .f32⟩
  | .hbm, ⟨112, _⟩ => ⟨S8192x1024, .f32⟩
  | .hbm, ⟨113, _⟩ => ⟨S1x1024, .f32⟩
  | .hbm, ⟨114, _⟩ => ⟨S8x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_cst_13 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_19 : Ref sig .tc := ⟨.hbm, 101, rfl⟩
abbrev main_v74 : Ref sig .tc := ⟨.hbm, 102, rfl⟩
abbrev main_v75 : Ref sig .tc := ⟨.hbm, 103, rfl⟩
abbrev main_cst_20 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== Kernel6.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x1024x4608 : Shape := ⟨3, ![2, 1024, 4608]⟩
abbrev S2x256x1024 : Shape := ⟨3, ![2, 256, 1024]⟩
abbrev S2x1024x1024 : Shape := ⟨3, ![2, 1024, 1024]⟩
abbrev S2x4608x1024 : Shape := ⟨3, ![2, 4608, 1024]⟩
abbrev S1x4608x1024 : Shape := ⟨3, ![1, 4608, 1024]⟩
abbrev S4608x1024 : Shape := ⟨2, ![4608, 1024]⟩
abbrev S8192x1024 : Shape := ⟨2, ![8192, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S8192x4608 : Shape := ⟨2, ![8192, 4608]⟩
abbrev S512x1024 : Shape := ⟨2, ![512, 1024]⟩
abbrev S1x1x512x256 : Shape := ⟨4, ![1, 1, 512, 256]⟩
abbrev S512x4608 : Shape := ⟨2, ![512, 4608]⟩
abbrev S512 : Shape := ⟨1, ![512]⟩
abbrev S512x1 : Shape := ⟨2, ![512, 1]⟩
abbrev S1x1024 : Shape := ⟨2, ![1, 1024]⟩
abbrev S512x256 : Shape := ⟨2, ![512, 256]⟩
abbrev S512x512 : Shape := ⟨2, ![512, 512]⟩

abbrev nBuf : Space → Nat
  | .hbm => 21
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x1024x4608, .f32⟩
  | .hbm, ⟨4, _⟩ => ⟨S2x1024, .f32⟩
  | .hbm, ⟨5, _⟩ => ⟨S2x256x1024, .f32⟩
  | .hbm, ⟨6, _⟩ => ⟨S2x1024x1024, .f32⟩
  | .hbm, ⟨7, _⟩ => ⟨S2x4608x1024, .f32⟩
  | .hbm, ⟨8, _⟩ => ⟨S2x4608x1024, .bf16⟩
  | .hbm, ⟨9, _⟩ => ⟨S1x4608x1024, .bf16⟩
  | .hbm, ⟨10, _⟩ => ⟨S4608x1024, .bf16⟩
  | .hbm, ⟨11, _⟩ => ⟨S8192x1024, .f32⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S1x256x1024, .f32⟩
  | .hbm, ⟨16, _⟩ => ⟨S256x1024, .f32⟩
  | .hbm, ⟨17, _⟩ => ⟨S256x1024, .bf16⟩
  | .hbm, ⟨18, _⟩ => ⟨S8192x1024, .f32⟩
  | .hbm, ⟨19, _⟩ => ⟨S8192x1024, .bf16⟩
  | .hbm, ⟨20, _⟩ => ⟨S8192x4608, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S4608x1024, .bf16⟩
  | .local _ .vmem, ⟨4, _⟩ => ⟨S2x1024, .f32⟩
  | .local _ .vmem, ⟨5, _⟩ => ⟨S1024x1024, .bf16⟩
  | .local _ .vmem, ⟨6, _⟩ => ⟨S1x1x512x256, .f32⟩
  | .local _ .vmem, ⟨7, _⟩ => ⟨S1x1x512x256, .f32⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x4608, .bf16⟩
  | .local _ .vmem, ⟨14, _⟩ => ⟨S512x4608, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4608 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S1x8192x1024 : Shape := ⟨3, ![1, 8192, 1024]⟩
abbrev S2x1x8192x256 : Shape := ⟨4, ![2, 1, 8192, 256]⟩
abbrev S2x1024 : Shape := ⟨2, ![2, 1024]⟩
abbrev S2x1024x4608 : Shape := ⟨3, ![2, 1024, 4608]⟩
abbrev S2x256x1024 : Shape := ⟨3, ![2, 256, 1024]⟩
abbrev S2x1024x1024 : Shape := ⟨3, ![2, 1024, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1x8192x256 : Shape := ⟨4, ![1, 1, 8192, 256]⟩
abbrev S1x8192x256 : Shape := ⟨3, ![1, 8192, 256]⟩
abbrev S1x256x1024 : Shape := ⟨3, ![1, 256, 1024]⟩
abbrev S256x1024 : Shape := ⟨2, ![256, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024x4608 : Shape := ⟨3, ![1, 1024, 4608]⟩
abbrev S1024x4608 : Shape := ⟨2, ![1024, 4608]⟩
abbrev S1x8192x4608 : Shape := ⟨3, ![1, 8192, 4608]⟩
abbrev S8192x1024 : Shape := ⟨2, ![8192, 1024]⟩
abbrev S8192x4608 : Shape := ⟨2, ![8192, 4608]⟩

abbrev nBuf : Space → Nat
  | .hbm => 69
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1x8192x256, .f32⟩
  | .hbm, ⟨2, _⟩ => ⟨S2x1024, .f32⟩
  | .hbm, ⟨3, _⟩ => ⟨S2x1024x4608, .f32⟩
  | .hbm, ⟨4, _⟩ => ⟨S2x1024, .f32⟩
  | .hbm, ⟨5, _⟩ => ⟨S2x256x1024, .f32⟩
  | .hbm, ⟨6, _⟩ => ⟨S2x1024x1024, .f32⟩
  | .hbm, ⟨7, _⟩ => ⟨S1x1024, .f32⟩
  | .hbm, ⟨8, _⟩ => ⟨S1024, .f32⟩
  | .hbm, ⟨9, _⟩ => ⟨S1x1024x1024, .f32⟩
  | .hbm, ⟨10, _⟩ => ⟨S1024x1024, .f32⟩
  | .hbm, ⟨11, _⟩ => ⟨S1x1x8192x256, .f32⟩
  | .hbm, ⟨12, _⟩ => ⟨S1x8192x256, .f32⟩
  | .hbm, ⟨13, _⟩ => ⟨S1x256x1024, .f32⟩
  | .hbm, ⟨14, _⟩ => ⟨S256x1024, .f32⟩
  | .hbm, ⟨15, _⟩ => ⟨S1x8192x1024, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x8192x1024, .f32⟩
  | .hbm, ⟨36, _⟩ => ⟨S1x8192x1024, .f32⟩
  | .hbm, ⟨37, _⟩ => ⟨S_, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x1024, .f32⟩
  | .hbm, ⟨44, _⟩ => ⟨S1024, .f32⟩
  | .hbm, ⟨45, _⟩ => ⟨S1x8192x1024, .f32⟩
  | .hbm, ⟨46, _⟩ => ⟨S_, .f32⟩
  | .hbm, ⟨47, _⟩ => ⟨S1x8192, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S1x8192x1, .f32⟩
  | .hbm, ⟨54, _⟩ => ⟨S1x8192x1, .f32⟩
  | .hbm, ⟨55, _⟩ => ⟨S1x8192x1, .f32⟩
  | .hbm, ⟨56, _⟩ => ⟨S1x8192x1024, .f32⟩
  | .hbm, ⟨57, _⟩ => ⟨S1x8192x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S1x1024x4608, .f32⟩
  | .hbm, ⟨62, _⟩ => ⟨S1024x4608, .f32⟩
  | .hbm, ⟨63, _⟩ => ⟨S1x8192x4608, .f32⟩
  | .hbm, ⟨64, _⟩ => ⟨S8192x1024, .f32⟩
  | .hbm, ⟨65, _⟩ => ⟨S8192x1024, .f32⟩
  | .hbm, ⟨66, _⟩ => ⟨S8192x1024, .bf16⟩
  | .hbm, ⟨67, _⟩ => ⟨S8192x4608, .f32⟩
  | .hbm, ⟨68, _⟩ => ⟨S8192x4608, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel7.lean ====
abbrev S1x8192x1024 : Shape := ⟨3, ![1, 8192, 1024]⟩
abbrev S2x1024 : Shape := ⟨2, ![2, 1024]⟩
abbrev S2x1024x5632 : Shape := ⟨3, ![2, 1024, 5632]⟩
abbrev S2x5632x1024 : Shape := ⟨3, ![2, 5632, 1024]⟩
abbrev S1x5632x1024 : Shape := ⟨3, ![1, 5632, 1024]⟩
abbrev S5632x1024 : Shape := ⟨2, ![5632, 1024]⟩
abbrev S8192x1024 : Shape := ⟨2, ![8192, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S2x5632x1024, .f32⟩
  | .hbm, ⟨4, _⟩ => ⟨S2x5632x1024, .bf16⟩
  | .hbm, ⟨5, _⟩ => ⟨S1x5632x1024, .bf16⟩
  | .hbm, ⟨6, _⟩ => ⟨S5632x1024, .bf16⟩
  | .hbm, ⟨7, _⟩ => ⟨S8192x1024, .f32⟩
  | .hbm, ⟨8, _⟩ => ⟨S8192x1024, .bf16⟩
  | .hbm, ⟨9, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x1024 : Shape := ⟨2, ![1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x8192x5632 : Shape := ⟨3, ![1, 8192, 5632]⟩
abbrev S8192x1024 : Shape := ⟨2, ![8192, 1024]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S1x1024, .f32⟩
  | .hbm, ⟨4, _⟩ => ⟨S1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x1024x5632, .f32⟩
  | .hbm, ⟨22, _⟩ => ⟨S1024x5632, .f32⟩
  | .hbm, ⟨23, _⟩ => ⟨S1x8192x5632, .f32⟩
  | .hbm, ⟨24, _⟩ => ⟨S8192x1024, .f32⟩
  | .hbm, ⟨25, _⟩ => ⟨S8192x1024, .bf16⟩
  | .hbm, ⟨26, _⟩ => ⟨S8192x5632, .f32⟩
  | .hbm, ⟨27, _⟩ => ⟨S8192x5632, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel8.lean ====
abbrev S1x8192x1024 : Shape := ⟨3, ![1, 8192, 1024]⟩
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S8192x1024 : Shape := ⟨2, ![8192, 1024]⟩
abbrev S8192x4608 : Shape := ⟨2, ![8192, 4608]⟩
abbrev S8192x512 : Shape := ⟨2, ![8192, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S512x4608 : Shape := ⟨2, ![512, 4608]⟩
abbrev S512x512 : Shape := ⟨2, ![512, 512]⟩
abbrev S1x2048 : Shape := ⟨2, ![1, 2048]⟩
abbrev S1x1024 : Shape := ⟨2, ![1, 1024]⟩

abbrev nBuf : Space → Nat
  | .hbm => 25
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4608, .f32⟩
  | .hbm, ⟨2, _⟩ => ⟨S2x2048, .f32⟩
  | .hbm, ⟨3, _⟩ => ⟨S1x8192x512, .f32⟩
  | .hbm, ⟨4, _⟩ => ⟨S1x8192x512, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S8192x1024, .f32⟩
  | .hbm, ⟨9, _⟩ => ⟨S8192x4608, .f32⟩
  | .hbm, ⟨10, _⟩ => ⟨S8192x4608, .bf16⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1x512x1024, .f32⟩
  | .hbm, ⟨19, _⟩ => ⟨S512x1024, .f32⟩
  | .hbm, ⟨20, _⟩ => ⟨S512x1024, .bf16⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4608, .bf16⟩
  | .local _ .vmem, ⟨3, _⟩ => ⟨S512x4608, .bf16⟩
  | .local _ .vmem, ⟨4, _⟩ => ⟨S2x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S1x8192x1024 : Shape := ⟨3, ![1, 8192, 1024]⟩
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S1x8192x2048 : Shape := ⟨3, ![1, 8192, 2048]⟩
abbrev S1x2048 : Shape := ⟨2, ![1, 2048]⟩
abbrev S2048 : Shape := ⟨1, ![2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x2048 : Shape := ⟨3, ![1, 1, 2048]⟩
abbrev S_ : Shape := ⟨0, ![]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4608, .f32⟩
  | .hbm, ⟨2, _⟩ => ⟨S2x2048, .f32⟩
  | .hbm, ⟨3, _⟩ => ⟨S1x8192x512, .f32⟩
  | .hbm, ⟨4, _⟩ => ⟨S1x8192x512, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S1x8192x2048, .f32⟩
  | .hbm, ⟨9, _⟩ => ⟨S1x2048, .f32⟩
  | .hbm, ⟨10, _⟩ => ⟨S2048, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x1024x1024, .f32⟩
  | .hbm, ⟨16, _⟩ => ⟨S1024x1024, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S_, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel9.lean ====
abbrev S1x8192x1024 : Shape := ⟨3, ![1, 8192, 1024]⟩
abbrev S2x1024 : Shape := ⟨2, ![2, 1024]⟩
abbrev S2x1024x4608 : Shape := ⟨3, ![2, 1024, 4608]⟩
abbrev S1x8192x4608 : Shape := ⟨3, ![1, 8192, 4608]⟩
abbrev S2x4608x1024 : Shape := ⟨3, ![2, 4608, 1024]⟩
abbrev S1x4608x1024 : Shape := ⟨3, ![1, 4608, 1024]⟩
abbrev S4608x1024 : Shape := ⟨2, ![4608, 1024]⟩
abbrev S8192x4608 : Shape := ⟨2, ![8192, 4608]⟩
abbrev S8192x1024 : Shape := ⟨2, ![8192, 1024]⟩
abbrev S1x1024 : Shape := ⟨2, ![1, 1024]⟩
abbrev S512x4608 : Shape := ⟨2, ![512, 4608]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x4608, .f32⟩
  | .hbm, ⟨3, _⟩ => ⟨S1x8192x1024, .f32⟩
  | .hbm, ⟨4, _⟩ => ⟨S1x8192x4608, .f32⟩
  | .hbm, ⟨5, _⟩ => ⟨S2x4608x1024, .f32⟩
  | .hbm, ⟨6, _⟩ => ⟨S2x4608x1024, .bf16⟩
  | .hbm, ⟨7, _⟩ => ⟨S1x4608x1024, .bf16⟩
  | .hbm, ⟨8, _⟩ => ⟨S4608x1024, .bf16⟩
  | .hbm, ⟨9, _⟩ => ⟨S8192x4608, .f32⟩
  | .hbm, ⟨10, _⟩ => ⟨S8192x4608, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S2x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S1x8192x1024 : Shape := ⟨3, ![1, 8192, 1024]⟩
abbrev S2x1024 : Shape := ⟨2, ![2, 1024]⟩
abbrev S2x1024x4608 : Shape := ⟨3, ![2, 1024, 4608]⟩
abbrev S1x8192x4608 : Shape := ⟨3, ![1, 8192, 4608]⟩
abbrev S1x1024 : Shape := ⟨2, ![1, 1024]⟩
abbrev S1024 : Shape := ⟨1, ![1024]⟩
abbrev S1x1024x4608 : Shape := ⟨3, ![1, 1024, 4608]⟩
abbrev S1024x4608 : Shape := ⟨2, ![1024, 4608]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S4608x1024 : Shape := ⟨2, ![4608, 1024]⟩
abbrev S8192 : Shape := ⟨1, ![8192]⟩
abbrev S8192x1024 : Shape := ⟨2, ![8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x4608, .f32⟩
  | .hbm, ⟨3, _⟩ => ⟨S1x8192x1024, .f32⟩
  | .hbm, ⟨4, _⟩ => ⟨S1x8192x4608, .f32⟩
  | .hbm, ⟨5, _⟩ => ⟨S1x1024, .f32⟩
  | .hbm, ⟨6, _⟩ => ⟨S1024, .f32⟩
  | .hbm, ⟨7, _⟩ => ⟨S1x1024x4608, .f32⟩
  | .hbm, ⟨8, _⟩ => ⟨S1024x4608, .f32⟩
  | .hbm, ⟨9, _⟩ => ⟨S1x8192x1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x8192x4608, .f32⟩
  | .hbm, ⟨30, _⟩ => ⟨S4608x1024, .f32⟩
  | .hbm, ⟨31, _⟩ => ⟨S1024x4608, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S8192x1024, .f32⟩
  | .hbm, ⟨61, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel10.lean ====
abbrev S1x8192x1024 : Shape := ⟨3, ![1, 8192, 1024]⟩
abbrev S1x8192x5632 : Shape := ⟨3, ![1, 8192, 5632]⟩
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S8192x5632, .f32⟩
  | .hbm, ⟨3, _⟩ => ⟨S8192x5632, .bf16⟩
  | .hbm, ⟨4, _⟩ => ⟨S8192x1024, .f32⟩
  | .hbm, ⟨5, _⟩ => ⟨S8192x1024, .bf16⟩
  | .hbm, ⟨6, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S1x8192x1024 : Shape := ⟨3, ![1, 8192, 1024]⟩
abbrev S1x8192x5632 : Shape := ⟨3, ![1, 8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S_, .f32⟩
  | .hbm, ⟨3, _⟩ => ⟨S1024x5632, .f32⟩
  | .hbm, ⟨4, _⟩ => ⟨S1x8192x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8x128x1024 : Shape := ⟨3, ![8, 128, 1024]⟩
abbrev S2x128x1024 : Shape := ⟨3, ![2, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_8 : BitVec 32 := 0#32
  let v21 : BitVec 1 := Scalar.cmpi .sgt arg0 c0_i32_8
  let v22 : BitVec 32 := Scalar.extui v21
  let c0_i32_9 : BitVec 32 := 0#32
  let v23 : BitVec 1 := Scalar.cmpi .slt arg0 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg0 c1_i32_7
  let c0_i32_12 : BitVec 32 := 0#32
  let v33 : BitVec 1 := Scalar.cmpi .ne v32 c0_i32_12
  let v34 : BitVec 1 := Scalar.andi v31 v33
  let v20 : BitVec 32 := Scalar.divsi arg0 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S1x128x1024, .f32⟩
  | .hbm, ⟨10, _⟩ => ⟨S1x128x1024, .f32⟩
  | .hbm, ⟨11, _⟩ => ⟨S2x128x1024, .f32⟩
  | .hbm, ⟨12, _⟩ => ⟨S_, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel12.lean ====
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S1x8192x1024 : Shape := ⟨3, ![1, 8192, 1024]⟩
abbrev S8192x1024 : Shape := ⟨2, ![8192, 1024]⟩
abbrev S8192x4608 : Shape := ⟨2, ![8192, 4608]⟩
abbrev S8192x512 : Shape := ⟨2, ![8192, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x2048 : Shape := ⟨2, ![8192, 2048]⟩
abbrev S1x2048 : Shape := ⟨2, ![1, 2048]⟩
abbrev S512x4608 : Shape := ⟨2, ![512, 4608]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 31
  | .vmem => 25
  | .smem => 0
  | _ => 0

abbrev bufTy : (tb : Table) → Fin (tcTables nBuf tb) → BufTy
  | .hbm, ⟨0, _⟩ => ⟨S1x8192x4608, .f32⟩
  | .hbm, ⟨1, _⟩ => ⟨S2x2048, .f32⟩
  | .hbm, ⟨2, _⟩ => ⟨S1x8192x512, .f32⟩
  | .hbm, ⟨3, _⟩ => ⟨S1x8192x512, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S1x8192x1024, .f32⟩
  | .hbm, ⟨8, _⟩ => ⟨S8192x1024, .f32⟩
  | .hbm, ⟨9, _⟩ => ⟨S8192x4608, .f32⟩
  | .hbm, ⟨10, _⟩ => ⟨S8192x4608, .bf16⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1x512x1024, .f32⟩
  | .hbm, ⟨19, _⟩ => ⟨S512x1024, .f32⟩
  | .hbm, ⟨20, _⟩ => ⟨S512x1024, .bf16⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S8192x512, .f32⟩
  | .hbm, ⟨25, _⟩ => ⟨S8192x512, .f32⟩
  | .hbm, ⟨26, _⟩ => ⟨S8192x2048, .bf16⟩
  | .hbm, ⟨27, _⟩ => ⟨S1024x1024, .bf16⟩
  | .hbm, ⟨28, _⟩ => ⟨S512x1024, .bf16⟩
  | .hbm, ⟨29, _⟩ => ⟨S512x1024, .bf16⟩
  | .hbm, ⟨30, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x4608, .bf16⟩
  | .local _ .vmem, ⟨3, _⟩ => ⟨S512x4608, .bf16⟩
  | .local _ .vmem, ⟨4, _⟩ => ⟨S2x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | .local _ .vmem, ⟨17, _⟩ => ⟨S512x2048, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S1x2048, .f32⟩
  | .local _ .vmem, ⟨22, _⟩ => ⟨S1024x1024, .f32⟩
  | .local _ .vmem, ⟨23, _⟩ => ⟨S512x1024, .f32⟩
  | .local _ .vmem, ⟨24, _⟩ => ⟨S512x1024, .f32⟩
  | _, _ => ⟨S1x8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v99 : BitVec 1 := Scalar.cmpi .eq arg0 c15_i32
  let v100 : BitVec 32 := Scalar.extui v99
  let c0_i32_68 : BitVec 32 := 0#32
  let v101 : BitVec 1 := Scalar.cmpi .ne v100 c0_i32_68
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference12Ideal.lean ====
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S1x8192x1024 : Shape := ⟨3, ![1, 8192, 1024]⟩
abbrev S1x8192x2048 : Shape := ⟨3, ![1, 8192, 2048]⟩
abbrev S1x2048 : Shape := ⟨2, ![1, 2048]⟩
abbrev S2048 : Shape := ⟨1, ![2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x2048 : Shape := ⟨3, ![1, 1, 2048]⟩
abbrev S_ : Shape := ⟨0, ![]⟩
abbrev S1024x512 : Shape := ⟨2, ![1024, 512]⟩
abbrev S8192x512 : Shape := ⟨2, ![8192, 512]⟩
abbrev S8192x2048 : Shape := ⟨2, ![8192, 2048]⟩

abbrev nBuf : Space → Nat
  | .hbm => 85
  | .vmem => 0
  | .smem => 0
  | _ => 0

abbrev bufTy : (tb : Table) → Fin (tcTables nBuf tb) → BufTy
  | .hbm, ⟨0, _⟩ => ⟨S1x8192x4608, .f32⟩
  | .hbm, ⟨1, _⟩ => ⟨S2x2048, .f32⟩
  | .hbm, ⟨2, _⟩ => ⟨S1x8192x512, .f32⟩
  | .hbm, ⟨3, _⟩ => ⟨S1x8192x512, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S1x8192x1024, .f32⟩
  | .hbm, ⟨8, _⟩ => ⟨S1x8192x2048, .f32⟩
  | .hbm, ⟨9, _⟩ => ⟨S1x2048, .f32⟩
  | .hbm, ⟨10, _⟩ => ⟨S2048, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x1024x1024, .f32⟩
  | .hbm, ⟨16, _⟩ => ⟨S1024x1024, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S_, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S_, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1x8192x1024, .f32⟩
  | .hbm, ⟨41, _⟩ => ⟨S1x8192x1024, .f32⟩
  | .hbm, ⟨42, _⟩ => ⟨S_, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1024x1024, .f32⟩
  | .hbm, ⟨53, _⟩ => ⟨S1024x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1024x512, .f32⟩
  | .hbm, ⟨60, _⟩ => ⟨S512x1024, .f32⟩
  | .hbm, ⟨61, _⟩ => ⟨S1x8192x512, .f32⟩
  | .hbm, ⟨62, _⟩ => ⟨S1024x512, .f32⟩
  | .hbm, ⟨63, _⟩ => ⟨S512x1024, .f32⟩
  | .hbm, ⟨64, _⟩ => ⟨S1x8192x512, .f32⟩
  | .hbm, ⟨65, _⟩ => ⟨S1x8192x1024, .f32⟩
  | .hbm, ⟨66, _⟩ => ⟨S_, .f32⟩
  | .hbm, ⟨67, _⟩ => ⟨S1x8192x2048, .f32⟩
  | .hbm, ⟨68, _⟩ => ⟨S1x8192x1024, .f32⟩
  | .hbm, ⟨69, _⟩ => ⟨S_, .f32⟩
  | .hbm, ⟨70, _⟩ => ⟨S1x8192x2048, .f32⟩
  | .hbm, ⟨71, _⟩ => ⟨S1x8192x2048, .f32⟩
  | .hbm, ⟨72, _⟩ => ⟨S_, .f32⟩
  | .hbm, ⟨73, _⟩ => ⟨S1x2048, .f32⟩
  | .hbm, ⟨74, _⟩ => ⟨S1x1x2048, .f32⟩
  | .hbm, ⟨75, _⟩ => ⟨S_, .f32⟩
  | .hbm, ⟨76, _⟩ => ⟨S2048, .f32⟩
  | .hbm, ⟨77, _⟩ => ⟨S8192x512, .f32⟩
  | .hbm, ⟨78, _⟩ => ⟨S8192x512, .f32⟩
  | .hbm, ⟨79, _⟩ => ⟨S8192x2048, .f32⟩
  | .hbm, ⟨80, _⟩ => ⟨S8192x2048, .bf16⟩
  | .hbm, ⟨81, _⟩ => ⟨S1024x1024, .bf16⟩
  | .hbm, ⟨82, _⟩ => ⟨S512x1024, .bf16⟩
  | .hbm, ⟨83, _⟩ => ⟨S512x1024, .bf16⟩
  | .hbm, ⟨84, _⟩ => ⟨S1x2048, .f32⟩
  | _, _ => ⟨S1x8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel13.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x8192x5632 : Shape := ⟨3, ![1, 8192, 5632]⟩
abbrev S2x5632x1024 : Shape := ⟨3, ![2, 5632, 1024]⟩
abbrev S1x5632x1024 : Shape := ⟨3, ![1, 5632, 1024]⟩
abbrev S5632x1024 : Shape := ⟨2, ![5632, 1024]⟩
abbrev S8192x5632 : Shape := ⟨2, ![8192, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S1x8192x1024, .f32⟩
  | .hbm, ⟨4, _⟩ => ⟨S1x8192x5632, .f32⟩
  | .hbm, ⟨5, _⟩ => ⟨S2x5632x1024, .f32⟩
  | .hbm, ⟨6, _⟩ => ⟨S2x5632x1024, .bf16⟩
  | .hbm, ⟨7, _⟩ => ⟨S1x5632x1024, .bf16⟩
  | .hbm, ⟨8, _⟩ => ⟨S5632x1024, .bf16⟩
  | .hbm, ⟨9, _⟩ => ⟨S8192x5632, .f32⟩
  | .hbm, ⟨10, _⟩ => ⟨S8192x5632, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S2x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x8192x5632 : Shape := ⟨3, ![1, 8192, 5632]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S5632x1024 : Shape := ⟨2, ![5632, 1024]⟩
abbrev S8192 : Shape := ⟨1, ![8192]⟩
abbrev S8192x1024 : Shape := ⟨2, ![8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S1x8192x1024, .f32⟩
  | .hbm, ⟨4, _⟩ => ⟨S1x8192x5632, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S1x8192x1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x8192x5632, .f32⟩
  | .hbm, ⟨30, _⟩ => ⟨S5632x1024, .f32⟩
  | .hbm, ⟨31, _⟩ => ⟨S1024x5632, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S8192x1024, .f32⟩
  | .hbm, ⟨61, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel14.lean ====
abbrev S1x8192x5632 : Shape := ⟨3, ![1, 8192, 5632]⟩
abbrev S1x8192x2816 : Shape := ⟨3, ![1, 8192, 2816]⟩
abbrev S2x3x2816 : Shape := ⟨3, ![2, 3, 2816]⟩
abbrev S2x2816x1024 : Shape := ⟨3, ![2, 2816, 1024]⟩
abbrev S1x8192x1024 : Shape := ⟨3, ![1, 8192, 1024]⟩
abbrev S8192x1024 : Shape := ⟨2, ![8192, 1024]⟩
abbrev S8192x5632 : Shape := ⟨2, ![8192, 5632]⟩
abbrev S8192x2816 : Shape := ⟨2, ![8192, 2816]⟩
abbrev S1x2816x1024 : Shape := ⟨3, ![1, 2816, 1024]⟩
abbrev S2816x1024 : Shape := ⟨2, ![2816, 1024]⟩
abbrev S8x2816 : Shape := ⟨2, ![8, 2816]⟩
abbrev S1x2816 : Shape := ⟨2, ![1, 2816]⟩
abbrev S256x1024 : Shape := ⟨2, ![256, 1024]⟩
abbrev S256x5632 : Shape := ⟨2, ![256, 5632]⟩
abbrev S256x2816 : Shape := ⟨2, ![256, 2816]⟩
abbrev S3x288x2816 : Shape := ⟨3, ![3, 288, 2816]⟩
abbrev S3x8x2816 : Shape := ⟨3, ![3, 8, 2816]⟩
abbrev S32x2816 : Shape := ⟨2, ![32, 2816]⟩
abbrev S1x32x2816 : Shape := ⟨3, ![1, 32, 2816]⟩
abbrev S1x3x2816 : Shape := ⟨3, ![1, 3, 2816]⟩
abbrev S3x2816 : Shape := ⟨2, ![3, 2816]⟩
abbrev S1x8x2816 : Shape := ⟨3, ![1, 8, 2816]⟩
abbrev S256x256 : Shape := ⟨2, ![256, 256]⟩
abbrev S1x256 : Shape := ⟨2, ![1, 256]⟩
abbrev S256 : Shape := ⟨1, ![256]⟩
abbrev S1x256x256 : Shape := ⟨3, ![1, 256, 256]⟩
abbrev S1x280x2816 : Shape := ⟨3, ![1, 280, 2816]⟩
abbrev S280x2816 : Shape := ⟨2, ![280, 2816]⟩
abbrev S8x512 : Shape := ⟨2, ![8, 512]⟩
abbrev S1x8x512 : Shape := ⟨3, ![1, 8, 512]⟩
abbrev S8x256 : Shape := ⟨2, ![8, 256]⟩
abbrev S1x8x256 : Shape := ⟨3, ![1, 8, 256]⟩

abbrev nBuf : Space → Nat
  | .hbm => 19
  | .vmem => 18
  | .smem => 0
  | _ => 0

abbrev bufTy : (tb : Table) → Fin (tcTables nBuf tb) → BufTy
  | .hbm, ⟨0, _⟩ => ⟨S1x8192x5632, .f32⟩
  | .hbm, ⟨1, _⟩ => ⟨S1x8192x2816, .f32⟩
  | .hbm, ⟨2, _⟩ => ⟨S1x8192x2816, .f32⟩
  | .hbm, ⟨3, _⟩ => ⟨S2x3x2816, .f32⟩
  | .hbm, ⟨4, _⟩ => ⟨S2x2816x1024, .f32⟩
  | .hbm, ⟨5, _⟩ => ⟨S1x8192x1024, .f32⟩
  | .hbm, ⟨6, _⟩ => ⟨S8192x1024, .f32⟩
  | .hbm, ⟨7, _⟩ => ⟨S8192x5632, .f32⟩
  | .hbm, ⟨8, _⟩ => ⟨S8192x5632, .bf16⟩
  | .hbm, ⟨9, _⟩ => ⟨S8192x2816, .f32⟩
  | .hbm, ⟨10, _⟩ => ⟨S8192x2816, .bf16⟩
  | .hbm, ⟨11, _⟩ => ⟨S8192x2816, .f32⟩
  | .hbm, ⟨12, _⟩ => ⟨S8192x2816, .bf16⟩
  | .hbm, ⟨13, _⟩ => ⟨S1x2816x1024, .f32⟩
  | .hbm, ⟨14, _⟩ => ⟨S2816x1024, .f32⟩
  | .hbm, ⟨15, _⟩ => ⟨S2816x1024, .bf16⟩
  | .hbm, ⟨16, _⟩ => ⟨S8192x5632, .bf16⟩
  | .hbm, ⟨17, _⟩ => ⟨S8x2816, .f32⟩
  | .hbm, ⟨18, _⟩ => ⟨S1x2816, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S2x3x2816, .f32⟩
  | .local _ .vmem, ⟨9, _⟩ => ⟨S2816x1024, .bf16⟩
  | .local _ .vmem, ⟨10, _⟩ => ⟨S256x5632, .bf16⟩
  | .local _ .vmem, ⟨11, _⟩ => ⟨S256x5632, .bf16⟩
  | .local _ .vmem, ⟨12, _⟩ => ⟨S8x2816, .f32⟩
  | .local _ .vmem, ⟨13, _⟩ => ⟨S1x2816, .f32⟩
  | .local _ .vmem, ⟨14, _⟩ => ⟨S3x288x2816, .f32⟩
  | .local _ .vmem, ⟨15, _⟩ => ⟨S3x8x2816, .f32⟩
  | .local _ .vmem, ⟨16, _⟩ => ⟨S3x8x2816, .f32⟩
  | .local _ .vmem, ⟨17, _⟩ => ⟨S256x2816, .f32⟩
  | _, _ => ⟨S1x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_203 : BitVec 32 := 0#32
  let c8_i32 : BitVec 32 := 8#32
  let v308 : BitVec 32 := Scalar.addi c0_i32_203 c8_i32
  let c1_i32_204 : BitVec 32 := 1#32
  ⟨c0_i32_203, v308, c1_i32_204⟩
def k0_mult1 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_221 : BitVec 32 := 0#32
  let v322 : BitVec 32 := Scalar.addi v321 c0_i32_221
  v322
def k0_off1 (k0_t1 : Fin k0_t1_loop.trips) (c0_i32_221 : BitVec 32) : Fin 2 → Nat :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let v322 : BitVec 32 := Scalar.addi v321 c0_i32_221
  let v323 : BitVec 32 := v322
  let v324 : Index := Scalar.indexCast v323
  let c0_222 : Index := 0#32
  ![v324.toNat, 0]
def k0_mult2 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c8_i32_223 : BitVec 32 := 8#32
  let v326 : BitVec 32 := Scalar.addi v321 c8_i32_223
  v326
def k0_mult3 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c16_i32 : BitVec 32 := 16#32
  let v330 : BitVec 32 := Scalar.addi v321 c16_i32
  v330
def k0_mult4 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c24_i32 : BitVec 32 := 24#32
  let v334 : BitVec 32 := Scalar.addi v321 c24_i32
  v334
def k0_mult5 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_227 : BitVec 32 := 0#32
  let v338 : BitVec 32 := Scalar.addi v321 c0_i32_227
  let c0_i32_228 : BitVec 32 := 0#32
  let v339 : BitVec 32 := Scalar.addi v338 c0_i32_228
  v339
def k0_off2 (k0_t1 : Fin k0_t1_loop.trips) (c0_i32_228 : BitVec 32) : Fin 3 → Nat :=
  let c2_229 : Index := 2#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_227 : BitVec 32 := 0#32
  let v338 : BitVec 32 := Scalar.addi v321 c0_i32_227
  let v339 : BitVec 32 := Scalar.addi v338 c0_i32_228
  let v340 : BitVec 32 := v339
  let v341 : Index := Scalar.indexCast v340
  let c0_230 : Index := 0#32
  ![2, v341.toNat, 0]
def k0_mult6 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_231 : BitVec 32 := 0#32
  let v345 : BitVec 32 := Scalar.addi v321 c0_i32_231
  let c8_i32_232 : BitVec 32 := 8#32
  let v346 : BitVec 32 := Scalar.addi v345 c8_i32_232
  v346
def k0_mult7 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_235 : BitVec 32 := 0#32
  let v353 : BitVec 32 := Scalar.addi v321 c0_i32_235
  let c16_i32_236 : BitVec 32 := 16#32
  let v354 : BitVec 32 := Scalar.addi v353 c16_i32_236
  v354
def k0_mult8 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_239 : BitVec 32 := 0#32
  let v361 : BitVec 32 := Scalar.addi v321 c0_i32_239
  let c24_i32_240 : BitVec 32 := 24#32
  let v362 : BitVec 32 := Scalar.addi v361 c24_i32_240
  v362
def k0_mult9 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_249 : BitVec 32 := 0#32
  let v375 : BitVec 32 := Scalar.addi v321 c0_i32_249
  let c0_i32_250 : BitVec 32 := 0#32
  let v376 : BitVec 32 := Scalar.addi v375 c0_i32_250
  v376
def k0_off3 (k0_t1 : Fin k0_t1_loop.trips) (c0_i32_250 : BitVec 32) : Fin 3 → Nat :=
  let c1_251 : Index := 1#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_249 : BitVec 32 := 0#32
  let v375 : BitVec 32 := Scalar.addi v321 c0_i32_249
  let v376 : BitVec 32 := Scalar.addi v375 c0_i32_250
  let v377 : BitVec 32 := v376
  let v378 : Index := Scalar.indexCast v377
  let c0_252 : Index := 0#32
  ![1, v378.toNat, 0]
def k0_mult10 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_253 : BitVec 32 := 0#32
  let v382 : BitVec 32 := Scalar.addi v321 c0_i32_253
  let c8_i32_254 : BitVec 32 := 8#32
  let v383 : BitVec 32 := Scalar.addi v382 c8_i32_254
  v383
def k0_mult11 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_257 : BitVec 32 := 0#32
  let v390 : BitVec 32 := Scalar.addi v321 c0_i32_257
  let c16_i32_258 : BitVec 32 := 16#32
  let v391 : BitVec 32 := Scalar.addi v390 c16_i32_258
  v391
def k0_mult12 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_261 : BitVec 32 := 0#32
  let v398 : BitVec 32 := Scalar.addi v321 c0_i32_261
  let c24_i32_262 : BitVec 32 := 24#32
  let v399 : BitVec 32 := Scalar.addi v398 c24_i32_262
  v399
def k0_mult13 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_271 : BitVec 32 := 0#32
  let v412 : BitVec 32 := Scalar.addi v321 c0_i32_271
  let c0_i32_272 : BitVec 32 := 0#32
  let v413 : BitVec 32 := Scalar.addi v412 c0_i32_272
  v413
def k0_off4 (k0_t1 : Fin k0_t1_loop.trips) (c0_i32_272 : BitVec 32) : Fin 3 → Nat :=
  let c0_273 : Index := 0#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_271 : BitVec 32 := 0#32
  let v412 : BitVec 32 := Scalar.addi v321 c0_i32_271
  let v413 : BitVec 32 := Scalar.addi v412 c0_i32_272
  let v414 : BitVec 32 := v413
  let v415 : Index := Scalar.indexCast v414
  let c0_274 : Index := 0#32
  ![0, v415.toNat, 0]
def k0_mult14 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_275 : BitVec 32 := 0#32
  let v419 : BitVec 32 := Scalar.addi v321 c0_i32_275
  let c8_i32_276 : BitVec 32 := 8#32
  let v420 : BitVec 32 := Scalar.addi v419 c8_i32_276
  v420
def k0_mult15 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_279 : BitVec 32 := 0#32
  let v427 : BitVec 32 := Scalar.addi v321 c0_i32_279
  let c16_i32_280 : BitVec 32 := 16#32
  let v428 : BitVec 32 := Scalar.addi v427 c16_i32_280
  v428
def k0_mult16 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_283 : BitVec 32 := 0#32
  let v435 : BitVec 32 := Scalar.addi v321 c0_i32_283
  let c24_i32_284 : BitVec 32 := 24#32
  let v436 : BitVec 32 := Scalar.addi v435 c24_i32_284
  v436
def k0_mult17 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_293 : BitVec 32 := 0#32
  let v449 : BitVec 32 := Scalar.addi v321 c0_i32_293
  v449
def k0_off5 (k0_t1 : Fin k0_t1_loop.trips) (c0_i32_293 : BitVec 32) : Fin 2 → Nat :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let v449 : BitVec 32 := Scalar.addi v321 c0_i32_293
  let v450 : BitVec 32 := v449
  let v451 : Index := Scalar.indexCast v450
  let c512_294 : Index := 512#32
  ![v451.toNat, 512]
def k0_mult18 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c8_i32_295 : BitVec 32 := 8#32
  let v453 : BitVec 32 := Scalar.addi v321 c8_i32_295
  v453
def k0_mult19 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c16_i32_297 : BitVec 32 := 16#32
  let v457 : BitVec 32 := Scalar.addi v321 c16_i32_297
  v457
def k0_mult20 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c24_i32_299 : BitVec 32 := 24#32
  let v461 : BitVec 32 := Scalar.addi v321 c24_i32_299
  v461
def k0_mult21 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_301 : BitVec 32 := 0#32
  let v465 : BitVec 32 := Scalar.addi v321 c0_i32_301
  let c0_i32_302 : BitVec 32 := 0#32
  let v466 : BitVec 32 := Scalar.addi v465 c0_i32_302
  v466
def k0_off6 (k0_t1 : Fin k0_t1_loop.trips) (c0_i32_302 : BitVec 32) : Fin 3 → Nat :=
  let c2_303 : Index := 2#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_301 : BitVec 32 := 0#32
  let v465 : BitVec 32 := Scalar.addi v321 c0_i32_301
  let v466 : BitVec 32 := Scalar.addi v465 c0_i32_302
  let v467 : BitVec 32 := v466
  let v468 : Index := Scalar.indexCast v467
  let c512_304 : Index := 512#32
  ![2, v468.toNat, 512]
def k0_mult22 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_305 : BitVec 32 := 0#32
  let v472 : BitVec 32 := Scalar.addi v321 c0_i32_305
  let c8_i32_306 : BitVec 32 := 8#32
  let v473 : BitVec 32 := Scalar.addi v472 c8_i32_306
  v473
def k0_mult23 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_309 : BitVec 32 := 0#32
  let v480 : BitVec 32 := Scalar.addi v321 c0_i32_309
  let c16_i32_310 : BitVec 32 := 16#32
  let v481 : BitVec 32 := Scalar.addi v480 c16_i32_310
  v481
def k0_mult24 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_313 : BitVec 32 := 0#32
  let v488 : BitVec 32 := Scalar.addi v321 c0_i32_313
  let c24_i32_314 : BitVec 32 := 24#32
  let v489 : BitVec 32 := Scalar.addi v488 c24_i32_314
  v489
def k0_mult25 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_323 : BitVec 32 := 0#32
  let v502 : BitVec 32 := Scalar.addi v321 c0_i32_323
  let c0_i32_324 : BitVec 32 := 0#32
  let v503 : BitVec 32 := Scalar.addi v502 c0_i32_324
  v503
def k0_off7 (k0_t1 : Fin k0_t1_loop.trips) (c0_i32_324 : BitVec 32) : Fin 3 → Nat :=
  let c1_325 : Index := 1#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_323 : BitVec 32 := 0#32
  let v502 : BitVec 32 := Scalar.addi v321 c0_i32_323
  let v503 : BitVec 32 := Scalar.addi v502 c0_i32_324
  let v504 : BitVec 32 := v503
  let v505 : Index := Scalar.indexCast v504
  let c512_326 : Index := 512#32
  ![1, v505.toNat, 512]
def k0_mult26 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_327 : BitVec 32 := 0#32
  let v509 : BitVec 32 := Scalar.addi v321 c0_i32_327
  let c8_i32_328 : BitVec 32 := 8#32
  let v510 : BitVec 32 := Scalar.addi v509 c8_i32_328
  v510
def k0_mult27 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_331 : BitVec 32 := 0#32
  let v517 : BitVec 32 := Scalar.addi v321 c0_i32_331
  let c16_i32_332 : BitVec 32 := 16#32
  let v518 : BitVec 32 := Scalar.addi v517 c16_i32_332
  v518
def k0_mult28 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_335 : BitVec 32 := 0#32
  let v525 : BitVec 32 := Scalar.addi v321 c0_i32_335
  let c24_i32_336 : BitVec 32 := 24#32
  let v526 : BitVec 32 := Scalar.addi v525 c24_i32_336
  v526
def k0_mult29 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_345 : BitVec 32 := 0#32
  let v539 : BitVec 32 := Scalar.addi v321 c0_i32_345
  let c0_i32_346 : BitVec 32 := 0#32
  let v540 : BitVec 32 := Scalar.addi v539 c0_i32_346
  v540
def k0_off8 (k0_t1 : Fin k0_t1_loop.trips) (c0_i32_346 : BitVec 32) : Fin 3 → Nat :=
  let c0_347 : Index := 0#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_345 : BitVec 32 := 0#32
  let v539 : BitVec 32 := Scalar.addi v321 c0_i32_345
  let v540 : BitVec 32 := Scalar.addi v539 c0_i32_346
  let v541 : BitVec 32 := v540
  let v542 : Index := Scalar.indexCast v541
  let c512_348 : Index := 512#32
  ![0, v542.toNat, 512]
def k0_mult30 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_349 : BitVec 32 := 0#32
  let v546 : BitVec 32 := Scalar.addi v321 c0_i32_349
  let c8_i32_350 : BitVec 32 := 8#32
  let v547 : BitVec 32 := Scalar.addi v546 c8_i32_350
  v547
def k0_mult31 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_353 : BitVec 32 := 0#32
  let v554 : BitVec 32 := Scalar.addi v321 c0_i32_353
  let c16_i32_354 : BitVec 32 := 16#32
  let v555 : BitVec 32 := Scalar.addi v554 c16_i32_354
  v555
def k0_mult32 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_357 : BitVec 32 := 0#32
  let v562 : BitVec 32 := Scalar.addi v321 c0_i32_357
  let c24_i32_358 : BitVec 32 := 24#32
  let v563 : BitVec 32 := Scalar.addi v562 c24_i32_358
  v563
def k0_mult33 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_367 : BitVec 32 := 0#32
  let v576 : BitVec 32 := Scalar.addi v321 c0_i32_367
  v576
def k0_off9 (k0_t1 : Fin k0_t1_loop.trips) (c0_i32_367 : BitVec 32) : Fin 2 → Nat :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let v576 : BitVec 32 := Scalar.addi v321 c0_i32_367
  let v577 : BitVec 32 := v576
  let v578 : Index := Scalar.indexCast v577
  let c1024_368 : Index := 1024#32
  ![v578.toNat, 1024]
def k0_mult34 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c8_i32_369 : BitVec 32 := 8#32
  let v580 : BitVec 32 := Scalar.addi v321 c8_i32_369
  v580
def k0_mult35 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c16_i32_371 : BitVec 32 := 16#32
  let v584 : BitVec 32 := Scalar.addi v321 c16_i32_371
  v584
def k0_mult36 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c24_i32_373 : BitVec 32 := 24#32
  let v588 : BitVec 32 := Scalar.addi v321 c24_i32_373
  v588
def k0_mult37 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_375 : BitVec 32 := 0#32
  let v592 : BitVec 32 := Scalar.addi v321 c0_i32_375
  let c0_i32_376 : BitVec 32 := 0#32
  let v593 : BitVec 32 := Scalar.addi v592 c0_i32_376
  v593
def k0_off10 (k0_t1 : Fin k0_t1_loop.trips) (c0_i32_376 : BitVec 32) : Fin 3 → Nat :=
  let c2_377 : Index := 2#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_375 : BitVec 32 := 0#32
  let v592 : BitVec 32 := Scalar.addi v321 c0_i32_375
  let v593 : BitVec 32 := Scalar.addi v592 c0_i32_376
  let v594 : BitVec 32 := v593
  let v595 : Index := Scalar.indexCast v594
  let c1024_378 : Index := 1024#32
  ![2, v595.toNat, 1024]
def k0_mult38 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_379 : BitVec 32 := 0#32
  let v599 : BitVec 32 := Scalar.addi v321 c0_i32_379
  let c8_i32_380 : BitVec 32 := 8#32
  let v600 : BitVec 32 := Scalar.addi v599 c8_i32_380
  v600
def k0_mult39 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_383 : BitVec 32 := 0#32
  let v607 : BitVec 32 := Scalar.addi v321 c0_i32_383
  let c16_i32_384 : BitVec 32 := 16#32
  let v608 : BitVec 32 := Scalar.addi v607 c16_i32_384
  v608
def k0_mult40 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_387 : BitVec 32 := 0#32
  let v615 : BitVec 32 := Scalar.addi v321 c0_i32_387
  let c24_i32_388 : BitVec 32 := 24#32
  let v616 : BitVec 32 := Scalar.addi v615 c24_i32_388
  v616
def k0_mult41 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_397 : BitVec 32 := 0#32
  let v629 : BitVec 32 := Scalar.addi v321 c0_i32_397
  let c0_i32_398 : BitVec 32 := 0#32
  let v630 : BitVec 32 := Scalar.addi v629 c0_i32_398
  v630
def k0_off11 (k0_t1 : Fin k0_t1_loop.trips) (c0_i32_398 : BitVec 32) : Fin 3 → Nat :=
  let c1_399 : Index := 1#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_397 : BitVec 32 := 0#32
  let v629 : BitVec 32 := Scalar.addi v321 c0_i32_397
  let v630 : BitVec 32 := Scalar.addi v629 c0_i32_398
  let v631 : BitVec 32 := v630
  let v632 : Index := Scalar.indexCast v631
  let c1024_400 : Index := 1024#32
  ![1, v632.toNat, 1024]
def k0_mult42 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_401 : BitVec 32 := 0#32
  let v636 : BitVec 32 := Scalar.addi v321 c0_i32_401
  let c8_i32_402 : BitVec 32 := 8#32
  let v637 : BitVec 32 := Scalar.addi v636 c8_i32_402
  v637
def k0_mult43 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_405 : BitVec 32 := 0#32
  let v644 : BitVec 32 := Scalar.addi v321 c0_i32_405
  let c16_i32_406 : BitVec 32 := 16#32
  let v645 : BitVec 32 := Scalar.addi v644 c16_i32_406
  v645
def k0_mult44 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_409 : BitVec 32 := 0#32
  let v652 : BitVec 32 := Scalar.addi v321 c0_i32_409
  let c24_i32_410 : BitVec 32 := 24#32
  let v653 : BitVec 32 := Scalar.addi v652 c24_i32_410
  v653
def k0_mult45 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_419 : BitVec 32 := 0#32
  let v666 : BitVec 32 := Scalar.addi v321 c0_i32_419
  let c0_i32_420 : BitVec 32 := 0#32
  let v667 : BitVec 32 := Scalar.addi v666 c0_i32_420
  v667
def k0_off12 (k0_t1 : Fin k0_t1_loop.trips) (c0_i32_420 : BitVec 32) : Fin 3 → Nat :=
  let c0_421 : Index := 0#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_419 : BitVec 32 := 0#32
  let v666 : BitVec 32 := Scalar.addi v321 c0_i32_419
  let v667 : BitVec 32 := Scalar.addi v666 c0_i32_420
  let v668 : BitVec 32 := v667
  let v669 : Index := Scalar.indexCast v668
  let c1024_422 : Index := 1024#32
  ![0, v669.toNat, 1024]
def k0_mult46 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_423 : BitVec 32 := 0#32
  let v673 : BitVec 32 := Scalar.addi v321 c0_i32_423
  let c8_i32_424 : BitVec 32 := 8#32
  let v674 : BitVec 32 := Scalar.addi v673 c8_i32_424
  v674
def k0_mult47 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_427 : BitVec 32 := 0#32
  let v681 : BitVec 32 := Scalar.addi v321 c0_i32_427
  let c16_i32_428 : BitVec 32 := 16#32
  let v682 : BitVec 32 := Scalar.addi v681 c16_i32_428
  v682
def k0_mult48 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_431 : BitVec 32 := 0#32
  let v689 : BitVec 32 := Scalar.addi v321 c0_i32_431
  let c24_i32_432 : BitVec 32 := 24#32
  let v690 : BitVec 32 := Scalar.addi v689 c24_i32_432
  v690
def k0_mult49 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_441 : BitVec 32 := 0#32
  let v703 : BitVec 32 := Scalar.addi v321 c0_i32_441
  v703
def k0_off13 (k0_t1 : Fin k0_t1_loop.trips) (c0_i32_441 : BitVec 32) : Fin 2 → Nat :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let v703 : BitVec 32 := Scalar.addi v321 c0_i32_441
  let v704 : BitVec 32 := v703
  let v705 : Index := Scalar.indexCast v704
  let c1536_442 : Index := 1536#32
  ![v705.toNat, 1536]
def k0_mult50 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c8_i32_443 : BitVec 32 := 8#32
  let v707 : BitVec 32 := Scalar.addi v321 c8_i32_443
  v707
def k0_mult51 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c16_i32_445 : BitVec 32 := 16#32
  let v711 : BitVec 32 := Scalar.addi v321 c16_i32_445
  v711
def k0_mult52 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c24_i32_447 : BitVec 32 := 24#32
  let v715 : BitVec 32 := Scalar.addi v321 c24_i32_447
  v715
def k0_mult53 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_449 : BitVec 32 := 0#32
  let v719 : BitVec 32 := Scalar.addi v321 c0_i32_449
  let c0_i32_450 : BitVec 32 := 0#32
  let v720 : BitVec 32 := Scalar.addi v719 c0_i32_450
  v720
def k0_off14 (k0_t1 : Fin k0_t1_loop.trips) (c0_i32_450 : BitVec 32) : Fin 3 → Nat :=
  let c2_451 : Index := 2#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_449 : BitVec 32 := 0#32
  let v719 : BitVec 32 := Scalar.addi v321 c0_i32_449
  let v720 : BitVec 32 := Scalar.addi v719 c0_i32_450
  let v721 : BitVec 32 := v720
  let v722 : Index := Scalar.indexCast v721
  let c1536_452 : Index := 1536#32
  ![2, v722.toNat, 1536]
def k0_mult54 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_453 : BitVec 32 := 0#32
  let v726 : BitVec 32 := Scalar.addi v321 c0_i32_453
  let c8_i32_454 : BitVec 32 := 8#32
  let v727 : BitVec 32 := Scalar.addi v726 c8_i32_454
  v727
def k0_mult55 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_457 : BitVec 32 := 0#32
  let v734 : BitVec 32 := Scalar.addi v321 c0_i32_457
  let c16_i32_458 : BitVec 32 := 16#32
  let v735 : BitVec 32 := Scalar.addi v734 c16_i32_458
  v735
def k0_mult56 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_461 : BitVec 32 := 0#32
  let v742 : BitVec 32 := Scalar.addi v321 c0_i32_461
  let c24_i32_462 : BitVec 32 := 24#32
  let v743 : BitVec 32 := Scalar.addi v742 c24_i32_462
  v743
def k0_mult57 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_471 : BitVec 32 := 0#32
  let v756 : BitVec 32 := Scalar.addi v321 c0_i32_471
  let c0_i32_472 : BitVec 32 := 0#32
  let v757 : BitVec 32 := Scalar.addi v756 c0_i32_472
  v757
def k0_off15 (k0_t1 : Fin k0_t1_loop.trips) (c0_i32_472 : BitVec 32) : Fin 3 → Nat :=
  let c1_473 : Index := 1#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_471 : BitVec 32 := 0#32
  let v756 : BitVec 32 := Scalar.addi v321 c0_i32_471
  let v757 : BitVec 32 := Scalar.addi v756 c0_i32_472
  let v758 : BitVec 32 := v757
  let v759 : Index := Scalar.indexCast v758
  let c1536_474 : Index := 1536#32
  ![1, v759.toNat, 1536]
def k0_mult58 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_475 : BitVec 32 := 0#32
  let v763 : BitVec 32 := Scalar.addi v321 c0_i32_475
  let c8_i32_476 : BitVec 32 := 8#32
  let v764 : BitVec 32 := Scalar.addi v763 c8_i32_476
  v764
def k0_mult59 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_479 : BitVec 32 := 0#32
  let v771 : BitVec 32 := Scalar.addi v321 c0_i32_479
  let c16_i32_480 : BitVec 32 := 16#32
  let v772 : BitVec 32 := Scalar.addi v771 c16_i32_480
  v772
def k0_mult60 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_483 : BitVec 32 := 0#32
  let v779 : BitVec 32 := Scalar.addi v321 c0_i32_483
  let c24_i32_484 : BitVec 32 := 24#32
  let v780 : BitVec 32 := Scalar.addi v779 c24_i32_484
  v780
def k0_mult61 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_493 : BitVec 32 := 0#32
  let v793 : BitVec 32 := Scalar.addi v321 c0_i32_493
  let c0_i32_494 : BitVec 32 := 0#32
  let v794 : BitVec 32 := Scalar.addi v793 c0_i32_494
  v794
def k0_off16 (k0_t1 : Fin k0_t1_loop.trips) (c0_i32_494 : BitVec 32) : Fin 3 → Nat :=
  let c0_495 : Index := 0#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_493 : BitVec 32 := 0#32
  let v793 : BitVec 32 := Scalar.addi v321 c0_i32_493
  let v794 : BitVec 32 := Scalar.addi v793 c0_i32_494
  let v795 : BitVec 32 := v794
  let v796 : Index := Scalar.indexCast v795
  let c1536_496 : Index := 1536#32
  ![0, v796.toNat, 1536]
def k0_mult62 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_497 : BitVec 32 := 0#32
  let v800 : BitVec 32 := Scalar.addi v321 c0_i32_497
  let c8_i32_498 : BitVec 32 := 8#32
  let v801 : BitVec 32 := Scalar.addi v800 c8_i32_498
  v801
def k0_mult63 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_501 : BitVec 32 := 0#32
  let v808 : BitVec 32 := Scalar.addi v321 c0_i32_501
  let c16_i32_502 : BitVec 32 := 16#32
  let v809 : BitVec 32 := Scalar.addi v808 c16_i32_502
  v809
def k0_mult64 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_505 : BitVec 32 := 0#32
  let v816 : BitVec 32 := Scalar.addi v321 c0_i32_505
  let c24_i32_506 : BitVec 32 := 24#32
  let v817 : BitVec 32 := Scalar.addi v816 c24_i32_506
  v817
def k0_mult65 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_515 : BitVec 32 := 0#32
  let v830 : BitVec 32 := Scalar.addi v321 c0_i32_515
  v830
def k0_off17 (k0_t1 : Fin k0_t1_loop.trips) (c0_i32_515 : BitVec 32) : Fin 2 → Nat :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let v830 : BitVec 32 := Scalar.addi v321 c0_i32_515
  let v831 : BitVec 32 := v830
  let v832 : Index := Scalar.indexCast v831
  let c2048_516 : Index := 2048#32
  ![v832.toNat, 2048]
def k0_mult66 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c8_i32_517 : BitVec 32 := 8#32
  let v834 : BitVec 32 := Scalar.addi v321 c8_i32_517
  v834
def k0_mult67 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c16_i32_519 : BitVec 32 := 16#32
  let v838 : BitVec 32 := Scalar.addi v321 c16_i32_519
  v838
def k0_mult68 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c24_i32_521 : BitVec 32 := 24#32
  let v842 : BitVec 32 := Scalar.addi v321 c24_i32_521
  v842
def k0_mult69 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_523 : BitVec 32 := 0#32
  let v846 : BitVec 32 := Scalar.addi v321 c0_i32_523
  let c0_i32_524 : BitVec 32 := 0#32
  let v847 : BitVec 32 := Scalar.addi v846 c0_i32_524
  v847
def k0_off18 (k0_t1 : Fin k0_t1_loop.trips) (c0_i32_524 : BitVec 32) : Fin 3 → Nat :=
  let c2_525 : Index := 2#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_523 : BitVec 32 := 0#32
  let v846 : BitVec 32 := Scalar.addi v321 c0_i32_523
  let v847 : BitVec 32 := Scalar.addi v846 c0_i32_524
  let v848 : BitVec 32 := v847
  let v849 : Index := Scalar.indexCast v848
  let c2048_526 : Index := 2048#32
  ![2, v849.toNat, 2048]
def k0_mult70 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_527 : BitVec 32 := 0#32
  let v853 : BitVec 32 := Scalar.addi v321 c0_i32_527
  let c8_i32_528 : BitVec 32 := 8#32
  let v854 : BitVec 32 := Scalar.addi v853 c8_i32_528
  v854
def k0_mult71 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_531 : BitVec 32 := 0#32
  let v861 : BitVec 32 := Scalar.addi v321 c0_i32_531
  let c16_i32_532 : BitVec 32 := 16#32
  let v862 : BitVec 32 := Scalar.addi v861 c16_i32_532
  v862
def k0_mult72 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_535 : BitVec 32 := 0#32
  let v869 : BitVec 32 := Scalar.addi v321 c0_i32_535
  let c24_i32_536 : BitVec 32 := 24#32
  let v870 : BitVec 32 := Scalar.addi v869 c24_i32_536
  v870
def k0_mult73 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_545 : BitVec 32 := 0#32
  let v883 : BitVec 32 := Scalar.addi v321 c0_i32_545
  let c0_i32_546 : BitVec 32 := 0#32
  let v884 : BitVec 32 := Scalar.addi v883 c0_i32_546
  v884
def k0_off19 (k0_t1 : Fin k0_t1_loop.trips) (c0_i32_546 : BitVec 32) : Fin 3 → Nat :=
  let c1_547 : Index := 1#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_545 : BitVec 32 := 0#32
  let v883 : BitVec 32 := Scalar.addi v321 c0_i32_545
  let v884 : BitVec 32 := Scalar.addi v883 c0_i32_546
  let v885 : BitVec 32 := v884
  let v886 : Index := Scalar.indexCast v885
  let c2048_548 : Index := 2048#32
  ![1, v886.toNat, 2048]
def k0_mult74 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_549 : BitVec 32 := 0#32
  let v890 : BitVec 32 := Scalar.addi v321 c0_i32_549
  let c8_i32_550 : BitVec 32 := 8#32
  let v891 : BitVec 32 := Scalar.addi v890 c8_i32_550
  v891
def k0_mult75 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_553 : BitVec 32 := 0#32
  let v898 : BitVec 32 := Scalar.addi v321 c0_i32_553
  let c16_i32_554 : BitVec 32 := 16#32
  let v899 : BitVec 32 := Scalar.addi v898 c16_i32_554
  v899
def k0_mult76 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_557 : BitVec 32 := 0#32
  let v906 : BitVec 32 := Scalar.addi v321 c0_i32_557
  let c24_i32_558 : BitVec 32 := 24#32
  let v907 : BitVec 32 := Scalar.addi v906 c24_i32_558
  v907
def k0_mult77 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_567 : BitVec 32 := 0#32
  let v920 : BitVec 32 := Scalar.addi v321 c0_i32_567
  let c0_i32_568 : BitVec 32 := 0#32
  let v921 : BitVec 32 := Scalar.addi v920 c0_i32_568
  v921
def k0_off20 (k0_t1 : Fin k0_t1_loop.trips) (c0_i32_568 : BitVec 32) : Fin 3 → Nat :=
  let c0_569 : Index := 0#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_567 : BitVec 32 := 0#32
  let v920 : BitVec 32 := Scalar.addi v321 c0_i32_567
  let v921 : BitVec 32 := Scalar.addi v920 c0_i32_568
  let v922 : BitVec 32 := v921
  let v923 : Index := Scalar.indexCast v922
  let c2048_570 : Index := 2048#32
  ![0, v923.toNat, 2048]
def k0_mult78 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_571 : BitVec 32 := 0#32
  let v927 : BitVec 32 := Scalar.addi v321 c0_i32_571
  let c8_i32_572 : BitVec 32 := 8#32
  let v928 : BitVec 32 := Scalar.addi v927 c8_i32_572
  v928
def k0_mult79 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_575 : BitVec 32 := 0#32
  let v935 : BitVec 32 := Scalar.addi v321 c0_i32_575
  let c16_i32_576 : BitVec 32 := 16#32
  let v936 : BitVec 32 := Scalar.addi v935 c16_i32_576
  v936
def k0_mult80 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_579 : BitVec 32 := 0#32
  let v943 : BitVec 32 := Scalar.addi v321 c0_i32_579
  let c24_i32_580 : BitVec 32 := 24#32
  let v944 : BitVec 32 := Scalar.addi v943 c24_i32_580
  v944
def k0_mult81 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_589 : BitVec 32 := 0#32
  let v957 : BitVec 32 := Scalar.addi v321 c0_i32_589
  v957
def k0_off21 (k0_t1 : Fin k0_t1_loop.trips) (c0_i32_589 : BitVec 32) : Fin 2 → Nat :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let v957 : BitVec 32 := Scalar.addi v321 c0_i32_589
  let v958 : BitVec 32 := v957
  let v959 : Index := Scalar.indexCast v958
  let c2560_590 : Index := 2560#32
  ![v959.toNat, 2560]
def k0_mult82 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c8_i32_591 : BitVec 32 := 8#32
  let v961 : BitVec 32 := Scalar.addi v321 c8_i32_591
  v961
def k0_mult83 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c16_i32_593 : BitVec 32 := 16#32
  let v965 : BitVec 32 := Scalar.addi v321 c16_i32_593
  v965
def k0_mult84 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c24_i32_595 : BitVec 32 := 24#32
  let v969 : BitVec 32 := Scalar.addi v321 c24_i32_595
  v969
def k0_mult85 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_597 : BitVec 32 := 0#32
  let v973 : BitVec 32 := Scalar.addi v321 c0_i32_597
  let c0_i32_598 : BitVec 32 := 0#32
  let v974 : BitVec 32 := Scalar.addi v973 c0_i32_598
  v974
def k0_off22 (k0_t1 : Fin k0_t1_loop.trips) (c0_i32_598 : BitVec 32) : Fin 3 → Nat :=
  let c2_599 : Index := 2#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_597 : BitVec 32 := 0#32
  let v973 : BitVec 32 := Scalar.addi v321 c0_i32_597
  let v974 : BitVec 32 := Scalar.addi v973 c0_i32_598
  let v975 : BitVec 32 := v974
  let v976 : Index := Scalar.indexCast v975
  let c2560_600 : Index := 2560#32
  ![2, v976.toNat, 2560]
def k0_mult86 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_601 : BitVec 32 := 0#32
  let v980 : BitVec 32 := Scalar.addi v321 c0_i32_601
  let c8_i32_602 : BitVec 32 := 8#32
  let v981 : BitVec 32 := Scalar.addi v980 c8_i32_602
  v981
def k0_mult87 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_605 : BitVec 32 := 0#32
  let v988 : BitVec 32 := Scalar.addi v321 c0_i32_605
  let c16_i32_606 : BitVec 32 := 16#32
  let v989 : BitVec 32 := Scalar.addi v988 c16_i32_606
  v989
def k0_mult88 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_609 : BitVec 32 := 0#32
  let v996 : BitVec 32 := Scalar.addi v321 c0_i32_609
  let c24_i32_610 : BitVec 32 := 24#32
  let v997 : BitVec 32 := Scalar.addi v996 c24_i32_610
  v997
def k0_mult89 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_619 : BitVec 32 := 0#32
  let v1010 : BitVec 32 := Scalar.addi v321 c0_i32_619
  let c0_i32_620 : BitVec 32 := 0#32
  let v1011 : BitVec 32 := Scalar.addi v1010 c0_i32_620
  v1011
def k0_off23 (k0_t1 : Fin k0_t1_loop.trips) (c0_i32_620 : BitVec 32) : Fin 3 → Nat :=
  let c1_621 : Index := 1#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_619 : BitVec 32 := 0#32
  let v1010 : BitVec 32 := Scalar.addi v321 c0_i32_619
  let v1011 : BitVec 32 := Scalar.addi v1010 c0_i32_620
  let v1012 : BitVec 32 := v1011
  let v1013 : Index := Scalar.indexCast v1012
  let c2560_622 : Index := 2560#32
  ![1, v1013.toNat, 2560]
def k0_mult90 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_623 : BitVec 32 := 0#32
  let v1017 : BitVec 32 := Scalar.addi v321 c0_i32_623
  let c8_i32_624 : BitVec 32 := 8#32
  let v1018 : BitVec 32 := Scalar.addi v1017 c8_i32_624
  v1018
def k0_mult91 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_627 : BitVec 32 := 0#32
  let v1025 : BitVec 32 := Scalar.addi v321 c0_i32_627
  let c16_i32_628 : BitVec 32 := 16#32
  let v1026 : BitVec 32 := Scalar.addi v1025 c16_i32_628
  v1026
def k0_mult92 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_631 : BitVec 32 := 0#32
  let v1033 : BitVec 32 := Scalar.addi v321 c0_i32_631
  let c24_i32_632 : BitVec 32 := 24#32
  let v1034 : BitVec 32 := Scalar.addi v1033 c24_i32_632
  v1034
def k0_mult93 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_641 : BitVec 32 := 0#32
  let v1047 : BitVec 32 := Scalar.addi v321 c0_i32_641
  let c0_i32_642 : BitVec 32 := 0#32
  let v1048 : BitVec 32 := Scalar.addi v1047 c0_i32_642
  v1048
def k0_off24 (k0_t1 : Fin k0_t1_loop.trips) (c0_i32_642 : BitVec 32) : Fin 3 → Nat :=
  let c0_643 : Index := 0#32
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_641 : BitVec 32 := 0#32
  let v1047 : BitVec 32 := Scalar.addi v321 c0_i32_641
  let v1048 : BitVec 32 := Scalar.addi v1047 c0_i32_642
  let v1049 : BitVec 32 := v1048
  let v1050 : Index := Scalar.indexCast v1049
  let c2560_644 : Index := 2560#32
  ![0, v1050.toNat, 2560]
def k0_mult94 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_645 : BitVec 32 := 0#32
  let v1054 : BitVec 32 := Scalar.addi v321 c0_i32_645
  let c8_i32_646 : BitVec 32 := 8#32
  let v1055 : BitVec 32 := Scalar.addi v1054 c8_i32_646
  v1055
def k0_mult95 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_649 : BitVec 32 := 0#32
  let v1062 : BitVec 32 := Scalar.addi v321 c0_i32_649
  let c16_i32_650 : BitVec 32 := 16#32
  let v1063 : BitVec 32 := Scalar.addi v1062 c16_i32_650
  v1063
def k0_mult96 (k0_t1 : Fin k0_t1_loop.trips) : BitVec 32 :=
  let c0_i32_203 : BitVec 32 := 0#32
  let c1_i32_204 : BitVec 32 := 1#32
  let arg14 : BitVec 32 := Scf.iv c0_i32_203 c1_i32_204 k0_t1
  let c32_i32 : BitVec 32 := 32#32
  let v321 : BitVec 32 := Scalar.muli arg14 c32_i32
  let c0_i32_653 : BitVec 32 := 0#32
  let v1070 : BitVec 32 := Scalar.addi v321 c0_i32_653
  let c24_i32_654 : BitVec 32 := 24#32
  let v1071 : BitVec 32 := Scalar.addi v1070 c24_i32_654
  v1071
@[reducible] def k0_t2_loop : Scf.Loop 32 :=
  let c0_i32_206 : BitVec 32 := 0#32
  let c8_i32_207 : BitVec 32 := 8#32
  let v309 : BitVec 32 := Scalar.addi c0_i32_206 c8_i32_207
  let c1_i32_208 : BitVec 32 := 1#32
  ⟨c0_i32_206, v309, c1_i32_208⟩
def k0_mult97 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_224 : BitVec 32 := 0#32
  let v324 : BitVec 32 := Scalar.addi v321 c0_i32_224
  let c0_i32_225 : BitVec 32 := 0#32
  let v325 : BitVec 32 := Scalar.addi v324 c0_i32_225
  v325
def k0_off25 (k0_t2 : Fin k0_t2_loop.trips) (c0_i32_225 : BitVec 32) : Fin 3 → Nat :=
  let c2_226 : Index := 2#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_224 : BitVec 32 := 0#32
  let v324 : BitVec 32 := Scalar.addi v321 c0_i32_224
  let v325 : BitVec 32 := Scalar.addi v324 c0_i32_225
  let v326 : BitVec 32 := v325
  let v327 : Index := Scalar.indexCast v326
  let c0_227 : Index := 0#32
  ![2, v327.toNat, 0]
def k0_mult98 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_228 : BitVec 32 := 0#32
  let v331 : BitVec 32 := Scalar.addi v321 c0_i32_228
  let c8_i32_229 : BitVec 32 := 8#32
  let v332 : BitVec 32 := Scalar.addi v331 c8_i32_229
  v332
def k0_mult99 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_232 : BitVec 32 := 0#32
  let v338 : BitVec 32 := Scalar.addi v321 c0_i32_232
  let c16_i32 : BitVec 32 := 16#32
  let v339 : BitVec 32 := Scalar.addi v338 c16_i32
  v339
def k0_mult100 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_235 : BitVec 32 := 0#32
  let v345 : BitVec 32 := Scalar.addi v321 c0_i32_235
  let c24_i32 : BitVec 32 := 24#32
  let v346 : BitVec 32 := Scalar.addi v345 c24_i32
  v346
def k0_mult101 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_241 : BitVec 32 := 0#32
  let v354 : BitVec 32 := Scalar.addi v321 c0_i32_241
  let c0_i32_242 : BitVec 32 := 0#32
  let v355 : BitVec 32 := Scalar.addi v354 c0_i32_242
  v355
def k0_off26 (k0_t2 : Fin k0_t2_loop.trips) (c0_i32_242 : BitVec 32) : Fin 3 → Nat :=
  let c1_243 : Index := 1#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_241 : BitVec 32 := 0#32
  let v354 : BitVec 32 := Scalar.addi v321 c0_i32_241
  let v355 : BitVec 32 := Scalar.addi v354 c0_i32_242
  let v356 : BitVec 32 := v355
  let v357 : Index := Scalar.indexCast v356
  let c0_244 : Index := 0#32
  ![1, v357.toNat, 0]
def k0_mult102 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_245 : BitVec 32 := 0#32
  let v362 : BitVec 32 := Scalar.addi v321 c0_i32_245
  let c8_i32_246 : BitVec 32 := 8#32
  let v363 : BitVec 32 := Scalar.addi v362 c8_i32_246
  v363
def k0_mult103 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_249 : BitVec 32 := 0#32
  let v370 : BitVec 32 := Scalar.addi v321 c0_i32_249
  let c16_i32_250 : BitVec 32 := 16#32
  let v371 : BitVec 32 := Scalar.addi v370 c16_i32_250
  v371
def k0_mult104 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_253 : BitVec 32 := 0#32
  let v378 : BitVec 32 := Scalar.addi v321 c0_i32_253
  let c24_i32_254 : BitVec 32 := 24#32
  let v379 : BitVec 32 := Scalar.addi v378 c24_i32_254
  v379
def k0_mult105 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_260 : BitVec 32 := 0#32
  let v388 : BitVec 32 := Scalar.addi v321 c0_i32_260
  let c0_i32_261 : BitVec 32 := 0#32
  let v389 : BitVec 32 := Scalar.addi v388 c0_i32_261
  v389
def k0_off27 (k0_t2 : Fin k0_t2_loop.trips) (c0_i32_261 : BitVec 32) : Fin 3 → Nat :=
  let c0_262 : Index := 0#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_260 : BitVec 32 := 0#32
  let v388 : BitVec 32 := Scalar.addi v321 c0_i32_260
  let v389 : BitVec 32 := Scalar.addi v388 c0_i32_261
  let v390 : BitVec 32 := v389
  let v391 : Index := Scalar.indexCast v390
  let c0_263 : Index := 0#32
  ![0, v391.toNat, 0]
def k0_mult106 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_264 : BitVec 32 := 0#32
  let v396 : BitVec 32 := Scalar.addi v321 c0_i32_264
  let c8_i32_265 : BitVec 32 := 8#32
  let v397 : BitVec 32 := Scalar.addi v396 c8_i32_265
  v397
def k0_mult107 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_268 : BitVec 32 := 0#32
  let v404 : BitVec 32 := Scalar.addi v321 c0_i32_268
  let c16_i32_269 : BitVec 32 := 16#32
  let v405 : BitVec 32 := Scalar.addi v404 c16_i32_269
  v405
def k0_mult108 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_272 : BitVec 32 := 0#32
  let v412 : BitVec 32 := Scalar.addi v321 c0_i32_272
  let c24_i32_273 : BitVec 32 := 24#32
  let v413 : BitVec 32 := Scalar.addi v412 c24_i32_273
  v413
def k0_mult109 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_276 : BitVec 32 := 0#32
  let v420 : BitVec 32 := Scalar.addi v321 c0_i32_276
  v420
def k0_off28 (k0_t2 : Fin k0_t2_loop.trips) (c0_i32_276 : BitVec 32) : Fin 2 → Nat :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let v420 : BitVec 32 := Scalar.addi v321 c0_i32_276
  let v421 : BitVec 32 := v420
  let v422 : Index := Scalar.indexCast v421
  let c0_277 : Index := 0#32
  ![v422.toNat, 0]
def k0_mult110 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c8_i32_278 : BitVec 32 := 8#32
  let v426 : BitVec 32 := Scalar.addi v321 c8_i32_278
  v426
def k0_mult111 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c16_i32_280 : BitVec 32 := 16#32
  let v432 : BitVec 32 := Scalar.addi v321 c16_i32_280
  v432
def k0_mult112 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c24_i32_282 : BitVec 32 := 24#32
  let v438 : BitVec 32 := Scalar.addi v321 c24_i32_282
  v438
def k0_mult113 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_287 : BitVec 32 := 0#32
  let v446 : BitVec 32 := Scalar.addi v321 c0_i32_287
  let c0_i32_288 : BitVec 32 := 0#32
  let v447 : BitVec 32 := Scalar.addi v446 c0_i32_288
  v447
def k0_off29 (k0_t2 : Fin k0_t2_loop.trips) (c0_i32_288 : BitVec 32) : Fin 3 → Nat :=
  let c2_289 : Index := 2#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_287 : BitVec 32 := 0#32
  let v446 : BitVec 32 := Scalar.addi v321 c0_i32_287
  let v447 : BitVec 32 := Scalar.addi v446 c0_i32_288
  let v448 : BitVec 32 := v447
  let v449 : Index := Scalar.indexCast v448
  let c512_290 : Index := 512#32
  ![2, v449.toNat, 512]
def k0_mult114 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_291 : BitVec 32 := 0#32
  let v453 : BitVec 32 := Scalar.addi v321 c0_i32_291
  let c8_i32_292 : BitVec 32 := 8#32
  let v454 : BitVec 32 := Scalar.addi v453 c8_i32_292
  v454
def k0_mult115 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_295 : BitVec 32 := 0#32
  let v460 : BitVec 32 := Scalar.addi v321 c0_i32_295
  let c16_i32_296 : BitVec 32 := 16#32
  let v461 : BitVec 32 := Scalar.addi v460 c16_i32_296
  v461
def k0_mult116 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_299 : BitVec 32 := 0#32
  let v467 : BitVec 32 := Scalar.addi v321 c0_i32_299
  let c24_i32_300 : BitVec 32 := 24#32
  let v468 : BitVec 32 := Scalar.addi v467 c24_i32_300
  v468
def k0_mult117 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_306 : BitVec 32 := 0#32
  let v476 : BitVec 32 := Scalar.addi v321 c0_i32_306
  let c0_i32_307 : BitVec 32 := 0#32
  let v477 : BitVec 32 := Scalar.addi v476 c0_i32_307
  v477
def k0_off30 (k0_t2 : Fin k0_t2_loop.trips) (c0_i32_307 : BitVec 32) : Fin 3 → Nat :=
  let c1_308 : Index := 1#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_306 : BitVec 32 := 0#32
  let v476 : BitVec 32 := Scalar.addi v321 c0_i32_306
  let v477 : BitVec 32 := Scalar.addi v476 c0_i32_307
  let v478 : BitVec 32 := v477
  let v479 : Index := Scalar.indexCast v478
  let c512_309 : Index := 512#32
  ![1, v479.toNat, 512]
def k0_mult118 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_310 : BitVec 32 := 0#32
  let v484 : BitVec 32 := Scalar.addi v321 c0_i32_310
  let c8_i32_311 : BitVec 32 := 8#32
  let v485 : BitVec 32 := Scalar.addi v484 c8_i32_311
  v485
def k0_mult119 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_314 : BitVec 32 := 0#32
  let v492 : BitVec 32 := Scalar.addi v321 c0_i32_314
  let c16_i32_315 : BitVec 32 := 16#32
  let v493 : BitVec 32 := Scalar.addi v492 c16_i32_315
  v493
def k0_mult120 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_318 : BitVec 32 := 0#32
  let v500 : BitVec 32 := Scalar.addi v321 c0_i32_318
  let c24_i32_319 : BitVec 32 := 24#32
  let v501 : BitVec 32 := Scalar.addi v500 c24_i32_319
  v501
def k0_mult121 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_325 : BitVec 32 := 0#32
  let v510 : BitVec 32 := Scalar.addi v321 c0_i32_325
  let c0_i32_326 : BitVec 32 := 0#32
  let v511 : BitVec 32 := Scalar.addi v510 c0_i32_326
  v511
def k0_off31 (k0_t2 : Fin k0_t2_loop.trips) (c0_i32_326 : BitVec 32) : Fin 3 → Nat :=
  let c0_327 : Index := 0#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_325 : BitVec 32 := 0#32
  let v510 : BitVec 32 := Scalar.addi v321 c0_i32_325
  let v511 : BitVec 32 := Scalar.addi v510 c0_i32_326
  let v512 : BitVec 32 := v511
  let v513 : Index := Scalar.indexCast v512
  let c512_328 : Index := 512#32
  ![0, v513.toNat, 512]
def k0_mult122 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_329 : BitVec 32 := 0#32
  let v518 : BitVec 32 := Scalar.addi v321 c0_i32_329
  let c8_i32_330 : BitVec 32 := 8#32
  let v519 : BitVec 32 := Scalar.addi v518 c8_i32_330
  v519
def k0_mult123 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_333 : BitVec 32 := 0#32
  let v526 : BitVec 32 := Scalar.addi v321 c0_i32_333
  let c16_i32_334 : BitVec 32 := 16#32
  let v527 : BitVec 32 := Scalar.addi v526 c16_i32_334
  v527
def k0_mult124 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_337 : BitVec 32 := 0#32
  let v534 : BitVec 32 := Scalar.addi v321 c0_i32_337
  let c24_i32_338 : BitVec 32 := 24#32
  let v535 : BitVec 32 := Scalar.addi v534 c24_i32_338
  v535
def k0_mult125 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_341 : BitVec 32 := 0#32
  let v542 : BitVec 32 := Scalar.addi v321 c0_i32_341
  v542
def k0_off32 (k0_t2 : Fin k0_t2_loop.trips) (c0_i32_341 : BitVec 32) : Fin 2 → Nat :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let v542 : BitVec 32 := Scalar.addi v321 c0_i32_341
  let v543 : BitVec 32 := v542
  let v544 : Index := Scalar.indexCast v543
  let c512_342 : Index := 512#32
  ![v544.toNat, 512]
def k0_mult126 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c8_i32_343 : BitVec 32 := 8#32
  let v548 : BitVec 32 := Scalar.addi v321 c8_i32_343
  v548
def k0_mult127 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c16_i32_345 : BitVec 32 := 16#32
  let v554 : BitVec 32 := Scalar.addi v321 c16_i32_345
  v554
def k0_mult128 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c24_i32_347 : BitVec 32 := 24#32
  let v560 : BitVec 32 := Scalar.addi v321 c24_i32_347
  v560
def k0_mult129 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_352 : BitVec 32 := 0#32
  let v568 : BitVec 32 := Scalar.addi v321 c0_i32_352
  let c0_i32_353 : BitVec 32 := 0#32
  let v569 : BitVec 32 := Scalar.addi v568 c0_i32_353
  v569
def k0_off33 (k0_t2 : Fin k0_t2_loop.trips) (c0_i32_353 : BitVec 32) : Fin 3 → Nat :=
  let c2_354 : Index := 2#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_352 : BitVec 32 := 0#32
  let v568 : BitVec 32 := Scalar.addi v321 c0_i32_352
  let v569 : BitVec 32 := Scalar.addi v568 c0_i32_353
  let v570 : BitVec 32 := v569
  let v571 : Index := Scalar.indexCast v570
  let c1024_355 : Index := 1024#32
  ![2, v571.toNat, 1024]
def k0_mult130 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_356 : BitVec 32 := 0#32
  let v575 : BitVec 32 := Scalar.addi v321 c0_i32_356
  let c8_i32_357 : BitVec 32 := 8#32
  let v576 : BitVec 32 := Scalar.addi v575 c8_i32_357
  v576
def k0_mult131 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_360 : BitVec 32 := 0#32
  let v582 : BitVec 32 := Scalar.addi v321 c0_i32_360
  let c16_i32_361 : BitVec 32 := 16#32
  let v583 : BitVec 32 := Scalar.addi v582 c16_i32_361
  v583
def k0_mult132 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_364 : BitVec 32 := 0#32
  let v589 : BitVec 32 := Scalar.addi v321 c0_i32_364
  let c24_i32_365 : BitVec 32 := 24#32
  let v590 : BitVec 32 := Scalar.addi v589 c24_i32_365
  v590
def k0_mult133 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_371 : BitVec 32 := 0#32
  let v598 : BitVec 32 := Scalar.addi v321 c0_i32_371
  let c0_i32_372 : BitVec 32 := 0#32
  let v599 : BitVec 32 := Scalar.addi v598 c0_i32_372
  v599
def k0_off34 (k0_t2 : Fin k0_t2_loop.trips) (c0_i32_372 : BitVec 32) : Fin 3 → Nat :=
  let c1_373 : Index := 1#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_371 : BitVec 32 := 0#32
  let v598 : BitVec 32 := Scalar.addi v321 c0_i32_371
  let v599 : BitVec 32 := Scalar.addi v598 c0_i32_372
  let v600 : BitVec 32 := v599
  let v601 : Index := Scalar.indexCast v600
  let c1024_374 : Index := 1024#32
  ![1, v601.toNat, 1024]
def k0_mult134 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_375 : BitVec 32 := 0#32
  let v606 : BitVec 32 := Scalar.addi v321 c0_i32_375
  let c8_i32_376 : BitVec 32 := 8#32
  let v607 : BitVec 32 := Scalar.addi v606 c8_i32_376
  v607
def k0_mult135 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_379 : BitVec 32 := 0#32
  let v614 : BitVec 32 := Scalar.addi v321 c0_i32_379
  let c16_i32_380 : BitVec 32 := 16#32
  let v615 : BitVec 32 := Scalar.addi v614 c16_i32_380
  v615
def k0_mult136 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_383 : BitVec 32 := 0#32
  let v622 : BitVec 32 := Scalar.addi v321 c0_i32_383
  let c24_i32_384 : BitVec 32 := 24#32
  let v623 : BitVec 32 := Scalar.addi v622 c24_i32_384
  v623
def k0_mult137 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_390 : BitVec 32 := 0#32
  let v632 : BitVec 32 := Scalar.addi v321 c0_i32_390
  let c0_i32_391 : BitVec 32 := 0#32
  let v633 : BitVec 32 := Scalar.addi v632 c0_i32_391
  v633
def k0_off35 (k0_t2 : Fin k0_t2_loop.trips) (c0_i32_391 : BitVec 32) : Fin 3 → Nat :=
  let c0_392 : Index := 0#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_390 : BitVec 32 := 0#32
  let v632 : BitVec 32 := Scalar.addi v321 c0_i32_390
  let v633 : BitVec 32 := Scalar.addi v632 c0_i32_391
  let v634 : BitVec 32 := v633
  let v635 : Index := Scalar.indexCast v634
  let c1024_393 : Index := 1024#32
  ![0, v635.toNat, 1024]
def k0_mult138 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_394 : BitVec 32 := 0#32
  let v640 : BitVec 32 := Scalar.addi v321 c0_i32_394
  let c8_i32_395 : BitVec 32 := 8#32
  let v641 : BitVec 32 := Scalar.addi v640 c8_i32_395
  v641
def k0_mult139 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_398 : BitVec 32 := 0#32
  let v648 : BitVec 32 := Scalar.addi v321 c0_i32_398
  let c16_i32_399 : BitVec 32 := 16#32
  let v649 : BitVec 32 := Scalar.addi v648 c16_i32_399
  v649
def k0_mult140 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_402 : BitVec 32 := 0#32
  let v656 : BitVec 32 := Scalar.addi v321 c0_i32_402
  let c24_i32_403 : BitVec 32 := 24#32
  let v657 : BitVec 32 := Scalar.addi v656 c24_i32_403
  v657
def k0_mult141 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_406 : BitVec 32 := 0#32
  let v664 : BitVec 32 := Scalar.addi v321 c0_i32_406
  v664
def k0_off36 (k0_t2 : Fin k0_t2_loop.trips) (c0_i32_406 : BitVec 32) : Fin 2 → Nat :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let v664 : BitVec 32 := Scalar.addi v321 c0_i32_406
  let v665 : BitVec 32 := v664
  let v666 : Index := Scalar.indexCast v665
  let c1024_407 : Index := 1024#32
  ![v666.toNat, 1024]
def k0_mult142 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c8_i32_408 : BitVec 32 := 8#32
  let v670 : BitVec 32 := Scalar.addi v321 c8_i32_408
  v670
def k0_mult143 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c16_i32_410 : BitVec 32 := 16#32
  let v676 : BitVec 32 := Scalar.addi v321 c16_i32_410
  v676
def k0_mult144 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c24_i32_412 : BitVec 32 := 24#32
  let v682 : BitVec 32 := Scalar.addi v321 c24_i32_412
  v682
def k0_mult145 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_417 : BitVec 32 := 0#32
  let v690 : BitVec 32 := Scalar.addi v321 c0_i32_417
  let c0_i32_418 : BitVec 32 := 0#32
  let v691 : BitVec 32 := Scalar.addi v690 c0_i32_418
  v691
def k0_off37 (k0_t2 : Fin k0_t2_loop.trips) (c0_i32_418 : BitVec 32) : Fin 3 → Nat :=
  let c2_419 : Index := 2#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_417 : BitVec 32 := 0#32
  let v690 : BitVec 32 := Scalar.addi v321 c0_i32_417
  let v691 : BitVec 32 := Scalar.addi v690 c0_i32_418
  let v692 : BitVec 32 := v691
  let v693 : Index := Scalar.indexCast v692
  let c1536_420 : Index := 1536#32
  ![2, v693.toNat, 1536]
def k0_mult146 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_421 : BitVec 32 := 0#32
  let v697 : BitVec 32 := Scalar.addi v321 c0_i32_421
  let c8_i32_422 : BitVec 32 := 8#32
  let v698 : BitVec 32 := Scalar.addi v697 c8_i32_422
  v698
def k0_mult147 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_425 : BitVec 32 := 0#32
  let v704 : BitVec 32 := Scalar.addi v321 c0_i32_425
  let c16_i32_426 : BitVec 32 := 16#32
  let v705 : BitVec 32 := Scalar.addi v704 c16_i32_426
  v705
def k0_mult148 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_429 : BitVec 32 := 0#32
  let v711 : BitVec 32 := Scalar.addi v321 c0_i32_429
  let c24_i32_430 : BitVec 32 := 24#32
  let v712 : BitVec 32 := Scalar.addi v711 c24_i32_430
  v712
def k0_mult149 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_436 : BitVec 32 := 0#32
  let v720 : BitVec 32 := Scalar.addi v321 c0_i32_436
  let c0_i32_437 : BitVec 32 := 0#32
  let v721 : BitVec 32 := Scalar.addi v720 c0_i32_437
  v721
def k0_off38 (k0_t2 : Fin k0_t2_loop.trips) (c0_i32_437 : BitVec 32) : Fin 3 → Nat :=
  let c1_438 : Index := 1#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_436 : BitVec 32 := 0#32
  let v720 : BitVec 32 := Scalar.addi v321 c0_i32_436
  let v721 : BitVec 32 := Scalar.addi v720 c0_i32_437
  let v722 : BitVec 32 := v721
  let v723 : Index := Scalar.indexCast v722
  let c1536_439 : Index := 1536#32
  ![1, v723.toNat, 1536]
def k0_mult150 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_440 : BitVec 32 := 0#32
  let v728 : BitVec 32 := Scalar.addi v321 c0_i32_440
  let c8_i32_441 : BitVec 32 := 8#32
  let v729 : BitVec 32 := Scalar.addi v728 c8_i32_441
  v729
def k0_mult151 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_444 : BitVec 32 := 0#32
  let v736 : BitVec 32 := Scalar.addi v321 c0_i32_444
  let c16_i32_445 : BitVec 32 := 16#32
  let v737 : BitVec 32 := Scalar.addi v736 c16_i32_445
  v737
def k0_mult152 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_448 : BitVec 32 := 0#32
  let v744 : BitVec 32 := Scalar.addi v321 c0_i32_448
  let c24_i32_449 : BitVec 32 := 24#32
  let v745 : BitVec 32 := Scalar.addi v744 c24_i32_449
  v745
def k0_mult153 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_455 : BitVec 32 := 0#32
  let v754 : BitVec 32 := Scalar.addi v321 c0_i32_455
  let c0_i32_456 : BitVec 32 := 0#32
  let v755 : BitVec 32 := Scalar.addi v754 c0_i32_456
  v755
def k0_off39 (k0_t2 : Fin k0_t2_loop.trips) (c0_i32_456 : BitVec 32) : Fin 3 → Nat :=
  let c0_457 : Index := 0#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_455 : BitVec 32 := 0#32
  let v754 : BitVec 32 := Scalar.addi v321 c0_i32_455
  let v755 : BitVec 32 := Scalar.addi v754 c0_i32_456
  let v756 : BitVec 32 := v755
  let v757 : Index := Scalar.indexCast v756
  let c1536_458 : Index := 1536#32
  ![0, v757.toNat, 1536]
def k0_mult154 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_459 : BitVec 32 := 0#32
  let v762 : BitVec 32 := Scalar.addi v321 c0_i32_459
  let c8_i32_460 : BitVec 32 := 8#32
  let v763 : BitVec 32 := Scalar.addi v762 c8_i32_460
  v763
def k0_mult155 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_463 : BitVec 32 := 0#32
  let v770 : BitVec 32 := Scalar.addi v321 c0_i32_463
  let c16_i32_464 : BitVec 32 := 16#32
  let v771 : BitVec 32 := Scalar.addi v770 c16_i32_464
  v771
def k0_mult156 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_467 : BitVec 32 := 0#32
  let v778 : BitVec 32 := Scalar.addi v321 c0_i32_467
  let c24_i32_468 : BitVec 32 := 24#32
  let v779 : BitVec 32 := Scalar.addi v778 c24_i32_468
  v779
def k0_mult157 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_471 : BitVec 32 := 0#32
  let v786 : BitVec 32 := Scalar.addi v321 c0_i32_471
  v786
def k0_off40 (k0_t2 : Fin k0_t2_loop.trips) (c0_i32_471 : BitVec 32) : Fin 2 → Nat :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let v786 : BitVec 32 := Scalar.addi v321 c0_i32_471
  let v787 : BitVec 32 := v786
  let v788 : Index := Scalar.indexCast v787
  let c1536_472 : Index := 1536#32
  ![v788.toNat, 1536]
def k0_mult158 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c8_i32_473 : BitVec 32 := 8#32
  let v792 : BitVec 32 := Scalar.addi v321 c8_i32_473
  v792
def k0_mult159 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c16_i32_475 : BitVec 32 := 16#32
  let v798 : BitVec 32 := Scalar.addi v321 c16_i32_475
  v798
def k0_mult160 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c24_i32_477 : BitVec 32 := 24#32
  let v804 : BitVec 32 := Scalar.addi v321 c24_i32_477
  v804
def k0_mult161 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_482 : BitVec 32 := 0#32
  let v812 : BitVec 32 := Scalar.addi v321 c0_i32_482
  let c0_i32_483 : BitVec 32 := 0#32
  let v813 : BitVec 32 := Scalar.addi v812 c0_i32_483
  v813
def k0_off41 (k0_t2 : Fin k0_t2_loop.trips) (c0_i32_483 : BitVec 32) : Fin 3 → Nat :=
  let c2_484 : Index := 2#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_482 : BitVec 32 := 0#32
  let v812 : BitVec 32 := Scalar.addi v321 c0_i32_482
  let v813 : BitVec 32 := Scalar.addi v812 c0_i32_483
  let v814 : BitVec 32 := v813
  let v815 : Index := Scalar.indexCast v814
  let c2048_485 : Index := 2048#32
  ![2, v815.toNat, 2048]
def k0_mult162 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_486 : BitVec 32 := 0#32
  let v819 : BitVec 32 := Scalar.addi v321 c0_i32_486
  let c8_i32_487 : BitVec 32 := 8#32
  let v820 : BitVec 32 := Scalar.addi v819 c8_i32_487
  v820
def k0_mult163 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_490 : BitVec 32 := 0#32
  let v826 : BitVec 32 := Scalar.addi v321 c0_i32_490
  let c16_i32_491 : BitVec 32 := 16#32
  let v827 : BitVec 32 := Scalar.addi v826 c16_i32_491
  v827
def k0_mult164 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_494 : BitVec 32 := 0#32
  let v833 : BitVec 32 := Scalar.addi v321 c0_i32_494
  let c24_i32_495 : BitVec 32 := 24#32
  let v834 : BitVec 32 := Scalar.addi v833 c24_i32_495
  v834
def k0_mult165 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_501 : BitVec 32 := 0#32
  let v842 : BitVec 32 := Scalar.addi v321 c0_i32_501
  let c0_i32_502 : BitVec 32 := 0#32
  let v843 : BitVec 32 := Scalar.addi v842 c0_i32_502
  v843
def k0_off42 (k0_t2 : Fin k0_t2_loop.trips) (c0_i32_502 : BitVec 32) : Fin 3 → Nat :=
  let c1_503 : Index := 1#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_501 : BitVec 32 := 0#32
  let v842 : BitVec 32 := Scalar.addi v321 c0_i32_501
  let v843 : BitVec 32 := Scalar.addi v842 c0_i32_502
  let v844 : BitVec 32 := v843
  let v845 : Index := Scalar.indexCast v844
  let c2048_504 : Index := 2048#32
  ![1, v845.toNat, 2048]
def k0_mult166 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_505 : BitVec 32 := 0#32
  let v850 : BitVec 32 := Scalar.addi v321 c0_i32_505
  let c8_i32_506 : BitVec 32 := 8#32
  let v851 : BitVec 32 := Scalar.addi v850 c8_i32_506
  v851
def k0_mult167 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_509 : BitVec 32 := 0#32
  let v858 : BitVec 32 := Scalar.addi v321 c0_i32_509
  let c16_i32_510 : BitVec 32 := 16#32
  let v859 : BitVec 32 := Scalar.addi v858 c16_i32_510
  v859
def k0_mult168 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_513 : BitVec 32 := 0#32
  let v866 : BitVec 32 := Scalar.addi v321 c0_i32_513
  let c24_i32_514 : BitVec 32 := 24#32
  let v867 : BitVec 32 := Scalar.addi v866 c24_i32_514
  v867
def k0_mult169 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_520 : BitVec 32 := 0#32
  let v876 : BitVec 32 := Scalar.addi v321 c0_i32_520
  let c0_i32_521 : BitVec 32 := 0#32
  let v877 : BitVec 32 := Scalar.addi v876 c0_i32_521
  v877
def k0_off43 (k0_t2 : Fin k0_t2_loop.trips) (c0_i32_521 : BitVec 32) : Fin 3 → Nat :=
  let c0_522 : Index := 0#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_520 : BitVec 32 := 0#32
  let v876 : BitVec 32 := Scalar.addi v321 c0_i32_520
  let v877 : BitVec 32 := Scalar.addi v876 c0_i32_521
  let v878 : BitVec 32 := v877
  let v879 : Index := Scalar.indexCast v878
  let c2048_523 : Index := 2048#32
  ![0, v879.toNat, 2048]
def k0_mult170 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_524 : BitVec 32 := 0#32
  let v884 : BitVec 32 := Scalar.addi v321 c0_i32_524
  let c8_i32_525 : BitVec 32 := 8#32
  let v885 : BitVec 32 := Scalar.addi v884 c8_i32_525
  v885
def k0_mult171 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_528 : BitVec 32 := 0#32
  let v892 : BitVec 32 := Scalar.addi v321 c0_i32_528
  let c16_i32_529 : BitVec 32 := 16#32
  let v893 : BitVec 32 := Scalar.addi v892 c16_i32_529
  v893
def k0_mult172 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_532 : BitVec 32 := 0#32
  let v900 : BitVec 32 := Scalar.addi v321 c0_i32_532
  let c24_i32_533 : BitVec 32 := 24#32
  let v901 : BitVec 32 := Scalar.addi v900 c24_i32_533
  v901
def k0_mult173 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_536 : BitVec 32 := 0#32
  let v908 : BitVec 32 := Scalar.addi v321 c0_i32_536
  v908
def k0_off44 (k0_t2 : Fin k0_t2_loop.trips) (c0_i32_536 : BitVec 32) : Fin 2 → Nat :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let v908 : BitVec 32 := Scalar.addi v321 c0_i32_536
  let v909 : BitVec 32 := v908
  let v910 : Index := Scalar.indexCast v909
  let c2048_537 : Index := 2048#32
  ![v910.toNat, 2048]
def k0_mult174 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c8_i32_538 : BitVec 32 := 8#32
  let v914 : BitVec 32 := Scalar.addi v321 c8_i32_538
  v914
def k0_mult175 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c16_i32_540 : BitVec 32 := 16#32
  let v920 : BitVec 32 := Scalar.addi v321 c16_i32_540
  v920
def k0_mult176 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c24_i32_542 : BitVec 32 := 24#32
  let v926 : BitVec 32 := Scalar.addi v321 c24_i32_542
  v926
def k0_mult177 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_547 : BitVec 32 := 0#32
  let v934 : BitVec 32 := Scalar.addi v321 c0_i32_547
  let c0_i32_548 : BitVec 32 := 0#32
  let v935 : BitVec 32 := Scalar.addi v934 c0_i32_548
  v935
def k0_off45 (k0_t2 : Fin k0_t2_loop.trips) (c0_i32_548 : BitVec 32) : Fin 3 → Nat :=
  let c2_549 : Index := 2#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_547 : BitVec 32 := 0#32
  let v934 : BitVec 32 := Scalar.addi v321 c0_i32_547
  let v935 : BitVec 32 := Scalar.addi v934 c0_i32_548
  let v936 : BitVec 32 := v935
  let v937 : Index := Scalar.indexCast v936
  let c2560_550 : Index := 2560#32
  ![2, v937.toNat, 2560]
def k0_mult178 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_551 : BitVec 32 := 0#32
  let v941 : BitVec 32 := Scalar.addi v321 c0_i32_551
  let c8_i32_552 : BitVec 32 := 8#32
  let v942 : BitVec 32 := Scalar.addi v941 c8_i32_552
  v942
def k0_mult179 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_555 : BitVec 32 := 0#32
  let v948 : BitVec 32 := Scalar.addi v321 c0_i32_555
  let c16_i32_556 : BitVec 32 := 16#32
  let v949 : BitVec 32 := Scalar.addi v948 c16_i32_556
  v949
def k0_mult180 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_559 : BitVec 32 := 0#32
  let v955 : BitVec 32 := Scalar.addi v321 c0_i32_559
  let c24_i32_560 : BitVec 32 := 24#32
  let v956 : BitVec 32 := Scalar.addi v955 c24_i32_560
  v956
def k0_mult181 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_566 : BitVec 32 := 0#32
  let v964 : BitVec 32 := Scalar.addi v321 c0_i32_566
  let c0_i32_567 : BitVec 32 := 0#32
  let v965 : BitVec 32 := Scalar.addi v964 c0_i32_567
  v965
def k0_off46 (k0_t2 : Fin k0_t2_loop.trips) (c0_i32_567 : BitVec 32) : Fin 3 → Nat :=
  let c1_568 : Index := 1#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_566 : BitVec 32 := 0#32
  let v964 : BitVec 32 := Scalar.addi v321 c0_i32_566
  let v965 : BitVec 32 := Scalar.addi v964 c0_i32_567
  let v966 : BitVec 32 := v965
  let v967 : Index := Scalar.indexCast v966
  let c2560_569 : Index := 2560#32
  ![1, v967.toNat, 2560]
def k0_mult182 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_570 : BitVec 32 := 0#32
  let v972 : BitVec 32 := Scalar.addi v321 c0_i32_570
  let c8_i32_571 : BitVec 32 := 8#32
  let v973 : BitVec 32 := Scalar.addi v972 c8_i32_571
  v973
def k0_mult183 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_574 : BitVec 32 := 0#32
  let v980 : BitVec 32 := Scalar.addi v321 c0_i32_574
  let c16_i32_575 : BitVec 32 := 16#32
  let v981 : BitVec 32 := Scalar.addi v980 c16_i32_575
  v981
def k0_mult184 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_578 : BitVec 32 := 0#32
  let v988 : BitVec 32 := Scalar.addi v321 c0_i32_578
  let c24_i32_579 : BitVec 32 := 24#32
  let v989 : BitVec 32 := Scalar.addi v988 c24_i32_579
  v989
def k0_mult185 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_585 : BitVec 32 := 0#32
  let v998 : BitVec 32 := Scalar.addi v321 c0_i32_585
  let c0_i32_586 : BitVec 32 := 0#32
  let v999 : BitVec 32 := Scalar.addi v998 c0_i32_586
  v999
def k0_off47 (k0_t2 : Fin k0_t2_loop.trips) (c0_i32_586 : BitVec 32) : Fin 3 → Nat :=
  let c0_587 : Index := 0#32
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_585 : BitVec 32 := 0#32
  let v998 : BitVec 32 := Scalar.addi v321 c0_i32_585
  let v999 : BitVec 32 := Scalar.addi v998 c0_i32_586
  let v1000 : BitVec 32 := v999
  let v1001 : Index := Scalar.indexCast v1000
  let c2560_588 : Index := 2560#32
  ![0, v1001.toNat, 2560]
def k0_mult186 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_589 : BitVec 32 := 0#32
  let v1006 : BitVec 32 := Scalar.addi v321 c0_i32_589
  let c8_i32_590 : BitVec 32 := 8#32
  let v1007 : BitVec 32 := Scalar.addi v1006 c8_i32_590
  v1007
def k0_mult187 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_593 : BitVec 32 := 0#32
  let v1014 : BitVec 32 := Scalar.addi v321 c0_i32_593
  let c16_i32_594 : BitVec 32 := 16#32
  let v1015 : BitVec 32 := Scalar.addi v1014 c16_i32_594
  v1015
def k0_mult188 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_597 : BitVec 32 := 0#32
  let v1022 : BitVec 32 := Scalar.addi v321 c0_i32_597
  let c24_i32_598 : BitVec 32 := 24#32
  let v1023 : BitVec 32 := Scalar.addi v1022 c24_i32_598
  v1023
def k0_mult189 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c0_i32_601 : BitVec 32 := 0#32
  let v1030 : BitVec 32 := Scalar.addi v321 c0_i32_601
  v1030
def k0_off48 (k0_t2 : Fin k0_t2_loop.trips) (c0_i32_601 : BitVec 32) : Fin 2 → Nat :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let v1030 : BitVec 32 := Scalar.addi v321 c0_i32_601
  let v1031 : BitVec 32 := v1030
  let v1032 : Index := Scalar.indexCast v1031
  let c2560_602 : Index := 2560#32
  ![v1032.toNat, 2560]
def k0_mult190 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c8_i32_603 : BitVec 32 := 8#32
  let v1036 : BitVec 32 := Scalar.addi v321 c8_i32_603
  v1036
def k0_mult191 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c16_i32_605 : BitVec 32 := 16#32
  let v1042 : BitVec 32 := Scalar.addi v321 c16_i32_605
  v1042
def k0_mult192 (k0_t2 : Fin k0_t2_loop.trips) : BitVec 32 :=
  let c0_i32_206 : BitVec 32 := 0#32
  let c1_i32_208 : BitVec 32 := 1#32
  let arg14 : BitVec 32 := Scf.iv c0_i32_206 c1_i32_208 k0_t2
  let c32_i32 : BitVec 32 := 32#32
  let v321 : BitVec 32 := Scalar.muli arg14 c32_i32
  let c24_i32_607 : BitVec 32 := 24#32
  let v1048 : BitVec 32 := Scalar.addi v321 c24_i32_607
  v1048
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v318 : BitVec 1 := Scalar.cmpi .eq arg0 c31_i32
  let v319 : BitVec 32 := Scalar.extui v318
  let c0_i32_220 : BitVec 32 := 0#32
  let v320 : BitVec 1 := Scalar.cmpi .ne v319 c0_i32_220
  v320

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel15.lean ====
abbrev S1x8192x4608 : Shape := ⟨3, ![1, 8192, 4608]⟩
abbrev S1x8192x512 : Shape := ⟨3, ![1, 8192, 512]⟩
abbrev S2x31x512 : Shape := ⟨3, ![2, 31, 512]⟩
abbrev S2x512 : Shape := ⟨2, ![2, 512]⟩
abbrev S2x3x512 : Shape := ⟨3, ![2, 3, 512]⟩
abbrev S1x8192x2048 : Shape := ⟨3, ![1, 8192, 2048]⟩
abbrev S8192x512 : Shape := ⟨2, ![8192, 512]⟩
abbrev S8192x4608 : Shape := ⟨2, ![8192, 4608]⟩
abbrev S8192x2048 : Shape := ⟨2, ![8192, 2048]⟩
abbrev S32x512 : Shape := ⟨2, ![32, 512]⟩
abbrev S1x512 : Shape := ⟨2, ![1, 512]⟩
abbrev S8x512 : Shape := ⟨2, ![8, 512]⟩
abbrev S512x512 : Shape := ⟨2, ![512, 512]⟩
abbrev S512x2560 : Shape := ⟨2, ![512, 2560]⟩
abbrev S512x2048 : Shape := ⟨2, ![512, 2048]⟩
abbrev S512x4608 : Shape := ⟨2, ![512, 4608]⟩
abbrev S8x544x512 : Shape := ⟨3, ![8, 544, 512]⟩
abbrev S3x544x512 : Shape := ⟨3, ![3, 544, 512]⟩
abbrev S31x8x512 : Shape := ⟨3, ![31, 8, 512]⟩
abbrev S3x8x512 : Shape := ⟨3, ![3, 8, 512]⟩
abbrev S1x32x512 : Shape := ⟨3, ![1, 32, 512]⟩
abbrev S1x31x512 : Shape := ⟨3, ![1, 31, 512]⟩
abbrev S31x512 : Shape := ⟨2, ![31, 512]⟩
abbrev S1x8x512 : Shape := ⟨3, ![1, 8, 512]⟩
abbrev S1x3x512 : Shape := ⟨3, ![1, 3, 512]⟩
abbrev S3x512 : Shape := ⟨2, ![3, 512]⟩
abbrev S512 : Shape := ⟨1, ![512]⟩
abbrev S512x1 : Shape := ⟨2, ![512, 1]⟩
abbrev S1x512x512 : Shape := ⟨3, ![1, 512, 512]⟩
abbrev S1x536x512 : Shape := ⟨3, ![1, 536, 512]⟩
abbrev S536x512 : Shape := ⟨2, ![536, 512]⟩

abbrev nBuf : Space → Nat
  | .hbm => 25
  | .vmem => 30
  | .smem => 0
  | _ => 0

abbrev bufTy : (tb : Table) → Fin (tcTables nBuf tb) → BufTy
  | .hbm, ⟨0, _⟩ => ⟨S1x8192x4608, .f32⟩
  | .hbm, ⟨1, _⟩ => ⟨S1x8192x512, .f32⟩
  | .hbm, ⟨2, _⟩ => ⟨S1x8192x512, .f32⟩
  | .hbm, ⟨3, _⟩ => ⟨S2x31x512, .f32⟩
  | .hbm, ⟨4, _⟩ => ⟨S2x512, .f32⟩
  | .hbm, ⟨5, _⟩ => ⟨S2x512, .f32⟩
  | .hbm, ⟨6, _⟩ => ⟨S2x3x512, .f32⟩
  | .hbm, ⟨7, _⟩ => ⟨S1x8192x512, .f32⟩
  | .hbm, ⟨8, _⟩ => ⟨S1x8192x512, .f32⟩
  | .hbm, ⟨9, _⟩ => ⟨S1x8192x2048, .f32⟩
  | .hbm, ⟨10, _⟩ => ⟨S8192x512, .f32⟩
  | .hbm, ⟨11, _⟩ => ⟨S8192x512, .f32⟩
  | .hbm, ⟨12, _⟩ => ⟨S8192x4608, .f32⟩
  | .hbm, ⟨13, _⟩ => ⟨S8192x4608, .bf16⟩
  | .hbm, ⟨14, _⟩ => ⟨S8192x2048, .f32⟩
  | .hbm, ⟨15, _⟩ => ⟨S8192x2048, .bf16⟩
  | .hbm, ⟨16, _⟩ => ⟨S8192x512, .f32⟩
  | .hbm, ⟨17, _⟩ => ⟨S8192x512, .f32⟩
  | .hbm, ⟨18, _⟩ => ⟨S8192x512, .bf16⟩
  | .hbm, ⟨19, _⟩ => ⟨S8192x4608, .bf16⟩
  | .hbm, ⟨20, _⟩ => ⟨S32x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x2560, .bf16⟩
  | .local _ .vmem, ⟨5, _⟩ => ⟨S512x2560, .bf16⟩
  | .local _ .vmem, ⟨6, _⟩ => ⟨S512x2048, .bf16⟩
  | .local _ .vmem, ⟨7, _⟩ => ⟨S512x2048, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S2x31x512, .f32⟩
  | .local _ .vmem, ⟨13, _⟩ => ⟨S2x512, .f32⟩
  | .local _ .vmem, ⟨14, _⟩ => ⟨S2x512, .f32⟩
  | .local _ .vmem, ⟨15, _⟩ => ⟨S2x3x512, .f32⟩
  | .local _ .vmem, ⟨16, _⟩ => ⟨S512x4608, .bf16⟩
  | .local _ .vmem, ⟨17, _⟩ => ⟨S512x4608, .bf16⟩
  | .local _ .vmem, ⟨18, _⟩ => ⟨S32x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S8x512, .f32⟩
  | .local _ .vmem, ⟨23, _⟩ => ⟨S8x544x512, .f32⟩
  | .local _ .vmem, ⟨24, _⟩ => ⟨S3x544x512, .f32⟩
  | .local _ .vmem, ⟨25, _⟩ => ⟨S31x8x512, .f32⟩
  | .local _ .vmem, ⟨26, _⟩ => ⟨S3x8x512, .f32⟩
  | .local _ .vmem, ⟨27, _⟩ => ⟨S31x8x512, .f32⟩
  | .local _ .vmem, ⟨28, _⟩ => ⟨S3x8x512, .f32⟩
  | .local _ .vmem, ⟨29, _⟩ => ⟨S512x512, .f32⟩
  | _, _ => ⟨S1x8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_79 : BitVec 32 := 0#32
  let c16_i32 : BitVec 32 := 16#32
  let v124 : BitVec 32 := Scalar.addi c0_i32_79 c16_i32
  let c1_i32_80 : BitVec 32 := 1#32
  ⟨c0_i32_79, v124, c1_i32_80⟩
def k0_mult1 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_149 : BitVec 32 := 0#32
  let v198 : BitVec 32 := Scalar.addi v197 c0_i32_149
  v198
def k0_off1 (k0_t1 : Fin k0_t1_loop.trips) (c0_i32_149 : BitVec 32) : Fin 2 → Nat :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v198 : BitVec 32 := Scalar.addi v197 c0_i32_149
  let v199 : BitVec 32 := v198
  let v200 : Index := Scalar.indexCast v199
  let c0_150 : Index := 0#32
  ![v200.toNat, 0]
def k0_mult2 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32 : BitVec 32 := 8#32
  let v202 : BitVec 32 := Scalar.addi v197 c8_i32
  v202
def k0_mult3 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_152 : BitVec 32 := 16#32
  let v206 : BitVec 32 := Scalar.addi v197 c16_i32_152
  v206
def k0_mult4 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32 : BitVec 32 := 24#32
  let v210 : BitVec 32 := Scalar.addi v197 c24_i32
  v210
def k0_mult5 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_155 : BitVec 32 := 24#32
  let v214 : BitVec 32 := Scalar.addi v197 c24_i32_155
  let c0_i32_156 : BitVec 32 := 0#32
  let v215 : BitVec 32 := Scalar.addi v214 c0_i32_156
  v215
def k0_off2 (k0_t1 : Fin k0_t1_loop.trips) (c24_i32_155 : BitVec 32) (c0_i32_156 : BitVec 32) : Fin 3 → Nat :=
  let c6_157 : Index := 6#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v214 : BitVec 32 := Scalar.addi v197 c24_i32_155
  let v215 : BitVec 32 := Scalar.addi v214 c0_i32_156
  let v216 : BitVec 32 := v215
  let v217 : Index := Scalar.indexCast v216
  let c0_158 : Index := 0#32
  ![6, v217.toNat, 0]
def k0_mult6 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_159 : BitVec 32 := 24#32
  let v221 : BitVec 32 := Scalar.addi v197 c24_i32_159
  let c8_i32_160 : BitVec 32 := 8#32
  let v222 : BitVec 32 := Scalar.addi v221 c8_i32_160
  v222
def k0_mult7 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_163 : BitVec 32 := 24#32
  let v229 : BitVec 32 := Scalar.addi v197 c24_i32_163
  let c16_i32_164 : BitVec 32 := 16#32
  let v230 : BitVec 32 := Scalar.addi v229 c16_i32_164
  v230
def k0_mult8 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_167 : BitVec 32 := 24#32
  let v237 : BitVec 32 := Scalar.addi v197 c24_i32_167
  let c24_i32_168 : BitVec 32 := 24#32
  let v238 : BitVec 32 := Scalar.addi v237 c24_i32_168
  v238
def k0_mult9 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_177 : BitVec 32 := 24#32
  let v251 : BitVec 32 := Scalar.addi v197 c24_i32_177
  let c0_i32_178 : BitVec 32 := 0#32
  let v252 : BitVec 32 := Scalar.addi v251 c0_i32_178
  v252
def k0_off3 (k0_t1 : Fin k0_t1_loop.trips) (c24_i32_177 : BitVec 32) (c0_i32_178 : BitVec 32) : Fin 3 → Nat :=
  let c5_179 : Index := 5#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v251 : BitVec 32 := Scalar.addi v197 c24_i32_177
  let v252 : BitVec 32 := Scalar.addi v251 c0_i32_178
  let v253 : BitVec 32 := v252
  let v254 : Index := Scalar.indexCast v253
  let c0_180 : Index := 0#32
  ![5, v254.toNat, 0]
def k0_mult10 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_181 : BitVec 32 := 24#32
  let v258 : BitVec 32 := Scalar.addi v197 c24_i32_181
  let c8_i32_182 : BitVec 32 := 8#32
  let v259 : BitVec 32 := Scalar.addi v258 c8_i32_182
  v259
def k0_mult11 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_185 : BitVec 32 := 24#32
  let v266 : BitVec 32 := Scalar.addi v197 c24_i32_185
  let c16_i32_186 : BitVec 32 := 16#32
  let v267 : BitVec 32 := Scalar.addi v266 c16_i32_186
  v267
def k0_mult12 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_189 : BitVec 32 := 24#32
  let v274 : BitVec 32 := Scalar.addi v197 c24_i32_189
  let c24_i32_190 : BitVec 32 := 24#32
  let v275 : BitVec 32 := Scalar.addi v274 c24_i32_190
  v275
def k0_mult13 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_199 : BitVec 32 := 24#32
  let v288 : BitVec 32 := Scalar.addi v197 c24_i32_199
  let c0_i32_200 : BitVec 32 := 0#32
  let v289 : BitVec 32 := Scalar.addi v288 c0_i32_200
  v289
def k0_off4 (k0_t1 : Fin k0_t1_loop.trips) (c24_i32_199 : BitVec 32) (c0_i32_200 : BitVec 32) : Fin 3 → Nat :=
  let c4_201 : Index := 4#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v288 : BitVec 32 := Scalar.addi v197 c24_i32_199
  let v289 : BitVec 32 := Scalar.addi v288 c0_i32_200
  let v290 : BitVec 32 := v289
  let v291 : Index := Scalar.indexCast v290
  let c0_202 : Index := 0#32
  ![4, v291.toNat, 0]
def k0_mult14 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_203 : BitVec 32 := 24#32
  let v295 : BitVec 32 := Scalar.addi v197 c24_i32_203
  let c8_i32_204 : BitVec 32 := 8#32
  let v296 : BitVec 32 := Scalar.addi v295 c8_i32_204
  v296
def k0_mult15 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_207 : BitVec 32 := 24#32
  let v303 : BitVec 32 := Scalar.addi v197 c24_i32_207
  let c16_i32_208 : BitVec 32 := 16#32
  let v304 : BitVec 32 := Scalar.addi v303 c16_i32_208
  v304
def k0_mult16 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_211 : BitVec 32 := 24#32
  let v311 : BitVec 32 := Scalar.addi v197 c24_i32_211
  let c24_i32_212 : BitVec 32 := 24#32
  let v312 : BitVec 32 := Scalar.addi v311 c24_i32_212
  v312
def k0_mult17 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_221 : BitVec 32 := 24#32
  let v325 : BitVec 32 := Scalar.addi v197 c24_i32_221
  let c0_i32_222 : BitVec 32 := 0#32
  let v326 : BitVec 32 := Scalar.addi v325 c0_i32_222
  v326
def k0_off5 (k0_t1 : Fin k0_t1_loop.trips) (c24_i32_221 : BitVec 32) (c0_i32_222 : BitVec 32) : Fin 3 → Nat :=
  let c3_223 : Index := 3#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v325 : BitVec 32 := Scalar.addi v197 c24_i32_221
  let v326 : BitVec 32 := Scalar.addi v325 c0_i32_222
  let v327 : BitVec 32 := v326
  let v328 : Index := Scalar.indexCast v327
  let c0_224 : Index := 0#32
  ![3, v328.toNat, 0]
def k0_mult18 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_225 : BitVec 32 := 24#32
  let v332 : BitVec 32 := Scalar.addi v197 c24_i32_225
  let c8_i32_226 : BitVec 32 := 8#32
  let v333 : BitVec 32 := Scalar.addi v332 c8_i32_226
  v333
def k0_mult19 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_229 : BitVec 32 := 24#32
  let v340 : BitVec 32 := Scalar.addi v197 c24_i32_229
  let c16_i32_230 : BitVec 32 := 16#32
  let v341 : BitVec 32 := Scalar.addi v340 c16_i32_230
  v341
def k0_mult20 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_233 : BitVec 32 := 24#32
  let v348 : BitVec 32 := Scalar.addi v197 c24_i32_233
  let c24_i32_234 : BitVec 32 := 24#32
  let v349 : BitVec 32 := Scalar.addi v348 c24_i32_234
  v349
def k0_mult21 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_243 : BitVec 32 := 24#32
  let v362 : BitVec 32 := Scalar.addi v197 c24_i32_243
  let c0_i32_244 : BitVec 32 := 0#32
  let v363 : BitVec 32 := Scalar.addi v362 c0_i32_244
  v363
def k0_off6 (k0_t1 : Fin k0_t1_loop.trips) (c24_i32_243 : BitVec 32) (c0_i32_244 : BitVec 32) : Fin 3 → Nat :=
  let c2_245 : Index := 2#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v362 : BitVec 32 := Scalar.addi v197 c24_i32_243
  let v363 : BitVec 32 := Scalar.addi v362 c0_i32_244
  let v364 : BitVec 32 := v363
  let v365 : Index := Scalar.indexCast v364
  let c0_246 : Index := 0#32
  ![2, v365.toNat, 0]
def k0_mult22 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_247 : BitVec 32 := 24#32
  let v369 : BitVec 32 := Scalar.addi v197 c24_i32_247
  let c8_i32_248 : BitVec 32 := 8#32
  let v370 : BitVec 32 := Scalar.addi v369 c8_i32_248
  v370
def k0_mult23 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_251 : BitVec 32 := 24#32
  let v377 : BitVec 32 := Scalar.addi v197 c24_i32_251
  let c16_i32_252 : BitVec 32 := 16#32
  let v378 : BitVec 32 := Scalar.addi v377 c16_i32_252
  v378
def k0_mult24 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_255 : BitVec 32 := 24#32
  let v385 : BitVec 32 := Scalar.addi v197 c24_i32_255
  let c24_i32_256 : BitVec 32 := 24#32
  let v386 : BitVec 32 := Scalar.addi v385 c24_i32_256
  v386
def k0_mult25 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_265 : BitVec 32 := 24#32
  let v399 : BitVec 32 := Scalar.addi v197 c24_i32_265
  let c0_i32_266 : BitVec 32 := 0#32
  let v400 : BitVec 32 := Scalar.addi v399 c0_i32_266
  v400
def k0_off7 (k0_t1 : Fin k0_t1_loop.trips) (c24_i32_265 : BitVec 32) (c0_i32_266 : BitVec 32) : Fin 3 → Nat :=
  let c1_267 : Index := 1#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v399 : BitVec 32 := Scalar.addi v197 c24_i32_265
  let v400 : BitVec 32 := Scalar.addi v399 c0_i32_266
  let v401 : BitVec 32 := v400
  let v402 : Index := Scalar.indexCast v401
  let c0_268 : Index := 0#32
  ![1, v402.toNat, 0]
def k0_mult26 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_269 : BitVec 32 := 24#32
  let v406 : BitVec 32 := Scalar.addi v197 c24_i32_269
  let c8_i32_270 : BitVec 32 := 8#32
  let v407 : BitVec 32 := Scalar.addi v406 c8_i32_270
  v407
def k0_mult27 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_273 : BitVec 32 := 24#32
  let v414 : BitVec 32 := Scalar.addi v197 c24_i32_273
  let c16_i32_274 : BitVec 32 := 16#32
  let v415 : BitVec 32 := Scalar.addi v414 c16_i32_274
  v415
def k0_mult28 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_277 : BitVec 32 := 24#32
  let v422 : BitVec 32 := Scalar.addi v197 c24_i32_277
  let c24_i32_278 : BitVec 32 := 24#32
  let v423 : BitVec 32 := Scalar.addi v422 c24_i32_278
  v423
def k0_mult29 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_287 : BitVec 32 := 24#32
  let v436 : BitVec 32 := Scalar.addi v197 c24_i32_287
  let c0_i32_288 : BitVec 32 := 0#32
  let v437 : BitVec 32 := Scalar.addi v436 c0_i32_288
  v437
def k0_off8 (k0_t1 : Fin k0_t1_loop.trips) (c24_i32_287 : BitVec 32) (c0_i32_288 : BitVec 32) : Fin 3 → Nat :=
  let c0_289 : Index := 0#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v436 : BitVec 32 := Scalar.addi v197 c24_i32_287
  let v437 : BitVec 32 := Scalar.addi v436 c0_i32_288
  let v438 : BitVec 32 := v437
  let v439 : Index := Scalar.indexCast v438
  let c0_290 : Index := 0#32
  ![0, v439.toNat, 0]
def k0_mult30 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_291 : BitVec 32 := 24#32
  let v443 : BitVec 32 := Scalar.addi v197 c24_i32_291
  let c8_i32_292 : BitVec 32 := 8#32
  let v444 : BitVec 32 := Scalar.addi v443 c8_i32_292
  v444
def k0_mult31 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_295 : BitVec 32 := 24#32
  let v451 : BitVec 32 := Scalar.addi v197 c24_i32_295
  let c16_i32_296 : BitVec 32 := 16#32
  let v452 : BitVec 32 := Scalar.addi v451 c16_i32_296
  v452
def k0_mult32 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c24_i32_299 : BitVec 32 := 24#32
  let v459 : BitVec 32 := Scalar.addi v197 c24_i32_299
  let c24_i32_300 : BitVec 32 := 24#32
  let v460 : BitVec 32 := Scalar.addi v459 c24_i32_300
  v460
def k0_mult33 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_309 : BitVec 32 := 16#32
  let v473 : BitVec 32 := Scalar.addi v197 c16_i32_309
  let c0_i32_310 : BitVec 32 := 0#32
  let v474 : BitVec 32 := Scalar.addi v473 c0_i32_310
  v474
def k0_off9 (k0_t1 : Fin k0_t1_loop.trips) (c16_i32_309 : BitVec 32) (c0_i32_310 : BitVec 32) : Fin 3 → Nat :=
  let c7_311 : Index := 7#32
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let v473 : BitVec 32 := Scalar.addi v197 c16_i32_309
  let v474 : BitVec 32 := Scalar.addi v473 c0_i32_310
  let v475 : BitVec 32 := v474
  let v476 : Index := Scalar.indexCast v475
  let c0_312 : Index := 0#32
  ![7, v476.toNat, 0]
def k0_mult34 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_313 : BitVec 32 := 16#32
  let v480 : BitVec 32 := Scalar.addi v197 c16_i32_313
  let c8_i32_314 : BitVec 32 := 8#32
  let v481 : BitVec 32 := Scalar.addi v480 c8_i32_314
  v481
def k0_mult35 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_317 : BitVec 32 := 16#32
  let v488 : BitVec 32 := Scalar.addi v197 c16_i32_317
  let c16_i32_318 : BitVec 32 := 16#32
  let v489 : BitVec 32 := Scalar.addi v488 c16_i32_318
  v489
def k0_mult36 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_321 : BitVec 32 := 16#32
  let v496 : BitVec 32 := Scalar.addi v197 c16_i32_321
  let c24_i32_322 : BitVec 32 := 24#32
  let v497 : BitVec 32 := Scalar.addi v496 c24_i32_322
  v497
def k0_mult37 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_331 : BitVec 32 := 16#32
  let v510 : BitVec 32 := Scalar.addi v197 c16_i32_331
  let c0_i32_332 : BitVec 32 := 0#32
  let v511 : BitVec 32 := Scalar.addi v510 c0_i32_332
  v511
def k0_mult38 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_335 : BitVec 32 := 16#32
  let v517 : BitVec 32 := Scalar.addi v197 c16_i32_335
  let c8_i32_336 : BitVec 32 := 8#32
  let v518 : BitVec 32 := Scalar.addi v517 c8_i32_336
  v518
def k0_mult39 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_339 : BitVec 32 := 16#32
  let v525 : BitVec 32 := Scalar.addi v197 c16_i32_339
  let c16_i32_340 : BitVec 32 := 16#32
  let v526 : BitVec 32 := Scalar.addi v525 c16_i32_340
  v526
def k0_mult40 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_343 : BitVec 32 := 16#32
  let v533 : BitVec 32 := Scalar.addi v197 c16_i32_343
  let c24_i32_344 : BitVec 32 := 24#32
  let v534 : BitVec 32 := Scalar.addi v533 c24_i32_344
  v534
def k0_mult41 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_352 : BitVec 32 := 16#32
  let v547 : BitVec 32 := Scalar.addi v197 c16_i32_352
  let c0_i32_353 : BitVec 32 := 0#32
  let v548 : BitVec 32 := Scalar.addi v547 c0_i32_353
  v548
def k0_mult42 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_356 : BitVec 32 := 16#32
  let v554 : BitVec 32 := Scalar.addi v197 c16_i32_356
  let c8_i32_357 : BitVec 32 := 8#32
  let v555 : BitVec 32 := Scalar.addi v554 c8_i32_357
  v555
def k0_mult43 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_360 : BitVec 32 := 16#32
  let v562 : BitVec 32 := Scalar.addi v197 c16_i32_360
  let c16_i32_361 : BitVec 32 := 16#32
  let v563 : BitVec 32 := Scalar.addi v562 c16_i32_361
  v563
def k0_mult44 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_364 : BitVec 32 := 16#32
  let v570 : BitVec 32 := Scalar.addi v197 c16_i32_364
  let c24_i32_365 : BitVec 32 := 24#32
  let v571 : BitVec 32 := Scalar.addi v570 c24_i32_365
  v571
def k0_mult45 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_373 : BitVec 32 := 16#32
  let v584 : BitVec 32 := Scalar.addi v197 c16_i32_373
  let c0_i32_374 : BitVec 32 := 0#32
  let v585 : BitVec 32 := Scalar.addi v584 c0_i32_374
  v585
def k0_mult46 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_377 : BitVec 32 := 16#32
  let v591 : BitVec 32 := Scalar.addi v197 c16_i32_377
  let c8_i32_378 : BitVec 32 := 8#32
  let v592 : BitVec 32 := Scalar.addi v591 c8_i32_378
  v592
def k0_mult47 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_381 : BitVec 32 := 16#32
  let v599 : BitVec 32 := Scalar.addi v197 c16_i32_381
  let c16_i32_382 : BitVec 32 := 16#32
  let v600 : BitVec 32 := Scalar.addi v599 c16_i32_382
  v600
def k0_mult48 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_385 : BitVec 32 := 16#32
  let v607 : BitVec 32 := Scalar.addi v197 c16_i32_385
  let c24_i32_386 : BitVec 32 := 24#32
  let v608 : BitVec 32 := Scalar.addi v607 c24_i32_386
  v608
def k0_mult49 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_394 : BitVec 32 := 16#32
  let v621 : BitVec 32 := Scalar.addi v197 c16_i32_394
  let c0_i32_395 : BitVec 32 := 0#32
  let v622 : BitVec 32 := Scalar.addi v621 c0_i32_395
  v622
def k0_mult50 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_398 : BitVec 32 := 16#32
  let v628 : BitVec 32 := Scalar.addi v197 c16_i32_398
  let c8_i32_399 : BitVec 32 := 8#32
  let v629 : BitVec 32 := Scalar.addi v628 c8_i32_399
  v629
def k0_mult51 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_402 : BitVec 32 := 16#32
  let v636 : BitVec 32 := Scalar.addi v197 c16_i32_402
  let c16_i32_403 : BitVec 32 := 16#32
  let v637 : BitVec 32 := Scalar.addi v636 c16_i32_403
  v637
def k0_mult52 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_406 : BitVec 32 := 16#32
  let v644 : BitVec 32 := Scalar.addi v197 c16_i32_406
  let c24_i32_407 : BitVec 32 := 24#32
  let v645 : BitVec 32 := Scalar.addi v644 c24_i32_407
  v645
def k0_mult53 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_415 : BitVec 32 := 16#32
  let v658 : BitVec 32 := Scalar.addi v197 c16_i32_415
  let c0_i32_416 : BitVec 32 := 0#32
  let v659 : BitVec 32 := Scalar.addi v658 c0_i32_416
  v659
def k0_mult54 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_419 : BitVec 32 := 16#32
  let v665 : BitVec 32 := Scalar.addi v197 c16_i32_419
  let c8_i32_420 : BitVec 32 := 8#32
  let v666 : BitVec 32 := Scalar.addi v665 c8_i32_420
  v666
def k0_mult55 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_423 : BitVec 32 := 16#32
  let v673 : BitVec 32 := Scalar.addi v197 c16_i32_423
  let c16_i32_424 : BitVec 32 := 16#32
  let v674 : BitVec 32 := Scalar.addi v673 c16_i32_424
  v674
def k0_mult56 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_427 : BitVec 32 := 16#32
  let v681 : BitVec 32 := Scalar.addi v197 c16_i32_427
  let c24_i32_428 : BitVec 32 := 24#32
  let v682 : BitVec 32 := Scalar.addi v681 c24_i32_428
  v682
def k0_mult57 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_436 : BitVec 32 := 16#32
  let v695 : BitVec 32 := Scalar.addi v197 c16_i32_436
  let c0_i32_437 : BitVec 32 := 0#32
  let v696 : BitVec 32 := Scalar.addi v695 c0_i32_437
  v696
def k0_mult58 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_440 : BitVec 32 := 16#32
  let v702 : BitVec 32 := Scalar.addi v197 c16_i32_440
  let c8_i32_441 : BitVec 32 := 8#32
  let v703 : BitVec 32 := Scalar.addi v702 c8_i32_441
  v703
def k0_mult59 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_444 : BitVec 32 := 16#32
  let v710 : BitVec 32 := Scalar.addi v197 c16_i32_444
  let c16_i32_445 : BitVec 32 := 16#32
  let v711 : BitVec 32 := Scalar.addi v710 c16_i32_445
  v711
def k0_mult60 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_448 : BitVec 32 := 16#32
  let v718 : BitVec 32 := Scalar.addi v197 c16_i32_448
  let c24_i32_449 : BitVec 32 := 24#32
  let v719 : BitVec 32 := Scalar.addi v718 c24_i32_449
  v719
def k0_mult61 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_457 : BitVec 32 := 16#32
  let v732 : BitVec 32 := Scalar.addi v197 c16_i32_457
  let c0_i32_458 : BitVec 32 := 0#32
  let v733 : BitVec 32 := Scalar.addi v732 c0_i32_458
  v733
def k0_mult62 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_461 : BitVec 32 := 16#32
  let v739 : BitVec 32 := Scalar.addi v197 c16_i32_461
  let c8_i32_462 : BitVec 32 := 8#32
  let v740 : BitVec 32 := Scalar.addi v739 c8_i32_462
  v740
def k0_mult63 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_465 : BitVec 32 := 16#32
  let v747 : BitVec 32 := Scalar.addi v197 c16_i32_465
  let c16_i32_466 : BitVec 32 := 16#32
  let v748 : BitVec 32 := Scalar.addi v747 c16_i32_466
  v748
def k0_mult64 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c16_i32_469 : BitVec 32 := 16#32
  let v755 : BitVec 32 := Scalar.addi v197 c16_i32_469
  let c24_i32_470 : BitVec 32 := 24#32
  let v756 : BitVec 32 := Scalar.addi v755 c24_i32_470
  v756
def k0_mult65 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_478 : BitVec 32 := 8#32
  let v769 : BitVec 32 := Scalar.addi v197 c8_i32_478
  let c0_i32_479 : BitVec 32 := 0#32
  let v770 : BitVec 32 := Scalar.addi v769 c0_i32_479
  v770
def k0_mult66 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_482 : BitVec 32 := 8#32
  let v776 : BitVec 32 := Scalar.addi v197 c8_i32_482
  let c8_i32_483 : BitVec 32 := 8#32
  let v777 : BitVec 32 := Scalar.addi v776 c8_i32_483
  v777
def k0_mult67 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_486 : BitVec 32 := 8#32
  let v784 : BitVec 32 := Scalar.addi v197 c8_i32_486
  let c16_i32_487 : BitVec 32 := 16#32
  let v785 : BitVec 32 := Scalar.addi v784 c16_i32_487
  v785
def k0_mult68 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_490 : BitVec 32 := 8#32
  let v792 : BitVec 32 := Scalar.addi v197 c8_i32_490
  let c24_i32_491 : BitVec 32 := 24#32
  let v793 : BitVec 32 := Scalar.addi v792 c24_i32_491
  v793
def k0_mult69 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_499 : BitVec 32 := 8#32
  let v806 : BitVec 32 := Scalar.addi v197 c8_i32_499
  let c0_i32_500 : BitVec 32 := 0#32
  let v807 : BitVec 32 := Scalar.addi v806 c0_i32_500
  v807
def k0_mult70 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_503 : BitVec 32 := 8#32
  let v813 : BitVec 32 := Scalar.addi v197 c8_i32_503
  let c8_i32_504 : BitVec 32 := 8#32
  let v814 : BitVec 32 := Scalar.addi v813 c8_i32_504
  v814
def k0_mult71 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_507 : BitVec 32 := 8#32
  let v821 : BitVec 32 := Scalar.addi v197 c8_i32_507
  let c16_i32_508 : BitVec 32 := 16#32
  let v822 : BitVec 32 := Scalar.addi v821 c16_i32_508
  v822
def k0_mult72 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_511 : BitVec 32 := 8#32
  let v829 : BitVec 32 := Scalar.addi v197 c8_i32_511
  let c24_i32_512 : BitVec 32 := 24#32
  let v830 : BitVec 32 := Scalar.addi v829 c24_i32_512
  v830
def k0_mult73 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_520 : BitVec 32 := 8#32
  let v843 : BitVec 32 := Scalar.addi v197 c8_i32_520
  let c0_i32_521 : BitVec 32 := 0#32
  let v844 : BitVec 32 := Scalar.addi v843 c0_i32_521
  v844
def k0_mult74 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_524 : BitVec 32 := 8#32
  let v850 : BitVec 32 := Scalar.addi v197 c8_i32_524
  let c8_i32_525 : BitVec 32 := 8#32
  let v851 : BitVec 32 := Scalar.addi v850 c8_i32_525
  v851
def k0_mult75 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_528 : BitVec 32 := 8#32
  let v858 : BitVec 32 := Scalar.addi v197 c8_i32_528
  let c16_i32_529 : BitVec 32 := 16#32
  let v859 : BitVec 32 := Scalar.addi v858 c16_i32_529
  v859
def k0_mult76 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_532 : BitVec 32 := 8#32
  let v866 : BitVec 32 := Scalar.addi v197 c8_i32_532
  let c24_i32_533 : BitVec 32 := 24#32
  let v867 : BitVec 32 := Scalar.addi v866 c24_i32_533
  v867
def k0_mult77 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_541 : BitVec 32 := 8#32
  let v880 : BitVec 32 := Scalar.addi v197 c8_i32_541
  let c0_i32_542 : BitVec 32 := 0#32
  let v881 : BitVec 32 := Scalar.addi v880 c0_i32_542
  v881
def k0_mult78 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_545 : BitVec 32 := 8#32
  let v887 : BitVec 32 := Scalar.addi v197 c8_i32_545
  let c8_i32_546 : BitVec 32 := 8#32
  let v888 : BitVec 32 := Scalar.addi v887 c8_i32_546
  v888
def k0_mult79 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_549 : BitVec 32 := 8#32
  let v895 : BitVec 32 := Scalar.addi v197 c8_i32_549
  let c16_i32_550 : BitVec 32 := 16#32
  let v896 : BitVec 32 := Scalar.addi v895 c16_i32_550
  v896
def k0_mult80 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_553 : BitVec 32 := 8#32
  let v903 : BitVec 32 := Scalar.addi v197 c8_i32_553
  let c24_i32_554 : BitVec 32 := 24#32
  let v904 : BitVec 32 := Scalar.addi v903 c24_i32_554
  v904
def k0_mult81 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_562 : BitVec 32 := 8#32
  let v917 : BitVec 32 := Scalar.addi v197 c8_i32_562
  let c0_i32_563 : BitVec 32 := 0#32
  let v918 : BitVec 32 := Scalar.addi v917 c0_i32_563
  v918
def k0_mult82 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_566 : BitVec 32 := 8#32
  let v924 : BitVec 32 := Scalar.addi v197 c8_i32_566
  let c8_i32_567 : BitVec 32 := 8#32
  let v925 : BitVec 32 := Scalar.addi v924 c8_i32_567
  v925
def k0_mult83 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_570 : BitVec 32 := 8#32
  let v932 : BitVec 32 := Scalar.addi v197 c8_i32_570
  let c16_i32_571 : BitVec 32 := 16#32
  let v933 : BitVec 32 := Scalar.addi v932 c16_i32_571
  v933
def k0_mult84 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_574 : BitVec 32 := 8#32
  let v940 : BitVec 32 := Scalar.addi v197 c8_i32_574
  let c24_i32_575 : BitVec 32 := 24#32
  let v941 : BitVec 32 := Scalar.addi v940 c24_i32_575
  v941
def k0_mult85 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_583 : BitVec 32 := 8#32
  let v954 : BitVec 32 := Scalar.addi v197 c8_i32_583
  let c0_i32_584 : BitVec 32 := 0#32
  let v955 : BitVec 32 := Scalar.addi v954 c0_i32_584
  v955
def k0_mult86 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_587 : BitVec 32 := 8#32
  let v961 : BitVec 32 := Scalar.addi v197 c8_i32_587
  let c8_i32_588 : BitVec 32 := 8#32
  let v962 : BitVec 32 := Scalar.addi v961 c8_i32_588
  v962
def k0_mult87 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_591 : BitVec 32 := 8#32
  let v969 : BitVec 32 := Scalar.addi v197 c8_i32_591
  let c16_i32_592 : BitVec 32 := 16#32
  let v970 : BitVec 32 := Scalar.addi v969 c16_i32_592
  v970
def k0_mult88 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_595 : BitVec 32 := 8#32
  let v977 : BitVec 32 := Scalar.addi v197 c8_i32_595
  let c24_i32_596 : BitVec 32 := 24#32
  let v978 : BitVec 32 := Scalar.addi v977 c24_i32_596
  v978
def k0_mult89 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_604 : BitVec 32 := 8#32
  let v991 : BitVec 32 := Scalar.addi v197 c8_i32_604
  let c0_i32_605 : BitVec 32 := 0#32
  let v992 : BitVec 32 := Scalar.addi v991 c0_i32_605
  v992
def k0_mult90 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_608 : BitVec 32 := 8#32
  let v998 : BitVec 32 := Scalar.addi v197 c8_i32_608
  let c8_i32_609 : BitVec 32 := 8#32
  let v999 : BitVec 32 := Scalar.addi v998 c8_i32_609
  v999
def k0_mult91 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_612 : BitVec 32 := 8#32
  let v1006 : BitVec 32 := Scalar.addi v197 c8_i32_612
  let c16_i32_613 : BitVec 32 := 16#32
  let v1007 : BitVec 32 := Scalar.addi v1006 c16_i32_613
  v1007
def k0_mult92 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_616 : BitVec 32 := 8#32
  let v1014 : BitVec 32 := Scalar.addi v197 c8_i32_616
  let c24_i32_617 : BitVec 32 := 24#32
  let v1015 : BitVec 32 := Scalar.addi v1014 c24_i32_617
  v1015
def k0_mult93 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_625 : BitVec 32 := 8#32
  let v1028 : BitVec 32 := Scalar.addi v197 c8_i32_625
  let c0_i32_626 : BitVec 32 := 0#32
  let v1029 : BitVec 32 := Scalar.addi v1028 c0_i32_626
  v1029
def k0_mult94 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_629 : BitVec 32 := 8#32
  let v1035 : BitVec 32 := Scalar.addi v197 c8_i32_629
  let c8_i32_630 : BitVec 32 := 8#32
  let v1036 : BitVec 32 := Scalar.addi v1035 c8_i32_630
  v1036
def k0_mult95 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_633 : BitVec 32 := 8#32
  let v1043 : BitVec 32 := Scalar.addi v197 c8_i32_633
  let c16_i32_634 : BitVec 32 := 16#32
  let v1044 : BitVec 32 := Scalar.addi v1043 c16_i32_634
  v1044
def k0_mult96 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c8_i32_637 : BitVec 32 := 8#32
  let v1051 : BitVec 32 := Scalar.addi v197 c8_i32_637
  let c24_i32_638 : BitVec 32 := 24#32
  let v1052 : BitVec 32 := Scalar.addi v1051 c24_i32_638
  v1052
def k0_mult97 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_646 : BitVec 32 := 0#32
  let v1065 : BitVec 32 := Scalar.addi v197 c0_i32_646
  let c0_i32_647 : BitVec 32 := 0#32
  let v1066 : BitVec 32 := Scalar.addi v1065 c0_i32_647
  v1066
def k0_mult98 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_650 : BitVec 32 := 0#32
  let v1072 : BitVec 32 := Scalar.addi v197 c0_i32_650
  let c8_i32_651 : BitVec 32 := 8#32
  let v1073 : BitVec 32 := Scalar.addi v1072 c8_i32_651
  v1073
def k0_mult99 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_654 : BitVec 32 := 0#32
  let v1080 : BitVec 32 := Scalar.addi v197 c0_i32_654
  let c16_i32_655 : BitVec 32 := 16#32
  let v1081 : BitVec 32 := Scalar.addi v1080 c16_i32_655
  v1081
def k0_mult100 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_658 : BitVec 32 := 0#32
  let v1088 : BitVec 32 := Scalar.addi v197 c0_i32_658
  let c24_i32_659 : BitVec 32 := 24#32
  let v1089 : BitVec 32 := Scalar.addi v1088 c24_i32_659
  v1089
def k0_mult101 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_667 : BitVec 32 := 0#32
  let v1102 : BitVec 32 := Scalar.addi v197 c0_i32_667
  let c0_i32_668 : BitVec 32 := 0#32
  let v1103 : BitVec 32 := Scalar.addi v1102 c0_i32_668
  v1103
def k0_mult102 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_671 : BitVec 32 := 0#32
  let v1109 : BitVec 32 := Scalar.addi v197 c0_i32_671
  let c8_i32_672 : BitVec 32 := 8#32
  let v1110 : BitVec 32 := Scalar.addi v1109 c8_i32_672
  v1110
def k0_mult103 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_675 : BitVec 32 := 0#32
  let v1117 : BitVec 32 := Scalar.addi v197 c0_i32_675
  let c16_i32_676 : BitVec 32 := 16#32
  let v1118 : BitVec 32 := Scalar.addi v1117 c16_i32_676
  v1118
def k0_mult104 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_679 : BitVec 32 := 0#32
  let v1125 : BitVec 32 := Scalar.addi v197 c0_i32_679
  let c24_i32_680 : BitVec 32 := 24#32
  let v1126 : BitVec 32 := Scalar.addi v1125 c24_i32_680
  v1126
def k0_mult105 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_688 : BitVec 32 := 0#32
  let v1139 : BitVec 32 := Scalar.addi v197 c0_i32_688
  let c0_i32_689 : BitVec 32 := 0#32
  let v1140 : BitVec 32 := Scalar.addi v1139 c0_i32_689
  v1140
def k0_mult106 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_692 : BitVec 32 := 0#32
  let v1146 : BitVec 32 := Scalar.addi v197 c0_i32_692
  let c8_i32_693 : BitVec 32 := 8#32
  let v1147 : BitVec 32 := Scalar.addi v1146 c8_i32_693
  v1147
def k0_mult107 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_696 : BitVec 32 := 0#32
  let v1154 : BitVec 32 := Scalar.addi v197 c0_i32_696
  let c16_i32_697 : BitVec 32 := 16#32
  let v1155 : BitVec 32 := Scalar.addi v1154 c16_i32_697
  v1155
def k0_mult108 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_700 : BitVec 32 := 0#32
  let v1162 : BitVec 32 := Scalar.addi v197 c0_i32_700
  let c24_i32_701 : BitVec 32 := 24#32
  let v1163 : BitVec 32 := Scalar.addi v1162 c24_i32_701
  v1163
def k0_mult109 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_709 : BitVec 32 := 0#32
  let v1176 : BitVec 32 := Scalar.addi v197 c0_i32_709
  let c0_i32_710 : BitVec 32 := 0#32
  let v1177 : BitVec 32 := Scalar.addi v1176 c0_i32_710
  v1177
def k0_mult110 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_713 : BitVec 32 := 0#32
  let v1183 : BitVec 32 := Scalar.addi v197 c0_i32_713
  let c8_i32_714 : BitVec 32 := 8#32
  let v1184 : BitVec 32 := Scalar.addi v1183 c8_i32_714
  v1184
def k0_mult111 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_717 : BitVec 32 := 0#32
  let v1191 : BitVec 32 := Scalar.addi v197 c0_i32_717
  let c16_i32_718 : BitVec 32 := 16#32
  let v1192 : BitVec 32 := Scalar.addi v1191 c16_i32_718
  v1192
def k0_mult112 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_721 : BitVec 32 := 0#32
  let v1199 : BitVec 32 := Scalar.addi v197 c0_i32_721
  let c24_i32_722 : BitVec 32 := 24#32
  let v1200 : BitVec 32 := Scalar.addi v1199 c24_i32_722
  v1200
def k0_mult113 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_730 : BitVec 32 := 0#32
  let v1213 : BitVec 32 := Scalar.addi v197 c0_i32_730
  let c0_i32_731 : BitVec 32 := 0#32
  let v1214 : BitVec 32 := Scalar.addi v1213 c0_i32_731
  v1214
def k0_mult114 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_734 : BitVec 32 := 0#32
  let v1220 : BitVec 32 := Scalar.addi v197 c0_i32_734
  let c8_i32_735 : BitVec 32 := 8#32
  let v1221 : BitVec 32 := Scalar.addi v1220 c8_i32_735
  v1221
def k0_mult115 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_738 : BitVec 32 := 0#32
  let v1228 : BitVec 32 := Scalar.addi v197 c0_i32_738
  let c16_i32_739 : BitVec 32 := 16#32
  let v1229 : BitVec 32 := Scalar.addi v1228 c16_i32_739
  v1229
def k0_mult116 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_742 : BitVec 32 := 0#32
  let v1236 : BitVec 32 := Scalar.addi v197 c0_i32_742
  let c24_i32_743 : BitVec 32 := 24#32
  let v1237 : BitVec 32 := Scalar.addi v1236 c24_i32_743
  v1237
def k0_mult117 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_751 : BitVec 32 := 0#32
  let v1250 : BitVec 32 := Scalar.addi v197 c0_i32_751
  let c0_i32_752 : BitVec 32 := 0#32
  let v1251 : BitVec 32 := Scalar.addi v1250 c0_i32_752
  v1251
def k0_mult118 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_755 : BitVec 32 := 0#32
  let v1257 : BitVec 32 := Scalar.addi v197 c0_i32_755
  let c8_i32_756 : BitVec 32 := 8#32
  let v1258 : BitVec 32 := Scalar.addi v1257 c8_i32_756
  v1258
def k0_mult119 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_759 : BitVec 32 := 0#32
  let v1265 : BitVec 32 := Scalar.addi v197 c0_i32_759
  let c16_i32_760 : BitVec 32 := 16#32
  let v1266 : BitVec 32 := Scalar.addi v1265 c16_i32_760
  v1266
def k0_mult120 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_763 : BitVec 32 := 0#32
  let v1273 : BitVec 32 := Scalar.addi v197 c0_i32_763
  let c24_i32_764 : BitVec 32 := 24#32
  let v1274 : BitVec 32 := Scalar.addi v1273 c24_i32_764
  v1274
def k0_mult121 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_772 : BitVec 32 := 0#32
  let v1287 : BitVec 32 := Scalar.addi v197 c0_i32_772
  let c0_i32_773 : BitVec 32 := 0#32
  let v1288 : BitVec 32 := Scalar.addi v1287 c0_i32_773
  v1288
def k0_mult122 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_776 : BitVec 32 := 0#32
  let v1294 : BitVec 32 := Scalar.addi v197 c0_i32_776
  let c8_i32_777 : BitVec 32 := 8#32
  let v1295 : BitVec 32 := Scalar.addi v1294 c8_i32_777
  v1295
def k0_mult123 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_780 : BitVec 32 := 0#32
  let v1302 : BitVec 32 := Scalar.addi v197 c0_i32_780
  let c16_i32_781 : BitVec 32 := 16#32
  let v1303 : BitVec 32 := Scalar.addi v1302 c16_i32_781
  v1303
def k0_mult124 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_784 : BitVec 32 := 0#32
  let v1310 : BitVec 32 := Scalar.addi v197 c0_i32_784
  let c24_i32_785 : BitVec 32 := 24#32
  let v1311 : BitVec 32 := Scalar.addi v1310 c24_i32_785
  v1311
def k0_mult125 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_793 : BitVec 32 := 0#32
  let v1324 : BitVec 32 := Scalar.addi v197 c0_i32_793
  let c0_i32_794 : BitVec 32 := 0#32
  let v1325 : BitVec 32 := Scalar.addi v1324 c0_i32_794
  v1325
def k0_mult126 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_797 : BitVec 32 := 0#32
  let v1331 : BitVec 32 := Scalar.addi v197 c0_i32_797
  let c8_i32_798 : BitVec 32 := 8#32
  let v1332 : BitVec 32 := Scalar.addi v1331 c8_i32_798
  v1332
def k0_mult127 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_801 : BitVec 32 := 0#32
  let v1339 : BitVec 32 := Scalar.addi v197 c0_i32_801
  let c16_i32_802 : BitVec 32 := 16#32
  let v1340 : BitVec 32 := Scalar.addi v1339 c16_i32_802
  v1340
def k0_mult128 (k0_t1 : Fin k0_t1_loop.trips) : BitVec 32 :=
  let c0_i32_79 : BitVec 32 := 0#32
  let c1_i32_80 : BitVec 32 := 1#32
  let arg24 : BitVec 32 := Scf.iv c0_i32_79 c1_i32_80 k0_t1
  let c32_i32 : BitVec 32 := 32#32
  let v197 : BitVec 32 := Scalar.muli arg24 c32_i32
  let c0_i32_805 : BitVec 32 := 0#32
  let v1347 : BitVec 32 := Scalar.addi v197 c0_i32_805
  let c24_i32_806 : BitVec 32 := 24#32
  let v1348 : BitVec 32 := Scalar.addi v1347 c24_i32_806
  v1348
@[reducible] def k0_t2_loop : Scf.Loop 32 :=
  let c0_i32_82 : BitVec 32 := 0#32
  let c16_i32_83 : BitVec 32 := 16#32
  let v125 : BitVec 32 := Scalar.addi c0_i32_82 c16_i32_83
  let c1_i32_84 : BitVec 32 := 1#32
  ⟨c0_i32_82, v125, c1_i32_84⟩
def k0_mult129 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32 : BitVec 32 := 24#32
  let v200 : BitVec 32 := Scalar.addi v197 c24_i32
  let c0_i32_152 : BitVec 32 := 0#32
  let v201 : BitVec 32 := Scalar.addi v200 c0_i32_152
  v201
def k0_off10 (k0_t2 : Fin k0_t2_loop.trips) (c24_i32 : BitVec 32) (c0_i32_152 : BitVec 32) : Fin 3 → Nat :=
  let c6_153 : Index := 6#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v200 : BitVec 32 := Scalar.addi v197 c24_i32
  let v201 : BitVec 32 := Scalar.addi v200 c0_i32_152
  let v202 : BitVec 32 := v201
  let v203 : Index := Scalar.indexCast v202
  let c0_154 : Index := 0#32
  ![6, v203.toNat, 0]
def k0_mult130 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_155 : BitVec 32 := 24#32
  let v207 : BitVec 32 := Scalar.addi v197 c24_i32_155
  let c8_i32 : BitVec 32 := 8#32
  let v208 : BitVec 32 := Scalar.addi v207 c8_i32
  v208
def k0_mult131 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_158 : BitVec 32 := 24#32
  let v214 : BitVec 32 := Scalar.addi v197 c24_i32_158
  let c16_i32_159 : BitVec 32 := 16#32
  let v215 : BitVec 32 := Scalar.addi v214 c16_i32_159
  v215
def k0_mult132 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_162 : BitVec 32 := 24#32
  let v221 : BitVec 32 := Scalar.addi v197 c24_i32_162
  let c24_i32_163 : BitVec 32 := 24#32
  let v222 : BitVec 32 := Scalar.addi v221 c24_i32_163
  v222
def k0_mult133 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_169 : BitVec 32 := 24#32
  let v230 : BitVec 32 := Scalar.addi v197 c24_i32_169
  let c0_i32_170 : BitVec 32 := 0#32
  let v231 : BitVec 32 := Scalar.addi v230 c0_i32_170
  v231
def k0_off11 (k0_t2 : Fin k0_t2_loop.trips) (c24_i32_169 : BitVec 32) (c0_i32_170 : BitVec 32) : Fin 3 → Nat :=
  let c5_171 : Index := 5#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v230 : BitVec 32 := Scalar.addi v197 c24_i32_169
  let v231 : BitVec 32 := Scalar.addi v230 c0_i32_170
  let v232 : BitVec 32 := v231
  let v233 : Index := Scalar.indexCast v232
  let c0_172 : Index := 0#32
  ![5, v233.toNat, 0]
def k0_mult134 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_173 : BitVec 32 := 24#32
  let v238 : BitVec 32 := Scalar.addi v197 c24_i32_173
  let c8_i32_174 : BitVec 32 := 8#32
  let v239 : BitVec 32 := Scalar.addi v238 c8_i32_174
  v239
def k0_mult135 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_177 : BitVec 32 := 24#32
  let v246 : BitVec 32 := Scalar.addi v197 c24_i32_177
  let c16_i32_178 : BitVec 32 := 16#32
  let v247 : BitVec 32 := Scalar.addi v246 c16_i32_178
  v247
def k0_mult136 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_181 : BitVec 32 := 24#32
  let v254 : BitVec 32 := Scalar.addi v197 c24_i32_181
  let c24_i32_182 : BitVec 32 := 24#32
  let v255 : BitVec 32 := Scalar.addi v254 c24_i32_182
  v255
def k0_mult137 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_188 : BitVec 32 := 24#32
  let v264 : BitVec 32 := Scalar.addi v197 c24_i32_188
  let c0_i32_189 : BitVec 32 := 0#32
  let v265 : BitVec 32 := Scalar.addi v264 c0_i32_189
  v265
def k0_off12 (k0_t2 : Fin k0_t2_loop.trips) (c24_i32_188 : BitVec 32) (c0_i32_189 : BitVec 32) : Fin 3 → Nat :=
  let c4_190 : Index := 4#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v264 : BitVec 32 := Scalar.addi v197 c24_i32_188
  let v265 : BitVec 32 := Scalar.addi v264 c0_i32_189
  let v266 : BitVec 32 := v265
  let v267 : Index := Scalar.indexCast v266
  let c0_191 : Index := 0#32
  ![4, v267.toNat, 0]
def k0_mult138 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_192 : BitVec 32 := 24#32
  let v272 : BitVec 32 := Scalar.addi v197 c24_i32_192
  let c8_i32_193 : BitVec 32 := 8#32
  let v273 : BitVec 32 := Scalar.addi v272 c8_i32_193
  v273
def k0_mult139 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_196 : BitVec 32 := 24#32
  let v280 : BitVec 32 := Scalar.addi v197 c24_i32_196
  let c16_i32_197 : BitVec 32 := 16#32
  let v281 : BitVec 32 := Scalar.addi v280 c16_i32_197
  v281
def k0_mult140 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_200 : BitVec 32 := 24#32
  let v288 : BitVec 32 := Scalar.addi v197 c24_i32_200
  let c24_i32_201 : BitVec 32 := 24#32
  let v289 : BitVec 32 := Scalar.addi v288 c24_i32_201
  v289
def k0_mult141 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_207 : BitVec 32 := 24#32
  let v298 : BitVec 32 := Scalar.addi v197 c24_i32_207
  let c0_i32_208 : BitVec 32 := 0#32
  let v299 : BitVec 32 := Scalar.addi v298 c0_i32_208
  v299
def k0_off13 (k0_t2 : Fin k0_t2_loop.trips) (c24_i32_207 : BitVec 32) (c0_i32_208 : BitVec 32) : Fin 3 → Nat :=
  let c3_209 : Index := 3#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v298 : BitVec 32 := Scalar.addi v197 c24_i32_207
  let v299 : BitVec 32 := Scalar.addi v298 c0_i32_208
  let v300 : BitVec 32 := v299
  let v301 : Index := Scalar.indexCast v300
  let c0_210 : Index := 0#32
  ![3, v301.toNat, 0]
def k0_mult142 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_211 : BitVec 32 := 24#32
  let v306 : BitVec 32 := Scalar.addi v197 c24_i32_211
  let c8_i32_212 : BitVec 32 := 8#32
  let v307 : BitVec 32 := Scalar.addi v306 c8_i32_212
  v307
def k0_mult143 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_215 : BitVec 32 := 24#32
  let v314 : BitVec 32 := Scalar.addi v197 c24_i32_215
  let c16_i32_216 : BitVec 32 := 16#32
  let v315 : BitVec 32 := Scalar.addi v314 c16_i32_216
  v315
def k0_mult144 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_219 : BitVec 32 := 24#32
  let v322 : BitVec 32 := Scalar.addi v197 c24_i32_219
  let c24_i32_220 : BitVec 32 := 24#32
  let v323 : BitVec 32 := Scalar.addi v322 c24_i32_220
  v323
def k0_mult145 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_226 : BitVec 32 := 24#32
  let v332 : BitVec 32 := Scalar.addi v197 c24_i32_226
  let c0_i32_227 : BitVec 32 := 0#32
  let v333 : BitVec 32 := Scalar.addi v332 c0_i32_227
  v333
def k0_off14 (k0_t2 : Fin k0_t2_loop.trips) (c24_i32_226 : BitVec 32) (c0_i32_227 : BitVec 32) : Fin 3 → Nat :=
  let c2_228 : Index := 2#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v332 : BitVec 32 := Scalar.addi v197 c24_i32_226
  let v333 : BitVec 32 := Scalar.addi v332 c0_i32_227
  let v334 : BitVec 32 := v333
  let v335 : Index := Scalar.indexCast v334
  let c0_229 : Index := 0#32
  ![2, v335.toNat, 0]
def k0_mult146 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_230 : BitVec 32 := 24#32
  let v340 : BitVec 32 := Scalar.addi v197 c24_i32_230
  let c8_i32_231 : BitVec 32 := 8#32
  let v341 : BitVec 32 := Scalar.addi v340 c8_i32_231
  v341
def k0_mult147 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_234 : BitVec 32 := 24#32
  let v348 : BitVec 32 := Scalar.addi v197 c24_i32_234
  let c16_i32_235 : BitVec 32 := 16#32
  let v349 : BitVec 32 := Scalar.addi v348 c16_i32_235
  v349
def k0_mult148 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_238 : BitVec 32 := 24#32
  let v356 : BitVec 32 := Scalar.addi v197 c24_i32_238
  let c24_i32_239 : BitVec 32 := 24#32
  let v357 : BitVec 32 := Scalar.addi v356 c24_i32_239
  v357
def k0_mult149 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_245 : BitVec 32 := 24#32
  let v366 : BitVec 32 := Scalar.addi v197 c24_i32_245
  let c0_i32_246 : BitVec 32 := 0#32
  let v367 : BitVec 32 := Scalar.addi v366 c0_i32_246
  v367
def k0_off15 (k0_t2 : Fin k0_t2_loop.trips) (c24_i32_245 : BitVec 32) (c0_i32_246 : BitVec 32) : Fin 3 → Nat :=
  let c1_247 : Index := 1#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v366 : BitVec 32 := Scalar.addi v197 c24_i32_245
  let v367 : BitVec 32 := Scalar.addi v366 c0_i32_246
  let v368 : BitVec 32 := v367
  let v369 : Index := Scalar.indexCast v368
  let c0_248 : Index := 0#32
  ![1, v369.toNat, 0]
def k0_mult150 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_249 : BitVec 32 := 24#32
  let v374 : BitVec 32 := Scalar.addi v197 c24_i32_249
  let c8_i32_250 : BitVec 32 := 8#32
  let v375 : BitVec 32 := Scalar.addi v374 c8_i32_250
  v375
def k0_mult151 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_253 : BitVec 32 := 24#32
  let v382 : BitVec 32 := Scalar.addi v197 c24_i32_253
  let c16_i32_254 : BitVec 32 := 16#32
  let v383 : BitVec 32 := Scalar.addi v382 c16_i32_254
  v383
def k0_mult152 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_257 : BitVec 32 := 24#32
  let v390 : BitVec 32 := Scalar.addi v197 c24_i32_257
  let c24_i32_258 : BitVec 32 := 24#32
  let v391 : BitVec 32 := Scalar.addi v390 c24_i32_258
  v391
def k0_mult153 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_264 : BitVec 32 := 24#32
  let v400 : BitVec 32 := Scalar.addi v197 c24_i32_264
  let c0_i32_265 : BitVec 32 := 0#32
  let v401 : BitVec 32 := Scalar.addi v400 c0_i32_265
  v401
def k0_off16 (k0_t2 : Fin k0_t2_loop.trips) (c24_i32_264 : BitVec 32) (c0_i32_265 : BitVec 32) : Fin 3 → Nat :=
  let c0_266 : Index := 0#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v400 : BitVec 32 := Scalar.addi v197 c24_i32_264
  let v401 : BitVec 32 := Scalar.addi v400 c0_i32_265
  let v402 : BitVec 32 := v401
  let v403 : Index := Scalar.indexCast v402
  let c0_267 : Index := 0#32
  ![0, v403.toNat, 0]
def k0_mult154 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_268 : BitVec 32 := 24#32
  let v408 : BitVec 32 := Scalar.addi v197 c24_i32_268
  let c8_i32_269 : BitVec 32 := 8#32
  let v409 : BitVec 32 := Scalar.addi v408 c8_i32_269
  v409
def k0_mult155 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_272 : BitVec 32 := 24#32
  let v416 : BitVec 32 := Scalar.addi v197 c24_i32_272
  let c16_i32_273 : BitVec 32 := 16#32
  let v417 : BitVec 32 := Scalar.addi v416 c16_i32_273
  v417
def k0_mult156 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_276 : BitVec 32 := 24#32
  let v424 : BitVec 32 := Scalar.addi v197 c24_i32_276
  let c24_i32_277 : BitVec 32 := 24#32
  let v425 : BitVec 32 := Scalar.addi v424 c24_i32_277
  v425
def k0_mult157 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_283 : BitVec 32 := 16#32
  let v434 : BitVec 32 := Scalar.addi v197 c16_i32_283
  let c0_i32_284 : BitVec 32 := 0#32
  let v435 : BitVec 32 := Scalar.addi v434 c0_i32_284
  v435
def k0_off17 (k0_t2 : Fin k0_t2_loop.trips) (c16_i32_283 : BitVec 32) (c0_i32_284 : BitVec 32) : Fin 3 → Nat :=
  let c7_285 : Index := 7#32
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v434 : BitVec 32 := Scalar.addi v197 c16_i32_283
  let v435 : BitVec 32 := Scalar.addi v434 c0_i32_284
  let v436 : BitVec 32 := v435
  let v437 : Index := Scalar.indexCast v436
  let c0_286 : Index := 0#32
  ![7, v437.toNat, 0]
def k0_mult158 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_287 : BitVec 32 := 16#32
  let v442 : BitVec 32 := Scalar.addi v197 c16_i32_287
  let c8_i32_288 : BitVec 32 := 8#32
  let v443 : BitVec 32 := Scalar.addi v442 c8_i32_288
  v443
def k0_mult159 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_291 : BitVec 32 := 16#32
  let v450 : BitVec 32 := Scalar.addi v197 c16_i32_291
  let c16_i32_292 : BitVec 32 := 16#32
  let v451 : BitVec 32 := Scalar.addi v450 c16_i32_292
  v451
def k0_mult160 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_295 : BitVec 32 := 16#32
  let v458 : BitVec 32 := Scalar.addi v197 c16_i32_295
  let c24_i32_296 : BitVec 32 := 24#32
  let v459 : BitVec 32 := Scalar.addi v458 c24_i32_296
  v459
def k0_mult161 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_301 : BitVec 32 := 16#32
  let v468 : BitVec 32 := Scalar.addi v197 c16_i32_301
  let c0_i32_302 : BitVec 32 := 0#32
  let v469 : BitVec 32 := Scalar.addi v468 c0_i32_302
  v469
def k0_mult162 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_305 : BitVec 32 := 16#32
  let v476 : BitVec 32 := Scalar.addi v197 c16_i32_305
  let c8_i32_306 : BitVec 32 := 8#32
  let v477 : BitVec 32 := Scalar.addi v476 c8_i32_306
  v477
def k0_mult163 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_309 : BitVec 32 := 16#32
  let v484 : BitVec 32 := Scalar.addi v197 c16_i32_309
  let c16_i32_310 : BitVec 32 := 16#32
  let v485 : BitVec 32 := Scalar.addi v484 c16_i32_310
  v485
def k0_mult164 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_313 : BitVec 32 := 16#32
  let v492 : BitVec 32 := Scalar.addi v197 c16_i32_313
  let c24_i32_314 : BitVec 32 := 24#32
  let v493 : BitVec 32 := Scalar.addi v492 c24_i32_314
  v493
def k0_mult165 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_319 : BitVec 32 := 16#32
  let v502 : BitVec 32 := Scalar.addi v197 c16_i32_319
  let c0_i32_320 : BitVec 32 := 0#32
  let v503 : BitVec 32 := Scalar.addi v502 c0_i32_320
  v503
def k0_mult166 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_323 : BitVec 32 := 16#32
  let v510 : BitVec 32 := Scalar.addi v197 c16_i32_323
  let c8_i32_324 : BitVec 32 := 8#32
  let v511 : BitVec 32 := Scalar.addi v510 c8_i32_324
  v511
def k0_mult167 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_327 : BitVec 32 := 16#32
  let v518 : BitVec 32 := Scalar.addi v197 c16_i32_327
  let c16_i32_328 : BitVec 32 := 16#32
  let v519 : BitVec 32 := Scalar.addi v518 c16_i32_328
  v519
def k0_mult168 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_331 : BitVec 32 := 16#32
  let v526 : BitVec 32 := Scalar.addi v197 c16_i32_331
  let c24_i32_332 : BitVec 32 := 24#32
  let v527 : BitVec 32 := Scalar.addi v526 c24_i32_332
  v527
def k0_mult169 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_337 : BitVec 32 := 16#32
  let v536 : BitVec 32 := Scalar.addi v197 c16_i32_337
  let c0_i32_338 : BitVec 32 := 0#32
  let v537 : BitVec 32 := Scalar.addi v536 c0_i32_338
  v537
def k0_mult170 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_341 : BitVec 32 := 16#32
  let v544 : BitVec 32 := Scalar.addi v197 c16_i32_341
  let c8_i32_342 : BitVec 32 := 8#32
  let v545 : BitVec 32 := Scalar.addi v544 c8_i32_342
  v545
def k0_mult171 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_345 : BitVec 32 := 16#32
  let v552 : BitVec 32 := Scalar.addi v197 c16_i32_345
  let c16_i32_346 : BitVec 32 := 16#32
  let v553 : BitVec 32 := Scalar.addi v552 c16_i32_346
  v553
def k0_mult172 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_349 : BitVec 32 := 16#32
  let v560 : BitVec 32 := Scalar.addi v197 c16_i32_349
  let c24_i32_350 : BitVec 32 := 24#32
  let v561 : BitVec 32 := Scalar.addi v560 c24_i32_350
  v561
def k0_mult173 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_355 : BitVec 32 := 16#32
  let v570 : BitVec 32 := Scalar.addi v197 c16_i32_355
  let c0_i32_356 : BitVec 32 := 0#32
  let v571 : BitVec 32 := Scalar.addi v570 c0_i32_356
  v571
def k0_mult174 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_359 : BitVec 32 := 16#32
  let v578 : BitVec 32 := Scalar.addi v197 c16_i32_359
  let c8_i32_360 : BitVec 32 := 8#32
  let v579 : BitVec 32 := Scalar.addi v578 c8_i32_360
  v579
def k0_mult175 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_363 : BitVec 32 := 16#32
  let v586 : BitVec 32 := Scalar.addi v197 c16_i32_363
  let c16_i32_364 : BitVec 32 := 16#32
  let v587 : BitVec 32 := Scalar.addi v586 c16_i32_364
  v587
def k0_mult176 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_367 : BitVec 32 := 16#32
  let v594 : BitVec 32 := Scalar.addi v197 c16_i32_367
  let c24_i32_368 : BitVec 32 := 24#32
  let v595 : BitVec 32 := Scalar.addi v594 c24_i32_368
  v595
def k0_mult177 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_373 : BitVec 32 := 16#32
  let v604 : BitVec 32 := Scalar.addi v197 c16_i32_373
  let c0_i32_374 : BitVec 32 := 0#32
  let v605 : BitVec 32 := Scalar.addi v604 c0_i32_374
  v605
def k0_mult178 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_377 : BitVec 32 := 16#32
  let v612 : BitVec 32 := Scalar.addi v197 c16_i32_377
  let c8_i32_378 : BitVec 32 := 8#32
  let v613 : BitVec 32 := Scalar.addi v612 c8_i32_378
  v613
def k0_mult179 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_381 : BitVec 32 := 16#32
  let v620 : BitVec 32 := Scalar.addi v197 c16_i32_381
  let c16_i32_382 : BitVec 32 := 16#32
  let v621 : BitVec 32 := Scalar.addi v620 c16_i32_382
  v621
def k0_mult180 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_385 : BitVec 32 := 16#32
  let v628 : BitVec 32 := Scalar.addi v197 c16_i32_385
  let c24_i32_386 : BitVec 32 := 24#32
  let v629 : BitVec 32 := Scalar.addi v628 c24_i32_386
  v629
def k0_mult181 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_391 : BitVec 32 := 16#32
  let v638 : BitVec 32 := Scalar.addi v197 c16_i32_391
  let c0_i32_392 : BitVec 32 := 0#32
  let v639 : BitVec 32 := Scalar.addi v638 c0_i32_392
  v639
def k0_mult182 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_395 : BitVec 32 := 16#32
  let v646 : BitVec 32 := Scalar.addi v197 c16_i32_395
  let c8_i32_396 : BitVec 32 := 8#32
  let v647 : BitVec 32 := Scalar.addi v646 c8_i32_396
  v647
def k0_mult183 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_399 : BitVec 32 := 16#32
  let v654 : BitVec 32 := Scalar.addi v197 c16_i32_399
  let c16_i32_400 : BitVec 32 := 16#32
  let v655 : BitVec 32 := Scalar.addi v654 c16_i32_400
  v655
def k0_mult184 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_403 : BitVec 32 := 16#32
  let v662 : BitVec 32 := Scalar.addi v197 c16_i32_403
  let c24_i32_404 : BitVec 32 := 24#32
  let v663 : BitVec 32 := Scalar.addi v662 c24_i32_404
  v663
def k0_mult185 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_409 : BitVec 32 := 16#32
  let v672 : BitVec 32 := Scalar.addi v197 c16_i32_409
  let c0_i32_410 : BitVec 32 := 0#32
  let v673 : BitVec 32 := Scalar.addi v672 c0_i32_410
  v673
def k0_mult186 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_413 : BitVec 32 := 16#32
  let v680 : BitVec 32 := Scalar.addi v197 c16_i32_413
  let c8_i32_414 : BitVec 32 := 8#32
  let v681 : BitVec 32 := Scalar.addi v680 c8_i32_414
  v681
def k0_mult187 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_417 : BitVec 32 := 16#32
  let v688 : BitVec 32 := Scalar.addi v197 c16_i32_417
  let c16_i32_418 : BitVec 32 := 16#32
  let v689 : BitVec 32 := Scalar.addi v688 c16_i32_418
  v689
def k0_mult188 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_421 : BitVec 32 := 16#32
  let v696 : BitVec 32 := Scalar.addi v197 c16_i32_421
  let c24_i32_422 : BitVec 32 := 24#32
  let v697 : BitVec 32 := Scalar.addi v696 c24_i32_422
  v697
def k0_mult189 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_427 : BitVec 32 := 8#32
  let v706 : BitVec 32 := Scalar.addi v197 c8_i32_427
  let c0_i32_428 : BitVec 32 := 0#32
  let v707 : BitVec 32 := Scalar.addi v706 c0_i32_428
  v707
def k0_mult190 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_431 : BitVec 32 := 8#32
  let v714 : BitVec 32 := Scalar.addi v197 c8_i32_431
  let c8_i32_432 : BitVec 32 := 8#32
  let v715 : BitVec 32 := Scalar.addi v714 c8_i32_432
  v715
def k0_mult191 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_435 : BitVec 32 := 8#32
  let v722 : BitVec 32 := Scalar.addi v197 c8_i32_435
  let c16_i32_436 : BitVec 32 := 16#32
  let v723 : BitVec 32 := Scalar.addi v722 c16_i32_436
  v723
def k0_mult192 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_439 : BitVec 32 := 8#32
  let v730 : BitVec 32 := Scalar.addi v197 c8_i32_439
  let c24_i32_440 : BitVec 32 := 24#32
  let v731 : BitVec 32 := Scalar.addi v730 c24_i32_440
  v731
def k0_mult193 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_445 : BitVec 32 := 8#32
  let v740 : BitVec 32 := Scalar.addi v197 c8_i32_445
  let c0_i32_446 : BitVec 32 := 0#32
  let v741 : BitVec 32 := Scalar.addi v740 c0_i32_446
  v741
def k0_mult194 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_449 : BitVec 32 := 8#32
  let v748 : BitVec 32 := Scalar.addi v197 c8_i32_449
  let c8_i32_450 : BitVec 32 := 8#32
  let v749 : BitVec 32 := Scalar.addi v748 c8_i32_450
  v749
def k0_mult195 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_453 : BitVec 32 := 8#32
  let v756 : BitVec 32 := Scalar.addi v197 c8_i32_453
  let c16_i32_454 : BitVec 32 := 16#32
  let v757 : BitVec 32 := Scalar.addi v756 c16_i32_454
  v757
def k0_mult196 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_457 : BitVec 32 := 8#32
  let v764 : BitVec 32 := Scalar.addi v197 c8_i32_457
  let c24_i32_458 : BitVec 32 := 24#32
  let v765 : BitVec 32 := Scalar.addi v764 c24_i32_458
  v765
def k0_mult197 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_463 : BitVec 32 := 8#32
  let v774 : BitVec 32 := Scalar.addi v197 c8_i32_463
  let c0_i32_464 : BitVec 32 := 0#32
  let v775 : BitVec 32 := Scalar.addi v774 c0_i32_464
  v775
def k0_mult198 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_467 : BitVec 32 := 8#32
  let v782 : BitVec 32 := Scalar.addi v197 c8_i32_467
  let c8_i32_468 : BitVec 32 := 8#32
  let v783 : BitVec 32 := Scalar.addi v782 c8_i32_468
  v783
def k0_mult199 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_471 : BitVec 32 := 8#32
  let v790 : BitVec 32 := Scalar.addi v197 c8_i32_471
  let c16_i32_472 : BitVec 32 := 16#32
  let v791 : BitVec 32 := Scalar.addi v790 c16_i32_472
  v791
def k0_mult200 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_475 : BitVec 32 := 8#32
  let v798 : BitVec 32 := Scalar.addi v197 c8_i32_475
  let c24_i32_476 : BitVec 32 := 24#32
  let v799 : BitVec 32 := Scalar.addi v798 c24_i32_476
  v799
def k0_mult201 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_481 : BitVec 32 := 8#32
  let v808 : BitVec 32 := Scalar.addi v197 c8_i32_481
  let c0_i32_482 : BitVec 32 := 0#32
  let v809 : BitVec 32 := Scalar.addi v808 c0_i32_482
  v809
def k0_mult202 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_485 : BitVec 32 := 8#32
  let v816 : BitVec 32 := Scalar.addi v197 c8_i32_485
  let c8_i32_486 : BitVec 32 := 8#32
  let v817 : BitVec 32 := Scalar.addi v816 c8_i32_486
  v817
def k0_mult203 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_489 : BitVec 32 := 8#32
  let v824 : BitVec 32 := Scalar.addi v197 c8_i32_489
  let c16_i32_490 : BitVec 32 := 16#32
  let v825 : BitVec 32 := Scalar.addi v824 c16_i32_490
  v825
def k0_mult204 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_493 : BitVec 32 := 8#32
  let v832 : BitVec 32 := Scalar.addi v197 c8_i32_493
  let c24_i32_494 : BitVec 32 := 24#32
  let v833 : BitVec 32 := Scalar.addi v832 c24_i32_494
  v833
def k0_mult205 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_499 : BitVec 32 := 8#32
  let v842 : BitVec 32 := Scalar.addi v197 c8_i32_499
  let c0_i32_500 : BitVec 32 := 0#32
  let v843 : BitVec 32 := Scalar.addi v842 c0_i32_500
  v843
def k0_mult206 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_503 : BitVec 32 := 8#32
  let v850 : BitVec 32 := Scalar.addi v197 c8_i32_503
  let c8_i32_504 : BitVec 32 := 8#32
  let v851 : BitVec 32 := Scalar.addi v850 c8_i32_504
  v851
def k0_mult207 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_507 : BitVec 32 := 8#32
  let v858 : BitVec 32 := Scalar.addi v197 c8_i32_507
  let c16_i32_508 : BitVec 32 := 16#32
  let v859 : BitVec 32 := Scalar.addi v858 c16_i32_508
  v859
def k0_mult208 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_511 : BitVec 32 := 8#32
  let v866 : BitVec 32 := Scalar.addi v197 c8_i32_511
  let c24_i32_512 : BitVec 32 := 24#32
  let v867 : BitVec 32 := Scalar.addi v866 c24_i32_512
  v867
def k0_mult209 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_517 : BitVec 32 := 8#32
  let v876 : BitVec 32 := Scalar.addi v197 c8_i32_517
  let c0_i32_518 : BitVec 32 := 0#32
  let v877 : BitVec 32 := Scalar.addi v876 c0_i32_518
  v877
def k0_mult210 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_521 : BitVec 32 := 8#32
  let v884 : BitVec 32 := Scalar.addi v197 c8_i32_521
  let c8_i32_522 : BitVec 32 := 8#32
  let v885 : BitVec 32 := Scalar.addi v884 c8_i32_522
  v885
def k0_mult211 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_525 : BitVec 32 := 8#32
  let v892 : BitVec 32 := Scalar.addi v197 c8_i32_525
  let c16_i32_526 : BitVec 32 := 16#32
  let v893 : BitVec 32 := Scalar.addi v892 c16_i32_526
  v893
def k0_mult212 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_529 : BitVec 32 := 8#32
  let v900 : BitVec 32 := Scalar.addi v197 c8_i32_529
  let c24_i32_530 : BitVec 32 := 24#32
  let v901 : BitVec 32 := Scalar.addi v900 c24_i32_530
  v901
def k0_mult213 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_535 : BitVec 32 := 8#32
  let v910 : BitVec 32 := Scalar.addi v197 c8_i32_535
  let c0_i32_536 : BitVec 32 := 0#32
  let v911 : BitVec 32 := Scalar.addi v910 c0_i32_536
  v911
def k0_mult214 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_539 : BitVec 32 := 8#32
  let v918 : BitVec 32 := Scalar.addi v197 c8_i32_539
  let c8_i32_540 : BitVec 32 := 8#32
  let v919 : BitVec 32 := Scalar.addi v918 c8_i32_540
  v919
def k0_mult215 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_543 : BitVec 32 := 8#32
  let v926 : BitVec 32 := Scalar.addi v197 c8_i32_543
  let c16_i32_544 : BitVec 32 := 16#32
  let v927 : BitVec 32 := Scalar.addi v926 c16_i32_544
  v927
def k0_mult216 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_547 : BitVec 32 := 8#32
  let v934 : BitVec 32 := Scalar.addi v197 c8_i32_547
  let c24_i32_548 : BitVec 32 := 24#32
  let v935 : BitVec 32 := Scalar.addi v934 c24_i32_548
  v935
def k0_mult217 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_553 : BitVec 32 := 8#32
  let v944 : BitVec 32 := Scalar.addi v197 c8_i32_553
  let c0_i32_554 : BitVec 32 := 0#32
  let v945 : BitVec 32 := Scalar.addi v944 c0_i32_554
  v945
def k0_mult218 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_557 : BitVec 32 := 8#32
  let v952 : BitVec 32 := Scalar.addi v197 c8_i32_557
  let c8_i32_558 : BitVec 32 := 8#32
  let v953 : BitVec 32 := Scalar.addi v952 c8_i32_558
  v953
def k0_mult219 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_561 : BitVec 32 := 8#32
  let v960 : BitVec 32 := Scalar.addi v197 c8_i32_561
  let c16_i32_562 : BitVec 32 := 16#32
  let v961 : BitVec 32 := Scalar.addi v960 c16_i32_562
  v961
def k0_mult220 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_565 : BitVec 32 := 8#32
  let v968 : BitVec 32 := Scalar.addi v197 c8_i32_565
  let c24_i32_566 : BitVec 32 := 24#32
  let v969 : BitVec 32 := Scalar.addi v968 c24_i32_566
  v969
def k0_mult221 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_571 : BitVec 32 := 0#32
  let v978 : BitVec 32 := Scalar.addi v197 c0_i32_571
  let c0_i32_572 : BitVec 32 := 0#32
  let v979 : BitVec 32 := Scalar.addi v978 c0_i32_572
  v979
def k0_mult222 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_575 : BitVec 32 := 0#32
  let v986 : BitVec 32 := Scalar.addi v197 c0_i32_575
  let c8_i32_576 : BitVec 32 := 8#32
  let v987 : BitVec 32 := Scalar.addi v986 c8_i32_576
  v987
def k0_mult223 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_579 : BitVec 32 := 0#32
  let v994 : BitVec 32 := Scalar.addi v197 c0_i32_579
  let c16_i32_580 : BitVec 32 := 16#32
  let v995 : BitVec 32 := Scalar.addi v994 c16_i32_580
  v995
def k0_mult224 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_583 : BitVec 32 := 0#32
  let v1002 : BitVec 32 := Scalar.addi v197 c0_i32_583
  let c24_i32_584 : BitVec 32 := 24#32
  let v1003 : BitVec 32 := Scalar.addi v1002 c24_i32_584
  v1003
def k0_mult225 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_589 : BitVec 32 := 0#32
  let v1012 : BitVec 32 := Scalar.addi v197 c0_i32_589
  let c0_i32_590 : BitVec 32 := 0#32
  let v1013 : BitVec 32 := Scalar.addi v1012 c0_i32_590
  v1013
def k0_mult226 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_593 : BitVec 32 := 0#32
  let v1020 : BitVec 32 := Scalar.addi v197 c0_i32_593
  let c8_i32_594 : BitVec 32 := 8#32
  let v1021 : BitVec 32 := Scalar.addi v1020 c8_i32_594
  v1021
def k0_mult227 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_597 : BitVec 32 := 0#32
  let v1028 : BitVec 32 := Scalar.addi v197 c0_i32_597
  let c16_i32_598 : BitVec 32 := 16#32
  let v1029 : BitVec 32 := Scalar.addi v1028 c16_i32_598
  v1029
def k0_mult228 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_601 : BitVec 32 := 0#32
  let v1036 : BitVec 32 := Scalar.addi v197 c0_i32_601
  let c24_i32_602 : BitVec 32 := 24#32
  let v1037 : BitVec 32 := Scalar.addi v1036 c24_i32_602
  v1037
def k0_mult229 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_607 : BitVec 32 := 0#32
  let v1046 : BitVec 32 := Scalar.addi v197 c0_i32_607
  let c0_i32_608 : BitVec 32 := 0#32
  let v1047 : BitVec 32 := Scalar.addi v1046 c0_i32_608
  v1047
def k0_mult230 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_611 : BitVec 32 := 0#32
  let v1054 : BitVec 32 := Scalar.addi v197 c0_i32_611
  let c8_i32_612 : BitVec 32 := 8#32
  let v1055 : BitVec 32 := Scalar.addi v1054 c8_i32_612
  v1055
def k0_mult231 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_615 : BitVec 32 := 0#32
  let v1062 : BitVec 32 := Scalar.addi v197 c0_i32_615
  let c16_i32_616 : BitVec 32 := 16#32
  let v1063 : BitVec 32 := Scalar.addi v1062 c16_i32_616
  v1063
def k0_mult232 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_619 : BitVec 32 := 0#32
  let v1070 : BitVec 32 := Scalar.addi v197 c0_i32_619
  let c24_i32_620 : BitVec 32 := 24#32
  let v1071 : BitVec 32 := Scalar.addi v1070 c24_i32_620
  v1071
def k0_mult233 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_625 : BitVec 32 := 0#32
  let v1080 : BitVec 32 := Scalar.addi v197 c0_i32_625
  let c0_i32_626 : BitVec 32 := 0#32
  let v1081 : BitVec 32 := Scalar.addi v1080 c0_i32_626
  v1081
def k0_mult234 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_629 : BitVec 32 := 0#32
  let v1088 : BitVec 32 := Scalar.addi v197 c0_i32_629
  let c8_i32_630 : BitVec 32 := 8#32
  let v1089 : BitVec 32 := Scalar.addi v1088 c8_i32_630
  v1089
def k0_mult235 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_633 : BitVec 32 := 0#32
  let v1096 : BitVec 32 := Scalar.addi v197 c0_i32_633
  let c16_i32_634 : BitVec 32 := 16#32
  let v1097 : BitVec 32 := Scalar.addi v1096 c16_i32_634
  v1097
def k0_mult236 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_637 : BitVec 32 := 0#32
  let v1104 : BitVec 32 := Scalar.addi v197 c0_i32_637
  let c24_i32_638 : BitVec 32 := 24#32
  let v1105 : BitVec 32 := Scalar.addi v1104 c24_i32_638
  v1105
def k0_mult237 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_643 : BitVec 32 := 0#32
  let v1114 : BitVec 32 := Scalar.addi v197 c0_i32_643
  let c0_i32_644 : BitVec 32 := 0#32
  let v1115 : BitVec 32 := Scalar.addi v1114 c0_i32_644
  v1115
def k0_mult238 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_647 : BitVec 32 := 0#32
  let v1122 : BitVec 32 := Scalar.addi v197 c0_i32_647
  let c8_i32_648 : BitVec 32 := 8#32
  let v1123 : BitVec 32 := Scalar.addi v1122 c8_i32_648
  v1123
def k0_mult239 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_651 : BitVec 32 := 0#32
  let v1130 : BitVec 32 := Scalar.addi v197 c0_i32_651
  let c16_i32_652 : BitVec 32 := 16#32
  let v1131 : BitVec 32 := Scalar.addi v1130 c16_i32_652
  v1131
def k0_mult240 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_655 : BitVec 32 := 0#32
  let v1138 : BitVec 32 := Scalar.addi v197 c0_i32_655
  let c24_i32_656 : BitVec 32 := 24#32
  let v1139 : BitVec 32 := Scalar.addi v1138 c24_i32_656
  v1139
def k0_mult241 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_661 : BitVec 32 := 0#32
  let v1148 : BitVec 32 := Scalar.addi v197 c0_i32_661
  let c0_i32_662 : BitVec 32 := 0#32
  let v1149 : BitVec 32 := Scalar.addi v1148 c0_i32_662
  v1149
def k0_mult242 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_665 : BitVec 32 := 0#32
  let v1156 : BitVec 32 := Scalar.addi v197 c0_i32_665
  let c8_i32_666 : BitVec 32 := 8#32
  let v1157 : BitVec 32 := Scalar.addi v1156 c8_i32_666
  v1157
def k0_mult243 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_669 : BitVec 32 := 0#32
  let v1164 : BitVec 32 := Scalar.addi v197 c0_i32_669
  let c16_i32_670 : BitVec 32 := 16#32
  let v1165 : BitVec 32 := Scalar.addi v1164 c16_i32_670
  v1165
def k0_mult244 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_673 : BitVec 32 := 0#32
  let v1172 : BitVec 32 := Scalar.addi v197 c0_i32_673
  let c24_i32_674 : BitVec 32 := 24#32
  let v1173 : BitVec 32 := Scalar.addi v1172 c24_i32_674
  v1173
def k0_mult245 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_679 : BitVec 32 := 0#32
  let v1182 : BitVec 32 := Scalar.addi v197 c0_i32_679
  let c0_i32_680 : BitVec 32 := 0#32
  let v1183 : BitVec 32 := Scalar.addi v1182 c0_i32_680
  v1183
def k0_mult246 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_683 : BitVec 32 := 0#32
  let v1190 : BitVec 32 := Scalar.addi v197 c0_i32_683
  let c8_i32_684 : BitVec 32 := 8#32
  let v1191 : BitVec 32 := Scalar.addi v1190 c8_i32_684
  v1191
def k0_mult247 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_687 : BitVec 32 := 0#32
  let v1198 : BitVec 32 := Scalar.addi v197 c0_i32_687
  let c16_i32_688 : BitVec 32 := 16#32
  let v1199 : BitVec 32 := Scalar.addi v1198 c16_i32_688
  v1199
def k0_mult248 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_691 : BitVec 32 := 0#32
  let v1206 : BitVec 32 := Scalar.addi v197 c0_i32_691
  let c24_i32_692 : BitVec 32 := 24#32
  let v1207 : BitVec 32 := Scalar.addi v1206 c24_i32_692
  v1207
def k0_mult249 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_697 : BitVec 32 := 0#32
  let v1216 : BitVec 32 := Scalar.addi v197 c0_i32_697
  let c0_i32_698 : BitVec 32 := 0#32
  let v1217 : BitVec 32 := Scalar.addi v1216 c0_i32_698
  v1217
def k0_mult250 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_701 : BitVec 32 := 0#32
  let v1224 : BitVec 32 := Scalar.addi v197 c0_i32_701
  let c8_i32_702 : BitVec 32 := 8#32
  let v1225 : BitVec 32 := Scalar.addi v1224 c8_i32_702
  v1225
def k0_mult251 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_705 : BitVec 32 := 0#32
  let v1232 : BitVec 32 := Scalar.addi v197 c0_i32_705
  let c16_i32_706 : BitVec 32 := 16#32
  let v1233 : BitVec 32 := Scalar.addi v1232 c16_i32_706
  v1233
def k0_mult252 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_709 : BitVec 32 := 0#32
  let v1240 : BitVec 32 := Scalar.addi v197 c0_i32_709
  let c24_i32_710 : BitVec 32 := 24#32
  let v1241 : BitVec 32 := Scalar.addi v1240 c24_i32_710
  v1241
def k0_mult253 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c0_i32_713 : BitVec 32 := 0#32
  let v1248 : BitVec 32 := Scalar.addi v197 c0_i32_713
  v1248
def k0_off18 (k0_t2 : Fin k0_t2_loop.trips) (c0_i32_713 : BitVec 32) : Fin 2 → Nat :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let v1248 : BitVec 32 := Scalar.addi v197 c0_i32_713
  let v1249 : BitVec 32 := v1248
  let v1250 : Index := Scalar.indexCast v1249
  let c0_714 : Index := 0#32
  ![v1250.toNat, 0]
def k0_mult254 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c8_i32_715 : BitVec 32 := 8#32
  let v1254 : BitVec 32 := Scalar.addi v197 c8_i32_715
  v1254
def k0_mult255 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c16_i32_717 : BitVec 32 := 16#32
  let v1260 : BitVec 32 := Scalar.addi v197 c16_i32_717
  v1260
def k0_mult256 (k0_t2 : Fin k0_t2_loop.trips) : BitVec 32 :=
  let c0_i32_82 : BitVec 32 := 0#32
  let c1_i32_84 : BitVec 32 := 1#32
  let arg24 : BitVec 32 := Scf.iv c0_i32_82 c1_i32_84 k0_t2
  let c32_i32 : BitVec 32 := 32#32
  let v197 : BitVec 32 := Scalar.muli arg24 c32_i32
  let c24_i32_719 : BitVec 32 := 24#32
  let v1266 : BitVec 32 := Scalar.addi v197 c24_i32_719
  v1266
@[reducible] def k0_t3_loop : Scf.Loop 32 :=
  let c0_i32_125 : BitVec 32 := 0#32
  let c16_i32_126 : BitVec 32 := 16#32
  let v177 : BitVec 32 := Scalar.addi c0_i32_125 c16_i32_126
  let c1_i32_127 : BitVec 32 := 1#32
  ⟨c0_i32_125, v177, c1_i32_127⟩
def k0_mult257 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_149 : BitVec 32 := 0#32
  let v198 : BitVec 32 := Scalar.addi v197 c0_i32_149
  v198
def k0_off19 (k0_t3 : Fin k0_t3_loop.trips) (c0_i32_149 : BitVec 32) : Fin 2 → Nat :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let v198 : BitVec 32 := Scalar.addi v197 c0_i32_149
  let v199 : BitVec 32 := v198
  let v200 : Index := Scalar.indexCast v199
  let c0_150 : Index := 0#32
  ![v200.toNat, 0]
def k0_mult258 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c8_i32 : BitVec 32 := 8#32
  let v202 : BitVec 32 := Scalar.addi v197 c8_i32
  v202
def k0_mult259 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c16_i32_152 : BitVec 32 := 16#32
  let v206 : BitVec 32 := Scalar.addi v197 c16_i32_152
  v206
def k0_mult260 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c24_i32 : BitVec 32 := 24#32
  let v210 : BitVec 32 := Scalar.addi v197 c24_i32
  v210
def k0_mult261 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_155 : BitVec 32 := 0#32
  let v214 : BitVec 32 := Scalar.addi v197 c0_i32_155
  let c0_i32_156 : BitVec 32 := 0#32
  let v215 : BitVec 32 := Scalar.addi v214 c0_i32_156
  v215
def k0_off20 (k0_t3 : Fin k0_t3_loop.trips) (c0_i32_156 : BitVec 32) : Fin 3 → Nat :=
  let c2_157 : Index := 2#32
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_155 : BitVec 32 := 0#32
  let v214 : BitVec 32 := Scalar.addi v197 c0_i32_155
  let v215 : BitVec 32 := Scalar.addi v214 c0_i32_156
  let v216 : BitVec 32 := v215
  let v217 : Index := Scalar.indexCast v216
  let c0_158 : Index := 0#32
  ![2, v217.toNat, 0]
def k0_mult262 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_159 : BitVec 32 := 0#32
  let v221 : BitVec 32 := Scalar.addi v197 c0_i32_159
  let c8_i32_160 : BitVec 32 := 8#32
  let v222 : BitVec 32 := Scalar.addi v221 c8_i32_160
  v222
def k0_mult263 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_163 : BitVec 32 := 0#32
  let v229 : BitVec 32 := Scalar.addi v197 c0_i32_163
  let c16_i32_164 : BitVec 32 := 16#32
  let v230 : BitVec 32 := Scalar.addi v229 c16_i32_164
  v230
def k0_mult264 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_167 : BitVec 32 := 0#32
  let v237 : BitVec 32 := Scalar.addi v197 c0_i32_167
  let c24_i32_168 : BitVec 32 := 24#32
  let v238 : BitVec 32 := Scalar.addi v237 c24_i32_168
  v238
def k0_mult265 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_177 : BitVec 32 := 0#32
  let v251 : BitVec 32 := Scalar.addi v197 c0_i32_177
  let c0_i32_178 : BitVec 32 := 0#32
  let v252 : BitVec 32 := Scalar.addi v251 c0_i32_178
  v252
def k0_off21 (k0_t3 : Fin k0_t3_loop.trips) (c0_i32_178 : BitVec 32) : Fin 3 → Nat :=
  let c1_179 : Index := 1#32
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_177 : BitVec 32 := 0#32
  let v251 : BitVec 32 := Scalar.addi v197 c0_i32_177
  let v252 : BitVec 32 := Scalar.addi v251 c0_i32_178
  let v253 : BitVec 32 := v252
  let v254 : Index := Scalar.indexCast v253
  let c0_180 : Index := 0#32
  ![1, v254.toNat, 0]
def k0_mult266 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_181 : BitVec 32 := 0#32
  let v258 : BitVec 32 := Scalar.addi v197 c0_i32_181
  let c8_i32_182 : BitVec 32 := 8#32
  let v259 : BitVec 32 := Scalar.addi v258 c8_i32_182
  v259
def k0_mult267 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_185 : BitVec 32 := 0#32
  let v266 : BitVec 32 := Scalar.addi v197 c0_i32_185
  let c16_i32_186 : BitVec 32 := 16#32
  let v267 : BitVec 32 := Scalar.addi v266 c16_i32_186
  v267
def k0_mult268 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_189 : BitVec 32 := 0#32
  let v274 : BitVec 32 := Scalar.addi v197 c0_i32_189
  let c24_i32_190 : BitVec 32 := 24#32
  let v275 : BitVec 32 := Scalar.addi v274 c24_i32_190
  v275
def k0_mult269 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_199 : BitVec 32 := 0#32
  let v288 : BitVec 32 := Scalar.addi v197 c0_i32_199
  let c0_i32_200 : BitVec 32 := 0#32
  let v289 : BitVec 32 := Scalar.addi v288 c0_i32_200
  v289
def k0_off22 (k0_t3 : Fin k0_t3_loop.trips) (c0_i32_200 : BitVec 32) : Fin 3 → Nat :=
  let c0_201 : Index := 0#32
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_199 : BitVec 32 := 0#32
  let v288 : BitVec 32 := Scalar.addi v197 c0_i32_199
  let v289 : BitVec 32 := Scalar.addi v288 c0_i32_200
  let v290 : BitVec 32 := v289
  let v291 : Index := Scalar.indexCast v290
  let c0_202 : Index := 0#32
  ![0, v291.toNat, 0]
def k0_mult270 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_203 : BitVec 32 := 0#32
  let v295 : BitVec 32 := Scalar.addi v197 c0_i32_203
  let c8_i32_204 : BitVec 32 := 8#32
  let v296 : BitVec 32 := Scalar.addi v295 c8_i32_204
  v296
def k0_mult271 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_207 : BitVec 32 := 0#32
  let v303 : BitVec 32 := Scalar.addi v197 c0_i32_207
  let c16_i32_208 : BitVec 32 := 16#32
  let v304 : BitVec 32 := Scalar.addi v303 c16_i32_208
  v304
def k0_mult272 (k0_t3 : Fin k0_t3_loop.trips) : BitVec 32 :=
  let c0_i32_125 : BitVec 32 := 0#32
  let c1_i32_127 : BitVec 32 := 1#32
  let arg24 : BitVec 32 := Scf.iv c0_i32_125 c1_i32_127 k0_t3
  let c32_i32 : BitVec 32 := 32#32
  let v197 : BitVec 32 := Scalar.muli arg24 c32_i32
  let c0_i32_211 : BitVec 32 := 0#32
  let v311 : BitVec 32 := Scalar.addi v197 c0_i32_211
  let c24_i32_212 : BitVec 32 := 24#32
  let v312 : BitVec 32 := Scalar.addi v311 c24_i32_212
  v312
@[reducible] def k0_t4_loop : Scf.Loop 32 :=
  let c0_i32_129 : BitVec 32 := 0#32
  let c16_i32_130 : BitVec 32 := 16#32
  let v178 : BitVec 32 := Scalar.addi c0_i32_129 c16_i32_130
  let c1_i32_131 : BitVec 32 := 1#32
  ⟨c0_i32_129, v178, c1_i32_131⟩
def k0_mult273 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_152 : BitVec 32 := 0#32
  let v200 : BitVec 32 := Scalar.addi v197 c0_i32_152
  let c0_i32_153 : BitVec 32 := 0#32
  let v201 : BitVec 32 := Scalar.addi v200 c0_i32_153
  v201
def k0_off23 (k0_t4 : Fin k0_t4_loop.trips) (c0_i32_153 : BitVec 32) : Fin 3 → Nat :=
  let c2_154 : Index := 2#32
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_152 : BitVec 32 := 0#32
  let v200 : BitVec 32 := Scalar.addi v197 c0_i32_152
  let v201 : BitVec 32 := Scalar.addi v200 c0_i32_153
  let v202 : BitVec 32 := v201
  let v203 : Index := Scalar.indexCast v202
  let c0_155 : Index := 0#32
  ![2, v203.toNat, 0]
def k0_mult274 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_156 : BitVec 32 := 0#32
  let v207 : BitVec 32 := Scalar.addi v197 c0_i32_156
  let c8_i32 : BitVec 32 := 8#32
  let v208 : BitVec 32 := Scalar.addi v207 c8_i32
  v208
def k0_mult275 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_159 : BitVec 32 := 0#32
  let v214 : BitVec 32 := Scalar.addi v197 c0_i32_159
  let c16_i32_160 : BitVec 32 := 16#32
  let v215 : BitVec 32 := Scalar.addi v214 c16_i32_160
  v215
def k0_mult276 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_163 : BitVec 32 := 0#32
  let v221 : BitVec 32 := Scalar.addi v197 c0_i32_163
  let c24_i32 : BitVec 32 := 24#32
  let v222 : BitVec 32 := Scalar.addi v221 c24_i32
  v222
def k0_mult277 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_169 : BitVec 32 := 0#32
  let v230 : BitVec 32 := Scalar.addi v197 c0_i32_169
  let c0_i32_170 : BitVec 32 := 0#32
  let v231 : BitVec 32 := Scalar.addi v230 c0_i32_170
  v231
def k0_off24 (k0_t4 : Fin k0_t4_loop.trips) (c0_i32_170 : BitVec 32) : Fin 3 → Nat :=
  let c1_171 : Index := 1#32
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_169 : BitVec 32 := 0#32
  let v230 : BitVec 32 := Scalar.addi v197 c0_i32_169
  let v231 : BitVec 32 := Scalar.addi v230 c0_i32_170
  let v232 : BitVec 32 := v231
  let v233 : Index := Scalar.indexCast v232
  let c0_172 : Index := 0#32
  ![1, v233.toNat, 0]
def k0_mult278 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_173 : BitVec 32 := 0#32
  let v238 : BitVec 32 := Scalar.addi v197 c0_i32_173
  let c8_i32_174 : BitVec 32 := 8#32
  let v239 : BitVec 32 := Scalar.addi v238 c8_i32_174
  v239
def k0_mult279 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_177 : BitVec 32 := 0#32
  let v246 : BitVec 32 := Scalar.addi v197 c0_i32_177
  let c16_i32_178 : BitVec 32 := 16#32
  let v247 : BitVec 32 := Scalar.addi v246 c16_i32_178
  v247
def k0_mult280 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_181 : BitVec 32 := 0#32
  let v254 : BitVec 32 := Scalar.addi v197 c0_i32_181
  let c24_i32_182 : BitVec 32 := 24#32
  let v255 : BitVec 32 := Scalar.addi v254 c24_i32_182
  v255
def k0_mult281 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_188 : BitVec 32 := 0#32
  let v264 : BitVec 32 := Scalar.addi v197 c0_i32_188
  let c0_i32_189 : BitVec 32 := 0#32
  let v265 : BitVec 32 := Scalar.addi v264 c0_i32_189
  v265
def k0_off25 (k0_t4 : Fin k0_t4_loop.trips) (c0_i32_189 : BitVec 32) : Fin 3 → Nat :=
  let c0_190 : Index := 0#32
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_188 : BitVec 32 := 0#32
  let v264 : BitVec 32 := Scalar.addi v197 c0_i32_188
  let v265 : BitVec 32 := Scalar.addi v264 c0_i32_189
  let v266 : BitVec 32 := v265
  let v267 : Index := Scalar.indexCast v266
  let c0_191 : Index := 0#32
  ![0, v267.toNat, 0]
def k0_mult282 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_192 : BitVec 32 := 0#32
  let v272 : BitVec 32 := Scalar.addi v197 c0_i32_192
  let c8_i32_193 : BitVec 32 := 8#32
  let v273 : BitVec 32 := Scalar.addi v272 c8_i32_193
  v273
def k0_mult283 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_196 : BitVec 32 := 0#32
  let v280 : BitVec 32 := Scalar.addi v197 c0_i32_196
  let c16_i32_197 : BitVec 32 := 16#32
  let v281 : BitVec 32 := Scalar.addi v280 c16_i32_197
  v281
def k0_mult284 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_200 : BitVec 32 := 0#32
  let v288 : BitVec 32 := Scalar.addi v197 c0_i32_200
  let c24_i32_201 : BitVec 32 := 24#32
  let v289 : BitVec 32 := Scalar.addi v288 c24_i32_201
  v289
def k0_mult285 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c0_i32_204 : BitVec 32 := 0#32
  let v296 : BitVec 32 := Scalar.addi v197 c0_i32_204
  v296
def k0_off26 (k0_t4 : Fin k0_t4_loop.trips) (c0_i32_204 : BitVec 32) : Fin 2 → Nat :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let v296 : BitVec 32 := Scalar.addi v197 c0_i32_204
  let v297 : BitVec 32 := v296
  let v298 : Index := Scalar.indexCast v297
  let c0_205 : Index := 0#32
  ![v298.toNat, 0]
def k0_mult286 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c8_i32_206 : BitVec 32 := 8#32
  let v302 : BitVec 32 := Scalar.addi v197 c8_i32_206
  v302
def k0_mult287 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c16_i32_208 : BitVec 32 := 16#32
  let v308 : BitVec 32 := Scalar.addi v197 c16_i32_208
  v308
def k0_mult288 (k0_t4 : Fin k0_t4_loop.trips) : BitVec 32 :=
  let c0_i32_129 : BitVec 32 := 0#32
  let c1_i32_131 : BitVec 32 := 1#32
  let arg24 : BitVec 32 := Scf.iv c0_i32_129 c1_i32_131 k0_t4
  let c32_i32 : BitVec 32 := 32#32
  let v197 : BitVec 32 := Scalar.muli arg24 c32_i32
  let c24_i32_210 : BitVec 32 := 24#32
  let v314 : BitVec 32 := Scalar.addi v197 c24_i32_210
  v314
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c15_i32 : BitVec 32 := 15#32
  let v194 : BitVec 1 := Scalar.cmpi .eq arg0 c15_i32
  let v195 : BitVec 32 := Scalar.extui v194
  let c0_i32_148 : BitVec 32 := 0#32
  let v196 : BitVec 1 := Scalar.cmpi .ne v195 c0_i32_148
  v196

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4608 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel16.lean ====
abbrev S1x8192x1024 : Shape := ⟨3, ![1, 8192, 1024]⟩
abbrev S1x8192x5632 : Shape := ⟨3, ![1, 8192, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S8192x1024 : Shape := ⟨2, ![8192, 1024]⟩
abbrev S8192x5632 : Shape := ⟨2, ![8192, 5632]⟩
abbrev S1x2816x1024 : Shape := ⟨3, ![1, 2816, 1024]⟩
abbrev S2816x1024 : Shape := ⟨2, ![2816, 1024]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S3x288x2816 : Shape := ⟨3, ![3, 288, 2816]⟩
abbrev S4x8x2816 : Shape := ⟨3, ![4, 8, 2816]⟩
abbrev S32x2816 : Shape := ⟨2, ![32, 2816]⟩
abbrev S1x32x2816 : Shape := ⟨3, ![1, 32, 2816]⟩
abbrev S1x3x2816 : Shape := ⟨3, ![1, 3, 2816]⟩
abbrev S3x2816 : Shape := ⟨2, ![3, 2816]⟩
abbrev S1x2816 : Shape := ⟨2, ![1, 2816]⟩
abbrev S8x2816 : Shape := ⟨2, ![8, 2816]⟩
abbrev S1x8x2816 : Shape := ⟨3, ![1, 8, 2816]⟩
abbrev S1x256x2816 : Shape := ⟨3, ![1, 256, 2816]⟩
abbrev S1x280x2816 : Shape := ⟨3, ![1, 280, 2816]⟩
abbrev S280x2816 : Shape := ⟨2, ![280, 2816]⟩
abbrev S1x8x512 : Shape := ⟨3, ![1, 8, 512]⟩
abbrev S8x512 : Shape := ⟨2, ![8, 512]⟩
abbrev S1x8x256 : Shape := ⟨3, ![1, 8, 256]⟩
abbrev S8x256 : Shape := ⟨2, ![8, 256]⟩
abbrev S256x256 : Shape := ⟨2, ![256, 256]⟩

abbrev nBuf : Space → Nat
  | .hbm => 15
  | .vmem => 18
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S2x3x2816, .f32⟩
  | .hbm, ⟨3, _⟩ => ⟨S2x2816, .f32⟩
  | .hbm, ⟨4, _⟩ => ⟨S2x2816x1024, .f32⟩
  | .hbm, ⟨5, _⟩ => ⟨S8192x1024, .f32⟩
  | .hbm, ⟨6, _⟩ => ⟨S8192x5632, .f32⟩
  | .hbm, ⟨7, _⟩ => ⟨S8192x5632, .bf16⟩
  | .hbm, ⟨8, _⟩ => ⟨S1x2816x1024, .f32⟩
  | .hbm, ⟨9, _⟩ => ⟨S2816x1024, .f32⟩
  | .hbm, ⟨10, _⟩ => ⟨S2816x1024, .bf16⟩
  | .hbm, ⟨11, _⟩ => ⟨S8192x1024, .f32⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S2x3x2816, .f32⟩
  | .local _ .vmem, ⟨5, _⟩ => ⟨S2x2816, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S3x288x2816, .f32⟩
  | .local _ .vmem, ⟨16, _⟩ => ⟨S4x8x2816, .f32⟩
  | .local _ .vmem, ⟨17, _⟩ => ⟨S256x2816, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_12 : BitVec 32 := 0#32
  let c8_i32 : BitVec 32 := 8#32
  let v19 : BitVec 32 := Scalar.addi c0_i32_12 c8_i32
  let c1_i32_13 : BitVec 32 := 1#32
  ⟨c0_i32_12, v19, c1_i32_13⟩
def k0_mult1 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32 : BitVec 32 := 24#32
  let v462 : BitVec 32 := Scalar.addi v457 c24_i32
  let c0_i32_239 : BitVec 32 := 0#32
  let v463 : BitVec 32 := Scalar.addi v462 c0_i32_239
  v463
def k0_off1 (k0_t1 : Fin k0_t1_loop.trips) (c0_i32_239 : BitVec 32) : Fin 3 → Nat :=
  let c1_240 : Index := 1#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32 : BitVec 32 := 24#32
  let v462 : BitVec 32 := Scalar.addi v457 c24_i32
  let v463 : BitVec 32 := Scalar.addi v462 c0_i32_239
  let v464 : BitVec 32 := v463
  let v465 : Index := Scalar.indexCast v464
  let c0_241 : Index := 0#32
  ![1, v465.toNat, 0]
def k0_mult2 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_242 : BitVec 32 := 24#32
  let v470 : BitVec 32 := Scalar.addi v457 c24_i32_242
  let c8_i32_243 : BitVec 32 := 8#32
  let v471 : BitVec 32 := Scalar.addi v470 c8_i32_243
  v471
def k0_mult3 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_246 : BitVec 32 := 24#32
  let v478 : BitVec 32 := Scalar.addi v457 c24_i32_246
  let c16_i32 : BitVec 32 := 16#32
  let v479 : BitVec 32 := Scalar.addi v478 c16_i32
  v479
def k0_mult4 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_249 : BitVec 32 := 24#32
  let v486 : BitVec 32 := Scalar.addi v457 c24_i32_249
  let c24_i32_250 : BitVec 32 := 24#32
  let v487 : BitVec 32 := Scalar.addi v486 c24_i32_250
  v487
def k0_mult5 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_256 : BitVec 32 := 24#32
  let v496 : BitVec 32 := Scalar.addi v457 c24_i32_256
  let c0_i32_257 : BitVec 32 := 0#32
  let v497 : BitVec 32 := Scalar.addi v496 c0_i32_257
  v497
def k0_off2 (k0_t1 : Fin k0_t1_loop.trips) (c0_i32_257 : BitVec 32) : Fin 3 → Nat :=
  let c2_258 : Index := 2#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_256 : BitVec 32 := 24#32
  let v496 : BitVec 32 := Scalar.addi v457 c24_i32_256
  let v497 : BitVec 32 := Scalar.addi v496 c0_i32_257
  let v498 : BitVec 32 := v497
  let v499 : Index := Scalar.indexCast v498
  let c0_259 : Index := 0#32
  ![2, v499.toNat, 0]
def k0_mult6 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_260 : BitVec 32 := 24#32
  let v504 : BitVec 32 := Scalar.addi v457 c24_i32_260
  let c8_i32_261 : BitVec 32 := 8#32
  let v505 : BitVec 32 := Scalar.addi v504 c8_i32_261
  v505
def k0_mult7 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_264 : BitVec 32 := 24#32
  let v512 : BitVec 32 := Scalar.addi v457 c24_i32_264
  let c16_i32_265 : BitVec 32 := 16#32
  let v513 : BitVec 32 := Scalar.addi v512 c16_i32_265
  v513
def k0_mult8 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_268 : BitVec 32 := 24#32
  let v520 : BitVec 32 := Scalar.addi v457 c24_i32_268
  let c24_i32_269 : BitVec 32 := 24#32
  let v521 : BitVec 32 := Scalar.addi v520 c24_i32_269
  v521
def k0_mult9 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_275 : BitVec 32 := 32#32
  let v530 : BitVec 32 := Scalar.addi v457 c32_i32_275
  let c0_i32_276 : BitVec 32 := 0#32
  let v531 : BitVec 32 := Scalar.addi v530 c0_i32_276
  v531
def k0_off3 (k0_t1 : Fin k0_t1_loop.trips) (c0_i32_276 : BitVec 32) : Fin 3 → Nat :=
  let c0_277 : Index := 0#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_275 : BitVec 32 := 32#32
  let v530 : BitVec 32 := Scalar.addi v457 c32_i32_275
  let v531 : BitVec 32 := Scalar.addi v530 c0_i32_276
  let v532 : BitVec 32 := v531
  let v533 : Index := Scalar.indexCast v532
  let c0_278 : Index := 0#32
  ![0, v533.toNat, 0]
def k0_mult10 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_279 : BitVec 32 := 32#32
  let v538 : BitVec 32 := Scalar.addi v457 c32_i32_279
  let c8_i32_280 : BitVec 32 := 8#32
  let v539 : BitVec 32 := Scalar.addi v538 c8_i32_280
  v539
def k0_mult11 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_283 : BitVec 32 := 32#32
  let v546 : BitVec 32 := Scalar.addi v457 c32_i32_283
  let c16_i32_284 : BitVec 32 := 16#32
  let v547 : BitVec 32 := Scalar.addi v546 c16_i32_284
  v547
def k0_mult12 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_287 : BitVec 32 := 32#32
  let v554 : BitVec 32 := Scalar.addi v457 c32_i32_287
  let c24_i32_288 : BitVec 32 := 24#32
  let v555 : BitVec 32 := Scalar.addi v554 c24_i32_288
  v555
def k0_mult13 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c0_i32_291 : BitVec 32 := 0#32
  let v562 : BitVec 32 := Scalar.addi v457 c0_i32_291
  v562
def k0_off4 (k0_t1 : Fin k0_t1_loop.trips) (c0_i32_291 : BitVec 32) : Fin 2 → Nat :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let v562 : BitVec 32 := Scalar.addi v457 c0_i32_291
  let v563 : BitVec 32 := v562
  let v564 : Index := Scalar.indexCast v563
  let c0_292 : Index := 0#32
  ![v564.toNat, 0]
def k0_mult14 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c8_i32_293 : BitVec 32 := 8#32
  let v568 : BitVec 32 := Scalar.addi v457 c8_i32_293
  v568
def k0_mult15 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c16_i32_295 : BitVec 32 := 16#32
  let v574 : BitVec 32 := Scalar.addi v457 c16_i32_295
  v574
def k0_mult16 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_297 : BitVec 32 := 24#32
  let v580 : BitVec 32 := Scalar.addi v457 c24_i32_297
  v580
def k0_mult17 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_305 : BitVec 32 := 24#32
  let v590 : BitVec 32 := Scalar.addi v457 c24_i32_305
  let c0_i32_306 : BitVec 32 := 0#32
  let v591 : BitVec 32 := Scalar.addi v590 c0_i32_306
  v591
def k0_off5 (k0_t1 : Fin k0_t1_loop.trips) (c0_i32_306 : BitVec 32) : Fin 3 → Nat :=
  let c1_307 : Index := 1#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_305 : BitVec 32 := 24#32
  let v590 : BitVec 32 := Scalar.addi v457 c24_i32_305
  let v591 : BitVec 32 := Scalar.addi v590 c0_i32_306
  let v592 : BitVec 32 := v591
  let v593 : Index := Scalar.indexCast v592
  let c512_308 : Index := 512#32
  ![1, v593.toNat, 512]
def k0_mult18 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_309 : BitVec 32 := 24#32
  let v598 : BitVec 32 := Scalar.addi v457 c24_i32_309
  let c8_i32_310 : BitVec 32 := 8#32
  let v599 : BitVec 32 := Scalar.addi v598 c8_i32_310
  v599
def k0_mult19 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_313 : BitVec 32 := 24#32
  let v606 : BitVec 32 := Scalar.addi v457 c24_i32_313
  let c16_i32_314 : BitVec 32 := 16#32
  let v607 : BitVec 32 := Scalar.addi v606 c16_i32_314
  v607
def k0_mult20 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_317 : BitVec 32 := 24#32
  let v614 : BitVec 32 := Scalar.addi v457 c24_i32_317
  let c24_i32_318 : BitVec 32 := 24#32
  let v615 : BitVec 32 := Scalar.addi v614 c24_i32_318
  v615
def k0_mult21 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_324 : BitVec 32 := 24#32
  let v624 : BitVec 32 := Scalar.addi v457 c24_i32_324
  let c0_i32_325 : BitVec 32 := 0#32
  let v625 : BitVec 32 := Scalar.addi v624 c0_i32_325
  v625
def k0_off6 (k0_t1 : Fin k0_t1_loop.trips) (c0_i32_325 : BitVec 32) : Fin 3 → Nat :=
  let c2_326 : Index := 2#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_324 : BitVec 32 := 24#32
  let v624 : BitVec 32 := Scalar.addi v457 c24_i32_324
  let v625 : BitVec 32 := Scalar.addi v624 c0_i32_325
  let v626 : BitVec 32 := v625
  let v627 : Index := Scalar.indexCast v626
  let c512_327 : Index := 512#32
  ![2, v627.toNat, 512]
def k0_mult22 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_328 : BitVec 32 := 24#32
  let v632 : BitVec 32 := Scalar.addi v457 c24_i32_328
  let c8_i32_329 : BitVec 32 := 8#32
  let v633 : BitVec 32 := Scalar.addi v632 c8_i32_329
  v633
def k0_mult23 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_332 : BitVec 32 := 24#32
  let v640 : BitVec 32 := Scalar.addi v457 c24_i32_332
  let c16_i32_333 : BitVec 32 := 16#32
  let v641 : BitVec 32 := Scalar.addi v640 c16_i32_333
  v641
def k0_mult24 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_336 : BitVec 32 := 24#32
  let v648 : BitVec 32 := Scalar.addi v457 c24_i32_336
  let c24_i32_337 : BitVec 32 := 24#32
  let v649 : BitVec 32 := Scalar.addi v648 c24_i32_337
  v649
def k0_mult25 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_343 : BitVec 32 := 32#32
  let v658 : BitVec 32 := Scalar.addi v457 c32_i32_343
  let c0_i32_344 : BitVec 32 := 0#32
  let v659 : BitVec 32 := Scalar.addi v658 c0_i32_344
  v659
def k0_off7 (k0_t1 : Fin k0_t1_loop.trips) (c0_i32_344 : BitVec 32) : Fin 3 → Nat :=
  let c0_345 : Index := 0#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_343 : BitVec 32 := 32#32
  let v658 : BitVec 32 := Scalar.addi v457 c32_i32_343
  let v659 : BitVec 32 := Scalar.addi v658 c0_i32_344
  let v660 : BitVec 32 := v659
  let v661 : Index := Scalar.indexCast v660
  let c512_346 : Index := 512#32
  ![0, v661.toNat, 512]
def k0_mult26 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_347 : BitVec 32 := 32#32
  let v666 : BitVec 32 := Scalar.addi v457 c32_i32_347
  let c8_i32_348 : BitVec 32 := 8#32
  let v667 : BitVec 32 := Scalar.addi v666 c8_i32_348
  v667
def k0_mult27 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_351 : BitVec 32 := 32#32
  let v674 : BitVec 32 := Scalar.addi v457 c32_i32_351
  let c16_i32_352 : BitVec 32 := 16#32
  let v675 : BitVec 32 := Scalar.addi v674 c16_i32_352
  v675
def k0_mult28 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_355 : BitVec 32 := 32#32
  let v682 : BitVec 32 := Scalar.addi v457 c32_i32_355
  let c24_i32_356 : BitVec 32 := 24#32
  let v683 : BitVec 32 := Scalar.addi v682 c24_i32_356
  v683
def k0_mult29 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c0_i32_359 : BitVec 32 := 0#32
  let v690 : BitVec 32 := Scalar.addi v457 c0_i32_359
  v690
def k0_off8 (k0_t1 : Fin k0_t1_loop.trips) (c0_i32_359 : BitVec 32) : Fin 2 → Nat :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let v690 : BitVec 32 := Scalar.addi v457 c0_i32_359
  let v691 : BitVec 32 := v690
  let v692 : Index := Scalar.indexCast v691
  let c512_360 : Index := 512#32
  ![v692.toNat, 512]
def k0_mult30 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c8_i32_361 : BitVec 32 := 8#32
  let v696 : BitVec 32 := Scalar.addi v457 c8_i32_361
  v696
def k0_mult31 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c16_i32_363 : BitVec 32 := 16#32
  let v702 : BitVec 32 := Scalar.addi v457 c16_i32_363
  v702
def k0_mult32 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_365 : BitVec 32 := 24#32
  let v708 : BitVec 32 := Scalar.addi v457 c24_i32_365
  v708
def k0_mult33 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_373 : BitVec 32 := 24#32
  let v718 : BitVec 32 := Scalar.addi v457 c24_i32_373
  let c0_i32_374 : BitVec 32 := 0#32
  let v719 : BitVec 32 := Scalar.addi v718 c0_i32_374
  v719
def k0_off9 (k0_t1 : Fin k0_t1_loop.trips) (c0_i32_374 : BitVec 32) : Fin 3 → Nat :=
  let c1_375 : Index := 1#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_373 : BitVec 32 := 24#32
  let v718 : BitVec 32 := Scalar.addi v457 c24_i32_373
  let v719 : BitVec 32 := Scalar.addi v718 c0_i32_374
  let v720 : BitVec 32 := v719
  let v721 : Index := Scalar.indexCast v720
  let c1024_376 : Index := 1024#32
  ![1, v721.toNat, 1024]
def k0_mult34 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_377 : BitVec 32 := 24#32
  let v726 : BitVec 32 := Scalar.addi v457 c24_i32_377
  let c8_i32_378 : BitVec 32 := 8#32
  let v727 : BitVec 32 := Scalar.addi v726 c8_i32_378
  v727
def k0_mult35 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_381 : BitVec 32 := 24#32
  let v734 : BitVec 32 := Scalar.addi v457 c24_i32_381
  let c16_i32_382 : BitVec 32 := 16#32
  let v735 : BitVec 32 := Scalar.addi v734 c16_i32_382
  v735
def k0_mult36 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_385 : BitVec 32 := 24#32
  let v742 : BitVec 32 := Scalar.addi v457 c24_i32_385
  let c24_i32_386 : BitVec 32 := 24#32
  let v743 : BitVec 32 := Scalar.addi v742 c24_i32_386
  v743
def k0_mult37 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_392 : BitVec 32 := 24#32
  let v752 : BitVec 32 := Scalar.addi v457 c24_i32_392
  let c0_i32_393 : BitVec 32 := 0#32
  let v753 : BitVec 32 := Scalar.addi v752 c0_i32_393
  v753
def k0_off10 (k0_t1 : Fin k0_t1_loop.trips) (c0_i32_393 : BitVec 32) : Fin 3 → Nat :=
  let c2_394 : Index := 2#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_392 : BitVec 32 := 24#32
  let v752 : BitVec 32 := Scalar.addi v457 c24_i32_392
  let v753 : BitVec 32 := Scalar.addi v752 c0_i32_393
  let v754 : BitVec 32 := v753
  let v755 : Index := Scalar.indexCast v754
  let c1024_395 : Index := 1024#32
  ![2, v755.toNat, 1024]
def k0_mult38 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_396 : BitVec 32 := 24#32
  let v760 : BitVec 32 := Scalar.addi v457 c24_i32_396
  let c8_i32_397 : BitVec 32 := 8#32
  let v761 : BitVec 32 := Scalar.addi v760 c8_i32_397
  v761
def k0_mult39 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_400 : BitVec 32 := 24#32
  let v768 : BitVec 32 := Scalar.addi v457 c24_i32_400
  let c16_i32_401 : BitVec 32 := 16#32
  let v769 : BitVec 32 := Scalar.addi v768 c16_i32_401
  v769
def k0_mult40 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_404 : BitVec 32 := 24#32
  let v776 : BitVec 32 := Scalar.addi v457 c24_i32_404
  let c24_i32_405 : BitVec 32 := 24#32
  let v777 : BitVec 32 := Scalar.addi v776 c24_i32_405
  v777
def k0_mult41 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_411 : BitVec 32 := 32#32
  let v786 : BitVec 32 := Scalar.addi v457 c32_i32_411
  let c0_i32_412 : BitVec 32 := 0#32
  let v787 : BitVec 32 := Scalar.addi v786 c0_i32_412
  v787
def k0_off11 (k0_t1 : Fin k0_t1_loop.trips) (c0_i32_412 : BitVec 32) : Fin 3 → Nat :=
  let c0_413 : Index := 0#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_411 : BitVec 32 := 32#32
  let v786 : BitVec 32 := Scalar.addi v457 c32_i32_411
  let v787 : BitVec 32 := Scalar.addi v786 c0_i32_412
  let v788 : BitVec 32 := v787
  let v789 : Index := Scalar.indexCast v788
  let c1024_414 : Index := 1024#32
  ![0, v789.toNat, 1024]
def k0_mult42 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_415 : BitVec 32 := 32#32
  let v794 : BitVec 32 := Scalar.addi v457 c32_i32_415
  let c8_i32_416 : BitVec 32 := 8#32
  let v795 : BitVec 32 := Scalar.addi v794 c8_i32_416
  v795
def k0_mult43 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_419 : BitVec 32 := 32#32
  let v802 : BitVec 32 := Scalar.addi v457 c32_i32_419
  let c16_i32_420 : BitVec 32 := 16#32
  let v803 : BitVec 32 := Scalar.addi v802 c16_i32_420
  v803
def k0_mult44 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_423 : BitVec 32 := 32#32
  let v810 : BitVec 32 := Scalar.addi v457 c32_i32_423
  let c24_i32_424 : BitVec 32 := 24#32
  let v811 : BitVec 32 := Scalar.addi v810 c24_i32_424
  v811
def k0_mult45 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c0_i32_427 : BitVec 32 := 0#32
  let v818 : BitVec 32 := Scalar.addi v457 c0_i32_427
  v818
def k0_off12 (k0_t1 : Fin k0_t1_loop.trips) (c0_i32_427 : BitVec 32) : Fin 2 → Nat :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let v818 : BitVec 32 := Scalar.addi v457 c0_i32_427
  let v819 : BitVec 32 := v818
  let v820 : Index := Scalar.indexCast v819
  let c1024_428 : Index := 1024#32
  ![v820.toNat, 1024]
def k0_mult46 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c8_i32_429 : BitVec 32 := 8#32
  let v824 : BitVec 32 := Scalar.addi v457 c8_i32_429
  v824
def k0_mult47 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c16_i32_431 : BitVec 32 := 16#32
  let v830 : BitVec 32 := Scalar.addi v457 c16_i32_431
  v830
def k0_mult48 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_433 : BitVec 32 := 24#32
  let v836 : BitVec 32 := Scalar.addi v457 c24_i32_433
  v836
def k0_mult49 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_441 : BitVec 32 := 24#32
  let v846 : BitVec 32 := Scalar.addi v457 c24_i32_441
  let c0_i32_442 : BitVec 32 := 0#32
  let v847 : BitVec 32 := Scalar.addi v846 c0_i32_442
  v847
def k0_off13 (k0_t1 : Fin k0_t1_loop.trips) (c0_i32_442 : BitVec 32) : Fin 3 → Nat :=
  let c1_443 : Index := 1#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_441 : BitVec 32 := 24#32
  let v846 : BitVec 32 := Scalar.addi v457 c24_i32_441
  let v847 : BitVec 32 := Scalar.addi v846 c0_i32_442
  let v848 : BitVec 32 := v847
  let v849 : Index := Scalar.indexCast v848
  let c1536_444 : Index := 1536#32
  ![1, v849.toNat, 1536]
def k0_mult50 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_445 : BitVec 32 := 24#32
  let v854 : BitVec 32 := Scalar.addi v457 c24_i32_445
  let c8_i32_446 : BitVec 32 := 8#32
  let v855 : BitVec 32 := Scalar.addi v854 c8_i32_446
  v855
def k0_mult51 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_449 : BitVec 32 := 24#32
  let v862 : BitVec 32 := Scalar.addi v457 c24_i32_449
  let c16_i32_450 : BitVec 32 := 16#32
  let v863 : BitVec 32 := Scalar.addi v862 c16_i32_450
  v863
def k0_mult52 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_453 : BitVec 32 := 24#32
  let v870 : BitVec 32 := Scalar.addi v457 c24_i32_453
  let c24_i32_454 : BitVec 32 := 24#32
  let v871 : BitVec 32 := Scalar.addi v870 c24_i32_454
  v871
def k0_mult53 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_460 : BitVec 32 := 24#32
  let v880 : BitVec 32 := Scalar.addi v457 c24_i32_460
  let c0_i32_461 : BitVec 32 := 0#32
  let v881 : BitVec 32 := Scalar.addi v880 c0_i32_461
  v881
def k0_off14 (k0_t1 : Fin k0_t1_loop.trips) (c0_i32_461 : BitVec 32) : Fin 3 → Nat :=
  let c2_462 : Index := 2#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_460 : BitVec 32 := 24#32
  let v880 : BitVec 32 := Scalar.addi v457 c24_i32_460
  let v881 : BitVec 32 := Scalar.addi v880 c0_i32_461
  let v882 : BitVec 32 := v881
  let v883 : Index := Scalar.indexCast v882
  let c1536_463 : Index := 1536#32
  ![2, v883.toNat, 1536]
def k0_mult54 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_464 : BitVec 32 := 24#32
  let v888 : BitVec 32 := Scalar.addi v457 c24_i32_464
  let c8_i32_465 : BitVec 32 := 8#32
  let v889 : BitVec 32 := Scalar.addi v888 c8_i32_465
  v889
def k0_mult55 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_468 : BitVec 32 := 24#32
  let v896 : BitVec 32 := Scalar.addi v457 c24_i32_468
  let c16_i32_469 : BitVec 32 := 16#32
  let v897 : BitVec 32 := Scalar.addi v896 c16_i32_469
  v897
def k0_mult56 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_472 : BitVec 32 := 24#32
  let v904 : BitVec 32 := Scalar.addi v457 c24_i32_472
  let c24_i32_473 : BitVec 32 := 24#32
  let v905 : BitVec 32 := Scalar.addi v904 c24_i32_473
  v905
def k0_mult57 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_479 : BitVec 32 := 32#32
  let v914 : BitVec 32 := Scalar.addi v457 c32_i32_479
  let c0_i32_480 : BitVec 32 := 0#32
  let v915 : BitVec 32 := Scalar.addi v914 c0_i32_480
  v915
def k0_off15 (k0_t1 : Fin k0_t1_loop.trips) (c0_i32_480 : BitVec 32) : Fin 3 → Nat :=
  let c0_481 : Index := 0#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_479 : BitVec 32 := 32#32
  let v914 : BitVec 32 := Scalar.addi v457 c32_i32_479
  let v915 : BitVec 32 := Scalar.addi v914 c0_i32_480
  let v916 : BitVec 32 := v915
  let v917 : Index := Scalar.indexCast v916
  let c1536_482 : Index := 1536#32
  ![0, v917.toNat, 1536]
def k0_mult58 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_483 : BitVec 32 := 32#32
  let v922 : BitVec 32 := Scalar.addi v457 c32_i32_483
  let c8_i32_484 : BitVec 32 := 8#32
  let v923 : BitVec 32 := Scalar.addi v922 c8_i32_484
  v923
def k0_mult59 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_487 : BitVec 32 := 32#32
  let v930 : BitVec 32 := Scalar.addi v457 c32_i32_487
  let c16_i32_488 : BitVec 32 := 16#32
  let v931 : BitVec 32 := Scalar.addi v930 c16_i32_488
  v931
def k0_mult60 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_491 : BitVec 32 := 32#32
  let v938 : BitVec 32 := Scalar.addi v457 c32_i32_491
  let c24_i32_492 : BitVec 32 := 24#32
  let v939 : BitVec 32 := Scalar.addi v938 c24_i32_492
  v939
def k0_mult61 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c0_i32_495 : BitVec 32 := 0#32
  let v946 : BitVec 32 := Scalar.addi v457 c0_i32_495
  v946
def k0_off16 (k0_t1 : Fin k0_t1_loop.trips) (c0_i32_495 : BitVec 32) : Fin 2 → Nat :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let v946 : BitVec 32 := Scalar.addi v457 c0_i32_495
  let v947 : BitVec 32 := v946
  let v948 : Index := Scalar.indexCast v947
  let c1536_496 : Index := 1536#32
  ![v948.toNat, 1536]
def k0_mult62 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c8_i32_497 : BitVec 32 := 8#32
  let v952 : BitVec 32 := Scalar.addi v457 c8_i32_497
  v952
def k0_mult63 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c16_i32_499 : BitVec 32 := 16#32
  let v958 : BitVec 32 := Scalar.addi v457 c16_i32_499
  v958
def k0_mult64 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_501 : BitVec 32 := 24#32
  let v964 : BitVec 32 := Scalar.addi v457 c24_i32_501
  v964
def k0_mult65 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_509 : BitVec 32 := 24#32
  let v974 : BitVec 32 := Scalar.addi v457 c24_i32_509
  let c0_i32_510 : BitVec 32 := 0#32
  let v975 : BitVec 32 := Scalar.addi v974 c0_i32_510
  v975
def k0_off17 (k0_t1 : Fin k0_t1_loop.trips) (c0_i32_510 : BitVec 32) : Fin 3 → Nat :=
  let c1_511 : Index := 1#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_509 : BitVec 32 := 24#32
  let v974 : BitVec 32 := Scalar.addi v457 c24_i32_509
  let v975 : BitVec 32 := Scalar.addi v974 c0_i32_510
  let v976 : BitVec 32 := v975
  let v977 : Index := Scalar.indexCast v976
  let c2048_512 : Index := 2048#32
  ![1, v977.toNat, 2048]
def k0_mult66 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_513 : BitVec 32 := 24#32
  let v982 : BitVec 32 := Scalar.addi v457 c24_i32_513
  let c8_i32_514 : BitVec 32 := 8#32
  let v983 : BitVec 32 := Scalar.addi v982 c8_i32_514
  v983
def k0_mult67 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_517 : BitVec 32 := 24#32
  let v990 : BitVec 32 := Scalar.addi v457 c24_i32_517
  let c16_i32_518 : BitVec 32 := 16#32
  let v991 : BitVec 32 := Scalar.addi v990 c16_i32_518
  v991
def k0_mult68 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_521 : BitVec 32 := 24#32
  let v998 : BitVec 32 := Scalar.addi v457 c24_i32_521
  let c24_i32_522 : BitVec 32 := 24#32
  let v999 : BitVec 32 := Scalar.addi v998 c24_i32_522
  v999
def k0_mult69 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_528 : BitVec 32 := 24#32
  let v1008 : BitVec 32 := Scalar.addi v457 c24_i32_528
  let c0_i32_529 : BitVec 32 := 0#32
  let v1009 : BitVec 32 := Scalar.addi v1008 c0_i32_529
  v1009
def k0_off18 (k0_t1 : Fin k0_t1_loop.trips) (c0_i32_529 : BitVec 32) : Fin 3 → Nat :=
  let c2_530 : Index := 2#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_528 : BitVec 32 := 24#32
  let v1008 : BitVec 32 := Scalar.addi v457 c24_i32_528
  let v1009 : BitVec 32 := Scalar.addi v1008 c0_i32_529
  let v1010 : BitVec 32 := v1009
  let v1011 : Index := Scalar.indexCast v1010
  let c2048_531 : Index := 2048#32
  ![2, v1011.toNat, 2048]
def k0_mult70 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_532 : BitVec 32 := 24#32
  let v1016 : BitVec 32 := Scalar.addi v457 c24_i32_532
  let c8_i32_533 : BitVec 32 := 8#32
  let v1017 : BitVec 32 := Scalar.addi v1016 c8_i32_533
  v1017
def k0_mult71 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_536 : BitVec 32 := 24#32
  let v1024 : BitVec 32 := Scalar.addi v457 c24_i32_536
  let c16_i32_537 : BitVec 32 := 16#32
  let v1025 : BitVec 32 := Scalar.addi v1024 c16_i32_537
  v1025
def k0_mult72 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_540 : BitVec 32 := 24#32
  let v1032 : BitVec 32 := Scalar.addi v457 c24_i32_540
  let c24_i32_541 : BitVec 32 := 24#32
  let v1033 : BitVec 32 := Scalar.addi v1032 c24_i32_541
  v1033
def k0_mult73 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_547 : BitVec 32 := 32#32
  let v1042 : BitVec 32 := Scalar.addi v457 c32_i32_547
  let c0_i32_548 : BitVec 32 := 0#32
  let v1043 : BitVec 32 := Scalar.addi v1042 c0_i32_548
  v1043
def k0_off19 (k0_t1 : Fin k0_t1_loop.trips) (c0_i32_548 : BitVec 32) : Fin 3 → Nat :=
  let c0_549 : Index := 0#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_547 : BitVec 32 := 32#32
  let v1042 : BitVec 32 := Scalar.addi v457 c32_i32_547
  let v1043 : BitVec 32 := Scalar.addi v1042 c0_i32_548
  let v1044 : BitVec 32 := v1043
  let v1045 : Index := Scalar.indexCast v1044
  let c2048_550 : Index := 2048#32
  ![0, v1045.toNat, 2048]
def k0_mult74 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_551 : BitVec 32 := 32#32
  let v1050 : BitVec 32 := Scalar.addi v457 c32_i32_551
  let c8_i32_552 : BitVec 32 := 8#32
  let v1051 : BitVec 32 := Scalar.addi v1050 c8_i32_552
  v1051
def k0_mult75 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_555 : BitVec 32 := 32#32
  let v1058 : BitVec 32 := Scalar.addi v457 c32_i32_555
  let c16_i32_556 : BitVec 32 := 16#32
  let v1059 : BitVec 32 := Scalar.addi v1058 c16_i32_556
  v1059
def k0_mult76 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_559 : BitVec 32 := 32#32
  let v1066 : BitVec 32 := Scalar.addi v457 c32_i32_559
  let c24_i32_560 : BitVec 32 := 24#32
  let v1067 : BitVec 32 := Scalar.addi v1066 c24_i32_560
  v1067
def k0_mult77 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c0_i32_563 : BitVec 32 := 0#32
  let v1074 : BitVec 32 := Scalar.addi v457 c0_i32_563
  v1074
def k0_off20 (k0_t1 : Fin k0_t1_loop.trips) (c0_i32_563 : BitVec 32) : Fin 2 → Nat :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let v1074 : BitVec 32 := Scalar.addi v457 c0_i32_563
  let v1075 : BitVec 32 := v1074
  let v1076 : Index := Scalar.indexCast v1075
  let c2048_564 : Index := 2048#32
  ![v1076.toNat, 2048]
def k0_mult78 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c8_i32_565 : BitVec 32 := 8#32
  let v1080 : BitVec 32 := Scalar.addi v457 c8_i32_565
  v1080
def k0_mult79 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c16_i32_567 : BitVec 32 := 16#32
  let v1086 : BitVec 32 := Scalar.addi v457 c16_i32_567
  v1086
def k0_mult80 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_569 : BitVec 32 := 24#32
  let v1092 : BitVec 32 := Scalar.addi v457 c24_i32_569
  v1092
def k0_mult81 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_577 : BitVec 32 := 24#32
  let v1102 : BitVec 32 := Scalar.addi v457 c24_i32_577
  let c0_i32_578 : BitVec 32 := 0#32
  let v1103 : BitVec 32 := Scalar.addi v1102 c0_i32_578
  v1103
def k0_off21 (k0_t1 : Fin k0_t1_loop.trips) (c0_i32_578 : BitVec 32) : Fin 3 → Nat :=
  let c1_579 : Index := 1#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_577 : BitVec 32 := 24#32
  let v1102 : BitVec 32 := Scalar.addi v457 c24_i32_577
  let v1103 : BitVec 32 := Scalar.addi v1102 c0_i32_578
  let v1104 : BitVec 32 := v1103
  let v1105 : Index := Scalar.indexCast v1104
  let c2560_580 : Index := 2560#32
  ![1, v1105.toNat, 2560]
def k0_mult82 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_581 : BitVec 32 := 24#32
  let v1110 : BitVec 32 := Scalar.addi v457 c24_i32_581
  let c8_i32_582 : BitVec 32 := 8#32
  let v1111 : BitVec 32 := Scalar.addi v1110 c8_i32_582
  v1111
def k0_mult83 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_585 : BitVec 32 := 24#32
  let v1118 : BitVec 32 := Scalar.addi v457 c24_i32_585
  let c16_i32_586 : BitVec 32 := 16#32
  let v1119 : BitVec 32 := Scalar.addi v1118 c16_i32_586
  v1119
def k0_mult84 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_589 : BitVec 32 := 24#32
  let v1126 : BitVec 32 := Scalar.addi v457 c24_i32_589
  let c24_i32_590 : BitVec 32 := 24#32
  let v1127 : BitVec 32 := Scalar.addi v1126 c24_i32_590
  v1127
def k0_mult85 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_596 : BitVec 32 := 24#32
  let v1136 : BitVec 32 := Scalar.addi v457 c24_i32_596
  let c0_i32_597 : BitVec 32 := 0#32
  let v1137 : BitVec 32 := Scalar.addi v1136 c0_i32_597
  v1137
def k0_off22 (k0_t1 : Fin k0_t1_loop.trips) (c0_i32_597 : BitVec 32) : Fin 3 → Nat :=
  let c2_598 : Index := 2#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_596 : BitVec 32 := 24#32
  let v1136 : BitVec 32 := Scalar.addi v457 c24_i32_596
  let v1137 : BitVec 32 := Scalar.addi v1136 c0_i32_597
  let v1138 : BitVec 32 := v1137
  let v1139 : Index := Scalar.indexCast v1138
  let c2560_599 : Index := 2560#32
  ![2, v1139.toNat, 2560]
def k0_mult86 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_600 : BitVec 32 := 24#32
  let v1144 : BitVec 32 := Scalar.addi v457 c24_i32_600
  let c8_i32_601 : BitVec 32 := 8#32
  let v1145 : BitVec 32 := Scalar.addi v1144 c8_i32_601
  v1145
def k0_mult87 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_604 : BitVec 32 := 24#32
  let v1152 : BitVec 32 := Scalar.addi v457 c24_i32_604
  let c16_i32_605 : BitVec 32 := 16#32
  let v1153 : BitVec 32 := Scalar.addi v1152 c16_i32_605
  v1153
def k0_mult88 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_608 : BitVec 32 := 24#32
  let v1160 : BitVec 32 := Scalar.addi v457 c24_i32_608
  let c24_i32_609 : BitVec 32 := 24#32
  let v1161 : BitVec 32 := Scalar.addi v1160 c24_i32_609
  v1161
def k0_mult89 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_615 : BitVec 32 := 32#32
  let v1170 : BitVec 32 := Scalar.addi v457 c32_i32_615
  let c0_i32_616 : BitVec 32 := 0#32
  let v1171 : BitVec 32 := Scalar.addi v1170 c0_i32_616
  v1171
def k0_off23 (k0_t1 : Fin k0_t1_loop.trips) (c0_i32_616 : BitVec 32) : Fin 3 → Nat :=
  let c0_617 : Index := 0#32
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_615 : BitVec 32 := 32#32
  let v1170 : BitVec 32 := Scalar.addi v457 c32_i32_615
  let v1171 : BitVec 32 := Scalar.addi v1170 c0_i32_616
  let v1172 : BitVec 32 := v1171
  let v1173 : Index := Scalar.indexCast v1172
  let c2560_618 : Index := 2560#32
  ![0, v1173.toNat, 2560]
def k0_mult90 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_619 : BitVec 32 := 32#32
  let v1178 : BitVec 32 := Scalar.addi v457 c32_i32_619
  let c8_i32_620 : BitVec 32 := 8#32
  let v1179 : BitVec 32 := Scalar.addi v1178 c8_i32_620
  v1179
def k0_mult91 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_623 : BitVec 32 := 32#32
  let v1186 : BitVec 32 := Scalar.addi v457 c32_i32_623
  let c16_i32_624 : BitVec 32 := 16#32
  let v1187 : BitVec 32 := Scalar.addi v1186 c16_i32_624
  v1187
def k0_mult92 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c32_i32_627 : BitVec 32 := 32#32
  let v1194 : BitVec 32 := Scalar.addi v457 c32_i32_627
  let c24_i32_628 : BitVec 32 := 24#32
  let v1195 : BitVec 32 := Scalar.addi v1194 c24_i32_628
  v1195
def k0_mult93 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c0_i32_631 : BitVec 32 := 0#32
  let v1202 : BitVec 32 := Scalar.addi v457 c0_i32_631
  v1202
def k0_off24 (k0_t1 : Fin k0_t1_loop.trips) (c0_i32_631 : BitVec 32) : Fin 2 → Nat :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let v1202 : BitVec 32 := Scalar.addi v457 c0_i32_631
  let v1203 : BitVec 32 := v1202
  let v1204 : Index := Scalar.indexCast v1203
  let c2560_632 : Index := 2560#32
  ![v1204.toNat, 2560]
def k0_mult94 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c8_i32_633 : BitVec 32 := 8#32
  let v1208 : BitVec 32 := Scalar.addi v457 c8_i32_633
  v1208
def k0_mult95 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c16_i32_635 : BitVec 32 := 16#32
  let v1214 : BitVec 32 := Scalar.addi v457 c16_i32_635
  v1214
def k0_mult96 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c32_i32 : BitVec 32 := 32#32
  let v457 : BitVec 32 := Scalar.muli arg13 c32_i32
  let c24_i32_637 : BitVec 32 := 24#32
  let v1220 : BitVec 32 := Scalar.addi v457 c24_i32_637
  v1220
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17.lean ====
abbrev S1x8192x4608 : Shape := ⟨3, ![1, 8192, 4608]⟩
abbrev S2x31x512 : Shape := ⟨3, ![2, 31, 512]⟩
abbrev S2x512 : Shape := ⟨2, ![2, 512]⟩
abbrev S2x3x512 : Shape := ⟨3, ![2, 3, 512]⟩
abbrev S8192x4608 : Shape := ⟨2, ![8192, 4608]⟩
abbrev S8192x512 : Shape := ⟨2, ![8192, 512]⟩
abbrev S512x2560 : Shape := ⟨2, ![512, 2560]⟩
abbrev S512x512 : Shape := ⟨2, ![512, 512]⟩
abbrev S8x544x512 : Shape := ⟨3, ![8, 544, 512]⟩
abbrev S3x544x512 : Shape := ⟨3, ![3, 544, 512]⟩
abbrev S32x8x512 : Shape := ⟨3, ![32, 8, 512]⟩
abbrev S3x8x512 : Shape := ⟨3, ![3, 8, 512]⟩
abbrev S32x512 : Shape := ⟨2, ![32, 512]⟩
abbrev S1x32x512 : Shape := ⟨3, ![1, 32, 512]⟩
abbrev S1x31x512 : Shape := ⟨3, ![1, 31, 512]⟩
abbrev S31x512 : Shape := ⟨2, ![31, 512]⟩
abbrev S1x512 : Shape := ⟨2, ![1, 512]⟩
abbrev S8x512 : Shape := ⟨2, ![8, 512]⟩
abbrev S1x8x512 : Shape := ⟨3, ![1, 8, 512]⟩
abbrev S1x3x512 : Shape := ⟨3, ![1, 3, 512]⟩
abbrev S3x512 : Shape := ⟨2, ![3, 512]⟩
abbrev S1x512x512 : Shape := ⟨3, ![1, 512, 512]⟩
abbrev S1x536x512 : Shape := ⟨3, ![1, 536, 512]⟩
abbrev S536x512 : Shape := ⟨2, ![536, 512]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S1x8192x4608, .f32⟩
  | .hbm, ⟨1, _⟩ => ⟨S2x31x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x3x512, .f32⟩
  | .hbm, ⟨6, _⟩ => ⟨S8192x4608, .f32⟩
  | .hbm, ⟨7, _⟩ => ⟨S8192x4608, .bf16⟩
  | .hbm, ⟨8, _⟩ => ⟨S8192x512, .f32⟩
  | .hbm, ⟨9, _⟩ => ⟨S8192x512, .bf16⟩
  | .hbm, ⟨10, _⟩ => ⟨S8192x512, .bf16⟩
  | .hbm, ⟨11, _⟩ => ⟨S8192x512, .bf16⟩
  | .local _ .vmem, ⟨0, _⟩ => ⟨S512x2560, .bf16⟩
  | .local _ .vmem, ⟨1, _⟩ => ⟨S512x2560, .bf16⟩
  | .local _ .vmem, ⟨2, _⟩ => ⟨S2x31x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x3x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S8x544x512, .f32⟩
  | .local _ .vmem, ⟨16, _⟩ => ⟨S3x544x512, .f32⟩
  | .local _ .vmem, ⟨17, _⟩ => ⟨S32x8x512, .f32⟩
  | .local _ .vmem, ⟨18, _⟩ => ⟨S3x8x512, .f32⟩
  | .local _ .vmem, ⟨19, _⟩ => ⟨S512x512, .f32⟩
  | _, _ => ⟨S1x8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_41 : BitVec 32 := 0#32
  let c16_i32 : BitVec 32 := 16#32
  let v49 : BitVec 32 := Scalar.addi c0_i32_41 c16_i32
  let c1_i32_42 : BitVec 32 := 1#32
  ⟨c0_i32_41, v49, c1_i32_42⟩
def k0_mult1 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_103 : BitVec 32 := 0#32
  let v124 : BitVec 32 := Scalar.addi v119 c0_i32_103
  let c0_i32_104 : BitVec 32 := 0#32
  let v125 : BitVec 32 := Scalar.addi v124 c0_i32_104
  v125
def k0_off1 (k0_t1 : Fin k0_t1_loop.trips) (c0_i32_103 : BitVec 32) (c0_i32_104 : BitVec 32) : Fin 3 → Nat :=
  let c2_105 : Index := 2#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v124 : BitVec 32 := Scalar.addi v119 c0_i32_103
  let v125 : BitVec 32 := Scalar.addi v124 c0_i32_104
  let v126 : BitVec 32 := v125
  let v127 : Index := Scalar.indexCast v126
  let c0_106 : Index := 0#32
  ![2, v127.toNat, 0]
def k0_mult2 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_107 : BitVec 32 := 0#32
  let v132 : BitVec 32 := Scalar.addi v119 c0_i32_107
  let c8_i32 : BitVec 32 := 8#32
  let v133 : BitVec 32 := Scalar.addi v132 c8_i32
  v133
def k0_mult3 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_110 : BitVec 32 := 0#32
  let v140 : BitVec 32 := Scalar.addi v119 c0_i32_110
  let c16_i32_111 : BitVec 32 := 16#32
  let v141 : BitVec 32 := Scalar.addi v140 c16_i32_111
  v141
def k0_mult4 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_114 : BitVec 32 := 0#32
  let v148 : BitVec 32 := Scalar.addi v119 c0_i32_114
  let c24_i32 : BitVec 32 := 24#32
  let v149 : BitVec 32 := Scalar.addi v148 c24_i32
  v149
def k0_mult5 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_120 : BitVec 32 := 0#32
  let v158 : BitVec 32 := Scalar.addi v119 c0_i32_120
  let c0_i32_121 : BitVec 32 := 0#32
  let v159 : BitVec 32 := Scalar.addi v158 c0_i32_121
  v159
def k0_off2 (k0_t1 : Fin k0_t1_loop.trips) (c0_i32_120 : BitVec 32) (c0_i32_121 : BitVec 32) : Fin 3 → Nat :=
  let c3_122 : Index := 3#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v158 : BitVec 32 := Scalar.addi v119 c0_i32_120
  let v159 : BitVec 32 := Scalar.addi v158 c0_i32_121
  let v160 : BitVec 32 := v159
  let v161 : Index := Scalar.indexCast v160
  let c0_123 : Index := 0#32
  ![3, v161.toNat, 0]
def k0_mult6 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_124 : BitVec 32 := 0#32
  let v166 : BitVec 32 := Scalar.addi v119 c0_i32_124
  let c8_i32_125 : BitVec 32 := 8#32
  let v167 : BitVec 32 := Scalar.addi v166 c8_i32_125
  v167
def k0_mult7 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_128 : BitVec 32 := 0#32
  let v174 : BitVec 32 := Scalar.addi v119 c0_i32_128
  let c16_i32_129 : BitVec 32 := 16#32
  let v175 : BitVec 32 := Scalar.addi v174 c16_i32_129
  v175
def k0_mult8 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_132 : BitVec 32 := 0#32
  let v182 : BitVec 32 := Scalar.addi v119 c0_i32_132
  let c24_i32_133 : BitVec 32 := 24#32
  let v183 : BitVec 32 := Scalar.addi v182 c24_i32_133
  v183
def k0_mult9 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_139 : BitVec 32 := 0#32
  let v192 : BitVec 32 := Scalar.addi v119 c0_i32_139
  let c0_i32_140 : BitVec 32 := 0#32
  let v193 : BitVec 32 := Scalar.addi v192 c0_i32_140
  v193
def k0_off3 (k0_t1 : Fin k0_t1_loop.trips) (c0_i32_139 : BitVec 32) (c0_i32_140 : BitVec 32) : Fin 3 → Nat :=
  let c4_141 : Index := 4#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v192 : BitVec 32 := Scalar.addi v119 c0_i32_139
  let v193 : BitVec 32 := Scalar.addi v192 c0_i32_140
  let v194 : BitVec 32 := v193
  let v195 : Index := Scalar.indexCast v194
  let c0_142 : Index := 0#32
  ![4, v195.toNat, 0]
def k0_mult10 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_143 : BitVec 32 := 0#32
  let v200 : BitVec 32 := Scalar.addi v119 c0_i32_143
  let c8_i32_144 : BitVec 32 := 8#32
  let v201 : BitVec 32 := Scalar.addi v200 c8_i32_144
  v201
def k0_mult11 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_147 : BitVec 32 := 0#32
  let v208 : BitVec 32 := Scalar.addi v119 c0_i32_147
  let c16_i32_148 : BitVec 32 := 16#32
  let v209 : BitVec 32 := Scalar.addi v208 c16_i32_148
  v209
def k0_mult12 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_151 : BitVec 32 := 0#32
  let v216 : BitVec 32 := Scalar.addi v119 c0_i32_151
  let c24_i32_152 : BitVec 32 := 24#32
  let v217 : BitVec 32 := Scalar.addi v216 c24_i32_152
  v217
def k0_mult13 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_158 : BitVec 32 := 0#32
  let v226 : BitVec 32 := Scalar.addi v119 c0_i32_158
  let c0_i32_159 : BitVec 32 := 0#32
  let v227 : BitVec 32 := Scalar.addi v226 c0_i32_159
  v227
def k0_off4 (k0_t1 : Fin k0_t1_loop.trips) (c0_i32_158 : BitVec 32) (c0_i32_159 : BitVec 32) : Fin 3 → Nat :=
  let c5_160 : Index := 5#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v226 : BitVec 32 := Scalar.addi v119 c0_i32_158
  let v227 : BitVec 32 := Scalar.addi v226 c0_i32_159
  let v228 : BitVec 32 := v227
  let v229 : Index := Scalar.indexCast v228
  let c0_161 : Index := 0#32
  ![5, v229.toNat, 0]
def k0_mult14 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_162 : BitVec 32 := 0#32
  let v234 : BitVec 32 := Scalar.addi v119 c0_i32_162
  let c8_i32_163 : BitVec 32 := 8#32
  let v235 : BitVec 32 := Scalar.addi v234 c8_i32_163
  v235
def k0_mult15 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_166 : BitVec 32 := 0#32
  let v242 : BitVec 32 := Scalar.addi v119 c0_i32_166
  let c16_i32_167 : BitVec 32 := 16#32
  let v243 : BitVec 32 := Scalar.addi v242 c16_i32_167
  v243
def k0_mult16 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_170 : BitVec 32 := 0#32
  let v250 : BitVec 32 := Scalar.addi v119 c0_i32_170
  let c24_i32_171 : BitVec 32 := 24#32
  let v251 : BitVec 32 := Scalar.addi v250 c24_i32_171
  v251
def k0_mult17 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_177 : BitVec 32 := 0#32
  let v260 : BitVec 32 := Scalar.addi v119 c0_i32_177
  let c0_i32_178 : BitVec 32 := 0#32
  let v261 : BitVec 32 := Scalar.addi v260 c0_i32_178
  v261
def k0_off5 (k0_t1 : Fin k0_t1_loop.trips) (c0_i32_177 : BitVec 32) (c0_i32_178 : BitVec 32) : Fin 3 → Nat :=
  let c6_179 : Index := 6#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v260 : BitVec 32 := Scalar.addi v119 c0_i32_177
  let v261 : BitVec 32 := Scalar.addi v260 c0_i32_178
  let v262 : BitVec 32 := v261
  let v263 : Index := Scalar.indexCast v262
  let c0_180 : Index := 0#32
  ![6, v263.toNat, 0]
def k0_mult18 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_181 : BitVec 32 := 0#32
  let v268 : BitVec 32 := Scalar.addi v119 c0_i32_181
  let c8_i32_182 : BitVec 32 := 8#32
  let v269 : BitVec 32 := Scalar.addi v268 c8_i32_182
  v269
def k0_mult19 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_185 : BitVec 32 := 0#32
  let v276 : BitVec 32 := Scalar.addi v119 c0_i32_185
  let c16_i32_186 : BitVec 32 := 16#32
  let v277 : BitVec 32 := Scalar.addi v276 c16_i32_186
  v277
def k0_mult20 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_189 : BitVec 32 := 0#32
  let v284 : BitVec 32 := Scalar.addi v119 c0_i32_189
  let c24_i32_190 : BitVec 32 := 24#32
  let v285 : BitVec 32 := Scalar.addi v284 c24_i32_190
  v285
def k0_mult21 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_196 : BitVec 32 := 0#32
  let v294 : BitVec 32 := Scalar.addi v119 c0_i32_196
  let c0_i32_197 : BitVec 32 := 0#32
  let v295 : BitVec 32 := Scalar.addi v294 c0_i32_197
  v295
def k0_off6 (k0_t1 : Fin k0_t1_loop.trips) (c0_i32_196 : BitVec 32) (c0_i32_197 : BitVec 32) : Fin 3 → Nat :=
  let c7_198 : Index := 7#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v294 : BitVec 32 := Scalar.addi v119 c0_i32_196
  let v295 : BitVec 32 := Scalar.addi v294 c0_i32_197
  let v296 : BitVec 32 := v295
  let v297 : Index := Scalar.indexCast v296
  let c0_199 : Index := 0#32
  ![7, v297.toNat, 0]
def k0_mult22 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_200 : BitVec 32 := 0#32
  let v302 : BitVec 32 := Scalar.addi v119 c0_i32_200
  let c8_i32_201 : BitVec 32 := 8#32
  let v303 : BitVec 32 := Scalar.addi v302 c8_i32_201
  v303
def k0_mult23 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_204 : BitVec 32 := 0#32
  let v310 : BitVec 32 := Scalar.addi v119 c0_i32_204
  let c16_i32_205 : BitVec 32 := 16#32
  let v311 : BitVec 32 := Scalar.addi v310 c16_i32_205
  v311
def k0_mult24 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_208 : BitVec 32 := 0#32
  let v318 : BitVec 32 := Scalar.addi v119 c0_i32_208
  let c24_i32_209 : BitVec 32 := 24#32
  let v319 : BitVec 32 := Scalar.addi v318 c24_i32_209
  v319
def k0_mult25 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_215 : BitVec 32 := 8#32
  let v328 : BitVec 32 := Scalar.addi v119 c8_i32_215
  let c0_i32_216 : BitVec 32 := 0#32
  let v329 : BitVec 32 := Scalar.addi v328 c0_i32_216
  v329
def k0_off7 (k0_t1 : Fin k0_t1_loop.trips) (c8_i32_215 : BitVec 32) (c0_i32_216 : BitVec 32) : Fin 3 → Nat :=
  let c0_217 : Index := 0#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v328 : BitVec 32 := Scalar.addi v119 c8_i32_215
  let v329 : BitVec 32 := Scalar.addi v328 c0_i32_216
  let v330 : BitVec 32 := v329
  let v331 : Index := Scalar.indexCast v330
  let c0_218 : Index := 0#32
  ![0, v331.toNat, 0]
def k0_mult26 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_219 : BitVec 32 := 8#32
  let v336 : BitVec 32 := Scalar.addi v119 c8_i32_219
  let c8_i32_220 : BitVec 32 := 8#32
  let v337 : BitVec 32 := Scalar.addi v336 c8_i32_220
  v337
def k0_mult27 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_223 : BitVec 32 := 8#32
  let v344 : BitVec 32 := Scalar.addi v119 c8_i32_223
  let c16_i32_224 : BitVec 32 := 16#32
  let v345 : BitVec 32 := Scalar.addi v344 c16_i32_224
  v345
def k0_mult28 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_227 : BitVec 32 := 8#32
  let v352 : BitVec 32 := Scalar.addi v119 c8_i32_227
  let c24_i32_228 : BitVec 32 := 24#32
  let v353 : BitVec 32 := Scalar.addi v352 c24_i32_228
  v353
def k0_mult29 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_234 : BitVec 32 := 8#32
  let v362 : BitVec 32 := Scalar.addi v119 c8_i32_234
  let c0_i32_235 : BitVec 32 := 0#32
  let v363 : BitVec 32 := Scalar.addi v362 c0_i32_235
  v363
def k0_off8 (k0_t1 : Fin k0_t1_loop.trips) (c8_i32_234 : BitVec 32) (c0_i32_235 : BitVec 32) : Fin 3 → Nat :=
  let c1_236 : Index := 1#32
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v362 : BitVec 32 := Scalar.addi v119 c8_i32_234
  let v363 : BitVec 32 := Scalar.addi v362 c0_i32_235
  let v364 : BitVec 32 := v363
  let v365 : Index := Scalar.indexCast v364
  let c0_237 : Index := 0#32
  ![1, v365.toNat, 0]
def k0_mult30 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_238 : BitVec 32 := 8#32
  let v370 : BitVec 32 := Scalar.addi v119 c8_i32_238
  let c8_i32_239 : BitVec 32 := 8#32
  let v371 : BitVec 32 := Scalar.addi v370 c8_i32_239
  v371
def k0_mult31 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_242 : BitVec 32 := 8#32
  let v378 : BitVec 32 := Scalar.addi v119 c8_i32_242
  let c16_i32_243 : BitVec 32 := 16#32
  let v379 : BitVec 32 := Scalar.addi v378 c16_i32_243
  v379
def k0_mult32 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_246 : BitVec 32 := 8#32
  let v386 : BitVec 32 := Scalar.addi v119 c8_i32_246
  let c24_i32_247 : BitVec 32 := 24#32
  let v387 : BitVec 32 := Scalar.addi v386 c24_i32_247
  v387
def k0_mult33 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_252 : BitVec 32 := 8#32
  let v396 : BitVec 32 := Scalar.addi v119 c8_i32_252
  let c0_i32_253 : BitVec 32 := 0#32
  let v397 : BitVec 32 := Scalar.addi v396 c0_i32_253
  v397
def k0_mult34 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_256 : BitVec 32 := 8#32
  let v404 : BitVec 32 := Scalar.addi v119 c8_i32_256
  let c8_i32_257 : BitVec 32 := 8#32
  let v405 : BitVec 32 := Scalar.addi v404 c8_i32_257
  v405
def k0_mult35 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_260 : BitVec 32 := 8#32
  let v412 : BitVec 32 := Scalar.addi v119 c8_i32_260
  let c16_i32_261 : BitVec 32 := 16#32
  let v413 : BitVec 32 := Scalar.addi v412 c16_i32_261
  v413
def k0_mult36 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_264 : BitVec 32 := 8#32
  let v420 : BitVec 32 := Scalar.addi v119 c8_i32_264
  let c24_i32_265 : BitVec 32 := 24#32
  let v421 : BitVec 32 := Scalar.addi v420 c24_i32_265
  v421
def k0_mult37 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_270 : BitVec 32 := 8#32
  let v430 : BitVec 32 := Scalar.addi v119 c8_i32_270
  let c0_i32_271 : BitVec 32 := 0#32
  let v431 : BitVec 32 := Scalar.addi v430 c0_i32_271
  v431
def k0_mult38 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_274 : BitVec 32 := 8#32
  let v438 : BitVec 32 := Scalar.addi v119 c8_i32_274
  let c8_i32_275 : BitVec 32 := 8#32
  let v439 : BitVec 32 := Scalar.addi v438 c8_i32_275
  v439
def k0_mult39 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_278 : BitVec 32 := 8#32
  let v446 : BitVec 32 := Scalar.addi v119 c8_i32_278
  let c16_i32_279 : BitVec 32 := 16#32
  let v447 : BitVec 32 := Scalar.addi v446 c16_i32_279
  v447
def k0_mult40 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_282 : BitVec 32 := 8#32
  let v454 : BitVec 32 := Scalar.addi v119 c8_i32_282
  let c24_i32_283 : BitVec 32 := 24#32
  let v455 : BitVec 32 := Scalar.addi v454 c24_i32_283
  v455
def k0_mult41 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_288 : BitVec 32 := 8#32
  let v464 : BitVec 32 := Scalar.addi v119 c8_i32_288
  let c0_i32_289 : BitVec 32 := 0#32
  let v465 : BitVec 32 := Scalar.addi v464 c0_i32_289
  v465
def k0_mult42 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_292 : BitVec 32 := 8#32
  let v472 : BitVec 32 := Scalar.addi v119 c8_i32_292
  let c8_i32_293 : BitVec 32 := 8#32
  let v473 : BitVec 32 := Scalar.addi v472 c8_i32_293
  v473
def k0_mult43 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_296 : BitVec 32 := 8#32
  let v480 : BitVec 32 := Scalar.addi v119 c8_i32_296
  let c16_i32_297 : BitVec 32 := 16#32
  let v481 : BitVec 32 := Scalar.addi v480 c16_i32_297
  v481
def k0_mult44 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_300 : BitVec 32 := 8#32
  let v488 : BitVec 32 := Scalar.addi v119 c8_i32_300
  let c24_i32_301 : BitVec 32 := 24#32
  let v489 : BitVec 32 := Scalar.addi v488 c24_i32_301
  v489
def k0_mult45 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_306 : BitVec 32 := 8#32
  let v498 : BitVec 32 := Scalar.addi v119 c8_i32_306
  let c0_i32_307 : BitVec 32 := 0#32
  let v499 : BitVec 32 := Scalar.addi v498 c0_i32_307
  v499
def k0_mult46 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_310 : BitVec 32 := 8#32
  let v506 : BitVec 32 := Scalar.addi v119 c8_i32_310
  let c8_i32_311 : BitVec 32 := 8#32
  let v507 : BitVec 32 := Scalar.addi v506 c8_i32_311
  v507
def k0_mult47 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_314 : BitVec 32 := 8#32
  let v514 : BitVec 32 := Scalar.addi v119 c8_i32_314
  let c16_i32_315 : BitVec 32 := 16#32
  let v515 : BitVec 32 := Scalar.addi v514 c16_i32_315
  v515
def k0_mult48 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_318 : BitVec 32 := 8#32
  let v522 : BitVec 32 := Scalar.addi v119 c8_i32_318
  let c24_i32_319 : BitVec 32 := 24#32
  let v523 : BitVec 32 := Scalar.addi v522 c24_i32_319
  v523
def k0_mult49 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_324 : BitVec 32 := 8#32
  let v532 : BitVec 32 := Scalar.addi v119 c8_i32_324
  let c0_i32_325 : BitVec 32 := 0#32
  let v533 : BitVec 32 := Scalar.addi v532 c0_i32_325
  v533
def k0_mult50 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_328 : BitVec 32 := 8#32
  let v540 : BitVec 32 := Scalar.addi v119 c8_i32_328
  let c8_i32_329 : BitVec 32 := 8#32
  let v541 : BitVec 32 := Scalar.addi v540 c8_i32_329
  v541
def k0_mult51 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_332 : BitVec 32 := 8#32
  let v548 : BitVec 32 := Scalar.addi v119 c8_i32_332
  let c16_i32_333 : BitVec 32 := 16#32
  let v549 : BitVec 32 := Scalar.addi v548 c16_i32_333
  v549
def k0_mult52 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_336 : BitVec 32 := 8#32
  let v556 : BitVec 32 := Scalar.addi v119 c8_i32_336
  let c24_i32_337 : BitVec 32 := 24#32
  let v557 : BitVec 32 := Scalar.addi v556 c24_i32_337
  v557
def k0_mult53 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_342 : BitVec 32 := 8#32
  let v566 : BitVec 32 := Scalar.addi v119 c8_i32_342
  let c0_i32_343 : BitVec 32 := 0#32
  let v567 : BitVec 32 := Scalar.addi v566 c0_i32_343
  v567
def k0_mult54 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_346 : BitVec 32 := 8#32
  let v574 : BitVec 32 := Scalar.addi v119 c8_i32_346
  let c8_i32_347 : BitVec 32 := 8#32
  let v575 : BitVec 32 := Scalar.addi v574 c8_i32_347
  v575
def k0_mult55 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_350 : BitVec 32 := 8#32
  let v582 : BitVec 32 := Scalar.addi v119 c8_i32_350
  let c16_i32_351 : BitVec 32 := 16#32
  let v583 : BitVec 32 := Scalar.addi v582 c16_i32_351
  v583
def k0_mult56 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_354 : BitVec 32 := 8#32
  let v590 : BitVec 32 := Scalar.addi v119 c8_i32_354
  let c24_i32_355 : BitVec 32 := 24#32
  let v591 : BitVec 32 := Scalar.addi v590 c24_i32_355
  v591
def k0_mult57 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_360 : BitVec 32 := 16#32
  let v600 : BitVec 32 := Scalar.addi v119 c16_i32_360
  let c0_i32_361 : BitVec 32 := 0#32
  let v601 : BitVec 32 := Scalar.addi v600 c0_i32_361
  v601
def k0_mult58 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_364 : BitVec 32 := 16#32
  let v608 : BitVec 32 := Scalar.addi v119 c16_i32_364
  let c8_i32_365 : BitVec 32 := 8#32
  let v609 : BitVec 32 := Scalar.addi v608 c8_i32_365
  v609
def k0_mult59 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_368 : BitVec 32 := 16#32
  let v616 : BitVec 32 := Scalar.addi v119 c16_i32_368
  let c16_i32_369 : BitVec 32 := 16#32
  let v617 : BitVec 32 := Scalar.addi v616 c16_i32_369
  v617
def k0_mult60 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_372 : BitVec 32 := 16#32
  let v624 : BitVec 32 := Scalar.addi v119 c16_i32_372
  let c24_i32_373 : BitVec 32 := 24#32
  let v625 : BitVec 32 := Scalar.addi v624 c24_i32_373
  v625
def k0_mult61 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_378 : BitVec 32 := 16#32
  let v634 : BitVec 32 := Scalar.addi v119 c16_i32_378
  let c0_i32_379 : BitVec 32 := 0#32
  let v635 : BitVec 32 := Scalar.addi v634 c0_i32_379
  v635
def k0_mult62 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_382 : BitVec 32 := 16#32
  let v642 : BitVec 32 := Scalar.addi v119 c16_i32_382
  let c8_i32_383 : BitVec 32 := 8#32
  let v643 : BitVec 32 := Scalar.addi v642 c8_i32_383
  v643
def k0_mult63 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_386 : BitVec 32 := 16#32
  let v650 : BitVec 32 := Scalar.addi v119 c16_i32_386
  let c16_i32_387 : BitVec 32 := 16#32
  let v651 : BitVec 32 := Scalar.addi v650 c16_i32_387
  v651
def k0_mult64 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_390 : BitVec 32 := 16#32
  let v658 : BitVec 32 := Scalar.addi v119 c16_i32_390
  let c24_i32_391 : BitVec 32 := 24#32
  let v659 : BitVec 32 := Scalar.addi v658 c24_i32_391
  v659
def k0_mult65 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_396 : BitVec 32 := 16#32
  let v668 : BitVec 32 := Scalar.addi v119 c16_i32_396
  let c0_i32_397 : BitVec 32 := 0#32
  let v669 : BitVec 32 := Scalar.addi v668 c0_i32_397
  v669
def k0_mult66 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_400 : BitVec 32 := 16#32
  let v676 : BitVec 32 := Scalar.addi v119 c16_i32_400
  let c8_i32_401 : BitVec 32 := 8#32
  let v677 : BitVec 32 := Scalar.addi v676 c8_i32_401
  v677
def k0_mult67 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_404 : BitVec 32 := 16#32
  let v684 : BitVec 32 := Scalar.addi v119 c16_i32_404
  let c16_i32_405 : BitVec 32 := 16#32
  let v685 : BitVec 32 := Scalar.addi v684 c16_i32_405
  v685
def k0_mult68 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_408 : BitVec 32 := 16#32
  let v692 : BitVec 32 := Scalar.addi v119 c16_i32_408
  let c24_i32_409 : BitVec 32 := 24#32
  let v693 : BitVec 32 := Scalar.addi v692 c24_i32_409
  v693
def k0_mult69 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_414 : BitVec 32 := 16#32
  let v702 : BitVec 32 := Scalar.addi v119 c16_i32_414
  let c0_i32_415 : BitVec 32 := 0#32
  let v703 : BitVec 32 := Scalar.addi v702 c0_i32_415
  v703
def k0_mult70 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_418 : BitVec 32 := 16#32
  let v710 : BitVec 32 := Scalar.addi v119 c16_i32_418
  let c8_i32_419 : BitVec 32 := 8#32
  let v711 : BitVec 32 := Scalar.addi v710 c8_i32_419
  v711
def k0_mult71 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_422 : BitVec 32 := 16#32
  let v718 : BitVec 32 := Scalar.addi v119 c16_i32_422
  let c16_i32_423 : BitVec 32 := 16#32
  let v719 : BitVec 32 := Scalar.addi v718 c16_i32_423
  v719
def k0_mult72 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_426 : BitVec 32 := 16#32
  let v726 : BitVec 32 := Scalar.addi v119 c16_i32_426
  let c24_i32_427 : BitVec 32 := 24#32
  let v727 : BitVec 32 := Scalar.addi v726 c24_i32_427
  v727
def k0_mult73 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_432 : BitVec 32 := 16#32
  let v736 : BitVec 32 := Scalar.addi v119 c16_i32_432
  let c0_i32_433 : BitVec 32 := 0#32
  let v737 : BitVec 32 := Scalar.addi v736 c0_i32_433
  v737
def k0_mult74 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_436 : BitVec 32 := 16#32
  let v744 : BitVec 32 := Scalar.addi v119 c16_i32_436
  let c8_i32_437 : BitVec 32 := 8#32
  let v745 : BitVec 32 := Scalar.addi v744 c8_i32_437
  v745
def k0_mult75 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_440 : BitVec 32 := 16#32
  let v752 : BitVec 32 := Scalar.addi v119 c16_i32_440
  let c16_i32_441 : BitVec 32 := 16#32
  let v753 : BitVec 32 := Scalar.addi v752 c16_i32_441
  v753
def k0_mult76 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_444 : BitVec 32 := 16#32
  let v760 : BitVec 32 := Scalar.addi v119 c16_i32_444
  let c24_i32_445 : BitVec 32 := 24#32
  let v761 : BitVec 32 := Scalar.addi v760 c24_i32_445
  v761
def k0_mult77 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_450 : BitVec 32 := 16#32
  let v770 : BitVec 32 := Scalar.addi v119 c16_i32_450
  let c0_i32_451 : BitVec 32 := 0#32
  let v771 : BitVec 32 := Scalar.addi v770 c0_i32_451
  v771
def k0_mult78 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_454 : BitVec 32 := 16#32
  let v778 : BitVec 32 := Scalar.addi v119 c16_i32_454
  let c8_i32_455 : BitVec 32 := 8#32
  let v779 : BitVec 32 := Scalar.addi v778 c8_i32_455
  v779
def k0_mult79 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_458 : BitVec 32 := 16#32
  let v786 : BitVec 32 := Scalar.addi v119 c16_i32_458
  let c16_i32_459 : BitVec 32 := 16#32
  let v787 : BitVec 32 := Scalar.addi v786 c16_i32_459
  v787
def k0_mult80 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_462 : BitVec 32 := 16#32
  let v794 : BitVec 32 := Scalar.addi v119 c16_i32_462
  let c24_i32_463 : BitVec 32 := 24#32
  let v795 : BitVec 32 := Scalar.addi v794 c24_i32_463
  v795
def k0_mult81 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_468 : BitVec 32 := 16#32
  let v804 : BitVec 32 := Scalar.addi v119 c16_i32_468
  let c0_i32_469 : BitVec 32 := 0#32
  let v805 : BitVec 32 := Scalar.addi v804 c0_i32_469
  v805
def k0_mult82 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_472 : BitVec 32 := 16#32
  let v812 : BitVec 32 := Scalar.addi v119 c16_i32_472
  let c8_i32_473 : BitVec 32 := 8#32
  let v813 : BitVec 32 := Scalar.addi v812 c8_i32_473
  v813
def k0_mult83 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_476 : BitVec 32 := 16#32
  let v820 : BitVec 32 := Scalar.addi v119 c16_i32_476
  let c16_i32_477 : BitVec 32 := 16#32
  let v821 : BitVec 32 := Scalar.addi v820 c16_i32_477
  v821
def k0_mult84 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_480 : BitVec 32 := 16#32
  let v828 : BitVec 32 := Scalar.addi v119 c16_i32_480
  let c24_i32_481 : BitVec 32 := 24#32
  let v829 : BitVec 32 := Scalar.addi v828 c24_i32_481
  v829
def k0_mult85 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_486 : BitVec 32 := 16#32
  let v838 : BitVec 32 := Scalar.addi v119 c16_i32_486
  let c0_i32_487 : BitVec 32 := 0#32
  let v839 : BitVec 32 := Scalar.addi v838 c0_i32_487
  v839
def k0_mult86 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_490 : BitVec 32 := 16#32
  let v846 : BitVec 32 := Scalar.addi v119 c16_i32_490
  let c8_i32_491 : BitVec 32 := 8#32
  let v847 : BitVec 32 := Scalar.addi v846 c8_i32_491
  v847
def k0_mult87 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_494 : BitVec 32 := 16#32
  let v854 : BitVec 32 := Scalar.addi v119 c16_i32_494
  let c16_i32_495 : BitVec 32 := 16#32
  let v855 : BitVec 32 := Scalar.addi v854 c16_i32_495
  v855
def k0_mult88 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_498 : BitVec 32 := 16#32
  let v862 : BitVec 32 := Scalar.addi v119 c16_i32_498
  let c24_i32_499 : BitVec 32 := 24#32
  let v863 : BitVec 32 := Scalar.addi v862 c24_i32_499
  v863
def k0_mult89 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_504 : BitVec 32 := 24#32
  let v872 : BitVec 32 := Scalar.addi v119 c24_i32_504
  let c0_i32_505 : BitVec 32 := 0#32
  let v873 : BitVec 32 := Scalar.addi v872 c0_i32_505
  v873
def k0_mult90 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_508 : BitVec 32 := 24#32
  let v880 : BitVec 32 := Scalar.addi v119 c24_i32_508
  let c8_i32_509 : BitVec 32 := 8#32
  let v881 : BitVec 32 := Scalar.addi v880 c8_i32_509
  v881
def k0_mult91 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_512 : BitVec 32 := 24#32
  let v888 : BitVec 32 := Scalar.addi v119 c24_i32_512
  let c16_i32_513 : BitVec 32 := 16#32
  let v889 : BitVec 32 := Scalar.addi v888 c16_i32_513
  v889
def k0_mult92 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_516 : BitVec 32 := 24#32
  let v896 : BitVec 32 := Scalar.addi v119 c24_i32_516
  let c24_i32_517 : BitVec 32 := 24#32
  let v897 : BitVec 32 := Scalar.addi v896 c24_i32_517
  v897
def k0_mult93 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_522 : BitVec 32 := 24#32
  let v906 : BitVec 32 := Scalar.addi v119 c24_i32_522
  let c0_i32_523 : BitVec 32 := 0#32
  let v907 : BitVec 32 := Scalar.addi v906 c0_i32_523
  v907
def k0_mult94 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_526 : BitVec 32 := 24#32
  let v914 : BitVec 32 := Scalar.addi v119 c24_i32_526
  let c8_i32_527 : BitVec 32 := 8#32
  let v915 : BitVec 32 := Scalar.addi v914 c8_i32_527
  v915
def k0_mult95 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_530 : BitVec 32 := 24#32
  let v922 : BitVec 32 := Scalar.addi v119 c24_i32_530
  let c16_i32_531 : BitVec 32 := 16#32
  let v923 : BitVec 32 := Scalar.addi v922 c16_i32_531
  v923
def k0_mult96 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_534 : BitVec 32 := 24#32
  let v930 : BitVec 32 := Scalar.addi v119 c24_i32_534
  let c24_i32_535 : BitVec 32 := 24#32
  let v931 : BitVec 32 := Scalar.addi v930 c24_i32_535
  v931
def k0_mult97 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_540 : BitVec 32 := 24#32
  let v940 : BitVec 32 := Scalar.addi v119 c24_i32_540
  let c0_i32_541 : BitVec 32 := 0#32
  let v941 : BitVec 32 := Scalar.addi v940 c0_i32_541
  v941
def k0_mult98 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_544 : BitVec 32 := 24#32
  let v948 : BitVec 32 := Scalar.addi v119 c24_i32_544
  let c8_i32_545 : BitVec 32 := 8#32
  let v949 : BitVec 32 := Scalar.addi v948 c8_i32_545
  v949
def k0_mult99 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_548 : BitVec 32 := 24#32
  let v956 : BitVec 32 := Scalar.addi v119 c24_i32_548
  let c16_i32_549 : BitVec 32 := 16#32
  let v957 : BitVec 32 := Scalar.addi v956 c16_i32_549
  v957
def k0_mult100 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_552 : BitVec 32 := 24#32
  let v964 : BitVec 32 := Scalar.addi v119 c24_i32_552
  let c24_i32_553 : BitVec 32 := 24#32
  let v965 : BitVec 32 := Scalar.addi v964 c24_i32_553
  v965
def k0_mult101 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_558 : BitVec 32 := 24#32
  let v974 : BitVec 32 := Scalar.addi v119 c24_i32_558
  let c0_i32_559 : BitVec 32 := 0#32
  let v975 : BitVec 32 := Scalar.addi v974 c0_i32_559
  v975
def k0_mult102 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_562 : BitVec 32 := 24#32
  let v982 : BitVec 32 := Scalar.addi v119 c24_i32_562
  let c8_i32_563 : BitVec 32 := 8#32
  let v983 : BitVec 32 := Scalar.addi v982 c8_i32_563
  v983
def k0_mult103 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_566 : BitVec 32 := 24#32
  let v990 : BitVec 32 := Scalar.addi v119 c24_i32_566
  let c16_i32_567 : BitVec 32 := 16#32
  let v991 : BitVec 32 := Scalar.addi v990 c16_i32_567
  v991
def k0_mult104 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_570 : BitVec 32 := 24#32
  let v998 : BitVec 32 := Scalar.addi v119 c24_i32_570
  let c24_i32_571 : BitVec 32 := 24#32
  let v999 : BitVec 32 := Scalar.addi v998 c24_i32_571
  v999
def k0_mult105 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_576 : BitVec 32 := 24#32
  let v1008 : BitVec 32 := Scalar.addi v119 c24_i32_576
  let c0_i32_577 : BitVec 32 := 0#32
  let v1009 : BitVec 32 := Scalar.addi v1008 c0_i32_577
  v1009
def k0_mult106 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_580 : BitVec 32 := 24#32
  let v1016 : BitVec 32 := Scalar.addi v119 c24_i32_580
  let c8_i32_581 : BitVec 32 := 8#32
  let v1017 : BitVec 32 := Scalar.addi v1016 c8_i32_581
  v1017
def k0_mult107 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_584 : BitVec 32 := 24#32
  let v1024 : BitVec 32 := Scalar.addi v119 c24_i32_584
  let c16_i32_585 : BitVec 32 := 16#32
  let v1025 : BitVec 32 := Scalar.addi v1024 c16_i32_585
  v1025
def k0_mult108 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_588 : BitVec 32 := 24#32
  let v1032 : BitVec 32 := Scalar.addi v119 c24_i32_588
  let c24_i32_589 : BitVec 32 := 24#32
  let v1033 : BitVec 32 := Scalar.addi v1032 c24_i32_589
  v1033
def k0_mult109 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_594 : BitVec 32 := 24#32
  let v1042 : BitVec 32 := Scalar.addi v119 c24_i32_594
  let c0_i32_595 : BitVec 32 := 0#32
  let v1043 : BitVec 32 := Scalar.addi v1042 c0_i32_595
  v1043
def k0_mult110 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_598 : BitVec 32 := 24#32
  let v1050 : BitVec 32 := Scalar.addi v119 c24_i32_598
  let c8_i32_599 : BitVec 32 := 8#32
  let v1051 : BitVec 32 := Scalar.addi v1050 c8_i32_599
  v1051
def k0_mult111 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_602 : BitVec 32 := 24#32
  let v1058 : BitVec 32 := Scalar.addi v119 c24_i32_602
  let c16_i32_603 : BitVec 32 := 16#32
  let v1059 : BitVec 32 := Scalar.addi v1058 c16_i32_603
  v1059
def k0_mult112 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_606 : BitVec 32 := 24#32
  let v1066 : BitVec 32 := Scalar.addi v119 c24_i32_606
  let c24_i32_607 : BitVec 32 := 24#32
  let v1067 : BitVec 32 := Scalar.addi v1066 c24_i32_607
  v1067
def k0_mult113 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_612 : BitVec 32 := 24#32
  let v1076 : BitVec 32 := Scalar.addi v119 c24_i32_612
  let c0_i32_613 : BitVec 32 := 0#32
  let v1077 : BitVec 32 := Scalar.addi v1076 c0_i32_613
  v1077
def k0_mult114 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_616 : BitVec 32 := 24#32
  let v1084 : BitVec 32 := Scalar.addi v119 c24_i32_616
  let c8_i32_617 : BitVec 32 := 8#32
  let v1085 : BitVec 32 := Scalar.addi v1084 c8_i32_617
  v1085
def k0_mult115 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_620 : BitVec 32 := 24#32
  let v1092 : BitVec 32 := Scalar.addi v119 c24_i32_620
  let c16_i32_621 : BitVec 32 := 16#32
  let v1093 : BitVec 32 := Scalar.addi v1092 c16_i32_621
  v1093
def k0_mult116 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_624 : BitVec 32 := 24#32
  let v1100 : BitVec 32 := Scalar.addi v119 c24_i32_624
  let c24_i32_625 : BitVec 32 := 24#32
  let v1101 : BitVec 32 := Scalar.addi v1100 c24_i32_625
  v1101
def k0_mult117 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_630 : BitVec 32 := 24#32
  let v1110 : BitVec 32 := Scalar.addi v119 c24_i32_630
  let c0_i32_631 : BitVec 32 := 0#32
  let v1111 : BitVec 32 := Scalar.addi v1110 c0_i32_631
  v1111
def k0_mult118 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_634 : BitVec 32 := 24#32
  let v1118 : BitVec 32 := Scalar.addi v119 c24_i32_634
  let c8_i32_635 : BitVec 32 := 8#32
  let v1119 : BitVec 32 := Scalar.addi v1118 c8_i32_635
  v1119
def k0_mult119 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_638 : BitVec 32 := 24#32
  let v1126 : BitVec 32 := Scalar.addi v119 c24_i32_638
  let c16_i32_639 : BitVec 32 := 16#32
  let v1127 : BitVec 32 := Scalar.addi v1126 c16_i32_639
  v1127
def k0_mult120 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_642 : BitVec 32 := 24#32
  let v1134 : BitVec 32 := Scalar.addi v119 c24_i32_642
  let c24_i32_643 : BitVec 32 := 24#32
  let v1135 : BitVec 32 := Scalar.addi v1134 c24_i32_643
  v1135
def k0_mult121 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c32_i32_648 : BitVec 32 := 32#32
  let v1144 : BitVec 32 := Scalar.addi v119 c32_i32_648
  let c0_i32_649 : BitVec 32 := 0#32
  let v1145 : BitVec 32 := Scalar.addi v1144 c0_i32_649
  v1145
def k0_mult122 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c32_i32_652 : BitVec 32 := 32#32
  let v1152 : BitVec 32 := Scalar.addi v119 c32_i32_652
  let c8_i32_653 : BitVec 32 := 8#32
  let v1153 : BitVec 32 := Scalar.addi v1152 c8_i32_653
  v1153
def k0_mult123 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c32_i32_656 : BitVec 32 := 32#32
  let v1160 : BitVec 32 := Scalar.addi v119 c32_i32_656
  let c16_i32_657 : BitVec 32 := 16#32
  let v1161 : BitVec 32 := Scalar.addi v1160 c16_i32_657
  v1161
def k0_mult124 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c32_i32_660 : BitVec 32 := 32#32
  let v1168 : BitVec 32 := Scalar.addi v119 c32_i32_660
  let c24_i32_661 : BitVec 32 := 24#32
  let v1169 : BitVec 32 := Scalar.addi v1168 c24_i32_661
  v1169
def k0_mult125 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c0_i32_664 : BitVec 32 := 0#32
  let v1176 : BitVec 32 := Scalar.addi v119 c0_i32_664
  v1176
def k0_off9 (k0_t1 : Fin k0_t1_loop.trips) (c0_i32_664 : BitVec 32) : Fin 2 → Nat :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let v1176 : BitVec 32 := Scalar.addi v119 c0_i32_664
  let v1177 : BitVec 32 := v1176
  let v1178 : Index := Scalar.indexCast v1177
  let c0_665 : Index := 0#32
  ![v1178.toNat, 0]
def k0_mult126 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c8_i32_666 : BitVec 32 := 8#32
  let v1180 : BitVec 32 := Scalar.addi v119 c8_i32_666
  v1180
def k0_mult127 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c16_i32_668 : BitVec 32 := 16#32
  let v1184 : BitVec 32 := Scalar.addi v119 c16_i32_668
  v1184
def k0_mult128 (k0_t1 : Fin k0_t1_loop.trips) : BitVec 32 :=
  let c0_i32_41 : BitVec 32 := 0#32
  let c1_i32_42 : BitVec 32 := 1#32
  let arg16 : BitVec 32 := Scf.iv c0_i32_41 c1_i32_42 k0_t1
  let c32_i32 : BitVec 32 := 32#32
  let v119 : BitVec 32 := Scalar.muli arg16 c32_i32
  let c24_i32_670 : BitVec 32 := 24#32
  let v1188 : BitVec 32 := Scalar.addi v119 c24_i32_670
  v1188
@[reducible] def k0_t2_loop : Scf.Loop 32 :=
  let c0_i32_79 : BitVec 32 := 0#32
  let c16_i32_80 : BitVec 32 := 16#32
  let v103 : BitVec 32 := Scalar.addi c0_i32_79 c16_i32_80
  let c1_i32_81 : BitVec 32 := 1#32
  ⟨c0_i32_79, v103, c1_i32_81⟩
def k0_mult129 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32 : BitVec 32 := 24#32
  let v122 : BitVec 32 := Scalar.addi v119 c24_i32
  let c0_i32_101 : BitVec 32 := 0#32
  let v123 : BitVec 32 := Scalar.addi v122 c0_i32_101
  v123
def k0_off10 (k0_t2 : Fin k0_t2_loop.trips) (c0_i32_101 : BitVec 32) : Fin 3 → Nat :=
  let c1_102 : Index := 1#32
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32 : BitVec 32 := 24#32
  let v122 : BitVec 32 := Scalar.addi v119 c24_i32
  let v123 : BitVec 32 := Scalar.addi v122 c0_i32_101
  let v124 : BitVec 32 := v123
  let v125 : Index := Scalar.indexCast v124
  let c0_103 : Index := 0#32
  ![1, v125.toNat, 0]
def k0_mult130 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_104 : BitVec 32 := 24#32
  let v129 : BitVec 32 := Scalar.addi v119 c24_i32_104
  let c8_i32 : BitVec 32 := 8#32
  let v130 : BitVec 32 := Scalar.addi v129 c8_i32
  v130
def k0_mult131 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_107 : BitVec 32 := 24#32
  let v136 : BitVec 32 := Scalar.addi v119 c24_i32_107
  let c16_i32_108 : BitVec 32 := 16#32
  let v137 : BitVec 32 := Scalar.addi v136 c16_i32_108
  v137
def k0_mult132 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_111 : BitVec 32 := 24#32
  let v143 : BitVec 32 := Scalar.addi v119 c24_i32_111
  let c24_i32_112 : BitVec 32 := 24#32
  let v144 : BitVec 32 := Scalar.addi v143 c24_i32_112
  v144
def k0_mult133 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_118 : BitVec 32 := 24#32
  let v152 : BitVec 32 := Scalar.addi v119 c24_i32_118
  let c0_i32_119 : BitVec 32 := 0#32
  let v153 : BitVec 32 := Scalar.addi v152 c0_i32_119
  v153
def k0_off11 (k0_t2 : Fin k0_t2_loop.trips) (c0_i32_119 : BitVec 32) : Fin 3 → Nat :=
  let c2_120 : Index := 2#32
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_118 : BitVec 32 := 24#32
  let v152 : BitVec 32 := Scalar.addi v119 c24_i32_118
  let v153 : BitVec 32 := Scalar.addi v152 c0_i32_119
  let v154 : BitVec 32 := v153
  let v155 : Index := Scalar.indexCast v154
  let c0_121 : Index := 0#32
  ![2, v155.toNat, 0]
def k0_mult134 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_122 : BitVec 32 := 24#32
  let v160 : BitVec 32 := Scalar.addi v119 c24_i32_122
  let c8_i32_123 : BitVec 32 := 8#32
  let v161 : BitVec 32 := Scalar.addi v160 c8_i32_123
  v161
def k0_mult135 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_126 : BitVec 32 := 24#32
  let v168 : BitVec 32 := Scalar.addi v119 c24_i32_126
  let c16_i32_127 : BitVec 32 := 16#32
  let v169 : BitVec 32 := Scalar.addi v168 c16_i32_127
  v169
def k0_mult136 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_130 : BitVec 32 := 24#32
  let v176 : BitVec 32 := Scalar.addi v119 c24_i32_130
  let c24_i32_131 : BitVec 32 := 24#32
  let v177 : BitVec 32 := Scalar.addi v176 c24_i32_131
  v177
def k0_mult137 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c32_i32_137 : BitVec 32 := 32#32
  let v186 : BitVec 32 := Scalar.addi v119 c32_i32_137
  let c0_i32_138 : BitVec 32 := 0#32
  let v187 : BitVec 32 := Scalar.addi v186 c0_i32_138
  v187
def k0_off12 (k0_t2 : Fin k0_t2_loop.trips) (c0_i32_138 : BitVec 32) : Fin 3 → Nat :=
  let c0_139 : Index := 0#32
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c32_i32_137 : BitVec 32 := 32#32
  let v186 : BitVec 32 := Scalar.addi v119 c32_i32_137
  let v187 : BitVec 32 := Scalar.addi v186 c0_i32_138
  let v188 : BitVec 32 := v187
  let v189 : Index := Scalar.indexCast v188
  let c0_140 : Index := 0#32
  ![0, v189.toNat, 0]
def k0_mult138 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c32_i32_141 : BitVec 32 := 32#32
  let v194 : BitVec 32 := Scalar.addi v119 c32_i32_141
  let c8_i32_142 : BitVec 32 := 8#32
  let v195 : BitVec 32 := Scalar.addi v194 c8_i32_142
  v195
def k0_mult139 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c32_i32_145 : BitVec 32 := 32#32
  let v202 : BitVec 32 := Scalar.addi v119 c32_i32_145
  let c16_i32_146 : BitVec 32 := 16#32
  let v203 : BitVec 32 := Scalar.addi v202 c16_i32_146
  v203
def k0_mult140 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c32_i32_149 : BitVec 32 := 32#32
  let v210 : BitVec 32 := Scalar.addi v119 c32_i32_149
  let c24_i32_150 : BitVec 32 := 24#32
  let v211 : BitVec 32 := Scalar.addi v210 c24_i32_150
  v211
def k0_mult141 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c0_i32_153 : BitVec 32 := 0#32
  let v218 : BitVec 32 := Scalar.addi v119 c0_i32_153
  v218
def k0_off13 (k0_t2 : Fin k0_t2_loop.trips) (c0_i32_153 : BitVec 32) : Fin 2 → Nat :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let v218 : BitVec 32 := Scalar.addi v119 c0_i32_153
  let v219 : BitVec 32 := v218
  let v220 : Index := Scalar.indexCast v219
  let c0_154 : Index := 0#32
  ![v220.toNat, 0]
def k0_mult142 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c8_i32_155 : BitVec 32 := 8#32
  let v224 : BitVec 32 := Scalar.addi v119 c8_i32_155
  v224
def k0_mult143 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c16_i32_157 : BitVec 32 := 16#32
  let v230 : BitVec 32 := Scalar.addi v119 c16_i32_157
  v230
def k0_mult144 (k0_t2 : Fin k0_t2_loop.trips) : BitVec 32 :=
  let c0_i32_79 : BitVec 32 := 0#32
  let c1_i32_81 : BitVec 32 := 1#32
  let arg16 : BitVec 32 := Scf.iv c0_i32_79 c1_i32_81 k0_t2
  let c32_i32 : BitVec 32 := 32#32
  let v119 : BitVec 32 := Scalar.muli arg16 c32_i32
  let c24_i32_159 : BitVec 32 := 24#32
  let v236 : BitVec 32 := Scalar.addi v119 c24_i32_159
  v236
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel18.lean ====
abbrev S1x8192x1024 : Shape := ⟨3, ![1, 8192, 1024]⟩
abbrev S2x1024 : Shape := ⟨2, ![2, 1024]⟩
abbrev S2x1024x5632 : Shape := ⟨3, ![2, 1024, 5632]⟩
abbrev S2x5632x1024 : Shape := ⟨3, ![2, 5632, 1024]⟩
abbrev S1x5632x1024 : Shape := ⟨3, ![1, 5632, 1024]⟩
abbrev S5632x1024 : Shape := ⟨2, ![5632, 1024]⟩
abbrev S8192x1024 : Shape := ⟨2, ![8192, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S2x5632x1024, .f32⟩
  | .hbm, ⟨4, _⟩ => ⟨S2x5632x1024, .bf16⟩
  | .hbm, ⟨5, _⟩ => ⟨S1x5632x1024, .bf16⟩
  | .hbm, ⟨6, _⟩ => ⟨S5632x1024, .bf16⟩
  | .hbm, ⟨7, _⟩ => ⟨S8192x1024, .f32⟩
  | .hbm, ⟨8, _⟩ => ⟨S8192x1024, .bf16⟩
  | .hbm, ⟨9, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S1x8192x1024 : Shape := ⟨3, ![1, 8192, 1024]⟩
abbrev S2x1024 : Shape := ⟨2, ![2, 1024]⟩
abbrev S2x1024x5632 : Shape := ⟨3, ![2, 1024, 5632]⟩
abbrev S1x1024 : Shape := ⟨2, ![1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x8192x5632 : Shape := ⟨3, ![1, 8192, 5632]⟩
abbrev S8192x1024 : Shape := ⟨2, ![8192, 1024]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x5632, .f32⟩
  | .hbm, ⟨3, _⟩ => ⟨S1x1024, .f32⟩
  | .hbm, ⟨4, _⟩ => ⟨S1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x1024x5632, .f32⟩
  | .hbm, ⟨22, _⟩ => ⟨S1024x5632, .f32⟩
  | .hbm, ⟨23, _⟩ => ⟨S1x8192x5632, .f32⟩
  | .hbm, ⟨24, _⟩ => ⟨S8192x1024, .f32⟩
  | .hbm, ⟨25, _⟩ => ⟨S8192x1024, .bf16⟩
  | .hbm, ⟨26, _⟩ => ⟨S8192x5632, .f32⟩
  | .hbm, ⟨27, _⟩ => ⟨S8192x5632, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel19.lean ====
abbrev S1x8192x1024 : Shape := ⟨3, ![1, 8192, 1024]⟩
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S8192x1024 : Shape := ⟨2, ![8192, 1024]⟩
abbrev S8192x4608 : Shape := ⟨2, ![8192, 4608]⟩
abbrev S8192x512 : Shape := ⟨2, ![8192, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S512x4608 : Shape := ⟨2, ![512, 4608]⟩
abbrev S512x512 : Shape := ⟨2, ![512, 512]⟩
abbrev S1x2048 : Shape := ⟨2, ![1, 2048]⟩
abbrev S1x1024 : Shape := ⟨2, ![1, 1024]⟩

abbrev nBuf : Space → Nat
  | .hbm => 25
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4608, .f32⟩
  | .hbm, ⟨2, _⟩ => ⟨S2x2048, .f32⟩
  | .hbm, ⟨3, _⟩ => ⟨S1x8192x512, .f32⟩
  | .hbm, ⟨4, _⟩ => ⟨S1x8192x512, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S8192x1024, .f32⟩
  | .hbm, ⟨9, _⟩ => ⟨S8192x4608, .f32⟩
  | .hbm, ⟨10, _⟩ => ⟨S8192x4608, .bf16⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1x512x1024, .f32⟩
  | .hbm, ⟨19, _⟩ => ⟨S512x1024, .f32⟩
  | .hbm, ⟨20, _⟩ => ⟨S512x1024, .bf16⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4608, .bf16⟩
  | .local _ .vmem, ⟨3, _⟩ => ⟨S512x4608, .bf16⟩
  | .local _ .vmem, ⟨4, _⟩ => ⟨S2x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S1x8192x1024 : Shape := ⟨3, ![1, 8192, 1024]⟩
abbrev S1x8192x4608 : Shape := ⟨3, ![1, 8192, 4608]⟩
abbrev S2x2048 : Shape := ⟨2, ![2, 2048]⟩
abbrev S1x8192x512 : Shape := ⟨3, ![1, 8192, 512]⟩
abbrev S2x512x1024 : Shape := ⟨3, ![2, 512, 1024]⟩
abbrev S2x1024x1024 : Shape := ⟨3, ![2, 1024, 1024]⟩
abbrev S1x8192x2048 : Shape := ⟨3, ![1, 8192, 2048]⟩
abbrev S1x2048 : Shape := ⟨2, ![1, 2048]⟩
abbrev S2048 : Shape := ⟨1, ![2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x2048 : Shape := ⟨3, ![1, 1, 2048]⟩
abbrev S_ : Shape := ⟨0, ![]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4608, .f32⟩
  | .hbm, ⟨2, _⟩ => ⟨S2x2048, .f32⟩
  | .hbm, ⟨3, _⟩ => ⟨S1x8192x512, .f32⟩
  | .hbm, ⟨4, _⟩ => ⟨S1x8192x512, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S1x8192x2048, .f32⟩
  | .hbm, ⟨9, _⟩ => ⟨S1x2048, .f32⟩
  | .hbm, ⟨10, _⟩ => ⟨S2048, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x1024x1024, .f32⟩
  | .hbm, ⟨16, _⟩ => ⟨S1024x1024, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S_, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel20.lean ====
abbrev S1x8192x1024 : Shape := ⟨3, ![1, 8192, 1024]⟩
abbrev S2x1024 : Shape := ⟨2, ![2, 1024]⟩
abbrev S2x1024x4608 : Shape := ⟨3, ![2, 1024, 4608]⟩
abbrev S2x4608x1024 : Shape := ⟨3, ![2, 4608, 1024]⟩
abbrev S1x4608x1024 : Shape := ⟨3, ![1, 4608, 1024]⟩
abbrev S4608x1024 : Shape := ⟨2, ![4608, 1024]⟩
abbrev S8192x1024 : Shape := ⟨2, ![8192, 1024]⟩
abbrev S8192x4608 : Shape := ⟨2, ![8192, 4608]⟩
abbrev S512x1024 : Shape := ⟨2, ![512, 1024]⟩
abbrev S512x4608 : Shape := ⟨2, ![512, 4608]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x4608, .f32⟩
  | .hbm, ⟨3, _⟩ => ⟨S2x4608x1024, .f32⟩
  | .hbm, ⟨4, _⟩ => ⟨S2x4608x1024, .bf16⟩
  | .hbm, ⟨5, _⟩ => ⟨S1x4608x1024, .bf16⟩
  | .hbm, ⟨6, _⟩ => ⟨S4608x1024, .bf16⟩
  | .hbm, ⟨7, _⟩ => ⟨S8192x1024, .f32⟩
  | .hbm, ⟨8, _⟩ => ⟨S8192x1024, .bf16⟩
  | .hbm, ⟨9, _⟩ => ⟨S8192x4608, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S4608x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4608, .bf16⟩
  | .local _ .vmem, ⟨7, _⟩ => ⟨S512x4608, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S1x8192x1024 : Shape := ⟨3, ![1, 8192, 1024]⟩
abbrev S2x1024 : Shape := ⟨2, ![2, 1024]⟩
abbrev S2x1024x4608 : Shape := ⟨3, ![2, 1024, 4608]⟩
abbrev S1x1024 : Shape := ⟨2, ![1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024x4608 : Shape := ⟨3, ![1, 1024, 4608]⟩
abbrev S1024x4608 : Shape := ⟨2, ![1024, 4608]⟩
abbrev S1x8192x4608 : Shape := ⟨3, ![1, 8192, 4608]⟩
abbrev S8192x1024 : Shape := ⟨2, ![8192, 1024]⟩
abbrev S8192x4608 : Shape := ⟨2, ![8192, 4608]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S2x1024, .f32⟩
  | .hbm, ⟨2, _⟩ => ⟨S2x1024x4608, .f32⟩
  | .hbm, ⟨3, _⟩ => ⟨S1x1024, .f32⟩
  | .hbm, ⟨4, _⟩ => ⟨S1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x1024x4608, .f32⟩
  | .hbm, ⟨22, _⟩ => ⟨S1024x4608, .f32⟩
  | .hbm, ⟨23, _⟩ => ⟨S1x8192x4608, .f32⟩
  | .hbm, ⟨24, _⟩ => ⟨S8192x1024, .f32⟩
  | .hbm, ⟨25, _⟩ => ⟨S8192x1024, .bf16⟩
  | .hbm, ⟨26, _⟩ => ⟨S8192x4608, .f32⟩
  | .hbm, ⟨27, _⟩ => ⟨S8192x4608, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Merge.Spec.lean ====
/- The gradient of the gated merge, entry by entry: what both programs of the pair compute.

   Forward, for a token `r` and a channel `d` (layer `l` of the stacks `b_gate`, `w_a_out`, `w_b_out`, `w_o`):
   `g_a = σ(z[2560 + d] + b[d])`, `g_b = σ(z[3584 + d] + b[1024 + d])`, `y_a = a · w_a_out`, `y_b = s · w_b_out`,
   result `(g_a y_a + g_b y_b) · w_o`. Below: the cotangent of each input. -/
module

public import Idealize.ShloMosaic.Lib.Pipeline.ValueKit
public import Idealize.ShloMosaic.Lib.Pointwise

@[expose] public section

set_option maxRecDepth 16384

noncomputable section

open Idealize.ShloMosaic

namespace Cert.Merge

variable (l : Fin 2) (z : FVec Ideal ⟨3, ![1, 8192, 4608]⟩ .f32) (b : FVec Ideal ⟨2, ![2, 2048]⟩ .f32)
  (a s : FVec Ideal ⟨3, ![1, 8192, 512]⟩ .f32) (wa wb : FVec Ideal ⟨3, ![2, 512, 1024]⟩ .f32)
  (wo : FVec Ideal ⟨3, ![2, 1024, 1024]⟩ .f32) (dy : FVec Ideal ⟨3, ![1, 8192, 1024]⟩ .f32)

/-- The gate of the left branch. -/
def gateA (r : Fin 8192) (d : Fin 1024) : EReal :=
  Ideal.logistic (z (ix3 0 r ⟨2560 + d.val, by omega⟩) + b (ix2 l ⟨d.val, by omega⟩))
/-- The gate of the right branch. -/
def gateB (r : Fin 8192) (d : Fin 1024) : EReal :=
  Ideal.logistic (z (ix3 0 r ⟨3584 + d.val, by omega⟩) + b (ix2 l ⟨1024 + d.val, by omega⟩))
/-- A branch's output: its activation through its weight. -/
def out (x : FVec Ideal ⟨3, ![1, 8192, 512]⟩ .f32) (w : FVec Ideal ⟨3, ![2, 512, 1024]⟩ .f32) (r : Fin 8192) (d : Fin 1024) : EReal :=
  ∑ k : Fin 512, x (ix3 0 r k) * w (ix3 l k d)
/-- The cotangent of the merged activation: `dy · w_oᵀ`. -/
def dm (r : Fin 8192) (d : Fin 1024) : EReal := ∑ e : Fin 1024, dy (ix3 0 r e) * wo (ix3 l d e)
/-- The cotangent of a branch's activation, from the branch's gate. -/
def dIn (g : Fin 8192 → Fin 1024 → EReal) (w : FVec Ideal ⟨3, ![2, 512, 1024]⟩ .f32) (r : Fin 8192) (k : Fin 512) : EReal :=
  ∑ d : Fin 1024, dm l wo dy r d * g r d * w (ix3 l k d)
/-- The cotangent of a gate's logit, from the gate and the branch's output. -/
def dLogit (g y : Fin 8192 → Fin 1024 → EReal) (r : Fin 8192) (d : Fin 1024) : EReal :=
  dm l wo dy r d * y r d * (g r d * (1 - g r d))
/-- The cotangent of both gates' logits, side by side. -/
def dLogits (r : Fin 8192) (d : Fin 2048) : EReal :=
  if h : d.val < 1024 then dLogit l wo dy (gateA l z b) (out l a wa) r ⟨d.val, h⟩
  else dLogit l wo dy (gateB l z b) (out l s wb) r ⟨d.val - 1024, by omega⟩
theorem dLogits_left (r : Fin 8192) (d : Fin 2048) (h : d.val < 1024) : dLogits l z b a s wa wb wo dy r d
    = dLogit l wo dy (gateA l z b) (out l a wa) r ⟨d.val, h⟩ := dif_pos h
theorem dLogits_right (r : Fin 8192) (d : Fin 2048) (h : ¬ d.val < 1024) : dLogits l z b a s wa wb wo dy r d
    = dLogit l wo dy (gateB l z b) (out l s wb) r ⟨d.val - 1024, by omega⟩ := dif_neg h
/-- The cotangent of the output weight. -/
def dWo (i j : Fin 1024) : EReal :=
  ∑ r : Fin 8192, (gateA l z b r i * out l a wa r i + gateB l z b r i * out l s wb r i) * dy (ix3 0 r j)
/-- The cotangent of a branch's weight. -/
def dW (g : Fin 8192 → Fin 1024 → EReal) (x : FVec Ideal ⟨3, ![1, 8192, 512]⟩ .f32) (k : Fin 512) (d : Fin 1024) : EReal :=
  ∑ r : Fin 8192, x (ix3 0 r k) * (dm l wo dy r d * g r d)
/-- The cotangent of the gates' bias. -/
def dBias (d : Fin 2048) : EReal := ∑ r : Fin 8192, dLogits l z b a s wa wb wo dy r d

end Cert.Merge

end
-- ==== Proof.Util.lean ====
/- Two reads the pairs share: a load through one layer of a stacked operand, and a host sum over two unit axes. -/
module

public import Idealize.ShloMosaic.Lib.Pipeline.ValueKit
public import Idealize.ShloMosaic.Lib.Pointwise
public import Idealize.ShloMosaic.Lib.WholeRead

@[expose] public section

set_option maxRecDepth 16384

noncomputable section

open Idealize.ShloMosaic

namespace Cert.Util

variable {sig : RefSig} {Val : EltTy → Type} {e : EltTy}

/-- A load of `w` columns from column `o` of layer `l` of a stack of two rows reads the stack there. -/
theorem load_layer {n w : ℕ} (M : Memref sig .tc .vmem ⟨2, ![2, n]⟩ e) (hM : M.IsWhole) (X : (⟨2, ![2, n]⟩ : Shape).Idx → Val e)
    (l o : ℕ) (h₁ : ∀ a, (![l, 0] : Fin 2 → ℕ) a + (![1, n] : Fin 2 → ℕ) a ≤ (⟨2, ![2, n]⟩ : Shape).size a)
    (h₂ : ∀ a, (![0, o] : Fin 2 → ℕ) a + (![1, w] : Fin 2 → ℕ) a ≤ (⟨2, ![1, n]⟩ : Shape).size a)
    (h₀ : ∀ a, (Rect.unit (s := ⟨2, ![2, n]⟩) ![l, 0] ![1, n] h₁).stride a = 1) (i : Fin 1) (j : Fin w) :
    View.readAt Val M.view ((Rect.unit (s := ⟨2, ![2, n]⟩) ![l, 0] ![1, n] h₁).withinL
        (Rect.unit (s := ⟨2, ![1, n]⟩) ![0, o] ![1, w] h₂).toLoadRect h₀) (hM.unread X) (ix2 i j)
      = X (ix2 ⟨l, by have : l + 1 ≤ 2 := h₁ 0; omega⟩ ⟨o + j.val, by have : o + w ≤ n := h₂ 1; omega⟩) := by
  refine (hM.readAt_unread X _ _).trans (congrArg X ?_)
  refine (Rect.idx_withinL _ _ _ _).trans ?_
  funext a; apply Fin.ext
  fin_cases a
  · show l + 1 * (0 + 1 * i.val) = l; omega
  · show 0 + 1 * (o + 1 * j.val) = o + j.val; omega

/-- A host sum over two leading axes of extent one is its one summand. -/
theorem hostReduceAdd_unit01 {n : ℕ} (h : (⟨3, ![1, 1, n]⟩ : Shape).ReducesTo [0, 1] ⟨1, ![n]⟩)
    (v : (⟨3, ![1, 1, n]⟩ : Shape).Idx → EReal) (init : EReal) (j : Fin n) :
    Ideal.hostReduceAdd h v init (ix1 j) = init + v (ix3 0 0 j) := by
  have key : ∀ i : (⟨3, ![1, 1, n]⟩ : Shape).Idx, h.drop i = ix1 j ↔ i = ix3 0 0 j := by
    intro i
    rw [eq_ix3 i]
    have e0 : i 0 = (0 : Fin 1) := Subsingleton.elim (α := Fin 1) _ _
    have e1 : i 1 = (0 : Fin 1) := Subsingleton.elim (α := Fin 1) _ _
    have hd : ∀ k : Fin n, h.drop (ix3 0 0 k) = ix1 k := fun k => by
      funext a; apply Fin.ext
      fin_cases a
      rfl
    rw [e0, e1, hd (i 2)]
    constructor
    · intro q; rw [show i 2 = j from congrFun q 0]
    · intro q; rw [show i 2 = j from congrFun q 2]
  unfold Ideal.hostReduceAdd
  refine congrArg (init + ·) ?_
  rw [Finset.filter_congr (fun i _ => key i), Finset.sum_filter, Finset.sum_ite_eq' Finset.univ (ix3 0 0 j) v, if_pos (Finset.mem_univ _)]

/-- A host sum over a leading and a trailing axis of extent one is its one summand. -/
theorem hostReduceAdd_unit02 {n : ℕ} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 0 j 0) := by
  have key : ∀ i : (⟨3, ![1, n, 1]⟩ : Shape).Idx, h.drop i = ix1 j ↔ i = ix3 0 j 0 := by
    intro i
    rw [eq_ix3 i]
    have e0 : i 0 = (0 : Fin 1) := Subsingleton.elim (α := Fin 1) _ _
    have e2 : i 2 = (0 : Fin 1) := Subsingleton.elim (α := Fin 1) _ _
    have hd : ∀ k : Fin n, h.drop (ix3 0 k 0) = ix1 k := fun k => by
      funext a; apply Fin.ext
      fin_cases a
      rfl
    rw [e0, e2, hd (i 1)]
    constructor
    · intro q; rw [show i 1 = j from congrFun q 0]
    · intro q; rw [show i 1 = j from congrFun q 1]
  unfold Ideal.hostReduceAdd
  refine congrArg (init + ·) ?_
  rw [Finset.filter_congr (fun i _ => key i), Finset.sum_filter, Finset.sum_ite_eq' Finset.univ (ix3 0 j 0) v, if_pos (Finset.mem_univ _)]

/-- A block stored as a left part of `o` columns and then a right part of `w`: a column reads its own part. -/
theorem canon_halves [∀ e, Nonempty (Val e)] {r n o w : ℕ} (hn : o + w = n)
    (h₁ : ∀ a, (![0, o] : Fin 2 → ℕ) a + (![r, w] : Fin 2 → ℕ) a ≤ (⟨2, ![r, n]⟩ : Shape).size a)
    (h₂ : ∀ a, (![0, 0] : Fin 2 → ℕ) a + (![r, o] : Fin 2 → ℕ) a ≤ (⟨2, ![r, n]⟩ : Shape).size a)
    (f : (⟨2, ![r, w]⟩ : Shape).Idx → Val e) (g : (⟨2, ![r, o]⟩ : Shape).Idx → Val e)
    (L : List (View.Piece Val ⟨2, ![r, n]⟩ e)) (i : Fin r) (j : Fin n) :
    View.canon ((⟨Rect.unit (s := ⟨2, ![r, n]⟩) ![0, o] ![r, w] h₁, f⟩ : View.Piece Val ⟨2, ![r, n]⟩ e)
        :: ⟨Rect.unit (s := ⟨2, ![r, n]⟩) ![0, 0] ![r, o] h₂, g⟩ :: L) (ix2 i j)
      = if h : j.val < o then g (ix2 i ⟨j.val, h⟩) else f (ix2 i ⟨j.val - o, by omega⟩) := by
  have left : ∀ h : j.val < o, ix2 i j = (Rect.unit (s := ⟨2, ![r, n]⟩) ![0, 0] ![r, o] h₂).emb (ix2 i ⟨j.val, h⟩) := by
    intro h; funext a; apply Fin.ext
    fin_cases a
    · show i.val = 0 + 1 * i.val; omega
    · show j.val = 0 + 1 * j.val; omega
  have right : ∀ h : ¬ j.val < o, ix2 i j = (Rect.unit (s := ⟨2, ![r, n]⟩) ![0, o] ![r, w] h₁).emb (ix2 i ⟨j.val - o, by omega⟩) := by
    intro h; funext a; apply Fin.ext
    fin_cases a
    · show i.val = 0 + 1 * i.val; omega
    · show j.val = o + 1 * (j.val - o); omega
  by_cases h : j.val < o
  · rw [dif_pos h, View.canon_cons_of_not_mem]
    · rw [left h]; exact View.canon_cons_emb (Rect.unit (s := ⟨2, ![r, n]⟩) ![0, 0] ![r, o] h₂) g L _
    · intro q
      have q1 := ((Rect.mem_set_unit (inb := h₁)).mp q 1).1
      exact absurd (show o ≤ j.val from q1) (by omega)
  · rw [dif_neg h, right h]; exact View.canon_cons_emb (Rect.unit (s := ⟨2, ![r, n]⟩) ![0, o] ![r, w] h₁) f _ _

end Cert.Util

end
-- ==== Proof.Merge.Ref.lean ====
/- The reference's run: each result array holds the merge's gradient (Merge/Spec.lean). -/
module

public import proofs.«01_k».proof.Proof.Merge.Spec
public import proofs.«01_k».proof.Proof.Gen.ReferenceIdeal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.ReferenceIdeal.Merge

open Cert.ReferenceIdeal Cert.ReferenceIdeal.Gen

variable (m : (ℓ : Loc nD τ sig) → Buf (Elt Ideal) ℓ) (ρ : Dev nD → PrngReg)

variable (c : Dev nD)

/-- The arguments, by what they are. -/
abbrev z : FVec Ideal ⟨3, ![1, 8192, 4608]⟩ .f32 := m ((c.tc : Thread nD τ).loc main_arg0)
abbrev b : FVec Ideal ⟨2, ![2, 2048]⟩ .f32 := m ((c.tc : Thread nD τ).loc main_arg1)
abbrev a : FVec Ideal ⟨3, ![1, 8192, 512]⟩ .f32 := m ((c.tc : Thread nD τ).loc main_arg2)
abbrev s : FVec Ideal ⟨3, ![1, 8192, 512]⟩ .f32 := m ((c.tc : Thread nD τ).loc main_arg3)
abbrev wa : FVec Ideal ⟨3, ![2, 512, 1024]⟩ .f32 := m ((c.tc : Thread nD τ).loc main_arg4)
abbrev wb : FVec Ideal ⟨3, ![2, 512, 1024]⟩ .f32 := m ((c.tc : Thread nD τ).loc main_arg5)
abbrev wo : FVec Ideal ⟨3, ![2, 1024, 1024]⟩ .f32 := m ((c.tc : Thread nD τ).loc main_arg6)
abbrev dy : FVec Ideal ⟨3, ![1, 8192, 1024]⟩ .f32 := m ((c.tc : Thread nD τ).loc main_arg7)

set_option maxHeartbeats 2000000 in
open Cert.Merge in
theorem run : θ_run defs (onTc (τ := τ) (main (F := Ideal))) ⟨m, fun _ => 0, ρ⟩ fun r => ∀ c : Dev nD,
      r.2.mem ((c.tc : Thread nD τ).loc main_v59) = (fun i => dIn 1 (wo m c) (dy m c) (gateA 1 (z m c) (b m c)) (wa m c) (i 0) (i 1))
      ∧ r.2.mem ((c.tc : Thread nD τ).loc main_v60) = (fun i => dIn 1 (wo m c) (dy m c) (gateB 1 (z m c) (b m c)) (wb m c) (i 0) (i 1))
      ∧ r.2.mem ((c.tc : Thread nD τ).loc main_v62) = (fun i => dLogits 1 (z m c) (b m c) (a m c) (s m c) (wa m c) (wb m c) (wo m c) (dy m c) (i 0) (i 1))
      ∧ r.2.mem ((c.tc : Thread nD τ).loc main_v63) = (fun i => dWo 1 (z m c) (b m c) (a m c) (s m c) (wa m c) (wb m c) (dy m c) (i 0) (i 1))
      ∧ r.2.mem ((c.tc : Thread nD τ).loc main_v64) = (fun i => dW 1 (wo m c) (dy m c) (gateA 1 (z m c) (b m c)) (a m c) (i 0) (i 1))
      ∧ r.2.mem ((c.tc : Thread nD τ).loc main_v65) = (fun i => dW 1 (wo m c) (dy m c) (gateB 1 (z m c) (b m c)) (s m c) (i 0) (i 1))
      ∧ r.2.mem ((c.tc : Thread nD τ).loc main_v66) = (fun i => dBias 1 (z m c) (b m c) (a m c) (s m c) (wa m c) (wb m c) (wo m c) (dy m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨h0, h1, h2, h3, h4, h5, h6, hargs⟩ := h c
  refine ⟨h0.trans ?_, h1.trans ?_, h2.trans ?_, h3.trans ?_, h4.trans ?_, h5.trans ?_, h6.trans ?_, hargs⟩ <;>
    clear h0 h1 h2 h3 h4 h5 h6 hargs <;> funext i
  · pointwise [dIn, dm, gateA, Ideal.logistic, z, b, a, s, wa, wb, wo, dy]
    exact Finset.sum_congr rfl fun d _ => congrArg (· * _) (mul_comm _ _)
  · pointwise [dIn, dm, gateB, Ideal.logistic, z, b, a, s, wa, wb, wo, dy]
    simp only [← Nat.add_assoc, Nat.reduceAdd]
    exact Finset.sum_congr rfl fun d _ => congrArg (· * _) (mul_comm _ _)
  · idx_vars i
    pointwise [Value.res_main_v62, dLogits, dLogit, out, dm, gateA, gateB, Ideal.logistic, z, b, a, s, wa, wb, wo, dy]
    simp only [← Nat.add_assoc, Nat.reduceAdd]
    by_cases h : i1.val < 1024
    · rw [dif_neg (by omega), dif_pos h, dif_pos h, zero_add]
    · rw [dif_pos ⟨by omega, by omega⟩, dif_neg h, dif_neg h, add_zero]
  · pointwise [dWo, out, gateA, gateB, Ideal.logistic, z, b, a, s, wa, wb, wo, dy]
    simp only [← Nat.add_assoc, Nat.reduceAdd]
    refine (Fin.sum_univ_one (M := EReal) _).trans ?_
    exact Finset.sum_congr rfl fun r _ => mul_comm (G := EReal) _ _
  · pointwise [dW, dm, gateA, Ideal.logistic, z, b, a, s, wa, wb, wo, dy]
    refine (Fin.sum_univ_one (M := EReal) _).trans ?_
    exact Finset.sum_congr (M := EReal) rfl fun r _ => (mul_comm (G := EReal) _ _).trans (congrArg (HMul.hMul (α := EReal) _) (mul_comm (G := EReal) _ _))
  · pointwise [dW, dm, gateB, Ideal.logistic, z, b, a, s, wa, wb, wo, dy]
    simp only [← Nat.add_assoc, Nat.reduceAdd]
    refine (Fin.sum_univ_one (M := EReal) _).trans ?_
    exact Finset.sum_congr (M := EReal) rfl fun r _ => (mul_comm (G := EReal) _ _).trans (congrArg (HMul.hMul (α := EReal) _) (mul_comm (G := EReal) _ _))
  · idx_vars i
    pointwise [Value.res_main_v66, dBias, dLogits, dLogit, out, dm, gateA, gateB, Cert.Util.hostReduceAdd_unit01, Ideal.logistic, z, b, a, s, wa, wb, wo, dy]
    simp only [← Nat.add_assoc, Nat.reduceAdd]
    refine Finset.sum_congr (M := EReal) rfl fun r _ => ?_
    by_cases h : i1.val < 1024
    · rw [dif_neg (by omega), dif_pos h, dif_pos h, zero_add]
    · rw [dif_pos ⟨by omega, by omega⟩, dif_neg h, dif_neg h, add_zero]

end Cert.ReferenceIdeal.Merge

end
-- ==== Proof.Merge.Blocks.lean ====
/- What the kernel's blocks hold at a grid point: rows of the arguments. -/
module

public import proofs.«01_k».proof.Proof.Merge.Spec
public import proofs.«01_k».proof.Proof.Gen.KernelIdeal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen
open Cert.Merge (gateA gateB out dm dIn dLogit dLogits dWo dW dBias)

variable (m : (ℓ : Loc nD τ sig) → Buf (Elt Ideal) ℓ) (c : Dev nD)

abbrev z : FVec Ideal ⟨3, ![1, 8192, 4608]⟩ .f32 := m ((c : Thread nD τ).loc main_arg0)
abbrev b : FVec Ideal ⟨2, ![2, 2048]⟩ .f32 := m ((c : Thread nD τ).loc main_arg1)
abbrev a : FVec Ideal ⟨3, ![1, 8192, 512]⟩ .f32 := m ((c : Thread nD τ).loc main_arg2)
abbrev s : FVec Ideal ⟨3, ![1, 8192, 512]⟩ .f32 := m ((c : Thread nD τ).loc main_arg3)
abbrev wa : FVec Ideal ⟨3, ![2, 512, 1024]⟩ .f32 := m ((c : Thread nD τ).loc main_arg4)
abbrev wb : FVec Ideal ⟨3, ![2, 512, 1024]⟩ .f32 := m ((c : Thread nD τ).loc main_arg5)
abbrev wo : FVec Ideal ⟨3, ![2, 1024, 1024]⟩ .f32 := m ((c : Thread nD τ).loc main_arg6)
abbrev dy : FVec Ideal ⟨3, ![1, 8192, 1024]⟩ .f32 := m ((c : Thread nD τ).loc main_arg7)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem blk0 (t : Fin cfg0.N) (i : Fin 512) (j : Fin 1024) : iblk m c 0 t (ix2 i j) = dy m c (ix3 0 (row t i) j) := by
  blk_point [iblk, V, idx t, row]
theorem blk1 (t : Fin cfg0.N) (i : Fin 512) (j : Fin 4608) : iblk m c 1 t (ix2 i j) = z m c (ix3 0 (row t i) j) := by
  blk_point [iblk, V, idx t, row]
theorem blk2 (t : Fin cfg0.N) (i : Fin 2) (j : Fin 2048) : iblk m c 2 t (ix2 i j) = b m c (ix2 i j) := by
  blk_point [iblk, V, idx t]
theorem blk3 (t : Fin cfg0.N) (i : Fin 512) (j : Fin 512) : iblk m c 3 t (ix2 i j) = a m c (ix3 0 (row t i) j) := by
  blk_point [iblk, V, idx t, row]
theorem blk4 (t : Fin cfg0.N) (i : Fin 512) (j : Fin 512) : iblk m c 4 t (ix2 i j) = s m c (ix3 0 (row t i) j) := by
  blk_point [iblk, V, idx t, row]
theorem blk5 (t : Fin cfg0.N) (i : Fin 512) (j : Fin 1024) : iblk m c 5 t (ix2 i j) = wa m c (ix3 1 i j) := by
  blk_point [iblk, V, idx t]
theorem blk6 (t : Fin cfg0.N) (i : Fin 512) (j : Fin 1024) : iblk m c 6 t (ix2 i j) = wb m c (ix3 1 i j) := by
  blk_point [iblk, V, idx t]
theorem blk7 (t : Fin cfg0.N) (i : Fin 1024) (j : Fin 1024) : iblk m c 7 t (ix2 i j) = wo m c (ix3 1 i j) := by
  blk_point [iblk, V, idx t]

theorem at8 (t : Fin cfg0.N) (i : Fin 512) (j : Fin 512) :
    ((View.whole main_v16_0).slice (win0_8.rect t)).emb (ix2 i j) = ix2 (row t i) j := by
  blk_ext [idx t, row]
theorem at9 (t : Fin cfg0.N) (i : Fin 512) (j : Fin 512) :
    ((View.whole main_v16_1).slice (win0_9.rect t)).emb (ix2 i j) = ix2 (row t i) j := by
  blk_ext [idx t, row]
theorem at10 (t : Fin cfg0.N) (i : Fin 512) (j : Fin 2048) :
    ((View.whole main_v16_2).slice (win0_10.rect t)).emb (ix2 i j) = ix2 (row t i) j := by
  blk_ext [idx t, row]

end Cert.KernelIdeal.Merge

end
-- ==== Proof.Merge.Inputs.lean ====
/- The kernel's first two results: the cotangents of both branches' activations. -/
module

public import proofs.«01_k».proof.Proof.Merge.Blocks
public import proofs.«01_k».proof.Proof.Gen.KernelIdeal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen
open Cert.Merge (gateA gateB out dm dIn dLogit dLogits dWo dW dBias)

variable (m : (ℓ : Loc nD τ sig) → Buf (Elt Ideal) ℓ) (c : Dev nD)

theorem final8 : (dats m 0 c).arrAt 8 (cfgs 0).N
    = fun i => dIn 1 (wo m c) (dy m c) (gateA 1 (z m c) (b m c)) (wa m c) (i 0) (i 1) := by
  refine (dats m 0 c).arrAt_eq_of_covers 8 _ (by decide +kernel) fun t _ y => ?_
  blk_simp
  idx_vars y
  rw [at8]
  rw [after0_8]
  by_cases h0 : t.val % 16 = 0
  · have h1 : ¬ t.val % 16 = 15 := by omega
    rw [outsAt0_A m c t h0 h1]; frame_out
    pointwise [k0_pay20, k0_pay16, k0_pay9, k0_pay8, k0_pay12, dIn, dm, gateA, Cert.Util.load_layer, blk0, blk1, blk2, blk5, blk7]
  by_cases h1 : t.val % 16 = 15
  · rw [outsAt0_C m c t h0 h1]; frame_out
    pointwise [k0_pay20, k0_pay16, k0_pay9, k0_pay8, k0_pay12, dIn, dm, gateA, Cert.Util.load_layer, blk0, blk1, blk2, blk5, blk7]
  · rw [outsAt0_B m c t h0 h1]; frame_out
    pointwise [k0_pay20, k0_pay16, k0_pay9, k0_pay8, k0_pay12, dIn, dm, gateA, Cert.Util.load_layer, blk0, blk1, blk2, blk5, blk7]

theorem final9 : (dats m 0 c).arrAt 9 (cfgs 0).N
    = fun i => dIn 1 (wo m c) (dy m c) (gateB 1 (z m c) (b m c)) (wb m c) (i 0) (i 1) := by
  refine (dats m 0 c).arrAt_eq_of_covers 9 _ (by decide +kernel) fun t _ y => ?_
  blk_simp
  idx_vars y
  rw [at9]
  rw [after0_9]
  by_cases h0 : t.val % 16 = 0
  · have h1 : ¬ t.val % 16 = 15 := by omega
    rw [outsAt0_A m c t h0 h1]; frame_out
    pointwise [k0_pay21, k0_pay17, k0_pay9, k0_pay8, k0_pay13, k0_pay14, dIn, dm, gateB, Cert.Util.load_layer, blk0, blk1, blk2, blk6, blk7]
  by_cases h1 : t.val % 16 = 15
  · rw [outsAt0_C m c t h0 h1]; frame_out
    pointwise [k0_pay21, k0_pay17, k0_pay9, k0_pay8, k0_pay13, k0_pay14, dIn, dm, gateB, Cert.Util.load_layer, blk0, blk1, blk2, blk6, blk7]
  · rw [outsAt0_B m c t h0 h1]; frame_out
    pointwise [k0_pay21, k0_pay17, k0_pay9, k0_pay8, k0_pay13, k0_pay14, dIn, dm, gateB, Cert.Util.load_layer, blk0, blk1, blk2, blk6, blk7]

end Cert.KernelIdeal.Merge

end
-- ==== Proof.Merge.Logits.lean ====
/- The kernel's third result: the cotangent of the gates' logits. -/
module

public import proofs.«01_k».proof.Proof.Merge.Blocks
public import proofs.«01_k».proof.Proof.Gen.KernelIdeal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen
open Cert.Merge (gateA gateB out dm dIn dLogit dLogits dWo dW dBias)

variable (m : (ℓ : Loc nD τ sig) → Buf (Elt Ideal) ℓ) (c : Dev nD)

theorem final10 : (dats m 0 c).arrAt 10 (cfgs 0).N
    = fun i => dLogits 1 (z m c) (b m c) (a m c) (s m c) (wa m c) (wb m c) (wo m c) (dy m c) (i 0) (i 1) := by
  refine (dats m 0 c).arrAt_eq_of_covers 10 _ (by decide +kernel) fun t _ y => ?_
  blk_simp
  idx_vars y
  rw [at10, after0_10]
  by_cases h0 : t.val % 16 = 0
  · have h1 : ¬ t.val % 16 = 15 := by omega
    rw [outsAt0_A m c t h0 h1]; frame_out
    refine (Cert.Util.canon_halves (by norm_num) _ _ _ _ _ _ _).trans ?_
    show _ = dLogits _ _ _ _ _ _ _ _ _ (row t y0) y1
    unfold dLogits
    by_cases hj : y1.val < 1024
    · rw [dif_pos hj, dif_pos hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
    · rw [dif_neg hj, dif_neg hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
  by_cases h1 : t.val % 16 = 15
  · rw [outsAt0_C m c t h0 h1]; frame_out
    refine (Cert.Util.canon_halves (by norm_num) _ _ _ _ _ _ _).trans ?_
    show _ = dLogits _ _ _ _ _ _ _ _ _ (row t y0) y1
    unfold dLogits
    by_cases hj : y1.val < 1024
    · rw [dif_pos hj, dif_pos hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
    · rw [dif_neg hj, dif_neg hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
  · rw [outsAt0_B m c t h0 h1]; frame_out
    refine (Cert.Util.canon_halves (by norm_num) _ _ _ _ _ _ _).trans ?_
    show _ = dLogits _ _ _ _ _ _ _ _ _ (row t y0) y1
    unfold dLogits
    by_cases hj : y1.val < 1024
    · rw [dif_pos hj, dif_pos hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
    · rw [dif_neg hj, dif_neg hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]

end Cert.KernelIdeal.Merge

end
-- ==== Proof.Merge.Weights.lean ====
/- The kernel's results summed over the tokens: the cotangents of the three weights. -/
module

public import proofs.«01_k».proof.Proof.Merge.Blocks
public import proofs.«01_k».proof.Proof.Gen.KernelIdeal.Frame
public import Idealize.ShloMosaic.Lib.Claim
public import Idealize.ShloMosaic.Lib.Pipeline.ReadBack
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen
open Cert.Merge (gateA gateB out dm dIn dLogit dLogits dWo dW dBias)

variable (m : (ℓ : Loc nD τ sig) → Buf (Elt Ideal) ℓ) (c : Dev nD)

abbrev termO (r : Fin 8192) (i j : Fin 1024) : EReal :=
  (gateA 1 (z m c) (b m c) r i * out 1 (a m c) (wa m c) r i + gateB 1 (z m c) (b m c) r i * out 1 (s m c) (wb m c) r i) * dy m c (ix3 0 r j)

theorem final11 : (dats m 0 c).arrAt 11 (cfgs 0).N
    = fun i => dWo 1 (z m c) (b m c) (a m c) (s m c) (wa m c) (wb m c) (dy m c) (i 0) (i 1) := by
  refine (dats m 0 c).arrAt_eq_of_after_last 11 t0_15 (by decide +kernel) _ fun j => ?_
  blk_simp
  have hC : (outsAt0 m c t0_15.val t0_15.isLt).2.2.2.1 j = (outsAt0 m c t0_15.val t0_15.isLt).2.2.2.2.2.2.2.1 j := by
    rw [outsAt0_C m c t0_15 (by decide) (by decide)]; frame_out; pointwise [k0_pay1]
  rw [after0_11, hC, Pipeline.eq_sum_fin_of_reset_step_apply_last (fun n h => (outsAt0 m c n h).2.2.2.2.2.2.2.1) 16 (fun _ => 0)
    (fun p j => ∑ k : Fin 512, termO m c (row p k) (j 0) (j 1))
    (fun t h j => by
      rw [outsAt0_A m c t h (by omega)]; frame_out
      pointwise [k0_pay15, k0_pay4, k0_pay8, k0_pay10, k0_pay11, k0_pay12, k0_pay13, k0_pay14, read_unread_whole, termO, gateA, gateB, out, Cert.Util.load_layer, blk0, blk1, blk2, blk3, blk4, blk5, blk6])
    (fun t h j => by
      by_cases h1 : t.val % 16 = 15
      · rw [outsAt0_C m c t h h1]; frame_out
        pointwise [k0_pay15, k0_pay8, k0_pay10, k0_pay11, k0_pay12, k0_pay13, k0_pay14, read_unread_whole, termO, gateA, gateB, out, Cert.Util.load_layer, blk0, blk1, blk2, blk3, blk4, blk5, blk6]
      · rw [outsAt0_B m c t h h1]; frame_out
        pointwise [k0_pay15, k0_pay8, k0_pay10, k0_pay11, k0_pay12, k0_pay13, k0_pay14, read_unread_whole, termO, gateA, gateB, out, Cert.Util.load_layer, blk0, blk1, blk2, blk3, blk4, blk5, blk6])
    (le_of_eq N_0) t0_15 rfl j, zero_add]
  exact Fin.sum_mul_add_congr fun p k hl => rfl

abbrev termW (g : Fin 8192 → Fin 1024 → EReal) (x : FVec Ideal ⟨3, ![1, 8192, 512]⟩ .f32) (r : Fin 8192) (k : Fin 512) (d : Fin 1024) : EReal :=
  x (ix3 0 r k) * (dm 1 (wo m c) (dy m c) r d * g r d)

theorem final12 : (dats m 0 c).arrAt 12 (cfgs 0).N
    = fun i => dW 1 (wo m c) (dy m c) (gateA 1 (z m c) (b m c)) (a m c) (i 0) (i 1) := by
  refine (dats m 0 c).arrAt_eq_of_after_last 12 t0_15 (by decide +kernel) _ fun j => ?_
  blk_simp
  have hC : (outsAt0 m c t0_15.val t0_15.isLt).2.2.2.2.1 j = (outsAt0 m c t0_15.val t0_15.isLt).2.2.2.2.2.2.2.2.1 j := by
    rw [outsAt0_C m c t0_15 (by decide) (by decide)]; frame_out; pointwise [k0_pay2]
  rw [after0_12, hC, Pipeline.eq_sum_fin_of_reset_step_apply_last (fun n h => (outsAt0 m c n h).2.2.2.2.2.2.2.2.1) 16 (fun _ => 0)
    (fun p j => ∑ k : Fin 512, termW m c (gateA 1 (z m c) (b m c)) (a m c) (row p k) (j 0) (j 1))
    (fun t h j => by
      rw [outsAt0_A m c t h (by omega)]; frame_out
      pointwise [k0_pay18, k0_pay5, k0_pay16, k0_pay9, k0_pay8, k0_pay12, read_unread_whole, termW, dm, gateA, Cert.Util.load_layer, blk0, blk1, blk2, blk3, blk7])
    (fun t h j => by
      by_cases h1 : t.val % 16 = 15
      · rw [outsAt0_C m c t h h1]; frame_out
        pointwise [k0_pay18, k0_pay5, k0_pay16, k0_pay9, k0_pay8, k0_pay12, read_unread_whole, termW, dm, gateA, Cert.Util.load_layer, blk0, blk1, blk2, blk3, blk7]
      · rw [outsAt0_B m c t h h1]; frame_out
        pointwise [k0_pay18, k0_pay5, k0_pay16, k0_pay9, k0_pay8, k0_pay12, read_unread_whole, termW, dm, gateA, Cert.Util.load_layer, blk0, blk1, blk2, blk3, blk7])
    (le_of_eq N_0) t0_15 rfl j, zero_add]
  exact Fin.sum_mul_add_congr fun p k hl => rfl

theorem final13 : (dats m 0 c).arrAt 13 (cfgs 0).N
    = fun i => dW 1 (wo m c) (dy m c) (gateB 1 (z m c) (b m c)) (s m c) (i 0) (i 1) := by
  refine (dats m 0 c).arrAt_eq_of_after_last 13 t0_15 (by decide +kernel) _ fun j => ?_
  blk_simp
  have hC : (outsAt0 m c t0_15.val t0_15.isLt).2.2.2.2.2.1 j = (outsAt0 m c t0_15.val t0_15.isLt).2.2.2.2.2.2.2.2.2 j := by
    rw [outsAt0_C m c t0_15 (by decide) (by decide)]; frame_out; pointwise [k0_pay3]
  rw [after0_13, hC, Pipeline.eq_sum_fin_of_reset_step_apply_last (fun n h => (outsAt0 m c n h).2.2.2.2.2.2.2.2.2) 16 (fun _ => 0)
    (fun p j => ∑ k : Fin 512, termW m c (gateB 1 (z m c) (b m c)) (s m c) (row p k) (j 0) (j 1))
    (fun t h j => by
      rw [outsAt0_A m c t h (by omega)]; frame_out
      pointwise [k0_pay19, k0_pay6, k0_pay17, k0_pay9, k0_pay8, k0_pay13, k0_pay14, read_unread_whole, termW, dm, gateB, Cert.Util.load_layer, blk0, blk1, blk2, blk4, blk7])
    (fun t h j => by
      by_cases h1 : t.val % 16 = 15
      · rw [outsAt0_C m c t h h1]; frame_out
        pointwise [k0_pay19, k0_pay6, k0_pay17, k0_pay9, k0_pay8, k0_pay13, k0_pay14, read_unread_whole, termW, dm, gateB, Cert.Util.load_layer, blk0, blk1, blk2, blk4, blk7]
      · rw [outsAt0_B m c t h h1]; frame_out
        pointwise [k0_pay19, k0_pay6, k0_pay17, k0_pay9, k0_pay8, k0_pay13, k0_pay14, read_unread_whole, termW, dm, gateB, Cert.Util.load_layer, blk0, blk1, blk2, blk4, blk7])
    (le_of_eq N_0) t0_15 rfl j, zero_add]
  exact Fin.sum_mul_add_congr fun p k hl => rfl

end Cert.KernelIdeal.Merge

end
-- ==== Proof.Merge.Bias.lean ====
/- The kernel's last result: the cotangent of the gates' bias, summed over the tokens. -/
module

public import proofs.«01_k».proof.Proof.Merge.Blocks
public import proofs.«01_k».proof.Proof.Gen.KernelIdeal.Frame
public import Idealize.ShloMosaic.Lib.Claim
public import Idealize.ShloMosaic.Lib.Pipeline.ReadBack
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen
open Cert.Merge (gateA gateB out dm dIn dLogit dLogits dWo dW dBias)

variable (m : (ℓ : Loc nD τ sig) → Buf (Elt Ideal) ℓ) (c : Dev nD)

theorem final14 : (dats m 0 c).arrAt 14 (cfgs 0).N
    = fun i => dBias 1 (z m c) (b m c) (a m c) (s m c) (wa m c) (wb m c) (wo m c) (dy m c) (i 1) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.2.1) 16 (fun _ => 0)
    (fun p j => ∑ k : Fin 512, dLogits 1 (z m c) (b m c) (a m c) (s m c) (wa m c) (wb m c) (wo m c) (dy m c) (row p k) (j 1))
    (fun t h j => by
      rw [outsAt0_A m c t h (by omega)]; frame_out
      idx_vars j
      refine (Cert.Util.canon_halves (by norm_num) _ _ _ _ _ _ _).trans ?_
      by_cases hj : j1.val < 1024
      · rw [dif_pos hj, Finset.sum_congr rfl fun k _ => Cert.Merge.dLogits_left _ _ _ _ _ _ _ _ _ _ _ hj]
        rw [View.readCov_fill _ _ _ _ _ (by decide)]
        pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
        exact Finset.sum_congr (M := EReal) rfl fun k _ => mul_assoc (G := EReal) _ _ _
      · rw [dif_neg hj, Finset.sum_congr rfl fun k _ => Cert.Merge.dLogits_right _ _ _ _ _ _ _ _ _ _ _ hj]
        rw [View.readCov_skip _ _ _ _ _ (by rfl), View.readCov_fill _ _ _ _ _ (by decide)]
        pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
        exact Finset.sum_congr (M := EReal) rfl fun k _ => mul_assoc (G := EReal) _ _ _)
    (fun t h j => by
      by_cases h1 : t.val % 16 = 15
      · rw [outsAt0_C m c t h h1]; frame_out
        idx_vars j
        refine (Cert.Util.canon_halves (by norm_num) _ _ _ _ _ _ _).trans ?_
        by_cases hj : j1.val < 1024
        · rw [dif_pos hj, Finset.sum_congr rfl fun k _ => Cert.Merge.dLogits_left _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
        · rw [dif_neg hj, Finset.sum_congr rfl fun k _ => Cert.Merge.dLogits_right _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
          exact congrArg (ix2 0) (Fin.ext (by show 1024 + (j1.val - 1024) = j1.val; omega))
      · rw [outsAt0_B m c t h h1]; frame_out
        idx_vars j
        refine (Cert.Util.canon_halves (by norm_num) _ _ _ _ _ _ _).trans ?_
        by_cases hj : j1.val < 1024
        · rw [dif_pos hj, Finset.sum_congr rfl fun k _ => Cert.Merge.dLogits_left _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
        · rw [dif_neg hj, Finset.sum_congr rfl fun k _ => Cert.Merge.dLogits_right _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
          exact congrArg (ix2 0) (Fin.ext (by show 1024 + (j1.val - 1024) = j1.val; omega)))
    (le_of_eq N_0) t0_15 rfl j, zero_add]
  exact Fin.sum_mul_add_congr fun p k hl => rfl

end Cert.KernelIdeal.Merge

end
-- ==== Proof.Merge.Run.lean ====
/- The kernel's run: each result array holds the merge's gradient (Merge/Spec.lean). -/
module

public import proofs.«01_k».proof.Proof.Merge.Inputs
public import proofs.«01_k».proof.Proof.Merge.Logits
public import proofs.«01_k».proof.Proof.Merge.Weights
public import proofs.«01_k».proof.Proof.Merge.Bias

@[expose] public section

set_option maxRecDepth 16384

noncomputable section

open Idealize.ShloMosaic Idealize.ShloMosaic.TcCoe Idealize.SL.Sem

namespace Cert.KernelIdeal.Merge

open Cert.KernelIdeal Cert.KernelIdeal.Gen
open Cert.Merge (gateA gateB dIn dLogits dWo dW dBias)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v16_0) = (fun i => dIn 1 (wo m c) (dy m c) (gateA 1 (z m c) (b m c)) (wa m c) (i 0) (i 1))
      ∧ r.2.mem ((c.tc : Thread nD τ).loc main_v16_1) = (fun i => dIn 1 (wo m c) (dy m c) (gateB 1 (z m c) (b m c)) (wb m c) (i 0) (i 1))
      ∧ r.2.mem ((c.tc : Thread nD τ).loc main_v16_2) = (fun i => dLogits 1 (z m c) (b m c) (a m c) (s m c) (wa m c) (wb m c) (wo m c) (dy m c) (i 0) (i 1))
      ∧ r.2.mem ((c.tc : Thread nD τ).loc main_v16_3) = (fun i => dWo 1 (z m c) (b m c) (a m c) (s m c) (wa m c) (wb m c) (dy m c) (i 0) (i 1))
      ∧ r.2.mem ((c.tc : Thread nD τ).loc main_v16_4) = (fun i => dW 1 (wo m c) (dy m c) (gateA 1 (z m c) (b m c)) (a m c) (i 0) (i 1))
      ∧ r.2.mem ((c.tc : Thread nD τ).loc main_v16_5) = (fun i => dW 1 (wo m c) (dy m c) (gateB 1 (z m c) (b m c)) (s m c) (i 0) (i 1))
      ∧ r.2.mem ((c.tc : Thread nD τ).loc main_v16_6) = (fun i => dBias 1 (z m c) (b m c) (a m c) (s m c) (wa m c) (wb m c) (wo m c) (dy m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c =>
    ⟨((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2 c⟩

end Cert.KernelIdeal.Merge

end
-- ==== Proof.Merge.Pair.lean ====
/- The merge's pair: the kernel's results are the reference's. -/
module

public import proofs.«01_k».proof.Defs
public import proofs.«01_k».proof.Proof.Merge.Ref
public import proofs.«01_k».proof.Proof.Merge.Run

@[expose] public section

set_option maxRecDepth 16384

noncomputable section

open Idealize.ShloMosaic Idealize.ShloMosaic.TcCoe Idealize.SL.Sem

namespace Cert.Merge

open Cert.ReferenceIdeal.Merge in
theorem algebraic : Cert.algebraic_KernelIdeal_ReferenceIdeal := by
  intro m g m' g' _ hagree
  refine ⟨_, _, _, _, _, _, _, Cert.KernelIdeal.Merge.run m g, θ_run_mono (run m' g') fun r h c => ?_⟩
  obtain ⟨h0, h1, h2, h3, h4, h5, h6, hargs⟩ := h c
  have e0 : z m' c = Cert.KernelIdeal.Merge.z m c := (hagree c).1
  have e1 : b m' c = Cert.KernelIdeal.Merge.b m c := (hagree c).2.1
  have e2 : a m' c = Cert.KernelIdeal.Merge.a m c := (hagree c).2.2.1
  have e3 : s m' c = Cert.KernelIdeal.Merge.s m c := (hagree c).2.2.2.1
  have e4 : wa m' c = Cert.KernelIdeal.Merge.wa m c := (hagree c).2.2.2.2.1
  have e5 : wb m' c = Cert.KernelIdeal.Merge.wb m c := (hagree c).2.2.2.2.2.1
  have e6 : wo m' c = Cert.KernelIdeal.Merge.wo m c := (hagree c).2.2.2.2.2.2.1
  have e7 : dy m' c = Cert.KernelIdeal.Merge.dy m c := (hagree c).2.2.2.2.2.2.2
  exact ⟨h0.trans (by rewrite [e0, e1, e4, e6, e7]; rfl),
    h1.trans (by rewrite [e0, e1, e5, e6, e7]; rfl),
    h2.trans (by rewrite [e0, e1, e2, e3, e4, e5, e6, e7]; rfl),
    h3.trans (by rewrite [e0, e1, e2, e3, e4, e5, e7]; rfl),
    h4.trans (by rewrite [e0, e1, e2, e6, e7]; rfl),
    h5.trans (by rewrite [e0, e1, e3, e6, e7]; rfl),
    h6.trans (by rewrite [e0, e1, e2, e3, e4, e5, e6, e7]; rfl),
    hargs⟩

theorem reference_frame : Cert.quiescent_ReferenceIdeal := by
  intro m g _
  exact (θ_run Cert.ReferenceIdeal.defs _ _).mono (fun r h => ⟨fun c => (h c).2.2.2.2.2.2.2, sem_eq_zero_of_no_sems (by decide) r.2⟩)
    (Cert.ReferenceIdeal.Merge.run m g)

end Cert.Merge

end
-- ==== Proof.Rms.lean ====
/- The gradient of a root-mean-square norm over a row of real entries: the form that a kernel computes and the form
   that the chain rule gives are the same extended real. -/
module

public import Idealize.ShloMosaic.Lib.Pipeline.ValueKit
public import Idealize.ShloMosaic.Lib.Pointwise

@[expose] public section

noncomputable section

open Idealize.ShloMosaic

namespace Cert.Rms

/-- An extended real that is a real number. -/
def IsReal (x : EReal) : Prop := ∃ r : ℝ, x = (r : EReal)

theorem IsReal.of_abs_lt_top {x : EReal} (h : max x (-x) < ⊤) : IsReal x := by
  obtain ⟨h1, h2⟩ := max_lt_iff.mp h
  induction x with
  | bot => exact absurd h2 (by simp)
  | top => exact absurd h1 (by simp)
  | coe r => exact ⟨r, rfl⟩

theorem ofBits_inf : Ideal.ofBits .f32 0x7F800000#32 = ⊤ := by simp [Ideal.ofBits, Ideal.ieee]

/-- An array's predicate "its absolute value is below infinity", read at an entry. -/
theorem IsReal.of_cmp {s : Shape} (x : FVec Ideal s .f32) (u : FVec Ideal s .f32) (hu : ∀ i, u i = ⊤)
    (h : (cmpf .olt (Host.absf x) u) = fun _ => 1#1) (i : s.Idx) : IsReal (x i) := by
  have h1 := congrFun h i
  have h2 : BitVec.ofBool (decide (max (x i) (-(x i)) < u i)) = 1#1 := h1
  rw [hu i] at h2
  refine IsReal.of_abs_lt_top (of_decide_eq_true ?_)
  revert h2
  cases decide (max (x i) (-(x i)) < ⊤) <;> simp

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem isReal_one : IsReal 1 := ⟨1, rfl⟩

theorem IsReal.logistic {x : EReal} : IsReal x → IsReal (Ideal.logistic x)
  | ⟨a, ha⟩ => by
    have h : (1 : ℝ) + Real.exp (-a) ≠ 0 := by positivity
    refine ⟨1 / (1 + Real.exp (-a)), ?_⟩
    rw [ha]
    show Ideal.div 1 (1 + Ideal.exp (-(a : EReal))) = _
    rw [← EReal.coe_neg, Ideal.exp_coe, ← EReal.coe_one, ← EReal.coe_add, Ideal.div_coe h, ← EReal.coe_mul, one_mul]

/-- A sum of reals, as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} [Fintype ι] {f : ι → EReal} (h : ∀ k, IsReal (f k)) : IsReal (∑ k, f k) := by
  choose g hg using h
  exact ⟨∑ k, g k, by rw [← coe_sum]; exact Finset.sum_congr rfl fun k _ => hg k⟩

/-- The constants of the norm: the row's length, the term added to the mean square, and minus one half. -/
theorem ofBits_1024 : Ideal.ofBits .f32 0x44800000#32 = ((1024 : ℝ) : EReal) := by
  simp [Ideal.ofBits, Ideal.ieee]; rw [← EReal.coe_mul]; norm_num
theorem ofBits_neg_half : Ideal.ofBits .f32 0xBF000000#32 = ((-1 / 2 : ℝ) : EReal) := by
  simp [Ideal.ofBits, Ideal.ieee]; rw [← EReal.coe_mul]; norm_num
theorem ofBits_eps : ∃ e : ℝ, 0 < e ∧ Ideal.ofBits .f32 0x358637BD#32 = ((e : ℝ) : EReal) := by
  refine ⟨8796093 * (2 : ℝ) ^ (-43 : ℤ), by positivity, ?_⟩
  simp [Ideal.ofBits, Ideal.ieee]

/-- The rows of a three-axis array whose leading axis has extent one. -/
def rowOf {n k : ℕ} (x : FVec Ideal ⟨3, ![1, n, k]⟩ .f32) (r : Fin n) (j : Fin k) : EReal := x (ix3 0 r j)

/-- The mean square of a row, with the constant added. -/
def meanSq (x : Fin 1024 → EReal) : EReal := Ideal.div (∑ k, x k * x k) (Ideal.ofBits .f32 0x44800000#32) + Ideal.ofBits .f32 0x358637BD#32
/-- The row's scale: one over the root of that. -/
def scale (x : Fin 1024 → EReal) : EReal := Ideal.rsqrt (meanSq x)
/-- The cotangent `h` of the normalised row pulled back to the row, the kernel's way. -/
def pull (x h : Fin 1024 → EReal) (j : Fin 1024) : EReal :=
  scale x * (h j - x j * scale x * Ideal.div (∑ k, h k * (x k * scale x)) (Ideal.ofBits .f32 0x44800000#32))
/-- The mean square's share of the pulled-back cotangent, by the chain rule. -/
def share (x h : Fin 1024 → EReal) : EReal :=
  Ideal.div ((∑ k, x k * h k) * (Ideal.ofBits .f32 0xBF000000#32 * Ideal.div (scale x) (meanSq x))) (Ideal.ofBits .f32 0x44800000#32)

theorem div_real (a : ℝ) {b : ℝ} (h : b ≠ 0) : Ideal.div (a : EReal) (b : EReal) = ((a / b : ℝ) : EReal) := by
  rw [Ideal.div_coe h, ← EReal.coe_mul, mul_one_div]

/-- Over real entries the mean square is a positive real. -/
theorem meanSq_real (X : Fin 1024 → ℝ) : ∃ M : ℝ, 0 < M ∧ meanSq (fun k => (X k : EReal)) = (M : EReal) := by
  obtain ⟨e, he, h⟩ := ofBits_eps
  refine ⟨(∑ k, X k * X k) / 1024 + e, ?_, ?_⟩
  · have : 0 ≤ ∑ k, X k * X k := Finset.sum_nonneg fun k _ => mul_self_nonneg _
    positivity
  · unfold meanSq
    simp only [← EReal.coe_mul]
    rw [coe_sum, ofBits_1024, div_real _ (by norm_num), h, ← EReal.coe_add]

theorem scale_real {x : Fin 1024 → EReal} {M : ℝ} (hM : 0 < M) (h : meanSq x = (M : EReal)) : scale x = (((Real.sqrt M)⁻¹ : ℝ) : EReal) := by
  unfold scale
  rw [h, Ideal.rsqrt_coe, if_neg (by linarith), if_neg (by linarith)]

theorem IsReal.scale {x : Fin 1024 → EReal} (hx : ∀ k, IsReal (x k)) : IsReal (scale x) := by
  choose X hX using hx
  obtain rfl : x = fun k => (X k : EReal) := funext hX
  obtain ⟨M, hM, hm⟩ := meanSq_real X
  exact ⟨_, scale_real hM hm⟩

theorem IsReal.div_1024 {x : EReal} : IsReal x → IsReal (Ideal.div x (Ideal.ofBits .f32 0x44800000#32))
  | ⟨a, ha⟩ => ⟨a / 1024, by rw [ha, ofBits_1024, div_real _ (by norm_num)]⟩

theorem IsReal.pull {x h : Fin 1024 → EReal} (hx : ∀ k, IsReal (x k)) (hh : ∀ k, IsReal (h k)) (j : Fin 1024) : IsReal (pull x h j) :=
  (IsReal.scale hx).mul ((hh j).sub (((hx j).mul (IsReal.scale hx)).mul
    (IsReal.div_1024 (IsReal.sum fun k => (hh k).mul ((hx k).mul (IsReal.scale hx))))))

/-- The two forms of the pulled-back cotangent, for a row and a cotangent of reals. -/
theorem chain_eq_pull {x h : Fin 1024 → EReal} (hx : ∀ k, IsReal (x k)) (hh : ∀ k, IsReal (h k)) (j : Fin 1024) (d : EReal) :
    d + h j * scale x + x j * share x h + share x h * x j = d + pull x h j := by
  choose X hX using hx
  choose H hH using hh
  obtain rfl : x = fun k => (X k : EReal) := funext hX
  obtain rfl : h = fun k => (H k : EReal) := funext hH
  obtain ⟨M, hM, hm⟩ := meanSq_real X
  have hs := scale_real hM hm
  set R : ℝ := (Real.sqrt M)⁻¹ with hR
  have hRM : R * R = 1 / M := by rw [hR, ← mul_inv, Real.mul_self_sqrt hM.le, one_div]
  have e1 : share (fun k => (X k : EReal)) (fun k => (H k : EReal)) = ((((∑ k, X k * H k) * (-1 / 2 * (R / M))) / 1024 : ℝ) : EReal) := by
    unfold share
    simp only [← EReal.coe_mul]
    rw [hs, hm, ofBits_1024, ofBits_neg_half, coe_sum, div_real _ hM.ne', ← EReal.coe_mul, ← EReal.coe_mul, div_real _ (by norm_num)]
  have e2 : pull (fun k => (X k : EReal)) (fun k => (H k : EReal)) j
      = ((R * (H j - X j * R * ((∑ k, H k * (X k * R)) / 1024)) : ℝ) : EReal) := by
    unfold pull
    rw [hs, ofBits_1024]
    simp only [← EReal.coe_mul]
    rw [coe_sum, div_real _ (by norm_num), ← EReal.coe_mul, ← EReal.coe_sub, ← EReal.coe_mul]
  rw [e1, e2, hs, add_assoc, add_assoc]
  simp only [← EReal.coe_mul, ← EReal.coe_add]
  congr 2
  have e3 : ∑ k, H k * (X k * R) = (∑ k, X k * H k) * R := by
    rw [Finset.sum_mul]; exact Finset.sum_congr rfl fun k _ => by ring
  rw [e3]
  have e4 : R / M = R * (R * R) := by rw [hRM]; ring
  rw [e4]
  ring

end Cert.Rms

end
-- ==== Proof.Norm.Spec.lean ====
/- The gradient of a product behind its root-mean-square norm, entry by entry: what both programs of the pair compute.

   Forward, for a token `r` (layer `l` of the stacks `g`, `w`): the row `X r` scaled by one over its root mean square, each
   channel by `g`, then through `w`; the row itself goes on beside it. Below: the cotangent of the row and of `g`. -/
module

public import proofs.«01_k».proof.Proof.Rms

@[expose] public section

set_option maxRecDepth 16384

noncomputable section

open Idealize.ShloMosaic

namespace Cert.Norm

variable {n : ℕ} (l : Fin 2) (X : Fin 8192 → Fin 1024 → EReal) (g : FVec Ideal ⟨2, ![2, 1024]⟩ .f32)
  (w : FVec Ideal ⟨3, ![2, 1024, n]⟩ .f32) (res : FVec Ideal ⟨3, ![1, 8192, 1024]⟩ .f32) (du : FVec Ideal ⟨3, ![1, 8192, n]⟩ .f32)

/-- The cotangent of the product's left operand: `du · wᵀ`. -/
def dh (r : Fin 8192) (d : Fin 1024) : EReal := ∑ k : Fin n, du (ix3 0 r k) * w (ix3 l d k)
/-- The cotangent of the scaled row. -/
def dScaled (r : Fin 8192) (d : Fin 1024) : EReal := dh l w du r d * g (ix2 l d)
/-- The cotangent of the row: what came beside it, and what the norm passes back. -/
def dx (r : Fin 8192) (d : Fin 1024) : EReal := res (ix3 0 r d) + Rms.pull (X r) (dScaled l g w du r) d
/-- The same by the chain rule. -/
def dxChain (r : Fin 8192) (d : Fin 1024) : EReal :=
  res (ix3 0 r d) + dScaled l g w du r d * Rms.scale (X r) + X r d * Rms.share (X r) (dScaled l g w du r)
    + Rms.share (X r) (dScaled l g w du r) * X r d
/-- The cotangent of the norm's weight. -/
def dg (d : Fin 1024) : EReal := ∑ r : Fin 8192, dh l w du r d * (X r d * Rms.scale (X r))

theorem dScaled_real (hg : ∀ i, Rms.IsReal (g i)) (hw : ∀ i, Rms.IsReal (w i)) (hu : ∀ i, Rms.IsReal (du i))
    (r : Fin 8192) (d : Fin 1024) : Rms.IsReal (dScaled l g w du r d) :=
  Rms.IsReal.mul (Rms.IsReal.sum fun _ => (hu _).mul (hw _)) (hg _)

/-- Over reals the two forms of the row's cotangent are one. -/
theorem dxChain_eq (hx : ∀ r k, Rms.IsReal (X r k)) (hg : ∀ i, Rms.IsReal (g i)) (hw : ∀ i, Rms.IsReal (w i)) (hu : ∀ i, Rms.IsReal (du i))
    (r : Fin 8192) (d : Fin 1024) : dxChain l X g w res du r d = dx l X g w res du r d :=
  Rms.chain_eq_pull (hx r) (dScaled_real l g w du hg hw hu r) d _

end Cert.Norm

end
-- ==== Proof.Norm.Steps.lean ====
/- The reference's values, step by step, and what each holds (Norm/Spec.lean). -/
module

public import proofs.«01_k».proof.Proof.Norm.Spec
public import proofs.«01_k».proof.Proof.Gen.Reference2Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference2Ideal.Norm

open Cert.Reference2Ideal Cert.Reference2Ideal.Gen
open Cert Cert.Norm

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev g : FVec Ideal ⟨2, ![2, 1024]⟩ .f32 := m ((c.tc : Thread nD τ).loc main_arg1)
abbrev w : FVec Ideal ⟨3, ![2, 1024, 5632]⟩ .f32 := m ((c.tc : Thread nD τ).loc main_arg2)
abbrev res : FVec Ideal ⟨3, ![1, 8192, 1024]⟩ .f32 := m ((c.tc : Thread nD τ).loc main_arg3)
abbrev du : FVec Ideal ⟨3, ![1, 8192, 5632]⟩ .f32 := m ((c.tc : Thread nD τ).loc main_arg4)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq (Rms.rowOf (x m c) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale (Rms.rowOf (x m c) r) := by
  pointwise [scaleV, Rms.scale, sqV_at]
/-- The cotangent of the left operand. -/
def dhV : FVec Ideal S1x8192x1024 .f32 := Host.dotGeneral dot_S1x8192x5632_S1024x5632_S1x8192x1024_2_1_01_0_n_n none (du m c) (shapeCast S1024x5632 (extractStridedSlice S1x1024x5632 ![1, 0, 0] (w m c) slices_S2x1024x5632_S1x1024x5632_1_0_0) shapeCasts_S1x1024x5632_S1024x5632)
theorem dhV_at (r : Fin 8192) (d : Fin 1024) : dhV m c (ix3 0 r d) = dh 1 (w m c) (du m c) r d := by
  pointwise [dhV, dh]
/-- The cotangent of the scaled row. -/
def dScaledV : FVec Ideal S1x8192x1024 .f32 := mulf (dhV m c) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (g m c) slices_S2x1024_S1x1024_1_0) shapeCasts_S1x1024_S1024)))
theorem dScaledV_at (r : Fin 8192) (d : Fin 1024) : dScaledV m c (ix3 0 r d) = dScaled 1 (g m c) (w m c) (du m c) r d := by
  pointwise [dScaledV, dScaled, dhV_at]
/-- The mean square's share of the row's cotangent. -/
def shareV : FVec Ideal S8192 .f32 := Host.reduceAdd (Host.divf (mulf (shapeCast S1x8192x1 (Host.reduceAdd (mulf (x m c) (dScaledV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleV m c) (sqV m c)))) (broadcastInDim S1x8192x1 ![] bcast_S_S1x8192x1 (constant S_ .f32 0x44800000#32))) (constant S_ .f32 0x00000000#32) reducesTo_S1x8192x1_S8192_d0_2 h_S_
theorem shareV_at (r : Fin 8192) : shareV m c (ix1 r) = Rms.share (Rms.rowOf (x m c) r) (dScaled 1 (g m c) (w m c) (du m c) r) := by
  pointwise [shareV, Rms.share, Rms.rowOf, Cert.Util.hostReduceAdd_unit02, dScaledV_at, scaleV_at, sqV_at]
/-- The row's cotangent. -/
def dxV : FVec Ideal S8192x1024 .f32 := shapeCast S8192x1024 (addf (addf (addf (res m c) (mulf (dScaledV m c) (broadcastInDim S1x8192x1024 ![0, 1, 2] bcast_S1x8192x1_S1x8192x1024_0_1_2 (scaleV m c)))) (mulf (x m c) (broadcastInDim S1x8192x1024 ![0, 1] bcast_S1x8192_S1x8192x1024_0_1 (broadcastInDim S1x8192 ![1] bcast_S8192_S1x8192_1 (shareV m c))))) (mulf (broadcastInDim S1x8192x1024 ![0, 1] bcast_S1x8192_S1x8192x1024_0_1 (broadcastInDim S1x8192 ![1] bcast_S8192_S1x8192_1 (shareV m c))) (x m c))) shapeCasts_S1x8192x1024_S8192x1024
theorem dxV_at (r : Fin 8192) (d : Fin 1024) : dxV m c (ix2 r d) = dxChain 1 (Rms.rowOf (x m c)) (g m c) (w m c) (res m c) (du m c) r d := by
  pointwise [dxV, dxChain, Rms.rowOf, scaleV_at, dScaledV_at, shareV_at]
/-- The weight's cotangent. -/
def dgV : FVec Ideal S1x1024 .f32 := broadcastInDim S1x1024 ![1] bcast_S1024_S1x1024_1 (Host.reduceAdd (shapeCast S1x1x1024 (Host.reduceAdd (mulf (mulf (x m c) (broadcastInDim S1x8192x1024 ![0, 1, 2] bcast_S1x8192x1_S1x8192x1024_0_1_2 (scaleV m c))) (dhV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgV_at (d : Fin 1024) : dgV m c (ix2 0 d) = dg 1 (Rms.rowOf (x m c)) (w m c) (du m c) d := by
  pointwise [dgV, dg, Rms.rowOf, Cert.Util.hostReduceAdd_unit01, scaleV_at, dhV_at]
  exact Finset.sum_congr (M := EReal) rfl fun r _ => mul_comm (G := EReal) _ _

theorem res0_eq : Value.res_main_v46 m c = dxV m c := rfl

end Cert.Reference2Ideal.Norm

end
-- ==== Proof.Norm.Ref.lean ====
/- The reference's run: each result array holds the norm's gradient by the chain rule (Norm/Spec.lean). -/
module

public import proofs.«01_k».proof.Proof.Norm.Steps

@[expose] public section

set_option maxRecDepth 16384

noncomputable section

open Idealize.ShloMosaic Idealize.ShloMosaic.TcCoe Idealize.SL.Sem

namespace Cert.Reference2Ideal.Norm

open Cert.Reference2Ideal Cert.Reference2Ideal.Gen
open Cert.Norm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v46) = (fun i => dxChain 1 (Rms.rowOf (x m c)) (g m c) (w m c) (res m c) (du m c) (i 0) (i 1))
      ∧ r.2.mem ((c.tc : Thread nD τ).loc main_v47) = (fun i => dg 1 (Rms.rowOf (x m c)) (w m c) (du m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  obtain ⟨h0, h1, hargs⟩ := h c
  exact ⟨h0.trans ((funext fun i => by idx_vars i; exact dxV_at m c i0 i1)), h1.trans (show dgV m c = _ from funext fun i => by idx_vars i; obtain rfl : i0 = 0 := Subsingleton.elim _ _; exact dgV_at m c i1), hargs⟩

end Cert.Reference2Ideal.Norm

end
-- ==== Proof.Norm.Blocks.lean ====
/- What the norm kernel's blocks hold at a grid point: rows of the arguments. -/
module

public import proofs.«01_k».proof.Proof.Norm.Spec
public import proofs.«01_k».proof.Proof.Gen.Kernel2Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel2Ideal.Norm

open Cert.Kernel2Ideal Cert.Kernel2Ideal.Gen
open Cert.Norm

variable (m : (ℓ : Loc nD τ sig) → Buf (Elt Ideal) ℓ) (c : Dev nD)

abbrev x : FVec Ideal ⟨3, ![1, 8192, 1024]⟩ .f32 := m ((c : Thread nD τ).loc main_arg0)
abbrev g : FVec Ideal ⟨2, ![2, 1024]⟩ .f32 := m ((c : Thread nD τ).loc main_arg1)
abbrev w : FVec Ideal ⟨3, ![2, 1024, 5632]⟩ .f32 := m ((c : Thread nD τ).loc main_arg2)
abbrev res : FVec Ideal ⟨3, ![1, 8192, 1024]⟩ .f32 := m ((c : Thread nD τ).loc main_arg3)
abbrev du : FVec Ideal ⟨3, ![1, 8192, 5632]⟩ .f32 := m ((c : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem blk0 (t : Fin cfg0.N) (i : Fin 512) (j : Fin 5632) : iblk m c 0 t (ix2 i j) = du m c (ix3 0 (row t i) j) := by
  blk_point [iblk, V, idx t, row]
theorem blk1 (t : Fin cfg0.N) (i : Fin 5632) (j : Fin 1024) : iblk m c 1 t (ix2 i j) = w m c (ix3 1 j i) := by
  blk_point [iblk, V, idx t]
theorem blk2 (t : Fin cfg0.N) (i : Fin 512) (j : Fin 1024) : iblk m c 2 t (ix2 i j) = x m c (ix3 0 (row t i) j) := by
  blk_point [iblk, V, idx t, row]
theorem blk3 (t : Fin cfg0.N) (i : Fin 2) (j : Fin 1024) : iblk m c 3 t (ix2 i j) = g m c (ix2 i j) := by
  blk_point [iblk, V, idx t]
theorem blk4 (t : Fin cfg0.N) (i : Fin 512) (j : Fin 1024) : iblk m c 4 t (ix2 i j) = res m c (ix3 0 (row t i) j) := by
  blk_point [iblk, V, idx t, row]

theorem at5 (t : Fin cfg0.N) (i : Fin 512) (j : Fin 1024) :
    ((View.whole main_v8_0).slice (win0_5.rect t)).emb (ix2 i j) = ix2 (row t i) j := by
  blk_ext [idx t, row]

end Cert.Kernel2Ideal.Norm

end
-- ==== Proof.Norm.Tile.lean ====
/- What the norm kernel computes of a block of rows. -/
module

public import proofs.«01_k».proof.Proof.Norm.Blocks

@[expose] public section

set_option maxRecDepth 16384

noncomputable section

open Idealize.ShloMosaic Idealize.ShloMosaic.TcCoe Idealize.SL.Sem
open Idealize.ShloMosaic.Pipeline (Dat)

namespace Cert.Kernel2Ideal.Norm

open Cert.Kernel2Ideal Cert.Kernel2Ideal.Gen
open Cert Cert.Norm

variable (m : (ℓ : Loc nD τ sig) → Buf (Elt Ideal) ℓ) (c : Dev nD)

theorem pay3_at (t : Fin cfg0.N) (i : Fin 512) (j : Fin 1024) :
    k0_pay3 (iblk m c 0 t) (iblk m c 1 t) (ix2 i j) = dh 1 (w m c) (du m c) (row t i) j := by
  pointwise [k0_pay3, dh, blk0, blk1]
theorem pay5_at (t : Fin cfg0.N) (i : Fin 512) : k0_pay5 (iblk m c 2 t) (ix2 i 0) = Rms.scale (Rms.rowOf (x m c) (row t i)) := by
  pointwise [k0_pay5, k0_pay4, Rms.scale, Rms.meanSq, Rms.rowOf, blk2]
theorem pay6_at (t : Fin cfg0.N) (i : Fin 512) (j : Fin 1024) :
    k0_pay6 (iblk m c 2 t) (ix2 i j) = x m c (ix3 0 (row t i) j) * Rms.scale (Rms.rowOf (x m c) (row t i)) := by
  pointwise [k0_pay6, k0_pay4, pay5_at, blk2]
/-- A block's share of the weight's cotangent. -/
theorem pay7_at (t : Fin cfg0.N) (a : Fin 1) (j : Fin 1024) : k0_pay7 (iblk m c 0 t) (iblk m c 1 t) (iblk m c 2 t) (ix2 a j)
    = ∑ i : Fin 512, dh 1 (w m c) (du m c) (row t i) j * (x m c (ix3 0 (row t i) j) * Rms.scale (Rms.rowOf (x m c) (row t i))) := by
  obtain rfl : a = 0 := Subsingleton.elim _ _
  pointwise [k0_pay7, pay3_at, pay6_at]
/-- A block of the row's cotangent. -/
theorem pay8_at (t : Fin cfg0.N) (i : Fin 512) (j : Fin 1024) :
    k0_pay8 (iblk m c 0 t) (iblk m c 1 t) (iblk m c 2 t)
      (View.ld (iblk m c 3 t) (Rect.unit ![1, 0] ![1, 1024] inb_S2x1024_S1x1024_1_0)) (iblk m c 4 t) (ix2 i j)
      = dx 1 (Rms.rowOf (x m c)) (g m c) (w m c) (res m c) (du m c) (row t i) j := by
  pointwise [k0_pay8, dx, dScaled, Rms.pull, Rms.rowOf, Cert.Util.load_layer, pay3_at, pay5_at, pay6_at, blk3, blk4]

end Cert.Kernel2Ideal.Norm

end
-- ==== Proof.Norm.Outputs.lean ====
/- The norm kernel's result arrays: the row's cotangent block by block, the weight's as a sum over the blocks. -/
module

public import proofs.«01_k».proof.Proof.Norm.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Norm

open Cert.Kernel2Ideal Cert.Kernel2Ideal.Gen
open Cert Cert.Norm

variable (m : (ℓ : Loc nD τ sig) → Buf (Elt Ideal) ℓ) (c : Dev nD)

theorem final5 : (dats m 0 c).arrAt 5 (cfgs 0).N
    = fun i => dx 1 (Rms.rowOf (x m c)) (g m c) (w m c) (res m c) (du m c) (i 0) (i 1) := by
  refine (dats m 0 c).arrAt_eq_of_covers 5 _ (by decide +kernel) fun t _ y => ?_
  blk_simp
  idx_vars y
  rw [at5, after0_5]
  by_cases h0 : t.val % 16 = 0
  · rw [outsAt0_A m c t h0]; frame_out
    exact pay8_at m c t y0 y1
  · rw [outsAt0_B m c t h0]; frame_out
    exact pay8_at m c t y0 y1

theorem final6 : (dats m 0 c).arrAt 6 (cfgs 0).N = fun i => dg 1 (Rms.rowOf (x m c)) (w m c) (du m c) (i 1) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => ∑ k : Fin 512, dh 1 (w m c) (du m c) (row p k) (j 1) * (x m c (ix3 0 (row p k) (j 1)) * Rms.scale (Rms.rowOf (x m c) (row p k))))
    (fun t h j => by
      rw [outsAt0_A m c t h]; frame_out
      idx_vars j
      pointwise [k0_pay1, k0_pay2, pay7_at])
    (fun t h j => by
      rw [outsAt0_B m c t h]; frame_out
      idx_vars j
      pointwise [k0_pay1, k0_pay2, pay7_at])
    (le_of_eq N_0) t0_15 rfl j, zero_add]
  exact Fin.sum_mul_add_congr fun p k hl => rfl

end Cert.Kernel2Ideal.Norm

end
-- ==== Proof.Norm.Run.lean ====
/- The kernel's run: each result array holds the norm's gradient (Norm/Spec.lean). -/
module

public import proofs.«01_k».proof.Proof.Norm.Outputs

@[expose] public section

set_option maxRecDepth 16384

noncomputable section

open Idealize.ShloMosaic Idealize.ShloMosaic.TcCoe Idealize.SL.Sem

namespace Cert.Kernel2Ideal.Norm

open Cert.Kernel2Ideal Cert.Kernel2Ideal.Gen
open Cert.Norm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8_0) = (fun i => dx 1 (Rms.rowOf (x m c)) (g m c) (w m c) (res m c) (du m c) (i 0) (i 1))
      ∧ r.2.mem ((c.tc : Thread nD τ).loc main_v8_1) = (fun i => dg 1 (Rms.rowOf (x m c)) (w m c) (du m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c =>
    ⟨((h.1 c).1 5).trans (final5 m c), ((h.1 c).1 6).trans (final6 m c), h.2 c⟩

end Cert.Kernel2Ideal.Norm

end
-- ==== Proof.Norm.Pair.lean ====
/- The norm's pair: over reals the kernel's results are the reference's. -/
module

public import proofs.«01_k».proof.Defs
public import proofs.«01_k».proof.Proof.Gen.Pre_finite2
public import proofs.«01_k».proof.Proof.Norm.Ref
public import proofs.«01_k».proof.Proof.Norm.Run

@[expose] public section

set_option maxRecDepth 16384

noncomputable section

open Idealize.ShloMosaic Idealize.ShloMosaic.TcCoe Idealize.SL.Sem

namespace Cert.Norm

open Cert.Reference2Ideal.Norm in
theorem algebraic : Cert.algebraic_Kernel2Ideal_Reference2Ideal_pre_finite2 := by
  intro m ρ m' ρ' hpre hagree
  refine ⟨_, _, Cert.Kernel2Ideal.Norm.run m ρ, θ_run_mono (run m' ρ') fun r h c => ?_⟩
  obtain ⟨h0, h1, hargs⟩ := h c
  have e0 : x m' c = Cert.Kernel2Ideal.Norm.x m c := (hagree c).1
  have e1 : g m' c = Cert.Kernel2Ideal.Norm.g m c := (hagree c).2.1
  have e2 : w m' c = Cert.Kernel2Ideal.Norm.w m c := (hagree c).2.2.1
  have e3 : res m' c = Cert.Kernel2Ideal.Norm.res m c := (hagree c).2.2.2.1
  have e4 : du m' c = Cert.Kernel2Ideal.Norm.du m c := (hagree c).2.2.2.2
  have f0 : ∀ j, Rms.IsReal (Cert.Kernel2Ideal.Norm.x m c j) := Rms.IsReal.of_cmp _ _ (fun _ => Rms.ofBits_inf) ((hpre c).1)
  have f1 : ∀ j, Rms.IsReal (Cert.Kernel2Ideal.Norm.g m c j) := Rms.IsReal.of_cmp _ _ (fun _ => Rms.ofBits_inf) ((hpre c).2.1)
  have f2 : ∀ j, Rms.IsReal (Cert.Kernel2Ideal.Norm.w m c j) := Rms.IsReal.of_cmp _ _ (fun _ => Rms.ofBits_inf) ((hpre c).2.2.1)
  have f3 : ∀ j, Rms.IsReal (Cert.Kernel2Ideal.Norm.du m c j) := Rms.IsReal.of_cmp _ _ (fun _ => Rms.ofBits_inf) ((hpre c).2.2.2)
  exact ⟨h0.trans (by rewrite [e0, e1, e2, e3, e4]; exact funext fun i => dxChain_eq _ _ _ _ _ _ (fun _ _ => f0 _) f1 f2 f3 _ _), h1.trans (by rewrite [e0, e2, e4]; rfl), hargs⟩

theorem reference_frame : Cert.quiescent_Reference2Ideal := by
  intro m g _
  exact (θ_run Cert.Reference2Ideal.defs _ _).mono (fun r h => ⟨fun c => (h c).2.2, sem_eq_zero_of_no_sems (by decide) r.2⟩)
    (Cert.Reference2Ideal.Norm.run m g)

theorem reference_frame_pre : Cert.quiescent_Reference2Ideal_pre_finite2 :=
  fun m g _ => reference_frame m g trivial

end Cert.Norm

end
-- ==== Proof.Ple.Spec.lean ====
/- The gradient of the per-layer embedding's gate behind its norm, entry by entry: what both programs of the pair compute.

   Forward, for a token `r` and layer `l` of the stacks: `y = X r + σ(h · w_gate) * (p · w)`, `h` the row `X r` scaled by one
   over its root mean square and by `g`. Below: from the cotangent `dy` of `y`, that of the row and of each weight. -/
module

public import proofs.«01_k».proof.Proof.Rms

@[expose] public section

set_option maxRecDepth 16384

noncomputable section

open Idealize.ShloMosaic

namespace Cert.Ple

variable (l : Fin 2) (X : Fin 8192 → Fin 1024 → EReal) (p : FVec Ideal ⟨4, ![2, 1, 8192, 256]⟩ .f32) (g : FVec Ideal ⟨2, ![2, 1024]⟩ .f32)
  (w : FVec Ideal ⟨3, ![2, 256, 1024]⟩ .f32) (wg : FVec Ideal ⟨3, ![2, 1024, 1024]⟩ .f32) (dy : Fin 8192 → Fin 1024 → EReal)

/-- The scaled row. -/
def normed (r : Fin 8192) (d : Fin 1024) : EReal := X r d * Rms.scale (X r) * g (ix2 l d)
/-- The gate. -/
def gate (r : Fin 8192) (e : Fin 1024) : EReal := Ideal.logistic (∑ d : Fin 1024, normed l X g r d * wg (ix3 l d e))
/-- The embedding, projected. -/
def emb (r : Fin 8192) (e : Fin 1024) : EReal := ∑ k : Fin 256, p (ix4 l 0 r k) * w (ix3 l k e)
/-- The forward value. -/
def out (r : Fin 8192) (e : Fin 1024) : EReal := X r e + gate l X g wg r e * emb l p w r e
/-- The cotangent of the projected embedding. -/
def dEmb (r : Fin 8192) (e : Fin 1024) : EReal := dy r e * gate l X g wg r e
/-- The cotangent of the gate's logit. -/
def dGate (r : Fin 8192) (e : Fin 1024) : EReal := dy r e * emb l p w r e * (gate l X g wg r e * (1 - gate l X g wg r e))
/-- The cotangent of the gate's left operand. -/
def dh (r : Fin 8192) (d : Fin 1024) : EReal := ∑ e : Fin 1024, dGate l X p g w wg dy r e * wg (ix3 l d e)
/-- The cotangent of the scaled row. -/
def dScaled (r : Fin 8192) (d : Fin 1024) : EReal := dh l X p g w wg dy r d * g (ix2 l d)
/-- The cotangent of the row: what came beside it, and what the norm passes back. -/
def dx (r : Fin 8192) (d : Fin 1024) : EReal := dy r d + Rms.pull (X r) (dScaled l X p g w wg dy r) d
/-- The same by the chain rule. -/
def dxChain (r : Fin 8192) (d : Fin 1024) : EReal :=
  dy r d + dScaled l X p g w wg dy r d * Rms.scale (X r) + X r d * Rms.share (X r) (dScaled l X p g w wg dy r)
    + Rms.share (X r) (dScaled l X p g w wg dy r) * X r d
/-- The cotangent of the gate's weight. -/
def dwg (d e : Fin 1024) : EReal := ∑ r : Fin 8192, normed l X g r d * dGate l X p g w wg dy r e
/-- The cotangent of the embedding's weight. -/
def dw (k : Fin 256) (e : Fin 1024) : EReal := ∑ r : Fin 8192, p (ix4 l 0 r k) * dEmb l X g wg dy r e
/-- The cotangent of the norm's weight. -/
def dg (d : Fin 1024) : EReal := ∑ r : Fin 8192, dh l X p g w wg dy r d * (X r d * Rms.scale (X r))

section reals

variable {l X p g w wg dy} (hX : ∀ r k, Rms.IsReal (X r k)) (hp : ∀ i, Rms.IsReal (p i)) (hg : ∀ i, Rms.IsReal (g i))
  (hw : ∀ i, Rms.IsReal (w i)) (hwg : ∀ i, Rms.IsReal (wg i)) (hy : ∀ r k, Rms.IsReal (dy r k))
include hX hg hwg

theorem gate_real (r : Fin 8192) (e : Fin 1024) : Rms.IsReal (gate l X g wg r e) :=
  Rms.IsReal.logistic (Rms.IsReal.sum fun d => (((hX r d).mul (Rms.IsReal.scale (hX r))).mul (hg _)).mul (hwg _))

include hp hw

theorem out_real (r : Fin 8192) (e : Fin 1024) : Rms.IsReal (out l X p g w wg r e) :=
  (hX r e).add ((gate_real hX hg hwg r e).mul (Rms.IsReal.sum fun _ => (hp _).mul (hw _)))

include hy

theorem dScaled_real (r : Fin 8192) (d : Fin 1024) : Rms.IsReal (dScaled l X p g w wg dy r d) :=
  Rms.IsReal.mul (Rms.IsReal.sum fun e => (((hy r e).mul (Rms.IsReal.sum fun _ => (hp _).mul (hw _))).mul
    ((gate_real hX hg hwg r e).mul (Rms.isReal_one.sub (gate_real hX hg hwg r e)))).mul (hwg _)) (hg _)

/-- Over reals the two forms of the row's cotangent are one. -/
theorem dxChain_eq (r : Fin 8192) (d : Fin 1024) : dxChain l X p g w wg dy r d = dx l X p g w wg dy r d :=
  Rms.chain_eq_pull (hX r) (dScaled_real hX hp hg hw hwg hy r) d _

end reals

end Cert.Ple

end
-- ==== Proof.Ple.Steps.lean ====
/- The reference's values, step by step, and what each holds (Ple/Spec.lean). -/
module

public import proofs.«01_k».proof.Proof.Ple.Spec
public import proofs.«01_k».proof.Proof.Gen.Reference3Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference3Ideal.Ple

open Cert.Reference3Ideal Cert.Reference3Ideal.Gen
open Cert Cert.Ple

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev p : FVec Ideal ⟨4, ![2, 1, 8192, 256]⟩ .f32 := m ((c.tc : Thread nD τ).loc main_arg1)
abbrev g : FVec Ideal ⟨2, ![2, 1024]⟩ .f32 := m ((c.tc : Thread nD τ).loc main_arg2)
abbrev w : FVec Ideal ⟨3, ![2, 256, 1024]⟩ .f32 := m ((c.tc : Thread nD τ).loc main_arg3)
abbrev wg : FVec Ideal ⟨3, ![2, 1024, 1024]⟩ .f32 := m ((c.tc : Thread nD τ).loc main_arg4)
abbrev dy : FVec Ideal ⟨3, ![1, 8192, 1024]⟩ .f32 := m ((c.tc : Thread nD τ).loc main_arg5)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq ((Rms.rowOf (x m c)) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale ((Rms.rowOf (x m c)) r) := by
  pointwise [scaleV, Rms.scale, sqV_at]
/-- The scaled row. -/
def normedV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (g m c) slices_S2x1024_S1x1024_1_0) shapeCasts_S1x1024_S1024)))
theorem normedV_at (r : Fin 8192) (d : Fin 1024) : normedV m c (ix3 0 r d) = normed 1 (Rms.rowOf (x m c)) (g m c) r d := by
  pointwise [normedV, normed, Rms.rowOf, scaleV_at]
/-- The gate. -/
def gateV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (Host.dotGeneral dot_S1x8192x1024_S1024x1024_S1x8192x1024_2_0_01_1_n_n none (normedV m c) (shapeCast S1024x1024 (extractStridedSlice S1x1024x1024 ![1, 0, 0] (wg m c) slices_S2x1024x1024_S1x1024x1024_1_0_0) shapeCasts_S1x1024x1024_S1024x1024)))))
theorem gateV_at (r : Fin 8192) (e : Fin 1024) : gateV m c (ix3 0 r e) = gate 1 (Rms.rowOf (x m c)) (g m c) (wg m c) r e := by
  pointwise [gateV, gate, Ideal.logistic, normedV_at]
/-- The embedding, projected. -/
def embV : FVec Ideal S1x8192x1024 .f32 := Host.dotGeneral dot_S1x8192x256_S256x1024_S1x8192x1024_2_0_01_1_n_n none (shapeCast S1x8192x256 (extractStridedSlice S1x1x8192x256 ![1, 0, 0, 0] (p m c) slices_S2x1x8192x256_S1x1x8192x256_1_0_0_0) shapeCasts_S1x1x8192x256_S1x8192x256) (shapeCast S256x1024 (extractStridedSlice S1x256x1024 ![1, 0, 0] (w m c) slices_S2x256x1024_S1x256x1024_1_0_0) shapeCasts_S1x256x1024_S256x1024)
theorem embV_at (r : Fin 8192) (e : Fin 1024) : embV m c (ix3 0 r e) = emb 1 (p m c) (w m c) r e := by
  pointwise [embV, emb]
/-- The cotangent of the projected embedding. -/
def dEmbV : FVec Ideal S1x8192x1024 .f32 := mulf (gateV m c) (shapeCast S1x8192x1024 (dy m c) shapeCasts_S1x8192x1024_S1x8192x1024)
theorem dEmbV_at (r : Fin 8192) (e : Fin 1024) : dEmbV m c (ix3 0 r e) = dEmb 1 (Rms.rowOf (x m c)) (g m c) (wg m c) (Rms.rowOf (dy m c)) r e := by
  pointwise [dEmbV, dEmb, Rms.rowOf, gateV_at]
  exact mul_comm (G := EReal) _ _
/-- The cotangent of the gate's logit. -/
def dGateV : FVec Ideal S1x8192x1024 .f32 := mulf (mulf (shapeCast S1x8192x1024 (dy m c) shapeCasts_S1x8192x1024_S1x8192x1024) (embV m c)) (mulf (gateV m c) (subf (broadcastInDim S1x8192x1024 ![] bcast_S_S1x8192x1024 (constant S_ .f32 0x3F800000#32)) (gateV m c)))
theorem dGateV_at (r : Fin 8192) (e : Fin 1024) : dGateV m c (ix3 0 r e) = dGate 1 (Rms.rowOf (x m c)) (p m c) (g m c) (w m c) (wg m c) (Rms.rowOf (dy m c)) r e := by
  pointwise [dGateV, dGate, Rms.rowOf, gateV_at, embV_at]
/-- The cotangent of the gate's left operand. -/
def dhV : FVec Ideal S1x8192x1024 .f32 := Host.dotGeneral dot_S1x8192x1024_S1024x1024_S1x8192x1024_2_1_01_0_n_n none (dGateV m c) (shapeCast S1024x1024 (extractStridedSlice S1x1024x1024 ![1, 0, 0] (wg m c) slices_S2x1024x1024_S1x1024x1024_1_0_0) shapeCasts_S1x1024x1024_S1024x1024)
theorem dhV_at (r : Fin 8192) (d : Fin 1024) : dhV m c (ix3 0 r d) = dh 1 (Rms.rowOf (x m c)) (p m c) (g m c) (w m c) (wg m c) (Rms.rowOf (dy m c)) r d := by
  pointwise [dhV, dh, dGateV_at]
/-- The cotangent of the scaled row. -/
def dScaledV : FVec Ideal S1x8192x1024 .f32 := mulf (dhV m c) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (g m c) slices_S2x1024_S1x1024_1_0) shapeCasts_S1x1024_S1024)))
theorem dScaledV_at (r : Fin 8192) (d : Fin 1024) : dScaledV m c (ix3 0 r d) = dScaled 1 (Rms.rowOf (x m c)) (p m c) (g m c) (w m c) (wg m c) (Rms.rowOf (dy m c)) r d := by
  pointwise [dScaledV, dScaled, dhV_at]
/-- The mean square's share of the row's cotangent. -/
def shareV : FVec Ideal S8192 .f32 := Host.reduceAdd (Host.divf (mulf (shapeCast S1x8192x1 (Host.reduceAdd (mulf (x m c) (dScaledV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleV m c) (sqV m c)))) (broadcastInDim S1x8192x1 ![] bcast_S_S1x8192x1 (constant S_ .f32 0x44800000#32))) (constant S_ .f32 0x00000000#32) reducesTo_S1x8192x1_S8192_d0_2 h_S_
theorem shareV_at (r : Fin 8192) : shareV m c (ix1 r) = Rms.share ((Rms.rowOf (x m c)) r) (dScaled 1 (Rms.rowOf (x m c)) (p m c) (g m c) (w m c) (wg m c) (Rms.rowOf (dy m c)) r) := by
  pointwise [shareV, Rms.share, Rms.rowOf, Cert.Util.hostReduceAdd_unit02, dScaledV_at, scaleV_at, sqV_at]
/-- The row's cotangent. -/
def dxV : FVec Ideal S8192x1024 .f32 := shapeCast S8192x1024 (addf (addf (addf (dy m c) (mulf (dScaledV m c) (broadcastInDim S1x8192x1024 ![0, 1, 2] bcast_S1x8192x1_S1x8192x1024_0_1_2 (scaleV m c)))) (mulf (x m c) (broadcastInDim S1x8192x1024 ![0, 1] bcast_S1x8192_S1x8192x1024_0_1 (broadcastInDim S1x8192 ![1] bcast_S8192_S1x8192_1 (shareV m c))))) (mulf (broadcastInDim S1x8192x1024 ![0, 1] bcast_S1x8192_S1x8192x1024_0_1 (broadcastInDim S1x8192 ![1] bcast_S8192_S1x8192_1 (shareV m c))) (x m c))) shapeCasts_S1x8192x1024_S8192x1024
theorem dxV_at (r : Fin 8192) (d : Fin 1024) : dxV m c (ix2 r d) = dxChain 1 (Rms.rowOf (x m c)) (p m c) (g m c) (w m c) (wg m c) (Rms.rowOf (dy m c)) r d := by
  pointwise [dxV, dxChain, Rms.rowOf, scaleV_at, dScaledV_at, shareV_at]
/-- The gate's weight's cotangent. -/
def dwgV : FVec Ideal S1024x1024 .bf16 := truncf .bf16 (transpose S1024x1024 [1, 0] (Host.dotGeneral dot_S1x8192x1024_S1x8192x1024_S1024x1024_01_01_2_2_n_n none (dGateV m c) (normedV m c)) transposes_S1024x1024_S1024x1024_1_0) bitsLt_bf16_f32
theorem dwgV_at (d e : Fin 1024) : dwgV m c (ix2 d e) = dwg 1 (Rms.rowOf (x m c)) (p m c) (g m c) (w m c) (wg m c) (Rms.rowOf (dy m c)) d e := by
  pointwise [dwgV, dwg]
  refine (Fin.sum_univ_one (M := EReal) _).trans ?_
  exact Finset.sum_congr (M := EReal) rfl fun r _ => by rw [dGateV_at, normedV_at]; exact mul_comm (G := EReal) _ _
/-- The embedding's weight's cotangent. -/
def dwV : FVec Ideal S256x1024 .bf16 := truncf .bf16 (transpose S256x1024 [1, 0] (Host.dotGeneral dot_S1x8192x1024_S1x8192x256_S1024x256_01_01_2_2_n_n none (dEmbV m c) (shapeCast S1x8192x256 (extractStridedSlice S1x1x8192x256 ![1, 0, 0, 0] (p m c) slices_S2x1x8192x256_S1x1x8192x256_1_0_0_0) shapeCasts_S1x1x8192x256_S1x8192x256)) transposes_S1024x256_S256x1024_1_0) bitsLt_bf16_f32
theorem dwV_at (k : Fin 256) (e : Fin 1024) : dwV m c (ix2 k e) = dw 1 (Rms.rowOf (x m c)) (p m c) (g m c) (wg m c) (Rms.rowOf (dy m c)) k e := by
  pointwise [dwV, dw]
  refine (Fin.sum_univ_one (M := EReal) _).trans ?_
  exact Finset.sum_congr (M := EReal) rfl fun r _ => by rw [dEmbV_at]; exact mul_comm (G := EReal) _ _
/-- The norm's weight's cotangent. -/
def dgV : FVec Ideal S1x1024 .f32 := broadcastInDim S1x1024 ![1] bcast_S1024_S1x1024_1 (Host.reduceAdd (shapeCast S1x1x1024 (Host.reduceAdd (mulf (mulf (x m c) (broadcastInDim S1x8192x1024 ![0, 1, 2] bcast_S1x8192x1_S1x8192x1024_0_1_2 (scaleV m c))) (dhV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgV_at (d : Fin 1024) : dgV m c (ix2 0 d) = dg 1 (Rms.rowOf (x m c)) (p m c) (g m c) (w m c) (wg m c) (Rms.rowOf (dy m c)) d := by
  pointwise [dgV, dg, Rms.rowOf, Cert.Util.hostReduceAdd_unit01, scaleV_at, dhV_at]
  exact Finset.sum_congr (M := EReal) rfl fun r _ => mul_comm (G := EReal) _ _

end Cert.Reference3Ideal.Ple

end
-- ==== Proof.Ple.Ref.lean ====
/- The reference's run: each result array holds the gradient by the chain rule (Ple/Spec.lean). -/
module

public import proofs.«01_k».proof.Proof.Ple.Steps

@[expose] public section

set_option maxRecDepth 16384

noncomputable section

open Idealize.ShloMosaic Idealize.ShloMosaic.TcCoe Idealize.SL.Sem

namespace Cert.Reference3Ideal.Ple

open Cert.Reference3Ideal Cert.Reference3Ideal.Gen
open Cert.Ple

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v68) = (fun i => dxChain 1 (Rms.rowOf (x m c)) (p m c) (g m c) (w m c) (wg m c) (Rms.rowOf (dy m c)) (i 0) (i 1))
      ∧ r.2.mem ((c.tc : Thread nD τ).loc main_v69) = (fun i => dwg 1 (Rms.rowOf (x m c)) (p m c) (g m c) (w m c) (wg m c) (Rms.rowOf (dy m c)) (i 0) (i 1))
      ∧ r.2.mem ((c.tc : Thread nD τ).loc main_v70) = (fun i => dw 1 (Rms.rowOf (x m c)) (p m c) (g m c) (wg m c) (Rms.rowOf (dy m c)) (i 0) (i 1))
      ∧ r.2.mem ((c.tc : Thread nD τ).loc main_v71) = (fun i => dg 1 (Rms.rowOf (x m c)) (p m c) (g m c) (w m c) (wg m c) (Rms.rowOf (dy m c)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m ρ)
  obtain ⟨h0, h1, h2, h3, hargs⟩ := h c
  exact ⟨h0.trans (show dxV m c = _ from funext fun i => by idx_vars i; exact dxV_at m c i0 i1), h1.trans (show dwgV m c = _ from funext fun i => by idx_vars i; exact dwgV_at m c i0 i1), h2.trans (show dwV m c = _ from funext fun i => by idx_vars i; exact dwV_at m c i0 i1), h3.trans (show dgV m c = _ from funext fun i => by idx_vars i; obtain rfl : i0 = 0 := Subsingleton.elim _ _; exact dgV_at m c i1), hargs⟩

end Cert.Reference3Ideal.Ple

end
-- ==== Proof.Ple.Blocks.lean ====
/- What the kernel's blocks hold at a grid point: rows of the arguments. -/
module

public import proofs.«01_k».proof.Proof.Ple.Spec
public import proofs.«01_k».proof.Proof.Gen.Kernel3Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel3Ideal.Ple

open Cert.Kernel3Ideal Cert.Kernel3Ideal.Gen
open Cert Cert.Ple

variable (m : (ℓ : Loc nD τ sig) → Buf (Elt Ideal) ℓ) (c : Dev nD)

abbrev x : FVec Ideal ⟨3, ![1, 8192, 1024]⟩ .f32 := m ((c : Thread nD τ).loc main_arg0)
abbrev p : FVec Ideal ⟨4, ![2, 1, 8192, 256]⟩ .f32 := m ((c : Thread nD τ).loc main_arg1)
abbrev g : FVec Ideal ⟨2, ![2, 1024]⟩ .f32 := m ((c : Thread nD τ).loc main_arg2)
abbrev w : FVec Ideal ⟨3, ![2, 256, 1024]⟩ .f32 := m ((c : Thread nD τ).loc main_arg3)
abbrev wg : FVec Ideal ⟨3, ![2, 1024, 1024]⟩ .f32 := m ((c : Thread nD τ).loc main_arg4)
abbrev dy : FVec Ideal ⟨3, ![1, 8192, 1024]⟩ .f32 := m ((c : Thread nD τ).loc main_arg5)

theorem idx : ∀ t : Fin cfg0.N, win0_0.index t = ![t.val, 0] ∧ win0_1.index t = ![t.val, 0] ∧ win0_2.index t = ![0, 0]
    ∧ win0_3.index t = ![0, 0] ∧ win0_4.index t = ![1, 0, t.val, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem blk0 (t : Fin cfg0.N) (i : Fin 512) (j : Fin 1024) : iblk m c 0 t (ix2 i j) = dy m c (ix3 0 (row t i) j) := by
  blk_point [iblk, V, idx t, row]
theorem blk1 (t : Fin cfg0.N) (i : Fin 512) (j : Fin 1024) : iblk m c 1 t (ix2 i j) = x m c (ix3 0 (row t i) j) := by
  blk_point [iblk, V, idx t, row]
theorem blk2 (t : Fin cfg0.N) (i : Fin 2) (j : Fin 1024) : iblk m c 2 t (ix2 i j) = g m c (ix2 i j) := by
  blk_point [iblk, V, idx t]
theorem blk3 (t : Fin cfg0.N) (i : Fin 1024) (j : Fin 1024) : iblk m c 3 t (ix2 i j) = wg m c (ix3 1 i j) := by
  blk_point [iblk, V, idx t]
theorem blk4 (t : Fin cfg0.N) (a b : Fin 1) (i : Fin 512) (j : Fin 256) : iblk m c 4 t (ix4 a b i j) = p m c (ix4 1 0 (row t i) j) := by
  blk_point [iblk, V, idx t, row]
theorem blk5 (t : Fin cfg0.N) (i : Fin 256) (j : Fin 1024) : iblk m c 5 t (ix2 i j) = w m c (ix3 1 i j) := by
  blk_point [iblk, V, idx t]

theorem at6 (t : Fin cfg0.N) (i : Fin 512) (j : Fin 1024) :
    ((View.whole main_v8_0).slice (win0_6.rect t)).emb (ix2 i j) = ix2 (row t i) j := by
  blk_ext [idx t, row]

end Cert.Kernel3Ideal.Ple

end
-- ==== Proof.Ple.Tile.lean ====
/- What the kernel computes of a block of rows. -/
module

public import proofs.«01_k».proof.Proof.Ple.Blocks

@[expose] public section

set_option maxRecDepth 16384

noncomputable section

open Idealize.ShloMosaic Idealize.ShloMosaic.TcCoe Idealize.SL.Sem
open Idealize.ShloMosaic.Pipeline (Dat)

namespace Cert.Kernel3Ideal.Ple

open Cert.Kernel3Ideal Cert.Kernel3Ideal.Gen
open Cert Cert.Ple

variable (m : (ℓ : Loc nD τ sig) → Buf (Elt Ideal) ℓ) (c : Dev nD)

theorem pay9_at (t : Fin cfg0.N) (i : Fin 512) : k0_pay9 (iblk m c 1 t) (ix2 i 0) = Rms.scale ((Rms.rowOf (x m c)) (row t i)) := by
  pointwise [k0_pay9, k0_pay8, Rms.scale, Rms.meanSq, Rms.rowOf, blk1]
theorem pay10_at (t : Fin cfg0.N) (i : Fin 512) (j : Fin 1024) :
    k0_pay10 (iblk m c 1 t) (ix2 i j) = (Rms.rowOf (x m c)) (row t i) j * Rms.scale ((Rms.rowOf (x m c)) (row t i)) := by
  pointwise [k0_pay10, k0_pay8, Rms.rowOf, pay9_at, blk1]
theorem pay11_at (t : Fin cfg0.N) (i : Fin 512) (j : Fin 1024) :
    k0_pay11 (iblk m c 1 t) (View.ld (iblk m c 2 t) (Rect.unit ![1, 0] ![1, 1024] inb_S2x1024_S1x1024_1_0)) (ix2 i j) = normed 1 (Rms.rowOf (x m c)) (g m c) (row t i) j := by
  pointwise [k0_pay11, normed, Cert.Util.load_layer, pay10_at, blk2]
theorem pay12_at (t : Fin cfg0.N) (i : Fin 512) (k : Fin 256) : k0_pay12 (iblk m c 4 t) (ix2 i k) = p m c (ix4 1 0 (row t i) k) := by
  pointwise [k0_pay12, blk4]
/-- The gate. -/
theorem pay13_at (t : Fin cfg0.N) (i : Fin 512) (e : Fin 1024) : k0_pay13 (iblk m c 1 t) (View.ld (iblk m c 2 t) (Rect.unit ![1, 0] ![1, 1024] inb_S2x1024_S1x1024_1_0)) (iblk m c 3 t) (ix2 i e) = gate 1 (Rms.rowOf (x m c)) (g m c) (wg m c) (row t i) e := by
  pointwise [k0_pay13, gate, pay11_at, blk3]
/-- The cotangent of the projected embedding. -/
theorem pay14_at (t : Fin cfg0.N) (i : Fin 512) (e : Fin 1024) :
    k0_pay14 (iblk m c 0 t) (iblk m c 1 t) (View.ld (iblk m c 2 t) (Rect.unit ![1, 0] ![1, 1024] inb_S2x1024_S1x1024_1_0)) (iblk m c 3 t) (ix2 i e) = dEmb 1 (Rms.rowOf (x m c)) (g m c) (wg m c) (Rms.rowOf (dy m c)) (row t i) e := by
  pointwise [k0_pay14, k0_pay7, dEmb, Rms.rowOf, pay13_at, blk0]
/-- The cotangent of the gate's logit. -/
theorem pay17_at (t : Fin cfg0.N) (i : Fin 512) (e : Fin 1024) :
    k0_pay17 (k0_pay13 (iblk m c 1 t) (View.ld (iblk m c 2 t) (Rect.unit ![1, 0] ![1, 1024] inb_S2x1024_S1x1024_1_0)) (iblk m c 3 t)) (k0_pay15 (iblk m c 0 t) (iblk m c 1 t) (View.ld (iblk m c 2 t) (Rect.unit ![1, 0] ![1, 1024] inb_S2x1024_S1x1024_1_0)) (iblk m c 4 t) (iblk m c 3 t) (iblk m c 5 t)) k0_pay16 (ix2 i e) = dGate 1 (Rms.rowOf (x m c)) (p m c) (g m c) (w m c) (wg m c) (Rms.rowOf (dy m c)) (row t i) e := by
  pointwise [k0_pay17, k0_pay15, k0_pay16, k0_pay7, dGate, emb, Rms.rowOf, pay12_at, pay13_at, blk0, blk5]
  exact mul_assoc (G := EReal) _ _ _
/-- A block's share of the embedding's weight's cotangent. -/
theorem pay18_at (t : Fin cfg0.N) (v : Vec Ideal S256x1024 .f32) (k : Fin 256) (e : Fin 1024) :
    k0_pay18 (k0_pay12 (iblk m c 4 t)) (k0_pay14 (iblk m c 0 t) (iblk m c 1 t) (View.ld (iblk m c 2 t) (Rect.unit ![1, 0] ![1, 1024] inb_S2x1024_S1x1024_1_0)) (iblk m c 3 t)) v (ix2 k e) = v (ix2 k e) + ∑ i : Fin 512, p m c (ix4 1 0 (row t i) k) * dEmb 1 (Rms.rowOf (x m c)) (g m c) (wg m c) (Rms.rowOf (dy m c)) (row t i) e := by
  pointwise [k0_pay18, pay12_at, pay14_at]
/-- A block's share of the gate's weight's cotangent. -/
theorem pay19_at (t : Fin cfg0.N) (v : Vec Ideal S1024x1024 .f32) (d e : Fin 1024) :
    k0_pay19 (k0_pay11 (iblk m c 1 t) (View.ld (iblk m c 2 t) (Rect.unit ![1, 0] ![1, 1024] inb_S2x1024_S1x1024_1_0))) (k0_pay13 (iblk m c 1 t) (View.ld (iblk m c 2 t) (Rect.unit ![1, 0] ![1, 1024] inb_S2x1024_S1x1024_1_0)) (iblk m c 3 t)) (k0_pay15 (iblk m c 0 t) (iblk m c 1 t) (View.ld (iblk m c 2 t) (Rect.unit ![1, 0] ![1, 1024] inb_S2x1024_S1x1024_1_0)) (iblk m c 4 t) (iblk m c 3 t) (iblk m c 5 t)) k0_pay16 v (ix2 d e)
      = v (ix2 d e) + ∑ i : Fin 512, normed 1 (Rms.rowOf (x m c)) (g m c) (row t i) d * dGate 1 (Rms.rowOf (x m c)) (p m c) (g m c) (w m c) (wg m c) (Rms.rowOf (dy m c)) (row t i) e := by
  pointwise [k0_pay19, pay11_at, pay17_at]
theorem pay20_at (t : Fin cfg0.N) (i : Fin 512) (d : Fin 1024) :
    k0_pay20 (k0_pay13 (iblk m c 1 t) (View.ld (iblk m c 2 t) (Rect.unit ![1, 0] ![1, 1024] inb_S2x1024_S1x1024_1_0)) (iblk m c 3 t)) (k0_pay15 (iblk m c 0 t) (iblk m c 1 t) (View.ld (iblk m c 2 t) (Rect.unit ![1, 0] ![1, 1024] inb_S2x1024_S1x1024_1_0)) (iblk m c 4 t) (iblk m c 3 t) (iblk m c 5 t)) k0_pay16 (iblk m c 3 t) (ix2 i d) = dh 1 (Rms.rowOf (x m c)) (p m c) (g m c) (w m c) (wg m c) (Rms.rowOf (dy m c)) (row t i) d := by
  pointwise [k0_pay20, dh, pay17_at, blk3]
/-- A block's share of the norm's weight's cotangent. -/
theorem pay21_at (t : Fin cfg0.N) (a : Fin 1) (d : Fin 1024) :
    k0_pay21 (k0_pay10 (iblk m c 1 t)) (k0_pay13 (iblk m c 1 t) (View.ld (iblk m c 2 t) (Rect.unit ![1, 0] ![1, 1024] inb_S2x1024_S1x1024_1_0)) (iblk m c 3 t)) (k0_pay15 (iblk m c 0 t) (iblk m c 1 t) (View.ld (iblk m c 2 t) (Rect.unit ![1, 0] ![1, 1024] inb_S2x1024_S1x1024_1_0)) (iblk m c 4 t) (iblk m c 3 t) (iblk m c 5 t)) k0_pay16 (iblk m c 3 t) (ix2 a d)
      = ∑ i : Fin 512, dh 1 (Rms.rowOf (x m c)) (p m c) (g m c) (w m c) (wg m c) (Rms.rowOf (dy m c)) (row t i) d * ((Rms.rowOf (x m c)) (row t i) d * Rms.scale ((Rms.rowOf (x m c)) (row t i))) := by
  obtain rfl : a = 0 := Subsingleton.elim _ _
  pointwise [k0_pay21, pay20_at, pay10_at]
/-- A block of the row's cotangent. -/
theorem pay22_at (t : Fin cfg0.N) (i : Fin 512) (d : Fin 1024) :
    k0_pay22 (k0_pay7 (iblk m c 0 t)) (k0_pay9 (iblk m c 1 t)) (k0_pay10 (iblk m c 1 t)) (k0_pay13 (iblk m c 1 t) (View.ld (iblk m c 2 t) (Rect.unit ![1, 0] ![1, 1024] inb_S2x1024_S1x1024_1_0)) (iblk m c 3 t)) (k0_pay15 (iblk m c 0 t) (iblk m c 1 t) (View.ld (iblk m c 2 t) (Rect.unit ![1, 0] ![1, 1024] inb_S2x1024_S1x1024_1_0)) (iblk m c 4 t) (iblk m c 3 t) (iblk m c 5 t)) k0_pay16 (iblk m c 3 t) (View.ld (iblk m c 2 t) (Rect.unit ![1, 0] ![1, 1024] inb_S2x1024_S1x1024_1_0)) (ix2 i d)
      = dx 1 (Rms.rowOf (x m c)) (p m c) (g m c) (w m c) (wg m c) (Rms.rowOf (dy m c)) (row t i) d := by
  pointwise [k0_pay22, k0_pay7, dx, dScaled, Rms.pull, Cert.Util.load_layer, pay9_at, pay10_at, pay20_at, blk0, blk2]
  rfl

end Cert.Kernel3Ideal.Ple

end
-- ==== Proof.Ple.Rows.lean ====
/- The kernel's first result: the row's cotangent, block by block. -/
module

public import proofs.«01_k».proof.Proof.Ple.Tile

@[expose] public section

set_option maxRecDepth 16384

noncomputable section

open Idealize.ShloMosaic Idealize.ShloMosaic.TcCoe Idealize.SL.Sem
open Idealize.ShloMosaic.Pipeline (Dat)

namespace Cert.Kernel3Ideal.Ple

open Cert.Kernel3Ideal Cert.Kernel3Ideal.Gen
open Cert Cert.Ple

variable (m : (ℓ : Loc nD τ sig) → Buf (Elt Ideal) ℓ) (c : Dev nD)

theorem final6 : (dats m 0 c).arrAt 6 (cfgs 0).N = fun i => dx 1 (Rms.rowOf (x m c)) (p m c) (g m c) (w m c) (wg m c) (Rms.rowOf (dy m c)) (i 0) (i 1) := by
  refine (dats m 0 c).arrAt_eq_of_covers 6 _ (by decide +kernel) fun t _ y => ?_
  blk_simp
  idx_vars y
  rw [at6, after0_6]
  by_cases h0 : t.val % 16 = 0
  · have h1 : ¬ t.val % 16 = 15 := by omega
    rw [outsAt0_A m c t h0 h1]; frame_out
    exact pay22_at m c t y0 y1
  by_cases h1 : t.val % 16 = 15
  · rw [outsAt0_C m c t h0 h1]; frame_out
    exact pay22_at m c t y0 y1
  · rw [outsAt0_B m c t h0 h1]; frame_out
    exact pay22_at m c t y0 y1

end Cert.Kernel3Ideal.Ple

end
-- ==== Proof.Ple.Weights.lean ====
/- The kernel's other results: each weight's cotangent, a sum over the blocks. -/
module

public import proofs.«01_k».proof.Proof.Ple.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Ple

open Cert.Kernel3Ideal Cert.Kernel3Ideal.Gen
open Cert Cert.Ple

variable (m : (ℓ : Loc nD τ sig) → Buf (Elt Ideal) ℓ) (c : Dev nD)

theorem final7 : (dats m 0 c).arrAt 7 (cfgs 0).N = fun i => dwg 1 (Rms.rowOf (x m c)) (p m c) (g m c) (w m c) (wg m c) (Rms.rowOf (dy m c)) (i 0) (i 1) := by
  refine (dats m 0 c).arrAt_eq_of_after_last 7 t0_15 (by decide +kernel) _ fun j => ?_
  blk_simp
  have hC : (outsAt0 m c t0_15.val t0_15.isLt).2.1 j = (outsAt0 m c t0_15.val t0_15.isLt).2.2.2.2.1 j := by
    rw [outsAt0_C m c t0_15 (by decide) (by decide)]; frame_out; pointwise [k0_pay2]
  rw [after0_7, hC, Pipeline.eq_sum_fin_of_reset_step_apply_last (fun n h => (outsAt0 m c n h).2.2.2.2.1) 16 (fun _ => 0)
    (fun q j => ∑ k : Fin 512, normed 1 (Rms.rowOf (x m c)) (g m c) (row q k) (j 0) * dGate 1 (Rms.rowOf (x m c)) (p m c) (g m c) (w m c) (wg m c) (Rms.rowOf (dy m c)) (row q k) (j 1))
    (fun t h j => by
      rw [outsAt0_A m c t h (by omega)]; frame_out
      idx_vars j
      pointwise [k0_pay4, read_unread_whole]
      exact (pay19_at m c t _ j0 j1).trans (zero_add (M := EReal) _))
    (fun t h j => by
      by_cases h1 : t.val % 16 = 15
      · rw [outsAt0_C m c t h h1]; frame_out
        idx_vars j
        pointwise [read_unread_whole]
        exact pay19_at m c t _ j0 j1
      · rw [outsAt0_B m c t h h1]; frame_out
        idx_vars j
        pointwise [read_unread_whole]
        exact pay19_at m c t _ j0 j1)
    (le_of_eq N_0) t0_15 rfl j, zero_add]
  exact Fin.sum_mul_add_congr fun q k hl => rfl

theorem final8 : (dats m 0 c).arrAt 8 (cfgs 0).N = fun i => dw 1 (Rms.rowOf (x m c)) (p m c) (g m c) (wg m c) (Rms.rowOf (dy m c)) (i 0) (i 1) := by
  refine (dats m 0 c).arrAt_eq_of_after_last 8 t0_15 (by decide +kernel) _ fun j => ?_
  blk_simp
  have hC : (outsAt0 m c t0_15.val t0_15.isLt).2.2.1 j = (outsAt0 m c t0_15.val t0_15.isLt).2.2.2.2.2 j := by
    rw [outsAt0_C m c t0_15 (by decide) (by decide)]; frame_out; pointwise [k0_pay3]
  rw [after0_8, hC, Pipeline.eq_sum_fin_of_reset_step_apply_last (fun n h => (outsAt0 m c n h).2.2.2.2.2) 16 (fun _ => 0)
    (fun q j => ∑ k : Fin 512, Cert.Kernel3Ideal.Ple.p m c (ix4 1 0 (row q k) (j 0)) * dEmb 1 (Rms.rowOf (x m c)) (g m c) (wg m c) (Rms.rowOf (dy m c)) (row q k) (j 1))
    (fun t h j => by
      rw [outsAt0_A m c t h (by omega)]; frame_out
      idx_vars j
      pointwise [k0_pay5, read_unread_whole]
      exact (pay18_at m c t _ j0 j1).trans (zero_add (M := EReal) _))
    (fun t h j => by
      by_cases h1 : t.val % 16 = 15
      · rw [outsAt0_C m c t h h1]; frame_out
        idx_vars j
        pointwise [read_unread_whole]
        exact pay18_at m c t _ j0 j1
      · rw [outsAt0_B m c t h h1]; frame_out
        idx_vars j
        pointwise [read_unread_whole]
        exact pay18_at m c t _ j0 j1)
    (le_of_eq N_0) t0_15 rfl j, zero_add]
  exact Fin.sum_mul_add_congr fun q k hl => rfl

theorem final9 : (dats m 0 c).arrAt 9 (cfgs 0).N = fun i => dg 1 (Rms.rowOf (x m c)) (p m c) (g m c) (w m c) (wg m c) (Rms.rowOf (dy m c)) (i 1) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun q j => ∑ k : Fin 512, dh 1 (Rms.rowOf (x m c)) (p m c) (g m c) (w m c) (wg m c) (Rms.rowOf (dy m c)) (row q k) (j 1) * ((Rms.rowOf (x m c)) (row q k) (j 1) * Rms.scale ((Rms.rowOf (x m c)) (row q k))))
    (fun t h j => by
      rw [outsAt0_A m c t h (by omega)]; frame_out
      idx_vars j
      pointwise [k0_pay1, k0_pay6, read_unread_whole]
      exact pay21_at m c t j0 j1)
    (fun t h j => by
      by_cases h1 : t.val % 16 = 15
      · rw [outsAt0_C m c t h h1]; frame_out
        idx_vars j
        pointwise [k0_pay1, read_unread_whole]
        exact congrArg (fun q : EReal => _ + q) (pay21_at m c t j0 j1)
      · rw [outsAt0_B m c t h h1]; frame_out
        idx_vars j
        pointwise [k0_pay1, read_unread_whole]
        exact congrArg (fun q : EReal => _ + q) (pay21_at m c t j0 j1))
    (le_of_eq N_0) t0_15 rfl j, zero_add]
  exact Fin.sum_mul_add_congr fun q k hl => rfl

end Cert.Kernel3Ideal.Ple

end
-- ==== Proof.Ple.Run.lean ====
/- The kernel's run: each result array holds the gradient (Ple/Spec.lean). -/
module

public import proofs.«01_k».proof.Proof.Ple.Rows
public import proofs.«01_k».proof.Proof.Ple.Weights

@[expose] public section

set_option maxRecDepth 16384

noncomputable section

open Idealize.ShloMosaic Idealize.ShloMosaic.TcCoe Idealize.SL.Sem

namespace Cert.Kernel3Ideal.Ple

open Cert.Kernel3Ideal Cert.Kernel3Ideal.Gen
open Cert.Ple

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8_0) = (fun i => dx 1 (Rms.rowOf (x m c)) (p m c) (g m c) (w m c) (wg m c) (Rms.rowOf (dy m c)) (i 0) (i 1))
      ∧ r.2.mem ((c.tc : Thread nD τ).loc main_v8_1) = (fun i => dwg 1 (Rms.rowOf (x m c)) (p m c) (g m c) (w m c) (wg m c) (Rms.rowOf (dy m c)) (i 0) (i 1))
      ∧ r.2.mem ((c.tc : Thread nD τ).loc main_v8_2) = (fun i => dw 1 (Rms.rowOf (x m c)) (p m c) (g m c) (wg m c) (Rms.rowOf (dy m c)) (i 0) (i 1))
      ∧ r.2.mem ((c.tc : Thread nD τ).loc main_v8_3) = (fun i => dg 1 (Rms.rowOf (x m c)) (p m c) (g m c) (w m c) (wg m c) (Rms.rowOf (dy m c)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (θ_run_and (run_main m ρ) (unchanged m ρ)) fun r h c =>
    ⟨((h.1 c).1 6).trans (final6 m c), ((h.1 c).1 7).trans (final7 m c), ((h.1 c).1 8).trans (final8 m c), ((h.1 c).1 9).trans (final9 m c), h.2 c⟩

end Cert.Kernel3Ideal.Ple

end
-- ==== Proof.Ple.Pair.lean ====
/- The pair: over reals the kernel's results are the reference's. -/
module

public import proofs.«01_k».proof.Defs
public import proofs.«01_k».proof.Proof.Gen.Pre_finite3
public import proofs.«01_k».proof.Proof.Ple.Ref
public import proofs.«01_k».proof.Proof.Ple.Run

@[expose] public section

set_option maxRecDepth 16384

noncomputable section

open Idealize.ShloMosaic Idealize.ShloMosaic.TcCoe Idealize.SL.Sem

namespace Cert.Ple

open Cert.Reference3Ideal.Ple in
theorem algebraic : Cert.algebraic_Kernel3Ideal_Reference3Ideal_pre_finite3 := by
  intro m ρ m' ρ' hpre hagree
  refine ⟨_, _, _, _, Cert.Kernel3Ideal.Ple.run m ρ, θ_run_mono (run m' ρ') fun r h c => ?_⟩
  obtain ⟨h0, h1, h2, h3, hargs⟩ := h c
  have e0 : x m' c = Cert.Kernel3Ideal.Ple.x m c := (hagree c).1
  have e1 : p m' c = Cert.Kernel3Ideal.Ple.p m c := (hagree c).2.1
  have e2 : g m' c = Cert.Kernel3Ideal.Ple.g m c := (hagree c).2.2.1
  have e3 : w m' c = Cert.Kernel3Ideal.Ple.w m c := (hagree c).2.2.2.1
  have e4 : wg m' c = Cert.Kernel3Ideal.Ple.wg m c := (hagree c).2.2.2.2.1
  have e5 : dy m' c = Cert.Kernel3Ideal.Ple.dy m c := (hagree c).2.2.2.2.2
  have f0 : ∀ j, Rms.IsReal (Cert.Kernel3Ideal.Ple.x m c j) := Rms.IsReal.of_cmp _ _ (fun _ => Rms.ofBits_inf) ((hpre c).1)
  have f1 : ∀ j, Rms.IsReal (Cert.Kernel3Ideal.Ple.p m c j) := Rms.IsReal.of_cmp _ _ (fun _ => Rms.ofBits_inf) ((hpre c).2.1)
  have f2 : ∀ j, Rms.IsReal (Cert.Kernel3Ideal.Ple.g m c j) := Rms.IsReal.of_cmp _ _ (fun _ => Rms.ofBits_inf) ((hpre c).2.2.1)
  have f3 : ∀ j, Rms.IsReal (Cert.Kernel3Ideal.Ple.w m c j) := Rms.IsReal.of_cmp _ _ (fun _ => Rms.ofBits_inf) ((hpre c).2.2.2.1)
  have f4 : ∀ j, Rms.IsReal (Cert.Kernel3Ideal.Ple.wg m c j) := Rms.IsReal.of_cmp _ _ (fun _ => Rms.ofBits_inf) ((hpre c).2.2.2.2.1)
  have f5 : ∀ j, Rms.IsReal (Cert.Kernel3Ideal.Ple.dy m c j) := Rms.IsReal.of_cmp _ _ (fun _ => Rms.ofBits_inf) ((hpre c).2.2.2.2.2)
  exact ⟨h0.trans (by rewrite [e0, e1, e2, e3, e4, e5]; exact funext fun i => dxChain_eq (fun _ _ => f0 _) f1 f2 f3 f4 (fun _ _ => f5 _) _ _), h1.trans (by rewrite [e0, e1, e2, e3, e4, e5]; rfl), h2.trans (by rewrite [e0, e1, e2, e4, e5]; rfl), h3.trans (by rewrite [e0, e1, e2, e3, e4, e5]; rfl), hargs⟩

theorem reference_frame : Cert.quiescent_Reference3Ideal := by
  intro m g _
  exact (θ_run Cert.Reference3Ideal.defs _ _).mono (fun r h => ⟨fun c => (h c).2.2.2.2, sem_eq_zero_of_no_sems (by decide) r.2⟩)
    (Cert.Reference3Ideal.Ple.run m g)

theorem reference_frame_pre : Cert.quiescent_Reference3Ideal_pre_finite3 :=
  fun m g _ => reference_frame m g trivial

end Cert.Ple

end
-- ==== Proof.PleFirst.Spec.lean ====
/- The gradient of layer 0's embedding with the norm and the in-projection of layer 1 behind it: what comes into the embedding
   from above is the norm's cotangent (Norm/Spec.lean), taken at the embedding's output (Ple/Spec.lean). -/
module

public import proofs.«01_k».proof.Proof.Ple.Spec
public import proofs.«01_k».proof.Proof.Norm.Spec

@[expose] public section

set_option maxRecDepth 16384

noncomputable section

open Idealize.ShloMosaic

namespace Cert.PleFirst

variable (X : Fin 8192 → Fin 1024 → EReal) (p : FVec Ideal ⟨4, ![2, 1, 8192, 256]⟩ .f32) (gm : FVec Ideal ⟨2, ![2, 1024]⟩ .f32)
  (wi : FVec Ideal ⟨3, ![2, 1024, 4608]⟩ .f32) (g : FVec Ideal ⟨2, ![2, 1024]⟩ .f32) (w : FVec Ideal ⟨3, ![2, 256, 1024]⟩ .f32)
  (wg : FVec Ideal ⟨3, ![2, 1024, 1024]⟩ .f32) (dx1 : FVec Ideal ⟨3, ![1, 8192, 1024]⟩ .f32) (dz : FVec Ideal ⟨3, ![1, 8192, 4608]⟩ .f32)

/-- The embedding's output: the row that the norm above reads. -/
def mid : Fin 8192 → Fin 1024 → EReal := Ple.out 0 X p g w wg
/-- The cotangent of that row. -/
def dMid : Fin 8192 → Fin 1024 → EReal := Norm.dx 1 (mid X p g w wg) gm wi dx1 dz
/-- The same by the chain rule. -/
def dMidChain : Fin 8192 → Fin 1024 → EReal := Norm.dxChain 1 (mid X p g w wg) gm wi dx1 dz

section reals
variable {X p gm wi g w wg dx1 dz} (hX : ∀ r k, Rms.IsReal (X r k)) (hp : ∀ i, Rms.IsReal (p i)) (hgm : ∀ i, Rms.IsReal (gm i))
  (hwi : ∀ i, Rms.IsReal (wi i)) (hg : ∀ i, Rms.IsReal (g i)) (hw : ∀ i, Rms.IsReal (w i)) (hwg : ∀ i, Rms.IsReal (wg i))
  (hx1 : ∀ i, Rms.IsReal (dx1 i)) (hz : ∀ i, Rms.IsReal (dz i))
include hX hp hg hw hwg in
theorem mid_real (r : Fin 8192) (d : Fin 1024) : Rms.IsReal (mid X p g w wg r d) := Ple.out_real hX hp hg hw hwg r d
include hX hp hgm hwi hg hw hwg hz

theorem dMidChain_eq : dMidChain X p gm wi g w wg dx1 dz = dMid X p gm wi g w wg dx1 dz :=
  funext fun r => funext fun d => Norm.dxChain_eq 1 _ gm wi dx1 dz (mid_real hX hp hg hw hwg) hgm hwi hz r d
include hx1
theorem dMid_real (r : Fin 8192) (d : Fin 1024) : Rms.IsReal (dMid X p gm wi g w wg dx1 dz r d) :=
  (hx1 _).add (Rms.IsReal.pull (mid_real hX hp hg hw hwg r) (Norm.dScaled_real 1 gm wi dz hgm hwi hz r) d)
/-- Over reals the two forms of the first row's cotangent are one. -/
theorem dx_eq (r : Fin 8192) (d : Fin 1024) : Ple.dxChain 0 X p g w wg (dMidChain X p gm wi g w wg dx1 dz) r d
    = Ple.dx 0 X p g w wg (dMid X p gm wi g w wg dx1 dz) r d := by
  rw [dMidChain_eq hX hp hgm hwi hg hw hwg hz]
  exact Ple.dxChain_eq hX hp hg hw hwg (dMid_real hX hp hgm hwi hg hw hwg hx1 hz) r d
end reals

end Cert.PleFirst

end
-- ==== Proof.PleFirst.Steps.lean ====
/- The reference's values, step by step, and what each holds (PleFirst/Spec.lean). -/
module

public import proofs.«01_k».proof.Proof.PleFirst.Spec
public import proofs.«01_k».proof.Proof.Gen.Reference4Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference4Ideal.PleFirst

open Cert.Reference4Ideal Cert.Reference4Ideal.Gen
open Cert Cert.PleFirst

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev p : FVec Ideal ⟨4, ![2, 1, 8192, 256]⟩ .f32 := m ((c.tc : Thread nD τ).loc main_arg1)
abbrev gm : FVec Ideal ⟨2, ![2, 1024]⟩ .f32 := m ((c.tc : Thread nD τ).loc main_arg2)
abbrev wi : FVec Ideal ⟨3, ![2, 1024, 4608]⟩ .f32 := m ((c.tc : Thread nD τ).loc main_arg3)
abbrev g : FVec Ideal ⟨2, ![2, 1024]⟩ .f32 := m ((c.tc : Thread nD τ).loc main_arg4)
abbrev w : FVec Ideal ⟨3, ![2, 256, 1024]⟩ .f32 := m ((c.tc : Thread nD τ).loc main_arg5)
abbrev wg : FVec Ideal ⟨3, ![2, 1024, 1024]⟩ .f32 := m ((c.tc : Thread nD τ).loc main_arg6)
abbrev dx1 : FVec Ideal ⟨3, ![1, 8192, 1024]⟩ .f32 := m ((c.tc : Thread nD τ).loc main_arg7)
abbrev dz : FVec Ideal ⟨3, ![1, 8192, 4608]⟩ .f32 := m ((c.tc : Thread nD τ).loc main_arg8)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq ((Rms.rowOf (x m c)) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale ((Rms.rowOf (x m c)) r) := by
  pointwise [scaleV, Rms.scale, sqV_at]
/-- The scaled row. -/
def normedV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem normedV_at (r : Fin 8192) (d : Fin 1024) : normedV m c (ix3 0 r d) = Ple.normed 0 (Rms.rowOf (x m c)) (g m c) r d := by
  pointwise [normedV, Ple.normed, Rms.rowOf, scaleV_at]
/-- The gate. -/
def gateV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (Host.dotGeneral dot_S1x8192x1024_S1024x1024_S1x8192x1024_2_0_01_1_n_n none (normedV m c) (shapeCast S1024x1024 (extractStridedSlice S1x1024x1024 ![0, 0, 0] (wg m c) slices_S2x1024x1024_S1x1024x1024_0_0_0) shapeCasts_S1x1024x1024_S1024x1024)))))
theorem gateV_at (r : Fin 8192) (d : Fin 1024) : gateV m c (ix3 0 r d) = Ple.gate 0 (Rms.rowOf (x m c)) (g m c) (wg m c) r d := by
  pointwise [gateV, Ple.gate, Ideal.logistic, normedV_at]
/-- The embedding, projected. -/
def embV : FVec Ideal S1x8192x1024 .f32 := Host.dotGeneral dot_S1x8192x256_S256x1024_S1x8192x1024_2_0_01_1_n_n none (shapeCast S1x8192x256 (extractStridedSlice S1x1x8192x256 ![0, 0, 0, 0] (p m c) slices_S2x1x8192x256_S1x1x8192x256_0_0_0_0) shapeCasts_S1x1x8192x256_S1x8192x256) (shapeCast S256x1024 (extractStridedSlice S1x256x1024 ![0, 0, 0] (w m c) slices_S2x256x1024_S1x256x1024_0_0_0) shapeCasts_S1x256x1024_S256x1024)
theorem embV_at (r : Fin 8192) (d : Fin 1024) : embV m c (ix3 0 r d) = Ple.emb 0 (p m c) (w m c) r d := by
  pointwise [embV, Ple.emb]
/-- The embedding's output. -/
def midV : FVec Ideal S1x8192x1024 .f32 := addf (x m c) (mulf (gateV m c) (embV m c))
theorem midV_at (r : Fin 8192) (d : Fin 1024) : midV m c (ix3 0 r d) = (mid (Rms.rowOf (x m c)) (p m c) (g m c) (w m c) (wg m c)) r d := by
  pointwise [midV, mid, Ple.out, Rms.rowOf, gateV_at, embV_at]
/-- The mean square of each row of it, with the constant added. -/
def sqMidV : FVec Ideal S1x8192x1 .f32 := addf (Host.divf (broadcastInDim S1x8192x1 ![0, 1] bcast_S1x8192_S1x8192x1_0_1 (Host.reduceAdd (mulf (midV m c) (midV m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqMidV_at (r : Fin 8192) : sqMidV m c (ix3 0 r 0) = Rms.meanSq ((mid (Rms.rowOf (x m c)) (p m c) (g m c) (w m c) (wg m c)) r) := by
  pointwise [sqMidV, Rms.meanSq, midV_at]
/-- The scale of each row of it. -/
def scaleMidV : FVec Ideal S1x8192x1 .f32 := Host.rsqrt (sqMidV m c)
theorem scaleMidV_at (r : Fin 8192) : scaleMidV m c (ix3 0 r 0) = Rms.scale ((mid (Rms.rowOf (x m c)) (p m c) (g m c) (w m c) (wg m c)) r) := by
  pointwise [scaleMidV, Rms.scale, sqMidV_at]
/-- The cotangent of the in-projection's left operand. -/
def dhMidV : FVec Ideal S1x8192x1024 .f32 := Host.dotGeneral dot_S1x8192x4608_S1024x4608_S1x8192x1024_2_1_01_0_n_n none (dz m c) (shapeCast S1024x4608 (extractStridedSlice S1x1024x4608 ![1, 0, 0] (wi m c) slices_S2x1024x4608_S1x1024x4608_1_0_0) shapeCasts_S1x1024x4608_S1024x4608)
theorem dhMidV_at (r : Fin 8192) (d : Fin 1024) : dhMidV m c (ix3 0 r d) = Norm.dh 1 (wi m c) (dz m c) r d := by
  pointwise [dhMidV, Norm.dh]
/-- The cotangent of the scaled row of it. -/
def dScaledMidV : FVec Ideal S1x8192x1024 .f32 := mulf (dhMidV m c) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (gm m c) slices_S2x1024_S1x1024_1_0) shapeCasts_S1x1024_S1024)))
theorem dScaledMidV_at (r : Fin 8192) (d : Fin 1024) : dScaledMidV m c (ix3 0 r d) = Norm.dScaled 1 (gm m c) (wi m c) (dz m c) r d := by
  pointwise [dScaledMidV, Norm.dScaled, dhMidV_at]
/-- The mean square's share of its cotangent. -/
def shareMidV : FVec Ideal S8192 .f32 := Host.reduceAdd (Host.divf (mulf (shapeCast S1x8192x1 (Host.reduceAdd (mulf (midV m c) (dScaledMidV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleMidV m c) (sqMidV m c)))) (broadcastInDim S1x8192x1 ![] bcast_S_S1x8192x1 (constant S_ .f32 0x44800000#32))) (constant S_ .f32 0x00000000#32) reducesTo_S1x8192x1_S8192_d0_2 h_S_
theorem shareMidV_at (r : Fin 8192) : shareMidV m c (ix1 r) = Rms.share ((mid (Rms.rowOf (x m c)) (p m c) (g m c) (w m c) (wg m c)) r) (Norm.dScaled 1 (gm m c) (wi m c) (dz m c) r) := by
  pointwise [shareMidV, Rms.share, Cert.Util.hostReduceAdd_unit02, dScaledMidV_at, scaleMidV_at, sqMidV_at, midV_at]
/-- The cotangent of the embedding's output. -/
def dMidV : FVec Ideal S1x8192x1024 .f32 := addf (addf (addf (dx1 m c) (mulf (dScaledMidV m c) (broadcastInDim S1x8192x1024 ![0, 1, 2] bcast_S1x8192x1_S1x8192x1024_0_1_2 (scaleMidV m c)))) (mulf (midV m c) (broadcastInDim S1x8192x1024 ![0, 1] bcast_S1x8192_S1x8192x1024_0_1 (broadcastInDim S1x8192 ![1] bcast_S8192_S1x8192_1 (shareMidV m c))))) (mulf (broadcastInDim S1x8192x1024 ![0, 1] bcast_S1x8192_S1x8192x1024_0_1 (broadcastInDim S1x8192 ![1] bcast_S8192_S1x8192_1 (shareMidV m c))) (midV m c))
theorem dMidV_at (r : Fin 8192) (d : Fin 1024) : dMidV m c (ix3 0 r d) = dMidChain (Rms.rowOf (x m c)) (p m c) (gm m c) (wi m c) (g m c) (w m c) (wg m c) (dx1 m c) (dz m c) r d := by
  pointwise [dMidV, dMidChain, Norm.dxChain, midV_at, scaleMidV_at, dScaledMidV_at, shareMidV_at]
/-- The cotangent of the projected embedding. -/
def dEmbV : FVec Ideal S1x8192x1024 .f32 := mulf (gateV m c) (shapeCast S1x8192x1024 (dMidV m c) shapeCasts_S1x8192x1024_S1x8192x1024)
theorem dEmbV_at (r : Fin 8192) (d : Fin 1024) : dEmbV m c (ix3 0 r d) = Ple.dEmb 0 (Rms.rowOf (x m c)) (g m c) (wg m c) (dMidChain (Rms.rowOf (x m c)) (p m c) (gm m c) (wi m c) (g m c) (w m c) (wg m c) (dx1 m c) (dz m c)) r d := by
  pointwise [dEmbV, Ple.dEmb, gateV_at, dMidV_at]
  exact mul_comm (G := EReal) _ _
/-- The cotangent of the gate's logit. -/
def dGateV : FVec Ideal S1x8192x1024 .f32 := mulf (mulf (shapeCast S1x8192x1024 (dMidV m c) shapeCasts_S1x8192x1024_S1x8192x1024) (embV m c)) (mulf (gateV m c) (subf (broadcastInDim S1x8192x1024 ![] bcast_S_S1x8192x1024 (constant S_ .f32 0x3F800000#32)) (gateV m c)))
theorem dGateV_at (r : Fin 8192) (d : Fin 1024) : dGateV m c (ix3 0 r d) = Ple.dGate 0 (Rms.rowOf (x m c)) (p m c) (g m c) (w m c) (wg m c) (dMidChain (Rms.rowOf (x m c)) (p m c) (gm m c) (wi m c) (g m c) (w m c) (wg m c) (dx1 m c) (dz m c)) r d := by
  pointwise [dGateV, Ple.dGate, gateV_at, embV_at, dMidV_at]
/-- The cotangent of the gate's left operand. -/
def dhV : FVec Ideal S1x8192x1024 .f32 := Host.dotGeneral dot_S1x8192x1024_S1024x1024_S1x8192x1024_2_1_01_0_n_n none (dGateV m c) (shapeCast S1024x1024 (extractStridedSlice S1x1024x1024 ![0, 0, 0] (wg m c) slices_S2x1024x1024_S1x1024x1024_0_0_0) shapeCasts_S1x1024x1024_S1024x1024)
theorem dhV_at (r : Fin 8192) (d : Fin 1024) : dhV m c (ix3 0 r d) = Ple.dh 0 (Rms.rowOf (x m c)) (p m c) (g m c) (w m c) (wg m c) (dMidChain (Rms.rowOf (x m c)) (p m c) (gm m c) (wi m c) (g m c) (w m c) (wg m c) (dx1 m c) (dz m c)) r d := by
  pointwise [dhV, Ple.dh, dGateV_at]
/-- The cotangent of the scaled row. -/
def dScaledV : FVec Ideal S1x8192x1024 .f32 := mulf (dhV m c) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem dScaledV_at (r : Fin 8192) (d : Fin 1024) : dScaledV m c (ix3 0 r d) = Ple.dScaled 0 (Rms.rowOf (x m c)) (p m c) (g m c) (w m c) (wg m c) (dMidChain (Rms.rowOf (x m c)) (p m c) (gm m c) (wi m c) (g m c) (w m c) (wg m c) (dx1 m c) (dz m c)) r d := by
  pointwise [dScaledV, Ple.dScaled, dhV_at]
/-- The mean square's share of the row's cotangent. -/
def shareV : FVec Ideal S8192 .f32 := Host.reduceAdd (Host.divf (mulf (shapeCast S1x8192x1 (Host.reduceAdd (mulf (x m c) (dScaledV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleV m c) (sqV m c)))) (broadcastInDim S1x8192x1 ![] bcast_S_S1x8192x1 (constant S_ .f32 0x44800000#32))) (constant S_ .f32 0x00000000#32) reducesTo_S1x8192x1_S8192_d0_2 h_S_
theorem shareV_at (r : Fin 8192) : shareV m c (ix1 r) = Rms.share ((Rms.rowOf (x m c)) r) (Ple.dScaled 0 (Rms.rowOf (x m c)) (p m c) (g m c) (w m c) (wg m c) (dMidChain (Rms.rowOf (x m c)) (p m c) (gm m c) (wi m c) (g m c) (w m c) (wg m c) (dx1 m c) (dz m c)) r) := by
  pointwise [shareV, Rms.share, Rms.rowOf, Cert.Util.hostReduceAdd_unit02, dScaledV_at, scaleV_at, sqV_at]
/-- The row's cotangent. -/
def dxV : FVec Ideal S8192x1024 .f32 := shapeCast S8192x1024 (addf (addf (addf (dMidV m c) (mulf (dScaledV m c) (broadcastInDim S1x8192x1024 ![0, 1, 2] bcast_S1x8192x1_S1x8192x1024_0_1_2 (scaleV m c)))) (mulf (x m c) (broadcastInDim S1x8192x1024 ![0, 1] bcast_S1x8192_S1x8192x1024_0_1 (broadcastInDim S1x8192 ![1] bcast_S8192_S1x8192_1 (shareV m c))))) (mulf (broadcastInDim S1x8192x1024 ![0, 1] bcast_S1x8192_S1x8192x1024_0_1 (broadcastInDim S1x8192 ![1] bcast_S8192_S1x8192_1 (shareV m c))) (x m c))) shapeCasts_S1x8192x1024_S8192x1024
theorem dxV_at (r : Fin 8192) (d : Fin 1024) : dxV m c (ix2 r d) = Ple.dxChain 0 (Rms.rowOf (x m c)) (p m c) (g m c) (w m c) (wg m c) (dMidChain (Rms.rowOf (x m c)) (p m c) (gm m c) (wi m c) (g m c) (w m c) (wg m c) (dx1 m c) (dz m c)) r d := by
  pointwise [dxV, Ple.dxChain, Rms.rowOf, dMidV_at, scaleV_at, dScaledV_at, shareV_at]
/-- The gate's weight's cotangent. -/
def dwgV : FVec Ideal S1024x1024 .bf16 := truncf .bf16 (transpose S1024x1024 [1, 0] (Host.dotGeneral dot_S1x8192x1024_S1x8192x1024_S1024x1024_01_01_2_2_n_n none (dGateV m c) (normedV m c)) transposes_S1024x1024_S1024x1024_1_0) bitsLt_bf16_f32
theorem dwgV_at (d e : Fin 1024) : dwgV m c (ix2 d e) = Ple.dwg 0 (Rms.rowOf (x m c)) (p m c) (g m c) (w m c) (wg m c) (dMidChain (Rms.rowOf (x m c)) (p m c) (gm m c) (wi m c) (g m c) (w m c) (wg m c) (dx1 m c) (dz m c)) d e := by
  pointwise [dwgV, Ple.dwg]
  refine (Fin.sum_univ_one (M := EReal) _).trans ?_
  exact Finset.sum_congr (M := EReal) rfl fun r _ => by rw [dGateV_at, normedV_at]; exact mul_comm (G := EReal) _ _
/-- The embedding's weight's cotangent. -/
def dwV : FVec Ideal S256x1024 .bf16 := truncf .bf16 (transpose S256x1024 [1, 0] (Host.dotGeneral dot_S1x8192x1024_S1x8192x256_S1024x256_01_01_2_2_n_n none (dEmbV m c) (shapeCast S1x8192x256 (extractStridedSlice S1x1x8192x256 ![0, 0, 0, 0] (p m c) slices_S2x1x8192x256_S1x1x8192x256_0_0_0_0) shapeCasts_S1x1x8192x256_S1x8192x256)) transposes_S1024x256_S256x1024_1_0) bitsLt_bf16_f32
theorem dwV_at (k : Fin 256) (e : Fin 1024) : dwV m c (ix2 k e) = Ple.dw 0 (Rms.rowOf (x m c)) (p m c) (g m c) (wg m c) (dMidChain (Rms.rowOf (x m c)) (p m c) (gm m c) (wi m c) (g m c) (w m c) (wg m c) (dx1 m c) (dz m c)) k e := by
  pointwise [dwV, Ple.dw]
  refine (Fin.sum_univ_one (M := EReal) _).trans ?_
  exact Finset.sum_congr (M := EReal) rfl fun r _ => by rw [dEmbV_at]; exact mul_comm (G := EReal) _ _
/-- The norm's weight's cotangent. -/
def dgV : FVec Ideal S1x1024 .f32 := broadcastInDim S1x1024 ![1] bcast_S1024_S1x1024_1 (Host.reduceAdd (shapeCast S1x1x1024 (Host.reduceAdd (mulf (mulf (x m c) (broadcastInDim S1x8192x1024 ![0, 1, 2] bcast_S1x8192x1_S1x8192x1024_0_1_2 (scaleV m c))) (dhV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgV_at (d : Fin 1024) : dgV m c (ix2 0 d) = Ple.dg 0 (Rms.rowOf (x m c)) (p m c) (g m c) (w m c) (wg m c) (dMidChain (Rms.rowOf (x m c)) (p m c) (gm m c) (wi m c) (g m c) (w m c) (wg m c) (dx1 m c) (dz m c)) d := by
  pointwise [dgV, Ple.dg, Rms.rowOf, Cert.Util.hostReduceAdd_unit01, scaleV_at, dhV_at]
  exact Finset.sum_congr (M := EReal) rfl fun r _ => mul_comm (G := EReal) _ _
/-- The upper norm's weight's cotangent. -/
def dgmV : FVec Ideal S1x1024 .f32 := broadcastInDim S1x1024 ![1] bcast_S1024_S1x1024_1 (Host.reduceAdd (shapeCast S1x1x1024 (Host.reduceAdd (mulf (mulf (midV m c) (broadcastInDim S1x8192x1024 ![0, 1, 2] bcast_S1x8192x1_S1x8192x1024_0_1_2 (scaleMidV m c))) (dhMidV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgmV_at (d : Fin 1024) : dgmV m c (ix2 0 d) = Norm.dg 1 (mid (Rms.rowOf (x m c)) (p m c) (g m c) (w m c) (wg m c)) (wi m c) (dz m c) d := by
  pointwise [dgmV, Norm.dg, Cert.Util.hostReduceAdd_unit01, scaleMidV_at, midV_at, dhMidV_at]
  exact Finset.sum_congr (M := EReal) rfl fun r _ => mul_comm (G := EReal) _ _

end Cert.Reference4Ideal.PleFirst

end
-- ==== Proof.PleFirst.Ref.lean ====
/- The reference's run: each result array holds the gradient by the chain rule (PleFirst/Spec.lean). -/
module

public import proofs.«01_k».proof.Proof.PleFirst.Steps

@[expose] public section

set_option maxRecDepth 16384

noncomputable section

open Idealize.ShloMosaic Idealize.ShloMosaic.TcCoe Idealize.SL.Sem

namespace Cert.Reference4Ideal.PleFirst

open Cert.Reference4Ideal Cert.Reference4Ideal.Gen
open Cert.PleFirst

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v112) = (fun i => Ple.dxChain 0 (Rms.rowOf (x m c)) (p m c) (g m c) (w m c) (wg m c) (dMidChain (Rms.rowOf (x m c)) (p m c) (gm m c) (wi m c) (g m c) (w m c) (wg m c) (dx1 m c) (dz m c)) (i 0) (i 1))
      ∧ r.2.mem ((c.tc : Thread nD τ).loc main_v113) = (fun i => Ple.dwg 0 (Rms.rowOf (x m c)) (p m c) (g m c) (w m c) (wg m c) (dMidChain (Rms.rowOf (x m c)) (p m c) (gm m c) (wi m c) (g m c) (w m c) (wg m c) (dx1 m c) (dz m c)) (i 0) (i 1))
      ∧ r.2.mem ((c.tc : Thread nD τ).loc main_v114) = (fun i => Ple.dw 0 (Rms.rowOf (x m c)) (p m c) (g m c) (wg m c) (dMidChain (Rms.rowOf (x m c)) (p m c) (gm m c) (wi m c) (g m c) (w m c) (wg m c) (dx1 m c) (dz m c)) (i 0) (i 1))
      ∧ r.2.mem ((c.tc : Thread nD τ).loc main_v115) = (fun i => Ple.dg 0 (Rms.rowOf (x m c)) (p m c) (g m c) (w m c) (wg m c) (dMidChain (Rms.rowOf (x m c)) (p m c) (gm m c) (wi m c) (g m c) (w m c) (wg m c) (dx1 m c) (dz m c)) (i 1))
      ∧ r.2.mem ((c.tc : Thread nD τ).loc main_v116) = (fun i => Norm.dg 1 (mid (Rms.rowOf (x m c)) (p m c) (g m c) (w m c) (wg m c)) (wi m c) (dz m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Value.run m ρ)
  obtain ⟨h0, h1, h2, h3, h4, hargs⟩ := h c
  exact ⟨h0.trans (show dxV m c = _ from funext fun i => by idx_vars i; exact dxV_at m c i0 i1), h1.trans (show dwgV m c = _ from funext fun i => by idx_vars i; exact dwgV_at m c i0 i1), h2.trans (show dwV m c = _ from funext fun i => by idx_vars i; exact dwV_at m c i0 i1), h3.trans (show dgV m c = _ from funext fun i => by idx_vars i; obtain rfl : i0 = 0 := Subsingleton.elim _ _; exact dgV_at m c i1), h4.trans (show dgmV m c = _ from funext fun i => by idx_vars i; obtain rfl : i0 = 0 := Subsingleton.elim _ _; exact dgmV_at m c i1), hargs⟩

end Cert.Reference4Ideal.PleFirst

end
-- ==== Proof.PleFirst.Host.lean ====
/- The arrays that the host code prepares for the kernel, entry by entry. -/
module

public import proofs.«01_k».proof.Proof.PleFirst.Spec
public import proofs.«01_k».proof.Proof.Gen.Kernel4Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

abbrev x : FVec Ideal ⟨3, ![1, 8192, 1024]⟩ .f32 := m ((c : Thread nD τ).loc main_arg0)
abbrev p : FVec Ideal ⟨4, ![2, 1, 8192, 256]⟩ .f32 := m ((c : Thread nD τ).loc main_arg1)
abbrev gm : FVec Ideal ⟨2, ![2, 1024]⟩ .f32 := m ((c : Thread nD τ).loc main_arg2)
abbrev wi : FVec Ideal ⟨3, ![2, 1024, 4608]⟩ .f32 := m ((c : Thread nD τ).loc main_arg3)
abbrev g : FVec Ideal ⟨2, ![2, 1024]⟩ .f32 := m ((c : Thread nD τ).loc main_arg4)
abbrev w : FVec Ideal ⟨3, ![2, 256, 1024]⟩ .f32 := m ((c : Thread nD τ).loc main_arg5)
abbrev wg : FVec Ideal ⟨3, ![2, 1024, 1024]⟩ .f32 := m ((c : Thread nD τ).loc main_arg6)
abbrev dx1 : FVec Ideal ⟨3, ![1, 8192, 1024]⟩ .f32 := m ((c : Thread nD τ).loc main_arg7)
abbrev dz : FVec Ideal ⟨3, ![1, 8192, 4608]⟩ .f32 := m ((c : Thread nD τ).loc main_arg8)

theorem v43_at (r : Fin 8192) (j : Fin 4608) : V m c main_v43 (ix2 r j) = dz m c (ix3 0 r j) := by
  unfold V
  after_reads_at

theorem v3_at (j : Fin 4608) (i : Fin 1024) : V m c main_v3 (ix2 j i) = wi m c (ix3 1 i j) := by
  unfold V
  after_reads_at

/-- The row that the norm above reads, which the host prepares by the forward lines. -/
theorem v44_at (r : Fin 8192) (j : Fin 1024) : V m c main_v44 (ix2 r j) = mid (Rms.rowOf (x m c)) (p m c) (g m c) (w m c) (wg m c) r j := by
  unfold V
  after_reads_at
  simp only [mid, Ple.out, Ple.gate, Ple.normed, Ple.emb, Rms.scale, Rms.meanSq, Rms.rowOf, Ideal.logistic]

theorem v45_at (r : Fin 8192) (j : Fin 1024) : V m c main_v45 (ix2 r j) = dx1 m c (ix3 0 r j) := by
  unfold V
  after_reads_at

theorem v35_at (r : Fin 8192) (j : Fin 1024) : V m c main_v35 (ix2 r j) = x m c (ix3 0 r j) := by
  unfold V
  after_reads_at

theorem v38_at (i j : Fin 1024) : V m c main_v38 (ix2 i j) = wg m c (ix3 0 i j) := by
  unfold V
  after_reads_at

theorem v41_at (i : Fin 256) (j : Fin 1024) : V m c main_v41 (ix2 i j) = w m c (ix3 0 i j) := by
  unfold V
  after_reads_at

end Cert.Kernel4Ideal.PleFirst

end
-- ==== Proof.PleFirst.Blocks.lean ====
/- What the kernel's blocks hold at a grid point: rows of the arguments. -/
module

public import proofs.«01_k».proof.Proof.PleFirst.Host

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ win0_7.index t = ![0, 0] ∧ win0_8.index t = ![0, 0, t.val, 0] ∧ win0_9.index t = ![0, 0] ∧ win0_10.index t = ![t.val, 0] ∧ win0_11.index t = ![0, 0] ∧ win0_12.index t = ![0, 0] ∧ win0_13.index t = ![0, 0] ∧ win0_14.index t = ![0, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 4608) : ((View.whole main_v43).slice (win0_0.rect t)).emb (ix2 i j) = ix2 (row t i) j := by
  blk_ext [idx t, row]
theorem blk0 (t : Fin cfg0.N) (i : Fin 512) (j : Fin 4608) : iblk m c 0 t (ix2 i j) = dz m c (ix3 0 (row t i) j) :=
  (congrArg (V m c main_v43) (at0 t i j)).trans (v43_at m c _ _)
theorem at1 (t : Fin cfg0.N) (i : Fin 4608) (j : Fin 1024) : ((View.whole main_v3).slice (win0_1.rect t)).emb (ix2 i j) = ix2 i j := by
  blk_ext [idx t, row]
theorem blk1 (t : Fin cfg0.N) (i : Fin 4608) (j : Fin 1024) : iblk m c 1 t (ix2 i j) = wi m c (ix3 1 j i) :=
  (congrArg (V m c main_v3) (at1 t i j)).trans (v3_at m c _ _)
theorem at2 (t : Fin cfg0.N) (i : Fin 512) (j : Fin 1024) : ((View.whole main_v44).slice (win0_2.rect t)).emb (ix2 i j) = ix2 (row t i) j := by
  blk_ext [idx t, row]
theorem blk2 (t : Fin cfg0.N) (i : Fin 512) (j : Fin 1024) : iblk m c 2 t (ix2 i j) = mid (Rms.rowOf (x m c)) (p m c) (g m c) (w m c) (wg m c) (row t i) j :=
  (congrArg (V m c main_v44) (at2 t i j)).trans (v44_at m c _ _)
theorem at3 (t : Fin cfg0.N) (i : Fin 2) (j : Fin 1024) : ((View.whole main_arg2).slice (win0_3.rect t)).emb (ix2 i j) = ix2 i j := by
  blk_ext [idx t, row]
theorem blk3 (t : Fin cfg0.N) (i : Fin 2) (j : Fin 1024) : iblk m c 3 t (ix2 i j) = gm m c (ix2 i j) :=
  (congrArg (V m c main_arg2) (at3 t i j)).trans (congrFun (V_main_arg2 m c) _)
theorem at4 (t : Fin cfg0.N) (i : Fin 512) (j : Fin 1024) : ((View.whole main_v45).slice (win0_4.rect t)).emb (ix2 i j) = ix2 (row t i) j := by
  blk_ext [idx t, row]
theorem blk4 (t : Fin cfg0.N) (i : Fin 512) (j : Fin 1024) : iblk m c 4 t (ix2 i j) = dx1 m c (ix3 0 (row t i) j) :=
  (congrArg (V m c main_v45) (at4 t i j)).trans (v45_at m c _ _)
theorem at5 (t : Fin cfg0.N) (i : Fin 512) (j : Fin 1024) : ((View.whole main_v35).slice (win0_5.rect t)).emb (ix2 i j) = ix2 (row t i) j := by
  blk_ext [idx t, row]
theorem blk5 (t : Fin cfg0.N) (i : Fin 512) (j : Fin 1024) : iblk m c 5 t (ix2 i j) = x m c (ix3 0 (row t i) j) :=
  (congrArg (V m c main_v35) (at5 t i j)).trans (v35_at m c _ _)
theorem at6 (t : Fin cfg0.N) (i : Fin 2) (j : Fin 1024) : ((View.whole main_arg4).slice (win0_6.rect t)).emb (ix2 i j) = ix2 i j := by
  blk_ext [idx t, row]
theorem blk6 (t : Fin cfg0.N) (i : Fin 2) (j : Fin 1024) : iblk m c 6 t (ix2 i j) = g m c (ix2 i j) :=
  (congrArg (V m c main_arg4) (at6 t i j)).trans (congrFun (V_main_arg4 m c) _)
theorem at7 (t : Fin cfg0.N) (i j : Fin 1024) : ((View.whole main_v38).slice (win0_7.rect t)).emb (ix2 i j) = ix2 i j := by
  blk_ext [idx t, row]
theorem blk7 (t : Fin cfg0.N) (i j : Fin 1024) : iblk m c 7 t (ix2 i j) = wg m c (ix3 0 i j) :=
  (congrArg (V m c main_v38) (at7 t i j)).trans (v38_at m c _ _)
theorem at8 (t : Fin cfg0.N) (a b : Fin 1) (i : Fin 512) (j : Fin 256) : ((View.whole main_arg1).slice (win0_8.rect t)).emb (ix4 a b i j) = ix4 0 0 (row t i) j := by
  blk_ext [idx t, row]
theorem blk8 (t : Fin cfg0.N) (a b : Fin 1) (i : Fin 512) (j : Fin 256) : iblk m c 8 t (ix4 a b i j) = p m c (ix4 0 0 (row t i) j) :=
  (congrArg (V m c main_arg1) (at8 t a b i j)).trans (congrFun (V_main_arg1 m c) _)
theorem at9 (t : Fin cfg0.N) (i : Fin 256) (j : Fin 1024) : ((View.whole main_v41).slice (win0_9.rect t)).emb (ix2 i j) = ix2 i j := by
  blk_ext [idx t, row]
theorem blk9 (t : Fin cfg0.N) (i : Fin 256) (j : Fin 1024) : iblk m c 9 t (ix2 i j) = w m c (ix3 0 i j) :=
  (congrArg (V m c main_v41) (at9 t i j)).trans (v41_at m c _ _)
theorem at10 (t : Fin cfg0.N) (i : Fin 512) (j : Fin 1024) :
    ((View.whole main_v46_0).slice (win0_10.rect t)).emb (ix2 i j) = ix2 (row t i) j := by
  blk_ext [idx t, row]

end Cert.Kernel4Ideal.PleFirst

end
-- ==== Proof.PleFirst.Above.lean ====
/- What the kernel computes of a block of rows, above the embedding. -/
module

public import proofs.«01_k».proof.Proof.PleFirst.Blocks

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

theorem pay9_at (t : Fin cfg0.N) (i : Fin 512) : k0_pay9 (iblk m c 2 t) (ix2 i 0) = Rms.scale ((mid (Rms.rowOf (x m c)) (p m c) (g m c) (w m c) (wg m c)) (row t i)) := by
  pointwise [k0_pay9, k0_pay8, Rms.scale, Rms.meanSq, blk2]
theorem pay10_at (t : Fin cfg0.N) (i : Fin 512) (j : Fin 1024) : k0_pay10 (iblk m c 2 t) (ix2 i j) = (mid (Rms.rowOf (x m c)) (p m c) (g m c) (w m c) (wg m c)) (row t i) j * Rms.scale ((mid (Rms.rowOf (x m c)) (p m c) (g m c) (w m c) (wg m c)) (row t i)) := by
  pointwise [k0_pay10, k0_pay8, pay9_at, blk2]
theorem pay11_at (t : Fin cfg0.N) (i : Fin 512) (j : Fin 1024) : k0_pay11 (iblk m c 0 t) (iblk m c 1 t) (ix2 i j) = Norm.dh 1 (wi m c) (dz m c) (row t i) j := by
  pointwise [k0_pay11, Norm.dh, blk0, blk1]
/-- A block's share of the upper norm's weight's cotangent. -/
theorem pay12_at (t : Fin cfg0.N) (a : Fin 1) (d : Fin 1024) : k0_pay12 (iblk m c 2 t) (iblk m c 0 t) (iblk m c 1 t) (ix2 a d)
    = ∑ i : Fin 512, Norm.dh 1 (wi m c) (dz m c) (row t i) d * ((mid (Rms.rowOf (x m c)) (p m c) (g m c) (w m c) (wg m c)) (row t i) d * Rms.scale ((mid (Rms.rowOf (x m c)) (p m c) (g m c) (w m c) (wg m c)) (row t i))) := by
  obtain rfl : a = 0 := Subsingleton.elim _ _
  pointwise [k0_pay12, pay10_at, pay11_at]
/-- What comes into the embedding from above. -/
theorem pay13_at (t : Fin cfg0.N) (i : Fin 512) (d : Fin 1024) : k0_pay13 (iblk m c 2 t) (iblk m c 0 t) (iblk m c 1 t) (View.ld (iblk m c 3 t) (Rect.unit ![1, 0] ![1, 1024] inb_S2x1024_S1x1024_1_0)) (iblk m c 4 t) (ix2 i d) = dMid (Rms.rowOf (x m c)) (p m c) (gm m c) (wi m c) (g m c) (w m c) (wg m c) (dx1 m c) (dz m c) (row t i) d := by
  pointwise [k0_pay13, dMid, Norm.dx, Norm.dScaled, Rms.pull, Cert.Util.load_layer, pay9_at, pay10_at, pay11_at, blk3, blk4]

end Cert.Kernel4Ideal.PleFirst

end
-- ==== Proof.PleFirst.Tile.lean ====
/- What the kernel computes of a block of rows, in the embedding. -/
module

public import proofs.«01_k».proof.Proof.PleFirst.Above

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

theorem pay16_at (t : Fin cfg0.N) (i : Fin 512) : k0_pay16 (iblk m c 5 t) (ix2 i 0) = Rms.scale ((Rms.rowOf (x m c)) (row t i)) := by
  pointwise [k0_pay16, k0_pay15, Rms.scale, Rms.meanSq, Rms.rowOf, blk5]
theorem pay17_at (t : Fin cfg0.N) (i : Fin 512) (j : Fin 1024) : k0_pay17 (iblk m c 5 t) (ix2 i j) = (Rms.rowOf (x m c)) (row t i) j * Rms.scale ((Rms.rowOf (x m c)) (row t i)) := by
  pointwise [k0_pay17, k0_pay15, Rms.rowOf, pay16_at, blk5]
theorem pay18_at (t : Fin cfg0.N) (i : Fin 512) (j : Fin 1024) : k0_pay18 (iblk m c 5 t) (View.ld (iblk m c 6 t) (Rect.unit ![0, 0] ![1, 1024] inb_S2x1024_S1x1024_0_0)) (ix2 i j) = Ple.normed 0 (Rms.rowOf (x m c)) (g m c) (row t i) j := by
  pointwise [k0_pay18, Ple.normed, Cert.Util.load_layer, pay17_at, blk6]
theorem pay19_at (t : Fin cfg0.N) (i : Fin 512) (k : Fin 256) : k0_pay19 (iblk m c 8 t) (ix2 i k) = p m c (ix4 0 0 (row t i) k) := by
  pointwise [k0_pay19, blk8]
/-- The gate. -/
theorem pay20_at (t : Fin cfg0.N) (i : Fin 512) (e : Fin 1024) : k0_pay20 (iblk m c 5 t) (View.ld (iblk m c 6 t) (Rect.unit ![0, 0] ![1, 1024] inb_S2x1024_S1x1024_0_0)) (iblk m c 7 t) (ix2 i e) = Ple.gate 0 (Rms.rowOf (x m c)) (g m c) (wg m c) (row t i) e := by
  pointwise [k0_pay20, Ple.gate, pay18_at, blk7]
/-- The cotangent of the projected embedding. -/
theorem pay21_at (t : Fin cfg0.N) (i : Fin 512) (e : Fin 1024) : k0_pay21 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 7 t) (ix2 i e) = Ple.dEmb 0 (Rms.rowOf (x m c)) (g m c) (wg m c) (dMid (Rms.rowOf (x m c)) (p m c) (gm m c) (wi m c) (g m c) (w m c) (wg m c) (dx1 m c) (dz m c)) (row t i) e := by
  pointwise [k0_pay21, Ple.dEmb, pay20_at, pay13_at]
/-- The cotangent of the gate's logit. -/
theorem pay22_at (t : Fin cfg0.N) (i : Fin 512) (e : Fin 1024) : k0_pay22 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 8 t) (iblk m c 7 t) (iblk m c 9 t) (ix2 i e) = Ple.dGate 0 (Rms.rowOf (x m c)) (p m c) (g m c) (w m c) (wg m c) (dMid (Rms.rowOf (x m c)) (p m c) (gm m c) (wi m c) (g m c) (w m c) (wg m c) (dx1 m c) (dz m c)) (row t i) e := by
  pointwise [k0_pay22, Ple.dGate, Ple.emb, pay19_at, pay20_at, pay13_at, blk9]
  exact mul_assoc (G := EReal) _ _ _
/-- A block's share of the embedding's weight's cotangent. -/
theorem pay24_at (t : Fin cfg0.N) (v : Vec Ideal S256x1024 .f32) (k : Fin 256) (e : Fin 1024) :
    k0_pay24 (k0_pay19 (iblk m c 8 t)) (k0_pay21 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 7 t)) v (ix2 k e) = v (ix2 k e) + ∑ i : Fin 512, p m c (ix4 0 0 (row t i) k) * Ple.dEmb 0 (Rms.rowOf (x m c)) (g m c) (wg m c) (dMid (Rms.rowOf (x m c)) (p m c) (gm m c) (wi m c) (g m c) (w m c) (wg m c) (dx1 m c) (dz m c)) (row t i) e := by
  pointwise [k0_pay24, pay19_at, pay21_at]
/-- A block's share of the gate's weight's cotangent. -/
theorem pay25_at (t : Fin cfg0.N) (v : Vec Ideal S1024x1024 .f32) (d e : Fin 1024) :
    k0_pay25 (k0_pay18 (iblk m c 5 t) (View.ld (iblk m c 6 t) (Rect.unit ![0, 0] ![1, 1024] inb_S2x1024_S1x1024_0_0))) (k0_pay22 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 8 t) (iblk m c 7 t) (iblk m c 9 t)) v (ix2 d e)
      = v (ix2 d e) + ∑ i : Fin 512, Ple.normed 0 (Rms.rowOf (x m c)) (g m c) (row t i) d * Ple.dGate 0 (Rms.rowOf (x m c)) (p m c) (g m c) (w m c) (wg m c) (dMid (Rms.rowOf (x m c)) (p m c) (gm m c) (wi m c) (g m c) (w m c) (wg m c) (dx1 m c) (dz m c)) (row t i) e := by
  pointwise [k0_pay25, k0_pay23, pay18_at, pay22_at]
theorem pay26_at (t : Fin cfg0.N) (i : Fin 512) (d : Fin 1024) : k0_pay26 (k0_pay22 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 8 t) (iblk m c 7 t) (iblk m c 9 t)) (iblk m c 7 t) (ix2 i d) = Ple.dh 0 (Rms.rowOf (x m c)) (p m c) (g m c) (w m c) (wg m c) (dMid (Rms.rowOf (x m c)) (p m c) (gm m c) (wi m c) (g m c) (w m c) (wg m c) (dx1 m c) (dz m c)) (row t i) d := by
  pointwise [k0_pay26, k0_pay23, Ple.dh, pay22_at, blk7]
/-- A block's share of the norm's weight's cotangent. -/
theorem pay27_at (t : Fin cfg0.N) (a : Fin 1) (d : Fin 1024) : k0_pay27 (k0_pay17 (iblk m c 5 t)) (k0_pay22 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 8 t) (iblk m c 7 t) (iblk m c 9 t)) (iblk m c 7 t) (ix2 a d)
    = ∑ i : Fin 512, Ple.dh 0 (Rms.rowOf (x m c)) (p m c) (g m c) (w m c) (wg m c) (dMid (Rms.rowOf (x m c)) (p m c) (gm m c) (wi m c) (g m c) (w m c) (wg m c) (dx1 m c) (dz m c)) (row t i) d * ((Rms.rowOf (x m c)) (row t i) d * Rms.scale ((Rms.rowOf (x m c)) (row t i))) := by
  obtain rfl : a = 0 := Subsingleton.elim _ _
  pointwise [k0_pay27, pay26_at, pay17_at]
/-- A block of the row's cotangent. -/
theorem pay28_at (t : Fin cfg0.N) (i : Fin 512) (d : Fin 1024) :
    k0_pay28 (k0_pay13 (iblk m c 2 t) (iblk m c 0 t) (iblk m c 1 t) (View.ld (iblk m c 3 t) (Rect.unit ![1, 0] ![1, 1024] inb_S2x1024_S1x1024_1_0)) (iblk m c 4 t)) (k0_pay16 (iblk m c 5 t)) (k0_pay17 (iblk m c 5 t)) (k0_pay22 (k0_pay13 (iblk m c 2 t) (iblk m c 0 t) (iblk m c 1 t) (View.ld (iblk m c 3 t) (Rect.unit ![1, 0] ![1, 1024] inb_S2x1024_S1x1024_1_0)) (iblk m c 4 t)) (iblk m c 5 t) (View.ld (iblk m c 6 t) (Rect.unit ![0, 0] ![1, 1024] inb_S2x1024_S1x1024_0_0)) (iblk m c 8 t) (iblk m c 7 t) (iblk m c 9 t)) (iblk m c 7 t) (View.ld (iblk m c 6 t) (Rect.unit ![0, 0] ![1, 1024] inb_S2x1024_S1x1024_0_0)) (ix2 i d) = Ple.dx 0 (Rms.rowOf (x m c)) (p m c) (g m c) (w m c) (wg m c) (dMid (Rms.rowOf (x m c)) (p m c) (gm m c) (wi m c) (g m c) (w m c) (wg m c) (dx1 m c) (dz m c)) (row t i) d := by
  pointwise [k0_pay28, Ple.dx, Ple.dScaled, Rms.pull, Cert.Util.load_layer, pay13_at, pay16_at, pay17_at, pay26_at, blk6]

end Cert.Kernel4Ideal.PleFirst

end
-- ==== Proof.PleFirst.Rows.lean ====
/- The kernel's first result: the row's cotangent, block by block. -/
module

public import proofs.«01_k».proof.Proof.PleFirst.Tile

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

theorem final10 : (dats m 0 c).arrAt 10 (cfgs 0).N = fun i => Ple.dx 0 (Rms.rowOf (x m c)) (p m c) (g m c) (w m c) (wg m c) (dMid (Rms.rowOf (x m c)) (p m c) (gm m c) (wi m c) (g m c) (w m c) (wg m c) (dx1 m c) (dz m c)) (i 0) (i 1) := by
  refine (dats m 0 c).arrAt_eq_of_covers 10 _ (by decide +kernel) fun t _ y => ?_
  blk_simp
  idx_vars y
  rw [at10, after0_10]
  by_cases h0 : t.val % 16 = 0
  · rw [outsAt0_A m c t h0 (by omega)]; frame_out
    exact pay28_at m c t y0 y1
  by_cases h1 : t.val % 16 = 15
  · rw [outsAt0_C m c t h0 h1]; frame_out
    exact pay28_at m c t y0 y1
  · rw [outsAt0_B m c t h0 h1]; frame_out
    exact pay28_at m c t y0 y1

end Cert.Kernel4Ideal.PleFirst

end
-- ==== Proof.PleFirst.Weights.lean ====
/- The weights' cotangents, sums over the blocks. -/
module

public import proofs.«01_k».proof.Proof.PleFirst.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

theorem final11 : (dats m 0 c).arrAt 11 (cfgs 0).N = fun i => Ple.dwg 0 (Rms.rowOf (x m c)) (p m c) (g m c) (w m c) (wg m c) (dMid (Rms.rowOf (x m c)) (p m c) (gm m c) (wi m c) (g m c) (w m c) (wg m c) (dx1 m c) (dz m c)) (i 0) (i 1) := by
  refine (dats m 0 c).arrAt_eq_of_after_last 11 t0_15 (by decide +kernel) _ fun j => ?_
  blk_simp
  have hC : (outsAt0 m c t0_15.val t0_15.isLt).2.1 j = (outsAt0 m c t0_15.val t0_15.isLt).2.2.2.2.2.1 j := by
    rw [outsAt0_C m c t0_15 (by decide) (by decide)]; frame_out; pointwise [k0_pay2]
  rw [after0_11, hC, Pipeline.eq_sum_fin_of_reset_step_apply_last (fun n h => (outsAt0 m c n h).2.2.2.2.2.1) 16 (fun _ => 0)
    (fun q j => ∑ k : Fin 512, Ple.normed 0 (Rms.rowOf (x m c)) (g m c) (row q k) (j 0) * Ple.dGate 0 (Rms.rowOf (x m c)) (p m c) (g m c) (w m c) (wg m c) (dMid (Rms.rowOf (x m c)) (p m c) (gm m c) (wi m c) (g m c) (w m c) (wg m c) (dx1 m c) (dz m c)) (row q k) (j 1))
    (fun t h j => by
      rw [outsAt0_A m c t h (by omega)]; frame_out
      idx_vars j
      pointwise [k0_pay4, read_unread_whole]
      exact (pay25_at m c t _ j0 j1).trans (zero_add (M := EReal) _))
    (fun t h j => by
      by_cases h1 : t.val % 16 = 15
      · rw [outsAt0_C m c t h h1]; frame_out
        idx_vars j
        pointwise [read_unread_whole]
        exact pay25_at m c t _ j0 j1
      · rw [outsAt0_B m c t h h1]; frame_out
        idx_vars j
        pointwise [read_unread_whole]
        exact pay25_at m c t _ j0 j1)
    (le_of_eq N_0) t0_15 rfl j, zero_add]
  exact Fin.sum_mul_add_congr fun q k hl => rfl

theorem final12 : (dats m 0 c).arrAt 12 (cfgs 0).N = fun i => Ple.dw 0 (Rms.rowOf (x m c)) (p m c) (g m c) (wg m c) (dMid (Rms.rowOf (x m c)) (p m c) (gm m c) (wi m c) (g m c) (w m c) (wg m c) (dx1 m c) (dz m c)) (i 0) (i 1) := by
  refine (dats m 0 c).arrAt_eq_of_after_last 12 t0_15 (by decide +kernel) _ fun j => ?_
  blk_simp
  have hC : (outsAt0 m c t0_15.val t0_15.isLt).2.2.1 j = (outsAt0 m c t0_15.val t0_15.isLt).2.2.2.2.2.2 j := by
    rw [outsAt0_C m c t0_15 (by decide) (by decide)]; frame_out; pointwise [k0_pay3]
  rw [after0_12, hC, Pipeline.eq_sum_fin_of_reset_step_apply_last (fun n h => (outsAt0 m c n h).2.2.2.2.2.2) 16 (fun _ => 0)
    (fun q j => ∑ k : Fin 512, Cert.Kernel4Ideal.PleFirst.p m c (ix4 0 0 (row q k) (j 0)) * Ple.dEmb 0 (Rms.rowOf (x m c)) (g m c) (wg m c) (dMid (Rms.rowOf (x m c)) (p m c) (gm m c) (wi m c) (g m c) (w m c) (wg m c) (dx1 m c) (dz m c)) (row q k) (j 1))
    (fun t h j => by
      rw [outsAt0_A m c t h (by omega)]; frame_out
      idx_vars j
      pointwise [k0_pay5, read_unread_whole]
      exact (pay24_at m c t _ j0 j1).trans (zero_add (M := EReal) _))
    (fun t h j => by
      by_cases h1 : t.val % 16 = 15
      · rw [outsAt0_C m c t h h1]; frame_out
        idx_vars j
        pointwise [read_unread_whole]
        exact pay24_at m c t _ j0 j1
      · rw [outsAt0_B m c t h h1]; frame_out
        idx_vars j
        pointwise [read_unread_whole]
        exact pay24_at m c t _ j0 j1)
    (le_of_eq N_0) t0_15 rfl j, zero_add]
  exact Fin.sum_mul_add_congr fun q k hl => rfl

end Cert.Kernel4Ideal.PleFirst

end
-- ==== Proof.PleFirst.Norms.lean ====
/- The norms' weights' cotangents, sums over the blocks. -/
module

public import proofs.«01_k».proof.Proof.PleFirst.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.PleFirst

open Cert.Kernel4Ideal Cert.Kernel4Ideal.Gen
open Cert Cert.PleFirst

variable (m : (ℓ : Loc nD τ sig) → Buf (Elt Ideal) ℓ) (c : Dev nD)

theorem final13 : (dats m 0 c).arrAt 13 (cfgs 0).N = fun i => Ple.dg 0 (Rms.rowOf (x m c)) (p m c) (g m c) (w m c) (wg m c) (dMid (Rms.rowOf (x m c)) (p m c) (gm m c) (wi m c) (g m c) (w m c) (wg m c) (dx1 m c) (dz m c)) (i 1) := by
  refine (dats m 0 c).arrAt_eq_of_after_last 13 t0_15 (by decide +kernel) _ fun j => ?_
  blk_simp
  rw [after0_13, Pipeline.eq_sum_fin_of_reset_step_apply_last (fun n h => (outsAt0 m c n h).2.2.2.1) 16 (fun _ => 0)
    (fun q j => ∑ k : Fin 512, Ple.dh 0 (Rms.rowOf (x m c)) (p m c) (g m c) (w m c) (wg m c) (dMid (Rms.rowOf (x m c)) (p m c) (gm m c) (wi m c) (g m c) (w m c) (wg m c) (dx1 m c) (dz m c)) (row q k) (j 1) * ((Rms.rowOf (x m c)) (row q k) (j 1) * Rms.scale ((Rms.rowOf (x m c)) (row q k))))
    (fun t h j => by
      rw [outsAt0_A m c t h (by omega)]; frame_out
      idx_vars j
      pointwise [k0_pay1, k0_pay6, read_unread_whole]
      exact pay27_at m c t j0 j1)
    (fun t h j => by
      by_cases h1 : t.val % 16 = 15
      · rw [outsAt0_C m c t h h1]; frame_out
        idx_vars j
        pointwise [k0_pay1, read_unread_whole]
        exact congrArg (fun q : EReal => _ + q) (pay27_at m c t j0 j1)
      · rw [outsAt0_B m c t h h1]; frame_out
        idx_vars j
        pointwise [k0_pay1, read_unread_whole]
        exact congrArg (fun q : EReal => _ + q) (pay27_at m c t j0 j1))
    (le_of_eq N_0) t0_15 rfl j, zero_add]
  exact Fin.sum_mul_add_congr fun q k hl => rfl

theorem final14 : (dats m 0 c).arrAt 14 (cfgs 0).N = fun i => Norm.dg 1 (mid (Rms.rowOf (x m c)) (p m c) (g m c) (w m c) (wg m c)) (wi m c) (dz m c) (i 1) := by
  refine (dats m 0 c).arrAt_eq_of_after_last 14 t0_15 (by decide +kernel) _ fun j => ?_
  blk_simp
  rw [after0_14, Pipeline.eq_sum_fin_of_reset_step_apply_last (fun n h => (outsAt0 m c n h).2.2.2.2.1) 16 (fun _ => 0)
    (fun q j => ∑ k : Fin 512, Norm.dh 1 (wi m c) (dz m c) (row q k) (j 1) * ((mid (Rms.rowOf (x m c)) (p m c) (g m c) (w m c) (wg m c)) (row q k) (j 1) * Rms.scale ((mid (Rms.rowOf (x m c)) (p m c) (g m c) (w m c) (wg m c)) (row q k))))
    (fun t h j => by
      rw [outsAt0_A m c t h (by omega)]; frame_out
      idx_vars j
      pointwise [k0_pay14, k0_pay7, read_unread_whole]
      exact pay12_at m c t j0 j1)
    (fun t h j => by
      by_cases h1 : t.val % 16 = 15
      · rw [outsAt0_C m c t h h1]; frame_out
        idx_vars j
        pointwise [k0_pay14, read_unread_whole]
        exact congrArg (fun q : EReal => _ + q) (pay12_at m c t j0 j1)
      · rw [outsAt0_B m c t h h1]; frame_out
        idx_vars j
        pointwise [k0_pay14, read_unread_whole]
        exact congrArg (fun q : EReal => _ + q) (pay12_at m c t j0 j1))
    (le_of_eq N_0) t0_15 rfl j, zero_add]
  exact Fin.sum_mul_add_congr fun q k hl => rfl

end Cert.Kernel4Ideal.PleFirst

end
-- ==== Proof.PleFirst.Run.lean ====
/- The kernel's run: each result array holds the gradient (PleFirst/Spec.lean). -/
module

public import proofs.«01_k».proof.Proof.PleFirst.Rows
public import proofs.«01_k».proof.Proof.PleFirst.Weights
public import proofs.«01_k».proof.Proof.PleFirst.Norms

@[expose] public section

set_option maxRecDepth 16384

noncomputable section

open Idealize.ShloMosaic Idealize.ShloMosaic.TcCoe Idealize.SL.Sem

namespace Cert.Kernel4Ideal.PleFirst

open Cert.Kernel4Ideal Cert.Kernel4Ideal.Gen
open Cert.PleFirst

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v46_0) = (fun i => Ple.dx 0 (Rms.rowOf (x m c)) (p m c) (g m c) (w m c) (wg m c) (dMid (Rms.rowOf (x m c)) (p m c) (gm m c) (wi m c) (g m c) (w m c) (wg m c) (dx1 m c) (dz m c)) (i 0) (i 1))
      ∧ r.2.mem ((c.tc : Thread nD τ).loc main_v46_1) = (fun i => Ple.dwg 0 (Rms.rowOf (x m c)) (p m c) (g m c) (w m c) (wg m c) (dMid (Rms.rowOf (x m c)) (p m c) (gm m c) (wi m c) (g m c) (w m c) (wg m c) (dx1 m c) (dz m c)) (i 0) (i 1))
      ∧ r.2.mem ((c.tc : Thread nD τ).loc main_v46_2) = (fun i => Ple.dw 0 (Rms.rowOf (x m c)) (p m c) (g m c) (wg m c) (dMid (Rms.rowOf (x m c)) (p m c) (gm m c) (wi m c) (g m c) (w m c) (wg m c) (dx1 m c) (dz m c)) (i 0) (i 1))
      ∧ r.2.mem ((c.tc : Thread nD τ).loc main_v46_3) = (fun i => Ple.dg 0 (Rms.rowOf (x m c)) (p m c) (g m c) (w m c) (wg m c) (dMid (Rms.rowOf (x m c)) (p m c) (gm m c) (wi m c) (g m c) (w m c) (wg m c) (dx1 m c) (dz m c)) (i 1))
      ∧ r.2.mem ((c.tc : Thread nD τ).loc main_v46_4) = (fun i => Norm.dg 1 (mid (Rms.rowOf (x m c)) (p m c) (g m c) (w m c) (wg m c)) (wi m c) (dz m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_mono (θ_run_and (run_main m ρ) (unchanged m ρ)) fun r h c =>
    ⟨((h.1 c).1 10).trans (final10 m c), ((h.1 c).1 11).trans (final11 m c), ((h.1 c).1 12).trans (final12 m c), ((h.1 c).1 13).trans (final13 m c), ((h.1 c).1 14).trans (final14 m c), h.2 c⟩

end Cert.Kernel4Ideal.PleFirst

end
-- ==== Proof.PleFirst.Pair.lean ====
/- The pair: over reals the kernel's results are the reference's. -/
module

public import proofs.«01_k».proof.Defs
public import proofs.«01_k».proof.Proof.Gen.Pre_finite4
public import proofs.«01_k».proof.Proof.PleFirst.Ref
public import proofs.«01_k».proof.Proof.PleFirst.Run

@[expose] public section

set_option maxRecDepth 16384

noncomputable section

open Idealize.ShloMosaic Idealize.ShloMosaic.TcCoe Idealize.SL.Sem

namespace Cert.PleFirst

open Cert.Reference4Ideal.PleFirst in
theorem algebraic : Cert.algebraic_Kernel4Ideal_Reference4Ideal_pre_finite4 := by
  intro m ρ m' ρ' hpre hagree
  refine ⟨_, _, _, _, _, Cert.Kernel4Ideal.PleFirst.run m ρ, θ_run_mono (run m' ρ') fun r h c => ?_⟩
  obtain ⟨h0, h1, h2, h3, h4, hargs⟩ := h c
  have e0 : x m' c = Cert.Kernel4Ideal.PleFirst.x m c := (hagree c).1
  have e1 : p m' c = Cert.Kernel4Ideal.PleFirst.p m c := (hagree c).2.1
  have e2 : gm m' c = Cert.Kernel4Ideal.PleFirst.gm m c := (hagree c).2.2.1
  have e3 : wi m' c = Cert.Kernel4Ideal.PleFirst.wi m c := (hagree c).2.2.2.1
  have e4 : g m' c = Cert.Kernel4Ideal.PleFirst.g m c := (hagree c).2.2.2.2.1
  have e5 : w m' c = Cert.Kernel4Ideal.PleFirst.w m c := (hagree c).2.2.2.2.2.1
  have e6 : wg m' c = Cert.Kernel4Ideal.PleFirst.wg m c := (hagree c).2.2.2.2.2.2.1
  have e7 : dx1 m' c = Cert.Kernel4Ideal.PleFirst.dx1 m c := (hagree c).2.2.2.2.2.2.2.1
  have e8 : dz m' c = Cert.Kernel4Ideal.PleFirst.dz m c := (hagree c).2.2.2.2.2.2.2.2
  have f0 : ∀ j, Rms.IsReal (Cert.Kernel4Ideal.PleFirst.x m c j) := Rms.IsReal.of_cmp _ _ (fun _ => Rms.ofBits_inf) ((hpre c).1)
  have f1 : ∀ j, Rms.IsReal (Cert.Kernel4Ideal.PleFirst.p m c j) := Rms.IsReal.of_cmp _ _ (fun _ => Rms.ofBits_inf) ((hpre c).2.1)
  have f2 : ∀ j, Rms.IsReal (Cert.Kernel4Ideal.PleFirst.gm m c j) := Rms.IsReal.of_cmp _ _ (fun _ => Rms.ofBits_inf) ((hpre c).2.2.1)
  have f3 : ∀ j, Rms.IsReal (Cert.Kernel4Ideal.PleFirst.wi m c j) := Rms.IsReal.of_cmp _ _ (fun _ => Rms.ofBits_inf) ((hpre c).2.2.2.1)
  have f4 : ∀ j, Rms.IsReal (Cert.Kernel4Ideal.PleFirst.g m c j) := Rms.IsReal.of_cmp _ _ (fun _ => Rms.ofBits_inf) ((hpre c).2.2.2.2.1)
  have f5 : ∀ j, Rms.IsReal (Cert.Kernel4Ideal.PleFirst.w m c j) := Rms.IsReal.of_cmp _ _ (fun _ => Rms.ofBits_inf) ((hpre c).2.2.2.2.2.1)
  have f6 : ∀ j, Rms.IsReal (Cert.Kernel4Ideal.PleFirst.wg m c j) := Rms.IsReal.of_cmp _ _ (fun _ => Rms.ofBits_inf) ((hpre c).2.2.2.2.2.2.1)
  have f7 : ∀ j, Rms.IsReal (Cert.Kernel4Ideal.PleFirst.dx1 m c j) := Rms.IsReal.of_cmp _ _ (fun _ => Rms.ofBits_inf) ((hpre c).2.2.2.2.2.2.2.1)
  have f8 : ∀ j, Rms.IsReal (Cert.Kernel4Ideal.PleFirst.dz m c j) := Rms.IsReal.of_cmp _ _ (fun _ => Rms.ofBits_inf) ((hpre c).2.2.2.2.2.2.2.2)
  exact ⟨h0.trans (by rewrite [e0, e1, e2, e3, e4, e5, e6, e7, e8]; exact funext fun i => dx_eq (fun _ _ => f0 _) f1 f2 f3 f4 f5 f6 f7 f8 _ _), h1.trans (by rewrite [e0, e1, e2, e3, e4, e5, e6, e7, e8]; exact funext fun i => congrArg (fun Y => Ple.dwg 0 (Rms.rowOf (Cert.Kernel4Ideal.PleFirst.x m c)) (Cert.Kernel4Ideal.PleFirst.p m c) (Cert.Kernel4Ideal.PleFirst.g m c) (Cert.Kernel4Ideal.PleFirst.w m c) (Cert.Kernel4Ideal.PleFirst.wg m c) Y (i 0) (i 1)) (dMidChain_eq (fun _ _ => f0 _) f1 f2 f3 f4 f5 f6 f8)), h2.trans (by rewrite [e0, e1, e2, e3, e4, e5, e6, e7, e8]; exact funext fun i => congrArg (fun Y => Ple.dw 0 (Rms.rowOf (Cert.Kernel4Ideal.PleFirst.x m c)) (Cert.Kernel4Ideal.PleFirst.p m c) (Cert.Kernel4Ideal.PleFirst.g m c) (Cert.Kernel4Ideal.PleFirst.wg m c) Y (i 0) (i 1)) (dMidChain_eq (fun _ _ => f0 _) f1 f2 f3 f4 f5 f6 f8)), h3.trans (by rewrite [e0, e1, e2, e3, e4, e5, e6, e7, e8]; exact funext fun i => congrArg (fun Y => Ple.dg 0 (Rms.rowOf (Cert.Kernel4Ideal.PleFirst.x m c)) (Cert.Kernel4Ideal.PleFirst.p m c) (Cert.Kernel4Ideal.PleFirst.g m c) (Cert.Kernel4Ideal.PleFirst.w m c) (Cert.Kernel4Ideal.PleFirst.wg m c) Y (i 1)) (dMidChain_eq (fun _ _ => f0 _) f1 f2 f3 f4 f5 f6 f8)), h4.trans (by rewrite [e0, e1, e3, e4, e5, e6, e8]; rfl), hargs⟩

theorem reference_frame : Cert.quiescent_Reference4Ideal := by
  intro m g _
  exact (θ_run Cert.Reference4Ideal.defs _ _).mono (fun r h => ⟨fun c => (h c).2.2.2.2.2, sem_eq_zero_of_no_sems (by decide) r.2⟩)
    (Cert.Reference4Ideal.PleFirst.run m g)

theorem reference_frame_pre : Cert.quiescent_Reference4Ideal_pre_finite4 :=
  fun m g _ => reference_frame m g trivial

end Cert.PleFirst

end
-- ==== Proof.Loss.Spec.lean ====
/- The mean-square loss behind the final norm and the last embedding, and its gradients with respect to the norm's row and
   weight: by the formulas that a kernel uses, and by the chain rule. -/
module

public import proofs.«01_k».proof.Proof.Ple.Spec
public import Idealize.ShloMosaic.Lib.Pipeline.ValueKit.Acc

@[expose] public section

set_option maxRecDepth 16384

noncomputable section

open Idealize.ShloMosaic

namespace Cert.Loss

variable (X : Fin 8192 → Fin 1024 → EReal) (p : FVec Ideal ⟨4, ![2, 1, 8192, 256]⟩ .f32) (g : FVec Ideal ⟨2, ![2, 1024]⟩ .f32)
  (w : FVec Ideal ⟨3, ![2, 256, 1024]⟩ .f32) (wg : FVec Ideal ⟨3, ![2, 1024, 1024]⟩ .f32) (gf : FVec Ideal ⟨1, ![1024]⟩ .f32)
  (tg : FVec Ideal ⟨3, ![1, 8192, 1024]⟩ .f32)

/-- The last embedding's output: the row that the final norm reads. -/
def out : Fin 8192 → Fin 1024 → EReal := Ple.out 1 X p g w wg
/-- The normalised row's distance from the target. -/
def err (r : Fin 8192) (d : Fin 1024) : EReal := out X p g w wg r d * Rms.scale (out X p g w wg r) * gf (ix1 d) - tg (ix3 0 r d)
/-- The loss's cotangent of that distance. -/
def dErr (r : Fin 8192) (d : Fin 1024) : EReal := Ideal.div (err X p g w wg gf tg r d) (Ideal.ofBits .f32 0x44800000#32)
/-- The same by the chain rule. -/
def dErrChain (r : Fin 8192) (d : Fin 1024) : EReal := Ideal.div (Ideal.ofBits .f32 0x3F000000#32) (Ideal.ofBits .f32 0x44800000#32) * ((Ideal.ofBits .f32 0x40000000#32) * err X p g w wg gf tg r d)
/-- The cotangent of the scaled row. -/
def dScaled (r : Fin 8192) (d : Fin 1024) : EReal := dErr X p g w wg gf tg r d * gf (ix1 d)
/-- The same by the chain rule. -/
def dScaledChain (r : Fin 8192) (d : Fin 1024) : EReal := dErrChain X p g w wg gf tg r d * gf (ix1 d)
/-- The cotangent of the final norm's row. -/
def dy (r : Fin 8192) (d : Fin 1024) : EReal := Rms.pull (out X p g w wg r) (dScaled X p g w wg gf tg r) d
/-- The same by the chain rule. -/
def dyChain (r : Fin 8192) (d : Fin 1024) : EReal :=
  dScaledChain X p g w wg gf tg r d * Rms.scale (out X p g w wg r) + out X p g w wg r d * Rms.share (out X p g w wg r) (dScaledChain X p g w wg gf tg r)
    + Rms.share (out X p g w wg r) (dScaledChain X p g w wg gf tg r) * out X p g w wg r d
/-- The cotangent of the final norm's weight, for a cotangent of the distance. -/
def dg (e : Fin 8192 → Fin 1024 → EReal) (d : Fin 1024) : EReal := ∑ r : Fin 8192, e r d * (out X p g w wg r d * Rms.scale (out X p g w wg r))
/-- The loss, summed block by block. -/
def lossBlocks : EReal :=
  ∑ q : Fin 16, Ideal.div ((Ideal.ofBits .f32 0x3F000000#32) * ∑ d : Fin 1024, ∑ i : Fin 512, err X p g w wg gf tg ⟨q.val * 512 + i.val, by omega⟩ d * err X p g w wg gf tg ⟨q.val * 512 + i.val, by omega⟩ d) (Ideal.ofBits .f32 0x44800000#32)
/-- The loss, half the sum of the rows' means. -/
def loss : EReal := (Ideal.ofBits .f32 0x3F000000#32) * ∑ r : Fin 8192, Ideal.div (∑ d : Fin 1024, err X p g w wg gf tg r d * err X p g w wg gf tg r d) (Ideal.ofBits .f32 0x44800000#32)

theorem ofBits_half : Ideal.ofBits .f32 0x3F000000#32 = ((1 / 2 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num

section reals

variable {X p g w wg gf tg} (hX : ∀ r k, Rms.IsReal (X r k)) (hp : ∀ i, Rms.IsReal (p i)) (hg : ∀ i, Rms.IsReal (g i))
  (hw : ∀ i, Rms.IsReal (w i)) (hwg : ∀ i, Rms.IsReal (wg i)) (hf : ∀ i, Rms.IsReal (gf i)) (ht : ∀ i, Rms.IsReal (tg i))
include hX hp hg hw hwg

theorem out_real (r : Fin 8192) (d : Fin 1024) : Rms.IsReal (out X p g w wg r d) := Ple.out_real hX hp hg hw hwg r d

include hf ht

theorem err_real (r : Fin 8192) (d : Fin 1024) : Rms.IsReal (err X p g w wg gf tg r d) :=
  (((out_real hX hp hg hw hwg r d).mul (Rms.IsReal.scale (out_real hX hp hg hw hwg r))).mul (hf _)).sub (ht _)

theorem dErrChain_eq : dErrChain X p g w wg gf tg = dErr X p g w wg gf tg := by
  funext r d
  obtain ⟨e, he⟩ := err_real hX hp hg hw hwg hf ht r d
  unfold dErrChain dErr
  rw [he, ofBits_half, ofBits_two, Rms.ofBits_1024, Rms.div_real _ (by norm_num), Rms.div_real _ (by norm_num), ← EReal.coe_mul, ← EReal.coe_mul]
  congr 1
  ring

theorem dScaledChain_eq : dScaledChain X p g w wg gf tg = dScaled X p g w wg gf tg := by
  unfold dScaledChain dScaled
  rw [dErrChain_eq hX hp hg hw hwg hf ht]

/-- Over reals the two forms of the row's cotangent are one. -/
theorem dyChain_eq (r : Fin 8192) (d : Fin 1024) : dyChain X p g w wg gf tg r d = dy X p g w wg gf tg r d := by
  unfold dyChain dy
  rw [dScaledChain_eq hX hp hg hw hwg hf ht]
  have h := Rms.chain_eq_pull (out_real hX hp hg hw hwg r) (h := dScaled X p g w wg gf tg r)
    (fun d => (Rms.IsReal.div_1024 (err_real hX hp hg hw hwg hf ht r d)).mul (hf _)) d 0
  rwa [zero_add, zero_add] at h

/-- Over reals the loss may be summed block by block. -/
theorem lossBlocks_eq : loss X p g w wg gf tg = lossBlocks X p g w wg gf tg := by
  choose E hE using err_real hX hp hg hw hwg hf ht
  unfold loss lossBlocks
  simp only [hE, ← EReal.coe_mul, Rms.coe_sum, ofBits_half, Rms.ofBits_1024]
  simp only [Rms.div_real _ (show (1024 : ℝ) ≠ 0 by norm_num), Rms.coe_sum, ← EReal.coe_mul]
  refine congrArg Real.toEReal ?_
  rw [← Finset.sum_div, ← Finset.sum_div, ← Finset.mul_sum, mul_div_assoc]
  refine congrArg (fun s : ℝ => 1 / 2 * (s / 1024)) ?_
  have h : ∑ q : Fin 16, ∑ i : Fin 512, ∑ d : Fin 1024, E ⟨q.val * 512 + i.val, by omega⟩ d * E ⟨q.val * 512 + i.val, by omega⟩ d
      = ∑ r : Fin 8192, ∑ d : Fin 1024, E r d * E r d := Fin.sum_mul_add_congr fun q k hl => rfl
  rw [← h]
  exact Finset.sum_congr rfl fun q _ => Finset.sum_comm

end reals

end Cert.Loss

end
-- ==== Proof.Loss.Steps.lean ====
/- The reference's values, step by step, and what each holds (Loss/Spec.lean). -/
module

public import proofs.«01_k».proof.Proof.Loss.Spec
public import proofs.«01_k».proof.Proof.Gen.Reference5Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference5Ideal.Loss

open Cert.Reference5Ideal Cert.Reference5Ideal.Gen
open Cert Cert.Loss

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev p : FVec Ideal ⟨4, ![2, 1, 8192, 256]⟩ .f32 := m ((c.tc : Thread nD τ).loc main_arg1)
abbrev g : FVec Ideal ⟨2, ![2, 1024]⟩ .f32 := m ((c.tc : Thread nD τ).loc main_arg2)
abbrev w : FVec Ideal ⟨3, ![2, 256, 1024]⟩ .f32 := m ((c.tc : Thread nD τ).loc main_arg3)
abbrev wg : FVec Ideal ⟨3, ![2, 1024, 1024]⟩ .f32 := m ((c.tc : Thread nD τ).loc main_arg4)
abbrev gf : FVec Ideal ⟨1, ![1024]⟩ .f32 := m ((c.tc : Thread nD τ).loc main_arg5)
abbrev tg : FVec Ideal ⟨3, ![1, 8192, 1024]⟩ .f32 := m ((c.tc : Thread nD τ).loc main_arg6)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq ((Rms.rowOf (x m c)) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale ((Rms.rowOf (x m c)) r) := by
  pointwise [scaleV, Rms.scale, sqV_at]
/-- The scaled row. -/
def normedV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (g m c) slices_S2x1024_S1x1024_1_0) shapeCasts_S1x1024_S1024)))
theorem normedV_at (r : Fin 8192) (d : Fin 1024) : normedV m c (ix3 0 r d) = Ple.normed 1 (Rms.rowOf (x m c)) (g m c) r d := by
  pointwise [normedV, Ple.normed, Rms.rowOf, scaleV_at]
/-- The gate. -/
def gateV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (Host.dotGeneral dot_S1x8192x1024_S1024x1024_S1x8192x1024_2_0_01_1_n_n none (normedV m c) (shapeCast S1024x1024 (extractStridedSlice S1x1024x1024 ![1, 0, 0] (wg m c) slices_S2x1024x1024_S1x1024x1024_1_0_0) shapeCasts_S1x1024x1024_S1024x1024)))))
theorem gateV_at (r : Fin 8192) (d : Fin 1024) : gateV m c (ix3 0 r d) = Ple.gate 1 (Rms.rowOf (x m c)) (g m c) (wg m c) r d := by
  pointwise [gateV, Ple.gate, Ideal.logistic, normedV_at]
/-- The embedding, projected. -/
def embV : FVec Ideal S1x8192x1024 .f32 := Host.dotGeneral dot_S1x8192x256_S256x1024_S1x8192x1024_2_0_01_1_n_n none (shapeCast S1x8192x256 (extractStridedSlice S1x1x8192x256 ![1, 0, 0, 0] (p m c) slices_S2x1x8192x256_S1x1x8192x256_1_0_0_0) shapeCasts_S1x1x8192x256_S1x8192x256) (shapeCast S256x1024 (extractStridedSlice S1x256x1024 ![1, 0, 0] (w m c) slices_S2x256x1024_S1x256x1024_1_0_0) shapeCasts_S1x256x1024_S256x1024)
theorem embV_at (r : Fin 8192) (d : Fin 1024) : embV m c (ix3 0 r d) = Ple.emb 1 (p m c) (w m c) r d := by
  pointwise [embV, Ple.emb]
/-- The embedding's output. -/
def outV : FVec Ideal S1x8192x1024 .f32 := addf (x m c) (mulf (gateV m c) (embV m c))
theorem outV_at (r : Fin 8192) (d : Fin 1024) : outV m c (ix3 0 r d) = out (Rms.rowOf (x m c)) (p m c) (g m c) (w m c) (wg m c) r d := by
  pointwise [outV, out, Ple.out, Rms.rowOf, gateV_at, embV_at]
/-- The mean square of each row of it, with the constant added. -/
def sqOutV : FVec Ideal S1x8192x1 .f32 := addf (Host.divf (broadcastInDim S1x8192x1 ![0, 1] bcast_S1x8192_S1x8192x1_0_1 (Host.reduceAdd (mulf (outV m c) (outV m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqOutV_at (r : Fin 8192) : sqOutV m c (ix3 0 r 0) = Rms.meanSq ((out (Rms.rowOf (x m c)) (p m c) (g m c) (w m c) (wg m c)) r) := by
  pointwise [sqOutV, Rms.meanSq, outV_at]
/-- The scale of each row of it. -/
def scaleOutV : FVec Ideal S1x8192x1 .f32 := Host.rsqrt (sqOutV m c)
theorem scaleOutV_at (r : Fin 8192) : scaleOutV m c (ix3 0 r 0) = Rms.scale ((out (Rms.rowOf (x m c)) (p m c) (g m c) (w m c) (wg m c)) r) := by
  pointwise [scaleOutV, Rms.scale, sqOutV_at]
/-- The normalised row's distance from the target. -/
def errV : FVec Ideal S1x8192x1024 .f32 := subf (mulf (mulf (outV m c) (broadcastInDim S1x8192x1024 ![0, 1, 2] bcast_S1x8192x1_S1x8192x1024_0_1_2 (scaleOutV m c))) (broadcastInDim S1x8192x1024 ![0, 1, 2] bcast_S1x1x1024_S1x8192x1024_0_1_2 (broadcastInDim S1x1x1024 ![2] bcast_S1024_S1x1x1024_2 (gf m c)))) (tg m c)
theorem errV_at (r : Fin 8192) (d : Fin 1024) : errV m c (ix3 0 r d) = err (Rms.rowOf (x m c)) (p m c) (g m c) (w m c) (wg m c) (gf m c) (tg m c) r d := by
  pointwise [errV, err, outV_at, scaleOutV_at]
/-- The loss's cotangent of that distance. -/
def dErrV : FVec Ideal S1x8192x1024 .f32 := mulf (broadcastInDim S1x8192x1024 ![0, 1] bcast_S1x8192_S1x8192x1024_0_1 (Host.divf (broadcastInDim S1x8192 ![] bcast_S_S1x8192 (mulf (constant S_ .f32 0x3F000000#32) (constant S_ .f32 0x3F800000#32))) (broadcastInDim S1x8192 ![] bcast_S_S1x8192 (constant S_ .f32 0x44800000#32)))) (mulf (broadcastInDim S1x8192x1024 ![] bcast_S_S1x8192x1024 (constant S_ .f32 0x40000000#32)) (errV m c))
theorem dErrV_at (r : Fin 8192) (d : Fin 1024) : dErrV m c (ix3 0 r d) = dErrChain (Rms.rowOf (x m c)) (p m c) (g m c) (w m c) (wg m c) (gf m c) (tg m c) r d := by
  pointwise [dErrV, dErrChain, errV_at]
/-- The cotangent of the scaled row. -/
def dScaledV : FVec Ideal S1x8192x1024 .f32 := mulf (dErrV m c) (broadcastInDim S1x8192x1024 ![0, 1, 2] bcast_S1x1x1024_S1x8192x1024_0_1_2 (broadcastInDim S1x1x1024 ![2] bcast_S1024_S1x1x1024_2 (gf m c)))
theorem dScaledV_at (r : Fin 8192) (d : Fin 1024) : dScaledV m c (ix3 0 r d) = dScaledChain (Rms.rowOf (x m c)) (p m c) (g m c) (w m c) (wg m c) (gf m c) (tg m c) r d := by
  pointwise [dScaledV, dScaledChain, dErrV_at]
/-- The mean square's share of the row's cotangent. -/
def shareV : FVec Ideal S8192 .f32 := Host.reduceAdd (Host.divf (mulf (shapeCast S1x8192x1 (Host.reduceAdd (mulf (outV m c) (dScaledV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleOutV m c) (sqOutV m c)))) (broadcastInDim S1x8192x1 ![] bcast_S_S1x8192x1 (constant S_ .f32 0x44800000#32))) (constant S_ .f32 0x00000000#32) reducesTo_S1x8192x1_S8192_d0_2 h_S_
theorem shareV_at (r : Fin 8192) : shareV m c (ix1 r) = Rms.share ((out (Rms.rowOf (x m c)) (p m c) (g m c) (w m c) (wg m c)) r) (dScaledChain (Rms.rowOf (x m c)) (p m c) (g m c) (w m c) (wg m c) (gf m c) (tg m c) r) := by
  pointwise [shareV, Rms.share, Cert.Util.hostReduceAdd_unit02, dScaledV_at, scaleOutV_at, sqOutV_at, outV_at]
/-- The row's cotangent. -/
def dyV : FVec Ideal S8192x1024 .f32 := shapeCast S8192x1024 (addf (addf (mulf (dScaledV m c) (broadcastInDim S1x8192x1024 ![0, 1, 2] bcast_S1x8192x1_S1x8192x1024_0_1_2 (scaleOutV m c))) (mulf (outV m c) (broadcastInDim S1x8192x1024 ![0, 1] bcast_S1x8192_S1x8192x1024_0_1 (broadcastInDim S1x8192 ![1] bcast_S8192_S1x8192_1 (shareV m c))))) (mulf (broadcastInDim S1x8192x1024 ![0, 1] bcast_S1x8192_S1x8192x1024_0_1 (broadcastInDim S1x8192 ![1] bcast_S8192_S1x8192_1 (shareV m c))) (outV m c))) shapeCasts_S1x8192x1024_S8192x1024
theorem dyV_at (r : Fin 8192) (d : Fin 1024) : dyV m c (ix2 r d) = dyChain (Rms.rowOf (x m c)) (p m c) (g m c) (w m c) (wg m c) (gf m c) (tg m c) r d := by
  pointwise [dyV, dyChain, outV_at, scaleOutV_at, dScaledV_at, shareV_at]
/-- The norm's weight's cotangent. -/
def dgV : FVec Ideal S1x1024 .f32 := broadcastInDim S1x1024 ![1] bcast_S1024_S1x1024_1 (Host.reduceAdd (shapeCast S1x1x1024 (Host.reduceAdd (mulf (mulf (outV m c) (broadcastInDim S1x8192x1024 ![0, 1, 2] bcast_S1x8192x1_S1x8192x1024_0_1_2 (scaleOutV m c))) (dErrV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgV_at (d : Fin 1024) : dgV m c (ix2 0 d) = dg (Rms.rowOf (x m c)) (p m c) (g m c) (w m c) (wg m c) (dErrChain (Rms.rowOf (x m c)) (p m c) (g m c) (w m c) (wg m c) (gf m c) (tg m c)) d := by
  pointwise [dgV, dg, Cert.Util.hostReduceAdd_unit01, scaleOutV_at, outV_at, dErrV_at]
  exact Finset.sum_congr (M := EReal) rfl fun r _ => mul_comm (G := EReal) _ _
/-- The loss. -/
def lossV : FVec Ideal S8x128 .f32 := broadcastInDim S8x128 ![] bcast_S_S8x128 (mulf (constant S_ .f32 0x3F000000#32) (Host.reduceAdd (Host.divf (Host.reduceAdd (mulf (errV m c) (errV m c)) (constant S_ .f32 0x00000000#32) reducesTo_S1x8192x1024_S1x8192_d2 h_S_) (broadcastInDim S1x8192 ![] bcast_S_S1x8192 (constant S_ .f32 0x44800000#32))) (constant S_ .f32 0x00000000#32) reducesTo_S1x8192_S_d0_1 h_S_))
theorem lossV_at (i : Fin 8) (j : Fin 128) : lossV m c (ix2 i j) = loss (Rms.rowOf (x m c)) (p m c) (g m c) (w m c) (wg m c) (gf m c) (tg m c) := by
  pointwise [lossV, loss, errV_at]
  exact congrArg (fun q : EReal => _ * q) (Fin.sum_univ_one (M := EReal) _)

end Cert.Reference5Ideal.Loss

end
-- ==== Proof.Loss.Ref.lean ====
/- The reference's run: the loss and its gradients by the chain rule (Loss/Spec.lean). -/
module

public import proofs.«01_k».proof.Proof.Loss.Steps

@[expose] public section

set_option maxRecDepth 16384

noncomputable section

open Idealize.ShloMosaic Idealize.ShloMosaic.TcCoe Idealize.SL.Sem

namespace Cert.Reference5Ideal.Loss

open Cert.Reference5Ideal Cert.Reference5Ideal.Gen
open Cert.Loss

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v83) = (fun i => dyChain (Rms.rowOf (x m c)) (p m c) (g m c) (w m c) (wg m c) (gf m c) (tg m c) (i 0) (i 1))
      ∧ r.2.mem ((c.tc : Thread nD τ).loc main_v84) = (fun i => dg (Rms.rowOf (x m c)) (p m c) (g m c) (w m c) (wg m c) (dErrChain (Rms.rowOf (x m c)) (p m c) (g m c) (w m c) (wg m c) (gf m c) (tg m c)) (i 1))
      ∧ r.2.mem ((c.tc : Thread nD τ).loc main_v85) = (fun _ => loss (Rms.rowOf (x m c)) (p m c) (g m c) (w m c) (wg m c) (gf m c) (tg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Value.run m ρ)
  obtain ⟨h0, h1, h2, hargs⟩ := h c
  exact ⟨h0.trans (show dyV m c = _ from funext fun i => by idx_vars i; exact dyV_at m c i0 i1), h1.trans (show dgV m c = _ from funext fun i => by idx_vars i; obtain rfl : i0 = 0 := Subsingleton.elim _ _; exact dgV_at m c i1), h2.trans (show lossV m c = _ from funext fun i => by idx_vars i; exact lossV_at m c i0 i1), hargs⟩

end Cert.Reference5Ideal.Loss

end
-- ==== Proof.Loss.Blocks.lean ====
/- What the kernel's blocks hold at a grid point: rows of the arguments. -/
module

public import proofs.«01_k».proof.Proof.Loss.Spec
public import proofs.«01_k».proof.Proof.Gen.Kernel5Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel5Ideal.Loss

open Cert.Kernel5Ideal Cert.Kernel5Ideal.Gen
open Cert Cert.Loss

variable (m : (ℓ : Loc nD τ sig) → Buf (Elt Ideal) ℓ) (c : Dev nD)

abbrev x : FVec Ideal ⟨3, ![1, 8192, 1024]⟩ .f32 := m ((c : Thread nD τ).loc main_arg0)
abbrev p : FVec Ideal ⟨4, ![2, 1, 8192, 256]⟩ .f32 := m ((c : Thread nD τ).loc main_arg1)
abbrev g : FVec Ideal ⟨2, ![2, 1024]⟩ .f32 := m ((c : Thread nD τ).loc main_arg2)
abbrev w : FVec Ideal ⟨3, ![2, 256, 1024]⟩ .f32 := m ((c : Thread nD τ).loc main_arg3)
abbrev wg : FVec Ideal ⟨3, ![2, 1024, 1024]⟩ .f32 := m ((c : Thread nD τ).loc main_arg4)
abbrev gf : FVec Ideal ⟨1, ![1024]⟩ .f32 := m ((c : Thread nD τ).loc main_arg5)
abbrev tg : FVec Ideal ⟨3, ![1, 8192, 1024]⟩ .f32 := m ((c : Thread nD τ).loc main_arg6)

theorem v0_at (r : Fin 8192) (j : Fin 1024) : V m c main_v0 (ix2 r j) = x m c (ix3 0 r j) := by
  unfold V
  after_reads_at

theorem v3_at (i j : Fin 1024) : V m c main_v3 (ix2 i j) = wg m c (ix3 1 i j) := by
  unfold V
  after_reads_at

theorem v6_at (i : Fin 256) (j : Fin 1024) : V m c main_v6 (ix2 i j) = w m c (ix3 1 i j) := by
  unfold V
  after_reads_at

theorem v7_at (j : Fin 1024) : V m c main_v7 (ix2 0 j) = gf m c (ix1 j) := by
  unfold V
  after_reads_at

theorem v8_at (r : Fin 8192) (j : Fin 1024) : V m c main_v8 (ix2 r j) = tg m c (ix3 0 r j) := by
  unfold V
  after_reads_at

theorem idx : ∀ t : Fin cfg0.N, win0_0.index t = ![t.val, 0] ∧ win0_1.index t = ![0, 0] ∧ win0_2.index t = ![0, 0] ∧ win0_3.index t = ![1, 0, t.val, 0] ∧ win0_4.index t = ![0, 0] ∧ win0_5.index t = ![0, 0] ∧ win0_6.index t = ![t.val, 0] ∧ win0_7.index t = ![t.val, 0] ∧ win0_8.index t = ![0, 0] ∧ win0_9.index t = ![0, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v0).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v0) (at0 t i j)).trans (v0_at m c _ _)
theorem at1 (t : Fin cfg0.N) (i : Fin 2) (j : Fin 1024) : ((View.whole main_arg2).slice (win0_1.rect t)).emb (ix2 i j) = ix2 i j := by
  blk_ext [idx t, row]
theorem blk1 (t : Fin cfg0.N) (i : Fin 2) (j : Fin 1024) : iblk m c 1 t (ix2 i j) = g m c (ix2 i j) :=
  (congrArg (V m c main_arg2) (at1 t i j)).trans (congrFun (V_main_arg2 m c) _)
theorem at2 (t : Fin cfg0.N) (i j : Fin 1024) : ((View.whole main_v3).slice (win0_2.rect t)).emb (ix2 i j) = ix2 i j := by
  blk_ext [idx t, row]
theorem blk2 (t : Fin cfg0.N) (i j : Fin 1024) : iblk m c 2 t (ix2 i j) = wg m c (ix3 1 i j) :=
  (congrArg (V m c main_v3) (at2 t i j)).trans (v3_at m c _ _)
theorem at3 (t : Fin cfg0.N) (a b : Fin 1) (i : Fin 512) (j : Fin 256) : ((View.whole main_arg1).slice (win0_3.rect t)).emb (ix4 a b i j) = ix4 1 0 (row t i) j := by
  blk_ext [idx t, row]
theorem blk3 (t : Fin cfg0.N) (a b : Fin 1) (i : Fin 512) (j : Fin 256) : iblk m c 3 t (ix4 a b i j) = p m c (ix4 1 0 (row t i) j) :=
  (congrArg (V m c main_arg1) (at3 t a b i j)).trans (congrFun (V_main_arg1 m c) _)
theorem at4 (t : Fin cfg0.N) (i : Fin 256) (j : Fin 1024) : ((View.whole main_v6).slice (win0_4.rect t)).emb (ix2 i j) = ix2 i j := by
  blk_ext [idx t, row]
theorem blk4 (t : Fin cfg0.N) (i : Fin 256) (j : Fin 1024) : iblk m c 4 t (ix2 i j) = w m c (ix3 1 i j) :=
  (congrArg (V m c main_v6) (at4 t i j)).trans (v6_at m c _ _)
theorem at5 (t : Fin cfg0.N) (j : Fin 1024) : ((View.whole main_v7).slice (win0_5.rect t)).emb (ix2 0 j) = ix2 0 j := by
  blk_ext [idx t, row]
theorem blk5 (t : Fin cfg0.N) (j : Fin 1024) : iblk m c 5 t (ix2 0 j) = gf m c (ix1 j) :=
  (congrArg (V m c main_v7) (at5 t j)).trans (v7_at m c _)
theorem at6 (t : Fin cfg0.N) (i : Fin 512) (j : Fin 1024) : ((View.whole main_v8).slice (win0_6.rect t)).emb (ix2 i j) = ix2 (row t i) j := by
  blk_ext [idx t, row]
theorem blk6 (t : Fin cfg0.N) (i : Fin 512) (j : Fin 1024) : iblk m c 6 t (ix2 i j) = tg m c (ix3 0 (row t i) j) :=
  (congrArg (V m c main_v8) (at6 t i j)).trans (v8_at m c _ _)
theorem at7 (t : Fin cfg0.N) (i : Fin 512) (j : Fin 1024) :
    ((View.whole main_v9_0).slice (win0_7.rect t)).emb (ix2 i j) = ix2 (row t i) j := by
  blk_ext [idx t, row]

end Cert.Kernel5Ideal.Loss

end
-- ==== Proof.Loss.Tile.lean ====
/- What the kernel computes of a block of rows. -/
module

public import proofs.«01_k».proof.Proof.Loss.Blocks

@[expose] public section

set_option maxRecDepth 16384

noncomputable section

open Idealize.ShloMosaic Idealize.ShloMosaic.TcCoe Idealize.SL.Sem
open Idealize.ShloMosaic.Pipeline (Dat)

namespace Cert.Kernel5Ideal.Loss

open Cert.Kernel5Ideal Cert.Kernel5Ideal.Gen
open Cert Cert.Loss

variable (m : (ℓ : Loc nD τ sig) → Buf (Elt Ideal) ℓ) (c : Dev nD)

/-- The constant added to a mean square. -/
abbrev eps : Ideal .f32 := (Ideal.ofBits .f32 0x358637BD#32)
/-- The last embedding's output. -/
theorem pay3_at (t : Fin cfg0.N) (i : Fin 512) (j : Fin 1024) : k0_pay3 (iblk m c 0 t) (View.ld (iblk m c 1 t) (Rect.unit ![1, 0] ![1, 1024] inb_S2x1024_S1x1024_1_0)) (iblk m c 2 t) (iblk m c 3 t) (iblk m c 4 t) (ix2 i j) = out (Rms.rowOf (x m c)) (p m c) (g m c) (w m c) (wg m c) (row t i) j := by
  pointwise [k0_pay3, out, Ple.out, Ple.gate, Ple.normed, Ple.emb, Rms.scale, Rms.meanSq, Rms.rowOf, Cert.Util.load_layer, blk0, blk1, blk2, blk3, blk4]
theorem pay7_at (t : Fin cfg0.N) (i : Fin 512) : k0_pay7 (k0_pay6 (iblk m c 0 t) (View.ld (iblk m c 1 t) (Rect.unit ![1, 0] ![1, 1024] inb_S2x1024_S1x1024_1_0)) (iblk m c 2 t) (iblk m c 3 t) (iblk m c 4 t)) eps (ix2 i 0) = Rms.scale ((out (Rms.rowOf (x m c)) (p m c) (g m c) (w m c) (wg m c)) (row t i)) := by
  pointwise [k0_pay7, k0_pay6, Rms.scale, Rms.meanSq, pay3_at]
theorem pay8_at (t : Fin cfg0.N) (i : Fin 512) (j : Fin 1024) : k0_pay8 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps (ix2 i j) = out (Rms.rowOf (x m c)) (p m c) (g m c) (w m c) (wg m c) (row t i) j * Rms.scale ((out (Rms.rowOf (x m c)) (p m c) (g m c) (w m c) (wg m c)) (row t i)) := by
  pointwise [k0_pay8, pay3_at, pay7_at]
/-- The distance from the target. -/
theorem pay9_at (t : Fin cfg0.N) (i : Fin 512) (j : Fin 1024) : k0_pay9 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps (iblk m c 5 t) (iblk m c 6 t) (ix2 i j) = err (Rms.rowOf (x m c)) (p m c) (g m c) (w m c) (wg m c) (gf m c) (tg m c) (row t i) j := by
  pointwise [k0_pay9, err, pay8_at, blk5, blk6]
/-- A block's share of the loss. -/
theorem pay10_at (t : Fin cfg0.N) (v : Vec Ideal S8x128 .f32) (a : Fin 8) (j : Fin 128) :
    k0_pay10 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps (iblk m c 5 t) (iblk m c 6 t) v (ix2 a j)
      = v (ix2 a j) + Ideal.div ((Ideal.ofBits .f32 0x3F000000#32) * ∑ d : Fin 1024, ∑ i : Fin 512, err (Rms.rowOf (x m c)) (p m c) (g m c) (w m c) (wg m c) (gf m c) (tg m c) (row t i) d * err (Rms.rowOf (x m c)) (p m c) (g m c) (w m c) (wg m c) (gf m c) (tg m c) (row t i) d) (Ideal.ofBits .f32 0x44800000#32) := by
  pointwise [k0_pay10, pay9_at]
/-- The cotangent of the distance. -/
theorem pay11_at (t : Fin cfg0.N) (i : Fin 512) (j : Fin 1024) : k0_pay11 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps (iblk m c 5 t) (iblk m c 6 t) (ix2 i j) = dErr (Rms.rowOf (x m c)) (p m c) (g m c) (w m c) (wg m c) (gf m c) (tg m c) (row t i) j := by
  pointwise [k0_pay11, dErr, pay9_at]
/-- A block of the row's cotangent. -/
theorem pay1_at (t : Fin cfg0.N) (i : Fin 512) (j : Fin 1024) :
    k0_pay1 (k0_pay12 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps (iblk m c 5 t) (iblk m c 6 t) (iblk m c 5 t)) (k0_pay13 (k0_pay6 (iblk m c 0 t) (View.ld (iblk m c 1 t) (Rect.unit ![1, 0] ![1, 1024] inb_S2x1024_S1x1024_1_0)) (iblk m c 2 t) (iblk m c 3 t) (iblk m c 4 t)) eps) (ix2 i j) = dy (Rms.rowOf (x m c)) (p m c) (g m c) (w m c) (wg m c) (gf m c) (tg m c) (row t i) j := by
  pointwise [k0_pay1, k0_pay12, k0_pay13, dy, dScaled, Rms.pull, pay7_at, pay8_at, pay11_at, blk5]
/-- A block's share of the norm's weight's cotangent. -/
theorem pay2_at (t : Fin cfg0.N) (v : Vec Ideal S1x1024 .f32) (a : Fin 1) (d : Fin 1024) :
    k0_pay2 (k0_pay8 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps) (k0_pay11 (k0_pay3 (iblk m c 0 t) (View.ld (iblk m c 1 t) (Rect.unit ![1, 0] ![1, 1024] inb_S2x1024_S1x1024_1_0)) (iblk m c 2 t) (iblk m c 3 t) (iblk m c 4 t)) (k0_pay6 (iblk m c 0 t) (View.ld (iblk m c 1 t) (Rect.unit ![1, 0] ![1, 1024] inb_S2x1024_S1x1024_1_0)) (iblk m c 2 t) (iblk m c 3 t) (iblk m c 4 t)) eps (iblk m c 5 t) (iblk m c 6 t)) v (ix2 a d)
      = v (ix2 a d) + ∑ i : Fin 512, dErr (Rms.rowOf (x m c)) (p m c) (g m c) (w m c) (wg m c) (gf m c) (tg m c) (row t i) d * (out (Rms.rowOf (x m c)) (p m c) (g m c) (w m c) (wg m c) (row t i) d * Rms.scale ((out (Rms.rowOf (x m c)) (p m c) (g m c) (w m c) (wg m c)) (row t i))) := by
  obtain rfl : a = 0 := Subsingleton.elim _ _
  pointwise [k0_pay2, pay8_at, pay11_at]

end Cert.Kernel5Ideal.Loss

end
-- ==== Proof.Loss.Outputs.lean ====
/- The kernel's results: the row's cotangent block by block, the weight's cotangent and the loss as sums over the blocks. -/
module

public import proofs.«01_k».proof.Proof.Loss.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Loss

open Cert.Kernel5Ideal Cert.Kernel5Ideal.Gen
open Cert Cert.Loss

variable (m : (ℓ : Loc nD τ sig) → Buf (Elt Ideal) ℓ) (c : Dev nD)

theorem final7 : (dats m 0 c).arrAt 7 (cfgs 0).N = fun i => dy (Rms.rowOf (x m c)) (p m c) (g m c) (w m c) (wg m c) (gf m c) (tg m c) (i 0) (i 1) := by
  refine (dats m 0 c).arrAt_eq_of_covers 7 _ (by decide +kernel) fun t _ y => ?_
  blk_simp
  idx_vars y
  rw [at7, after0_7]
  by_cases h0 : t.val % 16 = 0
  · rw [outsAt0_A m c t h0]; frame_out
    exact pay1_at m c t y0 y1
  · rw [outsAt0_B m c t h0]; frame_out
    exact pay1_at m c t y0 y1

theorem final8 : (dats m 0 c).arrAt 8 (cfgs 0).N = fun i => dg (Rms.rowOf (x m c)) (p m c) (g m c) (w m c) (wg m c) (dErr (Rms.rowOf (x m c)) (p m c) (g m c) (w m c) (wg m c) (gf m c) (tg m c)) (i 1) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun q j => ∑ i : Fin 512, dErr (Rms.rowOf (x m c)) (p m c) (g m c) (w m c) (wg m c) (gf m c) (tg m c) (row q i) (j 1) * (out (Rms.rowOf (x m c)) (p m c) (g m c) (w m c) (wg m c) (row q i) (j 1) * Rms.scale ((out (Rms.rowOf (x m c)) (p m c) (g m c) (w m c) (wg m c)) (row q i))))
    (fun t h j => by
      rw [outsAt0_A m c t h]; frame_out
      idx_vars j
      pointwise [k0_pay4, read_unread_whole]
      exact (pay2_at m c t _ j0 j1).trans (zero_add (M := EReal) _))
    (fun t h j => by
      rw [outsAt0_B m c t h]; frame_out
      idx_vars j
      pointwise [read_unread_whole]
      exact pay2_at m c t _ j0 j1)
    (le_of_eq N_0) t0_15 rfl j, zero_add]
  exact Fin.sum_mul_add_congr fun q k hl => rfl

theorem final9 : (dats m 0 c).arrAt 9 (cfgs 0).N = fun _ => lossBlocks (Rms.rowOf (x m c)) (p m c) (g m c) (w m c) (wg m c) (gf m c) (tg m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0)
    (fun q j => Ideal.div ((Ideal.ofBits .f32 0x3F000000#32) * ∑ d : Fin 1024, ∑ i : Fin 512, err (Rms.rowOf (x m c)) (p m c) (g m c) (w m c) (wg m c) (gf m c) (tg m c) (row q i) d * err (Rms.rowOf (x m c)) (p m c) (g m c) (w m c) (wg m c) (gf m c) (tg m c) (row q i) d) (Ideal.ofBits .f32 0x44800000#32))
    (fun t h j => by
      rw [outsAt0_A m c t h]; frame_out
      idx_vars j
      pointwise [k0_pay5, read_unread_whole]
      exact (pay10_at m c t _ j0 j1).trans (zero_add (M := EReal) _))
    (fun t h j => by
      rw [outsAt0_B m c t h]; frame_out
      idx_vars j
      pointwise [read_unread_whole]
      exact pay10_at m c t _ j0 j1)
    (le_of_eq N_0) t0_15 rfl j, zero_add]
  rfl

end Cert.Kernel5Ideal.Loss

end
-- ==== Proof.Loss.Run.lean ====
/- The kernel's run: the loss and its gradients (Loss/Spec.lean). -/
module

public import proofs.«01_k».proof.Proof.Loss.Outputs

@[expose] public section

set_option maxRecDepth 16384

noncomputable section

open Idealize.ShloMosaic Idealize.ShloMosaic.TcCoe Idealize.SL.Sem

namespace Cert.Kernel5Ideal.Loss

open Cert.Kernel5Ideal Cert.Kernel5Ideal.Gen
open Cert.Loss

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v9_0) = (fun i => dy (Rms.rowOf (x m c)) (p m c) (g m c) (w m c) (wg m c) (gf m c) (tg m c) (i 0) (i 1))
      ∧ r.2.mem ((c.tc : Thread nD τ).loc main_v9_1) = (fun i => dg (Rms.rowOf (x m c)) (p m c) (g m c) (w m c) (wg m c) (dErr (Rms.rowOf (x m c)) (p m c) (g m c) (w m c) (wg m c) (gf m c) (tg m c)) (i 1))
      ∧ r.2.mem ((c.tc : Thread nD τ).loc main_v9_2) = (fun _ => lossBlocks (Rms.rowOf (x m c)) (p m c) (g m c) (w m c) (wg m c) (gf m c) (tg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (θ_run_and (run_main m ρ) (unchanged m ρ)) fun r h c =>
    ⟨((h.1 c).1 7).trans (final7 m c), ((h.1 c).1 8).trans (final8 m c), ((h.1 c).1 9).trans (final9 m c), h.2 c⟩

end Cert.Kernel5Ideal.Loss

end
-- ==== Proof.Loss.Pair.lean ====
/- The pair: over reals the kernel's results are the reference's. -/
module

public import proofs.«01_k».proof.Defs
public import proofs.«01_k».proof.Proof.Gen.Pre_finite5
public import proofs.«01_k».proof.Proof.Loss.Ref
public import proofs.«01_k».proof.Proof.Loss.Run

@[expose] public section

set_option maxRecDepth 16384

noncomputable section

open Idealize.ShloMosaic Idealize.ShloMosaic.TcCoe Idealize.SL.Sem

namespace Cert.Loss

open Cert.Reference5Ideal.Loss in
theorem algebraic : Cert.algebraic_Kernel5Ideal_Reference5Ideal_pre_finite5 := by
  intro m ρ m' ρ' hpre hagree
  refine ⟨_, _, _, Cert.Kernel5Ideal.Loss.run m ρ, θ_run_mono (run m' ρ') fun r h c => ?_⟩
  obtain ⟨h0, h1, h2, hargs⟩ := h c
  have e0 : x m' c = Cert.Kernel5Ideal.Loss.x m c := (hagree c).1
  have e1 : p m' c = Cert.Kernel5Ideal.Loss.p m c := (hagree c).2.1
  have e2 : g m' c = Cert.Kernel5Ideal.Loss.g m c := (hagree c).2.2.1
  have e3 : w m' c = Cert.Kernel5Ideal.Loss.w m c := (hagree c).2.2.2.1
  have e4 : wg m' c = Cert.Kernel5Ideal.Loss.wg m c := (hagree c).2.2.2.2.1
  have e5 : gf m' c = Cert.Kernel5Ideal.Loss.gf m c := (hagree c).2.2.2.2.2.1
  have e6 : tg m' c = Cert.Kernel5Ideal.Loss.tg m c := (hagree c).2.2.2.2.2.2
  have f0 : ∀ j, Rms.IsReal (Cert.Kernel5Ideal.Loss.x m c j) := Rms.IsReal.of_cmp _ _ (fun _ => Rms.ofBits_inf) ((hpre c).1)
  have f1 : ∀ j, Rms.IsReal (Cert.Kernel5Ideal.Loss.p m c j) := Rms.IsReal.of_cmp _ _ (fun _ => Rms.ofBits_inf) ((hpre c).2.1)
  have f2 : ∀ j, Rms.IsReal (Cert.Kernel5Ideal.Loss.g m c j) := Rms.IsReal.of_cmp _ _ (fun _ => Rms.ofBits_inf) ((hpre c).2.2.1)
  have f3 : ∀ j, Rms.IsReal (Cert.Kernel5Ideal.Loss.w m c j) := Rms.IsReal.of_cmp _ _ (fun _ => Rms.ofBits_inf) ((hpre c).2.2.2.1)
  have f4 : ∀ j, Rms.IsReal (Cert.Kernel5Ideal.Loss.wg m c j) := Rms.IsReal.of_cmp _ _ (fun _ => Rms.ofBits_inf) ((hpre c).2.2.2.2.1)
  have f5 : ∀ j, Rms.IsReal (Cert.Kernel5Ideal.Loss.gf m c j) := Rms.IsReal.of_cmp _ _ (fun _ => Rms.ofBits_inf) ((hpre c).2.2.2.2.2.1)
  have f6 : ∀ j, Rms.IsReal (Cert.Kernel5Ideal.Loss.tg m c j) := Rms.IsReal.of_cmp _ _ (fun _ => Rms.ofBits_inf) ((hpre c).2.2.2.2.2.2)
  exact ⟨h0.trans (by rewrite [e0, e1, e2, e3, e4, e5, e6]; exact funext fun i => dyChain_eq (fun _ _ => f0 _) f1 f2 f3 f4 f5 f6 _ _), h1.trans (by rewrite [e0, e1, e2, e3, e4, e5, e6]; exact funext fun i => congrArg (fun E => dg (Rms.rowOf (Cert.Kernel5Ideal.Loss.x m c)) (Cert.Kernel5Ideal.Loss.p m c) (Cert.Kernel5Ideal.Loss.g m c) (Cert.Kernel5Ideal.Loss.w m c) (Cert.Kernel5Ideal.Loss.wg m c) E (i 1)) (dErrChain_eq (fun _ _ => f0 _) f1 f2 f3 f4 f5 f6)), h2.trans (by rewrite [e0, e1, e2, e3, e4, e5, e6]; exact funext fun _ => lossBlocks_eq (fun _ _ => f0 _) f1 f2 f3 f4 f5 f6), hargs⟩

theorem reference_frame : Cert.quiescent_Reference5Ideal := by
  intro m g _
  exact (θ_run Cert.Reference5Ideal.defs _ _).mono (fun r h => ⟨fun c => (h c).2.2.2, sem_eq_zero_of_no_sems (by decide) r.2⟩)
    (Cert.Reference5Ideal.Loss.run m g)

theorem reference_frame_pre : Cert.quiescent_Reference5Ideal_pre_finite5 :=
  fun m g _ => reference_frame m g trivial

end Cert.Loss

end
-- ==== Proof.FwdUp.Spec.lean ====
/- A projection behind its norm, entry by entry: what the forward calls compute of a row.

   For a token `r` and layer `l` of the stacks: the row `X r` scaled by one over its root mean square and by `g`
   (`Ple.normed`), then multiplied by the layer's weight. -/
module

public import proofs.«01_k».proof.Proof.Ple.Spec

@[expose] public section

set_option maxRecDepth 16384

noncomputable section

open Idealize.ShloMosaic

namespace Cert.FwdUp

/-- The scaled row through the weight. -/
def proj {n : ℕ} (l : Fin 2) (X : Fin 8192 → Fin 1024 → EReal) (g : FVec Ideal ⟨2, ![2, 1024]⟩ .f32)
    (w : FVec Ideal ⟨3, ![2, 1024, n]⟩ .f32) (r : Fin 8192) (j : Fin n) : EReal :=
  ∑ d : Fin 1024, Ple.normed l X g r d * w (ix3 l d j)

/-- Column `j` of a part of a block's columns that starts at `o` is the block's column `o + j`. -/
theorem emb_cols {r n o w : ℕ} (h : ∀ a, (![0, o] : Fin 2 → ℕ) a + (![r, w] : Fin 2 → ℕ) a ≤ (⟨2, ![r, n]⟩ : Shape).size a) (i : Fin r) (j : Fin w) :
    (Rect.unit (s := ⟨2, ![r, n]⟩) ![0, o] ![r, w] h).emb (ix2 i j) = ix2 i ⟨o + j.val, by have : o + w ≤ n := h 1; omega⟩ := by
  funext a; apply Fin.ext
  fin_cases a
  · show 0 + 1 * i.val = i.val; omega
  · show o + 1 * j.val = o + j.val; omega

end Cert.FwdUp

end
-- ==== Proof.FwdIn.Spec.lean ====
/- The embedding followed by the in-projection, entry by entry: what both programs of the pair compute.

   The row after layer 0's embedding (`Ple.out`), that row scaled by layer 1's norm, and its projection (FwdUp/Spec.lean). -/
module

public import proofs.«01_k».proof.Proof.FwdUp.Spec

@[expose] public section

set_option maxRecDepth 16384

noncomputable section

open Idealize.ShloMosaic

namespace Cert.FwdIn

variable (X : Fin 8192 → Fin 1024 → EReal) (p : FVec Ideal ⟨4, ![2, 1, 8192, 256]⟩ .f32) (gm : FVec Ideal ⟨2, ![2, 1024]⟩ .f32)
  (wi : FVec Ideal ⟨3, ![2, 1024, 4608]⟩ .f32) (g : FVec Ideal ⟨2, ![2, 1024]⟩ .f32)
  (w : FVec Ideal ⟨3, ![2, 256, 1024]⟩ .f32) (wg : FVec Ideal ⟨3, ![2, 1024, 1024]⟩ .f32)

/-- The row after the embedding. -/
abbrev next (r : Fin 8192) (d : Fin 1024) : EReal := Ple.out 0 X p g w wg r d
/-- That row scaled. -/
def scaled (r : Fin 8192) (d : Fin 1024) : EReal := Ple.normed 1 (Ple.out 0 X p g w wg) gm r d
/-- The scaled row through the in-projection. -/
def into (r : Fin 8192) (j : Fin 4608) : EReal := ∑ d : Fin 1024, scaled X p gm g w wg r d * wi (ix3 1 d j)

end Cert.FwdIn

end
-- ==== Proof.FwdIn.Steps.lean ====
/- The reference's values, step by step, and what each holds (FwdIn/Spec.lean). -/
module

public import proofs.«01_k».proof.Proof.FwdIn.Spec
public import proofs.«01_k».proof.Proof.Gen.Reference6Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference6Ideal.FwdIn

open Cert.Reference6Ideal Cert.Reference6Ideal.Gen
open Cert Cert.FwdIn

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev p : FVec Ideal ⟨4, ![2, 1, 8192, 256]⟩ .f32 := m ((c.tc : Thread nD τ).loc main_arg1)
abbrev gm : FVec Ideal ⟨2, ![2, 1024]⟩ .f32 := m ((c.tc : Thread nD τ).loc main_arg2)
abbrev wi : FVec Ideal ⟨3, ![2, 1024, 4608]⟩ .f32 := m ((c.tc : Thread nD τ).loc main_arg3)
abbrev g : FVec Ideal ⟨2, ![2, 1024]⟩ .f32 := m ((c.tc : Thread nD τ).loc main_arg4)
abbrev w : FVec Ideal ⟨3, ![2, 256, 1024]⟩ .f32 := m ((c.tc : Thread nD τ).loc main_arg5)
abbrev wg : FVec Ideal ⟨3, ![2, 1024, 1024]⟩ .f32 := m ((c.tc : Thread nD τ).loc main_arg6)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq ((Rms.rowOf (x m c)) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale ((Rms.rowOf (x m c)) r) := by
  pointwise [scaleV, Rms.scale, sqV_at]
/-- The scaled rows. -/
def normV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem normV_at (r : Fin 8192) (d : Fin 1024) : normV m c (ix3 0 r d) = Ple.normed 0 (Rms.rowOf (x m c)) (g m c) r d := by
  pointwise [normV, Ple.normed, Rms.rowOf, scaleV_at]
/-- The gate. -/
def gateV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (Host.dotGeneral dot_S1x8192x1024_S1024x1024_S1x8192x1024_2_0_01_1_n_n none (normV m c) (shapeCast S1024x1024 (extractStridedSlice S1x1024x1024 ![0, 0, 0] (wg m c) slices_S2x1024x1024_S1x1024x1024_0_0_0) shapeCasts_S1x1024x1024_S1024x1024)))))
theorem gateV_at (r : Fin 8192) (d : Fin 1024) : gateV m c (ix3 0 r d) = Ple.gate 0 (Rms.rowOf (x m c)) (g m c) (wg m c) r d := by
  pointwise [gateV, Ple.gate, Ideal.logistic, normV_at]
/-- The projected embedding. -/
def embV : FVec Ideal S1x8192x1024 .f32 := Host.dotGeneral dot_S1x8192x256_S256x1024_S1x8192x1024_2_0_01_1_n_n none (shapeCast S1x8192x256 (extractStridedSlice S1x1x8192x256 ![0, 0, 0, 0] (p m c) slices_S2x1x8192x256_S1x1x8192x256_0_0_0_0) shapeCasts_S1x1x8192x256_S1x8192x256) (shapeCast S256x1024 (extractStridedSlice S1x256x1024 ![0, 0, 0] (w m c) slices_S2x256x1024_S1x256x1024_0_0_0) shapeCasts_S1x256x1024_S256x1024)
theorem embV_at (r : Fin 8192) (d : Fin 1024) : embV m c (ix3 0 r d) = Ple.emb 0 (p m c) (w m c) r d := by
  pointwise [embV, Ple.emb]
/-- The row after the embedding. -/
def nextV : FVec Ideal S1x8192x1024 .f32 := addf (x m c) (mulf (gateV m c) (embV m c))
theorem nextV_at (r : Fin 8192) (d : Fin 1024) : nextV m c (ix3 0 r d) = Ple.out 0 (Rms.rowOf (x m c)) (p m c) (g m c) (w m c) (wg m c) r d := by
  pointwise [nextV, Ple.out, Rms.rowOf, gateV_at, embV_at]
/-- The mean square of the next row, with the constant added. -/
def sq2V : FVec Ideal S1x8192x1 .f32 := addf (Host.divf (broadcastInDim S1x8192x1 ![0, 1] bcast_S1x8192_S1x8192x1_0_1 (Host.reduceAdd (mulf (nextV m c) (nextV m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sq2V_at (r : Fin 8192) : sq2V m c (ix3 0 r 0) = Rms.meanSq (Ple.out 0 (Rms.rowOf (x m c)) (p m c) (g m c) (w m c) (wg m c) r) := by
  pointwise [sq2V, Rms.meanSq, nextV_at]
/-- The scale of the next row. -/
def scale2V : FVec Ideal S1x8192x1 .f32 := Host.rsqrt (sq2V m c)
theorem scale2V_at (r : Fin 8192) : scale2V m c (ix3 0 r 0) = Rms.scale (Ple.out 0 (Rms.rowOf (x m c)) (p m c) (g m c) (w m c) (wg m c) r) := by
  pointwise [scale2V, Rms.scale, sq2V_at]
/-- The next row, scaled. -/
def norm2V : FVec Ideal S1x8192x1024 .f32 := mulf (mulf (nextV m c) (broadcastInDim S1x8192x1024 ![0, 1, 2] bcast_S1x8192x1_S1x8192x1024_0_1_2 (scale2V m c))) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (gm m c) slices_S2x1024_S1x1024_1_0) shapeCasts_S1x1024_S1024)))
theorem norm2V_at (r : Fin 8192) (d : Fin 1024) : norm2V m c (ix3 0 r d) = scaled (Rms.rowOf (x m c)) (p m c) (gm m c) (g m c) (w m c) (wg m c) r d := by
  pointwise [norm2V, scaled, Ple.normed, nextV_at, scale2V_at]
/-- The next row, as returned. -/
def outV : FVec Ideal S8192x1024 .f32 := shapeCast S8192x1024 (nextV m c) shapeCasts_S1x8192x1024_S8192x1024
theorem outV_at (r : Fin 8192) (d : Fin 1024) : outV m c (ix2 r d) = Ple.out 0 (Rms.rowOf (x m c)) (p m c) (g m c) (w m c) (wg m c) r d := by
  pointwise [outV, nextV_at]
/-- The scaled row, as returned. -/
def hV : FVec Ideal S8192x1024 .bf16 := truncf .bf16 (shapeCast S8192x1024 (norm2V m c) shapeCasts_S1x8192x1024_S8192x1024) bitsLt_bf16_f32
theorem hV_at (r : Fin 8192) (d : Fin 1024) : hV m c (ix2 r d) = scaled (Rms.rowOf (x m c)) (p m c) (gm m c) (g m c) (w m c) (wg m c) r d := by
  pointwise [hV, norm2V_at]
/-- The projected row. -/
def zV : FVec Ideal S8192x4608 .bf16 := truncf .bf16 (shapeCast S8192x4608 (Host.dotGeneral dot_S1x8192x1024_S1024x4608_S1x8192x4608_2_0_01_1_n_n none (norm2V m c) (shapeCast S1024x4608 (extractStridedSlice S1x1024x4608 ![1, 0, 0] (wi m c) slices_S2x1024x4608_S1x1024x4608_1_0_0) shapeCasts_S1x1024x4608_S1024x4608)) shapeCasts_S1x8192x4608_S8192x4608) bitsLt_bf16_f32
theorem zV_at (r : Fin 8192) (j : Fin 4608) : zV m c (ix2 r j) = into (Rms.rowOf (x m c)) (p m c) (gm m c) (wi m c) (g m c) (w m c) (wg m c) r j := by
  pointwise [zV, into, norm2V_at]

end Cert.Reference6Ideal.FwdIn

end
-- ==== Proof.FwdIn.Ref.lean ====
/- The reference's run: the next row, the scaled row, the projected row (FwdIn/Spec.lean). -/
module

public import proofs.«01_k».proof.Proof.FwdIn.Steps

@[expose] public section

set_option maxRecDepth 16384

noncomputable section

open Idealize.ShloMosaic Idealize.ShloMosaic.TcCoe Idealize.SL.Sem

namespace Cert.Reference6Ideal.FwdIn

open Cert.Reference6Ideal Cert.Reference6Ideal.Gen
open Cert.FwdIn

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v49) = (fun i => Ple.out 0 (Rms.rowOf (x m c)) (p m c) (g m c) (w m c) (wg m c) (i 0) (i 1))
      ∧ r.2.mem ((c.tc : Thread nD τ).loc main_v51) = (fun i => scaled (Rms.rowOf (x m c)) (p m c) (gm m c) (g m c) (w m c) (wg m c) (i 0) (i 1))
      ∧ r.2.mem ((c.tc : Thread nD τ).loc main_v53) = (fun i => into (Rms.rowOf (x m c)) (p m c) (gm m c) (wi m c) (g m c) (w m c) (wg m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Value.run m ρ)
  obtain ⟨h0, h1, h2, hargs⟩ := h c
  exact ⟨h0.trans (show outV m c = _ from funext fun i => by idx_vars i; exact outV_at m c i0 i1), h1.trans (show hV m c = _ from funext fun i => by idx_vars i; exact hV_at m c i0 i1), h2.trans (show zV m c = _ from funext fun i => by idx_vars i; exact zV_at m c i0 i1), hargs⟩

end Cert.Reference6Ideal.FwdIn

end
-- ==== Proof.FwdIn.Blocks.lean ====
/- The arrays that the host code prepares for the kernel, and what the kernel's blocks hold of them. -/
module

public import proofs.«01_k».proof.Proof.FwdIn.Spec
public import proofs.«01_k».proof.Proof.Gen.Kernel6Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel6Ideal.FwdIn

open Cert.Kernel6Ideal Cert.Kernel6Ideal.Gen
open Cert Cert.FwdIn

variable (m : (ℓ : Loc nD τ sig) → Buf (Elt Ideal) ℓ) (c : Dev nD)

abbrev x : FVec Ideal ⟨3, ![1, 8192, 1024]⟩ .f32 := m ((c : Thread nD τ).loc main_arg0)
abbrev p : FVec Ideal ⟨4, ![2, 1, 8192, 256]⟩ .f32 := m ((c : Thread nD τ).loc main_arg1)
abbrev gm : FVec Ideal ⟨2, ![2, 1024]⟩ .f32 := m ((c : Thread nD τ).loc main_arg2)
abbrev wi : FVec Ideal ⟨3, ![2, 1024, 4608]⟩ .f32 := m ((c : Thread nD τ).loc main_arg3)
abbrev g : FVec Ideal ⟨2, ![2, 1024]⟩ .f32 := m ((c : Thread nD τ).loc main_arg4)
abbrev w : FVec Ideal ⟨3, ![2, 256, 1024]⟩ .f32 := m ((c : Thread nD τ).loc main_arg5)
abbrev wg : FVec Ideal ⟨3, ![2, 1024, 1024]⟩ .f32 := m ((c : Thread nD τ).loc main_arg6)

theorem v4_at (r : Fin 8192) (j : Fin 1024) : V m c main_v4 (ix2 r j) = x m c (ix3 0 r j) := by
  unfold V
  after_reads_at

theorem v3_at (r : Fin 4608) (j : Fin 1024) : V m c main_v3 (ix2 r j) = wi m c (ix3 1 j r) := by
  unfold V
  after_reads_at

theorem v7_at (r : Fin 1024) (j : Fin 1024) : V m c main_v7 (ix2 r j) = wg m c (ix3 0 r j) := by
  unfold V
  after_reads_at

theorem v10_at (r : Fin 256) (j : Fin 1024) : V m c main_v10 (ix2 r j) = w m c (ix3 0 r j) := by
  unfold V
  after_reads_at

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0, t.val, 0] ∧ win0_6.index t = ![0, 0] ∧ win0_7.index t = ![t.val, 0] ∧ win0_8.index t = ![t.val, 0] ∧ win0_9.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v4).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v4) (at0 t i j)).trans (v4_at m c _ _)
theorem at1 (t : Fin cfg0.N) (i : Fin 2) (j : Fin 1024) : ((View.whole main_arg2).slice (win0_1.rect t)).emb (ix2 i j) = ix2 i j := by
  blk_ext [idx t, row]
theorem blk1 (t : Fin cfg0.N) (i : Fin 2) (j : Fin 1024) : iblk m c 1 t (ix2 i j) = gm m c (ix2 i j) :=
  (congrArg (V m c main_arg2) (at1 t i j)).trans (congrFun (V_main_arg2 m c) _)
theorem at2 (t : Fin cfg0.N) (i : Fin 4608) (j : Fin 1024) : ((View.whole main_v3).slice (win0_2.rect t)).emb (ix2 i j) = ix2 i j := by
  blk_ext [idx t, row]
theorem blk2 (t : Fin cfg0.N) (i : Fin 4608) (j : Fin 1024) : iblk m c 2 t (ix2 i j) = wi m c (ix3 1 j i) :=
  (congrArg (V m c main_v3) (at2 t i j)).trans (v3_at m c _ _)
theorem at3 (t : Fin cfg0.N) (i : Fin 2) (j : Fin 1024) : ((View.whole main_arg4).slice (win0_3.rect t)).emb (ix2 i j) = ix2 i j := by
  blk_ext [idx t, row]
theorem blk3 (t : Fin cfg0.N) (i : Fin 2) (j : Fin 1024) : iblk m c 3 t (ix2 i j) = g m c (ix2 i j) :=
  (congrArg (V m c main_arg4) (at3 t i j)).trans (congrFun (V_main_arg4 m c) _)
theorem at4 (t : Fin cfg0.N) (i : Fin 1024) (j : Fin 1024) : ((View.whole main_v7).slice (win0_4.rect t)).emb (ix2 i j) = ix2 i j := by
  blk_ext [idx t, row]
theorem blk4 (t : Fin cfg0.N) (i : Fin 1024) (j : Fin 1024) : iblk m c 4 t (ix2 i j) = wg m c (ix3 0 i j) :=
  (congrArg (V m c main_v7) (at4 t i j)).trans (v7_at m c _ _)
theorem at5 (t : Fin cfg0.N) (a b : Fin 1) (i : Fin 512) (j : Fin 256) : ((View.whole main_arg1).slice (win0_5.rect t)).emb (ix4 a b i j) = ix4 0 0 (row t i) j := by
  blk_ext [idx t, row]
theorem blk5 (t : Fin cfg0.N) (a b : Fin 1) (i : Fin 512) (j : Fin 256) : iblk m c 5 t (ix4 a b i j) = p m c (ix4 0 0 (row t i) j) :=
  (congrArg (V m c main_arg1) (at5 t a b i j)).trans (congrFun (V_main_arg1 m c) _)
theorem at6 (t : Fin cfg0.N) (i : Fin 256) (j : Fin 1024) : ((View.whole main_v10).slice (win0_6.rect t)).emb (ix2 i j) = ix2 i j := by
  blk_ext [idx t, row]
theorem blk6 (t : Fin cfg0.N) (i : Fin 256) (j : Fin 1024) : iblk m c 6 t (ix2 i j) = w m c (ix3 0 i j) :=
  (congrArg (V m c main_v10) (at6 t i j)).trans (v10_at m c _ _)
theorem at7 (t : Fin cfg0.N) (i : Fin 512) (j : Fin 1024) : ((View.whole main_v11_0).slice (win0_7.rect t)).emb (ix2 i j) = ix2 (row t i) j := by
  blk_ext [idx t, row]
theorem at8 (t : Fin cfg0.N) (i : Fin 512) (j : Fin 1024) : ((View.whole main_v11_1).slice (win0_8.rect t)).emb (ix2 i j) = ix2 (row t i) j := by
  blk_ext [idx t, row]
theorem at9 (t : Fin cfg0.N) (i : Fin 512) (j : Fin 4608) : ((View.whole main_v11_2).slice (win0_9.rect t)).emb (ix2 i j) = ix2 (row t i) j := by
  blk_ext [idx t, row]

end Cert.Kernel6Ideal.FwdIn

end
-- ==== Proof.FwdIn.Tile.lean ====
/- What the kernel computes of a block of rows. -/
module

public import proofs.«01_k».proof.Proof.FwdIn.Blocks

@[expose] public section

set_option maxRecDepth 16384

noncomputable section

open Idealize.ShloMosaic Idealize.ShloMosaic.TcCoe Idealize.SL.Sem
open Idealize.ShloMosaic.Pipeline (Dat)

namespace Cert.Kernel6Ideal.FwdIn

open Cert.Kernel6Ideal Cert.Kernel6Ideal.Gen
open Cert Cert.FwdIn

variable (m : (ℓ : Loc nD τ sig) → Buf (Elt Ideal) ℓ) (c : Dev nD)

/-- A block of the row after the embedding. -/
theorem next_at (t : Fin cfg0.N) (i : Fin 512) (d : Fin 1024) : k0_pay13 (iblk m c 0 t) (iblk m c 1 t) (iblk m c 2 t) (iblk m c 3 t) (iblk m c 4 t) (iblk m c 5 t) (iblk m c 6 t) (ix2 i d) = Ple.out 0 (Rms.rowOf (x m c)) (p m c) (g m c) (w m c) (wg m c) (row t i) d := by
  pointwise [k0_pay13, k0_pay6, Ple.out, Ple.gate, Ple.emb, Ple.normed, Rms.scale, Rms.meanSq, Rms.rowOf, Cert.Util.load_layer, blk0, blk3, blk4, blk5, blk6]
/-- Its mean square, with the constant added. -/
theorem meanSq_at (t : Fin cfg0.N) (i : Fin 512) : k0_pay14 (iblk m c 0 t) (iblk m c 1 t) (iblk m c 2 t) (iblk m c 3 t) (iblk m c 4 t) (iblk m c 5 t) (iblk m c 6 t) (ix2 i 0) = Rms.meanSq (Ple.out 0 (Rms.rowOf (x m c)) (p m c) (g m c) (w m c) (wg m c) (row t i)) := by
  have h : k0_pay14 (iblk m c 0 t) (iblk m c 1 t) (iblk m c 2 t) (iblk m c 3 t) (iblk m c 4 t) (iblk m c 5 t) (iblk m c 6 t) = k0_pay7 (View.ld (iblk m c 0 t) r0_0) (View.ld (iblk m c 3 t) r0_1) (View.ld (iblk m c 4 t) r0_2) (View.ld (iblk m c 5 t) r0_3) (View.ld (iblk m c 6 t) r0_4) := rfl
  have h6 : ∀ d, k0_pay6 (View.ld (iblk m c 0 t) r0_0) (View.ld (iblk m c 3 t) r0_1) (View.ld (iblk m c 4 t) r0_2) (View.ld (iblk m c 5 t) r0_3) (View.ld (iblk m c 6 t) r0_4) (ix2 i d) = Ple.out 0 (Rms.rowOf (x m c)) (p m c) (g m c) (w m c) (wg m c) (row t i) d := fun d => next_at m c t i d
  rw [h]
  generalize Ple.out 0 (Rms.rowOf (x m c)) (p m c) (g m c) (w m c) (wg m c) (row t i) = y at h6 ⊢
  unfold k0_pay7
  generalize k0_pay6 (View.ld (iblk m c 0 t) r0_0) (View.ld (iblk m c 3 t) r0_1) (View.ld (iblk m c 4 t) r0_2) (View.ld (iblk m c 5 t) r0_3) (View.ld (iblk m c 6 t) r0_4) = n at h6 ⊢
  pointwise [Rms.meanSq, h6]
/-- A block of scaled rows. -/
theorem scaled_at (t : Fin cfg0.N) (i : Fin 512) (d : Fin 1024) : k0_pay8 (k0_pay13 (iblk m c 0 t) (iblk m c 1 t) (iblk m c 2 t) (iblk m c 3 t) (iblk m c 4 t) (iblk m c 5 t) (iblk m c 6 t)) (k0_pay14 (iblk m c 0 t) (iblk m c 1 t) (iblk m c 2 t) (iblk m c 3 t) (iblk m c 4 t) (iblk m c 5 t) (iblk m c 6 t)) (View.ld (iblk m c 1 t) r0_5) (ix2 i d) = scaled (Rms.rowOf (x m c)) (p m c) (gm m c) (g m c) (w m c) (wg m c) (row t i) d := by
  pointwise [k0_pay8, scaled, Ple.normed, Rms.scale, Cert.Util.load_layer, next_at, meanSq_at, blk1]
/-- The same under its other name. -/
theorem scaled_at' (t : Fin cfg0.N) (i : Fin 512) (d : Fin 1024) : k0_pay15 (iblk m c 0 t) (iblk m c 1 t) (iblk m c 2 t) (iblk m c 3 t) (iblk m c 4 t) (iblk m c 5 t) (iblk m c 6 t) (ix2 i d) = scaled (Rms.rowOf (x m c)) (p m c) (gm m c) (g m c) (w m c) (wg m c) (row t i) d :=
  scaled_at m c t i d

end Cert.Kernel6Ideal.FwdIn

end
-- ==== Proof.FwdIn.Outputs.lean ====
/- The kernel's result arrays: the next row, the scaled row, the projected row, block by block. -/
module

public import proofs.«01_k».proof.Proof.FwdIn.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.FwdIn

open Cert.Kernel6Ideal Cert.Kernel6Ideal.Gen
open Cert Cert.FwdIn

variable (m : (ℓ : Loc nD τ sig) → Buf (Elt Ideal) ℓ) (c : Dev nD)

theorem out7_at (t : Fin cfg0.N) (i : Fin 512) (d : Fin 1024) : out0_7 (iblk m c 0 t) (iblk m c 1 t) (iblk m c 2 t) (iblk m c 3 t) (iblk m c 4 t) (iblk m c 5 t) (iblk m c 6 t) (ix2 i d) = Ple.out 0 (Rms.rowOf (x m c)) (p m c) (g m c) (w m c) (wg m c) (row t i) d := by
  show View.canon (Val := Elt Ideal) (e := .f32) [⟨r0_0, k0_pay13 (iblk m c 0 t) (iblk m c 1 t) (iblk m c 2 t) (iblk m c 3 t) (iblk m c 4 t) (iblk m c 5 t) (iblk m c 6 t)⟩] (ix2 i d) = _
  frame_out
  exact next_at m c t i d

theorem final7 : (dats m 0 c).arrAt 7 (cfgs 0).N = fun i => Ple.out 0 (Rms.rowOf (x m c)) (p m c) (g m c) (w m c) (wg m c) (i 0) (i 1) := by
  refine (dats m 0 c).arrAt_eq_of_covers 7 _ (by decide +kernel) fun t _ y => ?_
  blk_simp
  idx_vars y
  rw [at7, after0_7]
  exact out7_at m c t y0 y1

theorem final8 : (dats m 0 c).arrAt 8 (cfgs 0).N = fun i => scaled (Rms.rowOf (x m c)) (p m c) (gm m c) (g m c) (w m c) (wg m c) (i 0) (i 1) := by
  refine (dats m 0 c).arrAt_eq_of_covers 8 _ (by decide +kernel) fun t _ y => ?_
  blk_simp
  idx_vars y
  rw [at8, after0_8]
  unfold out0_8
  frame_out
  exact scaled_at m c t y0 y1

/-- The block of projected rows at a point, as a function of the block's index. -/
def blockZ (t : Fin cfg0.N) : FVec Ideal S512x4608 .bf16 := fun y => into (Rms.rowOf (x m c)) (p m c) (gm m c) (wi m c) (g m c) (w m c) (wg m c) (row t (y 0)) (y 1)

theorem out9_at (t : Fin cfg0.N) (y : S512x4608.Idx) : (dats m 0 c).after 9 t y = blockZ m c t y := by
  rw [after0_9]
  unfold out0_9
  refine View.canon_apply_of_pieces (Val := Elt Ideal) (e := .bf16) (blockZ m c t) _ (View.PiecesOf.mem ?_) y (cover0_9 _ _ _ _ _ _ _ _ _ y)
  refine ⟨?_, ?_, ?_, ?_, ?_, ?_, ?_, ?_, ?_, trivial⟩
  all_goals
    intro q
    idx_vars q
    rw [FwdUp.emb_cols]
    pointwise [k0_pay1, k0_pay2, k0_pay3, k0_pay4, k0_pay5, k0_pay9, k0_pay10, k0_pay11, k0_pay12, blockZ, into, blk2]
    first
    | exact Finset.sum_congr rfl fun d _ => congrArg (· * _) (scaled_at' m c t _ d)
    | exact Finset.sum_congr rfl fun d _ => congrArg (· * _) (scaled_at m c t _ d)

theorem final9 : (dats m 0 c).arrAt 9 (cfgs 0).N = fun i => into (Rms.rowOf (x m c)) (p m c) (gm m c) (wi m c) (g m c) (w m c) (wg m c) (i 0) (i 1) := by
  refine (dats m 0 c).arrAt_eq_of_covers 9 _ (by decide +kernel) fun t _ y => ?_
  rw [out9_at]
  blk_simp
  idx_vars y
  rw [at9]
  rfl

end Cert.Kernel6Ideal.FwdIn

end
-- ==== Proof.FwdIn.Run.lean ====
/- The kernel's run: the next row, the scaled row, the projected row (FwdIn/Spec.lean). -/
module

public import proofs.«01_k».proof.Proof.FwdIn.Outputs

@[expose] public section

set_option maxRecDepth 16384

noncomputable section

open Idealize.ShloMosaic Idealize.ShloMosaic.TcCoe Idealize.SL.Sem

namespace Cert.Kernel6Ideal.FwdIn

open Cert.Kernel6Ideal Cert.Kernel6Ideal.Gen
open Cert.FwdIn

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v11_0) = (fun i => Ple.out 0 (Rms.rowOf (x m c)) (p m c) (g m c) (w m c) (wg m c) (i 0) (i 1))
      ∧ r.2.mem ((c.tc : Thread nD τ).loc main_v11_1) = (fun i => scaled (Rms.rowOf (x m c)) (p m c) (gm m c) (g m c) (w m c) (wg m c) (i 0) (i 1))
      ∧ r.2.mem ((c.tc : Thread nD τ).loc main_v11_2) = (fun i => into (Rms.rowOf (x m c)) (p m c) (gm m c) (wi m c) (g m c) (w m c) (wg m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (θ_run_and (run_main m ρ) (unchanged m ρ)) fun r h c =>
    ⟨((h.1 c).1 7).trans (final7 m c), ((h.1 c).1 8).trans (final8 m c), ((h.1 c).1 9).trans (final9 m c), h.2 c⟩

end Cert.Kernel6Ideal.FwdIn

end
-- ==== Proof.FwdIn.Pair.lean ====
/- The pair of the embedding and in-projection: the kernel's results are the reference's. -/
module

public import proofs.«01_k».proof.Defs
public import proofs.«01_k».proof.Proof.FwdIn.Ref
public import proofs.«01_k».proof.Proof.FwdIn.Run

@[expose] public section

set_option maxRecDepth 16384

noncomputable section

open Idealize.ShloMosaic Idealize.ShloMosaic.TcCoe Idealize.SL.Sem

namespace Cert.FwdIn

open Cert.Reference6Ideal.FwdIn in
theorem algebraic : Cert.algebraic_Kernel6Ideal_Reference6Ideal := by
  intro m ρ m' ρ' _ hagree
  refine ⟨_, _, _, Cert.Kernel6Ideal.FwdIn.run m ρ, θ_run_mono (run m' ρ') fun r h c => ?_⟩
  obtain ⟨h0, h1, h2, hargs⟩ := h c
  have e0 : x m' c = Cert.Kernel6Ideal.FwdIn.x m c := (hagree c).1
  have e1 : p m' c = Cert.Kernel6Ideal.FwdIn.p m c := (hagree c).2.1
  have e2 : gm m' c = Cert.Kernel6Ideal.FwdIn.gm m c := (hagree c).2.2.1
  have e3 : wi m' c = Cert.Kernel6Ideal.FwdIn.wi m c := (hagree c).2.2.2.1
  have e4 : g m' c = Cert.Kernel6Ideal.FwdIn.g m c := (hagree c).2.2.2.2.1
  have e5 : w m' c = Cert.Kernel6Ideal.FwdIn.w m c := (hagree c).2.2.2.2.2.1
  have e6 : wg m' c = Cert.Kernel6Ideal.FwdIn.wg m c := (hagree c).2.2.2.2.2.2

  exact ⟨h0.trans (by rewrite [e0, e1, e4, e5, e6]; rfl), h1.trans (by rewrite [e0, e1, e2, e4, e5, e6]; rfl), h2.trans (by rewrite [e0, e1, e2, e3, e4, e5, e6]; rfl), hargs⟩

theorem reference_frame : Cert.quiescent_Reference6Ideal := by
  intro m g _
  exact (θ_run Cert.Reference6Ideal.defs _ _).mono (fun r h => ⟨fun c => (h c).2.2.2, sem_eq_zero_of_no_sems (by decide) r.2⟩)
    (Cert.Reference6Ideal.FwdIn.run m g)

end Cert.FwdIn

end
-- ==== Proof.FwdUp.Steps.lean ====
/- The reference's values, step by step, and what each holds (FwdUp/Spec.lean). -/
module

public import proofs.«01_k».proof.Proof.FwdUp.Spec
public import proofs.«01_k».proof.Proof.Gen.Reference7Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference7Ideal.FwdUp

open Cert.Reference7Ideal Cert.Reference7Ideal.Gen
open Cert Cert.FwdUp

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev g : FVec Ideal ⟨2, ![2, 1024]⟩ .f32 := m ((c.tc : Thread nD τ).loc main_arg1)
abbrev w : FVec Ideal ⟨3, ![2, 1024, 5632]⟩ .f32 := m ((c.tc : Thread nD τ).loc main_arg2)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq (Rms.rowOf (x m c) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale (Rms.rowOf (x m c) r) := by
  pointwise [scaleV, Rms.scale, sqV_at]
/-- The scaled rows. -/
def normV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![1, 0] (g m c) slices_S2x1024_S1x1024_1_0) shapeCasts_S1x1024_S1024)))
theorem normV_at (r : Fin 8192) (d : Fin 1024) : normV m c (ix3 0 r d) = Ple.normed 1 (Rms.rowOf (x m c)) (g m c) r d := by
  pointwise [normV, Ple.normed, Rms.rowOf, scaleV_at]
/-- The scaled rows, as returned. -/
def hV : FVec Ideal S8192x1024 .bf16 := truncf .bf16 (shapeCast S8192x1024 (normV m c) shapeCasts_S1x8192x1024_S8192x1024) bitsLt_bf16_f32
theorem hV_at (r : Fin 8192) (d : Fin 1024) : hV m c (ix2 r d) = Ple.normed 1 (Rms.rowOf (x m c)) (g m c) r d := by
  pointwise [hV, normV_at]
/-- The projected rows. -/
def uV : FVec Ideal S8192x5632 .bf16 := truncf .bf16 (shapeCast S8192x5632 (Host.dotGeneral dot_S1x8192x1024_S1024x5632_S1x8192x5632_2_0_01_1_n_n none (normV m c) (shapeCast S1024x5632 (extractStridedSlice S1x1024x5632 ![1, 0, 0] (w m c) slices_S2x1024x5632_S1x1024x5632_1_0_0) shapeCasts_S1x1024x5632_S1024x5632)) shapeCasts_S1x8192x5632_S8192x5632) bitsLt_bf16_f32
theorem uV_at (r : Fin 8192) (j : Fin 5632) : uV m c (ix2 r j) = proj 1 (Rms.rowOf (x m c)) (g m c) (w m c) r j := by
  pointwise [uV, proj, normV_at]

end Cert.Reference7Ideal.FwdUp

end
-- ==== Proof.FwdUp.Ref.lean ====
/- The reference's run: the scaled rows and the projected rows (FwdUp/Spec.lean). -/
module

public import proofs.«01_k».proof.Proof.FwdUp.Steps

@[expose] public section

set_option maxRecDepth 16384

noncomputable section

open Idealize.ShloMosaic Idealize.ShloMosaic.TcCoe Idealize.SL.Sem

namespace Cert.Reference7Ideal.FwdUp

open Cert.Reference7Ideal Cert.Reference7Ideal.Gen
open Cert.FwdUp

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v19) = (fun i => Ple.normed 1 (Rms.rowOf (x m c)) (g m c) (i 0) (i 1))
      ∧ r.2.mem ((c.tc : Thread nD τ).loc main_v21) = (fun i => proj 1 (Rms.rowOf (x m c)) (g m c) (w m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  obtain ⟨h0, h1, hargs⟩ := h c
  exact ⟨h0.trans (show hV m c = _ from funext fun i => by idx_vars i; exact hV_at m c i0 i1), h1.trans (show uV m c = _ from funext fun i => by idx_vars i; exact uV_at m c i0 i1), hargs⟩

end Cert.Reference7Ideal.FwdUp

end
-- ==== Proof.FwdUp.Blocks.lean ====
/- The arrays that the host code prepares for the kernel, and what the kernel's blocks hold of them. -/
module

public import proofs.«01_k».proof.Proof.FwdUp.Spec
public import proofs.«01_k».proof.Proof.Gen.Kernel7Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel7Ideal.FwdUp

open Cert.Kernel7Ideal Cert.Kernel7Ideal.Gen
open Cert Cert.FwdUp

variable (m : (ℓ : Loc nD τ sig) → Buf (Elt Ideal) ℓ) (c : Dev nD)

abbrev x : FVec Ideal ⟨3, ![1, 8192, 1024]⟩ .f32 := m ((c : Thread nD τ).loc main_arg0)
abbrev g : FVec Ideal ⟨2, ![2, 1024]⟩ .f32 := m ((c : Thread nD τ).loc main_arg1)
abbrev w : FVec Ideal ⟨3, ![2, 1024, 5632]⟩ .f32 := m ((c : Thread nD τ).loc main_arg2)

theorem v4_at (r : Fin 8192) (j : Fin 1024) : V m c main_v4 (ix2 r j) = x m c (ix3 0 r j) := by
  unfold V
  after_reads_at

theorem v3_at (j : Fin 5632) (i : Fin 1024) : V m c main_v3 (ix2 j i) = w m c (ix3 1 i j) := by
  unfold V
  after_reads_at

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v4).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v4) (at0 t i j)).trans (v4_at m c _ _)
theorem at1 (t : Fin cfg0.N) (i : Fin 2) (j : Fin 1024) : ((View.whole main_arg1).slice (win0_1.rect t)).emb (ix2 i j) = ix2 i j := by
  blk_ext [idx t, row]
theorem blk1 (t : Fin cfg0.N) (i : Fin 2) (j : Fin 1024) : iblk m c 1 t (ix2 i j) = g m c (ix2 i j) :=
  (congrArg (V m c main_arg1) (at1 t i j)).trans (congrFun (V_main_arg1 m c) _)
theorem at2 (t : Fin cfg0.N) (i : Fin 5632) (j : Fin 1024) : ((View.whole main_v3).slice (win0_2.rect t)).emb (ix2 i j) = ix2 i j := by
  blk_ext [idx t, row]
theorem blk2 (t : Fin cfg0.N) (i : Fin 5632) (j : Fin 1024) : iblk m c 2 t (ix2 i j) = w m c (ix3 1 j i) :=
  (congrArg (V m c main_v3) (at2 t i j)).trans (v3_at m c _ _)
theorem at3 (t : Fin cfg0.N) (i : Fin 512) (j : Fin 1024) : ((View.whole main_v5_0).slice (win0_3.rect t)).emb (ix2 i j) = ix2 (row t i) j := by
  blk_ext [idx t, row]
theorem at4 (t : Fin cfg0.N) (i : Fin 512) (j : Fin 5632) : ((View.whole main_v5_1).slice (win0_4.rect t)).emb (ix2 i j) = ix2 (row t i) j := by
  blk_ext [idx t, row]

end Cert.Kernel7Ideal.FwdUp

end
-- ==== Proof.FwdUp.Tile.lean ====
/- What the kernel computes of a block of rows. -/
module

public import proofs.«01_k».proof.Proof.FwdUp.Blocks

@[expose] public section

set_option maxRecDepth 16384

noncomputable section

open Idealize.ShloMosaic Idealize.ShloMosaic.TcCoe Idealize.SL.Sem
open Idealize.ShloMosaic.Pipeline (Dat)

namespace Cert.Kernel7Ideal.FwdUp

open Cert.Kernel7Ideal Cert.Kernel7Ideal.Gen
open Cert Cert.FwdUp

variable (m : (ℓ : Loc nD τ sig) → Buf (Elt Ideal) ℓ) (c : Dev nD)

/-- The scaled rows of a block. -/
theorem pay4_at (t : Fin cfg0.N) (i : Fin 512) (d : Fin 1024) :
    k0_pay4 (iblk m c 0 t) (View.ld (iblk m c 1 t) (Rect.unit ![1, 0] ![1, 1024] inb_S2x1024_S1x1024_1_0)) (ix2 i d)
      = Ple.normed 1 (Rms.rowOf (x m c)) (g m c) (row t i) d := by
  pointwise [k0_pay4, Ple.normed, Rms.scale, Rms.meanSq, Rms.rowOf, Cert.Util.load_layer, blk0, blk1]

end Cert.Kernel7Ideal.FwdUp

end
-- ==== Proof.FwdUp.Outputs.lean ====
/- The kernel's result arrays: the scaled rows and the projected rows, block by block. -/
module

public import proofs.«01_k».proof.Proof.FwdUp.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.FwdUp

open Cert.Kernel7Ideal Cert.Kernel7Ideal.Gen
open Cert Cert.FwdUp

variable (m : (ℓ : Loc nD τ sig) → Buf (Elt Ideal) ℓ) (c : Dev nD)

/-- The scaled rows, read through the body's loads. -/
theorem h_at (t : Fin cfg0.N) (i : Fin 512) (d : Fin 1024) : k0_pay4 (View.ld (iblk m c 0 t) r0_0) (View.ld (iblk m c 1 t) r0_1) (ix2 i d)
    = Ple.normed 1 (Rms.rowOf (x m c)) (g m c) (row t i) d := by
  pointwise [k0_pay4, Ple.normed, Rms.scale, Rms.meanSq, Rms.rowOf, Cert.Util.load_layer, blk0, blk1]

theorem final3 : (dats m 0 c).arrAt 3 (cfgs 0).N
    = fun i => Ple.normed 1 (Rms.rowOf (x m c)) (g m c) (i 0) (i 1) := by
  refine (dats m 0 c).arrAt_eq_of_covers 3 _ (by decide +kernel) fun t _ y => ?_
  blk_simp
  idx_vars y
  rw [at3, after0_3]
  unfold_out out0_3
  frame_out
  exact pay4_at m c t y0 y1

/-- The block of projected rows at a point, as a function of the block's index. -/
def blockU (t : Fin cfg0.N) : FVec Ideal S512x5632 .bf16 := fun y => proj 1 (Rms.rowOf (x m c)) (g m c) (w m c) (row t (y 0)) (y 1)

theorem out4_at (t : Fin cfg0.N) (y : S512x5632.Idx) : (dats m 0 c).after 4 t y = blockU m c t y := by
  rw [after0_4]
  unfold out0_4
  refine View.canon_apply_of_pieces (Val := Elt Ideal) (e := .bf16) (blockU m c t) _ (View.PiecesOf.mem ?_) y (cover0_4 _ _ _ _ _ _ _ _ _ _ _ y)
  refine ⟨?_, ?_, ?_, ?_, ?_, ?_, ?_, ?_, ?_, ?_, ?_, trivial⟩
  all_goals
    intro q
    idx_vars q
    rw [emb_cols]
    pointwise [k0_pay1, k0_pay2, k0_pay3, k0_pay5, k0_pay6, k0_pay7, k0_pay8, k0_pay9, k0_pay10, k0_pay11, k0_pay12, k0_pay13, k0_pay14, blockU, proj, blk2]
    exact Finset.sum_congr rfl fun d _ => congrArg (· * _) (h_at m c t _ d)

theorem final4 : (dats m 0 c).arrAt 4 (cfgs 0).N
    = fun i => proj 1 (Rms.rowOf (x m c)) (g m c) (w m c) (i 0) (i 1) := by
  refine (dats m 0 c).arrAt_eq_of_covers 4 _ (by decide +kernel) fun t _ y => ?_
  rw [out4_at]
  blk_simp
  idx_vars y
  rw [at4]
  rfl

end Cert.Kernel7Ideal.FwdUp

end
-- ==== Proof.FwdUp.Run.lean ====
/- The kernel's run: the scaled rows and the projected rows (FwdUp/Spec.lean). -/
module

public import proofs.«01_k».proof.Proof.FwdUp.Outputs

@[expose] public section

set_option maxRecDepth 16384

noncomputable section

open Idealize.ShloMosaic Idealize.ShloMosaic.TcCoe Idealize.SL.Sem

namespace Cert.Kernel7Ideal.FwdUp

open Cert.Kernel7Ideal Cert.Kernel7Ideal.Gen
open Cert.FwdUp

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5_0) = (fun i => Ple.normed 1 (Rms.rowOf (x m c)) (g m c) (i 0) (i 1))
      ∧ r.2.mem ((c.tc : Thread nD τ).loc main_v5_1) = (fun i => proj 1 (Rms.rowOf (x m c)) (g m c) (w m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (unchanged m ρ)) fun r h c =>
    ⟨((h.1 c).1 3).trans (final3 m c), ((h.1 c).1 4).trans (final4 m c), h.2 c⟩

end Cert.Kernel7Ideal.FwdUp

end
-- ==== Proof.FwdUp.Pair.lean ====
/- The forward norm's pair: the kernel's results are the reference's. -/
module

public import proofs.«01_k».proof.Defs
public import proofs.«01_k».proof.Proof.FwdUp.Ref
public import proofs.«01_k».proof.Proof.FwdUp.Run

@[expose] public section

set_option maxRecDepth 16384

noncomputable section

open Idealize.ShloMosaic Idealize.ShloMosaic.TcCoe Idealize.SL.Sem

namespace Cert.FwdUp

open Cert.Reference7Ideal.FwdUp in
theorem algebraic : Cert.algebraic_Kernel7Ideal_Reference7Ideal := by
  intro m ρ m' ρ' _ hagree
  refine ⟨_, _, Cert.Kernel7Ideal.FwdUp.run m ρ, θ_run_mono (run m' ρ') fun r h c => ?_⟩
  obtain ⟨h0, h1, hargs⟩ := h c
  have e0 : x m' c = Cert.Kernel7Ideal.FwdUp.x m c := (hagree c).1
  have e1 : g m' c = Cert.Kernel7Ideal.FwdUp.g m c := (hagree c).2.1
  have e2 : w m' c = Cert.Kernel7Ideal.FwdUp.w m c := (hagree c).2.2

  exact ⟨h0.trans (by rewrite [e0, e1]; rfl), h1.trans (by rewrite [e0, e1, e2]; rfl), hargs⟩

theorem reference_frame : Cert.quiescent_Reference7Ideal := by
  intro m g _
  exact (θ_run Cert.Reference7Ideal.defs _ _).mono (fun r h => ⟨fun c => (h c).2.2, sem_eq_zero_of_no_sems (by decide) r.2⟩)
    (Cert.Reference7Ideal.FwdUp.run m g)

end Cert.FwdUp

end
-- ==== Proof.FwdMerge.Spec.lean ====
/- The gated merge, entry by entry: what both programs of the pair compute.

   Both branches' outputs, each times its gate (Merge/Spec.lean), added, through the output weight, and the residual. -/
module

public import proofs.«01_k».proof.Proof.Merge.Spec

@[expose] public section

set_option maxRecDepth 16384

noncomputable section

open Idealize.ShloMosaic

namespace Cert.FwdMerge

open Cert.Merge

variable (l : Fin 2) (x : FVec Ideal ⟨3, ![1, 8192, 1024]⟩ .f32) (z : FVec Ideal ⟨3, ![1, 8192, 4608]⟩ .f32) (b : FVec Ideal ⟨2, ![2, 2048]⟩ .f32)
  (a s : FVec Ideal ⟨3, ![1, 8192, 512]⟩ .f32) (wa wb : FVec Ideal ⟨3, ![2, 512, 1024]⟩ .f32)
  (wo : FVec Ideal ⟨3, ![2, 1024, 1024]⟩ .f32)

/-- Both branches' outputs under their gates, added. -/
def merged (r : Fin 8192) (d : Fin 1024) : EReal := gateA l z b r d * out l a wa r d + gateB l z b r d * out l s wb r d

/-- The merged row through the output weight, and the residual. -/
def result (r : Fin 8192) (e : Fin 1024) : EReal :=
  x (ix3 0 r e) + ∑ d : Fin 1024, merged l z b a s wa wb r d * wo (ix3 l d e)

end Cert.FwdMerge

end
-- ==== Proof.FwdMerge.Steps.lean ====
/- The reference's values, step by step, and what each holds (FwdMerge/Spec.lean). -/
module

public import proofs.«01_k».proof.Proof.FwdMerge.Spec
public import proofs.«01_k».proof.Proof.Gen.Reference8Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference8Ideal.FwdMerge

open Cert.Reference8Ideal Cert.Reference8Ideal.Gen
open Cert Cert.FwdMerge

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev z : FVec Ideal ⟨3, ![1, 8192, 4608]⟩ .f32 := m ((c.tc : Thread nD τ).loc main_arg1)
abbrev b : FVec Ideal ⟨2, ![2, 2048]⟩ .f32 := m ((c.tc : Thread nD τ).loc main_arg2)
abbrev a : FVec Ideal ⟨3, ![1, 8192, 512]⟩ .f32 := m ((c.tc : Thread nD τ).loc main_arg3)
abbrev s : FVec Ideal ⟨3, ![1, 8192, 512]⟩ .f32 := m ((c.tc : Thread nD τ).loc main_arg4)
abbrev wa : FVec Ideal ⟨3, ![2, 512, 1024]⟩ .f32 := m ((c.tc : Thread nD τ).loc main_arg5)
abbrev wb : FVec Ideal ⟨3, ![2, 512, 1024]⟩ .f32 := m ((c.tc : Thread nD τ).loc main_arg6)
abbrev wo : FVec Ideal ⟨3, ![2, 1024, 1024]⟩ .f32 := m ((c.tc : Thread nD τ).loc main_arg7)

/-- The gates' logits. -/
def logitV : FVec Ideal S1x8192x2048 .f32 := addf (extractStridedSlice S1x8192x2048 ![0, 0, 2560] (z m c) slices_S1x8192x4608_S1x8192x2048_0_0_2560) (broadcastInDim S1x8192x2048 ![0, 1, 2] bcast_S1x1x2048_S1x8192x2048_0_1_2 (broadcastInDim S1x1x2048 ![2] bcast_S2048_S1x1x2048_2 (shapeCast S2048 (extractStridedSlice S1x2048 ![1, 0] (b m c) slices_S2x2048_S1x2048_1_0) shapeCasts_S1x2048_S2048)))
theorem logitV_at (r : Fin 8192) (d : Fin 2048) : logitV m c (ix3 0 r d) = z m c (ix3 0 r ⟨2560 + d.val, by omega⟩) + b m c (ix2 1 d) := by
  pointwise [logitV]
/-- The gate of the left branch. -/
def gateAV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (extractStridedSlice S1x8192x1024 ![0, 0, 0] (logitV m c) slices_S1x8192x2048_S1x8192x1024_0_0_0))))
theorem gateAV_at (r : Fin 8192) (d : Fin 1024) : gateAV m c (ix3 0 r d) = Merge.gateA 1 (z m c) (b m c) r d := by
  pointwise [gateAV, Merge.gateA, Ideal.logistic, logitV_at]
/-- The gate of the right branch. -/
def gateBV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (extractStridedSlice S1x8192x1024 ![0, 0, 1024] (logitV m c) slices_S1x8192x2048_S1x8192x1024_0_0_1024))))
theorem gateBV_at (r : Fin 8192) (d : Fin 1024) : gateBV m c (ix3 0 r d) = Merge.gateB 1 (z m c) (b m c) r d := by
  pointwise [gateBV, Merge.gateB, Ideal.logistic, logitV_at]
  simp only [← Nat.add_assoc, Nat.reduceAdd]
/-- Both branches under their gates, added. -/
def mergedV : FVec Ideal S1x8192x1024 .f32 := addf (mulf (gateAV m c) (Host.dotGeneral dot_S1x8192x512_S512x1024_S1x8192x1024_2_0_01_1_n_n none (a m c) (shapeCast S512x1024 (extractStridedSlice S1x512x1024 ![1, 0, 0] (wa m c) slices_S2x512x1024_S1x512x1024_1_0_0) shapeCasts_S1x512x1024_S512x1024))) (mulf (gateBV m c) (Host.dotGeneral dot_S1x8192x512_S512x1024_S1x8192x1024_2_0_01_1_n_n none (s m c) (shapeCast S512x1024 (extractStridedSlice S1x512x1024 ![1, 0, 0] (wb m c) slices_S2x512x1024_S1x512x1024_1_0_0) shapeCasts_S1x512x1024_S512x1024)))
theorem mergedV_at (r : Fin 8192) (d : Fin 1024) : mergedV m c (ix3 0 r d) = merged 1 (z m c) (b m c) (a m c) (s m c) (wa m c) (wb m c) r d := by
  pointwise [mergedV, merged, Merge.out, gateAV_at, gateBV_at]
/-- The merged row through the output weight, and the residual. -/
def yV : FVec Ideal S8192x1024 .f32 := shapeCast S8192x1024 (addf (x m c) (Host.dotGeneral dot_S1x8192x1024_S1024x1024_S1x8192x1024_2_0_01_1_n_n none (mergedV m c) (shapeCast S1024x1024 (extractStridedSlice S1x1024x1024 ![1, 0, 0] (wo m c) slices_S2x1024x1024_S1x1024x1024_1_0_0) shapeCasts_S1x1024x1024_S1024x1024))) shapeCasts_S1x8192x1024_S8192x1024
theorem yV_at (r : Fin 8192) (e : Fin 1024) : yV m c (ix2 r e) = result 1 (x m c) (z m c) (b m c) (a m c) (s m c) (wa m c) (wb m c) (wo m c) r e := by
  pointwise [yV, result, mergedV_at]

end Cert.Reference8Ideal.FwdMerge

end
-- ==== Proof.FwdMerge.Ref.lean ====
/- The reference's run: the merged rows (FwdMerge/Spec.lean). -/
module

public import proofs.«01_k».proof.Proof.FwdMerge.Steps

@[expose] public section

set_option maxRecDepth 16384

noncomputable section

open Idealize.ShloMosaic Idealize.ShloMosaic.TcCoe Idealize.SL.Sem

namespace Cert.Reference8Ideal.FwdMerge

open Cert.Reference8Ideal Cert.Reference8Ideal.Gen
open Cert.FwdMerge

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v33) = (fun i => result 1 (x m c) (z m c) (b m c) (a m c) (s m c) (wa m c) (wb m c) (wo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨h0, hargs⟩ := h c
  exact ⟨h0.trans (show yV m c = _ from funext fun i => by idx_vars i; exact yV_at m c i0 i1), hargs⟩

end Cert.Reference8Ideal.FwdMerge

end
-- ==== Proof.FwdMerge.Blocks.lean ====
/- The arrays that the host code prepares for the kernel, and what the kernel's blocks hold of them. -/
module

public import proofs.«01_k».proof.Proof.FwdMerge.Spec
public import proofs.«01_k».proof.Proof.Gen.Kernel8Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel8Ideal.FwdMerge

open Cert.Kernel8Ideal Cert.Kernel8Ideal.Gen
open Cert Cert.FwdMerge

variable (m : (ℓ : Loc nD τ sig) → Buf (Elt Ideal) ℓ) (c : Dev nD)

abbrev x : FVec Ideal ⟨3, ![1, 8192, 1024]⟩ .f32 := m ((c : Thread nD τ).loc main_arg0)
abbrev z : FVec Ideal ⟨3, ![1, 8192, 4608]⟩ .f32 := m ((c : Thread nD τ).loc main_arg1)
abbrev b : FVec Ideal ⟨2, ![2, 2048]⟩ .f32 := m ((c : Thread nD τ).loc main_arg2)
abbrev a : FVec Ideal ⟨3, ![1, 8192, 512]⟩ .f32 := m ((c : Thread nD τ).loc main_arg3)
abbrev s : FVec Ideal ⟨3, ![1, 8192, 512]⟩ .f32 := m ((c : Thread nD τ).loc main_arg4)
abbrev wa : FVec Ideal ⟨3, ![2, 512, 1024]⟩ .f32 := m ((c : Thread nD τ).loc main_arg5)
abbrev wb : FVec Ideal ⟨3, ![2, 512, 1024]⟩ .f32 := m ((c : Thread nD τ).loc main_arg6)
abbrev wo : FVec Ideal ⟨3, ![2, 1024, 1024]⟩ .f32 := m ((c : Thread nD τ).loc main_arg7)

theorem v0_at (r : Fin 8192) (j : Fin 1024) : V m c main_v0 (ix2 r j) = x m c (ix3 0 r j) := by
  unfold V
  after_reads_at

theorem v2_at (r : Fin 8192) (j : Fin 4608) : V m c main_v2 (ix2 r j) = z m c (ix3 0 r j) := by
  unfold V
  after_reads_at

theorem v4_at (r : Fin 8192) (j : Fin 512) : V m c main_v4 (ix2 r j) = a m c (ix3 0 r j) := by
  unfold V
  after_reads_at

theorem v6_at (r : Fin 8192) (j : Fin 512) : V m c main_v6 (ix2 r j) = s m c (ix3 0 r j) := by
  unfold V
  after_reads_at

theorem v9_at (r : Fin 512) (j : Fin 1024) : V m c main_v9 (ix2 r j) = wa m c (ix3 1 r j) := by
  unfold V
  after_reads_at

theorem v12_at (r : Fin 512) (j : Fin 1024) : V m c main_v12 (ix2 r j) = wb m c (ix3 1 r j) := by
  unfold V
  after_reads_at

theorem v15_at (r : Fin 1024) (j : Fin 1024) : V m c main_v15 (ix2 r j) = wo m c (ix3 1 r j) := by
  unfold V
  after_reads_at

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] ∧ win0_7.index t = ![0, 0] ∧ win0_8.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v0).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v0) (at0 t i j)).trans (v0_at m c _ _)
theorem at1 (t : Fin cfg0.N) (i : Fin 512) (j : Fin 4608) : ((View.whole main_v2).slice (win0_1.rect t)).emb (ix2 i j) = ix2 (row t i) j := by
  blk_ext [idx t, row]
theorem blk1 (t : Fin cfg0.N) (i : Fin 512) (j : Fin 4608) : iblk m c 1 t (ix2 i j) = z m c (ix3 0 (row t i) j) :=
  (congrArg (V m c main_v2) (at1 t i j)).trans (v2_at m c _ _)
theorem at2 (t : Fin cfg0.N) (i : Fin 2) (j : Fin 2048) : ((View.whole main_arg2).slice (win0_2.rect t)).emb (ix2 i j) = ix2 i j := by
  blk_ext [idx t, row]
theorem blk2 (t : Fin cfg0.N) (i : Fin 2) (j : Fin 2048) : iblk m c 2 t (ix2 i j) = b m c (ix2 i j) :=
  (congrArg (V m c main_arg2) (at2 t i j)).trans (congrFun (V_main_arg2 m c) _)
theorem at3 (t : Fin cfg0.N) (i : Fin 512) (j : Fin 512) : ((View.whole main_v4).slice (win0_3.rect t)).emb (ix2 i j) = ix2 (row t i) j := by
  blk_ext [idx t, row]
theorem blk3 (t : Fin cfg0.N) (i : Fin 512) (j : Fin 512) : iblk m c 3 t (ix2 i j) = a m c (ix3 0 (row t i) j) :=
  (congrArg (V m c main_v4) (at3 t i j)).trans (v4_at m c _ _)
theorem at4 (t : Fin cfg0.N) (i : Fin 512) (j : Fin 512) : ((View.whole main_v6).slice (win0_4.rect t)).emb (ix2 i j) = ix2 (row t i) j := by
  blk_ext [idx t, row]
theorem blk4 (t : Fin cfg0.N) (i : Fin 512) (j : Fin 512) : iblk m c 4 t (ix2 i j) = s m c (ix3 0 (row t i) j) :=
  (congrArg (V m c main_v6) (at4 t i j)).trans (v6_at m c _ _)
theorem at5 (t : Fin cfg0.N) (i : Fin 512) (j : Fin 1024) : ((View.whole main_v9).slice (win0_5.rect t)).emb (ix2 i j) = ix2 i j := by
  blk_ext [idx t, row]
theorem blk5 (t : Fin cfg0.N) (i : Fin 512) (j : Fin 1024) : iblk m c 5 t (ix2 i j) = wa m c (ix3 1 i j) :=
  (congrArg (V m c main_v9) (at5 t i j)).trans (v9_at m c _ _)
theorem at6 (t : Fin cfg0.N) (i : Fin 512) (j : Fin 1024) : ((View.whole main_v12).slice (win0_6.rect t)).emb (ix2 i j) = ix2 i j := by
  blk_ext [idx t, row]
theorem blk6 (t : Fin cfg0.N) (i : Fin 512) (j : Fin 1024) : iblk m c 6 t (ix2 i j) = wb m c (ix3 1 i j) :=
  (congrArg (V m c main_v12) (at6 t i j)).trans (v12_at m c _ _)
theorem at7 (t : Fin cfg0.N) (i : Fin 1024) (j : Fin 1024) : ((View.whole main_v15).slice (win0_7.rect t)).emb (ix2 i j) = ix2 i j := by
  blk_ext [idx t, row]
theorem blk7 (t : Fin cfg0.N) (i : Fin 1024) (j : Fin 1024) : iblk m c 7 t (ix2 i j) = wo m c (ix3 1 i j) :=
  (congrArg (V m c main_v15) (at7 t i j)).trans (v15_at m c _ _)
theorem at8 (t : Fin cfg0.N) (i : Fin 512) (j : Fin 1024) : ((View.whole main_v16).slice (win0_8.rect t)).emb (ix2 i j) = ix2 (row t i) j := by
  blk_ext [idx t, row]

end Cert.Kernel8Ideal.FwdMerge

end
-- ==== Proof.FwdMerge.Outputs.lean ====
/- The kernel's result array: the merged rows, block by block. -/
module

public import proofs.«01_k».proof.Proof.FwdMerge.Blocks

@[expose] public section

set_option maxRecDepth 16384

noncomputable section

open Idealize.ShloMosaic Idealize.ShloMosaic.TcCoe Idealize.SL.Sem
open Idealize.ShloMosaic.Pipeline (Dat)

namespace Cert.Kernel8Ideal.FwdMerge

open Cert.Kernel8Ideal Cert.Kernel8Ideal.Gen
open Cert Cert.FwdMerge

variable (m : (ℓ : Loc nD τ sig) → Buf (Elt Ideal) ℓ) (c : Dev nD)

theorem final8 : (dats m 0 c).arrAt 8 (cfgs 0).N
    = fun i => result 1 (x m c) (z m c) (b m c) (a m c) (s m c) (wa m c) (wb m c) (wo m c) (i 0) (i 1) := by
  refine (dats m 0 c).arrAt_eq_of_covers 8 _ (by decide +kernel) fun t _ y => ?_
  blk_simp
  idx_vars y
  rw [at8, after0_8]
  unfold outsAt0 out0_A_8
  frame_open
  frame_out
  pointwise [k0_pay1, k0_pay2, k0_pay3, result, merged, Merge.out, Merge.gateA, Merge.gateB, Cert.Util.load_layer, blk0, blk1, blk2, blk3, blk4, blk5, blk6, blk7]

end Cert.Kernel8Ideal.FwdMerge

end
-- ==== Proof.FwdMerge.Run.lean ====
/- The kernel's run: the merged rows (FwdMerge/Spec.lean). -/
module

public import proofs.«01_k».proof.Proof.FwdMerge.Outputs

@[expose] public section

set_option maxRecDepth 16384

noncomputable section

open Idealize.ShloMosaic Idealize.ShloMosaic.TcCoe Idealize.SL.Sem

namespace Cert.Kernel8Ideal.FwdMerge

open Cert.Kernel8Ideal Cert.Kernel8Ideal.Gen
open Cert.FwdMerge

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v16) = (fun i => result 1 (x m c) (z m c) (b m c) (a m c) (s m c) (wa m c) (wb m c) (wo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c =>
    ⟨((h.1 c).1 8).trans (final8 m c), h.2 c⟩

end Cert.Kernel8Ideal.FwdMerge

end
-- ==== Proof.FwdMerge.Pair.lean ====
/- The forward merge's pair: the kernel's result is the reference's. -/
module

public import proofs.«01_k».proof.Defs
public import proofs.«01_k».proof.Proof.FwdMerge.Ref
public import proofs.«01_k».proof.Proof.FwdMerge.Run

@[expose] public section

set_option maxRecDepth 16384

noncomputable section

open Idealize.ShloMosaic Idealize.ShloMosaic.TcCoe Idealize.SL.Sem

namespace Cert.FwdMerge

open Cert.Reference8Ideal.FwdMerge in
theorem algebraic : Cert.algebraic_Kernel8Ideal_Reference8Ideal := by
  intro m ρ m' ρ' _ hagree
  refine ⟨_, Cert.Kernel8Ideal.FwdMerge.run m ρ, θ_run_mono (run m' ρ') fun r h c => ?_⟩
  obtain ⟨h0, hargs⟩ := h c
  have e0 : x m' c = Cert.Kernel8Ideal.FwdMerge.x m c := (hagree c).1
  have e1 : z m' c = Cert.Kernel8Ideal.FwdMerge.z m c := (hagree c).2.1
  have e2 : b m' c = Cert.Kernel8Ideal.FwdMerge.b m c := (hagree c).2.2.1
  have e3 : a m' c = Cert.Kernel8Ideal.FwdMerge.a m c := (hagree c).2.2.2.1
  have e4 : s m' c = Cert.Kernel8Ideal.FwdMerge.s m c := (hagree c).2.2.2.2.1
  have e5 : wa m' c = Cert.Kernel8Ideal.FwdMerge.wa m c := (hagree c).2.2.2.2.2.1
  have e6 : wb m' c = Cert.Kernel8Ideal.FwdMerge.wb m c := (hagree c).2.2.2.2.2.2.1
  have e7 : wo m' c = Cert.Kernel8Ideal.FwdMerge.wo m c := (hagree c).2.2.2.2.2.2.2

  exact ⟨h0.trans (by rewrite [e0, e1, e2, e3, e4, e5, e6, e7]; rfl), hargs⟩

theorem reference_frame : Cert.quiescent_Reference8Ideal := by
  intro m g _
  exact (θ_run Cert.Reference8Ideal.defs _ _).mono (fun r h => ⟨fun c => (h c).2, sem_eq_zero_of_no_sems (by decide) r.2⟩)
    (Cert.Reference8Ideal.FwdMerge.run m g)

end Cert.FwdMerge

end
-- ==== Proof.NormIn.Steps.lean ====
/- The reference's values, step by step, and what each holds (Norm/Spec.lean). -/
module

public import proofs.«01_k».proof.Proof.Norm.Spec
public import proofs.«01_k».proof.Proof.Gen.Reference9Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference9Ideal.NormIn

open Cert.Reference9Ideal Cert.Reference9Ideal.Gen
open Cert Cert.Norm

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev g : FVec Ideal ⟨2, ![2, 1024]⟩ .f32 := m ((c.tc : Thread nD τ).loc main_arg1)
abbrev w : FVec Ideal ⟨3, ![2, 1024, 4608]⟩ .f32 := m ((c.tc : Thread nD τ).loc main_arg2)
abbrev res : FVec Ideal ⟨3, ![1, 8192, 1024]⟩ .f32 := m ((c.tc : Thread nD τ).loc main_arg3)
abbrev du : FVec Ideal ⟨3, ![1, 8192, 4608]⟩ .f32 := m ((c.tc : Thread nD τ).loc main_arg4)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq (Rms.rowOf (x m c) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale (Rms.rowOf (x m c) r) := by
  pointwise [scaleV, Rms.scale, sqV_at]
/-- The cotangent of the left operand. -/
def dhV : FVec Ideal S1x8192x1024 .f32 := Host.dotGeneral dot_S1x8192x4608_S1024x4608_S1x8192x1024_2_1_01_0_n_n none (du m c) (shapeCast S1024x4608 (extractStridedSlice S1x1024x4608 ![0, 0, 0] (w m c) slices_S2x1024x4608_S1x1024x4608_0_0_0) shapeCasts_S1x1024x4608_S1024x4608)
theorem dhV_at (r : Fin 8192) (d : Fin 1024) : dhV m c (ix3 0 r d) = dh 0 (w m c) (du m c) r d := by
  pointwise [dhV, dh]
/-- The cotangent of the scaled row. -/
def dScaledV : FVec Ideal S1x8192x1024 .f32 := mulf (dhV m c) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem dScaledV_at (r : Fin 8192) (d : Fin 1024) : dScaledV m c (ix3 0 r d) = dScaled 0 (g m c) (w m c) (du m c) r d := by
  pointwise [dScaledV, dScaled, dhV_at]
/-- The mean square's share of the row's cotangent. -/
def shareV : FVec Ideal S8192 .f32 := Host.reduceAdd (Host.divf (mulf (shapeCast S1x8192x1 (Host.reduceAdd (mulf (x m c) (dScaledV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleV m c) (sqV m c)))) (broadcastInDim S1x8192x1 ![] bcast_S_S1x8192x1 (constant S_ .f32 0x44800000#32))) (constant S_ .f32 0x00000000#32) reducesTo_S1x8192x1_S8192_d0_2 h_S_
theorem shareV_at (r : Fin 8192) : shareV m c (ix1 r) = Rms.share (Rms.rowOf (x m c) r) (dScaled 0 (g m c) (w m c) (du m c) r) := by
  pointwise [shareV, Rms.share, Rms.rowOf, Cert.Util.hostReduceAdd_unit02, dScaledV_at, scaleV_at, sqV_at]
/-- The row's cotangent. -/
def dxV : FVec Ideal S8192x1024 .f32 := shapeCast S8192x1024 (addf (addf (addf (res m c) (mulf (dScaledV m c) (broadcastInDim S1x8192x1024 ![0, 1, 2] bcast_S1x8192x1_S1x8192x1024_0_1_2 (scaleV m c)))) (mulf (x m c) (broadcastInDim S1x8192x1024 ![0, 1] bcast_S1x8192_S1x8192x1024_0_1 (broadcastInDim S1x8192 ![1] bcast_S8192_S1x8192_1 (shareV m c))))) (mulf (broadcastInDim S1x8192x1024 ![0, 1] bcast_S1x8192_S1x8192x1024_0_1 (broadcastInDim S1x8192 ![1] bcast_S8192_S1x8192_1 (shareV m c))) (x m c))) shapeCasts_S1x8192x1024_S8192x1024
theorem dxV_at (r : Fin 8192) (d : Fin 1024) : dxV m c (ix2 r d) = dxChain 0 (Rms.rowOf (x m c)) (g m c) (w m c) (res m c) (du m c) r d := by
  pointwise [dxV, dxChain, Rms.rowOf, scaleV_at, dScaledV_at, shareV_at]
/-- The weight's cotangent. -/
def dgV : FVec Ideal S1x1024 .f32 := broadcastInDim S1x1024 ![1] bcast_S1024_S1x1024_1 (Host.reduceAdd (shapeCast S1x1x1024 (Host.reduceAdd (mulf (mulf (x m c) (broadcastInDim S1x8192x1024 ![0, 1, 2] bcast_S1x8192x1_S1x8192x1024_0_1_2 (scaleV m c))) (dhV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgV_at (d : Fin 1024) : dgV m c (ix2 0 d) = dg 0 (Rms.rowOf (x m c)) (w m c) (du m c) d := by
  pointwise [dgV, dg, Rms.rowOf, Cert.Util.hostReduceAdd_unit01, scaleV_at, dhV_at]
  exact Finset.sum_congr (M := EReal) rfl fun r _ => mul_comm (G := EReal) _ _

theorem res0_eq : Value.res_main_v46 m c = dxV m c := rfl

end Cert.Reference9Ideal.NormIn

end
-- ==== Proof.NormIn.Ref.lean ====
/- The reference's run: each result array holds the gradient of layer 0's norm at the input projection by the chain rule (Norm/Spec.lean). -/
module

public import proofs.«01_k».proof.Proof.NormIn.Steps

@[expose] public section

set_option maxRecDepth 16384

noncomputable section

open Idealize.ShloMosaic Idealize.ShloMosaic.TcCoe Idealize.SL.Sem

namespace Cert.Reference9Ideal.NormIn

open Cert.Reference9Ideal Cert.Reference9Ideal.Gen
open Cert.Norm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v46) = (fun i => dxChain 0 (Rms.rowOf (x m c)) (g m c) (w m c) (res m c) (du m c) (i 0) (i 1))
      ∧ r.2.mem ((c.tc : Thread nD τ).loc main_v47) = (fun i => dg 0 (Rms.rowOf (x m c)) (w m c) (du m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  obtain ⟨h0, h1, hargs⟩ := h c
  exact ⟨h0.trans ((funext fun i => by idx_vars i; exact dxV_at m c i0 i1)), h1.trans (show dgV m c = _ from funext fun i => by idx_vars i; obtain rfl : i0 = 0 := Subsingleton.elim _ _; exact dgV_at m c i1), hargs⟩

end Cert.Reference9Ideal.NormIn

end
-- ==== Proof.NormIn.Blocks.lean ====
/- What the blocks of the norm kernel at the input projection hold at a grid point: rows of the arguments. -/
module

public import proofs.«01_k».proof.Proof.Norm.Spec
public import proofs.«01_k».proof.Proof.Gen.Kernel9Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel9Ideal.NormIn

open Cert.Kernel9Ideal Cert.Kernel9Ideal.Gen
open Cert.Norm

variable (m : (ℓ : Loc nD τ sig) → Buf (Elt Ideal) ℓ) (c : Dev nD)

abbrev x : FVec Ideal ⟨3, ![1, 8192, 1024]⟩ .f32 := m ((c : Thread nD τ).loc main_arg0)
abbrev g : FVec Ideal ⟨2, ![2, 1024]⟩ .f32 := m ((c : Thread nD τ).loc main_arg1)
abbrev w : FVec Ideal ⟨3, ![2, 1024, 4608]⟩ .f32 := m ((c : Thread nD τ).loc main_arg2)
abbrev res : FVec Ideal ⟨3, ![1, 8192, 1024]⟩ .f32 := m ((c : Thread nD τ).loc main_arg3)
abbrev du : FVec Ideal ⟨3, ![1, 8192, 4608]⟩ .f32 := m ((c : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem blk0 (t : Fin cfg0.N) (i : Fin 512) (j : Fin 4608) : iblk m c 0 t (ix2 i j) = du m c (ix3 0 (row t i) j) := by
  blk_point [iblk, V, idx t, row]
theorem blk1 (t : Fin cfg0.N) (i : Fin 4608) (j : Fin 1024) : iblk m c 1 t (ix2 i j) = w m c (ix3 0 j i) := by
  blk_point [iblk, V, idx t]
theorem blk2 (t : Fin cfg0.N) (i : Fin 512) (j : Fin 1024) : iblk m c 2 t (ix2 i j) = x m c (ix3 0 (row t i) j) := by
  blk_point [iblk, V, idx t, row]
theorem blk3 (t : Fin cfg0.N) (i : Fin 2) (j : Fin 1024) : iblk m c 3 t (ix2 i j) = g m c (ix2 i j) := by
  blk_point [iblk, V, idx t]
theorem blk4 (t : Fin cfg0.N) (i : Fin 512) (j : Fin 1024) : iblk m c 4 t (ix2 i j) = res m c (ix3 0 (row t i) j) := by
  blk_point [iblk, V, idx t, row]

theorem at5 (t : Fin cfg0.N) (i : Fin 512) (j : Fin 1024) :
    ((View.whole main_v8_0).slice (win0_5.rect t)).emb (ix2 i j) = ix2 (row t i) j := by
  blk_ext [idx t, row]

end Cert.Kernel9Ideal.NormIn

end
-- ==== Proof.NormIn.Tile.lean ====
/- What the norm kernel at the input projection computes of a block of rows. -/
module

public import proofs.«01_k».proof.Proof.NormIn.Blocks

@[expose] public section

set_option maxRecDepth 16384

noncomputable section

open Idealize.ShloMosaic Idealize.ShloMosaic.TcCoe Idealize.SL.Sem
open Idealize.ShloMosaic.Pipeline (Dat)

namespace Cert.Kernel9Ideal.NormIn

open Cert.Kernel9Ideal Cert.Kernel9Ideal.Gen
open Cert Cert.Norm

variable (m : (ℓ : Loc nD τ sig) → Buf (Elt Ideal) ℓ) (c : Dev nD)

theorem pay3_at (t : Fin cfg0.N) (i : Fin 512) (j : Fin 1024) :
    k0_pay3 (iblk m c 0 t) (iblk m c 1 t) (ix2 i j) = dh 0 (w m c) (du m c) (row t i) j := by
  pointwise [k0_pay3, dh, blk0, blk1]
theorem pay5_at (t : Fin cfg0.N) (i : Fin 512) : k0_pay5 (iblk m c 2 t) (ix2 i 0) = Rms.scale (Rms.rowOf (x m c) (row t i)) := by
  pointwise [k0_pay5, k0_pay4, Rms.scale, Rms.meanSq, Rms.rowOf, blk2]
theorem pay6_at (t : Fin cfg0.N) (i : Fin 512) (j : Fin 1024) :
    k0_pay6 (iblk m c 2 t) (ix2 i j) = x m c (ix3 0 (row t i) j) * Rms.scale (Rms.rowOf (x m c) (row t i)) := by
  pointwise [k0_pay6, k0_pay4, pay5_at, blk2]
/-- A block's share of the weight's cotangent. -/
theorem pay7_at (t : Fin cfg0.N) (a : Fin 1) (j : Fin 1024) : k0_pay7 (iblk m c 0 t) (iblk m c 1 t) (iblk m c 2 t) (ix2 a j)
    = ∑ i : Fin 512, dh 0 (w m c) (du m c) (row t i) j * (x m c (ix3 0 (row t i) j) * Rms.scale (Rms.rowOf (x m c) (row t i))) := by
  obtain rfl : a = 0 := Subsingleton.elim _ _
  pointwise [k0_pay7, pay3_at, pay6_at]
/-- A block of the row's cotangent. -/
theorem pay8_at (t : Fin cfg0.N) (i : Fin 512) (j : Fin 1024) :
    k0_pay8 (iblk m c 0 t) (iblk m c 1 t) (iblk m c 2 t)
      (View.ld (iblk m c 3 t) (Rect.unit ![0, 0] ![1, 1024] inb_S2x1024_S1x1024_0_0)) (iblk m c 4 t) (ix2 i j)
      = dx 0 (Rms.rowOf (x m c)) (g m c) (w m c) (res m c) (du m c) (row t i) j := by
  pointwise [k0_pay8, dx, dScaled, Rms.pull, Rms.rowOf, Cert.Util.load_layer, pay3_at, pay5_at, pay6_at, blk3, blk4]

end Cert.Kernel9Ideal.NormIn

end
-- ==== Proof.NormIn.Outputs.lean ====
/- The norm kernel at the input projection's result arrays: the row's cotangent block by block, the weight's as a sum over the blocks. -/
module

public import proofs.«01_k».proof.Proof.NormIn.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.NormIn

open Cert.Kernel9Ideal Cert.Kernel9Ideal.Gen
open Cert Cert.Norm

variable (m : (ℓ : Loc nD τ sig) → Buf (Elt Ideal) ℓ) (c : Dev nD)

theorem final5 : (dats m 0 c).arrAt 5 (cfgs 0).N
    = fun i => dx 0 (Rms.rowOf (x m c)) (g m c) (w m c) (res m c) (du m c) (i 0) (i 1) := by
  refine (dats m 0 c).arrAt_eq_of_covers 5 _ (by decide +kernel) fun t _ y => ?_
  blk_simp
  idx_vars y
  rw [at5, after0_5]
  by_cases h0 : t.val % 16 = 0
  · rw [outsAt0_A m c t h0]; frame_out
    exact pay8_at m c t y0 y1
  · rw [outsAt0_B m c t h0]; frame_out
    exact pay8_at m c t y0 y1

theorem final6 : (dats m 0 c).arrAt 6 (cfgs 0).N = fun i => dg 0 (Rms.rowOf (x m c)) (w m c) (du m c) (i 1) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => ∑ k : Fin 512, dh 0 (w m c) (du m c) (row p k) (j 1) * (x m c (ix3 0 (row p k) (j 1)) * Rms.scale (Rms.rowOf (x m c) (row p k))))
    (fun t h j => by
      rw [outsAt0_A m c t h]; frame_out
      idx_vars j
      pointwise [k0_pay1, k0_pay2, pay7_at])
    (fun t h j => by
      rw [outsAt0_B m c t h]; frame_out
      idx_vars j
      pointwise [k0_pay1, k0_pay2, pay7_at])
    (le_of_eq N_0) t0_15 rfl j, zero_add]
  exact Fin.sum_mul_add_congr fun p k hl => rfl

end Cert.Kernel9Ideal.NormIn

end
-- ==== Proof.NormIn.Run.lean ====
/- The kernel's run: each result array holds the gradient of layer 0's norm at the input projection (Norm/Spec.lean). -/
module

public import proofs.«01_k».proof.Proof.NormIn.Outputs

@[expose] public section

set_option maxRecDepth 16384

noncomputable section

open Idealize.ShloMosaic Idealize.ShloMosaic.TcCoe Idealize.SL.Sem

namespace Cert.Kernel9Ideal.NormIn

open Cert.Kernel9Ideal Cert.Kernel9Ideal.Gen
open Cert.Norm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8_0) = (fun i => dx 0 (Rms.rowOf (x m c)) (g m c) (w m c) (res m c) (du m c) (i 0) (i 1))
      ∧ r.2.mem ((c.tc : Thread nD τ).loc main_v8_1) = (fun i => dg 0 (Rms.rowOf (x m c)) (w m c) (du m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c =>
    ⟨((h.1 c).1 5).trans (final5 m c), ((h.1 c).1 6).trans (final6 m c), h.2 c⟩

end Cert.Kernel9Ideal.NormIn

end
-- ==== Proof.NormIn.Pair.lean ====
/- The pair of layer 0's norm at the input projection: over reals the kernel's results are the reference's. -/
module

public import proofs.«01_k».proof.Defs
public import proofs.«01_k».proof.Proof.Gen.Pre_finite9
public import proofs.«01_k».proof.Proof.NormIn.Ref
public import proofs.«01_k».proof.Proof.NormIn.Run

@[expose] public section

set_option maxRecDepth 16384

noncomputable section

open Idealize.ShloMosaic Idealize.ShloMosaic.TcCoe Idealize.SL.Sem

open Cert.Norm

namespace Cert.NormIn

open Cert.Reference9Ideal.NormIn in
theorem algebraic : Cert.algebraic_Kernel9Ideal_Reference9Ideal_pre_finite9 := by
  intro m ρ m' ρ' hpre hagree
  refine ⟨_, _, Cert.Kernel9Ideal.NormIn.run m ρ, θ_run_mono (run m' ρ') fun r h c => ?_⟩
  obtain ⟨h0, h1, hargs⟩ := h c
  have e0 : x m' c = Cert.Kernel9Ideal.NormIn.x m c := (hagree c).1
  have e1 : g m' c = Cert.Kernel9Ideal.NormIn.g m c := (hagree c).2.1
  have e2 : w m' c = Cert.Kernel9Ideal.NormIn.w m c := (hagree c).2.2.1
  have e3 : res m' c = Cert.Kernel9Ideal.NormIn.res m c := (hagree c).2.2.2.1
  have e4 : du m' c = Cert.Kernel9Ideal.NormIn.du m c := (hagree c).2.2.2.2
  have f0 : ∀ j, Rms.IsReal (Cert.Kernel9Ideal.NormIn.x m c j) := Rms.IsReal.of_cmp _ _ (fun _ => Rms.ofBits_inf) ((hpre c).1)
  have f1 : ∀ j, Rms.IsReal (Cert.Kernel9Ideal.NormIn.g m c j) := Rms.IsReal.of_cmp _ _ (fun _ => Rms.ofBits_inf) ((hpre c).2.1)
  have f2 : ∀ j, Rms.IsReal (Cert.Kernel9Ideal.NormIn.w m c j) := Rms.IsReal.of_cmp _ _ (fun _ => Rms.ofBits_inf) ((hpre c).2.2.1)
  have f3 : ∀ j, Rms.IsReal (Cert.Kernel9Ideal.NormIn.du m c j) := Rms.IsReal.of_cmp _ _ (fun _ => Rms.ofBits_inf) ((hpre c).2.2.2)
  exact ⟨h0.trans (by rewrite [e0, e1, e2, e3, e4]; exact funext fun i => dxChain_eq _ _ _ _ _ _ (fun _ _ => f0 _) f1 f2 f3 _ _), h1.trans (by rewrite [e0, e2, e4]; rfl), hargs⟩

theorem reference_frame : Cert.quiescent_Reference9Ideal := by
  intro m g _
  exact (θ_run Cert.Reference9Ideal.defs _ _).mono (fun r h => ⟨fun c => (h c).2.2, sem_eq_zero_of_no_sems (by decide) r.2⟩)
    (Cert.Reference9Ideal.NormIn.run m g)

theorem reference_frame_pre : Cert.quiescent_Reference9Ideal_pre_finite9 :=
  fun m g _ => reference_frame m g trivial

end Cert.NormIn

end
-- ==== Proof.Wgrad.Spec.lean ====
/- The gradient of a weight, transposed: what both programs of the pair compute. -/
module

public import proofs.«01_k».proof.Proof.Util

@[expose] public section

set_option maxRecDepth 16384

noncomputable section

open Idealize.ShloMosaic

namespace Cert.Wgrad

variable (h : FVec Ideal ⟨3, ![1, 8192, 1024]⟩ .f32) (du : FVec Ideal ⟨3, ![1, 8192, 5632]⟩ .f32)

/-- For a column `j` of the product and a channel `d`: over all tokens, the product's cotangent by the left operand. -/
def dw (j : Fin 5632) (d : Fin 1024) : EReal := ∑ r : Fin 8192, du (ix3 0 r j) * h (ix3 0 r d)

end Cert.Wgrad

end
-- ==== Proof.Wgrad.Steps.lean ====
/- The reference's value and what it holds (Wgrad/Spec.lean). -/
module

public import proofs.«01_k».proof.Proof.Wgrad.Spec
public import proofs.«01_k».proof.Proof.Gen.Reference10Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference10Ideal.Wgrad

open Cert.Reference10Ideal Cert.Reference10Ideal.Gen
open Cert Cert.Wgrad

variable (m : (ℓ : Loc nD τ sig) → Buf (Elt Ideal) ℓ) (c : Dev nD)

/-- The arguments, by what they are. -/
abbrev a : FVec Ideal ⟨3, ![1, 8192, 1024]⟩ .f32 := m ((c.tc : Thread nD τ).loc main_arg0)
abbrev du : FVec Ideal ⟨3, ![1, 8192, 5632]⟩ .f32 := m ((c.tc : Thread nD τ).loc main_arg1)

/-- The weight's cotangent, transposed. -/
def dwV : FVec Ideal S5632x1024 .bf16 := truncf .bf16 (transpose S5632x1024 [1, 0] (transpose S1024x5632 [1, 0] (Host.dotGeneral dot_S1x8192x5632_S1x8192x1024_S5632x1024_01_01_2_2_n_n none (du m c) (a m c)) transposes_S5632x1024_S1024x5632_1_0) transposes_S1024x5632_S5632x1024_1_0) bitsLt_bf16_f32
theorem dwV_at (j : Fin 5632) (d : Fin 1024) : dwV m c (ix2 j d) = dw (a m c) (du m c) j d := by
  pointwise [dwV, dw]
  exact Fin.sum_univ_one (M := EReal) _

end Cert.Reference10Ideal.Wgrad

end
-- ==== Proof.Wgrad.Ref.lean ====
/- The reference's run: its result holds the weight's gradient (Wgrad/Spec.lean). -/
module

public import proofs.«01_k».proof.Proof.Wgrad.Steps

@[expose] public section

set_option maxRecDepth 16384

noncomputable section

open Idealize.ShloMosaic Idealize.ShloMosaic.TcCoe Idealize.SL.Sem

namespace Cert.Reference10Ideal.Wgrad

open Cert.Reference10Ideal Cert.Reference10Ideal.Gen
open Cert.Wgrad

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5) = (fun i => dw (a m c) (du m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_) (Value.run m ρ)
  obtain ⟨h0, hargs⟩ := h c
  exact ⟨h0.trans (show dwV m c = _ from funext fun i => by idx_vars i; exact dwV_at m c i0 i1), hargs⟩

end Cert.Reference10Ideal.Wgrad

end
-- ==== Proof.Wgrad.Blocks.lean ====
/- What the kernel's blocks hold at a grid point: tokens by columns of the cotangent, tokens by channels of the operand. -/
module

public import proofs.«01_k».proof.Proof.Wgrad.Spec
public import proofs.«01_k».proof.Proof.Gen.Kernel10Ideal.Frame
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel10Ideal.Wgrad

open Cert.Kernel10Ideal Cert.Kernel10Ideal.Gen
open Cert Cert.Wgrad

variable (m : (ℓ : Loc nD τ sig) → Buf (Elt Ideal) ℓ) (c : Dev nD)

abbrev a : FVec Ideal ⟨3, ![1, 8192, 1024]⟩ .f32 := m ((c : Thread nD τ).loc main_arg0)
abbrev du : FVec Ideal ⟨3, ![1, 8192, 5632]⟩ .f32 := m ((c : Thread nD τ).loc main_arg1)

theorem v1_at (r : Fin 8192) (j : Fin 5632) : V m c main_v1 (ix2 r j) = du m c (ix3 0 r j) := by
  unfold V
  after_reads_at

theorem v3_at (r : Fin 8192) (j : Fin 1024) : V m c main_v3 (ix2 r j) = a m c (ix3 0 r j) := by
  unfold V
  after_reads_at

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The token a block's row is, at point `t`. -/
def row (t : Fin cfg0.N) (i : Fin 2048) : Fin 8192 := ⟨t.val % 4 * 2048 + i.val, by omega⟩
/-- The column a block's column is, at point `t`. -/
def col (t : Fin cfg0.N) (j : Fin 1408) : Fin 5632 := ⟨t.val / 4 * 1408 + j.val, by have := lt_of_lt_of_eq t.isLt N_0; omega⟩

theorem at0 (t : Fin cfg0.N) (i : Fin 2048) (j : Fin 1408) : ((View.whole main_v1).slice (win0_0.rect t)).emb (ix2 i j) = ix2 (row t i) (col t j) := by
  blk_ext [idx t, row, col]
theorem blk0 (t : Fin cfg0.N) (i : Fin 2048) (j : Fin 1408) : iblk m c 0 t (ix2 i j) = du m c (ix3 0 (row t i) (col t j)) :=
  (congrArg (V m c main_v1) (at0 t i j)).trans (v1_at m c _ _)
theorem at1 (t : Fin cfg0.N) (i : Fin 2048) (j : Fin 1024) : ((View.whole main_v3).slice (win0_1.rect t)).emb (ix2 i j) = ix2 (row t i) j := by
  blk_ext [idx t, row]
theorem blk1 (t : Fin cfg0.N) (i : Fin 2048) (j : Fin 1024) : iblk m c 1 t (ix2 i j) = a m c (ix3 0 (row t i) j) :=
  (congrArg (V m c main_v3) (at1 t i j)).trans (v3_at m c _ _)
theorem at2 (t : Fin cfg0.N) (i : Fin 1408) (j : Fin 1024) : ((View.whole main_v4).slice (win0_2.rect t)).emb (ix2 i j) = ix2 (col t i) j := by
  blk_ext [idx t, col]

end Cert.Kernel10Ideal.Wgrad

end
-- ==== Proof.Wgrad.Outputs.lean ====
/- The kernel's result array: each column's gradient, a sum over its four points. -/
module

public import proofs.«01_k».proof.Proof.Wgrad.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel10Ideal.Wgrad

open Cert.Kernel10Ideal Cert.Kernel10Ideal.Gen
open Cert Cert.Wgrad

variable (m : (ℓ : Loc nD τ sig) → Buf (Elt Ideal) ℓ) (c : Dev nD)

/-- A point's share of the gradient: the product over its tokens. -/
def part (t : Fin cfg0.N) (j : Fin 1408) (d : Fin 1024) : EReal :=
  ∑ i : Fin 2048, du m c (ix3 0 (row t i) (col t j)) * a m c (ix3 0 (row t i) d)

theorem pay2_at (acc : FVec Ideal ⟨2, ![1408, 1024]⟩ .f32) (t : Fin cfg0.N) (j : Fin 1408) (d : Fin 1024) :
    k0_pay2 acc (iblk m c 0 t) (iblk m c 1 t) (ix2 j d) = acc (ix2 j d) + part m c t j d := by
  pointwise [k0_pay2, part, blk0, blk1]

/-- At a run's last point the accumulator holds the run's shares. -/
theorem acc_at (t : Fin cfg0.N) (hl : t.val % 4 = 3) (j : (⟨2, ![1408, 1024]⟩ : Shape).Idx) :
    (outsAt0 m c t.val t.isLt).2 j = ∑ s : Fin 4, part m c ⟨4 * (t.val / 4) + s.val, Pipeline.run_point_lt_of_flush t hl s⟩ (j 0) (j 1) := by
  rw [Pipeline.eq_sum_fin_of_reset_step_apply_of_flush (fun n h => (outsAt0 m c n h).2) 4 (fun _ => 0)
    (fun p j => part m c p (j 0) (j 1))
    (fun t h j => by
      rw [outsAt0_A m c t h (by omega)]; frame_out
      idx_vars j
      pointwise [k0_pay1, read_unread_whole]
      exact (pay2_at m c _ t j0 j1).trans (by pointwise [k0_pay1]))
    (fun t h j => by
      by_cases h1 : t.val % 4 = 3
      · rw [outsAt0_C m c t h h1]; frame_out
        idx_vars j
        pointwise [read_unread_whole]
        exact pay2_at m c _ t j0 j1
      · rw [outsAt0_B m c t h h1]; frame_out
        idx_vars j
        pointwise [read_unread_whole]
        exact pay2_at m c _ t j0 j1)
    t hl j, zero_add]

theorem final2 : (dats m 0 c).arrAt 2 (cfgs 0).N = fun i => dw (a m c) (du m c) (i 0) (i 1) := by
  refine (dats m 0 c).arrAt_eq_of_covers 2 _ (by decide +kernel) fun t hf y => ?_
  have hl := (flush0_2 t).mp hf
  blk_simp
  idx_vars y
  have hC : (outsAt0 m c t.val t.isLt).1 (ix2 y0 y1) = (outsAt0 m c t.val t.isLt).2 (ix2 y0 y1) := by
    rw [outsAt0_C m c t (by omega) hl]; frame_out; pointwise [k0_pay3]
  rw [at2, after0_2]
  refine hC.trans ((acc_at m c t hl _).trans ?_)
  refine Fin.sum_mul_add_congr fun s k hk => ?_
  have hr : row ⟨4 * (t.val / 4) + s.val, Pipeline.run_point_lt_of_flush t hl s⟩ k = ⟨s.val * 2048 + k.val, hk⟩ := Fin.ext (by simp only [row]; omega)
  have hc : col ⟨4 * (t.val / 4) + s.val, Pipeline.run_point_lt_of_flush t hl s⟩ y0 = col t y0 := Fin.ext (by simp only [col]; omega)
  show du m c (ix3 0 (row _ k) (col _ y0)) * a m c (ix3 0 (row _ k) y1) = _
  rw [hr, hc]; rfl

end Cert.Kernel10Ideal.Wgrad

end
-- ==== Proof.Wgrad.Run.lean ====
/- The kernel's run: its result array holds the weight's gradient (Wgrad/Spec.lean). -/
module

public import proofs.«01_k».proof.Proof.Wgrad.Outputs

@[expose] public section

set_option maxRecDepth 16384

noncomputable section

open Idealize.ShloMosaic Idealize.ShloMosaic.TcCoe Idealize.SL.Sem

namespace Cert.Kernel10Ideal.Wgrad

open Cert.Kernel10Ideal Cert.Kernel10Ideal.Gen
open Cert.Wgrad

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v4) = (fun i => dw (a m c) (du m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m ρ) (unchanged m ρ)) fun r h c =>
    ⟨((h.1 c).1 2).trans (final2 m c), h.2 c⟩

end Cert.Kernel10Ideal.Wgrad

end
-- ==== Proof.Wgrad.Pair.lean ====
/- The pair of a weight's gradient: the kernel's result is the reference's. -/
module

public import proofs.«01_k».proof.Defs
public import proofs.«01_k».proof.Proof.Wgrad.Ref
public import proofs.«01_k».proof.Proof.Wgrad.Run

@[expose] public section

set_option maxRecDepth 16384

noncomputable section

open Idealize.ShloMosaic Idealize.ShloMosaic.TcCoe Idealize.SL.Sem

namespace Cert.Wgrad

open Cert.Reference10Ideal.Wgrad in
theorem algebraic : Cert.algebraic_Kernel10Ideal_Reference10Ideal := by
  intro m ρ m' ρ' _ hagree
  refine ⟨_, Cert.Kernel10Ideal.Wgrad.run m ρ, θ_run_mono (run m' ρ') fun r h c => ?_⟩
  obtain ⟨h0, hargs⟩ := h c
  have e0 : a m' c = Cert.Kernel10Ideal.Wgrad.a m c := (hagree c).1
  have e1 : du m' c = Cert.Kernel10Ideal.Wgrad.du m c := (hagree c).2

  exact ⟨h0.trans (by rewrite [e0, e1]; rfl), hargs⟩

theorem reference_frame : Cert.quiescent_Reference10Ideal := by
  intro m g _
  exact (θ_run Cert.Reference10Ideal.defs _ _).mono (fun r h => ⟨fun c => (h c).2, sem_eq_zero_of_no_sems (by decide) r.2⟩)
    (Cert.Reference10Ideal.Wgrad.run m g)

end Cert.Wgrad

end
-- ==== Proof.Adam.Spec.lean ====
/- The optimiser's step of one entry: the two moments and the change of the weight. -/
module

public import proofs.«01_k».proof.Proof.Util

@[expose] public section

set_option maxRecDepth 16384

noncomputable section

open Idealize.ShloMosaic

namespace Cert.Adam

/-- The first moment after a gradient `g`. -/
def newM (g m : EReal) : EReal := Ideal.ofBits .f32 0x3F666666#32 * m + Ideal.ofBits .f32 0x3DCCCCCD#32 * g
/-- The second moment after a gradient `g`. -/
def newV (g v : EReal) : EReal := Ideal.ofBits .f32 0x3F7FBE77#32 * v + Ideal.ofBits .f32 0x3A83126F#32 * (g * g)
/-- The change of a weight `w` after a gradient `g`: both moments without their bias, and the weight's decay. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

variable {s : Shape}

/-- The first moments of an array. -/
def newMs (g m : FVec Ideal s .f32) : FVec Ideal s .f32 := fun i => newM (g i) (m i)
/-- The second moments of an array. -/
def newVs (g v : FVec Ideal s .f32) : FVec Ideal s .f32 := fun i => newV (g i) (v i)
/-- The changes of an array. -/
def deltas (w g m v : FVec Ideal s .f32) : FVec Ideal s .f32 := fun i => delta (w i) (g i) (m i) (v i)

/-! ### The same by host operations on whole arrays -/

variable (h : (⟨0, ![]⟩ : Shape).BroadcastsInDim s ![]) (w g m v : FVec Ideal s .f32)

/-- A word's number at every entry. -/
def all (b : BitVec 32) : FVec Ideal s .f32 := broadcastInDim s ![] h (constant (F := Ideal) ⟨0, ![]⟩ .f32 b)
theorem all_at (b : BitVec 32) (i : s.Idx) : all h b i = Ideal.ofBits .f32 b := rfl

theorem host_newMs : addf (mulf (all h 0x3F666666#32) m) (mulf (all h 0x3DCCCCCD#32) g) = newMs g m := rfl
theorem host_newVs : addf (mulf (all h 0x3F7FBE77#32) v) (mulf (all h 0x3A83126F#32) (mulf g g)) = newVs g v := rfl
theorem host_deltas : mulf (all h 0xBA83126F#32)
    (addf (Host.divf (Host.divf (newMs g m) (all h 0x3F26BD02#32))
        (addf (Host.sqrt (Host.divf (newVs g v) (all h 0x3C231ACC#32))) (all h 0x322BCC77#32))) (mulf (all h 0x3C23D70A#32) w))
    = deltas w g m v := rfl

end Cert.Adam

end
-- ==== Proof.SumAdam.Spec.lean ====
/- The output weight's step from the parts of its gradient: each layer's gradient is the sum of its eight parts, then the
   optimiser's step of each entry (Adam/Spec.lean). The results lie with the layers' rows under each other. -/
module

public import proofs.«01_k».proof.Proof.Adam.Spec

@[expose] public section

set_option maxRecDepth 16384

noncomputable section

open Idealize.ShloMosaic

namespace Cert.SumAdam

variable (p0 p1 : FVec Ideal ⟨3, ![8, 128, 1024]⟩ .f32) (w μ ν : FVec Ideal ⟨3, ![2, 128, 1024]⟩ .f32)

/-- The sum of a layer's parts. -/
def layerGrad (l : Fin 2) (i : Fin 128) (j : Fin 1024) : EReal := ∑ d : Fin 8, (if l = 0 then p0 else p1) (ix3 d i j)

/-- The layer of a result's row. -/
def layer (r : Fin 256) : Fin 2 := ⟨r.val / 128, by omega⟩
/-- The row in its layer. -/
def low (r : Fin 256) : Fin 128 := ⟨r.val % 128, by omega⟩
/-- An array's entry at a result's row and column. -/
def entry (a : FVec Ideal ⟨3, ![2, 128, 1024]⟩ .f32) (r : Fin 256) (j : Fin 1024) : EReal := a (ix3 (layer r) (low r) j)

/-- The gradient. -/
def grad (r : Fin 256) (j : Fin 1024) : EReal := layerGrad p0 p1 (layer r) (low r) j
/-- The change of the weight. -/
def dW (r : Fin 256) (j : Fin 1024) : EReal := Adam.delta (entry w r j) (grad p0 p1 r j) (entry μ r j) (entry ν r j)
/-- The first moment. -/
def mom (r : Fin 256) (j : Fin 1024) : EReal := Adam.newM (grad p0 p1 r j) (entry μ r j)
/-- The second moment. -/
def var (r : Fin 256) (j : Fin 1024) : EReal := Adam.newV (grad p0 p1 r j) (entry ν r j)

end Cert.SumAdam

end
-- ==== Proof.SumAdam.Steps.lean ====
/- The reference's values: each layer's summed gradient, and the step of every entry (Adam/Spec.lean) laid out in rows. -/
module

public import proofs.«01_k».proof.Proof.SumAdam.Spec
public import proofs.«01_k».proof.Proof.Gen.Reference11Ideal.Run
public import Idealize.ShloMosaic.Lib.Claim

@[expose] public section

set_option maxRecDepth 16384

noncomputable section

open Idealize.ShloMosaic Idealize.ShloMosaic.TcCoe Idealize.SL.Sem

namespace Cert.Reference11Ideal.SumAdam

open Cert.Reference11Ideal Cert.Reference11Ideal.Gen
open Cert Cert.SumAdam

variable (m : (ℓ : Loc nD τ sig) → Buf (Elt Ideal) ℓ) (c : Dev nD)

/-- The arguments, by what they are. -/
abbrev p0 : FVec Ideal ⟨3, ![8, 128, 1024]⟩ .f32 := m ((c.tc : Thread nD τ).loc main_arg0)
abbrev p1 : FVec Ideal ⟨3, ![8, 128, 1024]⟩ .f32 := m ((c.tc : Thread nD τ).loc main_arg1)
abbrev w : FVec Ideal ⟨3, ![2, 128, 1024]⟩ .f32 := m ((c.tc : Thread nD τ).loc main_arg2)
abbrev μ : FVec Ideal ⟨3, ![2, 128, 1024]⟩ .f32 := m ((c.tc : Thread nD τ).loc main_arg3)
abbrev ν : FVec Ideal ⟨3, ![2, 128, 1024]⟩ .f32 := m ((c.tc : Thread nD τ).loc main_arg4)

/-- Both layers' gradients. -/
def gV : FVec Ideal S2x128x1024 .f32 :=
  concatenate S2x128x1024 0 [⟨S1x128x1024, broadcastInDim S1x128x1024 ![1, 2] bcast_S128x1024_S1x128x1024_1_2
      (Host.reduceAdd (p0 m c) (constant S_ .f32 0x00000000#32) reducesTo_S8x128x1024_S128x1024_d0 h_S_)⟩,
    ⟨S1x128x1024, broadcastInDim S1x128x1024 ![1, 2] bcast_S128x1024_S1x128x1024_1_2
      (Host.reduceAdd (p1 m c) (constant S_ .f32 0x00000000#32) reducesTo_S8x128x1024_S128x1024_d0 h_S_)⟩] concatenates_S1x128x1024_S1x128x1024_S2x128x1024_d0
theorem gV_at (l : Fin 2) (i : Fin 128) (j : Fin 1024) : gV m c (ix3 l i j) = layerGrad (p0 m c) (p1 m c) l i j := by
  fin_cases l
  · pointwise [gV, layerGrad]
  · pointwise [gV, layerGrad]

/-- An array of both layers in rows. -/
def rows (a : FVec Ideal S2x128x1024 .f32) : FVec Ideal S256x1024 .f32 := shapeCast S256x1024 a shapeCasts_S2x128x1024_S256x1024
theorem rows_at (a : FVec Ideal S2x128x1024 .f32) (r : Fin 256) (j : Fin 1024) : rows a (ix2 r j) = entry a r j := by
  pointwise [rows, entry, layer, low]

theorem grad_eq : rows (gV m c) = fun i => grad (p0 m c) (p1 m c) (i 0) (i 1) := by
  funext i; idx_vars i
  exact (rows_at _ _ _).trans (gV_at m c _ _ _)
theorem dW_eq : rows (Adam.deltas (w m c) (gV m c) (μ m c) (ν m c)) = fun i => dW (p0 m c) (p1 m c) (w m c) (μ m c) (ν m c) (i 0) (i 1) := by
  funext i; idx_vars i
  exact (rows_at _ _ _).trans (congrArg (fun g => Adam.delta _ g _ _) (gV_at m c _ _ _))
theorem mom_eq : rows (Adam.newMs (gV m c) (μ m c)) = fun i => mom (p0 m c) (p1 m c) (μ m c) (i 0) (i 1) := by
  funext i; idx_vars i
  exact (rows_at _ _ _).trans (congrArg (fun g => Adam.newM g _) (gV_at m c _ _ _))
theorem var_eq : rows (Adam.newVs (gV m c) (ν m c)) = fun i => var (p0 m c) (p1 m c) (ν m c) (i 0) (i 1) := by
  funext i; idx_vars i
  exact (rows_at _ _ _).trans (congrArg (fun g => Adam.newV g _) (gV_at m c _ _ _))

end Cert.Reference11Ideal.SumAdam

end
-- ==== Proof.SumAdam.Ref.lean ====
/- The reference's run: the four results, and the arguments kept. -/
module

public import proofs.«01_k».proof.Proof.SumAdam.Steps

@[expose] public section

set_option maxRecDepth 16384

noncomputable section

open Idealize.ShloMosaic Idealize.ShloMosaic.TcCoe Idealize.SL.Sem

namespace Cert.Reference11Ideal.SumAdam

open Cert.Reference11Ideal Cert.Reference11Ideal.Gen
open Cert.SumAdam

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v29) = (fun i => grad (p0 m c) (p1 m c) (i 0) (i 1))
      ∧ r.2.mem ((c.tc : Thread nD τ).loc main_v30) = (fun i => dW (p0 m c) (p1 m c) (w m c) (μ m c) (ν m c) (i 0) (i 1))
      ∧ r.2.mem ((c.tc : Thread nD τ).loc main_v31) = (fun i => mom (p0 m c) (p1 m c) (μ m c) (i 0) (i 1))
      ∧ r.2.mem ((c.tc : Thread nD τ).loc main_v32) = (fun i => var (p0 m c) (p1 m c) (ν m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  obtain ⟨h0, h1, h2, h3, hargs⟩ := h c
  exact ⟨h0.trans (grad_eq m c), h1.trans (dW_eq m c), h2.trans (mom_eq m c), h3.trans (var_eq m c), hargs⟩

end Cert.Reference11Ideal.SumAdam

end
-- ==== Proof.SumAdam.Blocks.lean ====
/- What the kernel's blocks hold at a grid point: all parts of both layers, and the point's layer of the other arrays. -/
module

public import proofs.«01_k».proof.Proof.SumAdam.Spec
public import proofs.«01_k».proof.Proof.Gen.Kernel11Ideal.Frame
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel11Ideal.SumAdam

open Cert.Kernel11Ideal Cert.Kernel11Ideal.Gen
open Cert Cert.SumAdam

variable (m : (ℓ : Loc nD τ sig) → Buf (Elt Ideal) ℓ) (c : Dev nD)

abbrev p0 : FVec Ideal ⟨3, ![8, 128, 1024]⟩ .f32 := m ((c : Thread nD τ).loc main_arg0)
abbrev p1 : FVec Ideal ⟨3, ![8, 128, 1024]⟩ .f32 := m ((c : Thread nD τ).loc main_arg1)
abbrev w : FVec Ideal ⟨3, ![2, 128, 1024]⟩ .f32 := m ((c : Thread nD τ).loc main_arg2)
abbrev μ : FVec Ideal ⟨3, ![2, 128, 1024]⟩ .f32 := m ((c : Thread nD τ).loc main_arg3)
abbrev ν : FVec Ideal ⟨3, ![2, 128, 1024]⟩ .f32 := m ((c : Thread nD τ).loc main_arg4)

theorem v0_at (d : Fin 8) (i : Fin 128) (j : Fin 1024) : V m c main_v0 (ix3 d i j) = p0 m c (ix3 d i j) := by
  unfold V
  after_reads_at
theorem v1_at (d : Fin 8) (i : Fin 128) (j : Fin 1024) : V m c main_v1 (ix3 d i j) = p1 m c (ix3 d i j) := by
  unfold V
  after_reads_at
theorem v2_at (r : Fin 256) (j : Fin 1024) : V m c main_v2 (ix2 r j) = entry (w m c) r j := by
  unfold V
  after_reads_at
  rfl
theorem v3_at (r : Fin 256) (j : Fin 1024) : V m c main_v3 (ix2 r j) = entry (μ m c) r j := by
  unfold V
  after_reads_at
  rfl
theorem v4_at (r : Fin 256) (j : Fin 1024) : V m c main_v4 (ix2 r j) = entry (ν m c) r j := by
  unfold V
  after_reads_at
  rfl

theorem idx : ∀ t : Fin cfg0.N, win0_0.index t = ![0, 0, 0] ∧ win0_1.index t = ![0, 0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row a block's row is, at point `t`. -/
def row (t : Fin cfg0.N) (i : Fin 128) : Fin 256 := ⟨t.val * 128 + i.val, by have := lt_of_lt_of_eq t.isLt N_0; omega⟩
theorem low_row (t : Fin cfg0.N) (i : Fin 128) : low (row t i) = i := Fin.ext (by simp only [low, row]; omega)
theorem layer_row (t : Fin cfg0.N) (i : Fin 128) : (layer (row t i)).val = t.val := by simp only [layer, row]; omega

theorem at0 (t : Fin cfg0.N) (d : Fin 8) (i : Fin 128) (j : Fin 1024) : ((View.whole main_v0).slice (win0_0.rect t)).emb (ix3 d i j) = ix3 d i j := by
  blk_ext [idx t]
theorem blk0 (t : Fin cfg0.N) (d : Fin 8) (i : Fin 128) (j : Fin 1024) : iblk m c 0 t (ix3 d i j) = p0 m c (ix3 d i j) :=
  (congrArg (V m c main_v0) (at0 t d i j)).trans (v0_at m c _ _ _)
theorem at1 (t : Fin cfg0.N) (d : Fin 8) (i : Fin 128) (j : Fin 1024) : ((View.whole main_v1).slice (win0_1.rect t)).emb (ix3 d i j) = ix3 d i j := by
  blk_ext [idx t]
theorem blk1 (t : Fin cfg0.N) (d : Fin 8) (i : Fin 128) (j : Fin 1024) : iblk m c 1 t (ix3 d i j) = p1 m c (ix3 d i j) :=
  (congrArg (V m c main_v1) (at1 t d i j)).trans (v1_at m c _ _ _)
theorem at2 (t : Fin cfg0.N) (i : Fin 128) (j : Fin 1024) : ((View.whole main_v2).slice (win0_2.rect t)).emb (ix2 i j) = ix2 (row t i) j := by
  blk_ext [idx t, row]
theorem blk2 (t : Fin cfg0.N) (i : Fin 128) (j : Fin 1024) : iblk m c 2 t (ix2 i j) = entry (w m c) (row t i) j :=
  (congrArg (V m c main_v2) (at2 t i j)).trans (v2_at m c _ _)
theorem at3 (t : Fin cfg0.N) (i : Fin 128) (j : Fin 1024) : ((View.whole main_v3).slice (win0_3.rect t)).emb (ix2 i j) = ix2 (row t i) j := by
  blk_ext [idx t, row]
theorem blk3 (t : Fin cfg0.N) (i : Fin 128) (j : Fin 1024) : iblk m c 3 t (ix2 i j) = entry (μ m c) (row t i) j :=
  (congrArg (V m c main_v3) (at3 t i j)).trans (v3_at m c _ _)
theorem at4 (t : Fin cfg0.N) (i : Fin 128) (j : Fin 1024) : ((View.whole main_v4).slice (win0_4.rect t)).emb (ix2 i j) = ix2 (row t i) j := by
  blk_ext [idx t, row]
theorem blk4 (t : Fin cfg0.N) (i : Fin 128) (j : Fin 1024) : iblk m c 4 t (ix2 i j) = entry (ν m c) (row t i) j :=
  (congrArg (V m c main_v4) (at4 t i j)).trans (v4_at m c _ _)
theorem at5 (t : Fin cfg0.N) (i : Fin 128) (j : Fin 1024) : ((View.whole main_v5_0).slice (win0_5.rect t)).emb (ix2 i j) = ix2 (row t i) j := by
  blk_ext [idx t, row]
theorem at6 (t : Fin cfg0.N) (i : Fin 128) (j : Fin 1024) : ((View.whole main_v5_1).slice (win0_6.rect t)).emb (ix2 i j) = ix2 (row t i) j := by
  blk_ext [idx t, row]
theorem at7 (t : Fin cfg0.N) (i : Fin 128) (j : Fin 1024) : ((View.whole main_v5_2).slice (win0_7.rect t)).emb (ix2 i j) = ix2 (row t i) j := by
  blk_ext [idx t, row]
theorem at8 (t : Fin cfg0.N) (i : Fin 128) (j : Fin 1024) : ((View.whole main_v5_3).slice (win0_8.rect t)).emb (ix2 i j) = ix2 (row t i) j := by
  blk_ext [idx t, row]

end Cert.Kernel11Ideal.SumAdam

end
-- ==== Proof.SumAdam.Outputs.lean ====
/- The kernel's result arrays: the first point sums and steps the first layer, the second point the second. -/
module

public import proofs.«01_k».proof.Proof.SumAdam.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel11Ideal.SumAdam

open Cert.Kernel11Ideal Cert.Kernel11Ideal.Gen
open Cert Cert.SumAdam

variable (m : (ℓ : Loc nD τ sig) → Buf (Elt Ideal) ℓ) (c : Dev nD)

theorem layer_first (t : Fin cfg0.N) (h : t.val % 2 = 0) (i : Fin 128) : layer (row t i) = 0 :=
  Fin.ext ((layer_row t i).trans (by have := lt_of_lt_of_eq t.isLt N_0; show t.val = 0; omega))
theorem layer_second (t : Fin cfg0.N) (h : t.val % 2 = 1) (i : Fin 128) : layer (row t i) = 1 :=
  Fin.ext ((layer_row t i).trans (by have := lt_of_lt_of_eq t.isLt N_0; show t.val = 1; omega))

/-- The first layer's parts added, one after the other. -/
def first (t : Fin cfg0.N) : FVec Ideal ⟨2, ![128, 1024]⟩ .f32 := k0_pay4 (View.ld (iblk m c 0 t) (Rect.unit ![0, 0, 0] ![1, 128, 1024] inb_S8x128x1024_S1x128x1024_0_0_0))
  (View.ld (iblk m c 0 t) (Rect.unit ![1, 0, 0] ![1, 128, 1024] inb_S8x128x1024_S1x128x1024_1_0_0))
  (View.ld (iblk m c 0 t) (Rect.unit ![2, 0, 0] ![1, 128, 1024] inb_S8x128x1024_S1x128x1024_2_0_0))
  (View.ld (iblk m c 0 t) (Rect.unit ![3, 0, 0] ![1, 128, 1024] inb_S8x128x1024_S1x128x1024_3_0_0))
  (View.ld (iblk m c 0 t) (Rect.unit ![4, 0, 0] ![1, 128, 1024] inb_S8x128x1024_S1x128x1024_4_0_0))
  (View.ld (iblk m c 0 t) (Rect.unit ![5, 0, 0] ![1, 128, 1024] inb_S8x128x1024_S1x128x1024_5_0_0))
  (View.ld (iblk m c 0 t) (Rect.unit ![6, 0, 0] ![1, 128, 1024] inb_S8x128x1024_S1x128x1024_6_0_0))
  (View.ld (iblk m c 0 t) (Rect.unit ![7, 0, 0] ![1, 128, 1024] inb_S8x128x1024_S1x128x1024_7_0_0))
theorem first_at (t : Fin cfg0.N) (h : t.val % 2 = 0) (i : Fin 128) (j : Fin 1024) : first m c t (ix2 i j) = grad (p0 m c) (p1 m c) (row t i) j := by
  rw [grad, low_row, layer_first t h, layerGrad, Fin.sum_univ_eight]
  pointwise [first, k0_pay4, blk0]
/-- The second layer's. -/
def second (t : Fin cfg0.N) : FVec Ideal ⟨2, ![128, 1024]⟩ .f32 := k0_pay5 (View.ld (iblk m c 1 t) (Rect.unit ![0, 0, 0] ![1, 128, 1024] inb_S8x128x1024_S1x128x1024_0_0_0))
  (View.ld (iblk m c 1 t) (Rect.unit ![1, 0, 0] ![1, 128, 1024] inb_S8x128x1024_S1x128x1024_1_0_0))
  (View.ld (iblk m c 1 t) (Rect.unit ![2, 0, 0] ![1, 128, 1024] inb_S8x128x1024_S1x128x1024_2_0_0))
  (View.ld (iblk m c 1 t) (Rect.unit ![3, 0, 0] ![1, 128, 1024] inb_S8x128x1024_S1x128x1024_3_0_0))
  (View.ld (iblk m c 1 t) (Rect.unit ![4, 0, 0] ![1, 128, 1024] inb_S8x128x1024_S1x128x1024_4_0_0))
  (View.ld (iblk m c 1 t) (Rect.unit ![5, 0, 0] ![1, 128, 1024] inb_S8x128x1024_S1x128x1024_5_0_0))
  (View.ld (iblk m c 1 t) (Rect.unit ![6, 0, 0] ![1, 128, 1024] inb_S8x128x1024_S1x128x1024_6_0_0))
  (View.ld (iblk m c 1 t) (Rect.unit ![7, 0, 0] ![1, 128, 1024] inb_S8x128x1024_S1x128x1024_7_0_0))
theorem second_at (t : Fin cfg0.N) (h : t.val % 2 = 1) (i : Fin 128) (j : Fin 1024) : second m c t (ix2 i j) = grad (p0 m c) (p1 m c) (row t i) j := by
  rw [grad, low_row, layer_second t h, layerGrad, Fin.sum_univ_eight]
  pointwise [second, k0_pay5, blk1]

variable (t : Fin cfg0.N) (S : FVec Ideal ⟨2, ![128, 1024]⟩ .f32) (hS : ∀ i j, S (ix2 i j) = grad (p0 m c) (p1 m c) (row t i) j) (i : Fin 128) (j : Fin 1024)
include hS

/-- The step of a layer's block once its parts are added. -/
theorem mom_at : k0_pay1 S (iblk m c 3 t) (ix2 i j) = mom (p0 m c) (p1 m c) (μ m c) (row t i) j := by
  pointwise [k0_pay1, mom, Adam.newM, hS, blk3]
theorem var_at : k0_pay2 S (iblk m c 4 t) (ix2 i j) = var (p0 m c) (p1 m c) (ν m c) (row t i) j := by
  pointwise [k0_pay2, var, Adam.newV, hS, blk4]
theorem dW_at : k0_pay3 S (iblk m c 2 t) (iblk m c 3 t) (iblk m c 4 t) (ix2 i j) = dW (p0 m c) (p1 m c) (w m c) (μ m c) (ν m c) (row t i) j := by
  have h1 := mom_at m c t S hS i j
  have h2 := var_at m c t S hS i j
  pointwise [k0_pay3, h1, h2, mom, var, dW, Adam.delta, blk2]
omit hS

theorem final5 : (dats m 0 c).arrAt 5 (cfgs 0).N = fun i => grad (p0 m c) (p1 m c) (i 0) (i 1) := by
  refine (dats m 0 c).arrAt_eq_of_covers 5 _ (by decide +kernel) fun t _ y => ?_
  blk_simp
  idx_vars y
  rw [at5, after0_5]
  by_cases h0 : t.val % 2 = 0
  · rw [outsAt0_A m c t h0 (by omega)]; frame_out
    exact first_at m c t h0 y0 y1
  · rw [outsAt0_B m c t h0 (by omega)]; frame_out
    exact second_at m c t (by omega) y0 y1

theorem final6 : (dats m 0 c).arrAt 6 (cfgs 0).N = fun i => dW (p0 m c) (p1 m c) (w m c) (μ m c) (ν m c) (i 0) (i 1) := by
  refine (dats m 0 c).arrAt_eq_of_covers 6 _ (by decide +kernel) fun t _ y => ?_
  blk_simp
  idx_vars y
  rw [at6, after0_6]
  by_cases h0 : t.val % 2 = 0
  · rw [outsAt0_A m c t h0 (by omega)]; frame_out
    exact dW_at m c t _ (first_at m c t h0) y0 y1
  · rw [outsAt0_B m c t h0 (by omega)]; frame_out
    exact dW_at m c t _ (second_at m c t (by omega)) y0 y1

theorem final7 : (dats m 0 c).arrAt 7 (cfgs 0).N = fun i => mom (p0 m c) (p1 m c) (μ m c) (i 0) (i 1) := by
  refine (dats m 0 c).arrAt_eq_of_covers 7 _ (by decide +kernel) fun t _ y => ?_
  blk_simp
  idx_vars y
  rw [at7, after0_7]
  by_cases h0 : t.val % 2 = 0
  · rw [outsAt0_A m c t h0 (by omega)]; frame_out
    exact mom_at m c t _ (first_at m c t h0) y0 y1
  · rw [outsAt0_B m c t h0 (by omega)]; frame_out
    exact mom_at m c t _ (second_at m c t (by omega)) y0 y1

theorem final8 : (dats m 0 c).arrAt 8 (cfgs 0).N = fun i => var (p0 m c) (p1 m c) (ν m c) (i 0) (i 1) := by
  refine (dats m 0 c).arrAt_eq_of_covers 8 _ (by decide +kernel) fun t _ y => ?_
  blk_simp
  idx_vars y
  rw [at8, after0_8]
  by_cases h0 : t.val % 2 = 0
  · rw [outsAt0_A m c t h0 (by omega)]; frame_out
    exact var_at m c t _ (first_at m c t h0) y0 y1
  · rw [outsAt0_B m c t h0 (by omega)]; frame_out
    exact var_at m c t _ (second_at m c t (by omega)) y0 y1

end Cert.Kernel11Ideal.SumAdam

end
-- ==== Proof.SumAdam.Run.lean ====
/- The kernel's run: the four results, and the arguments kept. -/
module

public import proofs.«01_k».proof.Proof.SumAdam.Outputs

@[expose] public section

set_option maxRecDepth 16384

noncomputable section

open Idealize.ShloMosaic Idealize.ShloMosaic.TcCoe Idealize.SL.Sem

namespace Cert.Kernel11Ideal.SumAdam

open Cert.Kernel11Ideal Cert.Kernel11Ideal.Gen
open Cert.SumAdam

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5_0) = (fun i => grad (p0 m c) (p1 m c) (i 0) (i 1))
      ∧ r.2.mem ((c.tc : Thread nD τ).loc main_v5_1) = (fun i => dW (p0 m c) (p1 m c) (w m c) (μ m c) (ν m c) (i 0) (i 1))
      ∧ r.2.mem ((c.tc : Thread nD τ).loc main_v5_2) = (fun i => mom (p0 m c) (p1 m c) (μ m c) (i 0) (i 1))
      ∧ r.2.mem ((c.tc : Thread nD τ).loc main_v5_3) = (fun i => var (p0 m c) (p1 m c) (ν m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c =>
    ⟨((h.1 c).1 5).trans (final5 m c), ((h.1 c).1 6).trans (final6 m c), ((h.1 c).1 7).trans (final7 m c), ((h.1 c).1 8).trans (final8 m c), h.2 c⟩

end Cert.Kernel11Ideal.SumAdam

end
-- ==== Proof.SumAdam.Pair.lean ====
/- Both programs give the same results from the same arguments, and the reference keeps its own. -/
module

public import proofs.«01_k».proof.Defs
public import proofs.«01_k».proof.Proof.SumAdam.Ref
public import proofs.«01_k».proof.Proof.SumAdam.Run

@[expose] public section

set_option maxRecDepth 16384

noncomputable section

open Idealize.ShloMosaic Idealize.ShloMosaic.TcCoe Idealize.SL.Sem

namespace Cert.SumAdam

open Cert.Reference11Ideal.SumAdam in
theorem algebraic : Cert.algebraic_Kernel11Ideal_Reference11Ideal := by
  intro m ρ m' ρ' _ hagree
  refine ⟨_, _, _, _, Cert.Kernel11Ideal.SumAdam.run m ρ, θ_run_mono (run m' ρ') fun r h c => ?_⟩
  obtain ⟨h0, h1, h2, h3, hargs⟩ := h c
  have e0 : p0 m' c = Cert.Kernel11Ideal.SumAdam.p0 m c := (hagree c).1
  have e1 : p1 m' c = Cert.Kernel11Ideal.SumAdam.p1 m c := (hagree c).2.1
  have e2 : w m' c = Cert.Kernel11Ideal.SumAdam.w m c := (hagree c).2.2.1
  have e3 : μ m' c = Cert.Kernel11Ideal.SumAdam.μ m c := (hagree c).2.2.2.1
  have e4 : ν m' c = Cert.Kernel11Ideal.SumAdam.ν m c := (hagree c).2.2.2.2

  exact ⟨h0.trans (by rewrite [e0, e1]; rfl), h1.trans (by rewrite [e0, e1, e2, e3, e4]; rfl), h2.trans (by rewrite [e0, e1, e3]; rfl), h3.trans (by rewrite [e0, e1, e4]; rfl), hargs⟩

theorem reference_frame : Cert.quiescent_Reference11Ideal := by
  intro m g _
  exact (θ_run Cert.Reference11Ideal.defs _ _).mono (fun r h => ⟨fun c => (h c).2.2.2.2, sem_eq_zero_of_no_sems (by decide) r.2⟩)
    (Cert.Reference11Ideal.SumAdam.run m g)

end Cert.SumAdam

end
-- ==== Proof.MergeFirst.Ref.lean ====
/- Layer 0: the reference's run: each result array holds the merge's gradient (Merge/Spec.lean). -/
module

public import proofs.«01_k».proof.Proof.Merge.Spec
public import proofs.«01_k».proof.Proof.Gen.Reference12Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference12Ideal.MergeFirst

open Cert.Reference12Ideal Cert.Reference12Ideal.Gen

variable (m : (ℓ : Loc nD τ sig) → Buf (Elt Ideal) ℓ) (ρ : Dev nD → PrngReg)

variable (c : Dev nD)

/-- The arguments, by what they are. -/
abbrev z : FVec Ideal ⟨3, ![1, 8192, 4608]⟩ .f32 := m ((c.tc : Thread nD τ).loc main_arg0)
abbrev b : FVec Ideal ⟨2, ![2, 2048]⟩ .f32 := m ((c.tc : Thread nD τ).loc main_arg1)
abbrev a : FVec Ideal ⟨3, ![1, 8192, 512]⟩ .f32 := m ((c.tc : Thread nD τ).loc main_arg2)
abbrev s : FVec Ideal ⟨3, ![1, 8192, 512]⟩ .f32 := m ((c.tc : Thread nD τ).loc main_arg3)
abbrev wa : FVec Ideal ⟨3, ![2, 512, 1024]⟩ .f32 := m ((c.tc : Thread nD τ).loc main_arg4)
abbrev wb : FVec Ideal ⟨3, ![2, 512, 1024]⟩ .f32 := m ((c.tc : Thread nD τ).loc main_arg5)
abbrev wo : FVec Ideal ⟨3, ![2, 1024, 1024]⟩ .f32 := m ((c.tc : Thread nD τ).loc main_arg6)
abbrev dy : FVec Ideal ⟨3, ![1, 8192, 1024]⟩ .f32 := m ((c.tc : Thread nD τ).loc main_arg7)

set_option maxHeartbeats 2000000 in
open Cert.Merge in
theorem run : θ_run defs (onTc (τ := τ) (main (F := Ideal))) ⟨m, fun _ => 0, ρ⟩ fun r => ∀ c : Dev nD,
      r.2.mem ((c.tc : Thread nD τ).loc main_v59) = (fun i => dIn 0 (wo m c) (dy m c) (gateA 0 (z m c) (b m c)) (wa m c) (i 0) (i 1))
      ∧ r.2.mem ((c.tc : Thread nD τ).loc main_v60) = (fun i => dIn 0 (wo m c) (dy m c) (gateB 0 (z m c) (b m c)) (wb m c) (i 0) (i 1))
      ∧ r.2.mem ((c.tc : Thread nD τ).loc main_v62) = (fun i => dLogits 0 (z m c) (b m c) (a m c) (s m c) (wa m c) (wb m c) (wo m c) (dy m c) (i 0) (i 1))
      ∧ r.2.mem ((c.tc : Thread nD τ).loc main_v63) = (fun i => dWo 0 (z m c) (b m c) (a m c) (s m c) (wa m c) (wb m c) (dy m c) (i 0) (i 1))
      ∧ r.2.mem ((c.tc : Thread nD τ).loc main_v64) = (fun i => dW 0 (wo m c) (dy m c) (gateA 0 (z m c) (b m c)) (a m c) (i 0) (i 1))
      ∧ r.2.mem ((c.tc : Thread nD τ).loc main_v65) = (fun i => dW 0 (wo m c) (dy m c) (gateB 0 (z m c) (b m c)) (s m c) (i 0) (i 1))
      ∧ r.2.mem ((c.tc : Thread nD τ).loc main_v66) = (fun i => dBias 0 (z m c) (b m c) (a m c) (s m c) (wa m c) (wb m c) (wo m c) (dy m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨h0, h1, h2, h3, h4, h5, h6, hargs⟩ := h c
  refine ⟨h0.trans ?_, h1.trans ?_, h2.trans ?_, h3.trans ?_, h4.trans ?_, h5.trans ?_, h6.trans ?_, hargs⟩ <;>
    clear h0 h1 h2 h3 h4 h5 h6 hargs <;> funext i
  · pointwise [dIn, dm, gateA, Ideal.logistic, z, b, a, s, wa, wb, wo, dy]
    exact Finset.sum_congr rfl fun d _ => congrArg (· * _) (mul_comm _ _)
  · pointwise [dIn, dm, gateB, Ideal.logistic, z, b, a, s, wa, wb, wo, dy]
    simp only [← Nat.add_assoc, Nat.reduceAdd]
    exact Finset.sum_congr rfl fun d _ => congrArg (· * _) (mul_comm _ _)
  · idx_vars i
    pointwise [Value.res_main_v62, dLogits, dLogit, out, dm, gateA, gateB, Ideal.logistic, z, b, a, s, wa, wb, wo, dy]
    simp only [← Nat.add_assoc, Nat.reduceAdd]
    by_cases h : i1.val < 1024
    · rw [dif_neg (by omega), dif_pos h, dif_pos h, zero_add]
    · rw [dif_pos ⟨by omega, by omega⟩, dif_neg h, dif_neg h, add_zero]
  · pointwise [dWo, out, gateA, gateB, Ideal.logistic, z, b, a, s, wa, wb, wo, dy]
    simp only [← Nat.add_assoc, Nat.reduceAdd]
    refine (Fin.sum_univ_one (M := EReal) _).trans ?_
    exact Finset.sum_congr rfl fun r _ => mul_comm (G := EReal) _ _
  · pointwise [dW, dm, gateA, Ideal.logistic, z, b, a, s, wa, wb, wo, dy]
    refine (Fin.sum_univ_one (M := EReal) _).trans ?_
    exact Finset.sum_congr (M := EReal) rfl fun r _ => (mul_comm (G := EReal) _ _).trans (congrArg (HMul.hMul (α := EReal) _) (mul_comm (G := EReal) _ _))
  · pointwise [dW, dm, gateB, Ideal.logistic, z, b, a, s, wa, wb, wo, dy]
    simp only [← Nat.add_assoc, Nat.reduceAdd]
    refine (Fin.sum_univ_one (M := EReal) _).trans ?_
    exact Finset.sum_congr (M := EReal) rfl fun r _ => (mul_comm (G := EReal) _ _).trans (congrArg (HMul.hMul (α := EReal) _) (mul_comm (G := EReal) _ _))
  · idx_vars i
    pointwise [Value.res_main_v66, dBias, dLogits, dLogit, out, dm, gateA, gateB, Cert.Util.hostReduceAdd_unit01, Ideal.logistic, z, b, a, s, wa, wb, wo, dy]
    simp only [← Nat.add_assoc, Nat.reduceAdd]
    refine Finset.sum_congr (M := EReal) rfl fun r _ => ?_
    by_cases h : i1.val < 1024
    · rw [dif_neg (by omega), dif_pos h, dif_pos h, zero_add]
    · rw [dif_pos ⟨by omega, by omega⟩, dif_neg h, dif_neg h, add_zero]

end Cert.Reference12Ideal.MergeFirst

end
-- ==== Proof.MergeFirst.Blocks.lean ====
/- Layer 0: what the kernel's blocks hold at a grid point: rows of the arguments. -/
module

public import proofs.«01_k».proof.Proof.Merge.Spec
public import proofs.«01_k».proof.Proof.Gen.Kernel12Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel12Ideal.MergeFirst

open Cert.Kernel12Ideal Cert.Kernel12Ideal.Gen
open Cert.Merge (gateA gateB out dm dIn dLogit dLogits dWo dW dBias)

variable (m : (ℓ : Loc nD τ sig) → Buf (Elt Ideal) ℓ) (c : Dev nD)

abbrev z : FVec Ideal ⟨3, ![1, 8192, 4608]⟩ .f32 := m ((c : Thread nD τ).loc main_arg0)
abbrev b : FVec Ideal ⟨2, ![2, 2048]⟩ .f32 := m ((c : Thread nD τ).loc main_arg1)
abbrev a : FVec Ideal ⟨3, ![1, 8192, 512]⟩ .f32 := m ((c : Thread nD τ).loc main_arg2)
abbrev s : FVec Ideal ⟨3, ![1, 8192, 512]⟩ .f32 := m ((c : Thread nD τ).loc main_arg3)
abbrev wa : FVec Ideal ⟨3, ![2, 512, 1024]⟩ .f32 := m ((c : Thread nD τ).loc main_arg4)
abbrev wb : FVec Ideal ⟨3, ![2, 512, 1024]⟩ .f32 := m ((c : Thread nD τ).loc main_arg5)
abbrev wo : FVec Ideal ⟨3, ![2, 1024, 1024]⟩ .f32 := m ((c : Thread nD τ).loc main_arg6)
abbrev dy : FVec Ideal ⟨3, ![1, 8192, 1024]⟩ .f32 := m ((c : Thread nD τ).loc main_arg7)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem blk0 (t : Fin cfg0.N) (i : Fin 512) (j : Fin 1024) : iblk m c 0 t (ix2 i j) = dy m c (ix3 0 (row t i) j) := by
  blk_point [iblk, V, idx t, row]
theorem blk1 (t : Fin cfg0.N) (i : Fin 512) (j : Fin 4608) : iblk m c 1 t (ix2 i j) = z m c (ix3 0 (row t i) j) := by
  blk_point [iblk, V, idx t, row]
theorem blk2 (t : Fin cfg0.N) (i : Fin 2) (j : Fin 2048) : iblk m c 2 t (ix2 i j) = b m c (ix2 i j) := by
  blk_point [iblk, V, idx t]
theorem blk3 (t : Fin cfg0.N) (i : Fin 512) (j : Fin 512) : iblk m c 3 t (ix2 i j) = a m c (ix3 0 (row t i) j) := by
  blk_point [iblk, V, idx t, row]
theorem blk4 (t : Fin cfg0.N) (i : Fin 512) (j : Fin 512) : iblk m c 4 t (ix2 i j) = s m c (ix3 0 (row t i) j) := by
  blk_point [iblk, V, idx t, row]
theorem blk5 (t : Fin cfg0.N) (i : Fin 512) (j : Fin 1024) : iblk m c 5 t (ix2 i j) = wa m c (ix3 0 i j) := by
  blk_point [iblk, V, idx t]
theorem blk6 (t : Fin cfg0.N) (i : Fin 512) (j : Fin 1024) : iblk m c 6 t (ix2 i j) = wb m c (ix3 0 i j) := by
  blk_point [iblk, V, idx t]
theorem blk7 (t : Fin cfg0.N) (i : Fin 1024) (j : Fin 1024) : iblk m c 7 t (ix2 i j) = wo m c (ix3 0 i j) := by
  blk_point [iblk, V, idx t]

theorem at8 (t : Fin cfg0.N) (i : Fin 512) (j : Fin 512) :
    ((View.whole main_v16_0).slice (win0_8.rect t)).emb (ix2 i j) = ix2 (row t i) j := by
  blk_ext [idx t, row]
theorem at9 (t : Fin cfg0.N) (i : Fin 512) (j : Fin 512) :
    ((View.whole main_v16_1).slice (win0_9.rect t)).emb (ix2 i j) = ix2 (row t i) j := by
  blk_ext [idx t, row]
theorem at10 (t : Fin cfg0.N) (i : Fin 512) (j : Fin 2048) :
    ((View.whole main_v16_2).slice (win0_10.rect t)).emb (ix2 i j) = ix2 (row t i) j := by
  blk_ext [idx t, row]

end Cert.Kernel12Ideal.MergeFirst

end
-- ==== Proof.MergeFirst.Inputs.lean ====
/- Layer 0: the kernel's first two results: the cotangents of both branches' activations. -/
module

public import proofs.«01_k».proof.Proof.MergeFirst.Blocks
public import proofs.«01_k».proof.Proof.Gen.Kernel12Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel12Ideal.MergeFirst

open Cert.Kernel12Ideal Cert.Kernel12Ideal.Gen
open Cert.Merge (gateA gateB out dm dIn dLogit dLogits dWo dW dBias)

variable (m : (ℓ : Loc nD τ sig) → Buf (Elt Ideal) ℓ) (c : Dev nD)

theorem final8 : (dats m 0 c).arrAt 8 (cfgs 0).N
    = fun i => dIn 0 (wo m c) (dy m c) (gateA 0 (z m c) (b m c)) (wa m c) (i 0) (i 1) := by
  refine (dats m 0 c).arrAt_eq_of_covers 8 _ (by decide +kernel) fun t _ y => ?_
  blk_simp
  idx_vars y
  rw [at8]
  rw [after0_8]
  by_cases h0 : t.val % 16 = 0
  · have h1 : ¬ t.val % 16 = 15 := by omega
    rw [outsAt0_A m c t h0 h1]; frame_out
    pointwise [k0_pay20, k0_pay16, k0_pay9, k0_pay8, k0_pay12, dIn, dm, gateA, Cert.Util.load_layer, blk0, blk1, blk2, blk5, blk7]
  by_cases h1 : t.val % 16 = 15
  · rw [outsAt0_C m c t h0 h1]; frame_out
    pointwise [k0_pay20, k0_pay16, k0_pay9, k0_pay8, k0_pay12, dIn, dm, gateA, Cert.Util.load_layer, blk0, blk1, blk2, blk5, blk7]
  · rw [outsAt0_B m c t h0 h1]; frame_out
    pointwise [k0_pay20, k0_pay16, k0_pay9, k0_pay8, k0_pay12, dIn, dm, gateA, Cert.Util.load_layer, blk0, blk1, blk2, blk5, blk7]

theorem final9 : (dats m 0 c).arrAt 9 (cfgs 0).N
    = fun i => dIn 0 (wo m c) (dy m c) (gateB 0 (z m c) (b m c)) (wb m c) (i 0) (i 1) := by
  refine (dats m 0 c).arrAt_eq_of_covers 9 _ (by decide +kernel) fun t _ y => ?_
  blk_simp
  idx_vars y
  rw [at9]
  rw [after0_9]
  by_cases h0 : t.val % 16 = 0
  · have h1 : ¬ t.val % 16 = 15 := by omega
    rw [outsAt0_A m c t h0 h1]; frame_out
    pointwise [k0_pay21, k0_pay17, k0_pay9, k0_pay8, k0_pay13, k0_pay14, dIn, dm, gateB, Cert.Util.load_layer, blk0, blk1, blk2, blk6, blk7]
  by_cases h1 : t.val % 16 = 15
  · rw [outsAt0_C m c t h0 h1]; frame_out
    pointwise [k0_pay21, k0_pay17, k0_pay9, k0_pay8, k0_pay13, k0_pay14, dIn, dm, gateB, Cert.Util.load_layer, blk0, blk1, blk2, blk6, blk7]
  · rw [outsAt0_B m c t h0 h1]; frame_out
    pointwise [k0_pay21, k0_pay17, k0_pay9, k0_pay8, k0_pay13, k0_pay14, dIn, dm, gateB, Cert.Util.load_layer, blk0, blk1, blk2, blk6, blk7]

end Cert.Kernel12Ideal.MergeFirst

end
-- ==== Proof.MergeFirst.Logits.lean ====
/- Layer 0: the kernel's third result: the cotangent of the gates' logits. -/
module

public import proofs.«01_k».proof.Proof.MergeFirst.Blocks
public import proofs.«01_k».proof.Proof.Gen.Kernel12Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel12Ideal.MergeFirst

open Cert.Kernel12Ideal Cert.Kernel12Ideal.Gen
open Cert.Merge (gateA gateB out dm dIn dLogit dLogits dWo dW dBias)

variable (m : (ℓ : Loc nD τ sig) → Buf (Elt Ideal) ℓ) (c : Dev nD)

theorem final10 : (dats m 0 c).arrAt 10 (cfgs 0).N
    = fun i => dLogits 0 (z m c) (b m c) (a m c) (s m c) (wa m c) (wb m c) (wo m c) (dy m c) (i 0) (i 1) := by
  refine (dats m 0 c).arrAt_eq_of_covers 10 _ (by decide +kernel) fun t _ y => ?_
  blk_simp
  idx_vars y
  rw [at10, after0_10]
  by_cases h0 : t.val % 16 = 0
  · have h1 : ¬ t.val % 16 = 15 := by omega
    rw [outsAt0_A m c t h0 h1]; frame_out
    refine (Cert.Util.canon_halves (by norm_num) _ _ _ _ _ _ _).trans ?_
    show _ = dLogits _ _ _ _ _ _ _ _ _ (row t y0) y1
    unfold dLogits
    by_cases hj : y1.val < 1024
    · rw [dif_pos hj, dif_pos hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
    · rw [dif_neg hj, dif_neg hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
  by_cases h1 : t.val % 16 = 15
  · rw [outsAt0_C m c t h0 h1]; frame_out
    refine (Cert.Util.canon_halves (by norm_num) _ _ _ _ _ _ _).trans ?_
    show _ = dLogits _ _ _ _ _ _ _ _ _ (row t y0) y1
    unfold dLogits
    by_cases hj : y1.val < 1024
    · rw [dif_pos hj, dif_pos hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
    · rw [dif_neg hj, dif_neg hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
  · rw [outsAt0_B m c t h0 h1]; frame_out
    refine (Cert.Util.canon_halves (by norm_num) _ _ _ _ _ _ _).trans ?_
    show _ = dLogits _ _ _ _ _ _ _ _ _ (row t y0) y1
    unfold dLogits
    by_cases hj : y1.val < 1024
    · rw [dif_pos hj, dif_pos hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]
    · rw [dif_neg hj, dif_neg hj]
      pointwise [k0_pay24, k0_pay25, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
      rw [mul_assoc (_ * _)]

end Cert.Kernel12Ideal.MergeFirst

end
-- ==== Proof.MergeFirst.Weights.lean ====
/- Layer 0: the kernel's results summed over the tokens: the cotangents of the three weights. -/
module

public import proofs.«01_k».proof.Proof.MergeFirst.Blocks
public import proofs.«01_k».proof.Proof.Gen.Kernel12Ideal.Frame
public import Idealize.ShloMosaic.Lib.Claim
public import Idealize.ShloMosaic.Lib.Pipeline.ReadBack
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel12Ideal.MergeFirst

open Cert.Kernel12Ideal Cert.Kernel12Ideal.Gen
open Cert.Merge (gateA gateB out dm dIn dLogit dLogits dWo dW dBias)

variable (m : (ℓ : Loc nD τ sig) → Buf (Elt Ideal) ℓ) (c : Dev nD)

abbrev termO (r : Fin 8192) (i j : Fin 1024) : EReal :=
  (gateA 0 (z m c) (b m c) r i * out 0 (a m c) (wa m c) r i + gateB 0 (z m c) (b m c) r i * out 0 (s m c) (wb m c) r i) * dy m c (ix3 0 r j)

theorem final11 : (dats m 0 c).arrAt 11 (cfgs 0).N
    = fun i => dWo 0 (z m c) (b m c) (a m c) (s m c) (wa m c) (wb m c) (dy m c) (i 0) (i 1) := by
  refine (dats m 0 c).arrAt_eq_of_after_last 11 t0_15 (by decide +kernel) _ fun j => ?_
  blk_simp
  have hC : (outsAt0 m c t0_15.val t0_15.isLt).2.2.2.1 j = (outsAt0 m c t0_15.val t0_15.isLt).2.2.2.2.2.2.2.1 j := by
    rw [outsAt0_C m c t0_15 (by decide) (by decide)]; frame_out; pointwise [k0_pay1]
  rw [after0_11, hC, Pipeline.eq_sum_fin_of_reset_step_apply_last (fun n h => (outsAt0 m c n h).2.2.2.2.2.2.2.1) 16 (fun _ => 0)
    (fun p j => ∑ k : Fin 512, termO m c (row p k) (j 0) (j 1))
    (fun t h j => by
      rw [outsAt0_A m c t h (by omega)]; frame_out
      pointwise [k0_pay15, k0_pay4, k0_pay8, k0_pay10, k0_pay11, k0_pay12, k0_pay13, k0_pay14, read_unread_whole, termO, gateA, gateB, out, Cert.Util.load_layer, blk0, blk1, blk2, blk3, blk4, blk5, blk6])
    (fun t h j => by
      by_cases h1 : t.val % 16 = 15
      · rw [outsAt0_C m c t h h1]; frame_out
        pointwise [k0_pay15, k0_pay8, k0_pay10, k0_pay11, k0_pay12, k0_pay13, k0_pay14, read_unread_whole, termO, gateA, gateB, out, Cert.Util.load_layer, blk0, blk1, blk2, blk3, blk4, blk5, blk6]
      · rw [outsAt0_B m c t h h1]; frame_out
        pointwise [k0_pay15, k0_pay8, k0_pay10, k0_pay11, k0_pay12, k0_pay13, k0_pay14, read_unread_whole, termO, gateA, gateB, out, Cert.Util.load_layer, blk0, blk1, blk2, blk3, blk4, blk5, blk6])
    (le_of_eq N_0) t0_15 rfl j, zero_add]
  exact Fin.sum_mul_add_congr fun p k hl => rfl

abbrev termW (g : Fin 8192 → Fin 1024 → EReal) (x : FVec Ideal ⟨3, ![1, 8192, 512]⟩ .f32) (r : Fin 8192) (k : Fin 512) (d : Fin 1024) : EReal :=
  x (ix3 0 r k) * (dm 0 (wo m c) (dy m c) r d * g r d)

theorem final12 : (dats m 0 c).arrAt 12 (cfgs 0).N
    = fun i => dW 0 (wo m c) (dy m c) (gateA 0 (z m c) (b m c)) (a m c) (i 0) (i 1) := by
  refine (dats m 0 c).arrAt_eq_of_after_last 12 t0_15 (by decide +kernel) _ fun j => ?_
  blk_simp
  have hC : (outsAt0 m c t0_15.val t0_15.isLt).2.2.2.2.1 j = (outsAt0 m c t0_15.val t0_15.isLt).2.2.2.2.2.2.2.2.1 j := by
    rw [outsAt0_C m c t0_15 (by decide) (by decide)]; frame_out; pointwise [k0_pay2]
  rw [after0_12, hC, Pipeline.eq_sum_fin_of_reset_step_apply_last (fun n h => (outsAt0 m c n h).2.2.2.2.2.2.2.2.1) 16 (fun _ => 0)
    (fun p j => ∑ k : Fin 512, termW m c (gateA 0 (z m c) (b m c)) (a m c) (row p k) (j 0) (j 1))
    (fun t h j => by
      rw [outsAt0_A m c t h (by omega)]; frame_out
      pointwise [k0_pay18, k0_pay5, k0_pay16, k0_pay9, k0_pay8, k0_pay12, read_unread_whole, termW, dm, gateA, Cert.Util.load_layer, blk0, blk1, blk2, blk3, blk7])
    (fun t h j => by
      by_cases h1 : t.val % 16 = 15
      · rw [outsAt0_C m c t h h1]; frame_out
        pointwise [k0_pay18, k0_pay5, k0_pay16, k0_pay9, k0_pay8, k0_pay12, read_unread_whole, termW, dm, gateA, Cert.Util.load_layer, blk0, blk1, blk2, blk3, blk7]
      · rw [outsAt0_B m c t h h1]; frame_out
        pointwise [k0_pay18, k0_pay5, k0_pay16, k0_pay9, k0_pay8, k0_pay12, read_unread_whole, termW, dm, gateA, Cert.Util.load_layer, blk0, blk1, blk2, blk3, blk7])
    (le_of_eq N_0) t0_15 rfl j, zero_add]
  exact Fin.sum_mul_add_congr fun p k hl => rfl

theorem final13 : (dats m 0 c).arrAt 13 (cfgs 0).N
    = fun i => dW 0 (wo m c) (dy m c) (gateB 0 (z m c) (b m c)) (s m c) (i 0) (i 1) := by
  refine (dats m 0 c).arrAt_eq_of_after_last 13 t0_15 (by decide +kernel) _ fun j => ?_
  blk_simp
  have hC : (outsAt0 m c t0_15.val t0_15.isLt).2.2.2.2.2.1 j = (outsAt0 m c t0_15.val t0_15.isLt).2.2.2.2.2.2.2.2.2 j := by
    rw [outsAt0_C m c t0_15 (by decide) (by decide)]; frame_out; pointwise [k0_pay3]
  rw [after0_13, hC, Pipeline.eq_sum_fin_of_reset_step_apply_last (fun n h => (outsAt0 m c n h).2.2.2.2.2.2.2.2.2) 16 (fun _ => 0)
    (fun p j => ∑ k : Fin 512, termW m c (gateB 0 (z m c) (b m c)) (s m c) (row p k) (j 0) (j 1))
    (fun t h j => by
      rw [outsAt0_A m c t h (by omega)]; frame_out
      pointwise [k0_pay19, k0_pay6, k0_pay17, k0_pay9, k0_pay8, k0_pay13, k0_pay14, read_unread_whole, termW, dm, gateB, Cert.Util.load_layer, blk0, blk1, blk2, blk4, blk7])
    (fun t h j => by
      by_cases h1 : t.val % 16 = 15
      · rw [outsAt0_C m c t h h1]; frame_out
        pointwise [k0_pay19, k0_pay6, k0_pay17, k0_pay9, k0_pay8, k0_pay13, k0_pay14, read_unread_whole, termW, dm, gateB, Cert.Util.load_layer, blk0, blk1, blk2, blk4, blk7]
      · rw [outsAt0_B m c t h h1]; frame_out
        pointwise [k0_pay19, k0_pay6, k0_pay17, k0_pay9, k0_pay8, k0_pay13, k0_pay14, read_unread_whole, termW, dm, gateB, Cert.Util.load_layer, blk0, blk1, blk2, blk4, blk7])
    (le_of_eq N_0) t0_15 rfl j, zero_add]
  exact Fin.sum_mul_add_congr fun p k hl => rfl

end Cert.Kernel12Ideal.MergeFirst

end
-- ==== Proof.MergeFirst.Bias.lean ====
/- Layer 0: the kernel's last result: the cotangent of the gates' bias, summed over the tokens. -/
module

public import proofs.«01_k».proof.Proof.MergeFirst.Blocks
public import proofs.«01_k».proof.Proof.Gen.Kernel12Ideal.Frame
public import Idealize.ShloMosaic.Lib.Claim
public import Idealize.ShloMosaic.Lib.Pipeline.ReadBack
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel12Ideal.MergeFirst

open Cert.Kernel12Ideal Cert.Kernel12Ideal.Gen
open Cert.Merge (gateA gateB out dm dIn dLogit dLogits dWo dW dBias)

variable (m : (ℓ : Loc nD τ sig) → Buf (Elt Ideal) ℓ) (c : Dev nD)

theorem final14 : (dats m 0 c).arrAt 14 (cfgs 0).N
    = fun i => dBias 0 (z m c) (b m c) (a m c) (s m c) (wa m c) (wb m c) (wo m c) (dy m c) (i 1) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.2.1) 16 (fun _ => 0)
    (fun p j => ∑ k : Fin 512, dLogits 0 (z m c) (b m c) (a m c) (s m c) (wa m c) (wb m c) (wo m c) (dy m c) (row p k) (j 1))
    (fun t h j => by
      rw [outsAt0_A m c t h (by omega)]; frame_out
      idx_vars j
      refine (Cert.Util.canon_halves (by norm_num) _ _ _ _ _ _ _).trans ?_
      by_cases hj : j1.val < 1024
      · rw [dif_pos hj, Finset.sum_congr rfl fun k _ => Cert.Merge.dLogits_left _ _ _ _ _ _ _ _ _ _ _ hj]
        rw [View.readCov_fill _ _ _ _ _ (by decide)]
        pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
        exact Finset.sum_congr (M := EReal) rfl fun k _ => mul_assoc (G := EReal) _ _ _
      · rw [dif_neg hj, Finset.sum_congr rfl fun k _ => Cert.Merge.dLogits_right _ _ _ _ _ _ _ _ _ _ _ hj]
        rw [View.readCov_skip _ _ _ _ _ (by rfl), View.readCov_fill _ _ _ _ _ (by decide)]
        pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
        exact Finset.sum_congr (M := EReal) rfl fun k _ => mul_assoc (G := EReal) _ _ _)
    (fun t h j => by
      by_cases h1 : t.val % 16 = 15
      · rw [outsAt0_C m c t h h1]; frame_out
        idx_vars j
        refine (Cert.Util.canon_halves (by norm_num) _ _ _ _ _ _ _).trans ?_
        by_cases hj : j1.val < 1024
        · rw [dif_pos hj, Finset.sum_congr rfl fun k _ => Cert.Merge.dLogits_left _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
        · rw [dif_neg hj, Finset.sum_congr rfl fun k _ => Cert.Merge.dLogits_right _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
          exact congrArg (ix2 0) (Fin.ext (by show 1024 + (j1.val - 1024) = j1.val; omega))
      · rw [outsAt0_B m c t h h1]; frame_out
        idx_vars j
        refine (Cert.Util.canon_halves (by norm_num) _ _ _ _ _ _ _).trans ?_
        by_cases hj : j1.val < 1024
        · rw [dif_pos hj, Finset.sum_congr rfl fun k _ => Cert.Merge.dLogits_left _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
        · rw [dif_neg hj, Finset.sum_congr rfl fun k _ => Cert.Merge.dLogits_right _ _ _ _ _ _ _ _ _ _ _ hj]
          pointwise [k0_pay26, k0_pay27, k0_pay7, k0_pay22, k0_pay23, k0_pay9, k0_pay8, k0_pay10, k0_pay11, k0_pay12, k0_pay13, k0_pay14, dLogit, dm, out, gateA, gateB, Cert.Util.load_layer, blk0, blk1, blk2, blk3, blk4, blk5, blk6, blk7]
          refine Ideal.add_congr (congrArg _ ?_) (Finset.sum_congr (M := EReal) rfl fun k _ => mul_assoc (G := EReal) _ _ _)
          rw [Subsingleton.elim j0 0]
          exact congrArg (ix2 0) (Fin.ext (by show 1024 + (j1.val - 1024) = j1.val; omega)))
    (le_of_eq N_0) t0_15 rfl j, zero_add]
  exact Fin.sum_mul_add_congr fun p k hl => rfl

end Cert.Kernel12Ideal.MergeFirst

end
-- ==== Proof.MergeFirst.Run.lean ====
/- Layer 0: the kernel's run: each result array holds the merge's gradient (Merge/Spec.lean). -/
module

public import proofs.«01_k».proof.Proof.MergeFirst.Inputs
public import proofs.«01_k».proof.Proof.MergeFirst.Logits
public import proofs.«01_k».proof.Proof.MergeFirst.Weights
public import proofs.«01_k».proof.Proof.MergeFirst.Bias

@[expose] public section

set_option maxRecDepth 16384

noncomputable section

open Idealize.ShloMosaic Idealize.ShloMosaic.TcCoe Idealize.SL.Sem

namespace Cert.Kernel12Ideal.MergeFirst

open Cert.Kernel12Ideal Cert.Kernel12Ideal.Gen
open Cert.Merge (gateA gateB dIn dLogits dWo dW dBias)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v16_0) = (fun i => dIn 0 (wo m c) (dy m c) (gateA 0 (z m c) (b m c)) (wa m c) (i 0) (i 1))
      ∧ r.2.mem ((c.tc : Thread nD τ).loc main_v16_1) = (fun i => dIn 0 (wo m c) (dy m c) (gateB 0 (z m c) (b m c)) (wb m c) (i 0) (i 1))
      ∧ r.2.mem ((c.tc : Thread nD τ).loc main_v16_2) = (fun i => dLogits 0 (z m c) (b m c) (a m c) (s m c) (wa m c) (wb m c) (wo m c) (dy m c) (i 0) (i 1))
      ∧ r.2.mem ((c.tc : Thread nD τ).loc main_v16_3) = (fun i => dWo 0 (z m c) (b m c) (a m c) (s m c) (wa m c) (wb m c) (dy m c) (i 0) (i 1))
      ∧ r.2.mem ((c.tc : Thread nD τ).loc main_v16_4) = (fun i => dW 0 (wo m c) (dy m c) (gateA 0 (z m c) (b m c)) (a m c) (i 0) (i 1))
      ∧ r.2.mem ((c.tc : Thread nD τ).loc main_v16_5) = (fun i => dW 0 (wo m c) (dy m c) (gateB 0 (z m c) (b m c)) (s m c) (i 0) (i 1))
      ∧ r.2.mem ((c.tc : Thread nD τ).loc main_v16_6) = (fun i => dBias 0 (z m c) (b m c) (a m c) (s m c) (wa m c) (wb m c) (wo m c) (dy m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c =>
    ⟨((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2 c⟩

end Cert.Kernel12Ideal.MergeFirst

end
-- ==== Proof.MergeFirst.Pair.lean ====
/- The merge's pair at layer 0: the kernel's results are the reference's. -/
module

public import proofs.«01_k».proof.Defs
public import proofs.«01_k».proof.Proof.MergeFirst.Ref
public import proofs.«01_k».proof.Proof.MergeFirst.Run

@[expose] public section

set_option maxRecDepth 16384

noncomputable section

open Idealize.ShloMosaic Idealize.ShloMosaic.TcCoe Idealize.SL.Sem

namespace Cert.MergeFirst

open Cert.Reference12Ideal.MergeFirst in
theorem algebraic : Cert.algebraic_Kernel12Ideal_Reference12Ideal := by
  intro m g m' g' _ hagree
  refine ⟨_, _, _, _, _, _, _, Cert.Kernel12Ideal.MergeFirst.run m g, θ_run_mono (run m' g') fun r h c => ?_⟩
  obtain ⟨h0, h1, h2, h3, h4, h5, h6, hargs⟩ := h c
  have e0 : z m' c = Cert.Kernel12Ideal.MergeFirst.z m c := (hagree c).1
  have e1 : b m' c = Cert.Kernel12Ideal.MergeFirst.b m c := (hagree c).2.1
  have e2 : a m' c = Cert.Kernel12Ideal.MergeFirst.a m c := (hagree c).2.2.1
  have e3 : s m' c = Cert.Kernel12Ideal.MergeFirst.s m c := (hagree c).2.2.2.1
  have e4 : wa m' c = Cert.Kernel12Ideal.MergeFirst.wa m c := (hagree c).2.2.2.2.1
  have e5 : wb m' c = Cert.Kernel12Ideal.MergeFirst.wb m c := (hagree c).2.2.2.2.2.1
  have e6 : wo m' c = Cert.Kernel12Ideal.MergeFirst.wo m c := (hagree c).2.2.2.2.2.2.1
  have e7 : dy m' c = Cert.Kernel12Ideal.MergeFirst.dy m c := (hagree c).2.2.2.2.2.2.2
  exact ⟨h0.trans (by rewrite [e0, e1, e4, e6, e7]; rfl),
    h1.trans (by rewrite [e0, e1, e5, e6, e7]; rfl),
    h2.trans (by rewrite [e0, e1, e2, e3, e4, e5, e6, e7]; rfl),
    h3.trans (by rewrite [e0, e1, e2, e3, e4, e5, e7]; rfl),
    h4.trans (by rewrite [e0, e1, e2, e6, e7]; rfl),
    h5.trans (by rewrite [e0, e1, e3, e6, e7]; rfl),
    h6.trans (by rewrite [e0, e1, e2, e3, e4, e5, e6, e7]; rfl),
    hargs⟩

theorem reference_frame : Cert.quiescent_Reference12Ideal := by
  intro m g _
  exact (θ_run Cert.Reference12Ideal.defs _ _).mono (fun r h => ⟨fun c => (h c).2.2.2.2.2.2.2, sem_eq_zero_of_no_sems (by decide) r.2⟩)
    (Cert.Reference12Ideal.MergeFirst.run m g)

end Cert.MergeFirst

end
-- ==== Proof.NormFirst.Steps.lean ====
/- Layer 0 at the up-projection: the reference's values, step by step, and what each holds (Norm/Spec.lean). -/
module

public import proofs.«01_k».proof.Proof.Norm.Spec
public import proofs.«01_k».proof.Proof.Gen.Reference13Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference13Ideal.NormFirst

open Cert.Reference13Ideal Cert.Reference13Ideal.Gen
open Cert Cert.Norm

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev g : FVec Ideal ⟨2, ![2, 1024]⟩ .f32 := m ((c.tc : Thread nD τ).loc main_arg1)
abbrev w : FVec Ideal ⟨3, ![2, 1024, 5632]⟩ .f32 := m ((c.tc : Thread nD τ).loc main_arg2)
abbrev res : FVec Ideal ⟨3, ![1, 8192, 1024]⟩ .f32 := m ((c.tc : Thread nD τ).loc main_arg3)
abbrev du : FVec Ideal ⟨3, ![1, 8192, 5632]⟩ .f32 := m ((c.tc : Thread nD τ).loc main_arg4)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq (Rms.rowOf (x m c) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale (Rms.rowOf (x m c) r) := by
  pointwise [scaleV, Rms.scale, sqV_at]
/-- The cotangent of the left operand. -/
def dhV : FVec Ideal S1x8192x1024 .f32 := Host.dotGeneral dot_S1x8192x5632_S1024x5632_S1x8192x1024_2_1_01_0_n_n none (du m c) (shapeCast S1024x5632 (extractStridedSlice S1x1024x5632 ![0, 0, 0] (w m c) slices_S2x1024x5632_S1x1024x5632_0_0_0) shapeCasts_S1x1024x5632_S1024x5632)
theorem dhV_at (r : Fin 8192) (d : Fin 1024) : dhV m c (ix3 0 r d) = dh 0 (w m c) (du m c) r d := by
  pointwise [dhV, dh]
/-- The cotangent of the scaled row. -/
def dScaledV : FVec Ideal S1x8192x1024 .f32 := mulf (dhV m c) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem dScaledV_at (r : Fin 8192) (d : Fin 1024) : dScaledV m c (ix3 0 r d) = dScaled 0 (g m c) (w m c) (du m c) r d := by
  pointwise [dScaledV, dScaled, dhV_at]
/-- The mean square's share of the row's cotangent. -/
def shareV : FVec Ideal S8192 .f32 := Host.reduceAdd (Host.divf (mulf (shapeCast S1x8192x1 (Host.reduceAdd (mulf (x m c) (dScaledV m c)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (scaleV m c) (sqV m c)))) (broadcastInDim S1x8192x1 ![] bcast_S_S1x8192x1 (constant S_ .f32 0x44800000#32))) (constant S_ .f32 0x00000000#32) reducesTo_S1x8192x1_S8192_d0_2 h_S_
theorem shareV_at (r : Fin 8192) : shareV m c (ix1 r) = Rms.share (Rms.rowOf (x m c) r) (dScaled 0 (g m c) (w m c) (du m c) r) := by
  pointwise [shareV, Rms.share, Rms.rowOf, Cert.Util.hostReduceAdd_unit02, dScaledV_at, scaleV_at, sqV_at]
/-- The row's cotangent. -/
def dxV : FVec Ideal S8192x1024 .f32 := shapeCast S8192x1024 (addf (addf (addf (res m c) (mulf (dScaledV m c) (broadcastInDim S1x8192x1024 ![0, 1, 2] bcast_S1x8192x1_S1x8192x1024_0_1_2 (scaleV m c)))) (mulf (x m c) (broadcastInDim S1x8192x1024 ![0, 1] bcast_S1x8192_S1x8192x1024_0_1 (broadcastInDim S1x8192 ![1] bcast_S8192_S1x8192_1 (shareV m c))))) (mulf (broadcastInDim S1x8192x1024 ![0, 1] bcast_S1x8192_S1x8192x1024_0_1 (broadcastInDim S1x8192 ![1] bcast_S8192_S1x8192_1 (shareV m c))) (x m c))) shapeCasts_S1x8192x1024_S8192x1024
theorem dxV_at (r : Fin 8192) (d : Fin 1024) : dxV m c (ix2 r d) = dxChain 0 (Rms.rowOf (x m c)) (g m c) (w m c) (res m c) (du m c) r d := by
  pointwise [dxV, dxChain, Rms.rowOf, scaleV_at, dScaledV_at, shareV_at]
/-- The weight's cotangent. -/
def dgV : FVec Ideal S1x1024 .f32 := broadcastInDim S1x1024 ![1] bcast_S1024_S1x1024_1 (Host.reduceAdd (shapeCast S1x1x1024 (Host.reduceAdd (mulf (mulf (x m c) (broadcastInDim S1x8192x1024 ![0, 1, 2] bcast_S1x8192x1_S1x8192x1024_0_1_2 (scaleV m c))) (dhV m c)) (constant S_ .f32 0x00000000#32) reducesTo_S1x8192x1024_S1x1024_d1 h_S_) shapeCasts_S1x1024_S1x1x1024) (constant S_ .f32 0x00000000#32) reducesTo_S1x1x1024_S1024_d0_1 h_S_)
theorem dgV_at (d : Fin 1024) : dgV m c (ix2 0 d) = dg 0 (Rms.rowOf (x m c)) (w m c) (du m c) d := by
  pointwise [dgV, dg, Rms.rowOf, Cert.Util.hostReduceAdd_unit01, scaleV_at, dhV_at]
  exact Finset.sum_congr (M := EReal) rfl fun r _ => mul_comm (G := EReal) _ _

theorem res0_eq : Value.res_main_v46 m c = dxV m c := rfl

end Cert.Reference13Ideal.NormFirst

end
-- ==== Proof.NormFirst.Ref.lean ====
/- Layer 0 at the up-projection: the reference's run: each result array holds the norm's gradient by the chain rule (Norm/Spec.lean). -/
module

public import proofs.«01_k».proof.Proof.NormFirst.Steps

@[expose] public section

set_option maxRecDepth 16384

noncomputable section

open Idealize.ShloMosaic Idealize.ShloMosaic.TcCoe Idealize.SL.Sem

namespace Cert.Reference13Ideal.NormFirst

open Cert.Reference13Ideal Cert.Reference13Ideal.Gen
open Cert.Norm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v46) = (fun i => dxChain 0 (Rms.rowOf (x m c)) (g m c) (w m c) (res m c) (du m c) (i 0) (i 1))
      ∧ r.2.mem ((c.tc : Thread nD τ).loc main_v47) = (fun i => dg 0 (Rms.rowOf (x m c)) (w m c) (du m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  obtain ⟨h0, h1, hargs⟩ := h c
  exact ⟨h0.trans ((funext fun i => by idx_vars i; exact dxV_at m c i0 i1)), h1.trans (show dgV m c = _ from funext fun i => by idx_vars i; obtain rfl : i0 = 0 := Subsingleton.elim _ _; exact dgV_at m c i1), hargs⟩

end Cert.Reference13Ideal.NormFirst

end
-- ==== Proof.NormFirst.Blocks.lean ====
/- Layer 0 at the up-projection: what the norm kernel's blocks hold at a grid point: rows of the arguments. -/
module

public import proofs.«01_k».proof.Proof.Norm.Spec
public import proofs.«01_k».proof.Proof.Gen.Kernel13Ideal.Frame
public import Idealize.ShloMosaic.Lib.Claim
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel13Ideal.NormFirst

open Cert.Kernel13Ideal Cert.Kernel13Ideal.Gen
open Cert.Norm

variable (m : (ℓ : Loc nD τ sig) → Buf (Elt Ideal) ℓ) (c : Dev nD)

abbrev x : FVec Ideal ⟨3, ![1, 8192, 1024]⟩ .f32 := m ((c : Thread nD τ).loc main_arg0)
abbrev g : FVec Ideal ⟨2, ![2, 1024]⟩ .f32 := m ((c : Thread nD τ).loc main_arg1)
abbrev w : FVec Ideal ⟨3, ![2, 1024, 5632]⟩ .f32 := m ((c : Thread nD τ).loc main_arg2)
abbrev res : FVec Ideal ⟨3, ![1, 8192, 1024]⟩ .f32 := m ((c : Thread nD τ).loc main_arg3)
abbrev du : FVec Ideal ⟨3, ![1, 8192, 5632]⟩ .f32 := m ((c : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem blk0 (t : Fin cfg0.N) (i : Fin 512) (j : Fin 5632) : iblk m c 0 t (ix2 i j) = du m c (ix3 0 (row t i) j) := by
  blk_point [iblk, V, idx t, row]
theorem blk1 (t : Fin cfg0.N) (i : Fin 5632) (j : Fin 1024) : iblk m c 1 t (ix2 i j) = w m c (ix3 0 j i) := by
  blk_point [iblk, V, idx t]
theorem blk2 (t : Fin cfg0.N) (i : Fin 512) (j : Fin 1024) : iblk m c 2 t (ix2 i j) = x m c (ix3 0 (row t i) j) := by
  blk_point [iblk, V, idx t, row]
theorem blk3 (t : Fin cfg0.N) (i : Fin 2) (j : Fin 1024) : iblk m c 3 t (ix2 i j) = g m c (ix2 i j) := by
  blk_point [iblk, V, idx t]
theorem blk4 (t : Fin cfg0.N) (i : Fin 512) (j : Fin 1024) : iblk m c 4 t (ix2 i j) = res m c (ix3 0 (row t i) j) := by
  blk_point [iblk, V, idx t, row]

theorem at5 (t : Fin cfg0.N) (i : Fin 512) (j : Fin 1024) :
    ((View.whole main_v8_0).slice (win0_5.rect t)).emb (ix2 i j) = ix2 (row t i) j := by
  blk_ext [idx t, row]

end Cert.Kernel13Ideal.NormFirst

end
-- ==== Proof.NormFirst.Tile.lean ====
/- Layer 0 at the up-projection: what the norm kernel computes of a block of rows. -/
module

public import proofs.«01_k».proof.Proof.NormFirst.Blocks

@[expose] public section

set_option maxRecDepth 16384

noncomputable section

open Idealize.ShloMosaic Idealize.ShloMosaic.TcCoe Idealize.SL.Sem
open Idealize.ShloMosaic.Pipeline (Dat)

namespace Cert.Kernel13Ideal.NormFirst

open Cert.Kernel13Ideal Cert.Kernel13Ideal.Gen
open Cert Cert.Norm

variable (m : (ℓ : Loc nD τ sig) → Buf (Elt Ideal) ℓ) (c : Dev nD)

theorem pay3_at (t : Fin cfg0.N) (i : Fin 512) (j : Fin 1024) :
    k0_pay3 (iblk m c 0 t) (iblk m c 1 t) (ix2 i j) = dh 0 (w m c) (du m c) (row t i) j := by
  pointwise [k0_pay3, dh, blk0, blk1]
theorem pay5_at (t : Fin cfg0.N) (i : Fin 512) : k0_pay5 (iblk m c 2 t) (ix2 i 0) = Rms.scale (Rms.rowOf (x m c) (row t i)) := by
  pointwise [k0_pay5, k0_pay4, Rms.scale, Rms.meanSq, Rms.rowOf, blk2]
theorem pay6_at (t : Fin cfg0.N) (i : Fin 512) (j : Fin 1024) :
    k0_pay6 (iblk m c 2 t) (ix2 i j) = x m c (ix3 0 (row t i) j) * Rms.scale (Rms.rowOf (x m c) (row t i)) := by
  pointwise [k0_pay6, k0_pay4, pay5_at, blk2]
/-- A block's share of the weight's cotangent. -/
theorem pay7_at (t : Fin cfg0.N) (a : Fin 1) (j : Fin 1024) : k0_pay7 (iblk m c 0 t) (iblk m c 1 t) (iblk m c 2 t) (ix2 a j)
    = ∑ i : Fin 512, dh 0 (w m c) (du m c) (row t i) j * (x m c (ix3 0 (row t i) j) * Rms.scale (Rms.rowOf (x m c) (row t i))) := by
  obtain rfl : a = 0 := Subsingleton.elim _ _
  pointwise [k0_pay7, pay3_at, pay6_at]
/-- A block of the row's cotangent. -/
theorem pay8_at (t : Fin cfg0.N) (i : Fin 512) (j : Fin 1024) :
    k0_pay8 (iblk m c 0 t) (iblk m c 1 t) (iblk m c 2 t)
      (View.ld (iblk m c 3 t) (Rect.unit ![0, 0] ![1, 1024] inb_S2x1024_S1x1024_0_0)) (iblk m c 4 t) (ix2 i j)
      = dx 0 (Rms.rowOf (x m c)) (g m c) (w m c) (res m c) (du m c) (row t i) j := by
  pointwise [k0_pay8, dx, dScaled, Rms.pull, Rms.rowOf, Cert.Util.load_layer, pay3_at, pay5_at, pay6_at, blk3, blk4]

end Cert.Kernel13Ideal.NormFirst

end
-- ==== Proof.NormFirst.Outputs.lean ====
/- Layer 0 at the up-projection: the norm kernel's result arrays: the row's cotangent block by block, the weight's as a sum over the blocks. -/
module

public import proofs.«01_k».proof.Proof.NormFirst.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel13Ideal.NormFirst

open Cert.Kernel13Ideal Cert.Kernel13Ideal.Gen
open Cert Cert.Norm

variable (m : (ℓ : Loc nD τ sig) → Buf (Elt Ideal) ℓ) (c : Dev nD)

theorem final5 : (dats m 0 c).arrAt 5 (cfgs 0).N
    = fun i => dx 0 (Rms.rowOf (x m c)) (g m c) (w m c) (res m c) (du m c) (i 0) (i 1) := by
  refine (dats m 0 c).arrAt_eq_of_covers 5 _ (by decide +kernel) fun t _ y => ?_
  blk_simp
  idx_vars y
  rw [at5, after0_5]
  by_cases h0 : t.val % 16 = 0
  · rw [outsAt0_A m c t h0]; frame_out
    exact pay8_at m c t y0 y1
  · rw [outsAt0_B m c t h0]; frame_out
    exact pay8_at m c t y0 y1

theorem final6 : (dats m 0 c).arrAt 6 (cfgs 0).N = fun i => dg 0 (Rms.rowOf (x m c)) (w m c) (du m c) (i 1) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => ∑ k : Fin 512, dh 0 (w m c) (du m c) (row p k) (j 1) * (x m c (ix3 0 (row p k) (j 1)) * Rms.scale (Rms.rowOf (x m c) (row p k))))
    (fun t h j => by
      rw [outsAt0_A m c t h]; frame_out
      idx_vars j
      pointwise [k0_pay1, k0_pay2, pay7_at])
    (fun t h j => by
      rw [outsAt0_B m c t h]; frame_out
      idx_vars j
      pointwise [k0_pay1, k0_pay2, pay7_at])
    (le_of_eq N_0) t0_15 rfl j, zero_add]
  exact Fin.sum_mul_add_congr fun p k hl => rfl

end Cert.Kernel13Ideal.NormFirst

end
-- ==== Proof.NormFirst.Run.lean ====
/- Layer 0 at the up-projection: the kernel's run: each result array holds the norm's gradient (Norm/Spec.lean). -/
module

public import proofs.«01_k».proof.Proof.NormFirst.Outputs

@[expose] public section

set_option maxRecDepth 16384

noncomputable section

open Idealize.ShloMosaic Idealize.ShloMosaic.TcCoe Idealize.SL.Sem

namespace Cert.Kernel13Ideal.NormFirst

open Cert.Kernel13Ideal Cert.Kernel13Ideal.Gen
open Cert.Norm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8_0) = (fun i => dx 0 (Rms.rowOf (x m c)) (g m c) (w m c) (res m c) (du m c) (i 0) (i 1))
      ∧ r.2.mem ((c.tc : Thread nD τ).loc main_v8_1) = (fun i => dg 0 (Rms.rowOf (x m c)) (w m c) (du m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c =>
    ⟨((h.1 c).1 5).trans (final5 m c), ((h.1 c).1 6).trans (final6 m c), h.2 c⟩

end Cert.Kernel13Ideal.NormFirst

end
-- ==== Proof.NormFirst.Pair.lean ====
/- Layer 0 at the up-projection: the norm's pair: over reals the kernel's results are the reference's. -/
module

public import proofs.«01_k».proof.Defs
public import proofs.«01_k».proof.Proof.Gen.Pre_finite13
public import proofs.«01_k».proof.Proof.NormFirst.Ref
public import proofs.«01_k».proof.Proof.NormFirst.Run

@[expose] public section

set_option maxRecDepth 16384

noncomputable section

open Idealize.ShloMosaic Idealize.ShloMosaic.TcCoe Idealize.SL.Sem

open Cert.Norm

namespace Cert.NormFirst

open Cert.Reference13Ideal.NormFirst in
theorem algebraic : Cert.algebraic_Kernel13Ideal_Reference13Ideal_pre_finite13 := by
  intro m ρ m' ρ' hpre hagree
  refine ⟨_, _, Cert.Kernel13Ideal.NormFirst.run m ρ, θ_run_mono (run m' ρ') fun r h c => ?_⟩
  obtain ⟨h0, h1, hargs⟩ := h c
  have e0 : x m' c = Cert.Kernel13Ideal.NormFirst.x m c := (hagree c).1
  have e1 : g m' c = Cert.Kernel13Ideal.NormFirst.g m c := (hagree c).2.1
  have e2 : w m' c = Cert.Kernel13Ideal.NormFirst.w m c := (hagree c).2.2.1
  have e3 : res m' c = Cert.Kernel13Ideal.NormFirst.res m c := (hagree c).2.2.2.1
  have e4 : du m' c = Cert.Kernel13Ideal.NormFirst.du m c := (hagree c).2.2.2.2
  have f0 : ∀ j, Rms.IsReal (Cert.Kernel13Ideal.NormFirst.x m c j) := Rms.IsReal.of_cmp _ _ (fun _ => Rms.ofBits_inf) ((hpre c).1)
  have f1 : ∀ j, Rms.IsReal (Cert.Kernel13Ideal.NormFirst.g m c j) := Rms.IsReal.of_cmp _ _ (fun _ => Rms.ofBits_inf) ((hpre c).2.1)
  have f2 : ∀ j, Rms.IsReal (Cert.Kernel13Ideal.NormFirst.w m c j) := Rms.IsReal.of_cmp _ _ (fun _ => Rms.ofBits_inf) ((hpre c).2.2.1)
  have f3 : ∀ j, Rms.IsReal (Cert.Kernel13Ideal.NormFirst.du m c j) := Rms.IsReal.of_cmp _ _ (fun _ => Rms.ofBits_inf) ((hpre c).2.2.2)
  exact ⟨h0.trans (by rewrite [e0, e1, e2, e3, e4]; exact funext fun i => dxChain_eq _ _ _ _ _ _ (fun _ _ => f0 _) f1 f2 f3 _ _), h1.trans (by rewrite [e0, e2, e4]; rfl), hargs⟩

theorem reference_frame : Cert.quiescent_Reference13Ideal := by
  intro m g _
  exact (θ_run Cert.Reference13Ideal.defs _ _).mono (fun r h => ⟨fun c => (h c).2.2, sem_eq_zero_of_no_sems (by decide) r.2⟩)
    (Cert.Reference13Ideal.NormFirst.run m g)

theorem reference_frame_pre : Cert.quiescent_Reference13Ideal_pre_finite13 :=
  fun m g _ => reference_frame m g trivial

end Cert.NormFirst

end
-- ==== Proof.Down.FrameIdeal.lean ====
/-
  The frame of `_bwd_down_1` as `Kernel14Ideal` prints it. Nothing is said of what the body leaves in a buffer: the proof
  data relates any contents to any, the scratch is held at some contents, and so what the scratch held before
  the first point plays no part. The run still ends, the arguments keep what they held, and every counter is zero.
-/
module

public import proofs.«01_k».proof.Proof.Gen.Kernel14Ideal.Frame
public import proofs.«01_k».proof.Proof.Gen.Kernel14Ideal.Loops

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the body is called with, each held at some contents. -/
abbrev Held (c : Dev nD) (arg1 : Memref sig .tc .vmem S256x1024 .f32) (harg1 : arg1.IsWhole) (arg2 : Memref sig .tc .vmem S256x5632 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2x3x2816 .f32) (harg5 : arg5.IsWhole) (arg6 : Memref sig .tc .vmem S2816x1024 .bf16) (harg6 : arg6.IsWhole) (arg7 : Memref sig .tc .vmem S256x5632 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S3x288x2816 .f32) (harg10 : arg10.IsWhole) (arg11 : Memref sig .tc .vmem S3x8x2816 .f32) (harg11 : arg11.IsWhole) (arg12 : Memref sig .tc .vmem S3x8x2816 .f32) (harg12 : arg12.IsWhole) (arg13 : Memref sig .tc .vmem S256x2816 .f32) (harg13 : arg13.IsWhole) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

set_option maxHeartbeats 4000000 in
/-- The body runs to its end from any contents and hands every buffer back, whichever way its conditionals go. -/
theorem body_run (c : Dev nD) (i : grid0.Coords) (arg1 : Memref sig .tc .vmem S256x1024 .f32) (harg1 : arg1.IsWhole) (arg2 : Memref sig .tc .vmem S256x5632 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2x3x2816 .f32) (harg5 : arg5.IsWhole) (arg6 : Memref sig .tc .vmem S2816x1024 .bf16) (harg6 : arg6.IsWhole) (arg7 : Memref sig .tc .vmem S256x5632 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S3x288x2816 .f32) (harg10 : arg10.IsWhole) (arg11 : Memref sig .tc .vmem S3x8x2816 .f32) (harg11 : arg11.IsWhole) (arg12 : Memref sig .tc .vmem S3x8x2816 .f32) (harg12 : arg12.IsWhole) (arg13 : Memref sig .tc .vmem S256x2816 .f32) (harg13 : arg13.IsWhole) (K : PUnit → sProp 𝕄) :
    iprop(Held c arg1 harg1 arg2 harg2 arg3 harg3 arg4 harg4 arg5 harg5 arg6 harg6 arg7 harg7 arg8 harg8 arg9 harg9 arg10 harg10 arg11 harg11 arg12 harg12 arg13 harg13 ∗ (Held c arg1 harg1 arg2 harg2 arg3 harg3 arg4 harg4 arg5 harg5 arg6 harg6 arg7 harg7 arg8 harg8 arg9 harg9 arg10 harg10 arg11 harg11 arg12 harg12 arg13 harg13 -∗ K ⟨⟩))
      ⊢ wp frame (wpE (defs₀ (F := F)) Variants.none c none) Set.univ (cc0_bwd_down_1 i arg1 harg1 arg2 harg2 arg3 harg3 arg4 harg4 arg5 harg5 arg6 harg6 arg7 harg7 arg8 harg8 arg9 harg9 arg10 harg10 arg11 harg11 arg12 harg12 arg13 harg13) K := by
  simp only [cc0_bwd_down_1_eq_skeleton]; unfold cc0_bwd_down_1_skel
  simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold Held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  by_cases hc0 : k0_cond1 i = 1#1 <;> by_cases hc1 : k0_cond2 i = 1#1
  all_goals
    sl_exec (disch := first | sl_exact hc0 | sl_exact hc1)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexists _; isplitr; swap; · iexact H12
    ipureintro; rfl

abbrev scM0_0 : Memref sig .tc .vmem S3x288x2816 .f32 := Memref.whole cc0_scratch0
abbrev scM0_1 : Memref sig .tc .vmem S3x8x2816 .f32 := Memref.whole cc0_scratch1
abbrev scM0_2 : Memref sig .tc .vmem S3x8x2816 .f32 := Memref.whole cc0_scratch2
abbrev scM0_3 : Memref sig .tc .vmem S256x2816 .f32 := Memref.whole cc0_scratch3

/-- The invariant between points: the scratch at some contents, the generator's register at some state. -/
theorem scratch_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The proof data: the arrays as the region finds them, and no word on what the body leaves. -/
def anyData (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs and returns each staging buffer at some contents. -/
theorem body_any (c : Dev nD) : (anyData (F := F) m c).BodyObligation defs₀ Variants.none () Set.univ := fun t Y _ => by
  show iprop((Pipeline.ΦA spec0 c : sProp 𝕄) ∗ (anyData m c).owesAt () t.castSucc ∗ bigSep Finset.univ fun w : Fin 9 => owns (c : Thread nD τ) ((cfg0.win w).stage (cfg0.slots t w)) fullShare (Y w))
    ⊢ wp frame (wpE (defs₀ (F := F)) Variants.none c none) Set.univ (bodyAt0 t) fun _ =>
      iprop((Pipeline.ΦA spec0 c : sProp 𝕄) ∗ (anyData m c).owesAt () t.castSucc ∗ bigSep Finset.univ fun w : Fin 9 => iprop(∃ X, ⌜True⌝ ∗ owns (c : Thread nD τ) ((cfg0.win w).stage (cfg0.slots t w)) fullShare X))
  rw [bigSep_W0, bigSep_W0, scratch_eq]
  unfold bodyAt0
  iintro ⟨⟨⟨S0, S1, S2, S3⟩, Hg⟩, Ho, H0, H1, H2, H3, H4, H5, H6, H7, H8⟩
  iapply (body_run c (grid0.coords t) _ _ _ _ _ _ _ _ _ _ _ _ _ _ _ _ _ _ _ _ _ _ _ _ _ _ _)
  isplitl [H0 H1 H2 H3 H4 H5 H6 H7 H8 S0 S1 S2 S3]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexact S2
    iexact S3
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]
  · icases H0 with ⟨%X, H0⟩; iexists X; isplitr; · ipureintro; trivial
    iexact H0
  isplitl [H1]
  · icases H1 with ⟨%X, H1⟩; iexists X; isplitr; · ipureintro; trivial
    iexact H1
  isplitl [H2]
  · icases H2 with ⟨%X, H2⟩; iexists X; isplitr; · ipureintro; trivial
    iexact H2
  isplitl [H3]
  · icases H3 with ⟨%X, H3⟩; iexists X; isplitr; · ipureintro; trivial
    iexact H3
  isplitl [H4]
  · icases H4 with ⟨%X, H4⟩; iexists X; isplitr; · ipureintro; trivial
    iexact H4
  isplitl [H5]
  · icases H5 with ⟨%X, H5⟩; iexists X; isplitr; · ipureintro; trivial
    iexact H5
  isplitl [H6]
  · icases H6 with ⟨%X, H6⟩; iexists X; isplitr; · ipureintro; trivial
    iexact H6
  isplitl [H7]
  · icases H7 with ⟨%X, H7⟩; iexists X; isplitr; · ipureintro; trivial
    iexact H7
  icases H8 with ⟨%X, H8⟩; iexists X; isplitr; · ipureintro; trivial
  iexact H8

/-- The whole run: it ends, the arrays the pipeline only reads keep their contents, and every counter is zero. -/
theorem run_any : θ_run defs (onTc (τ := τ) (main (F := F))) (s₀ m ρ)
    (fun r => RDat.FramePost cfg0 (anyData (F := F) m) (V m) r ∧ r.2.sem = fun _ => 0) :=
  Pipeline.RDat.θ_run_frame (Q' := _) cfgs (0 : Fin 1) launch0 defs₀ Variants.none (anyData m) m ρ main
    (hbody := body_any m) (hshare := fun c w => by unfold RDat.share; split <;> rfl)
    (howed := fun _ _ => rfl) (V := V m) (hmain := hmain m Variants.none) (hA := fun _ _ => rfl) (hΦ := fun _ _ => rfl)

set_option maxHeartbeats 4000000 in
/-- The frame: every argument ends as it began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 4 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_any m ρ)

end Cert.Kernel14Ideal.Gen

end
-- ==== Proof.Branch.FrameIdeal.lean ====
/-
  The frame of `_bwd_branch_1` as `Kernel15Ideal` prints it. Nothing is said of what the body leaves in a buffer: the proof
  data relates any contents to any, the scratch is held at some contents, and so what the scratch held before
  the first point plays no part. The run still ends, the arguments keep what they held, and every counter is zero.
-/
module

public import proofs.«01_k».proof.Proof.Gen.Kernel15Ideal.Frame
public import proofs.«01_k».proof.Proof.Gen.Kernel15Ideal.Loops

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the body is called with, each held at some contents. -/
abbrev Held (c : Dev nD) (arg1 : Memref sig .tc .vmem S512x512 .f32) (harg1 : arg1.IsWhole) (arg2 : Memref sig .tc .vmem S512x512 .f32) (harg2 : arg2.IsWhole) (arg3 : Memref sig .tc .vmem S512x2560 .bf16) (harg3 : arg3.IsWhole) (arg4 : Memref sig .tc .vmem S512x2048 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S2x31x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x3x512 .f32) (harg10 : arg10.IsWhole) (arg11 : Memref sig .tc .vmem S512x4608 .bf16) (harg11 : arg11.IsWhole) (arg12 : Memref sig .tc .vmem S32x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S8x512 .f32) (harg16 : arg16.IsWhole) (arg17 : Memref sig .tc .vmem S8x544x512 .f32) (harg17 : arg17.IsWhole) (arg18 : Memref sig .tc .vmem S3x544x512 .f32) (harg18 : arg18.IsWhole) (arg19 : Memref sig .tc .vmem S31x8x512 .f32) (harg19 : arg19.IsWhole) (arg20 : Memref sig .tc .vmem S3x8x512 .f32) (harg20 : arg20.IsWhole) (arg21 : Memref sig .tc .vmem S31x8x512 .f32) (harg21 : arg21.IsWhole) (arg22 : Memref sig .tc .vmem S3x8x512 .f32) (harg22 : arg22.IsWhole) (arg23 : Memref sig .tc .vmem S512x512 .f32) (harg23 : arg23.IsWhole) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d))

set_option maxHeartbeats 4000000 in
/-- The body runs to its end from any contents and hands every buffer back, whichever way its conditionals go. -/
theorem body_run (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x2560 .bf16) (harg3 : arg3.IsWhole) (arg4 : Memref sig .tc .vmem S512x2048 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S2x31x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x3x512 .f32) (harg10 : arg10.IsWhole) (arg11 : Memref sig .tc .vmem S512x4608 .bf16) (harg11 : arg11.IsWhole) (arg12 : Memref sig .tc .vmem S32x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S8x512 .f32) (harg16 : arg16.IsWhole) (arg17 : Memref sig .tc .vmem S8x544x512 .f32) (harg17 : arg17.IsWhole) (arg18 : Memref sig .tc .vmem S3x544x512 .f32) (harg18 : arg18.IsWhole) (arg19 : Memref sig .tc .vmem S31x8x512 .f32) (harg19 : arg19.IsWhole) (arg20 : Memref sig .tc .vmem S3x8x512 .f32) (harg20 : arg20.IsWhole) (arg21 : Memref sig .tc .vmem S31x8x512 .f32) (harg21 : arg21.IsWhole) (arg22 : Memref sig .tc .vmem S3x8x512 .f32) (harg22 : arg22.IsWhole) (arg23 : Memref sig .tc .vmem S512x512 .f32) (harg23 : arg23.IsWhole) (K : PUnit → sProp 𝕄) :
    iprop(Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ∗ (Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 -∗ K ⟨⟩))
      ⊢ wp frame (wpE (defs₀ (F := F)) Variants.none c none) Set.univ (cc0_bwd_branch_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_bwd_branch_1_eq_skeleton]; unfold cc0_bwd_branch_1_skel
  simp only [k0_part76_eq_skeleton, k0_part77_eq_skeleton, k0_part78_eq_skeleton, k0_part79_eq_skeleton, k0_part80_eq_skeleton, k0_part81_eq_skeleton]
  unfold Held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hk⟩
  by_cases hc0 : k0_cond1 i = 1#1 <;> by_cases hc1 : k0_cond2 i = 1#1
  all_goals
    sl_exec (disch := first | sl_exact hc0 | sl_exact hc1)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    iexists _; iexists _; isplitr; swap; · iexact H22
    ipureintro; rfl

abbrev scM0_0 : Memref sig .tc .vmem S8x544x512 .f32 := Memref.whole cc0_scratch0
abbrev scM0_1 : Memref sig .tc .vmem S3x544x512 .f32 := Memref.whole cc0_scratch1
abbrev scM0_2 : Memref sig .tc .vmem S31x8x512 .f32 := Memref.whole cc0_scratch2
abbrev scM0_3 : Memref sig .tc .vmem S3x8x512 .f32 := Memref.whole cc0_scratch3
abbrev scM0_4 : Memref sig .tc .vmem S31x8x512 .f32 := Memref.whole cc0_scratch4
abbrev scM0_5 : Memref sig .tc .vmem S3x8x512 .f32 := Memref.whole cc0_scratch5
abbrev scM0_6 : Memref sig .tc .vmem S512x512 .f32 := Memref.whole cc0_scratch6

/-- The invariant between points: the scratch at some contents, the generator's register at some state. -/
theorem scratch_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The proof data: the arrays as the region finds them, and no word on what the body leaves. -/
def anyData (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs and returns each staging buffer at some contents. -/
theorem body_any (c : Dev nD) : (anyData (F := F) m c).BodyObligation defs₀ Variants.none () Set.univ := fun t Y _ => by
  show iprop((Pipeline.ΦA spec0 c : sProp 𝕄) ∗ (anyData m c).owesAt () t.castSucc ∗ bigSep Finset.univ fun w : Fin 16 => owns (c : Thread nD τ) ((cfg0.win w).stage (cfg0.slots t w)) fullShare (Y w))
    ⊢ wp frame (wpE (defs₀ (F := F)) Variants.none c none) Set.univ (bodyAt0 t) fun _ =>
      iprop((Pipeline.ΦA spec0 c : sProp 𝕄) ∗ (anyData m c).owesAt () t.castSucc ∗ bigSep Finset.univ fun w : Fin 16 => iprop(∃ X, ⌜True⌝ ∗ owns (c : Thread nD τ) ((cfg0.win w).stage (cfg0.slots t w)) fullShare X))
  rw [bigSep_W0, bigSep_W0, scratch_eq]
  unfold bodyAt0
  iintro ⟨⟨⟨S0, S1, S2, S3, S4, S5, S6⟩, Hg⟩, Ho, H0, H1, H2, H3, H4, H5, H6, H7, H8, H9, H10, H11, H12, H13, H14, H15⟩
  iapply (body_run c (grid0.coords t) _ _ _ _ _ _ _ _ _ _ _ _ _ _ _ _ _ _ _ _ _ _ _ _ _ _ _ _ _ _ _ _ _ _ _ _ _ _ _ _ _ _ _ _ _ _ _)
  isplitl [H0 H1 H2 H3 H4 H5 H6 H7 H8 H9 H10 H11 H12 H13 H14 H15 S0 S1 S2 S3 S4 S5 S6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]
  · icases H0 with ⟨%X, H0⟩; iexists X; isplitr; · ipureintro; trivial
    iexact H0
  isplitl [H1]
  · icases H1 with ⟨%X, H1⟩; iexists X; isplitr; · ipureintro; trivial
    iexact H1
  isplitl [H2]
  · icases H2 with ⟨%X, H2⟩; iexists X; isplitr; · ipureintro; trivial
    iexact H2
  isplitl [H3]
  · icases H3 with ⟨%X, H3⟩; iexists X; isplitr; · ipureintro; trivial
    iexact H3
  isplitl [H4]
  · icases H4 with ⟨%X, H4⟩; iexists X; isplitr; · ipureintro; trivial
    iexact H4
  isplitl [H5]
  · icases H5 with ⟨%X, H5⟩; iexists X; isplitr; · ipureintro; trivial
    iexact H5
  isplitl [H6]
  · icases H6 with ⟨%X, H6⟩; iexists X; isplitr; · ipureintro; trivial
    iexact H6
  isplitl [H7]
  · icases H7 with ⟨%X, H7⟩; iexists X; isplitr; · ipureintro; trivial
    iexact H7
  isplitl [H8]
  · icases H8 with ⟨%X, H8⟩; iexists X; isplitr; · ipureintro; trivial
    iexact H8
  isplitl [H9]
  · icases H9 with ⟨%X, H9⟩; iexists X; isplitr; · ipureintro; trivial
    iexact H9
  isplitl [H10]
  · icases H10 with ⟨%X, H10⟩; iexists X; isplitr; · ipureintro; trivial
    iexact H10
  isplitl [H11]
  · icases H11 with ⟨%X, H11⟩; iexists X; isplitr; · ipureintro; trivial
    iexact H11
  isplitl [H12]
  · icases H12 with ⟨%X, H12⟩; iexists X; isplitr; · ipureintro; trivial
    iexact H12
  isplitl [H13]
  · icases H13 with ⟨%X, H13⟩; iexists X; isplitr; · ipureintro; trivial
    iexact H13
  isplitl [H14]
  · icases H14 with ⟨%X, H14⟩; iexists X; isplitr; · ipureintro; trivial
    iexact H14
  icases H15 with ⟨%X, H15⟩; iexists X; isplitr; · ipureintro; trivial
  iexact H15

/-- The whole run: it ends, the arrays the pipeline only reads keep their contents, and every counter is zero. -/
theorem run_any : θ_run defs (onTc (τ := τ) (main (F := F))) (s₀ m ρ)
    (fun r => RDat.FramePost cfg0 (anyData (F := F) m) (V m) r ∧ r.2.sem = fun _ => 0) :=
  Pipeline.RDat.θ_run_frame (Q' := _) cfgs (0 : Fin 1) launch0 defs₀ Variants.none (anyData m) m ρ main
    (hbody := body_any m) (hshare := fun c w => by unfold RDat.share; split <;> rfl)
    (howed := fun _ _ => rfl) (V := V m) (hmain := hmain m Variants.none) (hA := fun _ _ => rfl) (hΦ := fun _ _ => rfl)

set_option maxHeartbeats 4000000 in
/-- The frame: every argument ends as it began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 6 rfl).trans (V_main_arg3 m c),
      (h.1.arr_in c 7 rfl).trans (V_main_arg4 m c),
      (h.1.arr_in c 8 rfl).trans (V_main_arg5 m c),
      (h.1.arr_in c 9 rfl).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_any m ρ)

end Cert.Kernel15Ideal.Gen

end
-- ==== Proof.DownFwd.FrameIdeal.lean ====
/-
  The frame of `_fwd_down_1` as `Kernel16Ideal` prints it. Nothing is said of what the body leaves in a buffer: the proof
  data relates any contents to any, the scratch is held at some contents, and so what the scratch held before
  the first point plays no part. The run still ends, the arguments keep what they held, and every counter is zero.
-/
module

public import proofs.«01_k».proof.Proof.Gen.Kernel16Ideal.Frame
public import proofs.«01_k».proof.Proof.Gen.Kernel16Ideal.Loops

@[expose] public section

set_option maxRecDepth 16384

noncomputable section

namespace Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the body is called with, each held at some contents. -/
abbrev Held (c : Dev nD) (arg1 : Memref sig .tc .vmem S256x1024 .f32) (harg1 : arg1.IsWhole) (arg2 : Memref sig .tc .vmem S256x5632 .bf16) (harg2 : arg2.IsWhole) (arg3 : Memref sig .tc .vmem S2x3x2816 .f32) (harg3 : arg3.IsWhole) (arg4 : Memref sig .tc .vmem S2x2816 .f32) (harg4 : arg4.IsWhole) (arg5 : Memref sig .tc .vmem S2816x1024 .bf16) (harg5 : arg5.IsWhole) (arg6 : Memref sig .tc .vmem S256x1024 .f32) (harg6 : arg6.IsWhole) (arg7 : Memref sig .tc .vmem S256x2816 .bf16) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S3x288x2816 .f32) (harg10 : arg10.IsWhole) (arg11 : Memref sig .tc .vmem S4x8x2816 .f32) (harg11 : arg11.IsWhole) (arg12 : Memref sig .tc .vmem S256x2816 .f32) (harg12 : arg12.IsWhole) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))

set_option maxHeartbeats 4000000 in
/-- The body runs to its end from any contents and hands every buffer back, whichever way its conditionals go. -/
theorem body_run (c : Dev nD) (i : grid0.Coords) (arg1 : Memref sig .tc .vmem S256x1024 .f32) (harg1 : arg1.IsWhole) (arg2 : Memref sig .tc .vmem S256x5632 .bf16) (harg2 : arg2.IsWhole) (arg3 : Memref sig .tc .vmem S2x3x2816 .f32) (harg3 : arg3.IsWhole) (arg4 : Memref sig .tc .vmem S2x2816 .f32) (harg4 : arg4.IsWhole) (arg5 : Memref sig .tc .vmem S2816x1024 .bf16) (harg5 : arg5.IsWhole) (arg6 : Memref sig .tc .vmem S256x1024 .f32) (harg6 : arg6.IsWhole) (arg7 : Memref sig .tc .vmem S256x2816 .bf16) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S3x288x2816 .f32) (harg10 : arg10.IsWhole) (arg11 : Memref sig .tc .vmem S4x8x2816 .f32) (harg11 : arg11.IsWhole) (arg12 : Memref sig .tc .vmem S256x2816 .f32) (harg12 : arg12.IsWhole) (K : PUnit → sProp 𝕄) :
    iprop(Held c arg1 harg1 arg2 harg2 arg3 harg3 arg4 harg4 arg5 harg5 arg6 harg6 arg7 harg7 arg8 harg8 arg9 harg9 arg10 harg10 arg11 harg11 arg12 harg12 ∗ (Held c arg1 harg1 arg2 harg2 arg3 harg3 arg4 harg4 arg5 harg5 arg6 harg6 arg7 harg7 arg8 harg8 arg9 harg9 arg10 harg10 arg11 harg11 arg12 harg12 -∗ K ⟨⟩))
      ⊢ wp frame (wpE (defs₀ (F := F)) Variants.none c none) Set.univ (cc0_fwd_down_1 i arg1 harg1 arg2 harg2 arg3 harg3 arg4 harg4 arg5 harg5 arg6 harg6 arg7 harg7 arg8 harg8 arg9 harg9 arg10 harg10 arg11 harg11 arg12 harg12) K := by
  simp only [cc0_fwd_down_1_eq_skeleton]; unfold cc0_fwd_down_1_skel
  simp only [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold Held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩, Hk⟩
  by_cases hc0 : Scalar.cmpi .ne (Scalar.extui (Scalar.cmpi .eq (BitVec.ofNat 32 (i 0).val) 0#32) : BitVec 32) 0#32 = 1#1
  all_goals
    sl_exec (disch := first | sl_exact hc0)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

abbrev scM0_0 : Memref sig .tc .vmem S3x288x2816 .f32 := Memref.whole cc0_scratch0
abbrev scM0_1 : Memref sig .tc .vmem S4x8x2816 .f32 := Memref.whole cc0_scratch1
abbrev scM0_2 : Memref sig .tc .vmem S256x2816 .f32 := Memref.whole cc0_scratch2

/-- The invariant between points: the scratch at some contents, the generator's register at some state. -/
theorem scratch_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The proof data: the arrays as the region finds them, and no word on what the body leaves. -/
def anyData (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs and returns each staging buffer at some contents. -/
theorem body_any (c : Dev nD) : (anyData (F := F) m c).BodyObligation defs₀ Variants.none () Set.univ := fun t Y _ => by
  show iprop((Pipeline.ΦA spec0 c : sProp 𝕄) ∗ (anyData m c).owesAt () t.castSucc ∗ bigSep Finset.univ fun w : Fin 9 => owns (c : Thread nD τ) ((cfg0.win w).stage (cfg0.slots t w)) fullShare (Y w))
    ⊢ wp frame (wpE (defs₀ (F := F)) Variants.none c none) Set.univ (bodyAt0 t) fun _ =>
      iprop((Pipeline.ΦA spec0 c : sProp 𝕄) ∗ (anyData m c).owesAt () t.castSucc ∗ bigSep Finset.univ fun w : Fin 9 => iprop(∃ X, ⌜True⌝ ∗ owns (c : Thread nD τ) ((cfg0.win w).stage (cfg0.slots t w)) fullShare X))
  rw [bigSep_W0, bigSep_W0, scratch_eq]
  unfold bodyAt0
  iintro ⟨⟨⟨S0, S1, S2⟩, Hg⟩, Ho, H0, H1, H2, H3, H4, H5, H6, H7, H8⟩
  iapply (body_run c (grid0.coords t) _ _ _ _ _ _ _ _ _ _ _ _ _ _ _ _ _ _ _ _ _ _ _ _ _)
  isplitl [H0 H1 H2 H3 H4 H5 H6 H7 H8 S0 S1 S2]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    iexact S2
  iintro ⟨H0, H1, H2, H3, H4, H5, H6, H7, H8, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]
  · icases H0 with ⟨%X, H0⟩; iexists X; isplitr; · ipureintro; trivial
    iexact H0
  isplitl [H1]
  · icases H1 with ⟨%X, H1⟩; iexists X; isplitr; · ipureintro; trivial
    iexact H1
  isplitl [H2]
  · icases H2 with ⟨%X, H2⟩; iexists X; isplitr; · ipureintro; trivial
    iexact H2
  isplitl [H3]
  · icases H3 with ⟨%X, H3⟩; iexists X; isplitr; · ipureintro; trivial
    iexact H3
  isplitl [H4]
  · icases H4 with ⟨%X, H4⟩; iexists X; isplitr; · ipureintro; trivial
    iexact H4
  isplitl [H5]
  · icases H5 with ⟨%X, H5⟩; iexists X; isplitr; · ipureintro; trivial
    iexact H5
  isplitl [H6]
  · icases H6 with ⟨%X, H6⟩; iexists X; isplitr; · ipureintro; trivial
    iexact H6
  isplitl [H7]
  · icases H7 with ⟨%X, H7⟩; iexists X; isplitr; · ipureintro; trivial
    iexact H7
  icases H8 with ⟨%X, H8⟩; iexists X; isplitr; · ipureintro; trivial
  iexact H8

/-- The whole run: it ends, the arrays the pipeline only reads keep their contents, and every counter is zero. -/
theorem run_any : θ_run defs (onTc (τ := τ) (main (F := F))) (s₀ m ρ)
    (fun r => RDat.FramePost cfg0 (anyData (F := F) m) (V m) r ∧ r.2.sem = fun _ => 0) :=
  Pipeline.RDat.θ_run_frame (Q' := _) cfgs (0 : Fin 1) launch0 defs₀ Variants.none (anyData m) m ρ main
    (hbody := body_any m) (hshare := fun c w => by unfold RDat.share; split <;> rfl)
    (howed := fun _ _ => rfl) (V := V m) (hmain := hmain m Variants.none) (hA := fun _ _ => rfl) (hΦ := fun _ _ => rfl)

set_option maxHeartbeats 4000000 in
/-- The frame: every argument ends as it began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans (V_main_arg2 m c),
      (h.1.arr_in c 3 rfl).trans (V_main_arg3 m c),
      ((h.1 c).2 main_arg4 (Pipeline.mem_restRefs_of main_arg4 (by decide) (by decide))).trans (V_main_arg4 m c)⟩, h.2⟩) (run_any m ρ)

end Cert.Kernel16Ideal.Gen

end
-- ==== Proof.BranchFwd.FrameIdeal.lean ====
/-
  The frame of `_fwd_branch_1` as `Kernel17Ideal` prints it. Nothing is said of what the body leaves in a buffer: the proof
  data relates any contents to any, the scratch is held at some contents, and so what the scratch held before
  the first point plays no part. The run still ends, the arguments keep what they held, and every counter is zero.
-/
module

public import proofs.«01_k».proof.Proof.Gen.Kernel17Ideal.Frame
public import proofs.«01_k».proof.Proof.Gen.Kernel17Ideal.Loops

@[expose] public section

set_option maxRecDepth 16384

noncomputable section

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the body is called with, each held at some contents. -/
abbrev Held (c : Dev nD) (arg1 : Memref sig .tc .vmem S512x2560 .bf16) (harg1 : arg1.IsWhole) (arg2 : Memref sig .tc .vmem S2x31x512 .f32) (harg2 : arg2.IsWhole) (arg3 : Memref sig .tc .vmem S2x512 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x3x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S8x544x512 .f32) (harg11 : arg11.IsWhole) (arg12 : Memref sig .tc .vmem S3x544x512 .f32) (harg12 : arg12.IsWhole) (arg13 : Memref sig .tc .vmem S32x8x512 .f32) (harg13 : arg13.IsWhole) (arg14 : Memref sig .tc .vmem S3x8x512 .f32) (harg14 : arg14.IsWhole) (arg15 : Memref sig .tc .vmem S512x512 .f32) (harg15 : arg15.IsWhole) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

set_option maxHeartbeats 4000000 in
/-- The body runs to its end from any contents and hands every buffer back, whichever way its conditionals go. -/
theorem body_run (c : Dev nD) (i : grid0.Coords) (arg1 : Memref sig .tc .vmem S512x2560 .bf16) (harg1 : arg1.IsWhole) (arg2 : Memref sig .tc .vmem S2x31x512 .f32) (harg2 : arg2.IsWhole) (arg3 : Memref sig .tc .vmem S2x512 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x3x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S8x544x512 .f32) (harg11 : arg11.IsWhole) (arg12 : Memref sig .tc .vmem S3x544x512 .f32) (harg12 : arg12.IsWhole) (arg13 : Memref sig .tc .vmem S32x8x512 .f32) (harg13 : arg13.IsWhole) (arg14 : Memref sig .tc .vmem S3x8x512 .f32) (harg14 : arg14.IsWhole) (arg15 : Memref sig .tc .vmem S512x512 .f32) (harg15 : arg15.IsWhole) (K : PUnit → sProp 𝕄) :
    iprop(Held c arg1 harg1 arg2 harg2 arg3 harg3 arg4 harg4 arg5 harg5 arg6 harg6 arg7 harg7 arg8 harg8 arg9 harg9 arg10 harg10 arg11 harg11 arg12 harg12 arg13 harg13 arg14 harg14 arg15 harg15 ∗ (Held c arg1 harg1 arg2 harg2 arg3 harg3 arg4 harg4 arg5 harg5 arg6 harg6 arg7 harg7 arg8 harg8 arg9 harg9 arg10 harg10 arg11 harg11 arg12 harg12 arg13 harg13 arg14 harg14 arg15 harg15 -∗ K ⟨⟩))
      ⊢ wp frame (wpE (defs₀ (F := F)) Variants.none c none) Set.univ (cc0_fwd_branch_1 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fwd_branch_1_eq_skeleton]; unfold cc0_fwd_branch_1_skel
  simp only [k0_part41_eq_skeleton, k0_part42_eq_skeleton, k0_part43_eq_skeleton, k0_part44_eq_skeleton]
  unfold Held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩, Hk⟩
  by_cases hc0 : Scalar.cmpi .ne (Scalar.extui (Scalar.cmpi .eq (BitVec.ofNat 32 (i 0).val) 0#32) : BitVec 32) 0#32 = 1#1
  all_goals
    sl_exec (disch := first | sl_exact hc0)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    iexists _; iexists _; isplitr; swap; · iexact H14
    ipureintro; rfl

abbrev scM0_0 : Memref sig .tc .vmem S8x544x512 .f32 := Memref.whole cc0_scratch0
abbrev scM0_1 : Memref sig .tc .vmem S3x544x512 .f32 := Memref.whole cc0_scratch1
abbrev scM0_2 : Memref sig .tc .vmem S32x8x512 .f32 := Memref.whole cc0_scratch2
abbrev scM0_3 : Memref sig .tc .vmem S3x8x512 .f32 := Memref.whole cc0_scratch3
abbrev scM0_4 : Memref sig .tc .vmem S512x512 .f32 := Memref.whole cc0_scratch4

/-- The invariant between points: the scratch at some contents, the generator's register at some state. -/
theorem scratch_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The proof data: the arrays as the region finds them, and no word on what the body leaves. -/
def anyData (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs and returns each staging buffer at some contents. -/
theorem body_any (c : Dev nD) : (anyData (F := F) m c).BodyObligation defs₀ Variants.none () Set.univ := fun t Y _ => by
  show iprop((Pipeline.ΦA spec0 c : sProp 𝕄) ∗ (anyData m c).owesAt () t.castSucc ∗ bigSep Finset.univ fun w : Fin 10 => owns (c : Thread nD τ) ((cfg0.win w).stage (cfg0.slots t w)) fullShare (Y w))
    ⊢ wp frame (wpE (defs₀ (F := F)) Variants.none c none) Set.univ (bodyAt0 t) fun _ =>
      iprop((Pipeline.ΦA spec0 c : sProp 𝕄) ∗ (anyData m c).owesAt () t.castSucc ∗ bigSep Finset.univ fun w : Fin 10 => iprop(∃ X, ⌜True⌝ ∗ owns (c : Thread nD τ) ((cfg0.win w).stage (cfg0.slots t w)) fullShare X))
  rw [bigSep_W0, bigSep_W0, scratch_eq]
  unfold bodyAt0
  iintro ⟨⟨⟨S0, S1, S2, S3, S4⟩, Hg⟩, Ho, H0, H1, H2, H3, H4, H5, H6, H7, H8, H9⟩
  iapply (body_run c (grid0.coords t) _ _ _ _ _ _ _ _ _ _ _ _ _ _ _ _ _ _ _ _ _ _ _ _ _ _ _ _ _ _ _)
  isplitl [H0 H1 H2 H3 H4 H5 H6 H7 H8 H9 S0 S1 S2 S3 S4]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [S0]; · iexact S0
    isplitl [S1]; · iexact S1
    isplitl [S2]; · iexact S2
    isplitl [S3]; · iexact S3
    iexact S4
  iintro ⟨H0, H1, H2, H3, H4, H5, H6, H7, H8, H9, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]
  · icases H0 with ⟨%X, H0⟩; iexists X; isplitr; · ipureintro; trivial
    iexact H0
  isplitl [H1]
  · icases H1 with ⟨%X, H1⟩; iexists X; isplitr; · ipureintro; trivial
    iexact H1
  isplitl [H2]
  · icases H2 with ⟨%X, H2⟩; iexists X; isplitr; · ipureintro; trivial
    iexact H2
  isplitl [H3]
  · icases H3 with ⟨%X, H3⟩; iexists X; isplitr; · ipureintro; trivial
    iexact H3
  isplitl [H4]
  · icases H4 with ⟨%X, H4⟩; iexists X; isplitr; · ipureintro; trivial
    iexact H4
  isplitl [H5]
  · icases H5 with ⟨%X, H5⟩; iexists X; isplitr; · ipureintro; trivial
    iexact H5
  isplitl [H6]
  · icases H6 with ⟨%X, H6⟩; iexists X; isplitr; · ipureintro; trivial
    iexact H6
  isplitl [H7]
  · icases H7 with ⟨%X, H7⟩; iexists X; isplitr; · ipureintro; trivial
    iexact H7
  isplitl [H8]
  · icases H8 with ⟨%X, H8⟩; iexists X; isplitr; · ipureintro; trivial
    iexact H8
  icases H9 with ⟨%X, H9⟩; iexists X; isplitr; · ipureintro; trivial
  iexact H9

/-- The whole run: it ends, the arrays the pipeline only reads keep their contents, and every counter is zero. -/
theorem run_any : θ_run defs (onTc (τ := τ) (main (F := F))) (s₀ m ρ)
    (fun r => RDat.FramePost cfg0 (anyData (F := F) m) (V m) r ∧ r.2.sem = fun _ => 0) :=
  Pipeline.RDat.θ_run_frame (Q' := _) cfgs (0 : Fin 1) launch0 defs₀ Variants.none (anyData m) m ρ main
    (hbody := body_any m) (hshare := fun c w => by unfold RDat.share; split <;> rfl)
    (howed := fun _ _ => rfl) (V := V m) (hmain := hmain m Variants.none) (hA := fun _ _ => rfl) (hΦ := fun _ _ => rfl)

set_option maxHeartbeats 4000000 in
/-- The frame: every argument ends as it began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c)⟩, h.2⟩) (run_any m ρ)

end Cert.Kernel17Ideal.Gen

end
-- ==== Proof.FwdUpFirst.Steps.lean ====
/- The reference's values, step by step, and what each holds (FwdUp/Spec.lean). -/
module

public import proofs.«01_k».proof.Proof.FwdUp.Spec
public import proofs.«01_k».proof.Proof.Gen.Reference18Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference18Ideal.FwdUpFirst

open Cert.Reference18Ideal Cert.Reference18Ideal.Gen
open Cert Cert.FwdUp

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev g : FVec Ideal ⟨2, ![2, 1024]⟩ .f32 := m ((c.tc : Thread nD τ).loc main_arg1)
abbrev w : FVec Ideal ⟨3, ![2, 1024, 5632]⟩ .f32 := m ((c.tc : Thread nD τ).loc main_arg2)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq (Rms.rowOf (x m c) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale (Rms.rowOf (x m c) r) := by
  pointwise [scaleV, Rms.scale, sqV_at]
/-- The scaled rows. -/
def normV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem normV_at (r : Fin 8192) (d : Fin 1024) : normV m c (ix3 0 r d) = Ple.normed 0 (Rms.rowOf (x m c)) (g m c) r d := by
  pointwise [normV, Ple.normed, Rms.rowOf, scaleV_at]
/-- The scaled rows, as returned. -/
def hV : FVec Ideal S8192x1024 .bf16 := truncf .bf16 (shapeCast S8192x1024 (normV m c) shapeCasts_S1x8192x1024_S8192x1024) bitsLt_bf16_f32
theorem hV_at (r : Fin 8192) (d : Fin 1024) : hV m c (ix2 r d) = Ple.normed 0 (Rms.rowOf (x m c)) (g m c) r d := by
  pointwise [hV, normV_at]
/-- The projected rows. -/
def uV : FVec Ideal S8192x5632 .bf16 := truncf .bf16 (shapeCast S8192x5632 (Host.dotGeneral dot_S1x8192x1024_S1024x5632_S1x8192x5632_2_0_01_1_n_n none (normV m c) (shapeCast S1024x5632 (extractStridedSlice S1x1024x5632 ![0, 0, 0] (w m c) slices_S2x1024x5632_S1x1024x5632_0_0_0) shapeCasts_S1x1024x5632_S1024x5632)) shapeCasts_S1x8192x5632_S8192x5632) bitsLt_bf16_f32
theorem uV_at (r : Fin 8192) (j : Fin 5632) : uV m c (ix2 r j) = proj 0 (Rms.rowOf (x m c)) (g m c) (w m c) r j := by
  pointwise [uV, proj, normV_at]

end Cert.Reference18Ideal.FwdUpFirst

end
-- ==== Proof.FwdUpFirst.Ref.lean ====
/- The reference's run: the scaled rows and the projected rows (FwdUp/Spec.lean). -/
module

public import proofs.«01_k».proof.Proof.FwdUpFirst.Steps

@[expose] public section

set_option maxRecDepth 16384

noncomputable section

open Idealize.ShloMosaic Idealize.ShloMosaic.TcCoe Idealize.SL.Sem

namespace Cert.Reference18Ideal.FwdUpFirst

open Cert.Reference18Ideal Cert.Reference18Ideal.Gen
open Cert.FwdUp

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v19) = (fun i => Ple.normed 0 (Rms.rowOf (x m c)) (g m c) (i 0) (i 1))
      ∧ r.2.mem ((c.tc : Thread nD τ).loc main_v21) = (fun i => proj 0 (Rms.rowOf (x m c)) (g m c) (w m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  obtain ⟨h0, h1, hargs⟩ := h c
  exact ⟨h0.trans (show hV m c = _ from funext fun i => by idx_vars i; exact hV_at m c i0 i1), h1.trans (show uV m c = _ from funext fun i => by idx_vars i; exact uV_at m c i0 i1), hargs⟩

end Cert.Reference18Ideal.FwdUpFirst

end
-- ==== Proof.FwdUpFirst.Blocks.lean ====
/- The arrays that the host code prepares for the kernel, and what the kernel's blocks hold of them. -/
module

public import proofs.«01_k».proof.Proof.FwdUp.Spec
public import proofs.«01_k».proof.Proof.Gen.Kernel18Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel18Ideal.FwdUpFirst

open Cert.Kernel18Ideal Cert.Kernel18Ideal.Gen
open Cert Cert.FwdUp

variable (m : (ℓ : Loc nD τ sig) → Buf (Elt Ideal) ℓ) (c : Dev nD)

abbrev x : FVec Ideal ⟨3, ![1, 8192, 1024]⟩ .f32 := m ((c : Thread nD τ).loc main_arg0)
abbrev g : FVec Ideal ⟨2, ![2, 1024]⟩ .f32 := m ((c : Thread nD τ).loc main_arg1)
abbrev w : FVec Ideal ⟨3, ![2, 1024, 5632]⟩ .f32 := m ((c : Thread nD τ).loc main_arg2)

theorem v4_at (r : Fin 8192) (j : Fin 1024) : V m c main_v4 (ix2 r j) = x m c (ix3 0 r j) := by
  unfold V
  after_reads_at

theorem v3_at (j : Fin 5632) (i : Fin 1024) : V m c main_v3 (ix2 j i) = w m c (ix3 0 i j) := by
  unfold V
  after_reads_at

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v4).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v4) (at0 t i j)).trans (v4_at m c _ _)
theorem at1 (t : Fin cfg0.N) (i : Fin 2) (j : Fin 1024) : ((View.whole main_arg1).slice (win0_1.rect t)).emb (ix2 i j) = ix2 i j := by
  blk_ext [idx t, row]
theorem blk1 (t : Fin cfg0.N) (i : Fin 2) (j : Fin 1024) : iblk m c 1 t (ix2 i j) = g m c (ix2 i j) :=
  (congrArg (V m c main_arg1) (at1 t i j)).trans (congrFun (V_main_arg1 m c) _)
theorem at2 (t : Fin cfg0.N) (i : Fin 5632) (j : Fin 1024) : ((View.whole main_v3).slice (win0_2.rect t)).emb (ix2 i j) = ix2 i j := by
  blk_ext [idx t, row]
theorem blk2 (t : Fin cfg0.N) (i : Fin 5632) (j : Fin 1024) : iblk m c 2 t (ix2 i j) = w m c (ix3 0 j i) :=
  (congrArg (V m c main_v3) (at2 t i j)).trans (v3_at m c _ _)
theorem at3 (t : Fin cfg0.N) (i : Fin 512) (j : Fin 1024) : ((View.whole main_v5_0).slice (win0_3.rect t)).emb (ix2 i j) = ix2 (row t i) j := by
  blk_ext [idx t, row]
theorem at4 (t : Fin cfg0.N) (i : Fin 512) (j : Fin 5632) : ((View.whole main_v5_1).slice (win0_4.rect t)).emb (ix2 i j) = ix2 (row t i) j := by
  blk_ext [idx t, row]

end Cert.Kernel18Ideal.FwdUpFirst

end
-- ==== Proof.FwdUpFirst.Tile.lean ====
/- What the kernel computes of a block of rows. -/
module

public import proofs.«01_k».proof.Proof.FwdUpFirst.Blocks

@[expose] public section

set_option maxRecDepth 16384

noncomputable section

open Idealize.ShloMosaic Idealize.ShloMosaic.TcCoe Idealize.SL.Sem
open Idealize.ShloMosaic.Pipeline (Dat)

namespace Cert.Kernel18Ideal.FwdUpFirst

open Cert.Kernel18Ideal Cert.Kernel18Ideal.Gen
open Cert Cert.FwdUp

variable (m : (ℓ : Loc nD τ sig) → Buf (Elt Ideal) ℓ) (c : Dev nD)

/-- The scaled rows of a block. -/
theorem pay4_at (t : Fin cfg0.N) (i : Fin 512) (d : Fin 1024) :
    k0_pay4 (iblk m c 0 t) (View.ld (iblk m c 1 t) (Rect.unit ![0, 0] ![1, 1024] inb_S2x1024_S1x1024_0_0)) (ix2 i d)
      = Ple.normed 0 (Rms.rowOf (x m c)) (g m c) (row t i) d := by
  pointwise [k0_pay4, Ple.normed, Rms.scale, Rms.meanSq, Rms.rowOf, Cert.Util.load_layer, blk0, blk1]

end Cert.Kernel18Ideal.FwdUpFirst

end
-- ==== Proof.FwdUpFirst.Outputs.lean ====
/- The kernel's result arrays: the scaled rows and the projected rows, block by block. -/
module

public import proofs.«01_k».proof.Proof.FwdUpFirst.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel18Ideal.FwdUpFirst

open Cert.Kernel18Ideal Cert.Kernel18Ideal.Gen
open Cert Cert.FwdUp

variable (m : (ℓ : Loc nD τ sig) → Buf (Elt Ideal) ℓ) (c : Dev nD)

/-- The scaled rows, read through the body's loads. -/
theorem h_at (t : Fin cfg0.N) (i : Fin 512) (d : Fin 1024) : k0_pay4 (View.ld (iblk m c 0 t) r0_0) (View.ld (iblk m c 1 t) r0_1) (ix2 i d)
    = Ple.normed 0 (Rms.rowOf (x m c)) (g m c) (row t i) d := by
  pointwise [k0_pay4, Ple.normed, Rms.scale, Rms.meanSq, Rms.rowOf, Cert.Util.load_layer, blk0, blk1]

theorem final3 : (dats m 0 c).arrAt 3 (cfgs 0).N
    = fun i => Ple.normed 0 (Rms.rowOf (x m c)) (g m c) (i 0) (i 1) := by
  refine (dats m 0 c).arrAt_eq_of_covers 3 _ (by decide +kernel) fun t _ y => ?_
  blk_simp
  idx_vars y
  rw [at3, after0_3]
  unfold_out out0_3
  frame_out
  exact pay4_at m c t y0 y1

/-- The block of projected rows at a point, as a function of the block's index. -/
def blockU (t : Fin cfg0.N) : FVec Ideal S512x5632 .bf16 := fun y => proj 0 (Rms.rowOf (x m c)) (g m c) (w m c) (row t (y 0)) (y 1)

theorem out4_at (t : Fin cfg0.N) (y : S512x5632.Idx) : (dats m 0 c).after 4 t y = blockU m c t y := by
  rw [after0_4]
  unfold out0_4
  refine View.canon_apply_of_pieces (Val := Elt Ideal) (e := .bf16) (blockU m c t) _ (View.PiecesOf.mem ?_) y (cover0_4 _ _ _ _ _ _ _ _ _ _ _ y)
  refine ⟨?_, ?_, ?_, ?_, ?_, ?_, ?_, ?_, ?_, ?_, ?_, trivial⟩
  all_goals
    intro q
    idx_vars q
    rw [emb_cols]
    pointwise [k0_pay1, k0_pay2, k0_pay3, k0_pay5, k0_pay6, k0_pay7, k0_pay8, k0_pay9, k0_pay10, k0_pay11, k0_pay12, k0_pay13, k0_pay14, blockU, proj, blk2]
    exact Finset.sum_congr rfl fun d _ => congrArg (· * _) (h_at m c t _ d)

theorem final4 : (dats m 0 c).arrAt 4 (cfgs 0).N
    = fun i => proj 0 (Rms.rowOf (x m c)) (g m c) (w m c) (i 0) (i 1) := by
  refine (dats m 0 c).arrAt_eq_of_covers 4 _ (by decide +kernel) fun t _ y => ?_
  rw [out4_at]
  blk_simp
  idx_vars y
  rw [at4]
  rfl

end Cert.Kernel18Ideal.FwdUpFirst

end
-- ==== Proof.FwdUpFirst.Run.lean ====
/- The kernel's run: the scaled rows and the projected rows (FwdUp/Spec.lean). -/
module

public import proofs.«01_k».proof.Proof.FwdUpFirst.Outputs

@[expose] public section

set_option maxRecDepth 16384

noncomputable section

open Idealize.ShloMosaic Idealize.ShloMosaic.TcCoe Idealize.SL.Sem

namespace Cert.Kernel18Ideal.FwdUpFirst

open Cert.Kernel18Ideal Cert.Kernel18Ideal.Gen
open Cert.FwdUp

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5_0) = (fun i => Ple.normed 0 (Rms.rowOf (x m c)) (g m c) (i 0) (i 1))
      ∧ r.2.mem ((c.tc : Thread nD τ).loc main_v5_1) = (fun i => proj 0 (Rms.rowOf (x m c)) (g m c) (w m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (unchanged m ρ)) fun r h c =>
    ⟨((h.1 c).1 3).trans (final3 m c), ((h.1 c).1 4).trans (final4 m c), h.2 c⟩

end Cert.Kernel18Ideal.FwdUpFirst

end
-- ==== Proof.FwdUpFirst.Pair.lean ====
/- The forward norm's pair: the kernel's results are the reference's. -/
module

public import proofs.«01_k».proof.Defs
public import proofs.«01_k».proof.Proof.FwdUpFirst.Ref
public import proofs.«01_k».proof.Proof.FwdUpFirst.Run

@[expose] public section

set_option maxRecDepth 16384

noncomputable section

open Idealize.ShloMosaic Idealize.ShloMosaic.TcCoe Idealize.SL.Sem

namespace Cert.FwdUpFirst

open Cert.Reference18Ideal.FwdUpFirst in
theorem algebraic : Cert.algebraic_Kernel18Ideal_Reference18Ideal := by
  intro m ρ m' ρ' _ hagree
  refine ⟨_, _, Cert.Kernel18Ideal.FwdUpFirst.run m ρ, θ_run_mono (run m' ρ') fun r h c => ?_⟩
  obtain ⟨h0, h1, hargs⟩ := h c
  have e0 : x m' c = Cert.Kernel18Ideal.FwdUpFirst.x m c := (hagree c).1
  have e1 : g m' c = Cert.Kernel18Ideal.FwdUpFirst.g m c := (hagree c).2.1
  have e2 : w m' c = Cert.Kernel18Ideal.FwdUpFirst.w m c := (hagree c).2.2

  exact ⟨h0.trans (by rewrite [e0, e1]; rfl), h1.trans (by rewrite [e0, e1, e2]; rfl), hargs⟩

theorem reference_frame : Cert.quiescent_Reference18Ideal := by
  intro m g _
  exact (θ_run Cert.Reference18Ideal.defs _ _).mono (fun r h => ⟨fun c => (h c).2.2, sem_eq_zero_of_no_sems (by decide) r.2⟩)
    (Cert.Reference18Ideal.FwdUpFirst.run m g)

end Cert.FwdUpFirst

end
-- ==== Proof.FwdMergeFirst.Steps.lean ====
/- The reference's values, step by step, and what each holds (FwdMerge/Spec.lean). -/
module

public import proofs.«01_k».proof.Proof.FwdMerge.Spec
public import proofs.«01_k».proof.Proof.Gen.Reference19Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference19Ideal.FwdMergeFirst

open Cert.Reference19Ideal Cert.Reference19Ideal.Gen
open Cert Cert.FwdMerge

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev z : FVec Ideal ⟨3, ![1, 8192, 4608]⟩ .f32 := m ((c.tc : Thread nD τ).loc main_arg1)
abbrev b : FVec Ideal ⟨2, ![2, 2048]⟩ .f32 := m ((c.tc : Thread nD τ).loc main_arg2)
abbrev a : FVec Ideal ⟨3, ![1, 8192, 512]⟩ .f32 := m ((c.tc : Thread nD τ).loc main_arg3)
abbrev s : FVec Ideal ⟨3, ![1, 8192, 512]⟩ .f32 := m ((c.tc : Thread nD τ).loc main_arg4)
abbrev wa : FVec Ideal ⟨3, ![2, 512, 1024]⟩ .f32 := m ((c.tc : Thread nD τ).loc main_arg5)
abbrev wb : FVec Ideal ⟨3, ![2, 512, 1024]⟩ .f32 := m ((c.tc : Thread nD τ).loc main_arg6)
abbrev wo : FVec Ideal ⟨3, ![2, 1024, 1024]⟩ .f32 := m ((c.tc : Thread nD τ).loc main_arg7)

/-- The gates' logits. -/
def logitV : FVec Ideal S1x8192x2048 .f32 := addf (extractStridedSlice S1x8192x2048 ![0, 0, 2560] (z m c) slices_S1x8192x4608_S1x8192x2048_0_0_2560) (broadcastInDim S1x8192x2048 ![0, 1, 2] bcast_S1x1x2048_S1x8192x2048_0_1_2 (broadcastInDim S1x1x2048 ![2] bcast_S2048_S1x1x2048_2 (shapeCast S2048 (extractStridedSlice S1x2048 ![0, 0] (b m c) slices_S2x2048_S1x2048_0_0) shapeCasts_S1x2048_S2048)))
theorem logitV_at (r : Fin 8192) (d : Fin 2048) : logitV m c (ix3 0 r d) = z m c (ix3 0 r ⟨2560 + d.val, by omega⟩) + b m c (ix2 0 d) := by
  pointwise [logitV]
/-- The gate of the left branch. -/
def gateAV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (extractStridedSlice S1x8192x1024 ![0, 0, 0] (logitV m c) slices_S1x8192x2048_S1x8192x1024_0_0_0))))
theorem gateAV_at (r : Fin 8192) (d : Fin 1024) : gateAV m c (ix3 0 r d) = Merge.gateA 0 (z m c) (b m c) r d := by
  pointwise [gateAV, Merge.gateA, Ideal.logistic, logitV_at]
/-- The gate of the right branch. -/
def gateBV : FVec Ideal S1x8192x1024 .f32 := Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf (extractStridedSlice S1x8192x1024 ![0, 0, 1024] (logitV m c) slices_S1x8192x2048_S1x8192x1024_0_0_1024))))
theorem gateBV_at (r : Fin 8192) (d : Fin 1024) : gateBV m c (ix3 0 r d) = Merge.gateB 0 (z m c) (b m c) r d := by
  pointwise [gateBV, Merge.gateB, Ideal.logistic, logitV_at]
  simp only [← Nat.add_assoc, Nat.reduceAdd]
/-- Both branches under their gates, added. -/
def mergedV : FVec Ideal S1x8192x1024 .f32 := addf (mulf (gateAV m c) (Host.dotGeneral dot_S1x8192x512_S512x1024_S1x8192x1024_2_0_01_1_n_n none (a m c) (shapeCast S512x1024 (extractStridedSlice S1x512x1024 ![0, 0, 0] (wa m c) slices_S2x512x1024_S1x512x1024_0_0_0) shapeCasts_S1x512x1024_S512x1024))) (mulf (gateBV m c) (Host.dotGeneral dot_S1x8192x512_S512x1024_S1x8192x1024_2_0_01_1_n_n none (s m c) (shapeCast S512x1024 (extractStridedSlice S1x512x1024 ![0, 0, 0] (wb m c) slices_S2x512x1024_S1x512x1024_0_0_0) shapeCasts_S1x512x1024_S512x1024)))
theorem mergedV_at (r : Fin 8192) (d : Fin 1024) : mergedV m c (ix3 0 r d) = merged 0 (z m c) (b m c) (a m c) (s m c) (wa m c) (wb m c) r d := by
  pointwise [mergedV, merged, Merge.out, gateAV_at, gateBV_at]
/-- The merged row through the output weight, and the residual. -/
def yV : FVec Ideal S8192x1024 .f32 := shapeCast S8192x1024 (addf (x m c) (Host.dotGeneral dot_S1x8192x1024_S1024x1024_S1x8192x1024_2_0_01_1_n_n none (mergedV m c) (shapeCast S1024x1024 (extractStridedSlice S1x1024x1024 ![0, 0, 0] (wo m c) slices_S2x1024x1024_S1x1024x1024_0_0_0) shapeCasts_S1x1024x1024_S1024x1024))) shapeCasts_S1x8192x1024_S8192x1024
theorem yV_at (r : Fin 8192) (e : Fin 1024) : yV m c (ix2 r e) = result 0 (x m c) (z m c) (b m c) (a m c) (s m c) (wa m c) (wb m c) (wo m c) r e := by
  pointwise [yV, result, mergedV_at]

end Cert.Reference19Ideal.FwdMergeFirst

end
-- ==== Proof.FwdMergeFirst.Ref.lean ====
/- The reference's run: the merged rows (FwdMerge/Spec.lean). -/
module

public import proofs.«01_k».proof.Proof.FwdMergeFirst.Steps

@[expose] public section

set_option maxRecDepth 16384

noncomputable section

open Idealize.ShloMosaic Idealize.ShloMosaic.TcCoe Idealize.SL.Sem

namespace Cert.Reference19Ideal.FwdMergeFirst

open Cert.Reference19Ideal Cert.Reference19Ideal.Gen
open Cert.FwdMerge

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v33) = (fun i => result 0 (x m c) (z m c) (b m c) (a m c) (s m c) (wa m c) (wb m c) (wo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨h0, hargs⟩ := h c
  exact ⟨h0.trans (show yV m c = _ from funext fun i => by idx_vars i; exact yV_at m c i0 i1), hargs⟩

end Cert.Reference19Ideal.FwdMergeFirst

end
-- ==== Proof.FwdMergeFirst.Blocks.lean ====
/- The arrays that the host code prepares for the kernel, and what the kernel's blocks hold of them. -/
module

public import proofs.«01_k».proof.Proof.FwdMerge.Spec
public import proofs.«01_k».proof.Proof.Gen.Kernel19Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel19Ideal.FwdMergeFirst

open Cert.Kernel19Ideal Cert.Kernel19Ideal.Gen
open Cert Cert.FwdMerge

variable (m : (ℓ : Loc nD τ sig) → Buf (Elt Ideal) ℓ) (c : Dev nD)

abbrev x : FVec Ideal ⟨3, ![1, 8192, 1024]⟩ .f32 := m ((c : Thread nD τ).loc main_arg0)
abbrev z : FVec Ideal ⟨3, ![1, 8192, 4608]⟩ .f32 := m ((c : Thread nD τ).loc main_arg1)
abbrev b : FVec Ideal ⟨2, ![2, 2048]⟩ .f32 := m ((c : Thread nD τ).loc main_arg2)
abbrev a : FVec Ideal ⟨3, ![1, 8192, 512]⟩ .f32 := m ((c : Thread nD τ).loc main_arg3)
abbrev s : FVec Ideal ⟨3, ![1, 8192, 512]⟩ .f32 := m ((c : Thread nD τ).loc main_arg4)
abbrev wa : FVec Ideal ⟨3, ![2, 512, 1024]⟩ .f32 := m ((c : Thread nD τ).loc main_arg5)
abbrev wb : FVec Ideal ⟨3, ![2, 512, 1024]⟩ .f32 := m ((c : Thread nD τ).loc main_arg6)
abbrev wo : FVec Ideal ⟨3, ![2, 1024, 1024]⟩ .f32 := m ((c : Thread nD τ).loc main_arg7)

theorem v0_at (r : Fin 8192) (j : Fin 1024) : V m c main_v0 (ix2 r j) = x m c (ix3 0 r j) := by
  unfold V
  after_reads_at

theorem v2_at (r : Fin 8192) (j : Fin 4608) : V m c main_v2 (ix2 r j) = z m c (ix3 0 r j) := by
  unfold V
  after_reads_at

theorem v4_at (r : Fin 8192) (j : Fin 512) : V m c main_v4 (ix2 r j) = a m c (ix3 0 r j) := by
  unfold V
  after_reads_at

theorem v6_at (r : Fin 8192) (j : Fin 512) : V m c main_v6 (ix2 r j) = s m c (ix3 0 r j) := by
  unfold V
  after_reads_at

theorem v9_at (r : Fin 512) (j : Fin 1024) : V m c main_v9 (ix2 r j) = wa m c (ix3 0 r j) := by
  unfold V
  after_reads_at

theorem v12_at (r : Fin 512) (j : Fin 1024) : V m c main_v12 (ix2 r j) = wb m c (ix3 0 r j) := by
  unfold V
  after_reads_at

theorem v15_at (r : Fin 1024) (j : Fin 1024) : V m c main_v15 (ix2 r j) = wo m c (ix3 0 r j) := by
  unfold V
  after_reads_at

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] ∧ win0_7.index t = ![0, 0] ∧ win0_8.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v0).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v0) (at0 t i j)).trans (v0_at m c _ _)
theorem at1 (t : Fin cfg0.N) (i : Fin 512) (j : Fin 4608) : ((View.whole main_v2).slice (win0_1.rect t)).emb (ix2 i j) = ix2 (row t i) j := by
  blk_ext [idx t, row]
theorem blk1 (t : Fin cfg0.N) (i : Fin 512) (j : Fin 4608) : iblk m c 1 t (ix2 i j) = z m c (ix3 0 (row t i) j) :=
  (congrArg (V m c main_v2) (at1 t i j)).trans (v2_at m c _ _)
theorem at2 (t : Fin cfg0.N) (i : Fin 2) (j : Fin 2048) : ((View.whole main_arg2).slice (win0_2.rect t)).emb (ix2 i j) = ix2 i j := by
  blk_ext [idx t, row]
theorem blk2 (t : Fin cfg0.N) (i : Fin 2) (j : Fin 2048) : iblk m c 2 t (ix2 i j) = b m c (ix2 i j) :=
  (congrArg (V m c main_arg2) (at2 t i j)).trans (congrFun (V_main_arg2 m c) _)
theorem at3 (t : Fin cfg0.N) (i : Fin 512) (j : Fin 512) : ((View.whole main_v4).slice (win0_3.rect t)).emb (ix2 i j) = ix2 (row t i) j := by
  blk_ext [idx t, row]
theorem blk3 (t : Fin cfg0.N) (i : Fin 512) (j : Fin 512) : iblk m c 3 t (ix2 i j) = a m c (ix3 0 (row t i) j) :=
  (congrArg (V m c main_v4) (at3 t i j)).trans (v4_at m c _ _)
theorem at4 (t : Fin cfg0.N) (i : Fin 512) (j : Fin 512) : ((View.whole main_v6).slice (win0_4.rect t)).emb (ix2 i j) = ix2 (row t i) j := by
  blk_ext [idx t, row]
theorem blk4 (t : Fin cfg0.N) (i : Fin 512) (j : Fin 512) : iblk m c 4 t (ix2 i j) = s m c (ix3 0 (row t i) j) :=
  (congrArg (V m c main_v6) (at4 t i j)).trans (v6_at m c _ _)
theorem at5 (t : Fin cfg0.N) (i : Fin 512) (j : Fin 1024) : ((View.whole main_v9).slice (win0_5.rect t)).emb (ix2 i j) = ix2 i j := by
  blk_ext [idx t, row]
theorem blk5 (t : Fin cfg0.N) (i : Fin 512) (j : Fin 1024) : iblk m c 5 t (ix2 i j) = wa m c (ix3 0 i j) :=
  (congrArg (V m c main_v9) (at5 t i j)).trans (v9_at m c _ _)
theorem at6 (t : Fin cfg0.N) (i : Fin 512) (j : Fin 1024) : ((View.whole main_v12).slice (win0_6.rect t)).emb (ix2 i j) = ix2 i j := by
  blk_ext [idx t, row]
theorem blk6 (t : Fin cfg0.N) (i : Fin 512) (j : Fin 1024) : iblk m c 6 t (ix2 i j) = wb m c (ix3 0 i j) :=
  (congrArg (V m c main_v12) (at6 t i j)).trans (v12_at m c _ _)
theorem at7 (t : Fin cfg0.N) (i : Fin 1024) (j : Fin 1024) : ((View.whole main_v15).slice (win0_7.rect t)).emb (ix2 i j) = ix2 i j := by
  blk_ext [idx t, row]
theorem blk7 (t : Fin cfg0.N) (i : Fin 1024) (j : Fin 1024) : iblk m c 7 t (ix2 i j) = wo m c (ix3 0 i j) :=
  (congrArg (V m c main_v15) (at7 t i j)).trans (v15_at m c _ _)
theorem at8 (t : Fin cfg0.N) (i : Fin 512) (j : Fin 1024) : ((View.whole main_v16).slice (win0_8.rect t)).emb (ix2 i j) = ix2 (row t i) j := by
  blk_ext [idx t, row]

end Cert.Kernel19Ideal.FwdMergeFirst

end
-- ==== Proof.FwdMergeFirst.Outputs.lean ====
/- The kernel's result array: the merged rows, block by block. -/
module

public import proofs.«01_k».proof.Proof.FwdMergeFirst.Blocks

@[expose] public section

set_option maxRecDepth 16384

noncomputable section

open Idealize.ShloMosaic Idealize.ShloMosaic.TcCoe Idealize.SL.Sem
open Idealize.ShloMosaic.Pipeline (Dat)

namespace Cert.Kernel19Ideal.FwdMergeFirst

open Cert.Kernel19Ideal Cert.Kernel19Ideal.Gen
open Cert Cert.FwdMerge

variable (m : (ℓ : Loc nD τ sig) → Buf (Elt Ideal) ℓ) (c : Dev nD)

theorem final8 : (dats m 0 c).arrAt 8 (cfgs 0).N
    = fun i => result 0 (x m c) (z m c) (b m c) (a m c) (s m c) (wa m c) (wb m c) (wo m c) (i 0) (i 1) := by
  refine (dats m 0 c).arrAt_eq_of_covers 8 _ (by decide +kernel) fun t _ y => ?_
  blk_simp
  idx_vars y
  rw [at8, after0_8]
  unfold outsAt0 out0_A_8
  frame_open
  frame_out
  pointwise [k0_pay1, k0_pay2, k0_pay3, result, merged, Merge.out, Merge.gateA, Merge.gateB, Cert.Util.load_layer, blk0, blk1, blk2, blk3, blk4, blk5, blk6, blk7]

end Cert.Kernel19Ideal.FwdMergeFirst

end
-- ==== Proof.FwdMergeFirst.Run.lean ====
/- The kernel's run: the merged rows (FwdMerge/Spec.lean). -/
module

public import proofs.«01_k».proof.Proof.FwdMergeFirst.Outputs

@[expose] public section

set_option maxRecDepth 16384

noncomputable section

open Idealize.ShloMosaic Idealize.ShloMosaic.TcCoe Idealize.SL.Sem

namespace Cert.Kernel19Ideal.FwdMergeFirst

open Cert.Kernel19Ideal Cert.Kernel19Ideal.Gen
open Cert.FwdMerge

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v16) = (fun i => result 0 (x m c) (z m c) (b m c) (a m c) (s m c) (wa m c) (wb m c) (wo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c =>
    ⟨((h.1 c).1 8).trans (final8 m c), h.2 c⟩

end Cert.Kernel19Ideal.FwdMergeFirst

end
-- ==== Proof.FwdMergeFirst.Pair.lean ====
/- The forward merge's pair: the kernel's result is the reference's. -/
module

public import proofs.«01_k».proof.Defs
public import proofs.«01_k».proof.Proof.FwdMergeFirst.Ref
public import proofs.«01_k».proof.Proof.FwdMergeFirst.Run

@[expose] public section

set_option maxRecDepth 16384

noncomputable section

open Idealize.ShloMosaic Idealize.ShloMosaic.TcCoe Idealize.SL.Sem

namespace Cert.FwdMergeFirst

open Cert.Reference19Ideal.FwdMergeFirst in
theorem algebraic : Cert.algebraic_Kernel19Ideal_Reference19Ideal := by
  intro m ρ m' ρ' _ hagree
  refine ⟨_, Cert.Kernel19Ideal.FwdMergeFirst.run m ρ, θ_run_mono (run m' ρ') fun r h c => ?_⟩
  obtain ⟨h0, hargs⟩ := h c
  have e0 : x m' c = Cert.Kernel19Ideal.FwdMergeFirst.x m c := (hagree c).1
  have e1 : z m' c = Cert.Kernel19Ideal.FwdMergeFirst.z m c := (hagree c).2.1
  have e2 : b m' c = Cert.Kernel19Ideal.FwdMergeFirst.b m c := (hagree c).2.2.1
  have e3 : a m' c = Cert.Kernel19Ideal.FwdMergeFirst.a m c := (hagree c).2.2.2.1
  have e4 : s m' c = Cert.Kernel19Ideal.FwdMergeFirst.s m c := (hagree c).2.2.2.2.1
  have e5 : wa m' c = Cert.Kernel19Ideal.FwdMergeFirst.wa m c := (hagree c).2.2.2.2.2.1
  have e6 : wb m' c = Cert.Kernel19Ideal.FwdMergeFirst.wb m c := (hagree c).2.2.2.2.2.2.1
  have e7 : wo m' c = Cert.Kernel19Ideal.FwdMergeFirst.wo m c := (hagree c).2.2.2.2.2.2.2

  exact ⟨h0.trans (by rewrite [e0, e1, e2, e3, e4, e5, e6, e7]; rfl), hargs⟩

theorem reference_frame : Cert.quiescent_Reference19Ideal := by
  intro m g _
  exact (θ_run Cert.Reference19Ideal.defs _ _).mono (fun r h => ⟨fun c => (h c).2, sem_eq_zero_of_no_sems (by decide) r.2⟩)
    (Cert.Reference19Ideal.FwdMergeFirst.run m g)

end Cert.FwdMergeFirst

end
-- ==== Proof.FwdInFirst.Steps.lean ====
/- The reference's values, step by step, and what each holds (FwdUp/Spec.lean). -/
module

public import proofs.«01_k».proof.Proof.FwdUp.Spec
public import proofs.«01_k».proof.Proof.Gen.Reference20Ideal.Run
public import Idealize.ShloMosaic.Lib.Claim
public import proofs.«01_k».proof.Proof.Util

@[expose] public section

set_option maxRecDepth 16384

noncomputable section

open Idealize.ShloMosaic Idealize.ShloMosaic.TcCoe Idealize.SL.Sem

namespace Cert.Reference20Ideal.FwdInFirst

open Cert.Reference20Ideal Cert.Reference20Ideal.Gen
open Cert Cert.FwdUp

variable (m : (ℓ : Loc nD τ sig) → Buf (Elt Ideal) ℓ) (c : Dev nD)

/-- The arguments, by what they are. -/
abbrev x : FVec Ideal ⟨3, ![1, 8192, 1024]⟩ .f32 := m ((c.tc : Thread nD τ).loc main_arg0)
abbrev g : FVec Ideal ⟨2, ![2, 1024]⟩ .f32 := m ((c.tc : Thread nD τ).loc main_arg1)
abbrev w : FVec Ideal ⟨3, ![2, 1024, 4608]⟩ .f32 := m ((c.tc : Thread nD τ).loc main_arg2)

/-- The mean square of each row, with the constant added. -/
def sqV : FVec Ideal S1x8192x1 .f32 := addf (Host.divf (broadcastInDim S1x8192x1 ![0, 1] bcast_S1x8192_S1x8192x1_0_1 (Host.reduceAdd (mulf (x m c) (x m c)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))
theorem sqV_at (r : Fin 8192) : sqV m c (ix3 0 r 0) = Rms.meanSq (Rms.rowOf (x m c) r) := by
  pointwise [sqV, Rms.meanSq, Rms.rowOf]
/-- The scale of each row. -/
def scaleV : FVec Ideal S1x8192x1 .f32 := Host.rsqrt (sqV m c)
theorem scaleV_at (r : Fin 8192) : scaleV m c (ix3 0 r 0) = Rms.scale (Rms.rowOf (x m c) r) := by
  pointwise [scaleV, Rms.scale, sqV_at]
/-- The scaled rows. -/
def normV : FVec Ideal S1x8192x1024 .f32 := mulf (mulf (x m c) (broadcastInDim S1x8192x1024 ![0, 1, 2] bcast_S1x8192x1_S1x8192x1024_0_1_2 (scaleV m c))) (broadcastInDim S1x8192x1024 ![0, 1, 2] bcast_S1x1x1024_S1x8192x1024_0_1_2 (broadcastInDim S1x1x1024 ![2] bcast_S1024_S1x1x1024_2 (shapeCast S1024 (extractStridedSlice S1x1024 ![0, 0] (g m c) slices_S2x1024_S1x1024_0_0) shapeCasts_S1x1024_S1024)))
theorem normV_at (r : Fin 8192) (d : Fin 1024) : normV m c (ix3 0 r d) = Ple.normed 0 (Rms.rowOf (x m c)) (g m c) r d := by
  pointwise [normV, Ple.normed, Rms.rowOf, scaleV_at]
/-- The scaled rows, as returned. -/
def hV : FVec Ideal S8192x1024 .bf16 := truncf .bf16 (shapeCast S8192x1024 (normV m c) shapeCasts_S1x8192x1024_S8192x1024) bitsLt_bf16_f32
theorem hV_at (r : Fin 8192) (d : Fin 1024) : hV m c (ix2 r d) = Ple.normed 0 (Rms.rowOf (x m c)) (g m c) r d := by
  pointwise [hV, normV_at]
/-- The projected rows. -/
def uV : FVec Ideal S8192x4608 .bf16 := truncf .bf16 (shapeCast S8192x4608 (Host.dotGeneral dot_S1x8192x1024_S1024x4608_S1x8192x4608_2_0_01_1_n_n none (normV m c) (shapeCast S1024x4608 (extractStridedSlice S1x1024x4608 ![0, 0, 0] (w m c) slices_S2x1024x4608_S1x1024x4608_0_0_0) shapeCasts_S1x1024x4608_S1024x4608)) shapeCasts_S1x8192x4608_S8192x4608) bitsLt_bf16_f32
theorem uV_at (r : Fin 8192) (j : Fin 4608) : uV m c (ix2 r j) = proj 0 (Rms.rowOf (x m c)) (g m c) (w m c) r j := by
  pointwise [uV, proj, normV_at]

end Cert.Reference20Ideal.FwdInFirst

end
-- ==== Proof.FwdInFirst.Ref.lean ====
/- The reference's run: the scaled rows and the projected rows (FwdUp/Spec.lean). -/
module

public import proofs.«01_k».proof.Proof.FwdInFirst.Steps

@[expose] public section

set_option maxRecDepth 16384

noncomputable section

open Idealize.ShloMosaic Idealize.ShloMosaic.TcCoe Idealize.SL.Sem

namespace Cert.Reference20Ideal.FwdInFirst

open Cert.Reference20Ideal Cert.Reference20Ideal.Gen
open Cert.FwdUp

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v19) = (fun i => Ple.normed 0 (Rms.rowOf (x m c)) (g m c) (i 0) (i 1))
      ∧ r.2.mem ((c.tc : Thread nD τ).loc main_v21) = (fun i => proj 0 (Rms.rowOf (x m c)) (g m c) (w m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  obtain ⟨h0, h1, hargs⟩ := h c
  exact ⟨h0.trans (show hV m c = _ from funext fun i => by idx_vars i; exact hV_at m c i0 i1), h1.trans (show uV m c = _ from funext fun i => by idx_vars i; exact uV_at m c i0 i1), hargs⟩

end Cert.Reference20Ideal.FwdInFirst

end
-- ==== Proof.FwdInFirst.Blocks.lean ====
/- The arrays that the host code prepares for the kernel, and what the kernel's blocks hold of them. -/
module

public import proofs.«01_k».proof.Proof.FwdUp.Spec
public import proofs.«01_k».proof.Proof.Gen.Kernel20Ideal.Frame
public import Idealize.ShloMosaic.Lib.Claim
public import Idealize.ShloMosaic.Lib.StableHlo.ReadAt
public import proofs.«01_k».proof.Proof.Util

@[expose] public section

set_option maxRecDepth 16384

noncomputable section

open Idealize.ShloMosaic Idealize.ShloMosaic.TcCoe Idealize.SL.Sem
open Idealize.ShloMosaic.Pipeline (Dat)

namespace Cert.Kernel20Ideal.FwdInFirst

open Cert.Kernel20Ideal Cert.Kernel20Ideal.Gen
open Cert Cert.FwdUp

variable (m : (ℓ : Loc nD τ sig) → Buf (Elt Ideal) ℓ) (c : Dev nD)

abbrev x : FVec Ideal ⟨3, ![1, 8192, 1024]⟩ .f32 := m ((c : Thread nD τ).loc main_arg0)
abbrev g : FVec Ideal ⟨2, ![2, 1024]⟩ .f32 := m ((c : Thread nD τ).loc main_arg1)
abbrev w : FVec Ideal ⟨3, ![2, 1024, 4608]⟩ .f32 := m ((c : Thread nD τ).loc main_arg2)

theorem v4_at (r : Fin 8192) (j : Fin 1024) : V m c main_v4 (ix2 r j) = x m c (ix3 0 r j) := by
  unfold V
  after_reads_at

theorem v3_at (j : Fin 4608) (i : Fin 1024) : V m c main_v3 (ix2 j i) = w m c (ix3 0 i j) := by
  unfold V
  after_reads_at

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The token row a block's row is, at point `t`. -/
def row (t : Fin cfg0.N) (i : Fin 512) : Fin 8192 := ⟨t.val * 512 + i.val, by have := lt_of_lt_of_eq t.isLt N_0; omega⟩

theorem at0 (t : Fin cfg0.N) (i : Fin 512) (j : Fin 1024) : ((View.whole main_v4).slice (win0_0.rect t)).emb (ix2 i j) = ix2 (row t i) j := by
  blk_ext [idx t, row]
theorem blk0 (t : Fin cfg0.N) (i : Fin 512) (j : Fin 1024) : iblk m c 0 t (ix2 i j) = x m c (ix3 0 (row t i) j) :=
  (congrArg (V m c main_v4) (at0 t i j)).trans (v4_at m c _ _)
theorem at1 (t : Fin cfg0.N) (i : Fin 2) (j : Fin 1024) : ((View.whole main_arg1).slice (win0_1.rect t)).emb (ix2 i j) = ix2 i j := by
  blk_ext [idx t, row]
theorem blk1 (t : Fin cfg0.N) (i : Fin 2) (j : Fin 1024) : iblk m c 1 t (ix2 i j) = g m c (ix2 i j) :=
  (congrArg (V m c main_arg1) (at1 t i j)).trans (congrFun (V_main_arg1 m c) _)
theorem at2 (t : Fin cfg0.N) (i : Fin 4608) (j : Fin 1024) : ((View.whole main_v3).slice (win0_2.rect t)).emb (ix2 i j) = ix2 i j := by
  blk_ext [idx t, row]
theorem blk2 (t : Fin cfg0.N) (i : Fin 4608) (j : Fin 1024) : iblk m c 2 t (ix2 i j) = w m c (ix3 0 j i) :=
  (congrArg (V m c main_v3) (at2 t i j)).trans (v3_at m c _ _)
theorem at3 (t : Fin cfg0.N) (i : Fin 512) (j : Fin 1024) : ((View.whole main_v5_0).slice (win0_3.rect t)).emb (ix2 i j) = ix2 (row t i) j := by
  blk_ext [idx t, row]
theorem at4 (t : Fin cfg0.N) (i : Fin 512) (j : Fin 4608) : ((View.whole main_v5_1).slice (win0_4.rect t)).emb (ix2 i j) = ix2 (row t i) j := by
  blk_ext [idx t, row]

end Cert.Kernel20Ideal.FwdInFirst

end
-- ==== Proof.FwdInFirst.Tile.lean ====
/- What the kernel computes of a block of rows. -/
module

public import proofs.«01_k».proof.Proof.FwdInFirst.Blocks

@[expose] public section

set_option maxRecDepth 16384

noncomputable section

open Idealize.ShloMosaic Idealize.ShloMosaic.TcCoe Idealize.SL.Sem
open Idealize.ShloMosaic.Pipeline (Dat)

namespace Cert.Kernel20Ideal.FwdInFirst

open Cert.Kernel20Ideal Cert.Kernel20Ideal.Gen
open Cert Cert.FwdUp

variable (m : (ℓ : Loc nD τ sig) → Buf (Elt Ideal) ℓ) (c : Dev nD)

/-- The scaled rows of a block. -/
theorem pay2_at (t : Fin cfg0.N) (i : Fin 512) (d : Fin 1024) :
    k0_pay2 (iblk m c 0 t) (View.ld (iblk m c 1 t) (Rect.unit ![0, 0] ![1, 1024] inb_S2x1024_S1x1024_0_0)) (ix2 i d)
      = Ple.normed 0 (Rms.rowOf (x m c)) (g m c) (row t i) d := by
  pointwise [k0_pay2, Ple.normed, Rms.scale, Rms.meanSq, Rms.rowOf, Cert.Util.load_layer, blk0, blk1]

end Cert.Kernel20Ideal.FwdInFirst

end
-- ==== Proof.FwdInFirst.Outputs.lean ====
/- The kernel's result arrays: the scaled rows and the projected rows, block by block. -/
module

public import proofs.«01_k».proof.Proof.FwdInFirst.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel20Ideal.FwdInFirst

open Cert.Kernel20Ideal Cert.Kernel20Ideal.Gen
open Cert Cert.FwdUp

variable (m : (ℓ : Loc nD τ sig) → Buf (Elt Ideal) ℓ) (c : Dev nD)

/-- The scaled rows, read through the body's loads. -/
theorem h_at (t : Fin cfg0.N) (i : Fin 512) (d : Fin 1024) : k0_pay2 (View.ld (iblk m c 0 t) r0_0) (View.ld (iblk m c 1 t) r0_1) (ix2 i d)
    = Ple.normed 0 (Rms.rowOf (x m c)) (g m c) (row t i) d := by
  pointwise [k0_pay2, Ple.normed, Rms.scale, Rms.meanSq, Rms.rowOf, Cert.Util.load_layer, blk0, blk1]

theorem final3 : (dats m 0 c).arrAt 3 (cfgs 0).N
    = fun i => Ple.normed 0 (Rms.rowOf (x m c)) (g m c) (i 0) (i 1) := by
  refine (dats m 0 c).arrAt_eq_of_covers 3 _ (by decide +kernel) fun t _ y => ?_
  blk_simp
  idx_vars y
  rw [at3, after0_3]
  unfold_out out0_3
  frame_out
  exact pay2_at m c t y0 y1

/-- The block of projected rows at a point, as a function of the block's index. -/
def blockU (t : Fin cfg0.N) : FVec Ideal S512x4608 .bf16 := fun y => proj 0 (Rms.rowOf (x m c)) (g m c) (w m c) (row t (y 0)) (y 1)

theorem out4_at (t : Fin cfg0.N) (y : S512x4608.Idx) : (dats m 0 c).after 4 t y = blockU m c t y := by
  rw [after0_4]
  unfold out0_4
  refine View.canon_apply_of_pieces (Val := Elt Ideal) (e := .bf16) (blockU m c t) _ (View.PiecesOf.mem ?_) y (cover0_4 _ _ _ _ _ _ _ _ _ y)
  refine ⟨?_, ?_, ?_, ?_, ?_, ?_, ?_, ?_, ?_, trivial⟩
  all_goals
    intro q
    idx_vars q
    rw [emb_cols]
    pointwise [k0_pay1, k0_pay3, k0_pay4, k0_pay5, k0_pay6, k0_pay7, k0_pay8, k0_pay9, k0_pay10, k0_pay11, blockU, proj, blk2]
    exact Finset.sum_congr rfl fun d _ => congrArg (· * _) (h_at m c t _ d)

theorem final4 : (dats m 0 c).arrAt 4 (cfgs 0).N
    = fun i => proj 0 (Rms.rowOf (x m c)) (g m c) (w m c) (i 0) (i 1) := by
  refine (dats m 0 c).arrAt_eq_of_covers 4 _ (by decide +kernel) fun t _ y => ?_
  rw [out4_at]
  blk_simp
  idx_vars y
  rw [at4]
  rfl

end Cert.Kernel20Ideal.FwdInFirst

end
-- ==== Proof.FwdInFirst.Run.lean ====
/- The kernel's run: the scaled rows and the projected rows (FwdUp/Spec.lean). -/
module

public import proofs.«01_k».proof.Proof.FwdInFirst.Outputs

@[expose] public section

set_option maxRecDepth 16384

noncomputable section

open Idealize.ShloMosaic Idealize.ShloMosaic.TcCoe Idealize.SL.Sem

namespace Cert.Kernel20Ideal.FwdInFirst

open Cert.Kernel20Ideal Cert.Kernel20Ideal.Gen
open Cert.FwdUp

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5_0) = (fun i => Ple.normed 0 (Rms.rowOf (x m c)) (g m c) (i 0) (i 1))
      ∧ r.2.mem ((c.tc : Thread nD τ).loc main_v5_1) = (fun i => proj 0 (Rms.rowOf (x m c)) (g m c) (w m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (unchanged m ρ)) fun r h c =>
    ⟨((h.1 c).1 3).trans (final3 m c), ((h.1 c).1 4).trans (final4 m c), h.2 c⟩

end Cert.Kernel20Ideal.FwdInFirst

end
-- ==== Proof.FwdInFirst.Pair.lean ====
/- The forward norm's pair: the kernel's results are the reference's. -/
module

public import proofs.«01_k».proof.Defs
public import proofs.«01_k».proof.Proof.FwdInFirst.Ref
public import proofs.«01_k».proof.Proof.FwdInFirst.Run

@[expose] public section

set_option maxRecDepth 16384

noncomputable section

open Idealize.ShloMosaic Idealize.ShloMosaic.TcCoe Idealize.SL.Sem

namespace Cert.FwdInFirst

open Cert.Reference20Ideal.FwdInFirst in
theorem algebraic : Cert.algebraic_Kernel20Ideal_Reference20Ideal := by
  intro m ρ m' ρ' _ hagree
  refine ⟨_, _, Cert.Kernel20Ideal.FwdInFirst.run m ρ, θ_run_mono (run m' ρ') fun r h c => ?_⟩
  obtain ⟨h0, h1, hargs⟩ := h c
  have e0 : x m' c = Cert.Kernel20Ideal.FwdInFirst.x m c := (hagree c).1
  have e1 : g m' c = Cert.Kernel20Ideal.FwdInFirst.g m c := (hagree c).2.1
  have e2 : w m' c = Cert.Kernel20Ideal.FwdInFirst.w m c := (hagree c).2.2

  exact ⟨h0.trans (by rewrite [e0, e1]; rfl), h1.trans (by rewrite [e0, e1, e2]; rfl), hargs⟩

theorem reference_frame : Cert.quiescent_Reference20Ideal := by
  intro m g _
  exact (θ_run Cert.Reference20Ideal.defs _ _).mono (fun r h => ⟨fun c => (h c).2.2, sem_eq_zero_of_no_sems (by decide) r.2⟩)
    (Cert.Reference20Ideal.FwdInFirst.run m g)

end Cert.FwdInFirst

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Pre_finite13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14.Loops
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Loops
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15.Loops
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Loops
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16.Loops
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Loops
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17.Loops
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Loops
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Merge.Pair
public import proofs.«01_k».proof.Proof.Norm.Pair
public import proofs.«01_k».proof.Proof.Ple.Pair
public import proofs.«01_k».proof.Proof.PleFirst.Pair
public import proofs.«01_k».proof.Proof.Loss.Pair
public import proofs.«01_k».proof.Proof.FwdIn.Pair
public import proofs.«01_k».proof.Proof.FwdUp.Pair
public import proofs.«01_k».proof.Proof.FwdMerge.Pair
public import proofs.«01_k».proof.Proof.NormIn.Pair
public import proofs.«01_k».proof.Proof.Wgrad.Pair
public import proofs.«01_k».proof.Proof.SumAdam.Pair
public import proofs.«01_k».proof.Proof.MergeFirst.Pair
public import proofs.«01_k».proof.Proof.NormFirst.Pair
public import proofs.«01_k».proof.Proof.Down.Frame
public import proofs.«01_k».proof.Proof.Down.FrameIdeal
public import proofs.«01_k».proof.Proof.Branch.Frame
public import proofs.«01_k».proof.Proof.Branch.FrameIdeal
public import proofs.«01_k».proof.Proof.DownFwd.Frame
public import proofs.«01_k».proof.Proof.DownFwd.FrameIdeal
public import proofs.«01_k».proof.Proof.BranchFwd.Frame
public import proofs.«01_k».proof.Proof.BranchFwd.FrameIdeal
public import proofs.«01_k».proof.Proof.FwdUpFirst.Pair
public import proofs.«01_k».proof.Proof.FwdMergeFirst.Pair
public import proofs.«01_k».proof.Proof.FwdInFirst.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Kernel15.Gen.facts, Cert.Kernel15Ideal.Gen.facts, Cert.Kernel16.Gen.facts, Cert.Kernel16Ideal.Gen.facts, Cert.Kernel17.Gen.facts, Cert.Kernel17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite2.Gen.facts, Cert.Pre_finite3.Gen.facts, Cert.Pre_finite4.Gen.facts, Cert.Pre_finite5.Gen.facts, Cert.Pre_finite9.Gen.facts, Cert.Pre_finite13.Gen.facts,
  fun m ρ _ => Cert.Kernel.Gen.frame m ρ, fun m ρ _ => Cert.KernelIdeal.Gen.frame m ρ, Cert.Merge.reference_frame,
  fun m ρ _ => Cert.Kernel2.Gen.frame m ρ, fun m ρ _ => Cert.Kernel2Ideal.Gen.frame m ρ, fun m ρ _ => Cert.Kernel2Ideal.Gen.frame m ρ,
  Cert.Norm.reference_frame, Cert.Norm.reference_frame_pre,
  fun m ρ _ => Cert.Kernel3.Gen.frame m ρ, fun m ρ _ => Cert.Kernel3Ideal.Gen.frame m ρ, fun m ρ _ => Cert.Kernel3Ideal.Gen.frame m ρ,
  Cert.Ple.reference_frame, Cert.Ple.reference_frame_pre,
  fun m ρ _ => Cert.Kernel4.Gen.frame m ρ, fun m ρ _ => Cert.Kernel4Ideal.Gen.frame m ρ, fun m ρ _ => Cert.Kernel4Ideal.Gen.frame m ρ,
  Cert.PleFirst.reference_frame, Cert.PleFirst.reference_frame_pre,
  fun m ρ _ => Cert.Kernel5.Gen.frame m ρ, fun m ρ _ => Cert.Kernel5Ideal.Gen.frame m ρ, fun m ρ _ => Cert.Kernel5Ideal.Gen.frame m ρ,
  Cert.Loss.reference_frame, Cert.Loss.reference_frame_pre,
  fun m ρ _ => Cert.Kernel6.Gen.frame m ρ, fun m ρ _ => Cert.Kernel6Ideal.Gen.frame m ρ,
  Cert.FwdIn.reference_frame,
  fun m ρ _ => Cert.Kernel7.Gen.frame m ρ, fun m ρ _ => Cert.Kernel7Ideal.Gen.frame m ρ,
  Cert.FwdUp.reference_frame,
  fun m ρ _ => Cert.Kernel8.Gen.frame m ρ, fun m ρ _ => Cert.Kernel8Ideal.Gen.frame m ρ,
  Cert.FwdMerge.reference_frame,
  fun m ρ _ => Cert.Kernel9.Gen.frame m ρ, fun m ρ _ => Cert.Kernel9Ideal.Gen.frame m ρ, fun m ρ _ => Cert.Kernel9Ideal.Gen.frame m ρ,
  Cert.NormIn.reference_frame, Cert.NormIn.reference_frame_pre,
  fun m ρ _ => Cert.Kernel10.Gen.frame m ρ, fun m ρ _ => Cert.Kernel10Ideal.Gen.frame m ρ,
  Cert.Wgrad.reference_frame,
  fun m ρ _ => Cert.Kernel11.Gen.frame m ρ, fun m ρ _ => Cert.Kernel11Ideal.Gen.frame m ρ,
  Cert.SumAdam.reference_frame,
  fun m ρ _ => Cert.Kernel12.Gen.frame m ρ, fun m ρ _ => Cert.Kernel12Ideal.Gen.frame m ρ,
  Cert.MergeFirst.reference_frame,
  fun m ρ _ => Cert.Kernel13.Gen.frame m ρ, fun m ρ _ => Cert.Kernel13Ideal.Gen.frame m ρ, fun m ρ _ => Cert.Kernel13Ideal.Gen.frame m ρ,
  Cert.NormFirst.reference_frame, Cert.NormFirst.reference_frame_pre,
  fun m ρ _ => Cert.Kernel14.Gen.frame m ρ, fun m ρ _ => Cert.Kernel14Ideal.Gen.frame m ρ,
  fun m ρ _ => Cert.Kernel15.Gen.frame m ρ, fun m ρ _ => Cert.Kernel15Ideal.Gen.frame m ρ,
  fun m ρ _ => Cert.Kernel16.Gen.frame m ρ, fun m ρ _ => Cert.Kernel16Ideal.Gen.frame m ρ,
  fun m ρ _ => Cert.Kernel17.Gen.frame m ρ, fun m ρ _ => Cert.Kernel17Ideal.Gen.frame m ρ,
  fun m ρ _ => Cert.Kernel18.Gen.frame m ρ, fun m ρ _ => Cert.Kernel18Ideal.Gen.frame m ρ,
  Cert.FwdUpFirst.reference_frame,
  fun m ρ _ => Cert.Kernel19.Gen.frame m ρ, fun m ρ _ => Cert.Kernel19Ideal.Gen.frame m ρ,
  Cert.FwdMergeFirst.reference_frame,
  fun m ρ _ => Cert.Kernel20.Gen.frame m ρ, fun m ρ _ => Cert.Kernel20Ideal.Gen.frame m ρ,
  Cert.FwdInFirst.reference_frame,
  trivial, Cert.Merge.algebraic,
  trivial, Cert.Norm.algebraic,
  trivial, Cert.Ple.algebraic,
  trivial, Cert.PleFirst.algebraic,
  trivial, Cert.Loss.algebraic,
  trivial, Cert.FwdIn.algebraic,
  trivial, Cert.FwdUp.algebraic,
  trivial, Cert.FwdMerge.algebraic,
  trivial, Cert.NormIn.algebraic,
  trivial, Cert.Wgrad.algebraic,
  trivial, Cert.SumAdam.algebraic,
  trivial, Cert.MergeFirst.algebraic,
  trivial, Cert.NormFirst.algebraic,
  trivial,
  trivial,
  trivial,
  trivial,
  trivial, Cert.FwdUpFirst.algebraic,
  trivial, Cert.FwdMergeFirst.algebraic,
  trivial, Cert.FwdInFirst.algebraic⟩

end Cert.Proof

end
